-- ==== Defs.lean ====
def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Pairs (m : (ℓ : Loc Cert.Pairs.nD Cert.Pairs.τ Cert.Pairs.sig) → Buf (Elt Bits) ℓ) : Prop :=
  True

def Pre_PairsIdeal (m : (ℓ : Loc Cert.PairsIdeal.nD Cert.PairsIdeal.τ Cert.PairsIdeal.sig) → Buf (Elt Ideal) ℓ) : Prop :=
  True

def Pre_PairsRefIdeal (m : (ℓ : Loc Cert.PairsRefIdeal.nD Cert.PairsRefIdeal.τ Cert.PairsRefIdeal.sig) → Buf (Elt Ideal) ℓ) : Prop :=
  True

def Pre_PairsRef (m : (ℓ : Loc Cert.PairsRef.nD Cert.PairsRef.τ Cert.PairsRef.sig) → Buf (Elt Bits) ℓ) : Prop :=
  True

def Pre_Shards (m : (ℓ : Loc Cert.Shards.nD Cert.Shards.τ Cert.Shards.sig) → Buf (Elt Bits) ℓ) : Prop :=
  True

def Pre_ShardsIdeal (m : (ℓ : Loc Cert.ShardsIdeal.nD Cert.ShardsIdeal.τ Cert.ShardsIdeal.sig) → Buf (Elt Ideal) ℓ) : Prop :=
  True

def Pre_ShardsRefIdeal (m : (ℓ : Loc Cert.ShardsRefIdeal.nD Cert.ShardsRefIdeal.τ Cert.ShardsRefIdeal.sig) → Buf (Elt Ideal) ℓ) : Prop :=
  True

def Pre_ShardsRef (m : (ℓ : Loc Cert.ShardsRef.nD Cert.ShardsRef.τ Cert.ShardsRef.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_ModRef (m : (ℓ : Loc Cert.ModRef.nD Cert.ModRef.τ Cert.ModRef.sig) → Buf (Elt Bits) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_FirstRef (m : (ℓ : Loc Cert.FirstRef.nD Cert.FirstRef.τ Cert.FirstRef.sig) → Buf (Elt Bits) ℓ) : Prop :=
  True

def Pre_UpAdaW (m : (ℓ : Loc Cert.UpAdaW.nD Cert.UpAdaW.τ Cert.UpAdaW.sig) → Buf (Elt Bits) ℓ) : Prop :=
  True

def Pre_UpAdaWIdeal (m : (ℓ : Loc Cert.UpAdaWIdeal.nD Cert.UpAdaWIdeal.τ Cert.UpAdaWIdeal.sig) → Buf (Elt Ideal) ℓ) : Prop :=
  True

def Pre_UpAdaWRefIdeal (m : (ℓ : Loc Cert.UpAdaWRefIdeal.nD Cert.UpAdaWRefIdeal.τ Cert.UpAdaWRefIdeal.sig) → Buf (Elt Ideal) ℓ) : Prop :=
  True

def Pre_UpConv (m : (ℓ : Loc Cert.UpConv.nD Cert.UpConv.τ Cert.UpConv.sig) → Buf (Elt Bits) ℓ) : Prop :=
  True

def Pre_UpConvIdeal (m : (ℓ : Loc Cert.UpConvIdeal.nD Cert.UpConvIdeal.τ Cert.UpConvIdeal.sig) → Buf (Elt Ideal) ℓ) : Prop :=
  True

def Pre_UpConvRefIdeal (m : (ℓ : Loc Cert.UpConvRefIdeal.nD Cert.UpConvRefIdeal.τ Cert.UpConvRefIdeal.sig) → Buf (Elt Ideal) ℓ) : Prop :=
  True

def Pre_UpAbIn (m : (ℓ : Loc Cert.UpAbIn.nD Cert.UpAbIn.τ Cert.UpAbIn.sig) → Buf (Elt Bits) ℓ) : Prop :=
  True

def Pre_UpAbInIdeal (m : (ℓ : Loc Cert.UpAbInIdeal.nD Cert.UpAbInIdeal.τ Cert.UpAbInIdeal.sig) → Buf (Elt Ideal) ℓ) : Prop :=
  True

def Pre_UpAbInRefIdeal (m : (ℓ : Loc Cert.UpAbInRefIdeal.nD Cert.UpAbInRefIdeal.τ Cert.UpAbInRefIdeal.sig) → Buf (Elt Ideal) ℓ) : Prop :=
  True

def Pre_UpAbOut (m : (ℓ : Loc Cert.UpAbOut.nD Cert.UpAbOut.τ Cert.UpAbOut.sig) → Buf (Elt Bits) ℓ) : Prop :=
  True

def Pre_UpAbOutIdeal (m : (ℓ : Loc Cert.UpAbOutIdeal.nD Cert.UpAbOutIdeal.τ Cert.UpAbOutIdeal.sig) → Buf (Elt Ideal) ℓ) : Prop :=
  True

def Pre_UpAbOutRefIdeal (m : (ℓ : Loc Cert.UpAbOutRefIdeal.nD Cert.UpAbOutRefIdeal.τ Cert.UpAbOutRefIdeal.sig) → Buf (Elt Ideal) ℓ) : Prop :=
  True

def Pre_UpGlu (m : (ℓ : Loc Cert.UpGlu.nD Cert.UpGlu.τ Cert.UpGlu.sig) → Buf (Elt Bits) ℓ) : Prop :=
  True

def Pre_UpGluIdeal (m : (ℓ : Loc Cert.UpGluIdeal.nD Cert.UpGluIdeal.τ Cert.UpGluIdeal.sig) → Buf (Elt Ideal) ℓ) : Prop :=
  True

def Pre_UpGluRefIdeal (m : (ℓ : Loc Cert.UpGluRefIdeal.nD Cert.UpGluRefIdeal.τ Cert.UpGluRefIdeal.sig) → Buf (Elt Ideal) ℓ) : Prop :=
  True

def Pre_UpGdnIn (m : (ℓ : Loc Cert.UpGdnIn.nD Cert.UpGdnIn.τ Cert.UpGdnIn.sig) → Buf (Elt Bits) ℓ) : Prop :=
  True

def Pre_UpGdnInIdeal (m : (ℓ : Loc Cert.UpGdnInIdeal.nD Cert.UpGdnInIdeal.τ Cert.UpGdnInIdeal.sig) → Buf (Elt Ideal) ℓ) : Prop :=
  True

def Pre_UpGdnInRefIdeal (m : (ℓ : Loc Cert.UpGdnInRefIdeal.nD Cert.UpGdnInRefIdeal.τ Cert.UpGdnInRefIdeal.sig) → Buf (Elt Ideal) ℓ) : Prop :=
  True

def Pre_UpGdnOut (m : (ℓ : Loc Cert.UpGdnOut.nD Cert.UpGdnOut.τ Cert.UpGdnOut.sig) → Buf (Elt Bits) ℓ) : Prop :=
  True

def Pre_UpGdnOutIdeal (m : (ℓ : Loc Cert.UpGdnOutIdeal.nD Cert.UpGdnOutIdeal.τ Cert.UpGdnOutIdeal.sig) → Buf (Elt Ideal) ℓ) : Prop :=
  True

def Pre_UpGdnOutRefIdeal (m : (ℓ : Loc Cert.UpGdnOutRefIdeal.nD Cert.UpGdnOutRefIdeal.τ Cert.UpGdnOutRefIdeal.sig) → Buf (Elt Ideal) ℓ) : Prop :=
  True

def Pre_UpSmall (m : (ℓ : Loc Cert.UpSmall.nD Cert.UpSmall.τ Cert.UpSmall.sig) → Buf (Elt Bits) ℓ) : Prop :=
  True

def Pre_UpSmallIdeal (m : (ℓ : Loc Cert.UpSmallIdeal.nD Cert.UpSmallIdeal.τ Cert.UpSmallIdeal.sig) → Buf (Elt Ideal) ℓ) : Prop :=
  True

def Pre_UpSmallRefIdeal (m : (ℓ : Loc Cert.UpSmallRefIdeal.nD Cert.UpSmallRefIdeal.τ Cert.UpSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SibAbIn (m : (ℓ : Loc Cert.SibAbIn.nD Cert.SibAbIn.τ Cert.SibAbIn.sig) → Buf (Elt Bits) ℓ) : Prop :=
  True

def Pre_SibAbInIdeal (m : (ℓ : Loc Cert.SibAbInIdeal.nD Cert.SibAbInIdeal.τ Cert.SibAbInIdeal.sig) → Buf (Elt Ideal) ℓ) : Prop :=
  True

def Pre_SibAbInRefIdeal (m : (ℓ : Loc Cert.SibAbInRefIdeal.nD Cert.SibAbInRefIdeal.τ Cert.SibAbInRefIdeal.sig) → Buf (Elt Ideal) ℓ) : Prop :=
  True

def Pre_SibAbInRef (m : (ℓ : Loc Cert.SibAbInRef.nD Cert.SibAbInRef.τ Cert.SibAbInRef.sig) → Buf (Elt Bits) ℓ) : Prop :=
  True

def Pre_SumAbIn (m : (ℓ : Loc Cert.SumAbIn.nD Cert.SumAbIn.τ Cert.SumAbIn.sig) → Buf (Elt Bits) ℓ) : Prop :=
  True

def Pre_SumAbInIdeal (m : (ℓ : Loc Cert.SumAbInIdeal.nD Cert.SumAbInIdeal.τ Cert.SumAbInIdeal.sig) → Buf (Elt Ideal) ℓ) : Prop :=
  True

def Pre_SumAbInRefIdeal (m : (ℓ : Loc Cert.SumAbInRefIdeal.nD Cert.SumAbInRefIdeal.τ Cert.SumAbInRefIdeal.sig) → Buf (Elt Ideal) ℓ) : Prop :=
  True

def Pre_SibAbOut (m : (ℓ : Loc Cert.SibAbOut.nD Cert.SibAbOut.τ Cert.SibAbOut.sig) → Buf (Elt Bits) ℓ) : Prop :=
  True

def Pre_SibAbOutIdeal (m : (ℓ : Loc Cert.SibAbOutIdeal.nD Cert.SibAbOutIdeal.τ Cert.SibAbOutIdeal.sig) → Buf (Elt Ideal) ℓ) : Prop :=
  True

def Pre_SibAbOutRefIdeal (m : (ℓ : Loc Cert.SibAbOutRefIdeal.nD Cert.SibAbOutRefIdeal.τ Cert.SibAbOutRefIdeal.sig) → Buf (Elt Ideal) ℓ) : Prop :=
  True

def Pre_SibAbOutRef (m : (ℓ : Loc Cert.SibAbOutRef.nD Cert.SibAbOutRef.τ Cert.SibAbOutRef.sig) → Buf (Elt Bits) ℓ) : Prop :=
  True

def Pre_SumAbOut (m : (ℓ : Loc Cert.SumAbOut.nD Cert.SumAbOut.τ Cert.SumAbOut.sig) → Buf (Elt Bits) ℓ) : Prop :=
  True

def Pre_SumAbOutIdeal (m : (ℓ : Loc Cert.SumAbOutIdeal.nD Cert.SumAbOutIdeal.τ Cert.SumAbOutIdeal.sig) → Buf (Elt Ideal) ℓ) : Prop :=
  True

def Pre_SumAbOutRefIdeal (m : (ℓ : Loc Cert.SumAbOutRefIdeal.nD Cert.SumAbOutRefIdeal.τ Cert.SumAbOutRefIdeal.sig) → Buf (Elt Ideal) ℓ) : Prop :=
  True

def Pre_SibGlu (m : (ℓ : Loc Cert.SibGlu.nD Cert.SibGlu.τ Cert.SibGlu.sig) → Buf (Elt Bits) ℓ) : Prop :=
  True

def Pre_SibGluIdeal (m : (ℓ : Loc Cert.SibGluIdeal.nD Cert.SibGluIdeal.τ Cert.SibGluIdeal.sig) → Buf (Elt Ideal) ℓ) : Prop :=
  True

def Pre_SibGluRefIdeal (m : (ℓ : Loc Cert.SibGluRefIdeal.nD Cert.SibGluRefIdeal.τ Cert.SibGluRefIdeal.sig) → Buf (Elt Ideal) ℓ) : Prop :=
  True

def Pre_SibGluRef (m : (ℓ : Loc Cert.SibGluRef.nD Cert.SibGluRef.τ Cert.SibGluRef.sig) → Buf (Elt Bits) ℓ) : Prop :=
  True

def Pre_SumGlu (m : (ℓ : Loc Cert.SumGlu.nD Cert.SumGlu.τ Cert.SumGlu.sig) → Buf (Elt Bits) ℓ) : Prop :=
  True

def Pre_SumGluIdeal (m : (ℓ : Loc Cert.SumGluIdeal.nD Cert.SumGluIdeal.τ Cert.SumGluIdeal.sig) → Buf (Elt Ideal) ℓ) : Prop :=
  True

def Pre_SumGluRefIdeal (m : (ℓ : Loc Cert.SumGluRefIdeal.nD Cert.SumGluRefIdeal.τ Cert.SumGluRefIdeal.sig) → Buf (Elt Ideal) ℓ) : Prop :=
  True

def Pre_SibGdnIn (m : (ℓ : Loc Cert.SibGdnIn.nD Cert.SibGdnIn.τ Cert.SibGdnIn.sig) → Buf (Elt Bits) ℓ) : Prop :=
  True

def Pre_SibGdnInIdeal (m : (ℓ : Loc Cert.SibGdnInIdeal.nD Cert.SibGdnInIdeal.τ Cert.SibGdnInIdeal.sig) → Buf (Elt Ideal) ℓ) : Prop :=
  True

def Pre_SibGdnInRefIdeal (m : (ℓ : Loc Cert.SibGdnInRefIdeal.nD Cert.SibGdnInRefIdeal.τ Cert.SibGdnInRefIdeal.sig) → Buf (Elt Ideal) ℓ) : Prop :=
  True

def Pre_SibGdnInRef (m : (ℓ : Loc Cert.SibGdnInRef.nD Cert.SibGdnInRef.τ Cert.SibGdnInRef.sig) → Buf (Elt Bits) ℓ) : Prop :=
  True

def Pre_SumGdnIn (m : (ℓ : Loc Cert.SumGdnIn.nD Cert.SumGdnIn.τ Cert.SumGdnIn.sig) → Buf (Elt Bits) ℓ) : Prop :=
  True

def Pre_SumGdnInIdeal (m : (ℓ : Loc Cert.SumGdnInIdeal.nD Cert.SumGdnInIdeal.τ Cert.SumGdnInIdeal.sig) → Buf (Elt Ideal) ℓ) : Prop :=
  True

def Pre_SumGdnInRefIdeal (m : (ℓ : Loc Cert.SumGdnInRefIdeal.nD Cert.SumGdnInRefIdeal.τ Cert.SumGdnInRefIdeal.sig) → Buf (Elt Ideal) ℓ) : Prop :=
  True

def Pre_SibGdnOut (m : (ℓ : Loc Cert.SibGdnOut.nD Cert.SibGdnOut.τ Cert.SibGdnOut.sig) → Buf (Elt Bits) ℓ) : Prop :=
  True

def Pre_SibGdnOutIdeal (m : (ℓ : Loc Cert.SibGdnOutIdeal.nD Cert.SibGdnOutIdeal.τ Cert.SibGdnOutIdeal.sig) → Buf (Elt Ideal) ℓ) : Prop :=
  True

def Pre_SibGdnOutRefIdeal (m : (ℓ : Loc Cert.SibGdnOutRefIdeal.nD Cert.SibGdnOutRefIdeal.τ Cert.SibGdnOutRefIdeal.sig) → Buf (Elt Ideal) ℓ) : Prop :=
  True

def Pre_SibGdnOutRef (m : (ℓ : Loc Cert.SibGdnOutRef.nD Cert.SibGdnOutRef.τ Cert.SibGdnOutRef.sig) → Buf (Elt Bits) ℓ) : Prop :=
  True

def Pre_SumGdnOut (m : (ℓ : Loc Cert.SumGdnOut.nD Cert.SumGdnOut.τ Cert.SumGdnOut.sig) → Buf (Elt Bits) ℓ) : Prop :=
  True

def Pre_SumGdnOutIdeal (m : (ℓ : Loc Cert.SumGdnOutIdeal.nD Cert.SumGdnOutIdeal.τ Cert.SumGdnOutIdeal.sig) → Buf (Elt Ideal) ℓ) : Prop :=
  True

def Pre_SumGdnOutRefIdeal (m : (ℓ : Loc Cert.SumGdnOutRefIdeal.nD Cert.SumGdnOutRefIdeal.τ Cert.SumGdnOutRefIdeal.sig) → Buf (Elt Ideal) ℓ) : Prop :=
  True

def Pre_ModLocal (m : (ℓ : Loc Cert.ModLocal.nD Cert.ModLocal.τ Cert.ModLocal.sig) → Buf (Elt Bits) ℓ) : Prop :=
  True

def Pre_ModLocalIdeal (m : (ℓ : Loc Cert.ModLocalIdeal.nD Cert.ModLocalIdeal.τ Cert.ModLocalIdeal.sig) → Buf (Elt Ideal) ℓ) : Prop :=
  True

def Pre_ModLocalRefIdeal (m : (ℓ : Loc Cert.ModLocalRefIdeal.nD Cert.ModLocalRefIdeal.τ Cert.ModLocalRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_DwAb (m : (ℓ : Loc Cert.DwAb.nD Cert.DwAb.τ Cert.DwAb.sig) → Buf (Elt Bits) ℓ) : Prop :=
  True

def Pre_DwAbIdeal (m : (ℓ : Loc Cert.DwAbIdeal.nD Cert.DwAbIdeal.τ Cert.DwAbIdeal.sig) → Buf (Elt Ideal) ℓ) : Prop :=
  True

def Pre_DwAbRefIdeal (m : (ℓ : Loc Cert.DwAbRefIdeal.nD Cert.DwAbRefIdeal.τ Cert.DwAbRefIdeal.sig) → Buf (Elt Ideal) ℓ) : Prop :=
  True

def Pre_DwGdn (m : (ℓ : Loc Cert.DwGdn.nD Cert.DwGdn.τ Cert.DwGdn.sig) → Buf (Elt Bits) ℓ) : Prop :=
  True

def Pre_DwGdnIdeal (m : (ℓ : Loc Cert.DwGdnIdeal.nD Cert.DwGdnIdeal.τ Cert.DwGdnIdeal.sig) → Buf (Elt Ideal) ℓ) : Prop :=
  True

def Pre_DwGdnRefIdeal (m : (ℓ : Loc Cert.DwGdnRefIdeal.nD Cert.DwGdnRefIdeal.τ Cert.DwGdnRefIdeal.sig) → Buf (Elt Ideal) ℓ) : Prop :=
  True

def Pre_FrontAb (m : (ℓ : Loc Cert.FrontAb.nD Cert.FrontAb.τ Cert.FrontAb.sig) → Buf (Elt Bits) ℓ) : Prop :=
  True

def Pre_FrontAbIdeal (m : (ℓ : Loc Cert.FrontAbIdeal.nD Cert.FrontAbIdeal.τ Cert.FrontAbIdeal.sig) → Buf (Elt Ideal) ℓ) : Prop :=
  True

def Pre_FrontAbRefIdeal (m : (ℓ : Loc Cert.FrontAbRefIdeal.nD Cert.FrontAbRefIdeal.τ Cert.FrontAbRefIdeal.sig) → Buf (Elt Ideal) ℓ) : Prop :=
  True

def Pre_FrontGdn (m : (ℓ : Loc Cert.FrontGdn.nD Cert.FrontGdn.τ Cert.FrontGdn.sig) → Buf (Elt Bits) ℓ) : Prop :=
  True

def Pre_FrontGdnIdeal (m : (ℓ : Loc Cert.FrontGdnIdeal.nD Cert.FrontGdnIdeal.τ Cert.FrontGdnIdeal.sig) → Buf (Elt Ideal) ℓ) : Prop :=
  True

def Pre_FrontGdnRefIdeal (m : (ℓ : Loc Cert.FrontGdnRefIdeal.nD Cert.FrontGdnRefIdeal.τ Cert.FrontGdnRefIdeal.sig) → Buf (Elt Ideal) ℓ) : Prop :=
  True

def Pre_Zoh (m : (ℓ : Loc Cert.Zoh.nD Cert.Zoh.τ Cert.Zoh.sig) → Buf (Elt Bits) ℓ) : Prop :=
  True

def Pre_ZohIdeal (m : (ℓ : Loc Cert.ZohIdeal.nD Cert.ZohIdeal.τ Cert.ZohIdeal.sig) → Buf (Elt Ideal) ℓ) : Prop :=
  True

def Pre_ZohRefIdeal (m : (ℓ : Loc Cert.ZohRefIdeal.nD Cert.ZohRefIdeal.τ Cert.ZohRefIdeal.sig) → Buf (Elt Ideal) ℓ) : Prop :=
  True

def Pre_RelBias (m : (ℓ : Loc Cert.RelBias.nD Cert.RelBias.τ Cert.RelBias.sig) → Buf (Elt Bits) ℓ) : Prop :=
  True

def Pre_RelBiasIdeal (m : (ℓ : Loc Cert.RelBiasIdeal.nD Cert.RelBiasIdeal.τ Cert.RelBiasIdeal.sig) → Buf (Elt Ideal) ℓ) : Prop :=
  True

def Pre_RelBiasRefIdeal (m : (ℓ : Loc Cert.RelBiasRefIdeal.nD Cert.RelBiasRefIdeal.τ Cert.RelBiasRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_GradGdn (m : (ℓ : Loc Cert.GradGdn.nD Cert.GradGdn.τ Cert.GradGdn.sig) → Buf (Elt Bits) ℓ) : Prop :=
  True

def Pre_GradGdnIdeal (m : (ℓ : Loc Cert.GradGdnIdeal.nD Cert.GradGdnIdeal.τ Cert.GradGdnIdeal.sig) → Buf (Elt Ideal) ℓ) : Prop :=
  True

def Pre_GradGdnRefIdeal (m : (ℓ : Loc Cert.GradGdnRefIdeal.nD Cert.GradGdnRefIdeal.τ Cert.GradGdnRefIdeal.sig) → Buf (Elt Ideal) ℓ) : Prop :=
  True

def Pre_ZohGrad (m : (ℓ : Loc Cert.ZohGrad.nD Cert.ZohGrad.τ Cert.ZohGrad.sig) → Buf (Elt Bits) ℓ) : Prop :=
  True

def Pre_ZohGradIdeal (m : (ℓ : Loc Cert.ZohGradIdeal.nD Cert.ZohGradIdeal.τ Cert.ZohGradIdeal.sig) → Buf (Elt Ideal) ℓ) : Prop :=
  True

def Pre_ZohGradRefIdeal (m : (ℓ : Loc Cert.ZohGradRefIdeal.nD Cert.ZohGradRefIdeal.τ Cert.ZohGradRefIdeal.sig) → Buf (Elt Ideal) ℓ) : Prop :=
  True

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1)
      ∧ r.2.mem ((c.tc : Thread Cert.Swap.nD Cert.Swap.τ).loc Cert.Swap.main_arg2) = m ((c.tc : Thread Cert.Swap.nD Cert.Swap.τ).loc Cert.Swap.main_arg2)
      ∧ r.2.mem ((c.tc : Thread Cert.Swap.nD Cert.Swap.τ).loc Cert.Swap.main_arg3) = m ((c.tc : Thread Cert.Swap.nD Cert.Swap.τ).loc Cert.Swap.main_arg3)
      ∧ r.2.mem ((c.tc : Thread Cert.Swap.nD Cert.Swap.τ).loc Cert.Swap.main_arg4) = m ((c.tc : Thread Cert.Swap.nD Cert.Swap.τ).loc Cert.Swap.main_arg4))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
      ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
      ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
      ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1)
      ∧ r.2.mem ((c.tc : Thread Cert.SwapRefIdeal.nD Cert.SwapRefIdeal.τ).loc Cert.SwapRefIdeal.main_arg2) = m ((c.tc : Thread Cert.SwapRefIdeal.nD Cert.SwapRefIdeal.τ).loc Cert.SwapRefIdeal.main_arg2)
      ∧ r.2.mem ((c.tc : Thread Cert.SwapRefIdeal.nD Cert.SwapRefIdeal.τ).loc Cert.SwapRefIdeal.main_arg3) = m ((c.tc : Thread Cert.SwapRefIdeal.nD Cert.SwapRefIdeal.τ).loc Cert.SwapRefIdeal.main_arg3)
      ∧ r.2.mem ((c.tc : Thread Cert.SwapRefIdeal.nD Cert.SwapRefIdeal.τ).loc Cert.SwapRefIdeal.main_arg4) = m ((c.tc : Thread Cert.SwapRefIdeal.nD Cert.SwapRefIdeal.τ).loc Cert.SwapRefIdeal.main_arg4))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0)
      ∧ r.2.mem ((c.tc : Thread Cert.SwapRef.nD Cert.SwapRef.τ).loc Cert.SwapRef.main_arg1) = m ((c.tc : Thread Cert.SwapRef.nD Cert.SwapRef.τ).loc Cert.SwapRef.main_arg1)
      ∧ r.2.mem ((c.tc : Thread Cert.SwapRef.nD Cert.SwapRef.τ).loc Cert.SwapRef.main_arg2) = m ((c.tc : Thread Cert.SwapRef.nD Cert.SwapRef.τ).loc Cert.SwapRef.main_arg2)
      ∧ r.2.mem ((c.tc : Thread Cert.SwapRef.nD Cert.SwapRef.τ).loc Cert.SwapRef.main_arg3) = m ((c.tc : Thread Cert.SwapRef.nD Cert.SwapRef.τ).loc Cert.SwapRef.main_arg3)
      ∧ r.2.mem ((c.tc : Thread Cert.SwapRef.nD Cert.SwapRef.τ).loc Cert.SwapRef.main_arg4) = m ((c.tc : Thread Cert.SwapRef.nD Cert.SwapRef.τ).loc Cert.SwapRef.main_arg4))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3)
      ∧ r.2.mem ((c.tc : Thread Cert.ScatterRefIdeal.nD Cert.ScatterRefIdeal.τ).loc Cert.ScatterRefIdeal.main_arg4) = m ((c.tc : Thread Cert.ScatterRefIdeal.nD Cert.ScatterRefIdeal.τ).loc Cert.ScatterRefIdeal.main_arg4))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2)
      ∧ r.2.mem ((c.tc : Thread Cert.ScatterRef.nD Cert.ScatterRef.τ).loc Cert.ScatterRef.main_arg3) = m ((c.tc : Thread Cert.ScatterRef.nD Cert.ScatterRef.τ).loc Cert.ScatterRef.main_arg3)
      ∧ r.2.mem ((c.tc : Thread Cert.ScatterRef.nD Cert.ScatterRef.τ).loc Cert.ScatterRef.main_arg4) = m ((c.tc : Thread Cert.ScatterRef.nD Cert.ScatterRef.τ).loc Cert.ScatterRef.main_arg4))
      ∧ r.2.sem = fun _ => 0)

def quiescent_Pairs [hPairs : Cert.Pairs.Facts] : Prop :=
  ∀ (m : (ℓ : Loc Cert.Pairs.nD Cert.Pairs.τ Cert.Pairs.sig) → Buf (Elt Bits) ℓ) (g : Dev Cert.Pairs.nD → PrngReg), Pre_Pairs m →
    θ_run (Cert.Pairs.defs (F := Bits)) (onTc (τ := Cert.Pairs.τ) (Cert.Pairs.main (F := Bits))) ⟨m, fun _ => 0, g⟩ (fun r => (∀ c : Dev Cert.Pairs.nD,
      r.2.mem ((c.tc : Thread Cert.Pairs.nD Cert.Pairs.τ).loc Cert.Pairs.main_arg0) = m ((c.tc : Thread Cert.Pairs.nD Cert.Pairs.τ).loc Cert.Pairs.main_arg0)
      ∧ r.2.mem ((c.tc : Thread Cert.Pairs.nD Cert.Pairs.τ).loc Cert.Pairs.main_arg1) = m ((c.tc : Thread Cert.Pairs.nD Cert.Pairs.τ).loc Cert.Pairs.main_arg1)
      ∧ r.2.mem ((c.tc : Thread Cert.Pairs.nD Cert.Pairs.τ).loc Cert.Pairs.main_arg2) = m ((c.tc : Thread Cert.Pairs.nD Cert.Pairs.τ).loc Cert.Pairs.main_arg2)
      ∧ r.2.mem ((c.tc : Thread Cert.Pairs.nD Cert.Pairs.τ).loc Cert.Pairs.main_arg3) = m ((c.tc : Thread Cert.Pairs.nD Cert.Pairs.τ).loc Cert.Pairs.main_arg3)
      ∧ r.2.mem ((c.tc : Thread Cert.Pairs.nD Cert.Pairs.τ).loc Cert.Pairs.main_arg4) = m ((c.tc : Thread Cert.Pairs.nD Cert.Pairs.τ).loc Cert.Pairs.main_arg4))
      ∧ r.2.sem = fun _ => 0)

def quiescent_PairsIdeal [hPairsIdeal : Cert.PairsIdeal.Facts] : Prop :=
  ∀ (m : (ℓ : Loc Cert.PairsIdeal.nD Cert.PairsIdeal.τ Cert.PairsIdeal.sig) → Buf (Elt Ideal) ℓ) (g : Dev Cert.PairsIdeal.nD → PrngReg), Pre_PairsIdeal m →
    θ_run (Cert.PairsIdeal.defs (F := Ideal)) (onTc (τ := Cert.PairsIdeal.τ) (Cert.PairsIdeal.main (F := Ideal))) ⟨m, fun _ => 0, g⟩ (fun r => (∀ c : Dev Cert.PairsIdeal.nD,
      r.2.mem ((c.tc : Thread Cert.PairsIdeal.nD Cert.PairsIdeal.τ).loc Cert.PairsIdeal.main_arg0) = m ((c.tc : Thread Cert.PairsIdeal.nD Cert.PairsIdeal.τ).loc Cert.PairsIdeal.main_arg0)
      ∧ r.2.mem ((c.tc : Thread Cert.PairsIdeal.nD Cert.PairsIdeal.τ).loc Cert.PairsIdeal.main_arg1) = m ((c.tc : Thread Cert.PairsIdeal.nD Cert.PairsIdeal.τ).loc Cert.PairsIdeal.main_arg1)
      ∧ r.2.mem ((c.tc : Thread Cert.PairsIdeal.nD Cert.PairsIdeal.τ).loc Cert.PairsIdeal.main_arg2) = m ((c.tc : Thread Cert.PairsIdeal.nD Cert.PairsIdeal.τ).loc Cert.PairsIdeal.main_arg2)
      ∧ r.2.mem ((c.tc : Thread Cert.PairsIdeal.nD Cert.PairsIdeal.τ).loc Cert.PairsIdeal.main_arg3) = m ((c.tc : Thread Cert.PairsIdeal.nD Cert.PairsIdeal.τ).loc Cert.PairsIdeal.main_arg3)
      ∧ r.2.mem ((c.tc : Thread Cert.PairsIdeal.nD Cert.PairsIdeal.τ).loc Cert.PairsIdeal.main_arg4) = m ((c.tc : Thread Cert.PairsIdeal.nD Cert.PairsIdeal.τ).loc Cert.PairsIdeal.main_arg4))
      ∧ r.2.sem = fun _ => 0)

def quiescent_PairsRefIdeal [hPairsRefIdeal : Cert.PairsRefIdeal.Facts] : Prop :=
  ∀ (m : (ℓ : Loc Cert.PairsRefIdeal.nD Cert.PairsRefIdeal.τ Cert.PairsRefIdeal.sig) → Buf (Elt Ideal) ℓ) (g : Dev Cert.PairsRefIdeal.nD → PrngReg), Pre_PairsRefIdeal m →
    θ_run (Cert.PairsRefIdeal.defs (F := Ideal)) (onTc (τ := Cert.PairsRefIdeal.τ) (Cert.PairsRefIdeal.main (F := Ideal))) ⟨m, fun _ => 0, g⟩ (fun r => (∀ c : Dev Cert.PairsRefIdeal.nD,
      r.2.mem ((c.tc : Thread Cert.PairsRefIdeal.nD Cert.PairsRefIdeal.τ).loc Cert.PairsRefIdeal.main_arg0) = m ((c.tc : Thread Cert.PairsRefIdeal.nD Cert.PairsRefIdeal.τ).loc Cert.PairsRefIdeal.main_arg0)
      ∧ r.2.mem ((c.tc : Thread Cert.PairsRefIdeal.nD Cert.PairsRefIdeal.τ).loc Cert.PairsRefIdeal.main_arg1) = m ((c.tc : Thread Cert.PairsRefIdeal.nD Cert.PairsRefIdeal.τ).loc Cert.PairsRefIdeal.main_arg1)
      ∧ r.2.mem ((c.tc : Thread Cert.PairsRefIdeal.nD Cert.PairsRefIdeal.τ).loc Cert.PairsRefIdeal.main_arg2) = m ((c.tc : Thread Cert.PairsRefIdeal.nD Cert.PairsRefIdeal.τ).loc Cert.PairsRefIdeal.main_arg2)
      ∧ r.2.mem ((c.tc : Thread Cert.PairsRefIdeal.nD Cert.PairsRefIdeal.τ).loc Cert.PairsRefIdeal.main_arg3) = m ((c.tc : Thread Cert.PairsRefIdeal.nD Cert.PairsRefIdeal.τ).loc Cert.PairsRefIdeal.main_arg3)
      ∧ r.2.mem ((c.tc : Thread Cert.PairsRefIdeal.nD Cert.PairsRefIdeal.τ).loc Cert.PairsRefIdeal.main_arg4) = m ((c.tc : Thread Cert.PairsRefIdeal.nD Cert.PairsRefIdeal.τ).loc Cert.PairsRefIdeal.main_arg4))
      ∧ r.2.sem = fun _ => 0)

def quiescent_PairsRef [hPairsRef : Cert.PairsRef.Facts] : Prop :=
  ∀ (m : (ℓ : Loc Cert.PairsRef.nD Cert.PairsRef.τ Cert.PairsRef.sig) → Buf (Elt Bits) ℓ) (g : Dev Cert.PairsRef.nD → PrngReg), Pre_PairsRef m →
    θ_run (Cert.PairsRef.defs (F := Bits)) (onTc (τ := Cert.PairsRef.τ) (Cert.PairsRef.main (F := Bits))) ⟨m, fun _ => 0, g⟩ (fun r => (∀ c : Dev Cert.PairsRef.nD,
      r.2.mem ((c.tc : Thread Cert.PairsRef.nD Cert.PairsRef.τ).loc Cert.PairsRef.main_arg0) = m ((c.tc : Thread Cert.PairsRef.nD Cert.PairsRef.τ).loc Cert.PairsRef.main_arg0)
      ∧ r.2.mem ((c.tc : Thread Cert.PairsRef.nD Cert.PairsRef.τ).loc Cert.PairsRef.main_arg1) = m ((c.tc : Thread Cert.PairsRef.nD Cert.PairsRef.τ).loc Cert.PairsRef.main_arg1)
      ∧ r.2.mem ((c.tc : Thread Cert.PairsRef.nD Cert.PairsRef.τ).loc Cert.PairsRef.main_arg2) = m ((c.tc : Thread Cert.PairsRef.nD Cert.PairsRef.τ).loc Cert.PairsRef.main_arg2)
      ∧ r.2.mem ((c.tc : Thread Cert.PairsRef.nD Cert.PairsRef.τ).loc Cert.PairsRef.main_arg3) = m ((c.tc : Thread Cert.PairsRef.nD Cert.PairsRef.τ).loc Cert.PairsRef.main_arg3)
      ∧ r.2.mem ((c.tc : Thread Cert.PairsRef.nD Cert.PairsRef.τ).loc Cert.PairsRef.main_arg4) = m ((c.tc : Thread Cert.PairsRef.nD Cert.PairsRef.τ).loc Cert.PairsRef.main_arg4))
      ∧ r.2.sem = fun _ => 0)

def quiescent_Shards [hShards : Cert.Shards.Facts] : Prop :=
  ∀ (m : (ℓ : Loc Cert.Shards.nD Cert.Shards.τ Cert.Shards.sig) → Buf (Elt Bits) ℓ) (g : Dev Cert.Shards.nD → PrngReg), Pre_Shards m →
    θ_run (Cert.Shards.defs (F := Bits)) (onTc (τ := Cert.Shards.τ) (Cert.Shards.main (F := Bits))) ⟨m, fun _ => 0, g⟩ (fun r => (∀ c : Dev Cert.Shards.nD,
      r.2.mem ((c.tc : Thread Cert.Shards.nD Cert.Shards.τ).loc Cert.Shards.main_arg0) = m ((c.tc : Thread Cert.Shards.nD Cert.Shards.τ).loc Cert.Shards.main_arg0)
      ∧ r.2.mem ((c.tc : Thread Cert.Shards.nD Cert.Shards.τ).loc Cert.Shards.main_arg1) = m ((c.tc : Thread Cert.Shards.nD Cert.Shards.τ).loc Cert.Shards.main_arg1)
      ∧ r.2.mem ((c.tc : Thread Cert.Shards.nD Cert.Shards.τ).loc Cert.Shards.main_arg2) = m ((c.tc : Thread Cert.Shards.nD Cert.Shards.τ).loc Cert.Shards.main_arg2)
      ∧ r.2.mem ((c.tc : Thread Cert.Shards.nD Cert.Shards.τ).loc Cert.Shards.main_arg3) = m ((c.tc : Thread Cert.Shards.nD Cert.Shards.τ).loc Cert.Shards.main_arg3)
      ∧ r.2.mem ((c.tc : Thread Cert.Shards.nD Cert.Shards.τ).loc Cert.Shards.main_arg4) = m ((c.tc : Thread Cert.Shards.nD Cert.Shards.τ).loc Cert.Shards.main_arg4))
      ∧ r.2.sem = fun _ => 0)

def quiescent_ShardsIdeal [hShardsIdeal : Cert.ShardsIdeal.Facts] : Prop :=
  ∀ (m : (ℓ : Loc Cert.ShardsIdeal.nD Cert.ShardsIdeal.τ Cert.ShardsIdeal.sig) → Buf (Elt Ideal) ℓ) (g : Dev Cert.ShardsIdeal.nD → PrngReg), Pre_ShardsIdeal m →
    θ_run (Cert.ShardsIdeal.defs (F := Ideal)) (onTc (τ := Cert.ShardsIdeal.τ) (Cert.ShardsIdeal.main (F := Ideal))) ⟨m, fun _ => 0, g⟩ (fun r => (∀ c : Dev Cert.ShardsIdeal.nD,
      r.2.mem ((c.tc : Thread Cert.ShardsIdeal.nD Cert.ShardsIdeal.τ).loc Cert.ShardsIdeal.main_arg0) = m ((c.tc : Thread Cert.ShardsIdeal.nD Cert.ShardsIdeal.τ).loc Cert.ShardsIdeal.main_arg0)
      ∧ r.2.mem ((c.tc : Thread Cert.ShardsIdeal.nD Cert.ShardsIdeal.τ).loc Cert.ShardsIdeal.main_arg1) = m ((c.tc : Thread Cert.ShardsIdeal.nD Cert.ShardsIdeal.τ).loc Cert.ShardsIdeal.main_arg1)
      ∧ r.2.mem ((c.tc : Thread Cert.ShardsIdeal.nD Cert.ShardsIdeal.τ).loc Cert.ShardsIdeal.main_arg2) = m ((c.tc : Thread Cert.ShardsIdeal.nD Cert.ShardsIdeal.τ).loc Cert.ShardsIdeal.main_arg2)
      ∧ r.2.mem ((c.tc : Thread Cert.ShardsIdeal.nD Cert.ShardsIdeal.τ).loc Cert.ShardsIdeal.main_arg3) = m ((c.tc : Thread Cert.ShardsIdeal.nD Cert.ShardsIdeal.τ).loc Cert.ShardsIdeal.main_arg3)
      ∧ r.2.mem ((c.tc : Thread Cert.ShardsIdeal.nD Cert.ShardsIdeal.τ).loc Cert.ShardsIdeal.main_arg4) = m ((c.tc : Thread Cert.ShardsIdeal.nD Cert.ShardsIdeal.τ).loc Cert.ShardsIdeal.main_arg4))
      ∧ r.2.sem = fun _ => 0)

def quiescent_ShardsRefIdeal [hShardsRefIdeal : Cert.ShardsRefIdeal.Facts] : Prop :=
  ∀ (m : (ℓ : Loc Cert.ShardsRefIdeal.nD Cert.ShardsRefIdeal.τ Cert.ShardsRefIdeal.sig) → Buf (Elt Ideal) ℓ) (g : Dev Cert.ShardsRefIdeal.nD → PrngReg), Pre_ShardsRefIdeal m →
    θ_run (Cert.ShardsRefIdeal.defs (F := Ideal)) (onTc (τ := Cert.ShardsRefIdeal.τ) (Cert.ShardsRefIdeal.main (F := Ideal))) ⟨m, fun _ => 0, g⟩ (fun r => (∀ c : Dev Cert.ShardsRefIdeal.nD,
      r.2.mem ((c.tc : Thread Cert.ShardsRefIdeal.nD Cert.ShardsRefIdeal.τ).loc Cert.ShardsRefIdeal.main_arg0) = m ((c.tc : Thread Cert.ShardsRefIdeal.nD Cert.ShardsRefIdeal.τ).loc Cert.ShardsRefIdeal.main_arg0)
      ∧ r.2.mem ((c.tc : Thread Cert.ShardsRefIdeal.nD Cert.ShardsRefIdeal.τ).loc Cert.ShardsRefIdeal.main_arg1) = m ((c.tc : Thread Cert.ShardsRefIdeal.nD Cert.ShardsRefIdeal.τ).loc Cert.ShardsRefIdeal.main_arg1)
      ∧ r.2.mem ((c.tc : Thread Cert.ShardsRefIdeal.nD Cert.ShardsRefIdeal.τ).loc Cert.ShardsRefIdeal.main_arg2) = m ((c.tc : Thread Cert.ShardsRefIdeal.nD Cert.ShardsRefIdeal.τ).loc Cert.ShardsRefIdeal.main_arg2)
      ∧ r.2.mem ((c.tc : Thread Cert.ShardsRefIdeal.nD Cert.ShardsRefIdeal.τ).loc Cert.ShardsRefIdeal.main_arg3) = m ((c.tc : Thread Cert.ShardsRefIdeal.nD Cert.ShardsRefIdeal.τ).loc Cert.ShardsRefIdeal.main_arg3)
      ∧ r.2.mem ((c.tc : Thread Cert.ShardsRefIdeal.nD Cert.ShardsRefIdeal.τ).loc Cert.ShardsRefIdeal.main_arg4) = m ((c.tc : Thread Cert.ShardsRefIdeal.nD Cert.ShardsRefIdeal.τ).loc Cert.ShardsRefIdeal.main_arg4))
      ∧ r.2.sem = fun _ => 0)

def quiescent_ShardsRef [hShardsRef : Cert.ShardsRef.Facts] : Prop :=
  ∀ (m : (ℓ : Loc Cert.ShardsRef.nD Cert.ShardsRef.τ Cert.ShardsRef.sig) → Buf (Elt Bits) ℓ) (g : Dev Cert.ShardsRef.nD → PrngReg), Pre_ShardsRef m →
    θ_run (Cert.ShardsRef.defs (F := Bits)) (onTc (τ := Cert.ShardsRef.τ) (Cert.ShardsRef.main (F := Bits))) ⟨m, fun _ => 0, g⟩ (fun r => (∀ c : Dev Cert.ShardsRef.nD,
      r.2.mem ((c.tc : Thread Cert.ShardsRef.nD Cert.ShardsRef.τ).loc Cert.ShardsRef.main_arg0) = m ((c.tc : Thread Cert.ShardsRef.nD Cert.ShardsRef.τ).loc Cert.ShardsRef.main_arg0)
      ∧ r.2.mem ((c.tc : Thread Cert.ShardsRef.nD Cert.ShardsRef.τ).loc Cert.ShardsRef.main_arg1) = m ((c.tc : Thread Cert.ShardsRef.nD Cert.ShardsRef.τ).loc Cert.ShardsRef.main_arg1)
      ∧ r.2.mem ((c.tc : Thread Cert.ShardsRef.nD Cert.ShardsRef.τ).loc Cert.ShardsRef.main_arg2) = m ((c.tc : Thread Cert.ShardsRef.nD Cert.ShardsRef.τ).loc Cert.ShardsRef.main_arg2)
      ∧ r.2.mem ((c.tc : Thread Cert.ShardsRef.nD Cert.ShardsRef.τ).loc Cert.ShardsRef.main_arg3) = m ((c.tc : Thread Cert.ShardsRef.nD Cert.ShardsRef.τ).loc Cert.ShardsRef.main_arg3)
      ∧ r.2.mem ((c.tc : Thread Cert.ShardsRef.nD Cert.ShardsRef.τ).loc Cert.ShardsRef.main_arg4) = m ((c.tc : Thread Cert.ShardsRef.nD Cert.ShardsRef.τ).loc Cert.ShardsRef.main_arg4))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0)
      ∧ r.2.mem ((c.tc : Thread Cert.Share.nD Cert.Share.τ).loc Cert.Share.main_arg1) = m ((c.tc : Thread Cert.Share.nD Cert.Share.τ).loc Cert.Share.main_arg1)
      ∧ r.2.mem ((c.tc : Thread Cert.Share.nD Cert.Share.τ).loc Cert.Share.main_arg2) = m ((c.tc : Thread Cert.Share.nD Cert.Share.τ).loc Cert.Share.main_arg2)
      ∧ r.2.mem ((c.tc : Thread Cert.Share.nD Cert.Share.τ).loc Cert.Share.main_arg3) = m ((c.tc : Thread Cert.Share.nD Cert.Share.τ).loc Cert.Share.main_arg3)
      ∧ r.2.mem ((c.tc : Thread Cert.Share.nD Cert.Share.τ).loc Cert.Share.main_arg4) = m ((c.tc : Thread Cert.Share.nD Cert.Share.τ).loc Cert.Share.main_arg4))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
      ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
      ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
      ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
      ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0)
      ∧ r.2.mem ((c.tc : Thread Cert.ShareRefIdeal.nD Cert.ShareRefIdeal.τ).loc Cert.ShareRefIdeal.main_arg1) = m ((c.tc : Thread Cert.ShareRefIdeal.nD Cert.ShareRefIdeal.τ).loc Cert.ShareRefIdeal.main_arg1)
      ∧ r.2.mem ((c.tc : Thread Cert.ShareRefIdeal.nD Cert.ShareRefIdeal.τ).loc Cert.ShareRefIdeal.main_arg2) = m ((c.tc : Thread Cert.ShareRefIdeal.nD Cert.ShareRefIdeal.τ).loc Cert.ShareRefIdeal.main_arg2)
      ∧ r.2.mem ((c.tc : Thread Cert.ShareRefIdeal.nD Cert.ShareRefIdeal.τ).loc Cert.ShareRefIdeal.main_arg3) = m ((c.tc : Thread Cert.ShareRefIdeal.nD Cert.ShareRefIdeal.τ).loc Cert.ShareRefIdeal.main_arg3)
      ∧ r.2.mem ((c.tc : Thread Cert.ShareRefIdeal.nD Cert.ShareRefIdeal.τ).loc Cert.ShareRefIdeal.main_arg4) = m ((c.tc : Thread Cert.ShareRefIdeal.nD Cert.ShareRefIdeal.τ).loc Cert.ShareRefIdeal.main_arg4))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0)
      ∧ r.2.mem ((c.tc : Thread Cert.ShareRef.nD Cert.ShareRef.τ).loc Cert.ShareRef.main_arg1) = m ((c.tc : Thread Cert.ShareRef.nD Cert.ShareRef.τ).loc Cert.ShareRef.main_arg1)
      ∧ r.2.mem ((c.tc : Thread Cert.ShareRef.nD Cert.ShareRef.τ).loc Cert.ShareRef.main_arg2) = m ((c.tc : Thread Cert.ShareRef.nD Cert.ShareRef.τ).loc Cert.ShareRef.main_arg2)
      ∧ r.2.mem ((c.tc : Thread Cert.ShareRef.nD Cert.ShareRef.τ).loc Cert.ShareRef.main_arg3) = m ((c.tc : Thread Cert.ShareRef.nD Cert.ShareRef.τ).loc Cert.ShareRef.main_arg3)
      ∧ r.2.mem ((c.tc : Thread Cert.ShareRef.nD Cert.ShareRef.τ).loc Cert.ShareRef.main_arg4) = m ((c.tc : Thread Cert.ShareRef.nD Cert.ShareRef.τ).loc Cert.ShareRef.main_arg4))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0))
      ∧ r.2.sem = fun _ => 0)

def quiescent_ModRef [hModRef : Cert.ModRef.Facts] : Prop :=
  ∀ (m : (ℓ : Loc Cert.ModRef.nD Cert.ModRef.τ Cert.ModRef.sig) → Buf (Elt Bits) ℓ) (g : Dev Cert.ModRef.nD → PrngReg), Pre_ModRef m →
    θ_run (Cert.ModRef.defs (F := Bits)) (onTc (τ := Cert.ModRef.τ) (Cert.ModRef.main (F := Bits))) ⟨m, fun _ => 0, g⟩ (fun r => (∀ c : Dev Cert.ModRef.nD,
      r.2.mem ((c.tc : Thread Cert.ModRef.nD Cert.ModRef.τ).loc Cert.ModRef.main_arg0) = m ((c.tc : Thread Cert.ModRef.nD Cert.ModRef.τ).loc Cert.ModRef.main_arg0))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0))
      ∧ r.2.sem = fun _ => 0)

def quiescent_FirstRef [hFirstRef : Cert.FirstRef.Facts] : Prop :=
  ∀ (m : (ℓ : Loc Cert.FirstRef.nD Cert.FirstRef.τ Cert.FirstRef.sig) → Buf (Elt Bits) ℓ) (g : Dev Cert.FirstRef.nD → PrngReg), Pre_FirstRef m →
    θ_run (Cert.FirstRef.defs (F := Bits)) (onTc (τ := Cert.FirstRef.τ) (Cert.FirstRef.main (F := Bits))) ⟨m, fun _ => 0, g⟩ (fun r => (∀ c : Dev Cert.FirstRef.nD,
      r.2.mem ((c.tc : Thread Cert.FirstRef.nD Cert.FirstRef.τ).loc Cert.FirstRef.main_arg0) = m ((c.tc : Thread Cert.FirstRef.nD Cert.FirstRef.τ).loc Cert.FirstRef.main_arg0))
      ∧ r.2.sem = fun _ => 0)

def quiescent_UpAdaW [hUpAdaW : Cert.UpAdaW.Facts] : Prop :=
  ∀ (m : (ℓ : Loc Cert.UpAdaW.nD Cert.UpAdaW.τ Cert.UpAdaW.sig) → Buf (Elt Bits) ℓ) (g : Dev Cert.UpAdaW.nD → PrngReg), Pre_UpAdaW m →
    θ_run (Cert.UpAdaW.defs (F := Bits)) (onTc (τ := Cert.UpAdaW.τ) (Cert.UpAdaW.main (F := Bits))) ⟨m, fun _ => 0, g⟩ (fun r => (∀ c : Dev Cert.UpAdaW.nD,
      r.2.mem ((c.tc : Thread Cert.UpAdaW.nD Cert.UpAdaW.τ).loc Cert.UpAdaW.main_arg0) = m ((c.tc : Thread Cert.UpAdaW.nD Cert.UpAdaW.τ).loc Cert.UpAdaW.main_arg0)
      ∧ r.2.mem ((c.tc : Thread Cert.UpAdaW.nD Cert.UpAdaW.τ).loc Cert.UpAdaW.main_arg1) = m ((c.tc : Thread Cert.UpAdaW.nD Cert.UpAdaW.τ).loc Cert.UpAdaW.main_arg1)
      ∧ r.2.mem ((c.tc : Thread Cert.UpAdaW.nD Cert.UpAdaW.τ).loc Cert.UpAdaW.main_arg2) = m ((c.tc : Thread Cert.UpAdaW.nD Cert.UpAdaW.τ).loc Cert.UpAdaW.main_arg2)
      ∧ r.2.mem ((c.tc : Thread Cert.UpAdaW.nD Cert.UpAdaW.τ).loc Cert.UpAdaW.main_arg3) = m ((c.tc : Thread Cert.UpAdaW.nD Cert.UpAdaW.τ).loc Cert.UpAdaW.main_arg3))
      ∧ r.2.sem = fun _ => 0)

def quiescent_UpAdaWIdeal [hUpAdaWIdeal : Cert.UpAdaWIdeal.Facts] : Prop :=
  ∀ (m : (ℓ : Loc Cert.UpAdaWIdeal.nD Cert.UpAdaWIdeal.τ Cert.UpAdaWIdeal.sig) → Buf (Elt Ideal) ℓ) (g : Dev Cert.UpAdaWIdeal.nD → PrngReg), Pre_UpAdaWIdeal m →
    θ_run (Cert.UpAdaWIdeal.defs (F := Ideal)) (onTc (τ := Cert.UpAdaWIdeal.τ) (Cert.UpAdaWIdeal.main (F := Ideal))) ⟨m, fun _ => 0, g⟩ (fun r => (∀ c : Dev Cert.UpAdaWIdeal.nD,
      r.2.mem ((c.tc : Thread Cert.UpAdaWIdeal.nD Cert.UpAdaWIdeal.τ).loc Cert.UpAdaWIdeal.main_arg0) = m ((c.tc : Thread Cert.UpAdaWIdeal.nD Cert.UpAdaWIdeal.τ).loc Cert.UpAdaWIdeal.main_arg0)
      ∧ r.2.mem ((c.tc : Thread Cert.UpAdaWIdeal.nD Cert.UpAdaWIdeal.τ).loc Cert.UpAdaWIdeal.main_arg1) = m ((c.tc : Thread Cert.UpAdaWIdeal.nD Cert.UpAdaWIdeal.τ).loc Cert.UpAdaWIdeal.main_arg1)
      ∧ r.2.mem ((c.tc : Thread Cert.UpAdaWIdeal.nD Cert.UpAdaWIdeal.τ).loc Cert.UpAdaWIdeal.main_arg2) = m ((c.tc : Thread Cert.UpAdaWIdeal.nD Cert.UpAdaWIdeal.τ).loc Cert.UpAdaWIdeal.main_arg2)
      ∧ r.2.mem ((c.tc : Thread Cert.UpAdaWIdeal.nD Cert.UpAdaWIdeal.τ).loc Cert.UpAdaWIdeal.main_arg3) = m ((c.tc : Thread Cert.UpAdaWIdeal.nD Cert.UpAdaWIdeal.τ).loc Cert.UpAdaWIdeal.main_arg3))
      ∧ r.2.sem = fun _ => 0)

def quiescent_UpAdaWRefIdeal [hUpAdaWRefIdeal : Cert.UpAdaWRefIdeal.Facts] : Prop :=
  ∀ (m : (ℓ : Loc Cert.UpAdaWRefIdeal.nD Cert.UpAdaWRefIdeal.τ Cert.UpAdaWRefIdeal.sig) → Buf (Elt Ideal) ℓ) (g : Dev Cert.UpAdaWRefIdeal.nD → PrngReg), Pre_UpAdaWRefIdeal m →
    θ_run (Cert.UpAdaWRefIdeal.defs (F := Ideal)) (onTc (τ := Cert.UpAdaWRefIdeal.τ) (Cert.UpAdaWRefIdeal.main (F := Ideal))) ⟨m, fun _ => 0, g⟩ (fun r => (∀ c : Dev Cert.UpAdaWRefIdeal.nD,
      r.2.mem ((c.tc : Thread Cert.UpAdaWRefIdeal.nD Cert.UpAdaWRefIdeal.τ).loc Cert.UpAdaWRefIdeal.main_arg0) = m ((c.tc : Thread Cert.UpAdaWRefIdeal.nD Cert.UpAdaWRefIdeal.τ).loc Cert.UpAdaWRefIdeal.main_arg0)
      ∧ r.2.mem ((c.tc : Thread Cert.UpAdaWRefIdeal.nD Cert.UpAdaWRefIdeal.τ).loc Cert.UpAdaWRefIdeal.main_arg1) = m ((c.tc : Thread Cert.UpAdaWRefIdeal.nD Cert.UpAdaWRefIdeal.τ).loc Cert.UpAdaWRefIdeal.main_arg1)
      ∧ r.2.mem ((c.tc : Thread Cert.UpAdaWRefIdeal.nD Cert.UpAdaWRefIdeal.τ).loc Cert.UpAdaWRefIdeal.main_arg2) = m ((c.tc : Thread Cert.UpAdaWRefIdeal.nD Cert.UpAdaWRefIdeal.τ).loc Cert.UpAdaWRefIdeal.main_arg2)
      ∧ r.2.mem ((c.tc : Thread Cert.UpAdaWRefIdeal.nD Cert.UpAdaWRefIdeal.τ).loc Cert.UpAdaWRefIdeal.main_arg3) = m ((c.tc : Thread Cert.UpAdaWRefIdeal.nD Cert.UpAdaWRefIdeal.τ).loc Cert.UpAdaWRefIdeal.main_arg3))
      ∧ r.2.sem = fun _ => 0)

def quiescent_UpConv [hUpConv : Cert.UpConv.Facts] : Prop :=
  ∀ (m : (ℓ : Loc Cert.UpConv.nD Cert.UpConv.τ Cert.UpConv.sig) → Buf (Elt Bits) ℓ) (g : Dev Cert.UpConv.nD → PrngReg), Pre_UpConv m →
    θ_run (Cert.UpConv.defs (F := Bits)) (onTc (τ := Cert.UpConv.τ) (Cert.UpConv.main (F := Bits))) ⟨m, fun _ => 0, g⟩ (fun r => (∀ c : Dev Cert.UpConv.nD,
      r.2.mem ((c.tc : Thread Cert.UpConv.nD Cert.UpConv.τ).loc Cert.UpConv.main_arg0) = m ((c.tc : Thread Cert.UpConv.nD Cert.UpConv.τ).loc Cert.UpConv.main_arg0)
      ∧ r.2.mem ((c.tc : Thread Cert.UpConv.nD Cert.UpConv.τ).loc Cert.UpConv.main_arg1) = m ((c.tc : Thread Cert.UpConv.nD Cert.UpConv.τ).loc Cert.UpConv.main_arg1)
      ∧ r.2.mem ((c.tc : Thread Cert.UpConv.nD Cert.UpConv.τ).loc Cert.UpConv.main_arg2) = m ((c.tc : Thread Cert.UpConv.nD Cert.UpConv.τ).loc Cert.UpConv.main_arg2)
      ∧ r.2.mem ((c.tc : Thread Cert.UpConv.nD Cert.UpConv.τ).loc Cert.UpConv.main_arg3) = m ((c.tc : Thread Cert.UpConv.nD Cert.UpConv.τ).loc Cert.UpConv.main_arg3))
      ∧ r.2.sem = fun _ => 0)

def quiescent_UpConvIdeal [hUpConvIdeal : Cert.UpConvIdeal.Facts] : Prop :=
  ∀ (m : (ℓ : Loc Cert.UpConvIdeal.nD Cert.UpConvIdeal.τ Cert.UpConvIdeal.sig) → Buf (Elt Ideal) ℓ) (g : Dev Cert.UpConvIdeal.nD → PrngReg), Pre_UpConvIdeal m →
    θ_run (Cert.UpConvIdeal.defs (F := Ideal)) (onTc (τ := Cert.UpConvIdeal.τ) (Cert.UpConvIdeal.main (F := Ideal))) ⟨m, fun _ => 0, g⟩ (fun r => (∀ c : Dev Cert.UpConvIdeal.nD,
      r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
      ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
      ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
      ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ r.2.sem = fun _ => 0)

def quiescent_UpConvRefIdeal [hUpConvRefIdeal : Cert.UpConvRefIdeal.Facts] : Prop :=
  ∀ (m : (ℓ : Loc Cert.UpConvRefIdeal.nD Cert.UpConvRefIdeal.τ Cert.UpConvRefIdeal.sig) → Buf (Elt Ideal) ℓ) (g : Dev Cert.UpConvRefIdeal.nD → PrngReg), Pre_UpConvRefIdeal m →
    θ_run (Cert.UpConvRefIdeal.defs (F := Ideal)) (onTc (τ := Cert.UpConvRefIdeal.τ) (Cert.UpConvRefIdeal.main (F := Ideal))) ⟨m, fun _ => 0, g⟩ (fun r => (∀ c : Dev Cert.UpConvRefIdeal.nD,
      r.2.mem ((c.tc : Thread Cert.UpConvRefIdeal.nD Cert.UpConvRefIdeal.τ).loc Cert.UpConvRefIdeal.main_arg0) = m ((c.tc : Thread Cert.UpConvRefIdeal.nD Cert.UpConvRefIdeal.τ).loc Cert.UpConvRefIdeal.main_arg0)
      ∧ r.2.mem ((c.tc : Thread Cert.UpConvRefIdeal.nD Cert.UpConvRefIdeal.τ).loc Cert.UpConvRefIdeal.main_arg1) = m ((c.tc : Thread Cert.UpConvRefIdeal.nD Cert.UpConvRefIdeal.τ).loc Cert.UpConvRefIdeal.main_arg1)
      ∧ r.2.mem ((c.tc : Thread Cert.UpConvRefIdeal.nD Cert.UpConvRefIdeal.τ).loc Cert.UpConvRefIdeal.main_arg2) = m ((c.tc : Thread Cert.UpConvRefIdeal.nD Cert.UpConvRefIdeal.τ).loc Cert.UpConvRefIdeal.main_arg2)
      ∧ r.2.mem ((c.tc : Thread Cert.UpConvRefIdeal.nD Cert.UpConvRefIdeal.τ).loc Cert.UpConvRefIdeal.main_arg3) = m ((c.tc : Thread Cert.UpConvRefIdeal.nD Cert.UpConvRefIdeal.τ).loc Cert.UpConvRefIdeal.main_arg3))
      ∧ r.2.sem = fun _ => 0)

def quiescent_UpAbIn [hUpAbIn : Cert.UpAbIn.Facts] : Prop :=
  ∀ (m : (ℓ : Loc Cert.UpAbIn.nD Cert.UpAbIn.τ Cert.UpAbIn.sig) → Buf (Elt Bits) ℓ) (g : Dev Cert.UpAbIn.nD → PrngReg), Pre_UpAbIn m →
    θ_run (Cert.UpAbIn.defs (F := Bits)) (onTc (τ := Cert.UpAbIn.τ) (Cert.UpAbIn.main (F := Bits))) ⟨m, fun _ => 0, g⟩ (fun r => (∀ c : Dev Cert.UpAbIn.nD,
      r.2.mem ((c.tc : Thread Cert.UpAbIn.nD Cert.UpAbIn.τ).loc Cert.UpAbIn.main_arg0) = m ((c.tc : Thread Cert.UpAbIn.nD Cert.UpAbIn.τ).loc Cert.UpAbIn.main_arg0)
      ∧ r.2.mem ((c.tc : Thread Cert.UpAbIn.nD Cert.UpAbIn.τ).loc Cert.UpAbIn.main_arg1) = m ((c.tc : Thread Cert.UpAbIn.nD Cert.UpAbIn.τ).loc Cert.UpAbIn.main_arg1)
      ∧ r.2.mem ((c.tc : Thread Cert.UpAbIn.nD Cert.UpAbIn.τ).loc Cert.UpAbIn.main_arg2) = m ((c.tc : Thread Cert.UpAbIn.nD Cert.UpAbIn.τ).loc Cert.UpAbIn.main_arg2)
      ∧ r.2.mem ((c.tc : Thread Cert.UpAbIn.nD Cert.UpAbIn.τ).loc Cert.UpAbIn.main_arg3) = m ((c.tc : Thread Cert.UpAbIn.nD Cert.UpAbIn.τ).loc Cert.UpAbIn.main_arg3))
      ∧ r.2.sem = fun _ => 0)

def quiescent_UpAbInIdeal [hUpAbInIdeal : Cert.UpAbInIdeal.Facts] : Prop :=
  ∀ (m : (ℓ : Loc Cert.UpAbInIdeal.nD Cert.UpAbInIdeal.τ Cert.UpAbInIdeal.sig) → Buf (Elt Ideal) ℓ) (g : Dev Cert.UpAbInIdeal.nD → PrngReg), Pre_UpAbInIdeal m →
    θ_run (Cert.UpAbInIdeal.defs (F := Ideal)) (onTc (τ := Cert.UpAbInIdeal.τ) (Cert.UpAbInIdeal.main (F := Ideal))) ⟨m, fun _ => 0, g⟩ (fun r => (∀ c : Dev Cert.UpAbInIdeal.nD,
      r.2.mem ((c.tc : Thread Cert.UpAbInIdeal.nD Cert.UpAbInIdeal.τ).loc Cert.UpAbInIdeal.main_arg0) = m ((c.tc : Thread Cert.UpAbInIdeal.nD Cert.UpAbInIdeal.τ).loc Cert.UpAbInIdeal.main_arg0)
      ∧ r.2.mem ((c.tc : Thread Cert.UpAbInIdeal.nD Cert.UpAbInIdeal.τ).loc Cert.UpAbInIdeal.main_arg1) = m ((c.tc : Thread Cert.UpAbInIdeal.nD Cert.UpAbInIdeal.τ).loc Cert.UpAbInIdeal.main_arg1)
      ∧ r.2.mem ((c.tc : Thread Cert.UpAbInIdeal.nD Cert.UpAbInIdeal.τ).loc Cert.UpAbInIdeal.main_arg2) = m ((c.tc : Thread Cert.UpAbInIdeal.nD Cert.UpAbInIdeal.τ).loc Cert.UpAbInIdeal.main_arg2)
      ∧ r.2.mem ((c.tc : Thread Cert.UpAbInIdeal.nD Cert.UpAbInIdeal.τ).loc Cert.UpAbInIdeal.main_arg3) = m ((c.tc : Thread Cert.UpAbInIdeal.nD Cert.UpAbInIdeal.τ).loc Cert.UpAbInIdeal.main_arg3))
      ∧ r.2.sem = fun _ => 0)

def quiescent_UpAbInRefIdeal [hUpAbInRefIdeal : Cert.UpAbInRefIdeal.Facts] : Prop :=
  ∀ (m : (ℓ : Loc Cert.UpAbInRefIdeal.nD Cert.UpAbInRefIdeal.τ Cert.UpAbInRefIdeal.sig) → Buf (Elt Ideal) ℓ) (g : Dev Cert.UpAbInRefIdeal.nD → PrngReg), Pre_UpAbInRefIdeal m →
    θ_run (Cert.UpAbInRefIdeal.defs (F := Ideal)) (onTc (τ := Cert.UpAbInRefIdeal.τ) (Cert.UpAbInRefIdeal.main (F := Ideal))) ⟨m, fun _ => 0, g⟩ (fun r => (∀ c : Dev Cert.UpAbInRefIdeal.nD,
      r.2.mem ((c.tc : Thread Cert.UpAbInRefIdeal.nD Cert.UpAbInRefIdeal.τ).loc Cert.UpAbInRefIdeal.main_arg0) = m ((c.tc : Thread Cert.UpAbInRefIdeal.nD Cert.UpAbInRefIdeal.τ).loc Cert.UpAbInRefIdeal.main_arg0)
      ∧ r.2.mem ((c.tc : Thread Cert.UpAbInRefIdeal.nD Cert.UpAbInRefIdeal.τ).loc Cert.UpAbInRefIdeal.main_arg1) = m ((c.tc : Thread Cert.UpAbInRefIdeal.nD Cert.UpAbInRefIdeal.τ).loc Cert.UpAbInRefIdeal.main_arg1)
      ∧ r.2.mem ((c.tc : Thread Cert.UpAbInRefIdeal.nD Cert.UpAbInRefIdeal.τ).loc Cert.UpAbInRefIdeal.main_arg2) = m ((c.tc : Thread Cert.UpAbInRefIdeal.nD Cert.UpAbInRefIdeal.τ).loc Cert.UpAbInRefIdeal.main_arg2)
      ∧ r.2.mem ((c.tc : Thread Cert.UpAbInRefIdeal.nD Cert.UpAbInRefIdeal.τ).loc Cert.UpAbInRefIdeal.main_arg3) = m ((c.tc : Thread Cert.UpAbInRefIdeal.nD Cert.UpAbInRefIdeal.τ).loc Cert.UpAbInRefIdeal.main_arg3))
      ∧ r.2.sem = fun _ => 0)

def quiescent_UpAbOut [hUpAbOut : Cert.UpAbOut.Facts] : Prop :=
  ∀ (m : (ℓ : Loc Cert.UpAbOut.nD Cert.UpAbOut.τ Cert.UpAbOut.sig) → Buf (Elt Bits) ℓ) (g : Dev Cert.UpAbOut.nD → PrngReg), Pre_UpAbOut m →
    θ_run (Cert.UpAbOut.defs (F := Bits)) (onTc (τ := Cert.UpAbOut.τ) (Cert.UpAbOut.main (F := Bits))) ⟨m, fun _ => 0, g⟩ (fun r => (∀ c : Dev Cert.UpAbOut.nD,
      r.2.mem ((c.tc : Thread Cert.UpAbOut.nD Cert.UpAbOut.τ).loc Cert.UpAbOut.main_arg0) = m ((c.tc : Thread Cert.UpAbOut.nD Cert.UpAbOut.τ).loc Cert.UpAbOut.main_arg0)
      ∧ r.2.mem ((c.tc : Thread Cert.UpAbOut.nD Cert.UpAbOut.τ).loc Cert.UpAbOut.main_arg1) = m ((c.tc : Thread Cert.UpAbOut.nD Cert.UpAbOut.τ).loc Cert.UpAbOut.main_arg1)
      ∧ r.2.mem ((c.tc : Thread Cert.UpAbOut.nD Cert.UpAbOut.τ).loc Cert.UpAbOut.main_arg2) = m ((c.tc : Thread Cert.UpAbOut.nD Cert.UpAbOut.τ).loc Cert.UpAbOut.main_arg2)
      ∧ r.2.mem ((c.tc : Thread Cert.UpAbOut.nD Cert.UpAbOut.τ).loc Cert.UpAbOut.main_arg3) = m ((c.tc : Thread Cert.UpAbOut.nD Cert.UpAbOut.τ).loc Cert.UpAbOut.main_arg3))
      ∧ r.2.sem = fun _ => 0)

def quiescent_UpAbOutIdeal [hUpAbOutIdeal : Cert.UpAbOutIdeal.Facts] : Prop :=
  ∀ (m : (ℓ : Loc Cert.UpAbOutIdeal.nD Cert.UpAbOutIdeal.τ Cert.UpAbOutIdeal.sig) → Buf (Elt Ideal) ℓ) (g : Dev Cert.UpAbOutIdeal.nD → PrngReg), Pre_UpAbOutIdeal m →
    θ_run (Cert.UpAbOutIdeal.defs (F := Ideal)) (onTc (τ := Cert.UpAbOutIdeal.τ) (Cert.UpAbOutIdeal.main (F := Ideal))) ⟨m, fun _ => 0, g⟩ (fun r => (∀ c : Dev Cert.UpAbOutIdeal.nD,
      r.2.mem ((c.tc : Thread Cert.UpAbOutIdeal.nD Cert.UpAbOutIdeal.τ).loc Cert.UpAbOutIdeal.main_arg0) = m ((c.tc : Thread Cert.UpAbOutIdeal.nD Cert.UpAbOutIdeal.τ).loc Cert.UpAbOutIdeal.main_arg0)
      ∧ r.2.mem ((c.tc : Thread Cert.UpAbOutIdeal.nD Cert.UpAbOutIdeal.τ).loc Cert.UpAbOutIdeal.main_arg1) = m ((c.tc : Thread Cert.UpAbOutIdeal.nD Cert.UpAbOutIdeal.τ).loc Cert.UpAbOutIdeal.main_arg1)
      ∧ r.2.mem ((c.tc : Thread Cert.UpAbOutIdeal.nD Cert.UpAbOutIdeal.τ).loc Cert.UpAbOutIdeal.main_arg2) = m ((c.tc : Thread Cert.UpAbOutIdeal.nD Cert.UpAbOutIdeal.τ).loc Cert.UpAbOutIdeal.main_arg2)
      ∧ r.2.mem ((c.tc : Thread Cert.UpAbOutIdeal.nD Cert.UpAbOutIdeal.τ).loc Cert.UpAbOutIdeal.main_arg3) = m ((c.tc : Thread Cert.UpAbOutIdeal.nD Cert.UpAbOutIdeal.τ).loc Cert.UpAbOutIdeal.main_arg3))
      ∧ r.2.sem = fun _ => 0)

def quiescent_UpAbOutRefIdeal [hUpAbOutRefIdeal : Cert.UpAbOutRefIdeal.Facts] : Prop :=
  ∀ (m : (ℓ : Loc Cert.UpAbOutRefIdeal.nD Cert.UpAbOutRefIdeal.τ Cert.UpAbOutRefIdeal.sig) → Buf (Elt Ideal) ℓ) (g : Dev Cert.UpAbOutRefIdeal.nD → PrngReg), Pre_UpAbOutRefIdeal m →
    θ_run (Cert.UpAbOutRefIdeal.defs (F := Ideal)) (onTc (τ := Cert.UpAbOutRefIdeal.τ) (Cert.UpAbOutRefIdeal.main (F := Ideal))) ⟨m, fun _ => 0, g⟩ (fun r => (∀ c : Dev Cert.UpAbOutRefIdeal.nD,
      r.2.mem ((c.tc : Thread Cert.UpAbOutRefIdeal.nD Cert.UpAbOutRefIdeal.τ).loc Cert.UpAbOutRefIdeal.main_arg0) = m ((c.tc : Thread Cert.UpAbOutRefIdeal.nD Cert.UpAbOutRefIdeal.τ).loc Cert.UpAbOutRefIdeal.main_arg0)
      ∧ r.2.mem ((c.tc : Thread Cert.UpAbOutRefIdeal.nD Cert.UpAbOutRefIdeal.τ).loc Cert.UpAbOutRefIdeal.main_arg1) = m ((c.tc : Thread Cert.UpAbOutRefIdeal.nD Cert.UpAbOutRefIdeal.τ).loc Cert.UpAbOutRefIdeal.main_arg1)
      ∧ r.2.mem ((c.tc : Thread Cert.UpAbOutRefIdeal.nD Cert.UpAbOutRefIdeal.τ).loc Cert.UpAbOutRefIdeal.main_arg2) = m ((c.tc : Thread Cert.UpAbOutRefIdeal.nD Cert.UpAbOutRefIdeal.τ).loc Cert.UpAbOutRefIdeal.main_arg2)
      ∧ r.2.mem ((c.tc : Thread Cert.UpAbOutRefIdeal.nD Cert.UpAbOutRefIdeal.τ).loc Cert.UpAbOutRefIdeal.main_arg3) = m ((c.tc : Thread Cert.UpAbOutRefIdeal.nD Cert.UpAbOutRefIdeal.τ).loc Cert.UpAbOutRefIdeal.main_arg3))
      ∧ r.2.sem = fun _ => 0)

def quiescent_UpGlu [hUpGlu : Cert.UpGlu.Facts] : Prop :=
  ∀ (m : (ℓ : Loc Cert.UpGlu.nD Cert.UpGlu.τ Cert.UpGlu.sig) → Buf (Elt Bits) ℓ) (g : Dev Cert.UpGlu.nD → PrngReg), Pre_UpGlu m →
    θ_run (Cert.UpGlu.defs (F := Bits)) (onTc (τ := Cert.UpGlu.τ) (Cert.UpGlu.main (F := Bits))) ⟨m, fun _ => 0, g⟩ (fun r => (∀ c : Dev Cert.UpGlu.nD,
      r.2.mem ((c.tc : Thread Cert.UpGlu.nD Cert.UpGlu.τ).loc Cert.UpGlu.main_arg0) = m ((c.tc : Thread Cert.UpGlu.nD Cert.UpGlu.τ).loc Cert.UpGlu.main_arg0)
      ∧ r.2.mem ((c.tc : Thread Cert.UpGlu.nD Cert.UpGlu.τ).loc Cert.UpGlu.main_arg1) = m ((c.tc : Thread Cert.UpGlu.nD Cert.UpGlu.τ).loc Cert.UpGlu.main_arg1)
      ∧ r.2.mem ((c.tc : Thread Cert.UpGlu.nD Cert.UpGlu.τ).loc Cert.UpGlu.main_arg2) = m ((c.tc : Thread Cert.UpGlu.nD Cert.UpGlu.τ).loc Cert.UpGlu.main_arg2)
      ∧ r.2.mem ((c.tc : Thread Cert.UpGlu.nD Cert.UpGlu.τ).loc Cert.UpGlu.main_arg3) = m ((c.tc : Thread Cert.UpGlu.nD Cert.UpGlu.τ).loc Cert.UpGlu.main_arg3))
      ∧ r.2.sem = fun _ => 0)

def quiescent_UpGluIdeal [hUpGluIdeal : Cert.UpGluIdeal.Facts] : Prop :=
  ∀ (m : (ℓ : Loc Cert.UpGluIdeal.nD Cert.UpGluIdeal.τ Cert.UpGluIdeal.sig) → Buf (Elt Ideal) ℓ) (g : Dev Cert.UpGluIdeal.nD → PrngReg), Pre_UpGluIdeal m →
    θ_run (Cert.UpGluIdeal.defs (F := Ideal)) (onTc (τ := Cert.UpGluIdeal.τ) (Cert.UpGluIdeal.main (F := Ideal))) ⟨m, fun _ => 0, g⟩ (fun r => (∀ c : Dev Cert.UpGluIdeal.nD,
      r.2.mem ((c.tc : Thread Cert.UpGluIdeal.nD Cert.UpGluIdeal.τ).loc Cert.UpGluIdeal.main_arg0) = m ((c.tc : Thread Cert.UpGluIdeal.nD Cert.UpGluIdeal.τ).loc Cert.UpGluIdeal.main_arg0)
      ∧ r.2.mem ((c.tc : Thread Cert.UpGluIdeal.nD Cert.UpGluIdeal.τ).loc Cert.UpGluIdeal.main_arg1) = m ((c.tc : Thread Cert.UpGluIdeal.nD Cert.UpGluIdeal.τ).loc Cert.UpGluIdeal.main_arg1)
      ∧ r.2.mem ((c.tc : Thread Cert.UpGluIdeal.nD Cert.UpGluIdeal.τ).loc Cert.UpGluIdeal.main_arg2) = m ((c.tc : Thread Cert.UpGluIdeal.nD Cert.UpGluIdeal.τ).loc Cert.UpGluIdeal.main_arg2)
      ∧ r.2.mem ((c.tc : Thread Cert.UpGluIdeal.nD Cert.UpGluIdeal.τ).loc Cert.UpGluIdeal.main_arg3) = m ((c.tc : Thread Cert.UpGluIdeal.nD Cert.UpGluIdeal.τ).loc Cert.UpGluIdeal.main_arg3))
      ∧ r.2.sem = fun _ => 0)

def quiescent_UpGluRefIdeal [hUpGluRefIdeal : Cert.UpGluRefIdeal.Facts] : Prop :=
  ∀ (m : (ℓ : Loc Cert.UpGluRefIdeal.nD Cert.UpGluRefIdeal.τ Cert.UpGluRefIdeal.sig) → Buf (Elt Ideal) ℓ) (g : Dev Cert.UpGluRefIdeal.nD → PrngReg), Pre_UpGluRefIdeal m →
    θ_run (Cert.UpGluRefIdeal.defs (F := Ideal)) (onTc (τ := Cert.UpGluRefIdeal.τ) (Cert.UpGluRefIdeal.main (F := Ideal))) ⟨m, fun _ => 0, g⟩ (fun r => (∀ c : Dev Cert.UpGluRefIdeal.nD,
      r.2.mem ((c.tc : Thread Cert.UpGluRefIdeal.nD Cert.UpGluRefIdeal.τ).loc Cert.UpGluRefIdeal.main_arg0) = m ((c.tc : Thread Cert.UpGluRefIdeal.nD Cert.UpGluRefIdeal.τ).loc Cert.UpGluRefIdeal.main_arg0)
      ∧ r.2.mem ((c.tc : Thread Cert.UpGluRefIdeal.nD Cert.UpGluRefIdeal.τ).loc Cert.UpGluRefIdeal.main_arg1) = m ((c.tc : Thread Cert.UpGluRefIdeal.nD Cert.UpGluRefIdeal.τ).loc Cert.UpGluRefIdeal.main_arg1)
      ∧ r.2.mem ((c.tc : Thread Cert.UpGluRefIdeal.nD Cert.UpGluRefIdeal.τ).loc Cert.UpGluRefIdeal.main_arg2) = m ((c.tc : Thread Cert.UpGluRefIdeal.nD Cert.UpGluRefIdeal.τ).loc Cert.UpGluRefIdeal.main_arg2)
      ∧ r.2.mem ((c.tc : Thread Cert.UpGluRefIdeal.nD Cert.UpGluRefIdeal.τ).loc Cert.UpGluRefIdeal.main_arg3) = m ((c.tc : Thread Cert.UpGluRefIdeal.nD Cert.UpGluRefIdeal.τ).loc Cert.UpGluRefIdeal.main_arg3))
      ∧ r.2.sem = fun _ => 0)

def quiescent_UpGdnIn [hUpGdnIn : Cert.UpGdnIn.Facts] : Prop :=
  ∀ (m : (ℓ : Loc Cert.UpGdnIn.nD Cert.UpGdnIn.τ Cert.UpGdnIn.sig) → Buf (Elt Bits) ℓ) (g : Dev Cert.UpGdnIn.nD → PrngReg), Pre_UpGdnIn m →
    θ_run (Cert.UpGdnIn.defs (F := Bits)) (onTc (τ := Cert.UpGdnIn.τ) (Cert.UpGdnIn.main (F := Bits))) ⟨m, fun _ => 0, g⟩ (fun r => (∀ c : Dev Cert.UpGdnIn.nD,
      r.2.mem ((c.tc : Thread Cert.UpGdnIn.nD Cert.UpGdnIn.τ).loc Cert.UpGdnIn.main_arg0) = m ((c.tc : Thread Cert.UpGdnIn.nD Cert.UpGdnIn.τ).loc Cert.UpGdnIn.main_arg0)
      ∧ r.2.mem ((c.tc : Thread Cert.UpGdnIn.nD Cert.UpGdnIn.τ).loc Cert.UpGdnIn.main_arg1) = m ((c.tc : Thread Cert.UpGdnIn.nD Cert.UpGdnIn.τ).loc Cert.UpGdnIn.main_arg1)
      ∧ r.2.mem ((c.tc : Thread Cert.UpGdnIn.nD Cert.UpGdnIn.τ).loc Cert.UpGdnIn.main_arg2) = m ((c.tc : Thread Cert.UpGdnIn.nD Cert.UpGdnIn.τ).loc Cert.UpGdnIn.main_arg2)
      ∧ r.2.mem ((c.tc : Thread Cert.UpGdnIn.nD Cert.UpGdnIn.τ).loc Cert.UpGdnIn.main_arg3) = m ((c.tc : Thread Cert.UpGdnIn.nD Cert.UpGdnIn.τ).loc Cert.UpGdnIn.main_arg3))
      ∧ r.2.sem = fun _ => 0)

def quiescent_UpGdnInIdeal [hUpGdnInIdeal : Cert.UpGdnInIdeal.Facts] : Prop :=
  ∀ (m : (ℓ : Loc Cert.UpGdnInIdeal.nD Cert.UpGdnInIdeal.τ Cert.UpGdnInIdeal.sig) → Buf (Elt Ideal) ℓ) (g : Dev Cert.UpGdnInIdeal.nD → PrngReg), Pre_UpGdnInIdeal m →
    θ_run (Cert.UpGdnInIdeal.defs (F := Ideal)) (onTc (τ := Cert.UpGdnInIdeal.τ) (Cert.UpGdnInIdeal.main (F := Ideal))) ⟨m, fun _ => 0, g⟩ (fun r => (∀ c : Dev Cert.UpGdnInIdeal.nD,
      r.2.mem ((c.tc : Thread Cert.UpGdnInIdeal.nD Cert.UpGdnInIdeal.τ).loc Cert.UpGdnInIdeal.main_arg0) = m ((c.tc : Thread Cert.UpGdnInIdeal.nD Cert.UpGdnInIdeal.τ).loc Cert.UpGdnInIdeal.main_arg0)
      ∧ r.2.mem ((c.tc : Thread Cert.UpGdnInIdeal.nD Cert.UpGdnInIdeal.τ).loc Cert.UpGdnInIdeal.main_arg1) = m ((c.tc : Thread Cert.UpGdnInIdeal.nD Cert.UpGdnInIdeal.τ).loc Cert.UpGdnInIdeal.main_arg1)
      ∧ r.2.mem ((c.tc : Thread Cert.UpGdnInIdeal.nD Cert.UpGdnInIdeal.τ).loc Cert.UpGdnInIdeal.main_arg2) = m ((c.tc : Thread Cert.UpGdnInIdeal.nD Cert.UpGdnInIdeal.τ).loc Cert.UpGdnInIdeal.main_arg2)
      ∧ r.2.mem ((c.tc : Thread Cert.UpGdnInIdeal.nD Cert.UpGdnInIdeal.τ).loc Cert.UpGdnInIdeal.main_arg3) = m ((c.tc : Thread Cert.UpGdnInIdeal.nD Cert.UpGdnInIdeal.τ).loc Cert.UpGdnInIdeal.main_arg3))
      ∧ r.2.sem = fun _ => 0)

def quiescent_UpGdnInRefIdeal [hUpGdnInRefIdeal : Cert.UpGdnInRefIdeal.Facts] : Prop :=
  ∀ (m : (ℓ : Loc Cert.UpGdnInRefIdeal.nD Cert.UpGdnInRefIdeal.τ Cert.UpGdnInRefIdeal.sig) → Buf (Elt Ideal) ℓ) (g : Dev Cert.UpGdnInRefIdeal.nD → PrngReg), Pre_UpGdnInRefIdeal m →
    θ_run (Cert.UpGdnInRefIdeal.defs (F := Ideal)) (onTc (τ := Cert.UpGdnInRefIdeal.τ) (Cert.UpGdnInRefIdeal.main (F := Ideal))) ⟨m, fun _ => 0, g⟩ (fun r => (∀ c : Dev Cert.UpGdnInRefIdeal.nD,
      r.2.mem ((c.tc : Thread Cert.UpGdnInRefIdeal.nD Cert.UpGdnInRefIdeal.τ).loc Cert.UpGdnInRefIdeal.main_arg0) = m ((c.tc : Thread Cert.UpGdnInRefIdeal.nD Cert.UpGdnInRefIdeal.τ).loc Cert.UpGdnInRefIdeal.main_arg0)
      ∧ r.2.mem ((c.tc : Thread Cert.UpGdnInRefIdeal.nD Cert.UpGdnInRefIdeal.τ).loc Cert.UpGdnInRefIdeal.main_arg1) = m ((c.tc : Thread Cert.UpGdnInRefIdeal.nD Cert.UpGdnInRefIdeal.τ).loc Cert.UpGdnInRefIdeal.main_arg1)
      ∧ r.2.mem ((c.tc : Thread Cert.UpGdnInRefIdeal.nD Cert.UpGdnInRefIdeal.τ).loc Cert.UpGdnInRefIdeal.main_arg2) = m ((c.tc : Thread Cert.UpGdnInRefIdeal.nD Cert.UpGdnInRefIdeal.τ).loc Cert.UpGdnInRefIdeal.main_arg2)
      ∧ r.2.mem ((c.tc : Thread Cert.UpGdnInRefIdeal.nD Cert.UpGdnInRefIdeal.τ).loc Cert.UpGdnInRefIdeal.main_arg3) = m ((c.tc : Thread Cert.UpGdnInRefIdeal.nD Cert.UpGdnInRefIdeal.τ).loc Cert.UpGdnInRefIdeal.main_arg3))
      ∧ r.2.sem = fun _ => 0)

def quiescent_UpGdnOut [hUpGdnOut : Cert.UpGdnOut.Facts] : Prop :=
  ∀ (m : (ℓ : Loc Cert.UpGdnOut.nD Cert.UpGdnOut.τ Cert.UpGdnOut.sig) → Buf (Elt Bits) ℓ) (g : Dev Cert.UpGdnOut.nD → PrngReg), Pre_UpGdnOut m →
    θ_run (Cert.UpGdnOut.defs (F := Bits)) (onTc (τ := Cert.UpGdnOut.τ) (Cert.UpGdnOut.main (F := Bits))) ⟨m, fun _ => 0, g⟩ (fun r => (∀ c : Dev Cert.UpGdnOut.nD,
      r.2.mem ((c.tc : Thread Cert.UpGdnOut.nD Cert.UpGdnOut.τ).loc Cert.UpGdnOut.main_arg0) = m ((c.tc : Thread Cert.UpGdnOut.nD Cert.UpGdnOut.τ).loc Cert.UpGdnOut.main_arg0)
      ∧ r.2.mem ((c.tc : Thread Cert.UpGdnOut.nD Cert.UpGdnOut.τ).loc Cert.UpGdnOut.main_arg1) = m ((c.tc : Thread Cert.UpGdnOut.nD Cert.UpGdnOut.τ).loc Cert.UpGdnOut.main_arg1)
      ∧ r.2.mem ((c.tc : Thread Cert.UpGdnOut.nD Cert.UpGdnOut.τ).loc Cert.UpGdnOut.main_arg2) = m ((c.tc : Thread Cert.UpGdnOut.nD Cert.UpGdnOut.τ).loc Cert.UpGdnOut.main_arg2)
      ∧ r.2.mem ((c.tc : Thread Cert.UpGdnOut.nD Cert.UpGdnOut.τ).loc Cert.UpGdnOut.main_arg3) = m ((c.tc : Thread Cert.UpGdnOut.nD Cert.UpGdnOut.τ).loc Cert.UpGdnOut.main_arg3))
      ∧ r.2.sem = fun _ => 0)

def quiescent_UpGdnOutIdeal [hUpGdnOutIdeal : Cert.UpGdnOutIdeal.Facts] : Prop :=
  ∀ (m : (ℓ : Loc Cert.UpGdnOutIdeal.nD Cert.UpGdnOutIdeal.τ Cert.UpGdnOutIdeal.sig) → Buf (Elt Ideal) ℓ) (g : Dev Cert.UpGdnOutIdeal.nD → PrngReg), Pre_UpGdnOutIdeal m →
    θ_run (Cert.UpGdnOutIdeal.defs (F := Ideal)) (onTc (τ := Cert.UpGdnOutIdeal.τ) (Cert.UpGdnOutIdeal.main (F := Ideal))) ⟨m, fun _ => 0, g⟩ (fun r => (∀ c : Dev Cert.UpGdnOutIdeal.nD,
      r.2.mem ((c.tc : Thread Cert.UpGdnOutIdeal.nD Cert.UpGdnOutIdeal.τ).loc Cert.UpGdnOutIdeal.main_arg0) = m ((c.tc : Thread Cert.UpGdnOutIdeal.nD Cert.UpGdnOutIdeal.τ).loc Cert.UpGdnOutIdeal.main_arg0)
      ∧ r.2.mem ((c.tc : Thread Cert.UpGdnOutIdeal.nD Cert.UpGdnOutIdeal.τ).loc Cert.UpGdnOutIdeal.main_arg1) = m ((c.tc : Thread Cert.UpGdnOutIdeal.nD Cert.UpGdnOutIdeal.τ).loc Cert.UpGdnOutIdeal.main_arg1)
      ∧ r.2.mem ((c.tc : Thread Cert.UpGdnOutIdeal.nD Cert.UpGdnOutIdeal.τ).loc Cert.UpGdnOutIdeal.main_arg2) = m ((c.tc : Thread Cert.UpGdnOutIdeal.nD Cert.UpGdnOutIdeal.τ).loc Cert.UpGdnOutIdeal.main_arg2)
      ∧ r.2.mem ((c.tc : Thread Cert.UpGdnOutIdeal.nD Cert.UpGdnOutIdeal.τ).loc Cert.UpGdnOutIdeal.main_arg3) = m ((c.tc : Thread Cert.UpGdnOutIdeal.nD Cert.UpGdnOutIdeal.τ).loc Cert.UpGdnOutIdeal.main_arg3))
      ∧ r.2.sem = fun _ => 0)

def quiescent_UpGdnOutRefIdeal [hUpGdnOutRefIdeal : Cert.UpGdnOutRefIdeal.Facts] : Prop :=
  ∀ (m : (ℓ : Loc Cert.UpGdnOutRefIdeal.nD Cert.UpGdnOutRefIdeal.τ Cert.UpGdnOutRefIdeal.sig) → Buf (Elt Ideal) ℓ) (g : Dev Cert.UpGdnOutRefIdeal.nD → PrngReg), Pre_UpGdnOutRefIdeal m →
    θ_run (Cert.UpGdnOutRefIdeal.defs (F := Ideal)) (onTc (τ := Cert.UpGdnOutRefIdeal.τ) (Cert.UpGdnOutRefIdeal.main (F := Ideal))) ⟨m, fun _ => 0, g⟩ (fun r => (∀ c : Dev Cert.UpGdnOutRefIdeal.nD,
      r.2.mem ((c.tc : Thread Cert.UpGdnOutRefIdeal.nD Cert.UpGdnOutRefIdeal.τ).loc Cert.UpGdnOutRefIdeal.main_arg0) = m ((c.tc : Thread Cert.UpGdnOutRefIdeal.nD Cert.UpGdnOutRefIdeal.τ).loc Cert.UpGdnOutRefIdeal.main_arg0)
      ∧ r.2.mem ((c.tc : Thread Cert.UpGdnOutRefIdeal.nD Cert.UpGdnOutRefIdeal.τ).loc Cert.UpGdnOutRefIdeal.main_arg1) = m ((c.tc : Thread Cert.UpGdnOutRefIdeal.nD Cert.UpGdnOutRefIdeal.τ).loc Cert.UpGdnOutRefIdeal.main_arg1)
      ∧ r.2.mem ((c.tc : Thread Cert.UpGdnOutRefIdeal.nD Cert.UpGdnOutRefIdeal.τ).loc Cert.UpGdnOutRefIdeal.main_arg2) = m ((c.tc : Thread Cert.UpGdnOutRefIdeal.nD Cert.UpGdnOutRefIdeal.τ).loc Cert.UpGdnOutRefIdeal.main_arg2)
      ∧ r.2.mem ((c.tc : Thread Cert.UpGdnOutRefIdeal.nD Cert.UpGdnOutRefIdeal.τ).loc Cert.UpGdnOutRefIdeal.main_arg3) = m ((c.tc : Thread Cert.UpGdnOutRefIdeal.nD Cert.UpGdnOutRefIdeal.τ).loc Cert.UpGdnOutRefIdeal.main_arg3))
      ∧ r.2.sem = fun _ => 0)

def quiescent_UpSmall [hUpSmall : Cert.UpSmall.Facts] : Prop :=
  ∀ (m : (ℓ : Loc Cert.UpSmall.nD Cert.UpSmall.τ Cert.UpSmall.sig) → Buf (Elt Bits) ℓ) (g : Dev Cert.UpSmall.nD → PrngReg), Pre_UpSmall m →
    θ_run (Cert.UpSmall.defs (F := Bits)) (onTc (τ := Cert.UpSmall.τ) (Cert.UpSmall.main (F := Bits))) ⟨m, fun _ => 0, g⟩ (fun r => (∀ c : Dev Cert.UpSmall.nD,
      r.2.mem ((c.tc : Thread Cert.UpSmall.nD Cert.UpSmall.τ).loc Cert.UpSmall.main_arg0) = m ((c.tc : Thread Cert.UpSmall.nD Cert.UpSmall.τ).loc Cert.UpSmall.main_arg0)
      ∧ r.2.mem ((c.tc : Thread Cert.UpSmall.nD Cert.UpSmall.τ).loc Cert.UpSmall.main_arg1) = m ((c.tc : Thread Cert.UpSmall.nD Cert.UpSmall.τ).loc Cert.UpSmall.main_arg1)
      ∧ r.2.mem ((c.tc : Thread Cert.UpSmall.nD Cert.UpSmall.τ).loc Cert.UpSmall.main_arg2) = m ((c.tc : Thread Cert.UpSmall.nD Cert.UpSmall.τ).loc Cert.UpSmall.main_arg2)
      ∧ r.2.mem ((c.tc : Thread Cert.UpSmall.nD Cert.UpSmall.τ).loc Cert.UpSmall.main_arg3) = m ((c.tc : Thread Cert.UpSmall.nD Cert.UpSmall.τ).loc Cert.UpSmall.main_arg3))
      ∧ r.2.sem = fun _ => 0)

def quiescent_UpSmallIdeal [hUpSmallIdeal : Cert.UpSmallIdeal.Facts] : Prop :=
  ∀ (m : (ℓ : Loc Cert.UpSmallIdeal.nD Cert.UpSmallIdeal.τ Cert.UpSmallIdeal.sig) → Buf (Elt Ideal) ℓ) (g : Dev Cert.UpSmallIdeal.nD → PrngReg), Pre_UpSmallIdeal m →
    θ_run (Cert.UpSmallIdeal.defs (F := Ideal)) (onTc (τ := Cert.UpSmallIdeal.τ) (Cert.UpSmallIdeal.main (F := Ideal))) ⟨m, fun _ => 0, g⟩ (fun r => (∀ c : Dev Cert.UpSmallIdeal.nD,
      r.2.mem ((c.tc : Thread Cert.UpSmallIdeal.nD Cert.UpSmallIdeal.τ).loc Cert.UpSmallIdeal.main_arg0) = m ((c.tc : Thread Cert.UpSmallIdeal.nD Cert.UpSmallIdeal.τ).loc Cert.UpSmallIdeal.main_arg0)
      ∧ r.2.mem ((c.tc : Thread Cert.UpSmallIdeal.nD Cert.UpSmallIdeal.τ).loc Cert.UpSmallIdeal.main_arg1) = m ((c.tc : Thread Cert.UpSmallIdeal.nD Cert.UpSmallIdeal.τ).loc Cert.UpSmallIdeal.main_arg1)
      ∧ r.2.mem ((c.tc : Thread Cert.UpSmallIdeal.nD Cert.UpSmallIdeal.τ).loc Cert.UpSmallIdeal.main_arg2) = m ((c.tc : Thread Cert.UpSmallIdeal.nD Cert.UpSmallIdeal.τ).loc Cert.UpSmallIdeal.main_arg2)
      ∧ r.2.mem ((c.tc : Thread Cert.UpSmallIdeal.nD Cert.UpSmallIdeal.τ).loc Cert.UpSmallIdeal.main_arg3) = m ((c.tc : Thread Cert.UpSmallIdeal.nD Cert.UpSmallIdeal.τ).loc Cert.UpSmallIdeal.main_arg3))
      ∧ r.2.sem = fun _ => 0)

def quiescent_UpSmallRefIdeal [hUpSmallRefIdeal : Cert.UpSmallRefIdeal.Facts] : Prop :=
  ∀ (m : (ℓ : Loc Cert.UpSmallRefIdeal.nD Cert.UpSmallRefIdeal.τ Cert.UpSmallRefIdeal.sig) → Buf (Elt Ideal) ℓ) (g : Dev Cert.UpSmallRefIdeal.nD → PrngReg), Pre_UpSmallRefIdeal m →
    θ_run (Cert.UpSmallRefIdeal.defs (F := Ideal)) (onTc (τ := Cert.UpSmallRefIdeal.τ) (Cert.UpSmallRefIdeal.main (F := Ideal))) ⟨m, fun _ => 0, g⟩ (fun r => (∀ c : Dev Cert.UpSmallRefIdeal.nD,
      r.2.mem ((c.tc : Thread Cert.UpSmallRefIdeal.nD Cert.UpSmallRefIdeal.τ).loc Cert.UpSmallRefIdeal.main_arg0) = m ((c.tc : Thread Cert.UpSmallRefIdeal.nD Cert.UpSmallRefIdeal.τ).loc Cert.UpSmallRefIdeal.main_arg0)
      ∧ r.2.mem ((c.tc : Thread Cert.UpSmallRefIdeal.nD Cert.UpSmallRefIdeal.τ).loc Cert.UpSmallRefIdeal.main_arg1) = m ((c.tc : Thread Cert.UpSmallRefIdeal.nD Cert.UpSmallRefIdeal.τ).loc Cert.UpSmallRefIdeal.main_arg1)
      ∧ r.2.mem ((c.tc : Thread Cert.UpSmallRefIdeal.nD Cert.UpSmallRefIdeal.τ).loc Cert.UpSmallRefIdeal.main_arg2) = m ((c.tc : Thread Cert.UpSmallRefIdeal.nD Cert.UpSmallRefIdeal.τ).loc Cert.UpSmallRefIdeal.main_arg2)
      ∧ r.2.mem ((c.tc : Thread Cert.UpSmallRefIdeal.nD Cert.UpSmallRefIdeal.τ).loc Cert.UpSmallRefIdeal.main_arg3) = m ((c.tc : Thread Cert.UpSmallRefIdeal.nD Cert.UpSmallRefIdeal.τ).loc Cert.UpSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SibAbIn [hSibAbIn : Cert.SibAbIn.Facts] : Prop :=
  ∀ (m : (ℓ : Loc Cert.SibAbIn.nD Cert.SibAbIn.τ Cert.SibAbIn.sig) → Buf (Elt Bits) ℓ) (g : Dev Cert.SibAbIn.nD → PrngReg), Pre_SibAbIn m →
    θ_run (Cert.SibAbIn.defs (F := Bits)) (onTc (τ := Cert.SibAbIn.τ) (Cert.SibAbIn.main (F := Bits))) ⟨m, fun _ => 0, g⟩ (fun r => (∀ c : Dev Cert.SibAbIn.nD,
      r.2.mem ((c.tc : Thread Cert.SibAbIn.nD Cert.SibAbIn.τ).loc Cert.SibAbIn.main_arg0) = m ((c.tc : Thread Cert.SibAbIn.nD Cert.SibAbIn.τ).loc Cert.SibAbIn.main_arg0)
      ∧ r.2.mem ((c.tc : Thread Cert.SibAbIn.nD Cert.SibAbIn.τ).loc Cert.SibAbIn.main_arg1) = m ((c.tc : Thread Cert.SibAbIn.nD Cert.SibAbIn.τ).loc Cert.SibAbIn.main_arg1))
      ∧ r.2.sem = fun _ => 0)

def quiescent_SibAbInIdeal [hSibAbInIdeal : Cert.SibAbInIdeal.Facts] : Prop :=
  ∀ (m : (ℓ : Loc Cert.SibAbInIdeal.nD Cert.SibAbInIdeal.τ Cert.SibAbInIdeal.sig) → Buf (Elt Ideal) ℓ) (g : Dev Cert.SibAbInIdeal.nD → PrngReg), Pre_SibAbInIdeal m →
    θ_run (Cert.SibAbInIdeal.defs (F := Ideal)) (onTc (τ := Cert.SibAbInIdeal.τ) (Cert.SibAbInIdeal.main (F := Ideal))) ⟨m, fun _ => 0, g⟩ (fun r => (∀ c : Dev Cert.SibAbInIdeal.nD,
      r.2.mem ((c.tc : Thread Cert.SibAbInIdeal.nD Cert.SibAbInIdeal.τ).loc Cert.SibAbInIdeal.main_arg0) = m ((c.tc : Thread Cert.SibAbInIdeal.nD Cert.SibAbInIdeal.τ).loc Cert.SibAbInIdeal.main_arg0)
      ∧ r.2.mem ((c.tc : Thread Cert.SibAbInIdeal.nD Cert.SibAbInIdeal.τ).loc Cert.SibAbInIdeal.main_arg1) = m ((c.tc : Thread Cert.SibAbInIdeal.nD Cert.SibAbInIdeal.τ).loc Cert.SibAbInIdeal.main_arg1))
      ∧ r.2.sem = fun _ => 0)

def quiescent_SibAbInRefIdeal [hSibAbInRefIdeal : Cert.SibAbInRefIdeal.Facts] : Prop :=
  ∀ (m : (ℓ : Loc Cert.SibAbInRefIdeal.nD Cert.SibAbInRefIdeal.τ Cert.SibAbInRefIdeal.sig) → Buf (Elt Ideal) ℓ) (g : Dev Cert.SibAbInRefIdeal.nD → PrngReg), Pre_SibAbInRefIdeal m →
    θ_run (Cert.SibAbInRefIdeal.defs (F := Ideal)) (onTc (τ := Cert.SibAbInRefIdeal.τ) (Cert.SibAbInRefIdeal.main (F := Ideal))) ⟨m, fun _ => 0, g⟩ (fun r => (∀ c : Dev Cert.SibAbInRefIdeal.nD,
      r.2.mem ((c.tc : Thread Cert.SibAbInRefIdeal.nD Cert.SibAbInRefIdeal.τ).loc Cert.SibAbInRefIdeal.main_arg0) = m ((c.tc : Thread Cert.SibAbInRefIdeal.nD Cert.SibAbInRefIdeal.τ).loc Cert.SibAbInRefIdeal.main_arg0)
      ∧ r.2.mem ((c.tc : Thread Cert.SibAbInRefIdeal.nD Cert.SibAbInRefIdeal.τ).loc Cert.SibAbInRefIdeal.main_arg1) = m ((c.tc : Thread Cert.SibAbInRefIdeal.nD Cert.SibAbInRefIdeal.τ).loc Cert.SibAbInRefIdeal.main_arg1))
      ∧ r.2.sem = fun _ => 0)

def quiescent_SibAbInRef [hSibAbInRef : Cert.SibAbInRef.Facts] : Prop :=
  ∀ (m : (ℓ : Loc Cert.SibAbInRef.nD Cert.SibAbInRef.τ Cert.SibAbInRef.sig) → Buf (Elt Bits) ℓ) (g : Dev Cert.SibAbInRef.nD → PrngReg), Pre_SibAbInRef m →
    θ_run (Cert.SibAbInRef.defs (F := Bits)) (onTc (τ := Cert.SibAbInRef.τ) (Cert.SibAbInRef.main (F := Bits))) ⟨m, fun _ => 0, g⟩ (fun r => (∀ c : Dev Cert.SibAbInRef.nD,
      r.2.mem ((c.tc : Thread Cert.SibAbInRef.nD Cert.SibAbInRef.τ).loc Cert.SibAbInRef.main_arg0) = m ((c.tc : Thread Cert.SibAbInRef.nD Cert.SibAbInRef.τ).loc Cert.SibAbInRef.main_arg0)
      ∧ r.2.mem ((c.tc : Thread Cert.SibAbInRef.nD Cert.SibAbInRef.τ).loc Cert.SibAbInRef.main_arg1) = m ((c.tc : Thread Cert.SibAbInRef.nD Cert.SibAbInRef.τ).loc Cert.SibAbInRef.main_arg1))
      ∧ r.2.sem = fun _ => 0)

def quiescent_SumAbIn [hSumAbIn : Cert.SumAbIn.Facts] : Prop :=
  ∀ (m : (ℓ : Loc Cert.SumAbIn.nD Cert.SumAbIn.τ Cert.SumAbIn.sig) → Buf (Elt Bits) ℓ) (g : Dev Cert.SumAbIn.nD → PrngReg), Pre_SumAbIn m →
    θ_run (Cert.SumAbIn.defs (F := Bits)) (onTc (τ := Cert.SumAbIn.τ) (Cert.SumAbIn.main (F := Bits))) ⟨m, fun _ => 0, g⟩ (fun r => (∀ c : Dev Cert.SumAbIn.nD,
      r.2.mem ((c.tc : Thread Cert.SumAbIn.nD Cert.SumAbIn.τ).loc Cert.SumAbIn.main_arg0) = m ((c.tc : Thread Cert.SumAbIn.nD Cert.SumAbIn.τ).loc Cert.SumAbIn.main_arg0))
      ∧ r.2.sem = fun _ => 0)

def quiescent_SumAbInIdeal [hSumAbInIdeal : Cert.SumAbInIdeal.Facts] : Prop :=
  ∀ (m : (ℓ : Loc Cert.SumAbInIdeal.nD Cert.SumAbInIdeal.τ Cert.SumAbInIdeal.sig) → Buf (Elt Ideal) ℓ) (g : Dev Cert.SumAbInIdeal.nD → PrngReg), Pre_SumAbInIdeal m →
    θ_run (Cert.SumAbInIdeal.defs (F := Ideal)) (onTc (τ := Cert.SumAbInIdeal.τ) (Cert.SumAbInIdeal.main (F := Ideal))) ⟨m, fun _ => 0, g⟩ (fun r => (∀ c : Dev Cert.SumAbInIdeal.nD,
      r.2.mem ((c.tc : Thread Cert.SumAbInIdeal.nD Cert.SumAbInIdeal.τ).loc Cert.SumAbInIdeal.main_arg0) = m ((c.tc : Thread Cert.SumAbInIdeal.nD Cert.SumAbInIdeal.τ).loc Cert.SumAbInIdeal.main_arg0))
      ∧ r.2.sem = fun _ => 0)

def quiescent_SumAbInRefIdeal [hSumAbInRefIdeal : Cert.SumAbInRefIdeal.Facts] : Prop :=
  ∀ (m : (ℓ : Loc Cert.SumAbInRefIdeal.nD Cert.SumAbInRefIdeal.τ Cert.SumAbInRefIdeal.sig) → Buf (Elt Ideal) ℓ) (g : Dev Cert.SumAbInRefIdeal.nD → PrngReg), Pre_SumAbInRefIdeal m →
    θ_run (Cert.SumAbInRefIdeal.defs (F := Ideal)) (onTc (τ := Cert.SumAbInRefIdeal.τ) (Cert.SumAbInRefIdeal.main (F := Ideal))) ⟨m, fun _ => 0, g⟩ (fun r => (∀ c : Dev Cert.SumAbInRefIdeal.nD,
      r.2.mem ((c.tc : Thread Cert.SumAbInRefIdeal.nD Cert.SumAbInRefIdeal.τ).loc Cert.SumAbInRefIdeal.main_arg0) = m ((c.tc : Thread Cert.SumAbInRefIdeal.nD Cert.SumAbInRefIdeal.τ).loc Cert.SumAbInRefIdeal.main_arg0))
      ∧ r.2.sem = fun _ => 0)

def quiescent_SibAbOut [hSibAbOut : Cert.SibAbOut.Facts] : Prop :=
  ∀ (m : (ℓ : Loc Cert.SibAbOut.nD Cert.SibAbOut.τ Cert.SibAbOut.sig) → Buf (Elt Bits) ℓ) (g : Dev Cert.SibAbOut.nD → PrngReg), Pre_SibAbOut m →
    θ_run (Cert.SibAbOut.defs (F := Bits)) (onTc (τ := Cert.SibAbOut.τ) (Cert.SibAbOut.main (F := Bits))) ⟨m, fun _ => 0, g⟩ (fun r => (∀ c : Dev Cert.SibAbOut.nD,
      r.2.mem ((c.tc : Thread Cert.SibAbOut.nD Cert.SibAbOut.τ).loc Cert.SibAbOut.main_arg0) = m ((c.tc : Thread Cert.SibAbOut.nD Cert.SibAbOut.τ).loc Cert.SibAbOut.main_arg0)
      ∧ r.2.mem ((c.tc : Thread Cert.SibAbOut.nD Cert.SibAbOut.τ).loc Cert.SibAbOut.main_arg1) = m ((c.tc : Thread Cert.SibAbOut.nD Cert.SibAbOut.τ).loc Cert.SibAbOut.main_arg1))
      ∧ r.2.sem = fun _ => 0)

def quiescent_SibAbOutIdeal [hSibAbOutIdeal : Cert.SibAbOutIdeal.Facts] : Prop :=
  ∀ (m : (ℓ : Loc Cert.SibAbOutIdeal.nD Cert.SibAbOutIdeal.τ Cert.SibAbOutIdeal.sig) → Buf (Elt Ideal) ℓ) (g : Dev Cert.SibAbOutIdeal.nD → PrngReg), Pre_SibAbOutIdeal m →
    θ_run (Cert.SibAbOutIdeal.defs (F := Ideal)) (onTc (τ := Cert.SibAbOutIdeal.τ) (Cert.SibAbOutIdeal.main (F := Ideal))) ⟨m, fun _ => 0, g⟩ (fun r => (∀ c : Dev Cert.SibAbOutIdeal.nD,
      r.2.mem ((c.tc : Thread Cert.SibAbOutIdeal.nD Cert.SibAbOutIdeal.τ).loc Cert.SibAbOutIdeal.main_arg0) = m ((c.tc : Thread Cert.SibAbOutIdeal.nD Cert.SibAbOutIdeal.τ).loc Cert.SibAbOutIdeal.main_arg0)
      ∧ r.2.mem ((c.tc : Thread Cert.SibAbOutIdeal.nD Cert.SibAbOutIdeal.τ).loc Cert.SibAbOutIdeal.main_arg1) = m ((c.tc : Thread Cert.SibAbOutIdeal.nD Cert.SibAbOutIdeal.τ).loc Cert.SibAbOutIdeal.main_arg1))
      ∧ r.2.sem = fun _ => 0)

def quiescent_SibAbOutRefIdeal [hSibAbOutRefIdeal : Cert.SibAbOutRefIdeal.Facts] : Prop :=
  ∀ (m : (ℓ : Loc Cert.SibAbOutRefIdeal.nD Cert.SibAbOutRefIdeal.τ Cert.SibAbOutRefIdeal.sig) → Buf (Elt Ideal) ℓ) (g : Dev Cert.SibAbOutRefIdeal.nD → PrngReg), Pre_SibAbOutRefIdeal m →
    θ_run (Cert.SibAbOutRefIdeal.defs (F := Ideal)) (onTc (τ := Cert.SibAbOutRefIdeal.τ) (Cert.SibAbOutRefIdeal.main (F := Ideal))) ⟨m, fun _ => 0, g⟩ (fun r => (∀ c : Dev Cert.SibAbOutRefIdeal.nD,
      r.2.mem ((c.tc : Thread Cert.SibAbOutRefIdeal.nD Cert.SibAbOutRefIdeal.τ).loc Cert.SibAbOutRefIdeal.main_arg0) = m ((c.tc : Thread Cert.SibAbOutRefIdeal.nD Cert.SibAbOutRefIdeal.τ).loc Cert.SibAbOutRefIdeal.main_arg0)
      ∧ r.2.mem ((c.tc : Thread Cert.SibAbOutRefIdeal.nD Cert.SibAbOutRefIdeal.τ).loc Cert.SibAbOutRefIdeal.main_arg1) = m ((c.tc : Thread Cert.SibAbOutRefIdeal.nD Cert.SibAbOutRefIdeal.τ).loc Cert.SibAbOutRefIdeal.main_arg1))
      ∧ r.2.sem = fun _ => 0)

def quiescent_SibAbOutRef [hSibAbOutRef : Cert.SibAbOutRef.Facts] : Prop :=
  ∀ (m : (ℓ : Loc Cert.SibAbOutRef.nD Cert.SibAbOutRef.τ Cert.SibAbOutRef.sig) → Buf (Elt Bits) ℓ) (g : Dev Cert.SibAbOutRef.nD → PrngReg), Pre_SibAbOutRef m →
    θ_run (Cert.SibAbOutRef.defs (F := Bits)) (onTc (τ := Cert.SibAbOutRef.τ) (Cert.SibAbOutRef.main (F := Bits))) ⟨m, fun _ => 0, g⟩ (fun r => (∀ c : Dev Cert.SibAbOutRef.nD,
      r.2.mem ((c.tc : Thread Cert.SibAbOutRef.nD Cert.SibAbOutRef.τ).loc Cert.SibAbOutRef.main_arg0) = m ((c.tc : Thread Cert.SibAbOutRef.nD Cert.SibAbOutRef.τ).loc Cert.SibAbOutRef.main_arg0)
      ∧ r.2.mem ((c.tc : Thread Cert.SibAbOutRef.nD Cert.SibAbOutRef.τ).loc Cert.SibAbOutRef.main_arg1) = m ((c.tc : Thread Cert.SibAbOutRef.nD Cert.SibAbOutRef.τ).loc Cert.SibAbOutRef.main_arg1))
      ∧ r.2.sem = fun _ => 0)

def quiescent_SumAbOut [hSumAbOut : Cert.SumAbOut.Facts] : Prop :=
  ∀ (m : (ℓ : Loc Cert.SumAbOut.nD Cert.SumAbOut.τ Cert.SumAbOut.sig) → Buf (Elt Bits) ℓ) (g : Dev Cert.SumAbOut.nD → PrngReg), Pre_SumAbOut m →
    θ_run (Cert.SumAbOut.defs (F := Bits)) (onTc (τ := Cert.SumAbOut.τ) (Cert.SumAbOut.main (F := Bits))) ⟨m, fun _ => 0, g⟩ (fun r => (∀ c : Dev Cert.SumAbOut.nD,
      r.2.mem ((c.tc : Thread Cert.SumAbOut.nD Cert.SumAbOut.τ).loc Cert.SumAbOut.main_arg0) = m ((c.tc : Thread Cert.SumAbOut.nD Cert.SumAbOut.τ).loc Cert.SumAbOut.main_arg0))
      ∧ r.2.sem = fun _ => 0)

def quiescent_SumAbOutIdeal [hSumAbOutIdeal : Cert.SumAbOutIdeal.Facts] : Prop :=
  ∀ (m : (ℓ : Loc Cert.SumAbOutIdeal.nD Cert.SumAbOutIdeal.τ Cert.SumAbOutIdeal.sig) → Buf (Elt Ideal) ℓ) (g : Dev Cert.SumAbOutIdeal.nD → PrngReg), Pre_SumAbOutIdeal m →
    θ_run (Cert.SumAbOutIdeal.defs (F := Ideal)) (onTc (τ := Cert.SumAbOutIdeal.τ) (Cert.SumAbOutIdeal.main (F := Ideal))) ⟨m, fun _ => 0, g⟩ (fun r => (∀ c : Dev Cert.SumAbOutIdeal.nD,
      r.2.mem ((c.tc : Thread Cert.SumAbOutIdeal.nD Cert.SumAbOutIdeal.τ).loc Cert.SumAbOutIdeal.main_arg0) = m ((c.tc : Thread Cert.SumAbOutIdeal.nD Cert.SumAbOutIdeal.τ).loc Cert.SumAbOutIdeal.main_arg0))
      ∧ r.2.sem = fun _ => 0)

def quiescent_SumAbOutRefIdeal [hSumAbOutRefIdeal : Cert.SumAbOutRefIdeal.Facts] : Prop :=
  ∀ (m : (ℓ : Loc Cert.SumAbOutRefIdeal.nD Cert.SumAbOutRefIdeal.τ Cert.SumAbOutRefIdeal.sig) → Buf (Elt Ideal) ℓ) (g : Dev Cert.SumAbOutRefIdeal.nD → PrngReg), Pre_SumAbOutRefIdeal m →
    θ_run (Cert.SumAbOutRefIdeal.defs (F := Ideal)) (onTc (τ := Cert.SumAbOutRefIdeal.τ) (Cert.SumAbOutRefIdeal.main (F := Ideal))) ⟨m, fun _ => 0, g⟩ (fun r => (∀ c : Dev Cert.SumAbOutRefIdeal.nD,
      r.2.mem ((c.tc : Thread Cert.SumAbOutRefIdeal.nD Cert.SumAbOutRefIdeal.τ).loc Cert.SumAbOutRefIdeal.main_arg0) = m ((c.tc : Thread Cert.SumAbOutRefIdeal.nD Cert.SumAbOutRefIdeal.τ).loc Cert.SumAbOutRefIdeal.main_arg0))
      ∧ r.2.sem = fun _ => 0)

def quiescent_SibGlu [hSibGlu : Cert.SibGlu.Facts] : Prop :=
  ∀ (m : (ℓ : Loc Cert.SibGlu.nD Cert.SibGlu.τ Cert.SibGlu.sig) → Buf (Elt Bits) ℓ) (g : Dev Cert.SibGlu.nD → PrngReg), Pre_SibGlu m →
    θ_run (Cert.SibGlu.defs (F := Bits)) (onTc (τ := Cert.SibGlu.τ) (Cert.SibGlu.main (F := Bits))) ⟨m, fun _ => 0, g⟩ (fun r => (∀ c : Dev Cert.SibGlu.nD,
      r.2.mem ((c.tc : Thread Cert.SibGlu.nD Cert.SibGlu.τ).loc Cert.SibGlu.main_arg0) = m ((c.tc : Thread Cert.SibGlu.nD Cert.SibGlu.τ).loc Cert.SibGlu.main_arg0)
      ∧ r.2.mem ((c.tc : Thread Cert.SibGlu.nD Cert.SibGlu.τ).loc Cert.SibGlu.main_arg1) = m ((c.tc : Thread Cert.SibGlu.nD Cert.SibGlu.τ).loc Cert.SibGlu.main_arg1))
      ∧ r.2.sem = fun _ => 0)

def quiescent_SibGluIdeal [hSibGluIdeal : Cert.SibGluIdeal.Facts] : Prop :=
  ∀ (m : (ℓ : Loc Cert.SibGluIdeal.nD Cert.SibGluIdeal.τ Cert.SibGluIdeal.sig) → Buf (Elt Ideal) ℓ) (g : Dev Cert.SibGluIdeal.nD → PrngReg), Pre_SibGluIdeal m →
    θ_run (Cert.SibGluIdeal.defs (F := Ideal)) (onTc (τ := Cert.SibGluIdeal.τ) (Cert.SibGluIdeal.main (F := Ideal))) ⟨m, fun _ => 0, g⟩ (fun r => (∀ c : Dev Cert.SibGluIdeal.nD,
      r.2.mem ((c.tc : Thread Cert.SibGluIdeal.nD Cert.SibGluIdeal.τ).loc Cert.SibGluIdeal.main_arg0) = m ((c.tc : Thread Cert.SibGluIdeal.nD Cert.SibGluIdeal.τ).loc Cert.SibGluIdeal.main_arg0)
      ∧ r.2.mem ((c.tc : Thread Cert.SibGluIdeal.nD Cert.SibGluIdeal.τ).loc Cert.SibGluIdeal.main_arg1) = m ((c.tc : Thread Cert.SibGluIdeal.nD Cert.SibGluIdeal.τ).loc Cert.SibGluIdeal.main_arg1))
      ∧ r.2.sem = fun _ => 0)

def quiescent_SibGluRefIdeal [hSibGluRefIdeal : Cert.SibGluRefIdeal.Facts] : Prop :=
  ∀ (m : (ℓ : Loc Cert.SibGluRefIdeal.nD Cert.SibGluRefIdeal.τ Cert.SibGluRefIdeal.sig) → Buf (Elt Ideal) ℓ) (g : Dev Cert.SibGluRefIdeal.nD → PrngReg), Pre_SibGluRefIdeal m →
    θ_run (Cert.SibGluRefIdeal.defs (F := Ideal)) (onTc (τ := Cert.SibGluRefIdeal.τ) (Cert.SibGluRefIdeal.main (F := Ideal))) ⟨m, fun _ => 0, g⟩ (fun r => (∀ c : Dev Cert.SibGluRefIdeal.nD,
      r.2.mem ((c.tc : Thread Cert.SibGluRefIdeal.nD Cert.SibGluRefIdeal.τ).loc Cert.SibGluRefIdeal.main_arg0) = m ((c.tc : Thread Cert.SibGluRefIdeal.nD Cert.SibGluRefIdeal.τ).loc Cert.SibGluRefIdeal.main_arg0)
      ∧ r.2.mem ((c.tc : Thread Cert.SibGluRefIdeal.nD Cert.SibGluRefIdeal.τ).loc Cert.SibGluRefIdeal.main_arg1) = m ((c.tc : Thread Cert.SibGluRefIdeal.nD Cert.SibGluRefIdeal.τ).loc Cert.SibGluRefIdeal.main_arg1))
      ∧ r.2.sem = fun _ => 0)

def quiescent_SibGluRef [hSibGluRef : Cert.SibGluRef.Facts] : Prop :=
  ∀ (m : (ℓ : Loc Cert.SibGluRef.nD Cert.SibGluRef.τ Cert.SibGluRef.sig) → Buf (Elt Bits) ℓ) (g : Dev Cert.SibGluRef.nD → PrngReg), Pre_SibGluRef m →
    θ_run (Cert.SibGluRef.defs (F := Bits)) (onTc (τ := Cert.SibGluRef.τ) (Cert.SibGluRef.main (F := Bits))) ⟨m, fun _ => 0, g⟩ (fun r => (∀ c : Dev Cert.SibGluRef.nD,
      r.2.mem ((c.tc : Thread Cert.SibGluRef.nD Cert.SibGluRef.τ).loc Cert.SibGluRef.main_arg0) = m ((c.tc : Thread Cert.SibGluRef.nD Cert.SibGluRef.τ).loc Cert.SibGluRef.main_arg0)
      ∧ r.2.mem ((c.tc : Thread Cert.SibGluRef.nD Cert.SibGluRef.τ).loc Cert.SibGluRef.main_arg1) = m ((c.tc : Thread Cert.SibGluRef.nD Cert.SibGluRef.τ).loc Cert.SibGluRef.main_arg1))
      ∧ r.2.sem = fun _ => 0)

def quiescent_SumGlu [hSumGlu : Cert.SumGlu.Facts] : Prop :=
  ∀ (m : (ℓ : Loc Cert.SumGlu.nD Cert.SumGlu.τ Cert.SumGlu.sig) → Buf (Elt Bits) ℓ) (g : Dev Cert.SumGlu.nD → PrngReg), Pre_SumGlu m →
    θ_run (Cert.SumGlu.defs (F := Bits)) (onTc (τ := Cert.SumGlu.τ) (Cert.SumGlu.main (F := Bits))) ⟨m, fun _ => 0, g⟩ (fun r => (∀ c : Dev Cert.SumGlu.nD,
      r.2.mem ((c.tc : Thread Cert.SumGlu.nD Cert.SumGlu.τ).loc Cert.SumGlu.main_arg0) = m ((c.tc : Thread Cert.SumGlu.nD Cert.SumGlu.τ).loc Cert.SumGlu.main_arg0))
      ∧ r.2.sem = fun _ => 0)

def quiescent_SumGluIdeal [hSumGluIdeal : Cert.SumGluIdeal.Facts] : Prop :=
  ∀ (m : (ℓ : Loc Cert.SumGluIdeal.nD Cert.SumGluIdeal.τ Cert.SumGluIdeal.sig) → Buf (Elt Ideal) ℓ) (g : Dev Cert.SumGluIdeal.nD → PrngReg), Pre_SumGluIdeal m →
    θ_run (Cert.SumGluIdeal.defs (F := Ideal)) (onTc (τ := Cert.SumGluIdeal.τ) (Cert.SumGluIdeal.main (F := Ideal))) ⟨m, fun _ => 0, g⟩ (fun r => (∀ c : Dev Cert.SumGluIdeal.nD,
      r.2.mem ((c.tc : Thread Cert.SumGluIdeal.nD Cert.SumGluIdeal.τ).loc Cert.SumGluIdeal.main_arg0) = m ((c.tc : Thread Cert.SumGluIdeal.nD Cert.SumGluIdeal.τ).loc Cert.SumGluIdeal.main_arg0))
      ∧ r.2.sem = fun _ => 0)

def quiescent_SumGluRefIdeal [hSumGluRefIdeal : Cert.SumGluRefIdeal.Facts] : Prop :=
  ∀ (m : (ℓ : Loc Cert.SumGluRefIdeal.nD Cert.SumGluRefIdeal.τ Cert.SumGluRefIdeal.sig) → Buf (Elt Ideal) ℓ) (g : Dev Cert.SumGluRefIdeal.nD → PrngReg), Pre_SumGluRefIdeal m →
    θ_run (Cert.SumGluRefIdeal.defs (F := Ideal)) (onTc (τ := Cert.SumGluRefIdeal.τ) (Cert.SumGluRefIdeal.main (F := Ideal))) ⟨m, fun _ => 0, g⟩ (fun r => (∀ c : Dev Cert.SumGluRefIdeal.nD,
      r.2.mem ((c.tc : Thread Cert.SumGluRefIdeal.nD Cert.SumGluRefIdeal.τ).loc Cert.SumGluRefIdeal.main_arg0) = m ((c.tc : Thread Cert.SumGluRefIdeal.nD Cert.SumGluRefIdeal.τ).loc Cert.SumGluRefIdeal.main_arg0))
      ∧ r.2.sem = fun _ => 0)

def quiescent_SibGdnIn [hSibGdnIn : Cert.SibGdnIn.Facts] : Prop :=
  ∀ (m : (ℓ : Loc Cert.SibGdnIn.nD Cert.SibGdnIn.τ Cert.SibGdnIn.sig) → Buf (Elt Bits) ℓ) (g : Dev Cert.SibGdnIn.nD → PrngReg), Pre_SibGdnIn m →
    θ_run (Cert.SibGdnIn.defs (F := Bits)) (onTc (τ := Cert.SibGdnIn.τ) (Cert.SibGdnIn.main (F := Bits))) ⟨m, fun _ => 0, g⟩ (fun r => (∀ c : Dev Cert.SibGdnIn.nD,
      r.2.mem ((c.tc : Thread Cert.SibGdnIn.nD Cert.SibGdnIn.τ).loc Cert.SibGdnIn.main_arg0) = m ((c.tc : Thread Cert.SibGdnIn.nD Cert.SibGdnIn.τ).loc Cert.SibGdnIn.main_arg0)
      ∧ r.2.mem ((c.tc : Thread Cert.SibGdnIn.nD Cert.SibGdnIn.τ).loc Cert.SibGdnIn.main_arg1) = m ((c.tc : Thread Cert.SibGdnIn.nD Cert.SibGdnIn.τ).loc Cert.SibGdnIn.main_arg1))
      ∧ r.2.sem = fun _ => 0)

def quiescent_SibGdnInIdeal [hSibGdnInIdeal : Cert.SibGdnInIdeal.Facts] : Prop :=
  ∀ (m : (ℓ : Loc Cert.SibGdnInIdeal.nD Cert.SibGdnInIdeal.τ Cert.SibGdnInIdeal.sig) → Buf (Elt Ideal) ℓ) (g : Dev Cert.SibGdnInIdeal.nD → PrngReg), Pre_SibGdnInIdeal m →
    θ_run (Cert.SibGdnInIdeal.defs (F := Ideal)) (onTc (τ := Cert.SibGdnInIdeal.τ) (Cert.SibGdnInIdeal.main (F := Ideal))) ⟨m, fun _ => 0, g⟩ (fun r => (∀ c : Dev Cert.SibGdnInIdeal.nD,
      r.2.mem ((c.tc : Thread Cert.SibGdnInIdeal.nD Cert.SibGdnInIdeal.τ).loc Cert.SibGdnInIdeal.main_arg0) = m ((c.tc : Thread Cert.SibGdnInIdeal.nD Cert.SibGdnInIdeal.τ).loc Cert.SibGdnInIdeal.main_arg0)
      ∧ r.2.mem ((c.tc : Thread Cert.SibGdnInIdeal.nD Cert.SibGdnInIdeal.τ).loc Cert.SibGdnInIdeal.main_arg1) = m ((c.tc : Thread Cert.SibGdnInIdeal.nD Cert.SibGdnInIdeal.τ).loc Cert.SibGdnInIdeal.main_arg1))
      ∧ r.2.sem = fun _ => 0)

def quiescent_SibGdnInRefIdeal [hSibGdnInRefIdeal : Cert.SibGdnInRefIdeal.Facts] : Prop :=
  ∀ (m : (ℓ : Loc Cert.SibGdnInRefIdeal.nD Cert.SibGdnInRefIdeal.τ Cert.SibGdnInRefIdeal.sig) → Buf (Elt Ideal) ℓ) (g : Dev Cert.SibGdnInRefIdeal.nD → PrngReg), Pre_SibGdnInRefIdeal m →
    θ_run (Cert.SibGdnInRefIdeal.defs (F := Ideal)) (onTc (τ := Cert.SibGdnInRefIdeal.τ) (Cert.SibGdnInRefIdeal.main (F := Ideal))) ⟨m, fun _ => 0, g⟩ (fun r => (∀ c : Dev Cert.SibGdnInRefIdeal.nD,
      r.2.mem ((c.tc : Thread Cert.SibGdnInRefIdeal.nD Cert.SibGdnInRefIdeal.τ).loc Cert.SibGdnInRefIdeal.main_arg0) = m ((c.tc : Thread Cert.SibGdnInRefIdeal.nD Cert.SibGdnInRefIdeal.τ).loc Cert.SibGdnInRefIdeal.main_arg0)
      ∧ r.2.mem ((c.tc : Thread Cert.SibGdnInRefIdeal.nD Cert.SibGdnInRefIdeal.τ).loc Cert.SibGdnInRefIdeal.main_arg1) = m ((c.tc : Thread Cert.SibGdnInRefIdeal.nD Cert.SibGdnInRefIdeal.τ).loc Cert.SibGdnInRefIdeal.main_arg1))
      ∧ r.2.sem = fun _ => 0)

def quiescent_SibGdnInRef [hSibGdnInRef : Cert.SibGdnInRef.Facts] : Prop :=
  ∀ (m : (ℓ : Loc Cert.SibGdnInRef.nD Cert.SibGdnInRef.τ Cert.SibGdnInRef.sig) → Buf (Elt Bits) ℓ) (g : Dev Cert.SibGdnInRef.nD → PrngReg), Pre_SibGdnInRef m →
    θ_run (Cert.SibGdnInRef.defs (F := Bits)) (onTc (τ := Cert.SibGdnInRef.τ) (Cert.SibGdnInRef.main (F := Bits))) ⟨m, fun _ => 0, g⟩ (fun r => (∀ c : Dev Cert.SibGdnInRef.nD,
      r.2.mem ((c.tc : Thread Cert.SibGdnInRef.nD Cert.SibGdnInRef.τ).loc Cert.SibGdnInRef.main_arg0) = m ((c.tc : Thread Cert.SibGdnInRef.nD Cert.SibGdnInRef.τ).loc Cert.SibGdnInRef.main_arg0)
      ∧ r.2.mem ((c.tc : Thread Cert.SibGdnInRef.nD Cert.SibGdnInRef.τ).loc Cert.SibGdnInRef.main_arg1) = m ((c.tc : Thread Cert.SibGdnInRef.nD Cert.SibGdnInRef.τ).loc Cert.SibGdnInRef.main_arg1))
      ∧ r.2.sem = fun _ => 0)

def quiescent_SumGdnIn [hSumGdnIn : Cert.SumGdnIn.Facts] : Prop :=
  ∀ (m : (ℓ : Loc Cert.SumGdnIn.nD Cert.SumGdnIn.τ Cert.SumGdnIn.sig) → Buf (Elt Bits) ℓ) (g : Dev Cert.SumGdnIn.nD → PrngReg), Pre_SumGdnIn m →
    θ_run (Cert.SumGdnIn.defs (F := Bits)) (onTc (τ := Cert.SumGdnIn.τ) (Cert.SumGdnIn.main (F := Bits))) ⟨m, fun _ => 0, g⟩ (fun r => (∀ c : Dev Cert.SumGdnIn.nD,
      r.2.mem ((c.tc : Thread Cert.SumGdnIn.nD Cert.SumGdnIn.τ).loc Cert.SumGdnIn.main_arg0) = m ((c.tc : Thread Cert.SumGdnIn.nD Cert.SumGdnIn.τ).loc Cert.SumGdnIn.main_arg0))
      ∧ r.2.sem = fun _ => 0)

def quiescent_SumGdnInIdeal [hSumGdnInIdeal : Cert.SumGdnInIdeal.Facts] : Prop :=
  ∀ (m : (ℓ : Loc Cert.SumGdnInIdeal.nD Cert.SumGdnInIdeal.τ Cert.SumGdnInIdeal.sig) → Buf (Elt Ideal) ℓ) (g : Dev Cert.SumGdnInIdeal.nD → PrngReg), Pre_SumGdnInIdeal m →
    θ_run (Cert.SumGdnInIdeal.defs (F := Ideal)) (onTc (τ := Cert.SumGdnInIdeal.τ) (Cert.SumGdnInIdeal.main (F := Ideal))) ⟨m, fun _ => 0, g⟩ (fun r => (∀ c : Dev Cert.SumGdnInIdeal.nD,
      r.2.mem ((c.tc : Thread Cert.SumGdnInIdeal.nD Cert.SumGdnInIdeal.τ).loc Cert.SumGdnInIdeal.main_arg0) = m ((c.tc : Thread Cert.SumGdnInIdeal.nD Cert.SumGdnInIdeal.τ).loc Cert.SumGdnInIdeal.main_arg0))
      ∧ r.2.sem = fun _ => 0)

def quiescent_SumGdnInRefIdeal [hSumGdnInRefIdeal : Cert.SumGdnInRefIdeal.Facts] : Prop :=
  ∀ (m : (ℓ : Loc Cert.SumGdnInRefIdeal.nD Cert.SumGdnInRefIdeal.τ Cert.SumGdnInRefIdeal.sig) → Buf (Elt Ideal) ℓ) (g : Dev Cert.SumGdnInRefIdeal.nD → PrngReg), Pre_SumGdnInRefIdeal m →
    θ_run (Cert.SumGdnInRefIdeal.defs (F := Ideal)) (onTc (τ := Cert.SumGdnInRefIdeal.τ) (Cert.SumGdnInRefIdeal.main (F := Ideal))) ⟨m, fun _ => 0, g⟩ (fun r => (∀ c : Dev Cert.SumGdnInRefIdeal.nD,
      r.2.mem ((c.tc : Thread Cert.SumGdnInRefIdeal.nD Cert.SumGdnInRefIdeal.τ).loc Cert.SumGdnInRefIdeal.main_arg0) = m ((c.tc : Thread Cert.SumGdnInRefIdeal.nD Cert.SumGdnInRefIdeal.τ).loc Cert.SumGdnInRefIdeal.main_arg0))
      ∧ r.2.sem = fun _ => 0)

def quiescent_SibGdnOut [hSibGdnOut : Cert.SibGdnOut.Facts] : Prop :=
  ∀ (m : (ℓ : Loc Cert.SibGdnOut.nD Cert.SibGdnOut.τ Cert.SibGdnOut.sig) → Buf (Elt Bits) ℓ) (g : Dev Cert.SibGdnOut.nD → PrngReg), Pre_SibGdnOut m →
    θ_run (Cert.SibGdnOut.defs (F := Bits)) (onTc (τ := Cert.SibGdnOut.τ) (Cert.SibGdnOut.main (F := Bits))) ⟨m, fun _ => 0, g⟩ (fun r => (∀ c : Dev Cert.SibGdnOut.nD,
      r.2.mem ((c.tc : Thread Cert.SibGdnOut.nD Cert.SibGdnOut.τ).loc Cert.SibGdnOut.main_arg0) = m ((c.tc : Thread Cert.SibGdnOut.nD Cert.SibGdnOut.τ).loc Cert.SibGdnOut.main_arg0)
      ∧ r.2.mem ((c.tc : Thread Cert.SibGdnOut.nD Cert.SibGdnOut.τ).loc Cert.SibGdnOut.main_arg1) = m ((c.tc : Thread Cert.SibGdnOut.nD Cert.SibGdnOut.τ).loc Cert.SibGdnOut.main_arg1))
      ∧ r.2.sem = fun _ => 0)

def quiescent_SibGdnOutIdeal [hSibGdnOutIdeal : Cert.SibGdnOutIdeal.Facts] : Prop :=
  ∀ (m : (ℓ : Loc Cert.SibGdnOutIdeal.nD Cert.SibGdnOutIdeal.τ Cert.SibGdnOutIdeal.sig) → Buf (Elt Ideal) ℓ) (g : Dev Cert.SibGdnOutIdeal.nD → PrngReg), Pre_SibGdnOutIdeal m →
    θ_run (Cert.SibGdnOutIdeal.defs (F := Ideal)) (onTc (τ := Cert.SibGdnOutIdeal.τ) (Cert.SibGdnOutIdeal.main (F := Ideal))) ⟨m, fun _ => 0, g⟩ (fun r => (∀ c : Dev Cert.SibGdnOutIdeal.nD,
      r.2.mem ((c.tc : Thread Cert.SibGdnOutIdeal.nD Cert.SibGdnOutIdeal.τ).loc Cert.SibGdnOutIdeal.main_arg0) = m ((c.tc : Thread Cert.SibGdnOutIdeal.nD Cert.SibGdnOutIdeal.τ).loc Cert.SibGdnOutIdeal.main_arg0)
      ∧ r.2.mem ((c.tc : Thread Cert.SibGdnOutIdeal.nD Cert.SibGdnOutIdeal.τ).loc Cert.SibGdnOutIdeal.main_arg1) = m ((c.tc : Thread Cert.SibGdnOutIdeal.nD Cert.SibGdnOutIdeal.τ).loc Cert.SibGdnOutIdeal.main_arg1))
      ∧ r.2.sem = fun _ => 0)

def quiescent_SibGdnOutRefIdeal [hSibGdnOutRefIdeal : Cert.SibGdnOutRefIdeal.Facts] : Prop :=
  ∀ (m : (ℓ : Loc Cert.SibGdnOutRefIdeal.nD Cert.SibGdnOutRefIdeal.τ Cert.SibGdnOutRefIdeal.sig) → Buf (Elt Ideal) ℓ) (g : Dev Cert.SibGdnOutRefIdeal.nD → PrngReg), Pre_SibGdnOutRefIdeal m →
    θ_run (Cert.SibGdnOutRefIdeal.defs (F := Ideal)) (onTc (τ := Cert.SibGdnOutRefIdeal.τ) (Cert.SibGdnOutRefIdeal.main (F := Ideal))) ⟨m, fun _ => 0, g⟩ (fun r => (∀ c : Dev Cert.SibGdnOutRefIdeal.nD,
      r.2.mem ((c.tc : Thread Cert.SibGdnOutRefIdeal.nD Cert.SibGdnOutRefIdeal.τ).loc Cert.SibGdnOutRefIdeal.main_arg0) = m ((c.tc : Thread Cert.SibGdnOutRefIdeal.nD Cert.SibGdnOutRefIdeal.τ).loc Cert.SibGdnOutRefIdeal.main_arg0)
      ∧ r.2.mem ((c.tc : Thread Cert.SibGdnOutRefIdeal.nD Cert.SibGdnOutRefIdeal.τ).loc Cert.SibGdnOutRefIdeal.main_arg1) = m ((c.tc : Thread Cert.SibGdnOutRefIdeal.nD Cert.SibGdnOutRefIdeal.τ).loc Cert.SibGdnOutRefIdeal.main_arg1))
      ∧ r.2.sem = fun _ => 0)

def quiescent_SibGdnOutRef [hSibGdnOutRef : Cert.SibGdnOutRef.Facts] : Prop :=
  ∀ (m : (ℓ : Loc Cert.SibGdnOutRef.nD Cert.SibGdnOutRef.τ Cert.SibGdnOutRef.sig) → Buf (Elt Bits) ℓ) (g : Dev Cert.SibGdnOutRef.nD → PrngReg), Pre_SibGdnOutRef m →
    θ_run (Cert.SibGdnOutRef.defs (F := Bits)) (onTc (τ := Cert.SibGdnOutRef.τ) (Cert.SibGdnOutRef.main (F := Bits))) ⟨m, fun _ => 0, g⟩ (fun r => (∀ c : Dev Cert.SibGdnOutRef.nD,
      r.2.mem ((c.tc : Thread Cert.SibGdnOutRef.nD Cert.SibGdnOutRef.τ).loc Cert.SibGdnOutRef.main_arg0) = m ((c.tc : Thread Cert.SibGdnOutRef.nD Cert.SibGdnOutRef.τ).loc Cert.SibGdnOutRef.main_arg0)
      ∧ r.2.mem ((c.tc : Thread Cert.SibGdnOutRef.nD Cert.SibGdnOutRef.τ).loc Cert.SibGdnOutRef.main_arg1) = m ((c.tc : Thread Cert.SibGdnOutRef.nD Cert.SibGdnOutRef.τ).loc Cert.SibGdnOutRef.main_arg1))
      ∧ r.2.sem = fun _ => 0)

def quiescent_SumGdnOut [hSumGdnOut : Cert.SumGdnOut.Facts] : Prop :=
  ∀ (m : (ℓ : Loc Cert.SumGdnOut.nD Cert.SumGdnOut.τ Cert.SumGdnOut.sig) → Buf (Elt Bits) ℓ) (g : Dev Cert.SumGdnOut.nD → PrngReg), Pre_SumGdnOut m →
    θ_run (Cert.SumGdnOut.defs (F := Bits)) (onTc (τ := Cert.SumGdnOut.τ) (Cert.SumGdnOut.main (F := Bits))) ⟨m, fun _ => 0, g⟩ (fun r => (∀ c : Dev Cert.SumGdnOut.nD,
      r.2.mem ((c.tc : Thread Cert.SumGdnOut.nD Cert.SumGdnOut.τ).loc Cert.SumGdnOut.main_arg0) = m ((c.tc : Thread Cert.SumGdnOut.nD Cert.SumGdnOut.τ).loc Cert.SumGdnOut.main_arg0))
      ∧ r.2.sem = fun _ => 0)

def quiescent_SumGdnOutIdeal [hSumGdnOutIdeal : Cert.SumGdnOutIdeal.Facts] : Prop :=
  ∀ (m : (ℓ : Loc Cert.SumGdnOutIdeal.nD Cert.SumGdnOutIdeal.τ Cert.SumGdnOutIdeal.sig) → Buf (Elt Ideal) ℓ) (g : Dev Cert.SumGdnOutIdeal.nD → PrngReg), Pre_SumGdnOutIdeal m →
    θ_run (Cert.SumGdnOutIdeal.defs (F := Ideal)) (onTc (τ := Cert.SumGdnOutIdeal.τ) (Cert.SumGdnOutIdeal.main (F := Ideal))) ⟨m, fun _ => 0, g⟩ (fun r => (∀ c : Dev Cert.SumGdnOutIdeal.nD,
      r.2.mem ((c.tc : Thread Cert.SumGdnOutIdeal.nD Cert.SumGdnOutIdeal.τ).loc Cert.SumGdnOutIdeal.main_arg0) = m ((c.tc : Thread Cert.SumGdnOutIdeal.nD Cert.SumGdnOutIdeal.τ).loc Cert.SumGdnOutIdeal.main_arg0))
      ∧ r.2.sem = fun _ => 0)

def quiescent_SumGdnOutRefIdeal [hSumGdnOutRefIdeal : Cert.SumGdnOutRefIdeal.Facts] : Prop :=
  ∀ (m : (ℓ : Loc Cert.SumGdnOutRefIdeal.nD Cert.SumGdnOutRefIdeal.τ Cert.SumGdnOutRefIdeal.sig) → Buf (Elt Ideal) ℓ) (g : Dev Cert.SumGdnOutRefIdeal.nD → PrngReg), Pre_SumGdnOutRefIdeal m →
    θ_run (Cert.SumGdnOutRefIdeal.defs (F := Ideal)) (onTc (τ := Cert.SumGdnOutRefIdeal.τ) (Cert.SumGdnOutRefIdeal.main (F := Ideal))) ⟨m, fun _ => 0, g⟩ (fun r => (∀ c : Dev Cert.SumGdnOutRefIdeal.nD,
      r.2.mem ((c.tc : Thread Cert.SumGdnOutRefIdeal.nD Cert.SumGdnOutRefIdeal.τ).loc Cert.SumGdnOutRefIdeal.main_arg0) = m ((c.tc : Thread Cert.SumGdnOutRefIdeal.nD Cert.SumGdnOutRefIdeal.τ).loc Cert.SumGdnOutRefIdeal.main_arg0))
      ∧ r.2.sem = fun _ => 0)

def quiescent_ModLocal [hModLocal : Cert.ModLocal.Facts] : Prop :=
  ∀ (m : (ℓ : Loc Cert.ModLocal.nD Cert.ModLocal.τ Cert.ModLocal.sig) → Buf (Elt Bits) ℓ) (g : Dev Cert.ModLocal.nD → PrngReg), Pre_ModLocal m →
    θ_run (Cert.ModLocal.defs (F := Bits)) (onTc (τ := Cert.ModLocal.τ) (Cert.ModLocal.main (F := Bits))) ⟨m, fun _ => 0, g⟩ (fun r => (∀ c : Dev Cert.ModLocal.nD,
      r.2.mem ((c.tc : Thread Cert.ModLocal.nD Cert.ModLocal.τ).loc Cert.ModLocal.main_arg0) = m ((c.tc : Thread Cert.ModLocal.nD Cert.ModLocal.τ).loc Cert.ModLocal.main_arg0)
      ∧ r.2.mem ((c.tc : Thread Cert.ModLocal.nD Cert.ModLocal.τ).loc Cert.ModLocal.main_arg1) = m ((c.tc : Thread Cert.ModLocal.nD Cert.ModLocal.τ).loc Cert.ModLocal.main_arg1))
      ∧ r.2.sem = fun _ => 0)

def quiescent_ModLocalIdeal [hModLocalIdeal : Cert.ModLocalIdeal.Facts] : Prop :=
  ∀ (m : (ℓ : Loc Cert.ModLocalIdeal.nD Cert.ModLocalIdeal.τ Cert.ModLocalIdeal.sig) → Buf (Elt Ideal) ℓ) (g : Dev Cert.ModLocalIdeal.nD → PrngReg), Pre_ModLocalIdeal m →
    θ_run (Cert.ModLocalIdeal.defs (F := Ideal)) (onTc (τ := Cert.ModLocalIdeal.τ) (Cert.ModLocalIdeal.main (F := Ideal))) ⟨m, fun _ => 0, g⟩ (fun r => (∀ c : Dev Cert.ModLocalIdeal.nD,
      r.2.mem ((c.tc : Thread Cert.ModLocalIdeal.nD Cert.ModLocalIdeal.τ).loc Cert.ModLocalIdeal.main_arg0) = m ((c.tc : Thread Cert.ModLocalIdeal.nD Cert.ModLocalIdeal.τ).loc Cert.ModLocalIdeal.main_arg0)
      ∧ r.2.mem ((c.tc : Thread Cert.ModLocalIdeal.nD Cert.ModLocalIdeal.τ).loc Cert.ModLocalIdeal.main_arg1) = m ((c.tc : Thread Cert.ModLocalIdeal.nD Cert.ModLocalIdeal.τ).loc Cert.ModLocalIdeal.main_arg1))
      ∧ r.2.sem = fun _ => 0)

def quiescent_ModLocalRefIdeal [hModLocalRefIdeal : Cert.ModLocalRefIdeal.Facts] : Prop :=
  ∀ (m : (ℓ : Loc Cert.ModLocalRefIdeal.nD Cert.ModLocalRefIdeal.τ Cert.ModLocalRefIdeal.sig) → Buf (Elt Ideal) ℓ) (g : Dev Cert.ModLocalRefIdeal.nD → PrngReg), Pre_ModLocalRefIdeal m →
    θ_run (Cert.ModLocalRefIdeal.defs (F := Ideal)) (onTc (τ := Cert.ModLocalRefIdeal.τ) (Cert.ModLocalRefIdeal.main (F := Ideal))) ⟨m, fun _ => 0, g⟩ (fun r => (∀ c : Dev Cert.ModLocalRefIdeal.nD,
      r.2.mem ((c.tc : Thread Cert.ModLocalRefIdeal.nD Cert.ModLocalRefIdeal.τ).loc Cert.ModLocalRefIdeal.main_arg0) = m ((c.tc : Thread Cert.ModLocalRefIdeal.nD Cert.ModLocalRefIdeal.τ).loc Cert.ModLocalRefIdeal.main_arg0)
      ∧ r.2.mem ((c.tc : Thread Cert.ModLocalRefIdeal.nD Cert.ModLocalRefIdeal.τ).loc Cert.ModLocalRefIdeal.main_arg1) = m ((c.tc : Thread Cert.ModLocalRefIdeal.nD Cert.ModLocalRefIdeal.τ).loc Cert.ModLocalRefIdeal.main_arg1))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_DwAb [hDwAb : Cert.DwAb.Facts] : Prop :=
  ∀ (m : (ℓ : Loc Cert.DwAb.nD Cert.DwAb.τ Cert.DwAb.sig) → Buf (Elt Bits) ℓ) (g : Dev Cert.DwAb.nD → PrngReg), Pre_DwAb m →
    θ_run (Cert.DwAb.defs (F := Bits)) (onTc (τ := Cert.DwAb.τ) (Cert.DwAb.main (F := Bits))) ⟨m, fun _ => 0, g⟩ (fun r => (∀ c : Dev Cert.DwAb.nD,
      r.2.mem ((c.tc : Thread Cert.DwAb.nD Cert.DwAb.τ).loc Cert.DwAb.main_arg0) = m ((c.tc : Thread Cert.DwAb.nD Cert.DwAb.τ).loc Cert.DwAb.main_arg0)
      ∧ r.2.mem ((c.tc : Thread Cert.DwAb.nD Cert.DwAb.τ).loc Cert.DwAb.main_arg1) = m ((c.tc : Thread Cert.DwAb.nD Cert.DwAb.τ).loc Cert.DwAb.main_arg1))
      ∧ r.2.sem = fun _ => 0)

def quiescent_DwAbIdeal [hDwAbIdeal : Cert.DwAbIdeal.Facts] : Prop :=
  ∀ (m : (ℓ : Loc Cert.DwAbIdeal.nD Cert.DwAbIdeal.τ Cert.DwAbIdeal.sig) → Buf (Elt Ideal) ℓ) (g : Dev Cert.DwAbIdeal.nD → PrngReg), Pre_DwAbIdeal m →
    θ_run (Cert.DwAbIdeal.defs (F := Ideal)) (onTc (τ := Cert.DwAbIdeal.τ) (Cert.DwAbIdeal.main (F := Ideal))) ⟨m, fun _ => 0, g⟩ (fun r => (∀ c : Dev Cert.DwAbIdeal.nD,
      r.2.mem ((c.tc : Thread Cert.DwAbIdeal.nD Cert.DwAbIdeal.τ).loc Cert.DwAbIdeal.main_arg0) = m ((c.tc : Thread Cert.DwAbIdeal.nD Cert.DwAbIdeal.τ).loc Cert.DwAbIdeal.main_arg0)
      ∧ r.2.mem ((c.tc : Thread Cert.DwAbIdeal.nD Cert.DwAbIdeal.τ).loc Cert.DwAbIdeal.main_arg1) = m ((c.tc : Thread Cert.DwAbIdeal.nD Cert.DwAbIdeal.τ).loc Cert.DwAbIdeal.main_arg1))
      ∧ r.2.sem = fun _ => 0)

def quiescent_DwAbRefIdeal [hDwAbRefIdeal : Cert.DwAbRefIdeal.Facts] : Prop :=
  ∀ (m : (ℓ : Loc Cert.DwAbRefIdeal.nD Cert.DwAbRefIdeal.τ Cert.DwAbRefIdeal.sig) → Buf (Elt Ideal) ℓ) (g : Dev Cert.DwAbRefIdeal.nD → PrngReg), Pre_DwAbRefIdeal m →
    θ_run (Cert.DwAbRefIdeal.defs (F := Ideal)) (onTc (τ := Cert.DwAbRefIdeal.τ) (Cert.DwAbRefIdeal.main (F := Ideal))) ⟨m, fun _ => 0, g⟩ (fun r => (∀ c : Dev Cert.DwAbRefIdeal.nD,
      r.2.mem ((c.tc : Thread Cert.DwAbRefIdeal.nD Cert.DwAbRefIdeal.τ).loc Cert.DwAbRefIdeal.main_arg0) = m ((c.tc : Thread Cert.DwAbRefIdeal.nD Cert.DwAbRefIdeal.τ).loc Cert.DwAbRefIdeal.main_arg0)
      ∧ r.2.mem ((c.tc : Thread Cert.DwAbRefIdeal.nD Cert.DwAbRefIdeal.τ).loc Cert.DwAbRefIdeal.main_arg1) = m ((c.tc : Thread Cert.DwAbRefIdeal.nD Cert.DwAbRefIdeal.τ).loc Cert.DwAbRefIdeal.main_arg1))
      ∧ r.2.sem = fun _ => 0)

def quiescent_DwGdn [hDwGdn : Cert.DwGdn.Facts] : Prop :=
  ∀ (m : (ℓ : Loc Cert.DwGdn.nD Cert.DwGdn.τ Cert.DwGdn.sig) → Buf (Elt Bits) ℓ) (g : Dev Cert.DwGdn.nD → PrngReg), Pre_DwGdn m →
    θ_run (Cert.DwGdn.defs (F := Bits)) (onTc (τ := Cert.DwGdn.τ) (Cert.DwGdn.main (F := Bits))) ⟨m, fun _ => 0, g⟩ (fun r => (∀ c : Dev Cert.DwGdn.nD,
      r.2.mem ((c.tc : Thread Cert.DwGdn.nD Cert.DwGdn.τ).loc Cert.DwGdn.main_arg0) = m ((c.tc : Thread Cert.DwGdn.nD Cert.DwGdn.τ).loc Cert.DwGdn.main_arg0)
      ∧ r.2.mem ((c.tc : Thread Cert.DwGdn.nD Cert.DwGdn.τ).loc Cert.DwGdn.main_arg1) = m ((c.tc : Thread Cert.DwGdn.nD Cert.DwGdn.τ).loc Cert.DwGdn.main_arg1))
      ∧ r.2.sem = fun _ => 0)

def quiescent_DwGdnIdeal [hDwGdnIdeal : Cert.DwGdnIdeal.Facts] : Prop :=
  ∀ (m : (ℓ : Loc Cert.DwGdnIdeal.nD Cert.DwGdnIdeal.τ Cert.DwGdnIdeal.sig) → Buf (Elt Ideal) ℓ) (g : Dev Cert.DwGdnIdeal.nD → PrngReg), Pre_DwGdnIdeal m →
    θ_run (Cert.DwGdnIdeal.defs (F := Ideal)) (onTc (τ := Cert.DwGdnIdeal.τ) (Cert.DwGdnIdeal.main (F := Ideal))) ⟨m, fun _ => 0, g⟩ (fun r => (∀ c : Dev Cert.DwGdnIdeal.nD,
      r.2.mem ((c.tc : Thread Cert.DwGdnIdeal.nD Cert.DwGdnIdeal.τ).loc Cert.DwGdnIdeal.main_arg0) = m ((c.tc : Thread Cert.DwGdnIdeal.nD Cert.DwGdnIdeal.τ).loc Cert.DwGdnIdeal.main_arg0)
      ∧ r.2.mem ((c.tc : Thread Cert.DwGdnIdeal.nD Cert.DwGdnIdeal.τ).loc Cert.DwGdnIdeal.main_arg1) = m ((c.tc : Thread Cert.DwGdnIdeal.nD Cert.DwGdnIdeal.τ).loc Cert.DwGdnIdeal.main_arg1))
      ∧ r.2.sem = fun _ => 0)

def quiescent_DwGdnRefIdeal [hDwGdnRefIdeal : Cert.DwGdnRefIdeal.Facts] : Prop :=
  ∀ (m : (ℓ : Loc Cert.DwGdnRefIdeal.nD Cert.DwGdnRefIdeal.τ Cert.DwGdnRefIdeal.sig) → Buf (Elt Ideal) ℓ) (g : Dev Cert.DwGdnRefIdeal.nD → PrngReg), Pre_DwGdnRefIdeal m →
    θ_run (Cert.DwGdnRefIdeal.defs (F := Ideal)) (onTc (τ := Cert.DwGdnRefIdeal.τ) (Cert.DwGdnRefIdeal.main (F := Ideal))) ⟨m, fun _ => 0, g⟩ (fun r => (∀ c : Dev Cert.DwGdnRefIdeal.nD,
      r.2.mem ((c.tc : Thread Cert.DwGdnRefIdeal.nD Cert.DwGdnRefIdeal.τ).loc Cert.DwGdnRefIdeal.main_arg0) = m ((c.tc : Thread Cert.DwGdnRefIdeal.nD Cert.DwGdnRefIdeal.τ).loc Cert.DwGdnRefIdeal.main_arg0)
      ∧ r.2.mem ((c.tc : Thread Cert.DwGdnRefIdeal.nD Cert.DwGdnRefIdeal.τ).loc Cert.DwGdnRefIdeal.main_arg1) = m ((c.tc : Thread Cert.DwGdnRefIdeal.nD Cert.DwGdnRefIdeal.τ).loc Cert.DwGdnRefIdeal.main_arg1))
      ∧ r.2.sem = fun _ => 0)

def quiescent_FrontAb [hFrontAb : Cert.FrontAb.Facts] : Prop :=
  ∀ (m : (ℓ : Loc Cert.FrontAb.nD Cert.FrontAb.τ Cert.FrontAb.sig) → Buf (Elt Bits) ℓ) (g : Dev Cert.FrontAb.nD → PrngReg), Pre_FrontAb m →
    θ_run (Cert.FrontAb.defs (F := Bits)) (onTc (τ := Cert.FrontAb.τ) (Cert.FrontAb.main (F := Bits))) ⟨m, fun _ => 0, g⟩ (fun r => (∀ c : Dev Cert.FrontAb.nD,
      r.2.mem ((c.tc : Thread Cert.FrontAb.nD Cert.FrontAb.τ).loc Cert.FrontAb.main_arg0) = m ((c.tc : Thread Cert.FrontAb.nD Cert.FrontAb.τ).loc Cert.FrontAb.main_arg0)
      ∧ r.2.mem ((c.tc : Thread Cert.FrontAb.nD Cert.FrontAb.τ).loc Cert.FrontAb.main_arg1) = m ((c.tc : Thread Cert.FrontAb.nD Cert.FrontAb.τ).loc Cert.FrontAb.main_arg1)
      ∧ r.2.mem ((c.tc : Thread Cert.FrontAb.nD Cert.FrontAb.τ).loc Cert.FrontAb.main_arg2) = m ((c.tc : Thread Cert.FrontAb.nD Cert.FrontAb.τ).loc Cert.FrontAb.main_arg2)
      ∧ r.2.mem ((c.tc : Thread Cert.FrontAb.nD Cert.FrontAb.τ).loc Cert.FrontAb.main_arg3) = m ((c.tc : Thread Cert.FrontAb.nD Cert.FrontAb.τ).loc Cert.FrontAb.main_arg3)
      ∧ r.2.mem ((c.tc : Thread Cert.FrontAb.nD Cert.FrontAb.τ).loc Cert.FrontAb.main_arg4) = m ((c.tc : Thread Cert.FrontAb.nD Cert.FrontAb.τ).loc Cert.FrontAb.main_arg4))
      ∧ r.2.sem = fun _ => 0)

def quiescent_FrontAbIdeal [hFrontAbIdeal : Cert.FrontAbIdeal.Facts] : Prop :=
  ∀ (m : (ℓ : Loc Cert.FrontAbIdeal.nD Cert.FrontAbIdeal.τ Cert.FrontAbIdeal.sig) → Buf (Elt Ideal) ℓ) (g : Dev Cert.FrontAbIdeal.nD → PrngReg), Pre_FrontAbIdeal m →
    θ_run (Cert.FrontAbIdeal.defs (F := Ideal)) (onTc (τ := Cert.FrontAbIdeal.τ) (Cert.FrontAbIdeal.main (F := Ideal))) ⟨m, fun _ => 0, g⟩ (fun r => (∀ c : Dev Cert.FrontAbIdeal.nD,
      r.2.mem ((c.tc : Thread Cert.FrontAbIdeal.nD Cert.FrontAbIdeal.τ).loc Cert.FrontAbIdeal.main_arg0) = m ((c.tc : Thread Cert.FrontAbIdeal.nD Cert.FrontAbIdeal.τ).loc Cert.FrontAbIdeal.main_arg0)
      ∧ r.2.mem ((c.tc : Thread Cert.FrontAbIdeal.nD Cert.FrontAbIdeal.τ).loc Cert.FrontAbIdeal.main_arg1) = m ((c.tc : Thread Cert.FrontAbIdeal.nD Cert.FrontAbIdeal.τ).loc Cert.FrontAbIdeal.main_arg1)
      ∧ r.2.mem ((c.tc : Thread Cert.FrontAbIdeal.nD Cert.FrontAbIdeal.τ).loc Cert.FrontAbIdeal.main_arg2) = m ((c.tc : Thread Cert.FrontAbIdeal.nD Cert.FrontAbIdeal.τ).loc Cert.FrontAbIdeal.main_arg2)
      ∧ r.2.mem ((c.tc : Thread Cert.FrontAbIdeal.nD Cert.FrontAbIdeal.τ).loc Cert.FrontAbIdeal.main_arg3) = m ((c.tc : Thread Cert.FrontAbIdeal.nD Cert.FrontAbIdeal.τ).loc Cert.FrontAbIdeal.main_arg3)
      ∧ r.2.mem ((c.tc : Thread Cert.FrontAbIdeal.nD Cert.FrontAbIdeal.τ).loc Cert.FrontAbIdeal.main_arg4) = m ((c.tc : Thread Cert.FrontAbIdeal.nD Cert.FrontAbIdeal.τ).loc Cert.FrontAbIdeal.main_arg4))
      ∧ r.2.sem = fun _ => 0)

def quiescent_FrontAbRefIdeal [hFrontAbRefIdeal : Cert.FrontAbRefIdeal.Facts] : Prop :=
  ∀ (m : (ℓ : Loc Cert.FrontAbRefIdeal.nD Cert.FrontAbRefIdeal.τ Cert.FrontAbRefIdeal.sig) → Buf (Elt Ideal) ℓ) (g : Dev Cert.FrontAbRefIdeal.nD → PrngReg), Pre_FrontAbRefIdeal m →
    θ_run (Cert.FrontAbRefIdeal.defs (F := Ideal)) (onTc (τ := Cert.FrontAbRefIdeal.τ) (Cert.FrontAbRefIdeal.main (F := Ideal))) ⟨m, fun _ => 0, g⟩ (fun r => (∀ c : Dev Cert.FrontAbRefIdeal.nD,
      r.2.mem ((c.tc : Thread Cert.FrontAbRefIdeal.nD Cert.FrontAbRefIdeal.τ).loc Cert.FrontAbRefIdeal.main_arg0) = m ((c.tc : Thread Cert.FrontAbRefIdeal.nD Cert.FrontAbRefIdeal.τ).loc Cert.FrontAbRefIdeal.main_arg0)
      ∧ r.2.mem ((c.tc : Thread Cert.FrontAbRefIdeal.nD Cert.FrontAbRefIdeal.τ).loc Cert.FrontAbRefIdeal.main_arg1) = m ((c.tc : Thread Cert.FrontAbRefIdeal.nD Cert.FrontAbRefIdeal.τ).loc Cert.FrontAbRefIdeal.main_arg1)
      ∧ r.2.mem ((c.tc : Thread Cert.FrontAbRefIdeal.nD Cert.FrontAbRefIdeal.τ).loc Cert.FrontAbRefIdeal.main_arg2) = m ((c.tc : Thread Cert.FrontAbRefIdeal.nD Cert.FrontAbRefIdeal.τ).loc Cert.FrontAbRefIdeal.main_arg2)
      ∧ r.2.mem ((c.tc : Thread Cert.FrontAbRefIdeal.nD Cert.FrontAbRefIdeal.τ).loc Cert.FrontAbRefIdeal.main_arg3) = m ((c.tc : Thread Cert.FrontAbRefIdeal.nD Cert.FrontAbRefIdeal.τ).loc Cert.FrontAbRefIdeal.main_arg3)
      ∧ r.2.mem ((c.tc : Thread Cert.FrontAbRefIdeal.nD Cert.FrontAbRefIdeal.τ).loc Cert.FrontAbRefIdeal.main_arg4) = m ((c.tc : Thread Cert.FrontAbRefIdeal.nD Cert.FrontAbRefIdeal.τ).loc Cert.FrontAbRefIdeal.main_arg4))
      ∧ r.2.sem = fun _ => 0)

def quiescent_FrontGdn [hFrontGdn : Cert.FrontGdn.Facts] : Prop :=
  ∀ (m : (ℓ : Loc Cert.FrontGdn.nD Cert.FrontGdn.τ Cert.FrontGdn.sig) → Buf (Elt Bits) ℓ) (g : Dev Cert.FrontGdn.nD → PrngReg), Pre_FrontGdn m →
    θ_run (Cert.FrontGdn.defs (F := Bits)) (onTc (τ := Cert.FrontGdn.τ) (Cert.FrontGdn.main (F := Bits))) ⟨m, fun _ => 0, g⟩ (fun r => (∀ c : Dev Cert.FrontGdn.nD,
      r.2.mem ((c.tc : Thread Cert.FrontGdn.nD Cert.FrontGdn.τ).loc Cert.FrontGdn.main_arg0) = m ((c.tc : Thread Cert.FrontGdn.nD Cert.FrontGdn.τ).loc Cert.FrontGdn.main_arg0)
      ∧ r.2.mem ((c.tc : Thread Cert.FrontGdn.nD Cert.FrontGdn.τ).loc Cert.FrontGdn.main_arg1) = m ((c.tc : Thread Cert.FrontGdn.nD Cert.FrontGdn.τ).loc Cert.FrontGdn.main_arg1)
      ∧ r.2.mem ((c.tc : Thread Cert.FrontGdn.nD Cert.FrontGdn.τ).loc Cert.FrontGdn.main_arg2) = m ((c.tc : Thread Cert.FrontGdn.nD Cert.FrontGdn.τ).loc Cert.FrontGdn.main_arg2)
      ∧ r.2.mem ((c.tc : Thread Cert.FrontGdn.nD Cert.FrontGdn.τ).loc Cert.FrontGdn.main_arg3) = m ((c.tc : Thread Cert.FrontGdn.nD Cert.FrontGdn.τ).loc Cert.FrontGdn.main_arg3)
      ∧ r.2.mem ((c.tc : Thread Cert.FrontGdn.nD Cert.FrontGdn.τ).loc Cert.FrontGdn.main_arg4) = m ((c.tc : Thread Cert.FrontGdn.nD Cert.FrontGdn.τ).loc Cert.FrontGdn.main_arg4))
      ∧ r.2.sem = fun _ => 0)

def quiescent_FrontGdnIdeal [hFrontGdnIdeal : Cert.FrontGdnIdeal.Facts] : Prop :=
  ∀ (m : (ℓ : Loc Cert.FrontGdnIdeal.nD Cert.FrontGdnIdeal.τ Cert.FrontGdnIdeal.sig) → Buf (Elt Ideal) ℓ) (g : Dev Cert.FrontGdnIdeal.nD → PrngReg), Pre_FrontGdnIdeal m →
    θ_run (Cert.FrontGdnIdeal.defs (F := Ideal)) (onTc (τ := Cert.FrontGdnIdeal.τ) (Cert.FrontGdnIdeal.main (F := Ideal))) ⟨m, fun _ => 0, g⟩ (fun r => (∀ c : Dev Cert.FrontGdnIdeal.nD,
      r.2.mem ((c.tc : Thread Cert.FrontGdnIdeal.nD Cert.FrontGdnIdeal.τ).loc Cert.FrontGdnIdeal.main_arg0) = m ((c.tc : Thread Cert.FrontGdnIdeal.nD Cert.FrontGdnIdeal.τ).loc Cert.FrontGdnIdeal.main_arg0)
      ∧ r.2.mem ((c.tc : Thread Cert.FrontGdnIdeal.nD Cert.FrontGdnIdeal.τ).loc Cert.FrontGdnIdeal.main_arg1) = m ((c.tc : Thread Cert.FrontGdnIdeal.nD Cert.FrontGdnIdeal.τ).loc Cert.FrontGdnIdeal.main_arg1)
      ∧ r.2.mem ((c.tc : Thread Cert.FrontGdnIdeal.nD Cert.FrontGdnIdeal.τ).loc Cert.FrontGdnIdeal.main_arg2) = m ((c.tc : Thread Cert.FrontGdnIdeal.nD Cert.FrontGdnIdeal.τ).loc Cert.FrontGdnIdeal.main_arg2)
      ∧ r.2.mem ((c.tc : Thread Cert.FrontGdnIdeal.nD Cert.FrontGdnIdeal.τ).loc Cert.FrontGdnIdeal.main_arg3) = m ((c.tc : Thread Cert.FrontGdnIdeal.nD Cert.FrontGdnIdeal.τ).loc Cert.FrontGdnIdeal.main_arg3)
      ∧ r.2.mem ((c.tc : Thread Cert.FrontGdnIdeal.nD Cert.FrontGdnIdeal.τ).loc Cert.FrontGdnIdeal.main_arg4) = m ((c.tc : Thread Cert.FrontGdnIdeal.nD Cert.FrontGdnIdeal.τ).loc Cert.FrontGdnIdeal.main_arg4))
      ∧ r.2.sem = fun _ => 0)

def quiescent_FrontGdnRefIdeal [hFrontGdnRefIdeal : Cert.FrontGdnRefIdeal.Facts] : Prop :=
  ∀ (m : (ℓ : Loc Cert.FrontGdnRefIdeal.nD Cert.FrontGdnRefIdeal.τ Cert.FrontGdnRefIdeal.sig) → Buf (Elt Ideal) ℓ) (g : Dev Cert.FrontGdnRefIdeal.nD → PrngReg), Pre_FrontGdnRefIdeal m →
    θ_run (Cert.FrontGdnRefIdeal.defs (F := Ideal)) (onTc (τ := Cert.FrontGdnRefIdeal.τ) (Cert.FrontGdnRefIdeal.main (F := Ideal))) ⟨m, fun _ => 0, g⟩ (fun r => (∀ c : Dev Cert.FrontGdnRefIdeal.nD,
      r.2.mem ((c.tc : Thread Cert.FrontGdnRefIdeal.nD Cert.FrontGdnRefIdeal.τ).loc Cert.FrontGdnRefIdeal.main_arg0) = m ((c.tc : Thread Cert.FrontGdnRefIdeal.nD Cert.FrontGdnRefIdeal.τ).loc Cert.FrontGdnRefIdeal.main_arg0)
      ∧ r.2.mem ((c.tc : Thread Cert.FrontGdnRefIdeal.nD Cert.FrontGdnRefIdeal.τ).loc Cert.FrontGdnRefIdeal.main_arg1) = m ((c.tc : Thread Cert.FrontGdnRefIdeal.nD Cert.FrontGdnRefIdeal.τ).loc Cert.FrontGdnRefIdeal.main_arg1)
      ∧ r.2.mem ((c.tc : Thread Cert.FrontGdnRefIdeal.nD Cert.FrontGdnRefIdeal.τ).loc Cert.FrontGdnRefIdeal.main_arg2) = m ((c.tc : Thread Cert.FrontGdnRefIdeal.nD Cert.FrontGdnRefIdeal.τ).loc Cert.FrontGdnRefIdeal.main_arg2)
      ∧ r.2.mem ((c.tc : Thread Cert.FrontGdnRefIdeal.nD Cert.FrontGdnRefIdeal.τ).loc Cert.FrontGdnRefIdeal.main_arg3) = m ((c.tc : Thread Cert.FrontGdnRefIdeal.nD Cert.FrontGdnRefIdeal.τ).loc Cert.FrontGdnRefIdeal.main_arg3)
      ∧ r.2.mem ((c.tc : Thread Cert.FrontGdnRefIdeal.nD Cert.FrontGdnRefIdeal.τ).loc Cert.FrontGdnRefIdeal.main_arg4) = m ((c.tc : Thread Cert.FrontGdnRefIdeal.nD Cert.FrontGdnRefIdeal.τ).loc Cert.FrontGdnRefIdeal.main_arg4))
      ∧ r.2.sem = fun _ => 0)

def quiescent_Zoh [hZoh : Cert.Zoh.Facts] : Prop :=
  ∀ (m : (ℓ : Loc Cert.Zoh.nD Cert.Zoh.τ Cert.Zoh.sig) → Buf (Elt Bits) ℓ) (g : Dev Cert.Zoh.nD → PrngReg), Pre_Zoh m →
    θ_run (Cert.Zoh.defs (F := Bits)) (onTc (τ := Cert.Zoh.τ) (Cert.Zoh.main (F := Bits))) ⟨m, fun _ => 0, g⟩ (fun r => (∀ c : Dev Cert.Zoh.nD,
      r.2.mem ((c.tc : Thread Cert.Zoh.nD Cert.Zoh.τ).loc Cert.Zoh.main_arg0) = m ((c.tc : Thread Cert.Zoh.nD Cert.Zoh.τ).loc Cert.Zoh.main_arg0)
      ∧ r.2.mem ((c.tc : Thread Cert.Zoh.nD Cert.Zoh.τ).loc Cert.Zoh.main_arg1) = m ((c.tc : Thread Cert.Zoh.nD Cert.Zoh.τ).loc Cert.Zoh.main_arg1)
      ∧ r.2.mem ((c.tc : Thread Cert.Zoh.nD Cert.Zoh.τ).loc Cert.Zoh.main_arg2) = m ((c.tc : Thread Cert.Zoh.nD Cert.Zoh.τ).loc Cert.Zoh.main_arg2)
      ∧ r.2.mem ((c.tc : Thread Cert.Zoh.nD Cert.Zoh.τ).loc Cert.Zoh.main_arg3) = m ((c.tc : Thread Cert.Zoh.nD Cert.Zoh.τ).loc Cert.Zoh.main_arg3)
      ∧ r.2.mem ((c.tc : Thread Cert.Zoh.nD Cert.Zoh.τ).loc Cert.Zoh.main_arg4) = m ((c.tc : Thread Cert.Zoh.nD Cert.Zoh.τ).loc Cert.Zoh.main_arg4))
      ∧ r.2.sem = fun _ => 0)

def quiescent_ZohIdeal [hZohIdeal : Cert.ZohIdeal.Facts] : Prop :=
  ∀ (m : (ℓ : Loc Cert.ZohIdeal.nD Cert.ZohIdeal.τ Cert.ZohIdeal.sig) → Buf (Elt Ideal) ℓ) (g : Dev Cert.ZohIdeal.nD → PrngReg), Pre_ZohIdeal m →
    θ_run (Cert.ZohIdeal.defs (F := Ideal)) (onTc (τ := Cert.ZohIdeal.τ) (Cert.ZohIdeal.main (F := Ideal))) ⟨m, fun _ => 0, g⟩ (fun r => (∀ c : Dev Cert.ZohIdeal.nD,
      r.2.mem ((c.tc : Thread Cert.ZohIdeal.nD Cert.ZohIdeal.τ).loc Cert.ZohIdeal.main_arg0) = m ((c.tc : Thread Cert.ZohIdeal.nD Cert.ZohIdeal.τ).loc Cert.ZohIdeal.main_arg0)
      ∧ r.2.mem ((c.tc : Thread Cert.ZohIdeal.nD Cert.ZohIdeal.τ).loc Cert.ZohIdeal.main_arg1) = m ((c.tc : Thread Cert.ZohIdeal.nD Cert.ZohIdeal.τ).loc Cert.ZohIdeal.main_arg1)
      ∧ r.2.mem ((c.tc : Thread Cert.ZohIdeal.nD Cert.ZohIdeal.τ).loc Cert.ZohIdeal.main_arg2) = m ((c.tc : Thread Cert.ZohIdeal.nD Cert.ZohIdeal.τ).loc Cert.ZohIdeal.main_arg2)
      ∧ r.2.mem ((c.tc : Thread Cert.ZohIdeal.nD Cert.ZohIdeal.τ).loc Cert.ZohIdeal.main_arg3) = m ((c.tc : Thread Cert.ZohIdeal.nD Cert.ZohIdeal.τ).loc Cert.ZohIdeal.main_arg3)
      ∧ r.2.mem ((c.tc : Thread Cert.ZohIdeal.nD Cert.ZohIdeal.τ).loc Cert.ZohIdeal.main_arg4) = m ((c.tc : Thread Cert.ZohIdeal.nD Cert.ZohIdeal.τ).loc Cert.ZohIdeal.main_arg4))
      ∧ r.2.sem = fun _ => 0)

def quiescent_ZohRefIdeal [hZohRefIdeal : Cert.ZohRefIdeal.Facts] : Prop :=
  ∀ (m : (ℓ : Loc Cert.ZohRefIdeal.nD Cert.ZohRefIdeal.τ Cert.ZohRefIdeal.sig) → Buf (Elt Ideal) ℓ) (g : Dev Cert.ZohRefIdeal.nD → PrngReg), Pre_ZohRefIdeal m →
    θ_run (Cert.ZohRefIdeal.defs (F := Ideal)) (onTc (τ := Cert.ZohRefIdeal.τ) (Cert.ZohRefIdeal.main (F := Ideal))) ⟨m, fun _ => 0, g⟩ (fun r => (∀ c : Dev Cert.ZohRefIdeal.nD,
      r.2.mem ((c.tc : Thread Cert.ZohRefIdeal.nD Cert.ZohRefIdeal.τ).loc Cert.ZohRefIdeal.main_arg0) = m ((c.tc : Thread Cert.ZohRefIdeal.nD Cert.ZohRefIdeal.τ).loc Cert.ZohRefIdeal.main_arg0)
      ∧ r.2.mem ((c.tc : Thread Cert.ZohRefIdeal.nD Cert.ZohRefIdeal.τ).loc Cert.ZohRefIdeal.main_arg1) = m ((c.tc : Thread Cert.ZohRefIdeal.nD Cert.ZohRefIdeal.τ).loc Cert.ZohRefIdeal.main_arg1)
      ∧ r.2.mem ((c.tc : Thread Cert.ZohRefIdeal.nD Cert.ZohRefIdeal.τ).loc Cert.ZohRefIdeal.main_arg2) = m ((c.tc : Thread Cert.ZohRefIdeal.nD Cert.ZohRefIdeal.τ).loc Cert.ZohRefIdeal.main_arg2)
      ∧ r.2.mem ((c.tc : Thread Cert.ZohRefIdeal.nD Cert.ZohRefIdeal.τ).loc Cert.ZohRefIdeal.main_arg3) = m ((c.tc : Thread Cert.ZohRefIdeal.nD Cert.ZohRefIdeal.τ).loc Cert.ZohRefIdeal.main_arg3)
      ∧ r.2.mem ((c.tc : Thread Cert.ZohRefIdeal.nD Cert.ZohRefIdeal.τ).loc Cert.ZohRefIdeal.main_arg4) = m ((c.tc : Thread Cert.ZohRefIdeal.nD Cert.ZohRefIdeal.τ).loc Cert.ZohRefIdeal.main_arg4))
      ∧ r.2.sem = fun _ => 0)

def quiescent_RelBias [hRelBias : Cert.RelBias.Facts] : Prop :=
  ∀ (m : (ℓ : Loc Cert.RelBias.nD Cert.RelBias.τ Cert.RelBias.sig) → Buf (Elt Bits) ℓ) (g : Dev Cert.RelBias.nD → PrngReg), Pre_RelBias m →
    θ_run (Cert.RelBias.defs (F := Bits)) (onTc (τ := Cert.RelBias.τ) (Cert.RelBias.main (F := Bits))) ⟨m, fun _ => 0, g⟩ (fun r => (∀ c : Dev Cert.RelBias.nD,
      r.2.mem ((c.tc : Thread Cert.RelBias.nD Cert.RelBias.τ).loc Cert.RelBias.main_arg0) = m ((c.tc : Thread Cert.RelBias.nD Cert.RelBias.τ).loc Cert.RelBias.main_arg0)
      ∧ r.2.mem ((c.tc : Thread Cert.RelBias.nD Cert.RelBias.τ).loc Cert.RelBias.main_arg1) = m ((c.tc : Thread Cert.RelBias.nD Cert.RelBias.τ).loc Cert.RelBias.main_arg1))
      ∧ r.2.sem = fun _ => 0)

def quiescent_RelBiasIdeal [hRelBiasIdeal : Cert.RelBiasIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg), Pre_RelBiasIdeal m →
    θ_run (Cert.RelBiasIdeal.defs (F := Ideal)) (onTc (τ := Cert.RelBiasIdeal.τ) (Cert.RelBiasIdeal.main (F := Ideal))) ⟨m, fun _ => 0, g⟩ (fun r => (∀ c : Dev Cert.RelBiasIdeal.nD,
      r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0)
      ∧ r.2.mem ((c.tc : Thread Cert.RelBiasIdeal.nD Cert.RelBiasIdeal.τ).loc Cert.RelBiasIdeal.main_arg1) = m ((c.tc : Thread Cert.RelBiasIdeal.nD Cert.RelBiasIdeal.τ).loc Cert.RelBiasIdeal.main_arg1))
      ∧ r.2.sem = fun _ => 0)

def quiescent_RelBiasRefIdeal [hRelBiasRefIdeal : Cert.RelBiasRefIdeal.Facts] : Prop :=
  ∀ (m : (ℓ : Loc Cert.RelBiasRefIdeal.nD Cert.RelBiasRefIdeal.τ Cert.RelBiasRefIdeal.sig) → Buf (Elt Ideal) ℓ) (g : Dev Cert.RelBiasRefIdeal.nD → PrngReg), Pre_RelBiasRefIdeal m →
    θ_run (Cert.RelBiasRefIdeal.defs (F := Ideal)) (onTc (τ := Cert.RelBiasRefIdeal.τ) (Cert.RelBiasRefIdeal.main (F := Ideal))) ⟨m, fun _ => 0, g⟩ (fun r => (∀ c : Dev Cert.RelBiasRefIdeal.nD,
      r.2.mem ((c.tc : Thread Cert.RelBiasRefIdeal.nD Cert.RelBiasRefIdeal.τ).loc Cert.RelBiasRefIdeal.main_arg0) = m ((c.tc : Thread Cert.RelBiasRefIdeal.nD Cert.RelBiasRefIdeal.τ).loc Cert.RelBiasRefIdeal.main_arg0)
      ∧ r.2.mem ((c.tc : Thread Cert.RelBiasRefIdeal.nD Cert.RelBiasRefIdeal.τ).loc Cert.RelBiasRefIdeal.main_arg1) = m ((c.tc : Thread Cert.RelBiasRefIdeal.nD Cert.RelBiasRefIdeal.τ).loc Cert.RelBiasRefIdeal.main_arg1))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2)
      ∧ r.2.mem ((c.tc : Thread Cert.OutAb.nD Cert.OutAb.τ).loc Cert.OutAb.main_arg3) = m ((c.tc : Thread Cert.OutAb.nD Cert.OutAb.τ).loc Cert.OutAb.main_arg3)
      ∧ r.2.mem ((c.tc : Thread Cert.OutAb.nD Cert.OutAb.τ).loc Cert.OutAb.main_arg4) = m ((c.tc : Thread Cert.OutAb.nD Cert.OutAb.τ).loc Cert.OutAb.main_arg4)
      ∧ r.2.mem ((c.tc : Thread Cert.OutAb.nD Cert.OutAb.τ).loc Cert.OutAb.main_arg5) = m ((c.tc : Thread Cert.OutAb.nD Cert.OutAb.τ).loc Cert.OutAb.main_arg5)
      ∧ r.2.mem ((c.tc : Thread Cert.OutAb.nD Cert.OutAb.τ).loc Cert.OutAb.main_arg6) = m ((c.tc : Thread Cert.OutAb.nD Cert.OutAb.τ).loc Cert.OutAb.main_arg6)
      ∧ r.2.mem ((c.tc : Thread Cert.OutAb.nD Cert.OutAb.τ).loc Cert.OutAb.main_arg7) = m ((c.tc : Thread Cert.OutAb.nD Cert.OutAb.τ).loc Cert.OutAb.main_arg7)
      ∧ r.2.mem ((c.tc : Thread Cert.OutAb.nD Cert.OutAb.τ).loc Cert.OutAb.main_arg8) = m ((c.tc : Thread Cert.OutAb.nD Cert.OutAb.τ).loc Cert.OutAb.main_arg8)
      ∧ r.2.mem ((c.tc : Thread Cert.OutAb.nD Cert.OutAb.τ).loc Cert.OutAb.main_arg9) = m ((c.tc : Thread Cert.OutAb.nD Cert.OutAb.τ).loc Cert.OutAb.main_arg9)
      ∧ r.2.mem ((c.tc : Thread Cert.OutAb.nD Cert.OutAb.τ).loc Cert.OutAb.main_arg10) = m ((c.tc : Thread Cert.OutAb.nD Cert.OutAb.τ).loc Cert.OutAb.main_arg10)
      ∧ r.2.mem ((c.tc : Thread Cert.OutAb.nD Cert.OutAb.τ).loc Cert.OutAb.main_arg11) = m ((c.tc : Thread Cert.OutAb.nD Cert.OutAb.τ).loc Cert.OutAb.main_arg11)
      ∧ r.2.mem ((c.tc : Thread Cert.OutAb.nD Cert.OutAb.τ).loc Cert.OutAb.main_arg12) = m ((c.tc : Thread Cert.OutAb.nD Cert.OutAb.τ).loc Cert.OutAb.main_arg12))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
      ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
      ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
      ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5)
      ∧ r.2.mem ((c.tc : Thread Cert.OutAbIdeal.nD Cert.OutAbIdeal.τ).loc Cert.OutAbIdeal.main_arg6) = m ((c.tc : Thread Cert.OutAbIdeal.nD Cert.OutAbIdeal.τ).loc Cert.OutAbIdeal.main_arg6)
      ∧ r.2.mem ((c.tc : Thread Cert.OutAbIdeal.nD Cert.OutAbIdeal.τ).loc Cert.OutAbIdeal.main_arg7) = m ((c.tc : Thread Cert.OutAbIdeal.nD Cert.OutAbIdeal.τ).loc Cert.OutAbIdeal.main_arg7)
      ∧ r.2.mem ((c.tc : Thread Cert.OutAbIdeal.nD Cert.OutAbIdeal.τ).loc Cert.OutAbIdeal.main_arg8) = m ((c.tc : Thread Cert.OutAbIdeal.nD Cert.OutAbIdeal.τ).loc Cert.OutAbIdeal.main_arg8)
      ∧ r.2.mem ((c.tc : Thread Cert.OutAbIdeal.nD Cert.OutAbIdeal.τ).loc Cert.OutAbIdeal.main_arg9) = m ((c.tc : Thread Cert.OutAbIdeal.nD Cert.OutAbIdeal.τ).loc Cert.OutAbIdeal.main_arg9)
      ∧ r.2.mem ((c.tc : Thread Cert.OutAbIdeal.nD Cert.OutAbIdeal.τ).loc Cert.OutAbIdeal.main_arg10) = m ((c.tc : Thread Cert.OutAbIdeal.nD Cert.OutAbIdeal.τ).loc Cert.OutAbIdeal.main_arg10)
      ∧ r.2.mem ((c.tc : Thread Cert.OutAbIdeal.nD Cert.OutAbIdeal.τ).loc Cert.OutAbIdeal.main_arg11) = m ((c.tc : Thread Cert.OutAbIdeal.nD Cert.OutAbIdeal.τ).loc Cert.OutAbIdeal.main_arg11)
      ∧ r.2.mem ((c.tc : Thread Cert.OutAbIdeal.nD Cert.OutAbIdeal.τ).loc Cert.OutAbIdeal.main_arg12) = m ((c.tc : Thread Cert.OutAbIdeal.nD Cert.OutAbIdeal.τ).loc Cert.OutAbIdeal.main_arg12))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2)
      ∧ r.2.mem ((c.tc : Thread Cert.OutAbRefIdeal.nD Cert.OutAbRefIdeal.τ).loc Cert.OutAbRefIdeal.main_arg3) = m ((c.tc : Thread Cert.OutAbRefIdeal.nD Cert.OutAbRefIdeal.τ).loc Cert.OutAbRefIdeal.main_arg3)
      ∧ r.2.mem ((c.tc : Thread Cert.OutAbRefIdeal.nD Cert.OutAbRefIdeal.τ).loc Cert.OutAbRefIdeal.main_arg4) = m ((c.tc : Thread Cert.OutAbRefIdeal.nD Cert.OutAbRefIdeal.τ).loc Cert.OutAbRefIdeal.main_arg4)
      ∧ r.2.mem ((c.tc : Thread Cert.OutAbRefIdeal.nD Cert.OutAbRefIdeal.τ).loc Cert.OutAbRefIdeal.main_arg5) = m ((c.tc : Thread Cert.OutAbRefIdeal.nD Cert.OutAbRefIdeal.τ).loc Cert.OutAbRefIdeal.main_arg5)
      ∧ r.2.mem ((c.tc : Thread Cert.OutAbRefIdeal.nD Cert.OutAbRefIdeal.τ).loc Cert.OutAbRefIdeal.main_arg6) = m ((c.tc : Thread Cert.OutAbRefIdeal.nD Cert.OutAbRefIdeal.τ).loc Cert.OutAbRefIdeal.main_arg6)
      ∧ r.2.mem ((c.tc : Thread Cert.OutAbRefIdeal.nD Cert.OutAbRefIdeal.τ).loc Cert.OutAbRefIdeal.main_arg7) = m ((c.tc : Thread Cert.OutAbRefIdeal.nD Cert.OutAbRefIdeal.τ).loc Cert.OutAbRefIdeal.main_arg7)
      ∧ r.2.mem ((c.tc : Thread Cert.OutAbRefIdeal.nD Cert.OutAbRefIdeal.τ).loc Cert.OutAbRefIdeal.main_arg8) = m ((c.tc : Thread Cert.OutAbRefIdeal.nD Cert.OutAbRefIdeal.τ).loc Cert.OutAbRefIdeal.main_arg8)
      ∧ r.2.mem ((c.tc : Thread Cert.OutAbRefIdeal.nD Cert.OutAbRefIdeal.τ).loc Cert.OutAbRefIdeal.main_arg9) = m ((c.tc : Thread Cert.OutAbRefIdeal.nD Cert.OutAbRefIdeal.τ).loc Cert.OutAbRefIdeal.main_arg9)
      ∧ r.2.mem ((c.tc : Thread Cert.OutAbRefIdeal.nD Cert.OutAbRefIdeal.τ).loc Cert.OutAbRefIdeal.main_arg10) = m ((c.tc : Thread Cert.OutAbRefIdeal.nD Cert.OutAbRefIdeal.τ).loc Cert.OutAbRefIdeal.main_arg10)
      ∧ r.2.mem ((c.tc : Thread Cert.OutAbRefIdeal.nD Cert.OutAbRefIdeal.τ).loc Cert.OutAbRefIdeal.main_arg11) = m ((c.tc : Thread Cert.OutAbRefIdeal.nD Cert.OutAbRefIdeal.τ).loc Cert.OutAbRefIdeal.main_arg11)
      ∧ r.2.mem ((c.tc : Thread Cert.OutAbRefIdeal.nD Cert.OutAbRefIdeal.τ).loc Cert.OutAbRefIdeal.main_arg12) = m ((c.tc : Thread Cert.OutAbRefIdeal.nD Cert.OutAbRefIdeal.τ).loc Cert.OutAbRefIdeal.main_arg12))
      ∧ r.2.sem = fun _ => 0)

def quiescent_GradGdn [hGradGdn : Cert.GradGdn.Facts] : Prop :=
  ∀ (m : (ℓ : Loc Cert.GradGdn.nD Cert.GradGdn.τ Cert.GradGdn.sig) → Buf (Elt Bits) ℓ) (g : Dev Cert.GradGdn.nD → PrngReg), Pre_GradGdn m →
    θ_run (Cert.GradGdn.defs (F := Bits)) (onTc (τ := Cert.GradGdn.τ) (Cert.GradGdn.main (F := Bits))) ⟨m, fun _ => 0, g⟩ (fun r => (∀ c : Dev Cert.GradGdn.nD,
      r.2.mem ((c.tc : Thread Cert.GradGdn.nD Cert.GradGdn.τ).loc Cert.GradGdn.main_arg0) = m ((c.tc : Thread Cert.GradGdn.nD Cert.GradGdn.τ).loc Cert.GradGdn.main_arg0)
      ∧ r.2.mem ((c.tc : Thread Cert.GradGdn.nD Cert.GradGdn.τ).loc Cert.GradGdn.main_arg1) = m ((c.tc : Thread Cert.GradGdn.nD Cert.GradGdn.τ).loc Cert.GradGdn.main_arg1)
      ∧ r.2.mem ((c.tc : Thread Cert.GradGdn.nD Cert.GradGdn.τ).loc Cert.GradGdn.main_arg2) = m ((c.tc : Thread Cert.GradGdn.nD Cert.GradGdn.τ).loc Cert.GradGdn.main_arg2)
      ∧ r.2.mem ((c.tc : Thread Cert.GradGdn.nD Cert.GradGdn.τ).loc Cert.GradGdn.main_arg3) = m ((c.tc : Thread Cert.GradGdn.nD Cert.GradGdn.τ).loc Cert.GradGdn.main_arg3)
      ∧ r.2.mem ((c.tc : Thread Cert.GradGdn.nD Cert.GradGdn.τ).loc Cert.GradGdn.main_arg4) = m ((c.tc : Thread Cert.GradGdn.nD Cert.GradGdn.τ).loc Cert.GradGdn.main_arg4)
      ∧ r.2.mem ((c.tc : Thread Cert.GradGdn.nD Cert.GradGdn.τ).loc Cert.GradGdn.main_arg5) = m ((c.tc : Thread Cert.GradGdn.nD Cert.GradGdn.τ).loc Cert.GradGdn.main_arg5)
      ∧ r.2.mem ((c.tc : Thread Cert.GradGdn.nD Cert.GradGdn.τ).loc Cert.GradGdn.main_arg6) = m ((c.tc : Thread Cert.GradGdn.nD Cert.GradGdn.τ).loc Cert.GradGdn.main_arg6)
      ∧ r.2.mem ((c.tc : Thread Cert.GradGdn.nD Cert.GradGdn.τ).loc Cert.GradGdn.main_arg7) = m ((c.tc : Thread Cert.GradGdn.nD Cert.GradGdn.τ).loc Cert.GradGdn.main_arg7)
      ∧ r.2.mem ((c.tc : Thread Cert.GradGdn.nD Cert.GradGdn.τ).loc Cert.GradGdn.main_arg8) = m ((c.tc : Thread Cert.GradGdn.nD Cert.GradGdn.τ).loc Cert.GradGdn.main_arg8))
      ∧ r.2.sem = fun _ => 0)

def quiescent_GradGdnIdeal [hGradGdnIdeal : Cert.GradGdnIdeal.Facts] : Prop :=
  ∀ (m : (ℓ : Loc Cert.GradGdnIdeal.nD Cert.GradGdnIdeal.τ Cert.GradGdnIdeal.sig) → Buf (Elt Ideal) ℓ) (g : Dev Cert.GradGdnIdeal.nD → PrngReg), Pre_GradGdnIdeal m →
    θ_run (Cert.GradGdnIdeal.defs (F := Ideal)) (onTc (τ := Cert.GradGdnIdeal.τ) (Cert.GradGdnIdeal.main (F := Ideal))) ⟨m, fun _ => 0, g⟩ (fun r => (∀ c : Dev Cert.GradGdnIdeal.nD,
      r.2.mem ((c.tc : Thread Cert.GradGdnIdeal.nD Cert.GradGdnIdeal.τ).loc Cert.GradGdnIdeal.main_arg0) = m ((c.tc : Thread Cert.GradGdnIdeal.nD Cert.GradGdnIdeal.τ).loc Cert.GradGdnIdeal.main_arg0)
      ∧ r.2.mem ((c.tc : Thread Cert.GradGdnIdeal.nD Cert.GradGdnIdeal.τ).loc Cert.GradGdnIdeal.main_arg1) = m ((c.tc : Thread Cert.GradGdnIdeal.nD Cert.GradGdnIdeal.τ).loc Cert.GradGdnIdeal.main_arg1)
      ∧ r.2.mem ((c.tc : Thread Cert.GradGdnIdeal.nD Cert.GradGdnIdeal.τ).loc Cert.GradGdnIdeal.main_arg2) = m ((c.tc : Thread Cert.GradGdnIdeal.nD Cert.GradGdnIdeal.τ).loc Cert.GradGdnIdeal.main_arg2)
      ∧ r.2.mem ((c.tc : Thread Cert.GradGdnIdeal.nD Cert.GradGdnIdeal.τ).loc Cert.GradGdnIdeal.main_arg3) = m ((c.tc : Thread Cert.GradGdnIdeal.nD Cert.GradGdnIdeal.τ).loc Cert.GradGdnIdeal.main_arg3)
      ∧ r.2.mem ((c.tc : Thread Cert.GradGdnIdeal.nD Cert.GradGdnIdeal.τ).loc Cert.GradGdnIdeal.main_arg4) = m ((c.tc : Thread Cert.GradGdnIdeal.nD Cert.GradGdnIdeal.τ).loc Cert.GradGdnIdeal.main_arg4)
      ∧ r.2.mem ((c.tc : Thread Cert.GradGdnIdeal.nD Cert.GradGdnIdeal.τ).loc Cert.GradGdnIdeal.main_arg5) = m ((c.tc : Thread Cert.GradGdnIdeal.nD Cert.GradGdnIdeal.τ).loc Cert.GradGdnIdeal.main_arg5)
      ∧ r.2.mem ((c.tc : Thread Cert.GradGdnIdeal.nD Cert.GradGdnIdeal.τ).loc Cert.GradGdnIdeal.main_arg6) = m ((c.tc : Thread Cert.GradGdnIdeal.nD Cert.GradGdnIdeal.τ).loc Cert.GradGdnIdeal.main_arg6)
      ∧ r.2.mem ((c.tc : Thread Cert.GradGdnIdeal.nD Cert.GradGdnIdeal.τ).loc Cert.GradGdnIdeal.main_arg7) = m ((c.tc : Thread Cert.GradGdnIdeal.nD Cert.GradGdnIdeal.τ).loc Cert.GradGdnIdeal.main_arg7)
      ∧ r.2.mem ((c.tc : Thread Cert.GradGdnIdeal.nD Cert.GradGdnIdeal.τ).loc Cert.GradGdnIdeal.main_arg8) = m ((c.tc : Thread Cert.GradGdnIdeal.nD Cert.GradGdnIdeal.τ).loc Cert.GradGdnIdeal.main_arg8))
      ∧ r.2.sem = fun _ => 0)

def quiescent_GradGdnRefIdeal [hGradGdnRefIdeal : Cert.GradGdnRefIdeal.Facts] : Prop :=
  ∀ (m : (ℓ : Loc Cert.GradGdnRefIdeal.nD Cert.GradGdnRefIdeal.τ Cert.GradGdnRefIdeal.sig) → Buf (Elt Ideal) ℓ) (g : Dev Cert.GradGdnRefIdeal.nD → PrngReg), Pre_GradGdnRefIdeal m →
    θ_run (Cert.GradGdnRefIdeal.defs (F := Ideal)) (onTc (τ := Cert.GradGdnRefIdeal.τ) (Cert.GradGdnRefIdeal.main (F := Ideal))) ⟨m, fun _ => 0, g⟩ (fun r => (∀ c : Dev Cert.GradGdnRefIdeal.nD,
      r.2.mem ((c.tc : Thread Cert.GradGdnRefIdeal.nD Cert.GradGdnRefIdeal.τ).loc Cert.GradGdnRefIdeal.main_arg0) = m ((c.tc : Thread Cert.GradGdnRefIdeal.nD Cert.GradGdnRefIdeal.τ).loc Cert.GradGdnRefIdeal.main_arg0)
      ∧ r.2.mem ((c.tc : Thread Cert.GradGdnRefIdeal.nD Cert.GradGdnRefIdeal.τ).loc Cert.GradGdnRefIdeal.main_arg1) = m ((c.tc : Thread Cert.GradGdnRefIdeal.nD Cert.GradGdnRefIdeal.τ).loc Cert.GradGdnRefIdeal.main_arg1)
      ∧ r.2.mem ((c.tc : Thread Cert.GradGdnRefIdeal.nD Cert.GradGdnRefIdeal.τ).loc Cert.GradGdnRefIdeal.main_arg2) = m ((c.tc : Thread Cert.GradGdnRefIdeal.nD Cert.GradGdnRefIdeal.τ).loc Cert.GradGdnRefIdeal.main_arg2)
      ∧ r.2.mem ((c.tc : Thread Cert.GradGdnRefIdeal.nD Cert.GradGdnRefIdeal.τ).loc Cert.GradGdnRefIdeal.main_arg3) = m ((c.tc : Thread Cert.GradGdnRefIdeal.nD Cert.GradGdnRefIdeal.τ).loc Cert.GradGdnRefIdeal.main_arg3)
      ∧ r.2.mem ((c.tc : Thread Cert.GradGdnRefIdeal.nD Cert.GradGdnRefIdeal.τ).loc Cert.GradGdnRefIdeal.main_arg4) = m ((c.tc : Thread Cert.GradGdnRefIdeal.nD Cert.GradGdnRefIdeal.τ).loc Cert.GradGdnRefIdeal.main_arg4)
      ∧ r.2.mem ((c.tc : Thread Cert.GradGdnRefIdeal.nD Cert.GradGdnRefIdeal.τ).loc Cert.GradGdnRefIdeal.main_arg5) = m ((c.tc : Thread Cert.GradGdnRefIdeal.nD Cert.GradGdnRefIdeal.τ).loc Cert.GradGdnRefIdeal.main_arg5)
      ∧ r.2.mem ((c.tc : Thread Cert.GradGdnRefIdeal.nD Cert.GradGdnRefIdeal.τ).loc Cert.GradGdnRefIdeal.main_arg6) = m ((c.tc : Thread Cert.GradGdnRefIdeal.nD Cert.GradGdnRefIdeal.τ).loc Cert.GradGdnRefIdeal.main_arg6)
      ∧ r.2.mem ((c.tc : Thread Cert.GradGdnRefIdeal.nD Cert.GradGdnRefIdeal.τ).loc Cert.GradGdnRefIdeal.main_arg7) = m ((c.tc : Thread Cert.GradGdnRefIdeal.nD Cert.GradGdnRefIdeal.τ).loc Cert.GradGdnRefIdeal.main_arg7)
      ∧ r.2.mem ((c.tc : Thread Cert.GradGdnRefIdeal.nD Cert.GradGdnRefIdeal.τ).loc Cert.GradGdnRefIdeal.main_arg8) = m ((c.tc : Thread Cert.GradGdnRefIdeal.nD Cert.GradGdnRefIdeal.τ).loc Cert.GradGdnRefIdeal.main_arg8))
      ∧ r.2.sem = fun _ => 0)

def quiescent_ZohGrad [hZohGrad : Cert.ZohGrad.Facts] : Prop :=
  ∀ (m : (ℓ : Loc Cert.ZohGrad.nD Cert.ZohGrad.τ Cert.ZohGrad.sig) → Buf (Elt Bits) ℓ) (g : Dev Cert.ZohGrad.nD → PrngReg), Pre_ZohGrad m →
    θ_run (Cert.ZohGrad.defs (F := Bits)) (onTc (τ := Cert.ZohGrad.τ) (Cert.ZohGrad.main (F := Bits))) ⟨m, fun _ => 0, g⟩ (fun r => (∀ c : Dev Cert.ZohGrad.nD,
      r.2.mem ((c.tc : Thread Cert.ZohGrad.nD Cert.ZohGrad.τ).loc Cert.ZohGrad.main_arg0) = m ((c.tc : Thread Cert.ZohGrad.nD Cert.ZohGrad.τ).loc Cert.ZohGrad.main_arg0)
      ∧ r.2.mem ((c.tc : Thread Cert.ZohGrad.nD Cert.ZohGrad.τ).loc Cert.ZohGrad.main_arg1) = m ((c.tc : Thread Cert.ZohGrad.nD Cert.ZohGrad.τ).loc Cert.ZohGrad.main_arg1)
      ∧ r.2.mem ((c.tc : Thread Cert.ZohGrad.nD Cert.ZohGrad.τ).loc Cert.ZohGrad.main_arg2) = m ((c.tc : Thread Cert.ZohGrad.nD Cert.ZohGrad.τ).loc Cert.ZohGrad.main_arg2)
      ∧ r.2.mem ((c.tc : Thread Cert.ZohGrad.nD Cert.ZohGrad.τ).loc Cert.ZohGrad.main_arg3) = m ((c.tc : Thread Cert.ZohGrad.nD Cert.ZohGrad.τ).loc Cert.ZohGrad.main_arg3)
      ∧ r.2.mem ((c.tc : Thread Cert.ZohGrad.nD Cert.ZohGrad.τ).loc Cert.ZohGrad.main_arg4) = m ((c.tc : Thread Cert.ZohGrad.nD Cert.ZohGrad.τ).loc Cert.ZohGrad.main_arg4)
      ∧ r.2.mem ((c.tc : Thread Cert.ZohGrad.nD Cert.ZohGrad.τ).loc Cert.ZohGrad.main_arg5) = m ((c.tc : Thread Cert.ZohGrad.nD Cert.ZohGrad.τ).loc Cert.ZohGrad.main_arg5)
      ∧ r.2.mem ((c.tc : Thread Cert.ZohGrad.nD Cert.ZohGrad.τ).loc Cert.ZohGrad.main_arg6) = m ((c.tc : Thread Cert.ZohGrad.nD Cert.ZohGrad.τ).loc Cert.ZohGrad.main_arg6)
      ∧ r.2.mem ((c.tc : Thread Cert.ZohGrad.nD Cert.ZohGrad.τ).loc Cert.ZohGrad.main_arg7) = m ((c.tc : Thread Cert.ZohGrad.nD Cert.ZohGrad.τ).loc Cert.ZohGrad.main_arg7)
      ∧ r.2.mem ((c.tc : Thread Cert.ZohGrad.nD Cert.ZohGrad.τ).loc Cert.ZohGrad.main_arg8) = m ((c.tc : Thread Cert.ZohGrad.nD Cert.ZohGrad.τ).loc Cert.ZohGrad.main_arg8))
      ∧ r.2.sem = fun _ => 0)

def quiescent_ZohGradIdeal [hZohGradIdeal : Cert.ZohGradIdeal.Facts] : Prop :=
  ∀ (m : (ℓ : Loc Cert.ZohGradIdeal.nD Cert.ZohGradIdeal.τ Cert.ZohGradIdeal.sig) → Buf (Elt Ideal) ℓ) (g : Dev Cert.ZohGradIdeal.nD → PrngReg), Pre_ZohGradIdeal m →
    θ_run (Cert.ZohGradIdeal.defs (F := Ideal)) (onTc (τ := Cert.ZohGradIdeal.τ) (Cert.ZohGradIdeal.main (F := Ideal))) ⟨m, fun _ => 0, g⟩ (fun r => (∀ c : Dev Cert.ZohGradIdeal.nD,
      r.2.mem ((c.tc : Thread Cert.ZohGradIdeal.nD Cert.ZohGradIdeal.τ).loc Cert.ZohGradIdeal.main_arg0) = m ((c.tc : Thread Cert.ZohGradIdeal.nD Cert.ZohGradIdeal.τ).loc Cert.ZohGradIdeal.main_arg0)
      ∧ r.2.mem ((c.tc : Thread Cert.ZohGradIdeal.nD Cert.ZohGradIdeal.τ).loc Cert.ZohGradIdeal.main_arg1) = m ((c.tc : Thread Cert.ZohGradIdeal.nD Cert.ZohGradIdeal.τ).loc Cert.ZohGradIdeal.main_arg1)
      ∧ r.2.mem ((c.tc : Thread Cert.ZohGradIdeal.nD Cert.ZohGradIdeal.τ).loc Cert.ZohGradIdeal.main_arg2) = m ((c.tc : Thread Cert.ZohGradIdeal.nD Cert.ZohGradIdeal.τ).loc Cert.ZohGradIdeal.main_arg2)
      ∧ r.2.mem ((c.tc : Thread Cert.ZohGradIdeal.nD Cert.ZohGradIdeal.τ).loc Cert.ZohGradIdeal.main_arg3) = m ((c.tc : Thread Cert.ZohGradIdeal.nD Cert.ZohGradIdeal.τ).loc Cert.ZohGradIdeal.main_arg3)
      ∧ r.2.mem ((c.tc : Thread Cert.ZohGradIdeal.nD Cert.ZohGradIdeal.τ).loc Cert.ZohGradIdeal.main_arg4) = m ((c.tc : Thread Cert.ZohGradIdeal.nD Cert.ZohGradIdeal.τ).loc Cert.ZohGradIdeal.main_arg4)
      ∧ r.2.mem ((c.tc : Thread Cert.ZohGradIdeal.nD Cert.ZohGradIdeal.τ).loc Cert.ZohGradIdeal.main_arg5) = m ((c.tc : Thread Cert.ZohGradIdeal.nD Cert.ZohGradIdeal.τ).loc Cert.ZohGradIdeal.main_arg5)
      ∧ r.2.mem ((c.tc : Thread Cert.ZohGradIdeal.nD Cert.ZohGradIdeal.τ).loc Cert.ZohGradIdeal.main_arg6) = m ((c.tc : Thread Cert.ZohGradIdeal.nD Cert.ZohGradIdeal.τ).loc Cert.ZohGradIdeal.main_arg6)
      ∧ r.2.mem ((c.tc : Thread Cert.ZohGradIdeal.nD Cert.ZohGradIdeal.τ).loc Cert.ZohGradIdeal.main_arg7) = m ((c.tc : Thread Cert.ZohGradIdeal.nD Cert.ZohGradIdeal.τ).loc Cert.ZohGradIdeal.main_arg7)
      ∧ r.2.mem ((c.tc : Thread Cert.ZohGradIdeal.nD Cert.ZohGradIdeal.τ).loc Cert.ZohGradIdeal.main_arg8) = m ((c.tc : Thread Cert.ZohGradIdeal.nD Cert.ZohGradIdeal.τ).loc Cert.ZohGradIdeal.main_arg8))
      ∧ r.2.sem = fun _ => 0)

def quiescent_ZohGradRefIdeal [hZohGradRefIdeal : Cert.ZohGradRefIdeal.Facts] : Prop :=
  ∀ (m : (ℓ : Loc Cert.ZohGradRefIdeal.nD Cert.ZohGradRefIdeal.τ Cert.ZohGradRefIdeal.sig) → Buf (Elt Ideal) ℓ) (g : Dev Cert.ZohGradRefIdeal.nD → PrngReg), Pre_ZohGradRefIdeal m →
    θ_run (Cert.ZohGradRefIdeal.defs (F := Ideal)) (onTc (τ := Cert.ZohGradRefIdeal.τ) (Cert.ZohGradRefIdeal.main (F := Ideal))) ⟨m, fun _ => 0, g⟩ (fun r => (∀ c : Dev Cert.ZohGradRefIdeal.nD,
      r.2.mem ((c.tc : Thread Cert.ZohGradRefIdeal.nD Cert.ZohGradRefIdeal.τ).loc Cert.ZohGradRefIdeal.main_arg0) = m ((c.tc : Thread Cert.ZohGradRefIdeal.nD Cert.ZohGradRefIdeal.τ).loc Cert.ZohGradRefIdeal.main_arg0)
      ∧ r.2.mem ((c.tc : Thread Cert.ZohGradRefIdeal.nD Cert.ZohGradRefIdeal.τ).loc Cert.ZohGradRefIdeal.main_arg1) = m ((c.tc : Thread Cert.ZohGradRefIdeal.nD Cert.ZohGradRefIdeal.τ).loc Cert.ZohGradRefIdeal.main_arg1)
      ∧ r.2.mem ((c.tc : Thread Cert.ZohGradRefIdeal.nD Cert.ZohGradRefIdeal.τ).loc Cert.ZohGradRefIdeal.main_arg2) = m ((c.tc : Thread Cert.ZohGradRefIdeal.nD Cert.ZohGradRefIdeal.τ).loc Cert.ZohGradRefIdeal.main_arg2)
      ∧ r.2.mem ((c.tc : Thread Cert.ZohGradRefIdeal.nD Cert.ZohGradRefIdeal.τ).loc Cert.ZohGradRefIdeal.main_arg3) = m ((c.tc : Thread Cert.ZohGradRefIdeal.nD Cert.ZohGradRefIdeal.τ).loc Cert.ZohGradRefIdeal.main_arg3)
      ∧ r.2.mem ((c.tc : Thread Cert.ZohGradRefIdeal.nD Cert.ZohGradRefIdeal.τ).loc Cert.ZohGradRefIdeal.main_arg4) = m ((c.tc : Thread Cert.ZohGradRefIdeal.nD Cert.ZohGradRefIdeal.τ).loc Cert.ZohGradRefIdeal.main_arg4)
      ∧ r.2.mem ((c.tc : Thread Cert.ZohGradRefIdeal.nD Cert.ZohGradRefIdeal.τ).loc Cert.ZohGradRefIdeal.main_arg5) = m ((c.tc : Thread Cert.ZohGradRefIdeal.nD Cert.ZohGradRefIdeal.τ).loc Cert.ZohGradRefIdeal.main_arg5)
      ∧ r.2.mem ((c.tc : Thread Cert.ZohGradRefIdeal.nD Cert.ZohGradRefIdeal.τ).loc Cert.ZohGradRefIdeal.main_arg6) = m ((c.tc : Thread Cert.ZohGradRefIdeal.nD Cert.ZohGradRefIdeal.τ).loc Cert.ZohGradRefIdeal.main_arg6)
      ∧ r.2.mem ((c.tc : Thread Cert.ZohGradRefIdeal.nD Cert.ZohGradRefIdeal.τ).loc Cert.ZohGradRefIdeal.main_arg7) = m ((c.tc : Thread Cert.ZohGradRefIdeal.nD Cert.ZohGradRefIdeal.τ).loc Cert.ZohGradRefIdeal.main_arg7)
      ∧ r.2.mem ((c.tc : Thread Cert.ZohGradRefIdeal.nD Cert.ZohGradRefIdeal.τ).loc Cert.ZohGradRefIdeal.main_arg8) = m ((c.tc : Thread Cert.ZohGradRefIdeal.nD Cert.ZohGradRefIdeal.τ).loc Cert.ZohGradRefIdeal.main_arg8))
      ∧ r.2.sem = fun _ => 0)

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.blockN ⟨3, ![4, 512, 768]⟩ ⟨3, ![16, 1024, 768]⟩ (Layout.meshBlock [2, 2, 2] ![[0, 1], [2], []] c) (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.blockN ⟨3, ![4, 128, 1024]⟩ ⟨3, ![16, 256, 1024]⟩ (Layout.meshBlock [2, 2, 2] ![[0, 1], [2], []] c) (m' (((0 : Dev Cert.SwapRefIdeal.nD).tc : Thread Cert.SwapRefIdeal.nD Cert.SwapRefIdeal.τ).loc Cert.SwapRefIdeal.main_arg1))
      ∧ m ((c.tc : Thread Cert.SwapIdeal.nD Cert.SwapIdeal.τ).loc Cert.SwapIdeal.main_arg2) = Layout.blockN ⟨3, ![4, 64, 512]⟩ ⟨3, ![16, 128, 512]⟩ (Layout.meshBlock [2, 2, 2] ![[0, 1], [2], []] c) (m' (((0 : Dev Cert.SwapRefIdeal.nD).tc : Thread Cert.SwapRefIdeal.nD Cert.SwapRefIdeal.τ).loc Cert.SwapRefIdeal.main_arg2))
      ∧ m ((c.tc : Thread Cert.SwapIdeal.nD Cert.SwapIdeal.τ).loc Cert.SwapIdeal.main_arg3) = Layout.blockN ⟨3, ![4, 512, 1028]⟩ ⟨3, ![16, 1024, 1028]⟩ (Layout.meshBlock [2, 2, 2] ![[0, 1], [2], []] c) (m' (((0 : Dev Cert.SwapRefIdeal.nD).tc : Thread Cert.SwapRefIdeal.nD Cert.SwapRefIdeal.τ).loc Cert.SwapRefIdeal.main_arg3))
      ∧ m ((c.tc : Thread Cert.SwapIdeal.nD Cert.SwapIdeal.τ).loc Cert.SwapIdeal.main_arg4) = Layout.blockN ⟨3, ![4, 128, 1024]⟩ ⟨3, ![16, 256, 1024]⟩ (Layout.meshBlock [2, 2, 2] ![[0, 1], [2], []] c) (m' (((0 : Dev Cert.SwapRefIdeal.nD).tc : Thread Cert.SwapRefIdeal.nD Cert.SwapRefIdeal.τ).loc Cert.SwapRefIdeal.main_arg4))) →
    ∃ (v0 : Buf (Elt Ideal) (((0 : Dev Cert.SwapRefIdeal.nD).tc : Thread Cert.SwapRefIdeal.nD Cert.SwapRefIdeal.τ).loc Cert.SwapRefIdeal.main_v2)) (v1 : Buf (Elt Ideal) (((0 : Dev Cert.SwapRefIdeal.nD).tc : Thread Cert.SwapRefIdeal.nD Cert.SwapRefIdeal.τ).loc Cert.SwapRefIdeal.main_v5)) (v2 : Buf (Elt Ideal) (((0 : Dev Cert.SwapRefIdeal.nD).tc : Thread Cert.SwapRefIdeal.nD Cert.SwapRefIdeal.τ).loc Cert.SwapRefIdeal.main_v8)) (v3 : Buf (Elt Ideal) (((0 : Dev Cert.SwapRefIdeal.nD).tc : Thread Cert.SwapRefIdeal.nD Cert.SwapRefIdeal.τ).loc Cert.SwapRefIdeal.main_v11)) (v4 : Buf (Elt Ideal) (((0 : Dev Cert.SwapRefIdeal.nD).tc : Thread Cert.SwapRefIdeal.nD Cert.SwapRefIdeal.τ).loc Cert.SwapRefIdeal.main_v14)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.blockN ⟨3, ![4, 512, 768]⟩ ⟨3, ![16, 1024, 768]⟩ (Layout.meshBlock [2, 2, 2] ![[0, 1], [2], []] c) v0
          ∧ r.2.mem ((c.tc : Thread Cert.SwapIdeal.nD Cert.SwapIdeal.τ).loc Cert.SwapIdeal.main_v1_1) = Layout.blockN ⟨3, ![4, 128, 1024]⟩ ⟨3, ![16, 256, 1024]⟩ (Layout.meshBlock [2, 2, 2] ![[0, 1], [2], []] c) v1
          ∧ r.2.mem ((c.tc : Thread Cert.SwapIdeal.nD Cert.SwapIdeal.τ).loc Cert.SwapIdeal.main_v1_2) = Layout.blockN ⟨3, ![4, 64, 512]⟩ ⟨3, ![16, 128, 512]⟩ (Layout.meshBlock [2, 2, 2] ![[0, 1], [2], []] c) v2
          ∧ r.2.mem ((c.tc : Thread Cert.SwapIdeal.nD Cert.SwapIdeal.τ).loc Cert.SwapIdeal.main_v1_3) = Layout.blockN ⟨3, ![4, 512, 1028]⟩ ⟨3, ![16, 1024, 1028]⟩ (Layout.meshBlock [2, 2, 2] ![[0, 1], [2], []] c) v3
          ∧ r.2.mem ((c.tc : Thread Cert.SwapIdeal.nD Cert.SwapIdeal.τ).loc Cert.SwapIdeal.main_v1_4) = Layout.blockN ⟨3, ![4, 128, 1024]⟩ ⟨3, ![16, 256, 1024]⟩ (Layout.meshBlock [2, 2, 2] ![[0, 1], [2], []] c) v4
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
          ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
          ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
          ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v2) = v0
          ∧ r.2.mem (((0 : Dev Cert.SwapRefIdeal.nD).tc : Thread Cert.SwapRefIdeal.nD Cert.SwapRefIdeal.τ).loc Cert.SwapRefIdeal.main_v5) = v1
          ∧ r.2.mem (((0 : Dev Cert.SwapRefIdeal.nD).tc : Thread Cert.SwapRefIdeal.nD Cert.SwapRefIdeal.τ).loc Cert.SwapRefIdeal.main_v8) = v2
          ∧ r.2.mem (((0 : Dev Cert.SwapRefIdeal.nD).tc : Thread Cert.SwapRefIdeal.nD Cert.SwapRefIdeal.τ).loc Cert.SwapRefIdeal.main_v11) = v3
          ∧ r.2.mem (((0 : Dev Cert.SwapRefIdeal.nD).tc : Thread Cert.SwapRefIdeal.nD Cert.SwapRefIdeal.τ).loc Cert.SwapRefIdeal.main_v14) = v4
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1)
          ∧ r.2.mem (((0 : Dev Cert.SwapRefIdeal.nD).tc : Thread Cert.SwapRefIdeal.nD Cert.SwapRefIdeal.τ).loc Cert.SwapRefIdeal.main_arg2) = m' (((0 : Dev Cert.SwapRefIdeal.nD).tc : Thread Cert.SwapRefIdeal.nD Cert.SwapRefIdeal.τ).loc Cert.SwapRefIdeal.main_arg2)
          ∧ r.2.mem (((0 : Dev Cert.SwapRefIdeal.nD).tc : Thread Cert.SwapRefIdeal.nD Cert.SwapRefIdeal.τ).loc Cert.SwapRefIdeal.main_arg3) = m' (((0 : Dev Cert.SwapRefIdeal.nD).tc : Thread Cert.SwapRefIdeal.nD Cert.SwapRefIdeal.τ).loc Cert.SwapRefIdeal.main_arg3)
          ∧ r.2.mem (((0 : Dev Cert.SwapRefIdeal.nD).tc : Thread Cert.SwapRefIdeal.nD Cert.SwapRefIdeal.τ).loc Cert.SwapRefIdeal.main_arg4) = m' (((0 : Dev Cert.SwapRefIdeal.nD).tc : Thread Cert.SwapRefIdeal.nD Cert.SwapRefIdeal.τ).loc Cert.SwapRefIdeal.main_arg4))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.blockN ⟨3, ![4, 512, 768]⟩ ⟨3, ![16, 1024, 768]⟩ (Layout.meshBlock [2, 2, 2] ![[0, 1], [2], []] c) (m' (((0 : Dev Cert.SwapRef.nD).tc : Thread Cert.SwapRef.nD Cert.SwapRef.τ).loc Cert.SwapRef.main_arg0))
      ∧ m ((c.tc : Thread Cert.Swap.nD Cert.Swap.τ).loc Cert.Swap.main_arg1) = Layout.blockN ⟨3, ![4, 128, 1024]⟩ ⟨3, ![16, 256, 1024]⟩ (Layout.meshBlock [2, 2, 2] ![[0, 1], [2], []] c) (m' (((0 : Dev Cert.SwapRef.nD).tc : Thread Cert.SwapRef.nD Cert.SwapRef.τ).loc Cert.SwapRef.main_arg1))
      ∧ m ((c.tc : Thread Cert.Swap.nD Cert.Swap.τ).loc Cert.Swap.main_arg2) = Layout.blockN ⟨3, ![4, 64, 512]⟩ ⟨3, ![16, 128, 512]⟩ (Layout.meshBlock [2, 2, 2] ![[0, 1], [2], []] c) (m' (((0 : Dev Cert.SwapRef.nD).tc : Thread Cert.SwapRef.nD Cert.SwapRef.τ).loc Cert.SwapRef.main_arg2))
      ∧ m ((c.tc : Thread Cert.Swap.nD Cert.Swap.τ).loc Cert.Swap.main_arg3) = Layout.blockN ⟨3, ![4, 512, 1028]⟩ ⟨3, ![16, 1024, 1028]⟩ (Layout.meshBlock [2, 2, 2] ![[0, 1], [2], []] c) (m' (((0 : Dev Cert.SwapRef.nD).tc : Thread Cert.SwapRef.nD Cert.SwapRef.τ).loc Cert.SwapRef.main_arg3))
      ∧ m ((c.tc : Thread Cert.Swap.nD Cert.Swap.τ).loc Cert.Swap.main_arg4) = Layout.blockN ⟨3, ![4, 128, 1024]⟩ ⟨3, ![16, 256, 1024]⟩ (Layout.meshBlock [2, 2, 2] ![[0, 1], [2], []] c) (m' (((0 : Dev Cert.SwapRef.nD).tc : Thread Cert.SwapRef.nD Cert.SwapRef.τ).loc Cert.SwapRef.main_arg4))) →
    ∃ (v0 : Buf (Elt Bits) (((0 : Dev Cert.SwapRef.nD).tc : Thread Cert.SwapRef.nD Cert.SwapRef.τ).loc Cert.SwapRef.main_v2)) (v1 : Buf (Elt Bits) (((0 : Dev Cert.SwapRef.nD).tc : Thread Cert.SwapRef.nD Cert.SwapRef.τ).loc Cert.SwapRef.main_v5)) (v2 : Buf (Elt Bits) (((0 : Dev Cert.SwapRef.nD).tc : Thread Cert.SwapRef.nD Cert.SwapRef.τ).loc Cert.SwapRef.main_v8)) (v3 : Buf (Elt Bits) (((0 : Dev Cert.SwapRef.nD).tc : Thread Cert.SwapRef.nD Cert.SwapRef.τ).loc Cert.SwapRef.main_v11)) (v4 : Buf (Elt Bits) (((0 : Dev Cert.SwapRef.nD).tc : Thread Cert.SwapRef.nD Cert.SwapRef.τ).loc Cert.SwapRef.main_v14)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.blockN ⟨3, ![4, 512, 768]⟩ ⟨3, ![16, 1024, 768]⟩ (Layout.meshBlock [2, 2, 2] ![[0, 1], [2], []] c) v0
          ∧ r.2.mem ((c.tc : Thread Cert.Swap.nD Cert.Swap.τ).loc Cert.Swap.main_v1_1) = Layout.blockN ⟨3, ![4, 128, 1024]⟩ ⟨3, ![16, 256, 1024]⟩ (Layout.meshBlock [2, 2, 2] ![[0, 1], [2], []] c) v1
          ∧ r.2.mem ((c.tc : Thread Cert.Swap.nD Cert.Swap.τ).loc Cert.Swap.main_v1_2) = Layout.blockN ⟨3, ![4, 64, 512]⟩ ⟨3, ![16, 128, 512]⟩ (Layout.meshBlock [2, 2, 2] ![[0, 1], [2], []] c) v2
          ∧ r.2.mem ((c.tc : Thread Cert.Swap.nD Cert.Swap.τ).loc Cert.Swap.main_v1_3) = Layout.blockN ⟨3, ![4, 512, 1028]⟩ ⟨3, ![16, 1024, 1028]⟩ (Layout.meshBlock [2, 2, 2] ![[0, 1], [2], []] c) v3
          ∧ r.2.mem ((c.tc : Thread Cert.Swap.nD Cert.Swap.τ).loc Cert.Swap.main_v1_4) = Layout.blockN ⟨3, ![4, 128, 1024]⟩ ⟨3, ![16, 256, 1024]⟩ (Layout.meshBlock [2, 2, 2] ![[0, 1], [2], []] c) v4
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1)
          ∧ r.2.mem ((c.tc : Thread Cert.Swap.nD Cert.Swap.τ).loc Cert.Swap.main_arg2) = m ((c.tc : Thread Cert.Swap.nD Cert.Swap.τ).loc Cert.Swap.main_arg2)
          ∧ r.2.mem ((c.tc : Thread Cert.Swap.nD Cert.Swap.τ).loc Cert.Swap.main_arg3) = m ((c.tc : Thread Cert.Swap.nD Cert.Swap.τ).loc Cert.Swap.main_arg3)
          ∧ r.2.mem ((c.tc : Thread Cert.Swap.nD Cert.Swap.τ).loc Cert.Swap.main_arg4) = m ((c.tc : Thread Cert.Swap.nD Cert.Swap.τ).loc Cert.Swap.main_arg4))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v2) = v0
          ∧ r.2.mem (((0 : Dev Cert.SwapRef.nD).tc : Thread Cert.SwapRef.nD Cert.SwapRef.τ).loc Cert.SwapRef.main_v5) = v1
          ∧ r.2.mem (((0 : Dev Cert.SwapRef.nD).tc : Thread Cert.SwapRef.nD Cert.SwapRef.τ).loc Cert.SwapRef.main_v8) = v2
          ∧ r.2.mem (((0 : Dev Cert.SwapRef.nD).tc : Thread Cert.SwapRef.nD Cert.SwapRef.τ).loc Cert.SwapRef.main_v11) = v3
          ∧ r.2.mem (((0 : Dev Cert.SwapRef.nD).tc : Thread Cert.SwapRef.nD Cert.SwapRef.τ).loc Cert.SwapRef.main_v14) = v4
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0)
          ∧ r.2.mem (((0 : Dev Cert.SwapRef.nD).tc : Thread Cert.SwapRef.nD Cert.SwapRef.τ).loc Cert.SwapRef.main_arg1) = m' (((0 : Dev Cert.SwapRef.nD).tc : Thread Cert.SwapRef.nD Cert.SwapRef.τ).loc Cert.SwapRef.main_arg1)
          ∧ r.2.mem (((0 : Dev Cert.SwapRef.nD).tc : Thread Cert.SwapRef.nD Cert.SwapRef.τ).loc Cert.SwapRef.main_arg2) = m' (((0 : Dev Cert.SwapRef.nD).tc : Thread Cert.SwapRef.nD Cert.SwapRef.τ).loc Cert.SwapRef.main_arg2)
          ∧ r.2.mem (((0 : Dev Cert.SwapRef.nD).tc : Thread Cert.SwapRef.nD Cert.SwapRef.τ).loc Cert.SwapRef.main_arg3) = m' (((0 : Dev Cert.SwapRef.nD).tc : Thread Cert.SwapRef.nD Cert.SwapRef.τ).loc Cert.SwapRef.main_arg3)
          ∧ r.2.mem (((0 : Dev Cert.SwapRef.nD).tc : Thread Cert.SwapRef.nD Cert.SwapRef.τ).loc Cert.SwapRef.main_arg4) = m' (((0 : Dev Cert.SwapRef.nD).tc : Thread Cert.SwapRef.nD Cert.SwapRef.τ).loc Cert.SwapRef.main_arg4))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.blockN ⟨3, ![4, 512, 768]⟩ ⟨3, ![16, 1024, 768]⟩ (Layout.meshBlock [2, 2, 2] ![[0, 1], [2], []] c) (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.blockN ⟨3, ![4, 128, 1024]⟩ ⟨3, ![16, 256, 1024]⟩ (Layout.meshBlock [2, 2, 2] ![[0, 1], [2], []] c) (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.blockN ⟨3, ![4, 64, 512]⟩ ⟨3, ![16, 128, 512]⟩ (Layout.meshBlock [2, 2, 2] ![[0, 1], [2], []] c) (m' (((0 : Dev Cert.ScatterRefIdeal.nD).tc : Thread Cert.ScatterRefIdeal.nD Cert.ScatterRefIdeal.τ).loc Cert.ScatterRefIdeal.main_arg2))
      ∧ m ((c.tc : Thread Cert.ScatterIdeal.nD Cert.ScatterIdeal.τ).loc Cert.ScatterIdeal.main_arg3) = Layout.blockN ⟨3, ![4, 512, 1028]⟩ ⟨3, ![16, 1024, 1028]⟩ (Layout.meshBlock [2, 2, 2] ![[0, 1], [2], []] c) (m' (((0 : Dev Cert.ScatterRefIdeal.nD).tc : Thread Cert.ScatterRefIdeal.nD Cert.ScatterRefIdeal.τ).loc Cert.ScatterRefIdeal.main_arg3))
      ∧ m ((c.tc : Thread Cert.ScatterIdeal.nD Cert.ScatterIdeal.τ).loc Cert.ScatterIdeal.main_arg4) = Layout.blockN ⟨3, ![4, 128, 1024]⟩ ⟨3, ![16, 256, 1024]⟩ (Layout.meshBlock [2, 2, 2] ![[0, 1], [2], []] c) (m' (((0 : Dev Cert.ScatterRefIdeal.nD).tc : Thread Cert.ScatterRefIdeal.nD Cert.ScatterRefIdeal.τ).loc Cert.ScatterRefIdeal.main_arg4))) →
    ∃ (v0 : Buf (Elt Ideal) (((0 : Dev Cert.ScatterRefIdeal.nD).tc : Thread Cert.ScatterRefIdeal.nD Cert.ScatterRefIdeal.τ).loc Cert.ScatterRefIdeal.main_v2)) (v1 : Buf (Elt Ideal) (((0 : Dev Cert.ScatterRefIdeal.nD).tc : Thread Cert.ScatterRefIdeal.nD Cert.ScatterRefIdeal.τ).loc Cert.ScatterRefIdeal.main_v5)) (v2 : Buf (Elt Ideal) (((0 : Dev Cert.ScatterRefIdeal.nD).tc : Thread Cert.ScatterRefIdeal.nD Cert.ScatterRefIdeal.τ).loc Cert.ScatterRefIdeal.main_v8)) (v3 : Buf (Elt Ideal) (((0 : Dev Cert.ScatterRefIdeal.nD).tc : Thread Cert.ScatterRefIdeal.nD Cert.ScatterRefIdeal.τ).loc Cert.ScatterRefIdeal.main_v11)) (v4 : Buf (Elt Ideal) (((0 : Dev Cert.ScatterRefIdeal.nD).tc : Thread Cert.ScatterRefIdeal.nD Cert.ScatterRefIdeal.τ).loc Cert.ScatterRefIdeal.main_v14)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.blockN ⟨3, ![4, 512, 768]⟩ ⟨3, ![16, 1024, 768]⟩ (Layout.meshBlock [2, 2, 2] ![[0, 1], [2], []] c) v0
          ∧ r.2.mem ((c.tc : Thread Cert.ScatterIdeal.nD Cert.ScatterIdeal.τ).loc Cert.ScatterIdeal.main_v1_1) = Layout.blockN ⟨3, ![4, 128, 1024]⟩ ⟨3, ![16, 256, 1024]⟩ (Layout.meshBlock [2, 2, 2] ![[0, 1], [2], []] c) v1
          ∧ r.2.mem ((c.tc : Thread Cert.ScatterIdeal.nD Cert.ScatterIdeal.τ).loc Cert.ScatterIdeal.main_v1_2) = Layout.blockN ⟨3, ![4, 64, 512]⟩ ⟨3, ![16, 128, 512]⟩ (Layout.meshBlock [2, 2, 2] ![[0, 1], [2], []] c) v2
          ∧ r.2.mem ((c.tc : Thread Cert.ScatterIdeal.nD Cert.ScatterIdeal.τ).loc Cert.ScatterIdeal.main_v1_3) = Layout.blockN ⟨3, ![4, 512, 1028]⟩ ⟨3, ![16, 1024, 1028]⟩ (Layout.meshBlock [2, 2, 2] ![[0, 1], [2], []] c) v3
          ∧ r.2.mem ((c.tc : Thread Cert.ScatterIdeal.nD Cert.ScatterIdeal.τ).loc Cert.ScatterIdeal.main_v1_4) = Layout.blockN ⟨3, ![4, 128, 1024]⟩ ⟨3, ![16, 256, 1024]⟩ (Layout.meshBlock [2, 2, 2] ![[0, 1], [2], []] c) v4
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_v5) = v1
          ∧ r.2.mem (((0 : Dev Cert.ScatterRefIdeal.nD).tc : Thread Cert.ScatterRefIdeal.nD Cert.ScatterRefIdeal.τ).loc Cert.ScatterRefIdeal.main_v8) = v2
          ∧ r.2.mem (((0 : Dev Cert.ScatterRefIdeal.nD).tc : Thread Cert.ScatterRefIdeal.nD Cert.ScatterRefIdeal.τ).loc Cert.ScatterRefIdeal.main_v11) = v3
          ∧ r.2.mem (((0 : Dev Cert.ScatterRefIdeal.nD).tc : Thread Cert.ScatterRefIdeal.nD Cert.ScatterRefIdeal.τ).loc Cert.ScatterRefIdeal.main_v14) = v4
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3)
          ∧ r.2.mem (((0 : Dev Cert.ScatterRefIdeal.nD).tc : Thread Cert.ScatterRefIdeal.nD Cert.ScatterRefIdeal.τ).loc Cert.ScatterRefIdeal.main_arg4) = m' (((0 : Dev Cert.ScatterRefIdeal.nD).tc : Thread Cert.ScatterRefIdeal.nD Cert.ScatterRefIdeal.τ).loc Cert.ScatterRefIdeal.main_arg4))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.blockN ⟨3, ![4, 512, 768]⟩ ⟨3, ![16, 1024, 768]⟩ (Layout.meshBlock [2, 2, 2] ![[0, 1], [2], []] c) (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.blockN ⟨3, ![4, 128, 1024]⟩ ⟨3, ![16, 256, 1024]⟩ (Layout.meshBlock [2, 2, 2] ![[0, 1], [2], []] c) (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.blockN ⟨3, ![4, 64, 512]⟩ ⟨3, ![16, 128, 512]⟩ (Layout.meshBlock [2, 2, 2] ![[0, 1], [2], []] c) (m' (((0 : Dev Cert.ScatterRef.nD).tc : Thread Cert.ScatterRef.nD Cert.ScatterRef.τ).loc Cert.ScatterRef.main_arg2))
      ∧ m ((c.tc : Thread Cert.Scatter.nD Cert.Scatter.τ).loc Cert.Scatter.main_arg3) = Layout.blockN ⟨3, ![4, 512, 1028]⟩ ⟨3, ![16, 1024, 1028]⟩ (Layout.meshBlock [2, 2, 2] ![[0, 1], [2], []] c) (m' (((0 : Dev Cert.ScatterRef.nD).tc : Thread Cert.ScatterRef.nD Cert.ScatterRef.τ).loc Cert.ScatterRef.main_arg3))
      ∧ m ((c.tc : Thread Cert.Scatter.nD Cert.Scatter.τ).loc Cert.Scatter.main_arg4) = Layout.blockN ⟨3, ![4, 128, 1024]⟩ ⟨3, ![16, 256, 1024]⟩ (Layout.meshBlock [2, 2, 2] ![[0, 1], [2], []] c) (m' (((0 : Dev Cert.ScatterRef.nD).tc : Thread Cert.ScatterRef.nD Cert.ScatterRef.τ).loc Cert.ScatterRef.main_arg4))) →
    ∃ (v0 : Buf (Elt Bits) (((0 : Dev Cert.ScatterRef.nD).tc : Thread Cert.ScatterRef.nD Cert.ScatterRef.τ).loc Cert.ScatterRef.main_v2)) (v1 : Buf (Elt Bits) (((0 : Dev Cert.ScatterRef.nD).tc : Thread Cert.ScatterRef.nD Cert.ScatterRef.τ).loc Cert.ScatterRef.main_v5)) (v2 : Buf (Elt Bits) (((0 : Dev Cert.ScatterRef.nD).tc : Thread Cert.ScatterRef.nD Cert.ScatterRef.τ).loc Cert.ScatterRef.main_v8)) (v3 : Buf (Elt Bits) (((0 : Dev Cert.ScatterRef.nD).tc : Thread Cert.ScatterRef.nD Cert.ScatterRef.τ).loc Cert.ScatterRef.main_v11)) (v4 : Buf (Elt Bits) (((0 : Dev Cert.ScatterRef.nD).tc : Thread Cert.ScatterRef.nD Cert.ScatterRef.τ).loc Cert.ScatterRef.main_v14)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = Layout.blockN ⟨3, ![4, 512, 768]⟩ ⟨3, ![16, 1024, 768]⟩ (Layout.meshBlock [2, 2, 2] ![[0, 1], [2], []] c) v0
          ∧ r.2.mem ((c.tc : Thread Cert.Scatter.nD Cert.Scatter.τ).loc Cert.Scatter.main_v1_1) = Layout.blockN ⟨3, ![4, 128, 1024]⟩ ⟨3, ![16, 256, 1024]⟩ (Layout.meshBlock [2, 2, 2] ![[0, 1], [2], []] c) v1
          ∧ r.2.mem ((c.tc : Thread Cert.Scatter.nD Cert.Scatter.τ).loc Cert.Scatter.main_v1_2) = Layout.blockN ⟨3, ![4, 64, 512]⟩ ⟨3, ![16, 128, 512]⟩ (Layout.meshBlock [2, 2, 2] ![[0, 1], [2], []] c) v2
          ∧ r.2.mem ((c.tc : Thread Cert.Scatter.nD Cert.Scatter.τ).loc Cert.Scatter.main_v1_3) = Layout.blockN ⟨3, ![4, 512, 1028]⟩ ⟨3, ![16, 1024, 1028]⟩ (Layout.meshBlock [2, 2, 2] ![[0, 1], [2], []] c) v3
          ∧ r.2.mem ((c.tc : Thread Cert.Scatter.nD Cert.Scatter.τ).loc Cert.Scatter.main_v1_4) = Layout.blockN ⟨3, ![4, 128, 1024]⟩ ⟨3, ![16, 256, 1024]⟩ (Layout.meshBlock [2, 2, 2] ![[0, 1], [2], []] c) v4
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3)
          ∧ r.2.mem ((c.tc : Thread Cert.Scatter.nD Cert.Scatter.τ).loc Cert.Scatter.main_arg4) = m ((c.tc : Thread Cert.Scatter.nD Cert.Scatter.τ).loc Cert.Scatter.main_arg4))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_v5) = v1
          ∧ r.2.mem (((0 : Dev Cert.ScatterRef.nD).tc : Thread Cert.ScatterRef.nD Cert.ScatterRef.τ).loc Cert.ScatterRef.main_v8) = v2
          ∧ r.2.mem (((0 : Dev Cert.ScatterRef.nD).tc : Thread Cert.ScatterRef.nD Cert.ScatterRef.τ).loc Cert.ScatterRef.main_v11) = v3
          ∧ r.2.mem (((0 : Dev Cert.ScatterRef.nD).tc : Thread Cert.ScatterRef.nD Cert.ScatterRef.τ).loc Cert.ScatterRef.main_v14) = v4
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2)
          ∧ r.2.mem (((0 : Dev Cert.ScatterRef.nD).tc : Thread Cert.ScatterRef.nD Cert.ScatterRef.τ).loc Cert.ScatterRef.main_arg3) = m' (((0 : Dev Cert.ScatterRef.nD).tc : Thread Cert.ScatterRef.nD Cert.ScatterRef.τ).loc Cert.ScatterRef.main_arg3)
          ∧ r.2.mem (((0 : Dev Cert.ScatterRef.nD).tc : Thread Cert.ScatterRef.nD Cert.ScatterRef.τ).loc Cert.ScatterRef.main_arg4) = m' (((0 : Dev Cert.ScatterRef.nD).tc : Thread Cert.ScatterRef.nD Cert.ScatterRef.τ).loc Cert.ScatterRef.main_arg4))

def preserves_Pairs_PairsIdeal : Prop :=
  True

def algebraic_PairsIdeal_PairsRefIdeal [hPairsIdeal : Cert.PairsIdeal.Facts] [hPairsRefIdeal : Cert.PairsRefIdeal.Facts] : Prop :=
  ∀ (m : (ℓ : Loc Cert.PairsIdeal.nD Cert.PairsIdeal.τ Cert.PairsIdeal.sig) → Buf (Elt Ideal) ℓ) (g : Dev Cert.PairsIdeal.nD → PrngReg)
    (m' : (ℓ : Loc Cert.PairsRefIdeal.nD Cert.PairsRefIdeal.τ Cert.PairsRefIdeal.sig) → Buf (Elt Ideal) ℓ) (g' : Dev Cert.PairsRefIdeal.nD → PrngReg), Pre_PairsIdeal m →
    (∀ c : Dev Cert.PairsIdeal.nD,
      m ((c.tc : Thread Cert.PairsIdeal.nD Cert.PairsIdeal.τ).loc Cert.PairsIdeal.main_arg0) = Layout.blockN ⟨3, ![4, 512, 768]⟩ ⟨3, ![4, 1024, 768]⟩ (Layout.meshBlock [2, 2, 2] ![[], [2], []] c) (m' (((0 : Dev Cert.PairsRefIdeal.nD).tc : Thread Cert.PairsRefIdeal.nD Cert.PairsRefIdeal.τ).loc Cert.PairsRefIdeal.main_arg0))
      ∧ m ((c.tc : Thread Cert.PairsIdeal.nD Cert.PairsIdeal.τ).loc Cert.PairsIdeal.main_arg1) = Layout.blockN ⟨3, ![4, 128, 1024]⟩ ⟨3, ![4, 256, 1024]⟩ (Layout.meshBlock [2, 2, 2] ![[], [2], []] c) (m' (((0 : Dev Cert.PairsRefIdeal.nD).tc : Thread Cert.PairsRefIdeal.nD Cert.PairsRefIdeal.τ).loc Cert.PairsRefIdeal.main_arg1))
      ∧ m ((c.tc : Thread Cert.PairsIdeal.nD Cert.PairsIdeal.τ).loc Cert.PairsIdeal.main_arg2) = Layout.blockN ⟨3, ![4, 64, 512]⟩ ⟨3, ![4, 128, 512]⟩ (Layout.meshBlock [2, 2, 2] ![[], [2], []] c) (m' (((0 : Dev Cert.PairsRefIdeal.nD).tc : Thread Cert.PairsRefIdeal.nD Cert.PairsRefIdeal.τ).loc Cert.PairsRefIdeal.main_arg2))
      ∧ m ((c.tc : Thread Cert.PairsIdeal.nD Cert.PairsIdeal.τ).loc Cert.PairsIdeal.main_arg3) = Layout.blockN ⟨3, ![4, 512, 1028]⟩ ⟨3, ![4, 1024, 1028]⟩ (Layout.meshBlock [2, 2, 2] ![[], [2], []] c) (m' (((0 : Dev Cert.PairsRefIdeal.nD).tc : Thread Cert.PairsRefIdeal.nD Cert.PairsRefIdeal.τ).loc Cert.PairsRefIdeal.main_arg3))
      ∧ m ((c.tc : Thread Cert.PairsIdeal.nD Cert.PairsIdeal.τ).loc Cert.PairsIdeal.main_arg4) = Layout.blockN ⟨3, ![4, 128, 1024]⟩ ⟨3, ![4, 256, 1024]⟩ (Layout.meshBlock [2, 2, 2] ![[], [2], []] c) (m' (((0 : Dev Cert.PairsRefIdeal.nD).tc : Thread Cert.PairsRefIdeal.nD Cert.PairsRefIdeal.τ).loc Cert.PairsRefIdeal.main_arg4))) →
    ∃ (v0 : Buf (Elt Ideal) (((0 : Dev Cert.PairsRefIdeal.nD).tc : Thread Cert.PairsRefIdeal.nD Cert.PairsRefIdeal.τ).loc Cert.PairsRefIdeal.main_v1)) (v1 : Buf (Elt Ideal) (((0 : Dev Cert.PairsRefIdeal.nD).tc : Thread Cert.PairsRefIdeal.nD Cert.PairsRefIdeal.τ).loc Cert.PairsRefIdeal.main_v3)) (v2 : Buf (Elt Ideal) (((0 : Dev Cert.PairsRefIdeal.nD).tc : Thread Cert.PairsRefIdeal.nD Cert.PairsRefIdeal.τ).loc Cert.PairsRefIdeal.main_v5)) (v3 : Buf (Elt Ideal) (((0 : Dev Cert.PairsRefIdeal.nD).tc : Thread Cert.PairsRefIdeal.nD Cert.PairsRefIdeal.τ).loc Cert.PairsRefIdeal.main_v7)) (v4 : Buf (Elt Ideal) (((0 : Dev Cert.PairsRefIdeal.nD).tc : Thread Cert.PairsRefIdeal.nD Cert.PairsRefIdeal.τ).loc Cert.PairsRefIdeal.main_v9)),
      θ_run (Cert.PairsIdeal.defs (F := Ideal)) (onTc (τ := Cert.PairsIdeal.τ) (Cert.PairsIdeal.main (F := Ideal))) ⟨m, fun _ => 0, g⟩ (fun r => ∀ c : Dev Cert.PairsIdeal.nD,
          r.2.mem ((c.tc : Thread Cert.PairsIdeal.nD Cert.PairsIdeal.τ).loc Cert.PairsIdeal.main_v1_0) = v0
          ∧ r.2.mem ((c.tc : Thread Cert.PairsIdeal.nD Cert.PairsIdeal.τ).loc Cert.PairsIdeal.main_v1_1) = v1
          ∧ r.2.mem ((c.tc : Thread Cert.PairsIdeal.nD Cert.PairsIdeal.τ).loc Cert.PairsIdeal.main_v1_2) = v2
          ∧ r.2.mem ((c.tc : Thread Cert.PairsIdeal.nD Cert.PairsIdeal.τ).loc Cert.PairsIdeal.main_v1_3) = v3
          ∧ r.2.mem ((c.tc : Thread Cert.PairsIdeal.nD Cert.PairsIdeal.τ).loc Cert.PairsIdeal.main_v1_4) = v4
          ∧ r.2.mem ((c.tc : Thread Cert.PairsIdeal.nD Cert.PairsIdeal.τ).loc Cert.PairsIdeal.main_arg0) = m ((c.tc : Thread Cert.PairsIdeal.nD Cert.PairsIdeal.τ).loc Cert.PairsIdeal.main_arg0)
          ∧ r.2.mem ((c.tc : Thread Cert.PairsIdeal.nD Cert.PairsIdeal.τ).loc Cert.PairsIdeal.main_arg1) = m ((c.tc : Thread Cert.PairsIdeal.nD Cert.PairsIdeal.τ).loc Cert.PairsIdeal.main_arg1)
          ∧ r.2.mem ((c.tc : Thread Cert.PairsIdeal.nD Cert.PairsIdeal.τ).loc Cert.PairsIdeal.main_arg2) = m ((c.tc : Thread Cert.PairsIdeal.nD Cert.PairsIdeal.τ).loc Cert.PairsIdeal.main_arg2)
          ∧ r.2.mem ((c.tc : Thread Cert.PairsIdeal.nD Cert.PairsIdeal.τ).loc Cert.PairsIdeal.main_arg3) = m ((c.tc : Thread Cert.PairsIdeal.nD Cert.PairsIdeal.τ).loc Cert.PairsIdeal.main_arg3)
          ∧ r.2.mem ((c.tc : Thread Cert.PairsIdeal.nD Cert.PairsIdeal.τ).loc Cert.PairsIdeal.main_arg4) = m ((c.tc : Thread Cert.PairsIdeal.nD Cert.PairsIdeal.τ).loc Cert.PairsIdeal.main_arg4))
      ∧ θ_run (Cert.PairsRefIdeal.defs (F := Ideal)) (onTc (τ := Cert.PairsRefIdeal.τ) (Cert.PairsRefIdeal.main (F := Ideal))) ⟨m', fun _ => 0, g'⟩ (fun r =>
          r.2.mem (((0 : Dev Cert.PairsRefIdeal.nD).tc : Thread Cert.PairsRefIdeal.nD Cert.PairsRefIdeal.τ).loc Cert.PairsRefIdeal.main_v1) = v0
          ∧ r.2.mem (((0 : Dev Cert.PairsRefIdeal.nD).tc : Thread Cert.PairsRefIdeal.nD Cert.PairsRefIdeal.τ).loc Cert.PairsRefIdeal.main_v3) = v1
          ∧ r.2.mem (((0 : Dev Cert.PairsRefIdeal.nD).tc : Thread Cert.PairsRefIdeal.nD Cert.PairsRefIdeal.τ).loc Cert.PairsRefIdeal.main_v5) = v2
          ∧ r.2.mem (((0 : Dev Cert.PairsRefIdeal.nD).tc : Thread Cert.PairsRefIdeal.nD Cert.PairsRefIdeal.τ).loc Cert.PairsRefIdeal.main_v7) = v3
          ∧ r.2.mem (((0 : Dev Cert.PairsRefIdeal.nD).tc : Thread Cert.PairsRefIdeal.nD Cert.PairsRefIdeal.τ).loc Cert.PairsRefIdeal.main_v9) = v4
          ∧ r.2.mem (((0 : Dev Cert.PairsRefIdeal.nD).tc : Thread Cert.PairsRefIdeal.nD Cert.PairsRefIdeal.τ).loc Cert.PairsRefIdeal.main_arg0) = m' (((0 : Dev Cert.PairsRefIdeal.nD).tc : Thread Cert.PairsRefIdeal.nD Cert.PairsRefIdeal.τ).loc Cert.PairsRefIdeal.main_arg0)
          ∧ r.2.mem (((0 : Dev Cert.PairsRefIdeal.nD).tc : Thread Cert.PairsRefIdeal.nD Cert.PairsRefIdeal.τ).loc Cert.PairsRefIdeal.main_arg1) = m' (((0 : Dev Cert.PairsRefIdeal.nD).tc : Thread Cert.PairsRefIdeal.nD Cert.PairsRefIdeal.τ).loc Cert.PairsRefIdeal.main_arg1)
          ∧ r.2.mem (((0 : Dev Cert.PairsRefIdeal.nD).tc : Thread Cert.PairsRefIdeal.nD Cert.PairsRefIdeal.τ).loc Cert.PairsRefIdeal.main_arg2) = m' (((0 : Dev Cert.PairsRefIdeal.nD).tc : Thread Cert.PairsRefIdeal.nD Cert.PairsRefIdeal.τ).loc Cert.PairsRefIdeal.main_arg2)
          ∧ r.2.mem (((0 : Dev Cert.PairsRefIdeal.nD).tc : Thread Cert.PairsRefIdeal.nD Cert.PairsRefIdeal.τ).loc Cert.PairsRefIdeal.main_arg3) = m' (((0 : Dev Cert.PairsRefIdeal.nD).tc : Thread Cert.PairsRefIdeal.nD Cert.PairsRefIdeal.τ).loc Cert.PairsRefIdeal.main_arg3)
          ∧ r.2.mem (((0 : Dev Cert.PairsRefIdeal.nD).tc : Thread Cert.PairsRefIdeal.nD Cert.PairsRefIdeal.τ).loc Cert.PairsRefIdeal.main_arg4) = m' (((0 : Dev Cert.PairsRefIdeal.nD).tc : Thread Cert.PairsRefIdeal.nD Cert.PairsRefIdeal.τ).loc Cert.PairsRefIdeal.main_arg4))

def bitexact_Pairs_PairsRef [hPairs : Cert.Pairs.Facts] [hPairsRef : Cert.PairsRef.Facts] : Prop :=
  ∀ (m : (ℓ : Loc Cert.Pairs.nD Cert.Pairs.τ Cert.Pairs.sig) → Buf (Elt Bits) ℓ) (g : Dev Cert.Pairs.nD → PrngReg)
    (m' : (ℓ : Loc Cert.PairsRef.nD Cert.PairsRef.τ Cert.PairsRef.sig) → Buf (Elt Bits) ℓ) (g' : Dev Cert.PairsRef.nD → PrngReg), Pre_Pairs m →
    (∀ c : Dev Cert.Pairs.nD,
      m ((c.tc : Thread Cert.Pairs.nD Cert.Pairs.τ).loc Cert.Pairs.main_arg0) = Layout.blockN ⟨3, ![4, 512, 768]⟩ ⟨3, ![4, 1024, 768]⟩ (Layout.meshBlock [2, 2, 2] ![[], [2], []] c) (m' (((0 : Dev Cert.PairsRef.nD).tc : Thread Cert.PairsRef.nD Cert.PairsRef.τ).loc Cert.PairsRef.main_arg0))
      ∧ m ((c.tc : Thread Cert.Pairs.nD Cert.Pairs.τ).loc Cert.Pairs.main_arg1) = Layout.blockN ⟨3, ![4, 128, 1024]⟩ ⟨3, ![4, 256, 1024]⟩ (Layout.meshBlock [2, 2, 2] ![[], [2], []] c) (m' (((0 : Dev Cert.PairsRef.nD).tc : Thread Cert.PairsRef.nD Cert.PairsRef.τ).loc Cert.PairsRef.main_arg1))
      ∧ m ((c.tc : Thread Cert.Pairs.nD Cert.Pairs.τ).loc Cert.Pairs.main_arg2) = Layout.blockN ⟨3, ![4, 64, 512]⟩ ⟨3, ![4, 128, 512]⟩ (Layout.meshBlock [2, 2, 2] ![[], [2], []] c) (m' (((0 : Dev Cert.PairsRef.nD).tc : Thread Cert.PairsRef.nD Cert.PairsRef.τ).loc Cert.PairsRef.main_arg2))
      ∧ m ((c.tc : Thread Cert.Pairs.nD Cert.Pairs.τ).loc Cert.Pairs.main_arg3) = Layout.blockN ⟨3, ![4, 512, 1028]⟩ ⟨3, ![4, 1024, 1028]⟩ (Layout.meshBlock [2, 2, 2] ![[], [2], []] c) (m' (((0 : Dev Cert.PairsRef.nD).tc : Thread Cert.PairsRef.nD Cert.PairsRef.τ).loc Cert.PairsRef.main_arg3))
      ∧ m ((c.tc : Thread Cert.Pairs.nD Cert.Pairs.τ).loc Cert.Pairs.main_arg4) = Layout.blockN ⟨3, ![4, 128, 1024]⟩ ⟨3, ![4, 256, 1024]⟩ (Layout.meshBlock [2, 2, 2] ![[], [2], []] c) (m' (((0 : Dev Cert.PairsRef.nD).tc : Thread Cert.PairsRef.nD Cert.PairsRef.τ).loc Cert.PairsRef.main_arg4))) →
    ∃ (v0 : Buf (Elt Bits) (((0 : Dev Cert.PairsRef.nD).tc : Thread Cert.PairsRef.nD Cert.PairsRef.τ).loc Cert.PairsRef.main_v1)) (v1 : Buf (Elt Bits) (((0 : Dev Cert.PairsRef.nD).tc : Thread Cert.PairsRef.nD Cert.PairsRef.τ).loc Cert.PairsRef.main_v3)) (v2 : Buf (Elt Bits) (((0 : Dev Cert.PairsRef.nD).tc : Thread Cert.PairsRef.nD Cert.PairsRef.τ).loc Cert.PairsRef.main_v5)) (v3 : Buf (Elt Bits) (((0 : Dev Cert.PairsRef.nD).tc : Thread Cert.PairsRef.nD Cert.PairsRef.τ).loc Cert.PairsRef.main_v7)) (v4 : Buf (Elt Bits) (((0 : Dev Cert.PairsRef.nD).tc : Thread Cert.PairsRef.nD Cert.PairsRef.τ).loc Cert.PairsRef.main_v9)),
      θ_run (Cert.Pairs.defs (F := Bits)) (onTc (τ := Cert.Pairs.τ) (Cert.Pairs.main (F := Bits))) ⟨m, fun _ => 0, g⟩ (fun r => ∀ c : Dev Cert.Pairs.nD,
          r.2.mem ((c.tc : Thread Cert.Pairs.nD Cert.Pairs.τ).loc Cert.Pairs.main_v1_0) = v0
          ∧ r.2.mem ((c.tc : Thread Cert.Pairs.nD Cert.Pairs.τ).loc Cert.Pairs.main_v1_1) = v1
          ∧ r.2.mem ((c.tc : Thread Cert.Pairs.nD Cert.Pairs.τ).loc Cert.Pairs.main_v1_2) = v2
          ∧ r.2.mem ((c.tc : Thread Cert.Pairs.nD Cert.Pairs.τ).loc Cert.Pairs.main_v1_3) = v3
          ∧ r.2.mem ((c.tc : Thread Cert.Pairs.nD Cert.Pairs.τ).loc Cert.Pairs.main_v1_4) = v4
          ∧ r.2.mem ((c.tc : Thread Cert.Pairs.nD Cert.Pairs.τ).loc Cert.Pairs.main_arg0) = m ((c.tc : Thread Cert.Pairs.nD Cert.Pairs.τ).loc Cert.Pairs.main_arg0)
          ∧ r.2.mem ((c.tc : Thread Cert.Pairs.nD Cert.Pairs.τ).loc Cert.Pairs.main_arg1) = m ((c.tc : Thread Cert.Pairs.nD Cert.Pairs.τ).loc Cert.Pairs.main_arg1)
          ∧ r.2.mem ((c.tc : Thread Cert.Pairs.nD Cert.Pairs.τ).loc Cert.Pairs.main_arg2) = m ((c.tc : Thread Cert.Pairs.nD Cert.Pairs.τ).loc Cert.Pairs.main_arg2)
          ∧ r.2.mem ((c.tc : Thread Cert.Pairs.nD Cert.Pairs.τ).loc Cert.Pairs.main_arg3) = m ((c.tc : Thread Cert.Pairs.nD Cert.Pairs.τ).loc Cert.Pairs.main_arg3)
          ∧ r.2.mem ((c.tc : Thread Cert.Pairs.nD Cert.Pairs.τ).loc Cert.Pairs.main_arg4) = m ((c.tc : Thread Cert.Pairs.nD Cert.Pairs.τ).loc Cert.Pairs.main_arg4))
      ∧ θ_run (Cert.PairsRef.defs (F := Bits)) (onTc (τ := Cert.PairsRef.τ) (Cert.PairsRef.main (F := Bits))) ⟨m', fun _ => 0, g'⟩ (fun r =>
          r.2.mem (((0 : Dev Cert.PairsRef.nD).tc : Thread Cert.PairsRef.nD Cert.PairsRef.τ).loc Cert.PairsRef.main_v1) = v0
          ∧ r.2.mem (((0 : Dev Cert.PairsRef.nD).tc : Thread Cert.PairsRef.nD Cert.PairsRef.τ).loc Cert.PairsRef.main_v3) = v1
          ∧ r.2.mem (((0 : Dev Cert.PairsRef.nD).tc : Thread Cert.PairsRef.nD Cert.PairsRef.τ).loc Cert.PairsRef.main_v5) = v2
          ∧ r.2.mem (((0 : Dev Cert.PairsRef.nD).tc : Thread Cert.PairsRef.nD Cert.PairsRef.τ).loc Cert.PairsRef.main_v7) = v3
          ∧ r.2.mem (((0 : Dev Cert.PairsRef.nD).tc : Thread Cert.PairsRef.nD Cert.PairsRef.τ).loc Cert.PairsRef.main_v9) = v4
          ∧ r.2.mem (((0 : Dev Cert.PairsRef.nD).tc : Thread Cert.PairsRef.nD Cert.PairsRef.τ).loc Cert.PairsRef.main_arg0) = m' (((0 : Dev Cert.PairsRef.nD).tc : Thread Cert.PairsRef.nD Cert.PairsRef.τ).loc Cert.PairsRef.main_arg0)
          ∧ r.2.mem (((0 : Dev Cert.PairsRef.nD).tc : Thread Cert.PairsRef.nD Cert.PairsRef.τ).loc Cert.PairsRef.main_arg1) = m' (((0 : Dev Cert.PairsRef.nD).tc : Thread Cert.PairsRef.nD Cert.PairsRef.τ).loc Cert.PairsRef.main_arg1)
          ∧ r.2.mem (((0 : Dev Cert.PairsRef.nD).tc : Thread Cert.PairsRef.nD Cert.PairsRef.τ).loc Cert.PairsRef.main_arg2) = m' (((0 : Dev Cert.PairsRef.nD).tc : Thread Cert.PairsRef.nD Cert.PairsRef.τ).loc Cert.PairsRef.main_arg2)
          ∧ r.2.mem (((0 : Dev Cert.PairsRef.nD).tc : Thread Cert.PairsRef.nD Cert.PairsRef.τ).loc Cert.PairsRef.main_arg3) = m' (((0 : Dev Cert.PairsRef.nD).tc : Thread Cert.PairsRef.nD Cert.PairsRef.τ).loc Cert.PairsRef.main_arg3)
          ∧ r.2.mem (((0 : Dev Cert.PairsRef.nD).tc : Thread Cert.PairsRef.nD Cert.PairsRef.τ).loc Cert.PairsRef.main_arg4) = m' (((0 : Dev Cert.PairsRef.nD).tc : Thread Cert.PairsRef.nD Cert.PairsRef.τ).loc Cert.PairsRef.main_arg4))

def preserves_Shards_ShardsIdeal : Prop :=
  True

def algebraic_ShardsIdeal_ShardsRefIdeal [hShardsIdeal : Cert.ShardsIdeal.Facts] [hShardsRefIdeal : Cert.ShardsRefIdeal.Facts] : Prop :=
  ∀ (m : (ℓ : Loc Cert.ShardsIdeal.nD Cert.ShardsIdeal.τ Cert.ShardsIdeal.sig) → Buf (Elt Ideal) ℓ) (g : Dev Cert.ShardsIdeal.nD → PrngReg)
    (m' : (ℓ : Loc Cert.ShardsRefIdeal.nD Cert.ShardsRefIdeal.τ Cert.ShardsRefIdeal.sig) → Buf (Elt Ideal) ℓ) (g' : Dev Cert.ShardsRefIdeal.nD → PrngReg), Pre_ShardsIdeal m →
    (∀ c : Dev Cert.ShardsIdeal.nD,
      m ((c.tc : Thread Cert.ShardsIdeal.nD Cert.ShardsIdeal.τ).loc Cert.ShardsIdeal.main_arg0) = Layout.block ⟨2, ![512, 768]⟩ ⟨2, ![4096, 768]⟩ 0 8 c (m' (((0 : Dev Cert.ShardsRefIdeal.nD).tc : Thread Cert.ShardsRefIdeal.nD Cert.ShardsRefIdeal.τ).loc Cert.ShardsRefIdeal.main_arg0))
      ∧ m ((c.tc : Thread Cert.ShardsIdeal.nD Cert.ShardsIdeal.τ).loc Cert.ShardsIdeal.main_arg1) = Layout.block ⟨2, ![128, 1024]⟩ ⟨2, ![1024, 1024]⟩ 0 8 c (m' (((0 : Dev Cert.ShardsRefIdeal.nD).tc : Thread Cert.ShardsRefIdeal.nD Cert.ShardsRefIdeal.τ).loc Cert.ShardsRefIdeal.main_arg1))
      ∧ m ((c.tc : Thread Cert.ShardsIdeal.nD Cert.ShardsIdeal.τ).loc Cert.ShardsIdeal.main_arg2) = Layout.block ⟨2, ![64, 512]⟩ ⟨2, ![512, 512]⟩ 0 8 c (m' (((0 : Dev Cert.ShardsRefIdeal.nD).tc : Thread Cert.ShardsRefIdeal.nD Cert.ShardsRefIdeal.τ).loc Cert.ShardsRefIdeal.main_arg2))
      ∧ m ((c.tc : Thread Cert.ShardsIdeal.nD Cert.ShardsIdeal.τ).loc Cert.ShardsIdeal.main_arg3) = Layout.block ⟨2, ![512, 1028]⟩ ⟨2, ![4096, 1028]⟩ 0 8 c (m' (((0 : Dev Cert.ShardsRefIdeal.nD).tc : Thread Cert.ShardsRefIdeal.nD Cert.ShardsRefIdeal.τ).loc Cert.ShardsRefIdeal.main_arg3))
      ∧ m ((c.tc : Thread Cert.ShardsIdeal.nD Cert.ShardsIdeal.τ).loc Cert.ShardsIdeal.main_arg4) = Layout.block ⟨2, ![128, 1024]⟩ ⟨2, ![1024, 1024]⟩ 0 8 c (m' (((0 : Dev Cert.ShardsRefIdeal.nD).tc : Thread Cert.ShardsRefIdeal.nD Cert.ShardsRefIdeal.τ).loc Cert.ShardsRefIdeal.main_arg4))) →
    ∃ (v0 : Buf (Elt Ideal) (((0 : Dev Cert.ShardsRefIdeal.nD).tc : Thread Cert.ShardsRefIdeal.nD Cert.ShardsRefIdeal.τ).loc Cert.ShardsRefIdeal.main_v0)) (v1 : Buf (Elt Ideal) (((0 : Dev Cert.ShardsRefIdeal.nD).tc : Thread Cert.ShardsRefIdeal.nD Cert.ShardsRefIdeal.τ).loc Cert.ShardsRefIdeal.main_v1)) (v2 : Buf (Elt Ideal) (((0 : Dev Cert.ShardsRefIdeal.nD).tc : Thread Cert.ShardsRefIdeal.nD Cert.ShardsRefIdeal.τ).loc Cert.ShardsRefIdeal.main_v2)) (v3 : Buf (Elt Ideal) (((0 : Dev Cert.ShardsRefIdeal.nD).tc : Thread Cert.ShardsRefIdeal.nD Cert.ShardsRefIdeal.τ).loc Cert.ShardsRefIdeal.main_v3)) (v4 : Buf (Elt Ideal) (((0 : Dev Cert.ShardsRefIdeal.nD).tc : Thread Cert.ShardsRefIdeal.nD Cert.ShardsRefIdeal.τ).loc Cert.ShardsRefIdeal.main_v4)),
      θ_run (Cert.ShardsIdeal.defs (F := Ideal)) (onTc (τ := Cert.ShardsIdeal.τ) (Cert.ShardsIdeal.main (F := Ideal))) ⟨m, fun _ => 0, g⟩ (fun r => ∀ c : Dev Cert.ShardsIdeal.nD,
          r.2.mem ((c.tc : Thread Cert.ShardsIdeal.nD Cert.ShardsIdeal.τ).loc Cert.ShardsIdeal.main_v1_0) = Layout.blockN ⟨3, ![4, 512, 768]⟩ ⟨3, ![4, 1024, 768]⟩ (Layout.meshBlock [2, 2, 2] ![[], [2], []] c) v0
          ∧ r.2.mem ((c.tc : Thread Cert.ShardsIdeal.nD Cert.ShardsIdeal.τ).loc Cert.ShardsIdeal.main_v1_1) = Layout.blockN ⟨3, ![4, 128, 1024]⟩ ⟨3, ![4, 256, 1024]⟩ (Layout.meshBlock [2, 2, 2] ![[], [2], []] c) v1
          ∧ r.2.mem ((c.tc : Thread Cert.ShardsIdeal.nD Cert.ShardsIdeal.τ).loc Cert.ShardsIdeal.main_v1_2) = Layout.blockN ⟨3, ![4, 64, 512]⟩ ⟨3, ![4, 128, 512]⟩ (Layout.meshBlock [2, 2, 2] ![[], [2], []] c) v2
          ∧ r.2.mem ((c.tc : Thread Cert.ShardsIdeal.nD Cert.ShardsIdeal.τ).loc Cert.ShardsIdeal.main_v1_3) = Layout.blockN ⟨3, ![4, 512, 1028]⟩ ⟨3, ![4, 1024, 1028]⟩ (Layout.meshBlock [2, 2, 2] ![[], [2], []] c) v3
          ∧ r.2.mem ((c.tc : Thread Cert.ShardsIdeal.nD Cert.ShardsIdeal.τ).loc Cert.ShardsIdeal.main_v1_4) = Layout.blockN ⟨3, ![4, 128, 1024]⟩ ⟨3, ![4, 256, 1024]⟩ (Layout.meshBlock [2, 2, 2] ![[], [2], []] c) v4
          ∧ r.2.mem ((c.tc : Thread Cert.ShardsIdeal.nD Cert.ShardsIdeal.τ).loc Cert.ShardsIdeal.main_arg0) = m ((c.tc : Thread Cert.ShardsIdeal.nD Cert.ShardsIdeal.τ).loc Cert.ShardsIdeal.main_arg0)
          ∧ r.2.mem ((c.tc : Thread Cert.ShardsIdeal.nD Cert.ShardsIdeal.τ).loc Cert.ShardsIdeal.main_arg1) = m ((c.tc : Thread Cert.ShardsIdeal.nD Cert.ShardsIdeal.τ).loc Cert.ShardsIdeal.main_arg1)
          ∧ r.2.mem ((c.tc : Thread Cert.ShardsIdeal.nD Cert.ShardsIdeal.τ).loc Cert.ShardsIdeal.main_arg2) = m ((c.tc : Thread Cert.ShardsIdeal.nD Cert.ShardsIdeal.τ).loc Cert.ShardsIdeal.main_arg2)
          ∧ r.2.mem ((c.tc : Thread Cert.ShardsIdeal.nD Cert.ShardsIdeal.τ).loc Cert.ShardsIdeal.main_arg3) = m ((c.tc : Thread Cert.ShardsIdeal.nD Cert.ShardsIdeal.τ).loc Cert.ShardsIdeal.main_arg3)
          ∧ r.2.mem ((c.tc : Thread Cert.ShardsIdeal.nD Cert.ShardsIdeal.τ).loc Cert.ShardsIdeal.main_arg4) = m ((c.tc : Thread Cert.ShardsIdeal.nD Cert.ShardsIdeal.τ).loc Cert.ShardsIdeal.main_arg4))
      ∧ θ_run (Cert.ShardsRefIdeal.defs (F := Ideal)) (onTc (τ := Cert.ShardsRefIdeal.τ) (Cert.ShardsRefIdeal.main (F := Ideal))) ⟨m', fun _ => 0, g'⟩ (fun r =>
          r.2.mem (((0 : Dev Cert.ShardsRefIdeal.nD).tc : Thread Cert.ShardsRefIdeal.nD Cert.ShardsRefIdeal.τ).loc Cert.ShardsRefIdeal.main_v0) = v0
          ∧ r.2.mem (((0 : Dev Cert.ShardsRefIdeal.nD).tc : Thread Cert.ShardsRefIdeal.nD Cert.ShardsRefIdeal.τ).loc Cert.ShardsRefIdeal.main_v1) = v1
          ∧ r.2.mem (((0 : Dev Cert.ShardsRefIdeal.nD).tc : Thread Cert.ShardsRefIdeal.nD Cert.ShardsRefIdeal.τ).loc Cert.ShardsRefIdeal.main_v2) = v2
          ∧ r.2.mem (((0 : Dev Cert.ShardsRefIdeal.nD).tc : Thread Cert.ShardsRefIdeal.nD Cert.ShardsRefIdeal.τ).loc Cert.ShardsRefIdeal.main_v3) = v3
          ∧ r.2.mem (((0 : Dev Cert.ShardsRefIdeal.nD).tc : Thread Cert.ShardsRefIdeal.nD Cert.ShardsRefIdeal.τ).loc Cert.ShardsRefIdeal.main_v4) = v4
          ∧ r.2.mem (((0 : Dev Cert.ShardsRefIdeal.nD).tc : Thread Cert.ShardsRefIdeal.nD Cert.ShardsRefIdeal.τ).loc Cert.ShardsRefIdeal.main_arg0) = m' (((0 : Dev Cert.ShardsRefIdeal.nD).tc : Thread Cert.ShardsRefIdeal.nD Cert.ShardsRefIdeal.τ).loc Cert.ShardsRefIdeal.main_arg0)
          ∧ r.2.mem (((0 : Dev Cert.ShardsRefIdeal.nD).tc : Thread Cert.ShardsRefIdeal.nD Cert.ShardsRefIdeal.τ).loc Cert.ShardsRefIdeal.main_arg1) = m' (((0 : Dev Cert.ShardsRefIdeal.nD).tc : Thread Cert.ShardsRefIdeal.nD Cert.ShardsRefIdeal.τ).loc Cert.ShardsRefIdeal.main_arg1)
          ∧ r.2.mem (((0 : Dev Cert.ShardsRefIdeal.nD).tc : Thread Cert.ShardsRefIdeal.nD Cert.ShardsRefIdeal.τ).loc Cert.ShardsRefIdeal.main_arg2) = m' (((0 : Dev Cert.ShardsRefIdeal.nD).tc : Thread Cert.ShardsRefIdeal.nD Cert.ShardsRefIdeal.τ).loc Cert.ShardsRefIdeal.main_arg2)
          ∧ r.2.mem (((0 : Dev Cert.ShardsRefIdeal.nD).tc : Thread Cert.ShardsRefIdeal.nD Cert.ShardsRefIdeal.τ).loc Cert.ShardsRefIdeal.main_arg3) = m' (((0 : Dev Cert.ShardsRefIdeal.nD).tc : Thread Cert.ShardsRefIdeal.nD Cert.ShardsRefIdeal.τ).loc Cert.ShardsRefIdeal.main_arg3)
          ∧ r.2.mem (((0 : Dev Cert.ShardsRefIdeal.nD).tc : Thread Cert.ShardsRefIdeal.nD Cert.ShardsRefIdeal.τ).loc Cert.ShardsRefIdeal.main_arg4) = m' (((0 : Dev Cert.ShardsRefIdeal.nD).tc : Thread Cert.ShardsRefIdeal.nD Cert.ShardsRefIdeal.τ).loc Cert.ShardsRefIdeal.main_arg4))

def bitexact_Shards_ShardsRef [hShards : Cert.Shards.Facts] [hShardsRef : Cert.ShardsRef.Facts] : Prop :=
  ∀ (m : (ℓ : Loc Cert.Shards.nD Cert.Shards.τ Cert.Shards.sig) → Buf (Elt Bits) ℓ) (g : Dev Cert.Shards.nD → PrngReg)
    (m' : (ℓ : Loc Cert.ShardsRef.nD Cert.ShardsRef.τ Cert.ShardsRef.sig) → Buf (Elt Bits) ℓ) (g' : Dev Cert.ShardsRef.nD → PrngReg), Pre_Shards m →
    (∀ c : Dev Cert.Shards.nD,
      m ((c.tc : Thread Cert.Shards.nD Cert.Shards.τ).loc Cert.Shards.main_arg0) = Layout.block ⟨2, ![512, 768]⟩ ⟨2, ![4096, 768]⟩ 0 8 c (m' (((0 : Dev Cert.ShardsRef.nD).tc : Thread Cert.ShardsRef.nD Cert.ShardsRef.τ).loc Cert.ShardsRef.main_arg0))
      ∧ m ((c.tc : Thread Cert.Shards.nD Cert.Shards.τ).loc Cert.Shards.main_arg1) = Layout.block ⟨2, ![128, 1024]⟩ ⟨2, ![1024, 1024]⟩ 0 8 c (m' (((0 : Dev Cert.ShardsRef.nD).tc : Thread Cert.ShardsRef.nD Cert.ShardsRef.τ).loc Cert.ShardsRef.main_arg1))
      ∧ m ((c.tc : Thread Cert.Shards.nD Cert.Shards.τ).loc Cert.Shards.main_arg2) = Layout.block ⟨2, ![64, 512]⟩ ⟨2, ![512, 512]⟩ 0 8 c (m' (((0 : Dev Cert.ShardsRef.nD).tc : Thread Cert.ShardsRef.nD Cert.ShardsRef.τ).loc Cert.ShardsRef.main_arg2))
      ∧ m ((c.tc : Thread Cert.Shards.nD Cert.Shards.τ).loc Cert.Shards.main_arg3) = Layout.block ⟨2, ![512, 1028]⟩ ⟨2, ![4096, 1028]⟩ 0 8 c (m' (((0 : Dev Cert.ShardsRef.nD).tc : Thread Cert.ShardsRef.nD Cert.ShardsRef.τ).loc Cert.ShardsRef.main_arg3))
      ∧ m ((c.tc : Thread Cert.Shards.nD Cert.Shards.τ).loc Cert.Shards.main_arg4) = Layout.block ⟨2, ![128, 1024]⟩ ⟨2, ![1024, 1024]⟩ 0 8 c (m' (((0 : Dev Cert.ShardsRef.nD).tc : Thread Cert.ShardsRef.nD Cert.ShardsRef.τ).loc Cert.ShardsRef.main_arg4))) →
    ∃ (v0 : Buf (Elt Bits) (((0 : Dev Cert.ShardsRef.nD).tc : Thread Cert.ShardsRef.nD Cert.ShardsRef.τ).loc Cert.ShardsRef.main_v0)) (v1 : Buf (Elt Bits) (((0 : Dev Cert.ShardsRef.nD).tc : Thread Cert.ShardsRef.nD Cert.ShardsRef.τ).loc Cert.ShardsRef.main_v1)) (v2 : Buf (Elt Bits) (((0 : Dev Cert.ShardsRef.nD).tc : Thread Cert.ShardsRef.nD Cert.ShardsRef.τ).loc Cert.ShardsRef.main_v2)) (v3 : Buf (Elt Bits) (((0 : Dev Cert.ShardsRef.nD).tc : Thread Cert.ShardsRef.nD Cert.ShardsRef.τ).loc Cert.ShardsRef.main_v3)) (v4 : Buf (Elt Bits) (((0 : Dev Cert.ShardsRef.nD).tc : Thread Cert.ShardsRef.nD Cert.ShardsRef.τ).loc Cert.ShardsRef.main_v4)),
      θ_run (Cert.Shards.defs (F := Bits)) (onTc (τ := Cert.Shards.τ) (Cert.Shards.main (F := Bits))) ⟨m, fun _ => 0, g⟩ (fun r => ∀ c : Dev Cert.Shards.nD,
          r.2.mem ((c.tc : Thread Cert.Shards.nD Cert.Shards.τ).loc Cert.Shards.main_v1_0) = Layout.blockN ⟨3, ![4, 512, 768]⟩ ⟨3, ![4, 1024, 768]⟩ (Layout.meshBlock [2, 2, 2] ![[], [2], []] c) v0
          ∧ r.2.mem ((c.tc : Thread Cert.Shards.nD Cert.Shards.τ).loc Cert.Shards.main_v1_1) = Layout.blockN ⟨3, ![4, 128, 1024]⟩ ⟨3, ![4, 256, 1024]⟩ (Layout.meshBlock [2, 2, 2] ![[], [2], []] c) v1
          ∧ r.2.mem ((c.tc : Thread Cert.Shards.nD Cert.Shards.τ).loc Cert.Shards.main_v1_2) = Layout.blockN ⟨3, ![4, 64, 512]⟩ ⟨3, ![4, 128, 512]⟩ (Layout.meshBlock [2, 2, 2] ![[], [2], []] c) v2
          ∧ r.2.mem ((c.tc : Thread Cert.Shards.nD Cert.Shards.τ).loc Cert.Shards.main_v1_3) = Layout.blockN ⟨3, ![4, 512, 1028]⟩ ⟨3, ![4, 1024, 1028]⟩ (Layout.meshBlock [2, 2, 2] ![[], [2], []] c) v3
          ∧ r.2.mem ((c.tc : Thread Cert.Shards.nD Cert.Shards.τ).loc Cert.Shards.main_v1_4) = Layout.blockN ⟨3, ![4, 128, 1024]⟩ ⟨3, ![4, 256, 1024]⟩ (Layout.meshBlock [2, 2, 2] ![[], [2], []] c) v4
          ∧ r.2.mem ((c.tc : Thread Cert.Shards.nD Cert.Shards.τ).loc Cert.Shards.main_arg0) = m ((c.tc : Thread Cert.Shards.nD Cert.Shards.τ).loc Cert.Shards.main_arg0)
          ∧ r.2.mem ((c.tc : Thread Cert.Shards.nD Cert.Shards.τ).loc Cert.Shards.main_arg1) = m ((c.tc : Thread Cert.Shards.nD Cert.Shards.τ).loc Cert.Shards.main_arg1)
          ∧ r.2.mem ((c.tc : Thread Cert.Shards.nD Cert.Shards.τ).loc Cert.Shards.main_arg2) = m ((c.tc : Thread Cert.Shards.nD Cert.Shards.τ).loc Cert.Shards.main_arg2)
          ∧ r.2.mem ((c.tc : Thread Cert.Shards.nD Cert.Shards.τ).loc Cert.Shards.main_arg3) = m ((c.tc : Thread Cert.Shards.nD Cert.Shards.τ).loc Cert.Shards.main_arg3)
          ∧ r.2.mem ((c.tc : Thread Cert.Shards.nD Cert.Shards.τ).loc Cert.Shards.main_arg4) = m ((c.tc : Thread Cert.Shards.nD Cert.Shards.τ).loc Cert.Shards.main_arg4))
      ∧ θ_run (Cert.ShardsRef.defs (F := Bits)) (onTc (τ := Cert.ShardsRef.τ) (Cert.ShardsRef.main (F := Bits))) ⟨m', fun _ => 0, g'⟩ (fun r =>
          r.2.mem (((0 : Dev Cert.ShardsRef.nD).tc : Thread Cert.ShardsRef.nD Cert.ShardsRef.τ).loc Cert.ShardsRef.main_v0) = v0
          ∧ r.2.mem (((0 : Dev Cert.ShardsRef.nD).tc : Thread Cert.ShardsRef.nD Cert.ShardsRef.τ).loc Cert.ShardsRef.main_v1) = v1
          ∧ r.2.mem (((0 : Dev Cert.ShardsRef.nD).tc : Thread Cert.ShardsRef.nD Cert.ShardsRef.τ).loc Cert.ShardsRef.main_v2) = v2
          ∧ r.2.mem (((0 : Dev Cert.ShardsRef.nD).tc : Thread Cert.ShardsRef.nD Cert.ShardsRef.τ).loc Cert.ShardsRef.main_v3) = v3
          ∧ r.2.mem (((0 : Dev Cert.ShardsRef.nD).tc : Thread Cert.ShardsRef.nD Cert.ShardsRef.τ).loc Cert.ShardsRef.main_v4) = v4
          ∧ r.2.mem (((0 : Dev Cert.ShardsRef.nD).tc : Thread Cert.ShardsRef.nD Cert.ShardsRef.τ).loc Cert.ShardsRef.main_arg0) = m' (((0 : Dev Cert.ShardsRef.nD).tc : Thread Cert.ShardsRef.nD Cert.ShardsRef.τ).loc Cert.ShardsRef.main_arg0)
          ∧ r.2.mem (((0 : Dev Cert.ShardsRef.nD).tc : Thread Cert.ShardsRef.nD Cert.ShardsRef.τ).loc Cert.ShardsRef.main_arg1) = m' (((0 : Dev Cert.ShardsRef.nD).tc : Thread Cert.ShardsRef.nD Cert.ShardsRef.τ).loc Cert.ShardsRef.main_arg1)
          ∧ r.2.mem (((0 : Dev Cert.ShardsRef.nD).tc : Thread Cert.ShardsRef.nD Cert.ShardsRef.τ).loc Cert.ShardsRef.main_arg2) = m' (((0 : Dev Cert.ShardsRef.nD).tc : Thread Cert.ShardsRef.nD Cert.ShardsRef.τ).loc Cert.ShardsRef.main_arg2)
          ∧ r.2.mem (((0 : Dev Cert.ShardsRef.nD).tc : Thread Cert.ShardsRef.nD Cert.ShardsRef.τ).loc Cert.ShardsRef.main_arg3) = m' (((0 : Dev Cert.ShardsRef.nD).tc : Thread Cert.ShardsRef.nD Cert.ShardsRef.τ).loc Cert.ShardsRef.main_arg3)
          ∧ r.2.mem (((0 : Dev Cert.ShardsRef.nD).tc : Thread Cert.ShardsRef.nD Cert.ShardsRef.τ).loc Cert.ShardsRef.main_arg4) = m' (((0 : Dev Cert.ShardsRef.nD).tc : Thread Cert.ShardsRef.nD Cert.ShardsRef.τ).loc Cert.ShardsRef.main_arg4))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![512, 768]⟩ ⟨2, ![4096, 768]⟩ 0 8 c (m' (((0 : Dev Cert.ShareRefIdeal.nD).tc : Thread Cert.ShareRefIdeal.nD Cert.ShareRefIdeal.τ).loc Cert.ShareRefIdeal.main_arg0))
      ∧ m ((c.tc : Thread Cert.ShareIdeal.nD Cert.ShareIdeal.τ).loc Cert.ShareIdeal.main_arg1) = Layout.block ⟨2, ![128, 1024]⟩ ⟨2, ![1024, 1024]⟩ 0 8 c (m' (((0 : Dev Cert.ShareRefIdeal.nD).tc : Thread Cert.ShareRefIdeal.nD Cert.ShareRefIdeal.τ).loc Cert.ShareRefIdeal.main_arg1))
      ∧ m ((c.tc : Thread Cert.ShareIdeal.nD Cert.ShareIdeal.τ).loc Cert.ShareIdeal.main_arg2) = Layout.block ⟨2, ![64, 512]⟩ ⟨2, ![512, 512]⟩ 0 8 c (m' (((0 : Dev Cert.ShareRefIdeal.nD).tc : Thread Cert.ShareRefIdeal.nD Cert.ShareRefIdeal.τ).loc Cert.ShareRefIdeal.main_arg2))
      ∧ m ((c.tc : Thread Cert.ShareIdeal.nD Cert.ShareIdeal.τ).loc Cert.ShareIdeal.main_arg3) = Layout.block ⟨2, ![512, 1028]⟩ ⟨2, ![4096, 1028]⟩ 0 8 c (m' (((0 : Dev Cert.ShareRefIdeal.nD).tc : Thread Cert.ShareRefIdeal.nD Cert.ShareRefIdeal.τ).loc Cert.ShareRefIdeal.main_arg3))
      ∧ m ((c.tc : Thread Cert.ShareIdeal.nD Cert.ShareIdeal.τ).loc Cert.ShareIdeal.main_arg4) = Layout.block ⟨2, ![128, 1024]⟩ ⟨2, ![1024, 1024]⟩ 0 8 c (m' (((0 : Dev Cert.ShareRefIdeal.nD).tc : Thread Cert.ShareRefIdeal.nD Cert.ShareRefIdeal.τ).loc Cert.ShareRefIdeal.main_arg4))) →
    ∃ (v0 : Buf (Elt Ideal) (((0 : Dev Cert.ShareRefIdeal.nD).tc : Thread Cert.ShareRefIdeal.nD Cert.ShareRefIdeal.τ).loc Cert.ShareRefIdeal.main_v0)) (v1 : Buf (Elt Ideal) (((0 : Dev Cert.ShareRefIdeal.nD).tc : Thread Cert.ShareRefIdeal.nD Cert.ShareRefIdeal.τ).loc Cert.ShareRefIdeal.main_v1)) (v2 : Buf (Elt Ideal) (((0 : Dev Cert.ShareRefIdeal.nD).tc : Thread Cert.ShareRefIdeal.nD Cert.ShareRefIdeal.τ).loc Cert.ShareRefIdeal.main_v2)) (v3 : Buf (Elt Ideal) (((0 : Dev Cert.ShareRefIdeal.nD).tc : Thread Cert.ShareRefIdeal.nD Cert.ShareRefIdeal.τ).loc Cert.ShareRefIdeal.main_v3)) (v4 : Buf (Elt Ideal) (((0 : Dev Cert.ShareRefIdeal.nD).tc : Thread Cert.ShareRefIdeal.nD Cert.ShareRefIdeal.τ).loc Cert.ShareRefIdeal.main_v4)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1_0) = Layout.blockN ⟨3, ![2, 512, 768]⟩ ⟨3, ![8, 512, 768]⟩ (Layout.meshBlock [2, 2, 2] ![[0, 1], [], []] c) v0
          ∧ r.2.mem ((c.tc : Thread Cert.ShareIdeal.nD Cert.ShareIdeal.τ).loc Cert.ShareIdeal.main_v1_1) = Layout.blockN ⟨3, ![2, 128, 1024]⟩ ⟨3, ![8, 128, 1024]⟩ (Layout.meshBlock [2, 2, 2] ![[0, 1], [], []] c) v1
          ∧ r.2.mem ((c.tc : Thread Cert.ShareIdeal.nD Cert.ShareIdeal.τ).loc Cert.ShareIdeal.main_v1_2) = Layout.blockN ⟨3, ![2, 64, 512]⟩ ⟨3, ![8, 64, 512]⟩ (Layout.meshBlock [2, 2, 2] ![[0, 1], [], []] c) v2
          ∧ r.2.mem ((c.tc : Thread Cert.ShareIdeal.nD Cert.ShareIdeal.τ).loc Cert.ShareIdeal.main_v1_3) = Layout.blockN ⟨3, ![2, 512, 1028]⟩ ⟨3, ![8, 512, 1028]⟩ (Layout.meshBlock [2, 2, 2] ![[0, 1], [], []] c) v3
          ∧ r.2.mem ((c.tc : Thread Cert.ShareIdeal.nD Cert.ShareIdeal.τ).loc Cert.ShareIdeal.main_v1_4) = Layout.blockN ⟨3, ![2, 128, 1024]⟩ ⟨3, ![8, 128, 1024]⟩ (Layout.meshBlock [2, 2, 2] ![[0, 1], [], []] c) v4
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
          ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
          ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
          ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
          ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_v1) = v1
          ∧ r.2.mem (((0 : Dev Cert.ShareRefIdeal.nD).tc : Thread Cert.ShareRefIdeal.nD Cert.ShareRefIdeal.τ).loc Cert.ShareRefIdeal.main_v2) = v2
          ∧ r.2.mem (((0 : Dev Cert.ShareRefIdeal.nD).tc : Thread Cert.ShareRefIdeal.nD Cert.ShareRefIdeal.τ).loc Cert.ShareRefIdeal.main_v3) = v3
          ∧ r.2.mem (((0 : Dev Cert.ShareRefIdeal.nD).tc : Thread Cert.ShareRefIdeal.nD Cert.ShareRefIdeal.τ).loc Cert.ShareRefIdeal.main_v4) = v4
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0)
          ∧ r.2.mem (((0 : Dev Cert.ShareRefIdeal.nD).tc : Thread Cert.ShareRefIdeal.nD Cert.ShareRefIdeal.τ).loc Cert.ShareRefIdeal.main_arg1) = m' (((0 : Dev Cert.ShareRefIdeal.nD).tc : Thread Cert.ShareRefIdeal.nD Cert.ShareRefIdeal.τ).loc Cert.ShareRefIdeal.main_arg1)
          ∧ r.2.mem (((0 : Dev Cert.ShareRefIdeal.nD).tc : Thread Cert.ShareRefIdeal.nD Cert.ShareRefIdeal.τ).loc Cert.ShareRefIdeal.main_arg2) = m' (((0 : Dev Cert.ShareRefIdeal.nD).tc : Thread Cert.ShareRefIdeal.nD Cert.ShareRefIdeal.τ).loc Cert.ShareRefIdeal.main_arg2)
          ∧ r.2.mem (((0 : Dev Cert.ShareRefIdeal.nD).tc : Thread Cert.ShareRefIdeal.nD Cert.ShareRefIdeal.τ).loc Cert.ShareRefIdeal.main_arg3) = m' (((0 : Dev Cert.ShareRefIdeal.nD).tc : Thread Cert.ShareRefIdeal.nD Cert.ShareRefIdeal.τ).loc Cert.ShareRefIdeal.main_arg3)
          ∧ r.2.mem (((0 : Dev Cert.ShareRefIdeal.nD).tc : Thread Cert.ShareRefIdeal.nD Cert.ShareRefIdeal.τ).loc Cert.ShareRefIdeal.main_arg4) = m' (((0 : Dev Cert.ShareRefIdeal.nD).tc : Thread Cert.ShareRefIdeal.nD Cert.ShareRefIdeal.τ).loc Cert.ShareRefIdeal.main_arg4))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![512, 768]⟩ ⟨2, ![4096, 768]⟩ 0 8 c (m' (((0 : Dev Cert.ShareRef.nD).tc : Thread Cert.ShareRef.nD Cert.ShareRef.τ).loc Cert.ShareRef.main_arg0))
      ∧ m ((c.tc : Thread Cert.Share.nD Cert.Share.τ).loc Cert.Share.main_arg1) = Layout.block ⟨2, ![128, 1024]⟩ ⟨2, ![1024, 1024]⟩ 0 8 c (m' (((0 : Dev Cert.ShareRef.nD).tc : Thread Cert.ShareRef.nD Cert.ShareRef.τ).loc Cert.ShareRef.main_arg1))
      ∧ m ((c.tc : Thread Cert.Share.nD Cert.Share.τ).loc Cert.Share.main_arg2) = Layout.block ⟨2, ![64, 512]⟩ ⟨2, ![512, 512]⟩ 0 8 c (m' (((0 : Dev Cert.ShareRef.nD).tc : Thread Cert.ShareRef.nD Cert.ShareRef.τ).loc Cert.ShareRef.main_arg2))
      ∧ m ((c.tc : Thread Cert.Share.nD Cert.Share.τ).loc Cert.Share.main_arg3) = Layout.block ⟨2, ![512, 1028]⟩ ⟨2, ![4096, 1028]⟩ 0 8 c (m' (((0 : Dev Cert.ShareRef.nD).tc : Thread Cert.ShareRef.nD Cert.ShareRef.τ).loc Cert.ShareRef.main_arg3))
      ∧ m ((c.tc : Thread Cert.Share.nD Cert.Share.τ).loc Cert.Share.main_arg4) = Layout.block ⟨2, ![128, 1024]⟩ ⟨2, ![1024, 1024]⟩ 0 8 c (m' (((0 : Dev Cert.ShareRef.nD).tc : Thread Cert.ShareRef.nD Cert.ShareRef.τ).loc Cert.ShareRef.main_arg4))) →
    ∃ (v0 : Buf (Elt Bits) (((0 : Dev Cert.ShareRef.nD).tc : Thread Cert.ShareRef.nD Cert.ShareRef.τ).loc Cert.ShareRef.main_v0)) (v1 : Buf (Elt Bits) (((0 : Dev Cert.ShareRef.nD).tc : Thread Cert.ShareRef.nD Cert.ShareRef.τ).loc Cert.ShareRef.main_v1)) (v2 : Buf (Elt Bits) (((0 : Dev Cert.ShareRef.nD).tc : Thread Cert.ShareRef.nD Cert.ShareRef.τ).loc Cert.ShareRef.main_v2)) (v3 : Buf (Elt Bits) (((0 : Dev Cert.ShareRef.nD).tc : Thread Cert.ShareRef.nD Cert.ShareRef.τ).loc Cert.ShareRef.main_v3)) (v4 : Buf (Elt Bits) (((0 : Dev Cert.ShareRef.nD).tc : Thread Cert.ShareRef.nD Cert.ShareRef.τ).loc Cert.ShareRef.main_v4)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1_0) = Layout.blockN ⟨3, ![2, 512, 768]⟩ ⟨3, ![8, 512, 768]⟩ (Layout.meshBlock [2, 2, 2] ![[0, 1], [], []] c) v0
          ∧ r.2.mem ((c.tc : Thread Cert.Share.nD Cert.Share.τ).loc Cert.Share.main_v1_1) = Layout.blockN ⟨3, ![2, 128, 1024]⟩ ⟨3, ![8, 128, 1024]⟩ (Layout.meshBlock [2, 2, 2] ![[0, 1], [], []] c) v1
          ∧ r.2.mem ((c.tc : Thread Cert.Share.nD Cert.Share.τ).loc Cert.Share.main_v1_2) = Layout.blockN ⟨3, ![2, 64, 512]⟩ ⟨3, ![8, 64, 512]⟩ (Layout.meshBlock [2, 2, 2] ![[0, 1], [], []] c) v2
          ∧ r.2.mem ((c.tc : Thread Cert.Share.nD Cert.Share.τ).loc Cert.Share.main_v1_3) = Layout.blockN ⟨3, ![2, 512, 1028]⟩ ⟨3, ![8, 512, 1028]⟩ (Layout.meshBlock [2, 2, 2] ![[0, 1], [], []] c) v3
          ∧ r.2.mem ((c.tc : Thread Cert.Share.nD Cert.Share.τ).loc Cert.Share.main_v1_4) = Layout.blockN ⟨3, ![2, 128, 1024]⟩ ⟨3, ![8, 128, 1024]⟩ (Layout.meshBlock [2, 2, 2] ![[0, 1], [], []] c) v4
          ∧ r.2.mem ((c.tc : Thread Cert.Share.nD Cert.Share.τ).loc Cert.Share.main_arg0) = m ((c.tc : Thread Cert.Share.nD Cert.Share.τ).loc Cert.Share.main_arg0)
          ∧ r.2.mem ((c.tc : Thread Cert.Share.nD Cert.Share.τ).loc Cert.Share.main_arg1) = m ((c.tc : Thread Cert.Share.nD Cert.Share.τ).loc Cert.Share.main_arg1)
          ∧ r.2.mem ((c.tc : Thread Cert.Share.nD Cert.Share.τ).loc Cert.Share.main_arg2) = m ((c.tc : Thread Cert.Share.nD Cert.Share.τ).loc Cert.Share.main_arg2)
          ∧ r.2.mem ((c.tc : Thread Cert.Share.nD Cert.Share.τ).loc Cert.Share.main_arg3) = m ((c.tc : Thread Cert.Share.nD Cert.Share.τ).loc Cert.Share.main_arg3)
          ∧ r.2.mem ((c.tc : Thread Cert.Share.nD Cert.Share.τ).loc Cert.Share.main_arg4) = m ((c.tc : Thread Cert.Share.nD Cert.Share.τ).loc Cert.Share.main_arg4))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_v1) = v1
          ∧ r.2.mem (((0 : Dev Cert.ShareRef.nD).tc : Thread Cert.ShareRef.nD Cert.ShareRef.τ).loc Cert.ShareRef.main_v2) = v2
          ∧ r.2.mem (((0 : Dev Cert.ShareRef.nD).tc : Thread Cert.ShareRef.nD Cert.ShareRef.τ).loc Cert.ShareRef.main_v3) = v3
          ∧ r.2.mem (((0 : Dev Cert.ShareRef.nD).tc : Thread Cert.ShareRef.nD Cert.ShareRef.τ).loc Cert.ShareRef.main_v4) = v4
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0)
          ∧ r.2.mem (((0 : Dev Cert.ShareRef.nD).tc : Thread Cert.ShareRef.nD Cert.ShareRef.τ).loc Cert.ShareRef.main_arg1) = m' (((0 : Dev Cert.ShareRef.nD).tc : Thread Cert.ShareRef.nD Cert.ShareRef.τ).loc Cert.ShareRef.main_arg1)
          ∧ r.2.mem (((0 : Dev Cert.ShareRef.nD).tc : Thread Cert.ShareRef.nD Cert.ShareRef.τ).loc Cert.ShareRef.main_arg2) = m' (((0 : Dev Cert.ShareRef.nD).tc : Thread Cert.ShareRef.nD Cert.ShareRef.τ).loc Cert.ShareRef.main_arg2)
          ∧ r.2.mem (((0 : Dev Cert.ShareRef.nD).tc : Thread Cert.ShareRef.nD Cert.ShareRef.τ).loc Cert.ShareRef.main_arg3) = m' (((0 : Dev Cert.ShareRef.nD).tc : Thread Cert.ShareRef.nD Cert.ShareRef.τ).loc Cert.ShareRef.main_arg3)
          ∧ r.2.mem (((0 : Dev Cert.ShareRef.nD).tc : Thread Cert.ShareRef.nD Cert.ShareRef.τ).loc Cert.ShareRef.main_arg4) = m' (((0 : Dev Cert.ShareRef.nD).tc : Thread Cert.ShareRef.nD Cert.ShareRef.τ).loc Cert.ShareRef.main_arg4))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![1248, 128]⟩ ⟨2, ![9984, 128]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![1248, 128]⟩ ⟨2, ![9984, 128]⟩ 0 8 c (m' (((0 : Dev Cert.SmallRef.nD).tc : Thread Cert.SmallRef.nD Cert.SmallRef.τ).loc Cert.SmallRef.main_arg0))) →
    ∃ (v0 : Buf (Elt Bits) (((0 : Dev Cert.SmallRef.nD).tc : Thread Cert.SmallRef.nD Cert.SmallRef.τ).loc Cert.SmallRef.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v0) = v0
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m ((c.tc : Thread Cert.ModIdeal.nD Cert.ModIdeal.τ).loc Cert.ModIdeal.main_arg0) = Layout.block ⟨3, ![2, 8, 768]⟩ ⟨3, ![16, 8, 768]⟩ 0 8 c (m' (((0 : Dev Cert.ModRefIdeal.nD).tc : Thread Cert.ModRefIdeal.nD Cert.ModRefIdeal.τ).loc Cert.ModRefIdeal.main_arg0))) →
    ∃ (v0 : Buf (Elt Ideal) (((0 : Dev Cert.ModRefIdeal.nD).tc : Thread Cert.ModRefIdeal.nD Cert.ModRefIdeal.τ).loc Cert.ModRefIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ θ_run (Cert.ModRefIdeal.defs (F := Ideal)) (onTc (τ := Cert.ModRefIdeal.τ) (Cert.ModRefIdeal.main (F := Ideal))) ⟨m', fun _ => 0, g'⟩ (fun r =>
          r.2.mem (((0 : Dev Cert.ModRefIdeal.nD).tc : Thread Cert.ModRefIdeal.nD Cert.ModRefIdeal.τ).loc Cert.ModRefIdeal.main_v0) = v0
          ∧ r.2.mem (((0 : Dev Cert.ModRefIdeal.nD).tc : Thread Cert.ModRefIdeal.nD Cert.ModRefIdeal.τ).loc Cert.ModRefIdeal.main_arg0) = m' (((0 : Dev Cert.ModRefIdeal.nD).tc : Thread Cert.ModRefIdeal.nD Cert.ModRefIdeal.τ).loc Cert.ModRefIdeal.main_arg0))

def bitexact_Mod_ModRef [hMod : Cert.Mod.Facts] [hModRef : Cert.ModRef.Facts] : Prop :=
  ∀ (m : (ℓ : Loc Cert.Mod.nD Cert.Mod.τ Cert.Mod.sig) → Buf (Elt Bits) ℓ) (g : Dev Cert.Mod.nD → PrngReg)
    (m' : (ℓ : Loc Cert.ModRef.nD Cert.ModRef.τ Cert.ModRef.sig) → Buf (Elt Bits) ℓ) (g' : Dev Cert.ModRef.nD → PrngReg), Pre_Mod m →
    (∀ c : Dev Cert.Mod.nD,
      m ((c.tc : Thread Cert.Mod.nD Cert.Mod.τ).loc Cert.Mod.main_arg0) = Layout.block ⟨3, ![2, 8, 768]⟩ ⟨3, ![16, 8, 768]⟩ 0 8 c (m' (((0 : Dev Cert.ModRef.nD).tc : Thread Cert.ModRef.nD Cert.ModRef.τ).loc Cert.ModRef.main_arg0))) →
    ∃ (v0 : Buf (Elt Bits) (((0 : Dev Cert.ModRef.nD).tc : Thread Cert.ModRef.nD Cert.ModRef.τ).loc Cert.ModRef.main_v0)),
      θ_run (Cert.Mod.defs (F := Bits)) (onTc (τ := Cert.Mod.τ) (Cert.Mod.main (F := Bits))) ⟨m, fun _ => 0, g⟩ (fun r => ∀ c : Dev Cert.Mod.nD,
          r.2.mem ((c.tc : Thread Cert.Mod.nD Cert.Mod.τ).loc Cert.Mod.main_v1) = v0
          ∧ r.2.mem ((c.tc : Thread Cert.Mod.nD Cert.Mod.τ).loc Cert.Mod.main_arg0) = m ((c.tc : Thread Cert.Mod.nD Cert.Mod.τ).loc Cert.Mod.main_arg0))
      ∧ θ_run (Cert.ModRef.defs (F := Bits)) (onTc (τ := Cert.ModRef.τ) (Cert.ModRef.main (F := Bits))) ⟨m', fun _ => 0, g'⟩ (fun r =>
          r.2.mem (((0 : Dev Cert.ModRef.nD).tc : Thread Cert.ModRef.nD Cert.ModRef.τ).loc Cert.ModRef.main_v0) = v0
          ∧ r.2.mem (((0 : Dev Cert.ModRef.nD).tc : Thread Cert.ModRef.nD Cert.ModRef.τ).loc Cert.ModRef.main_arg0) = m' (((0 : Dev Cert.ModRef.nD).tc : Thread Cert.ModRef.nD Cert.ModRef.τ).loc Cert.ModRef.main_arg0))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m ((c.tc : Thread Cert.FirstIdeal.nD Cert.FirstIdeal.τ).loc Cert.FirstIdeal.main_arg0) = Layout.block ⟨2, ![32, 128]⟩ ⟨2, ![256, 128]⟩ 0 8 c (m' (((0 : Dev Cert.FirstRefIdeal.nD).tc : Thread Cert.FirstRefIdeal.nD Cert.FirstRefIdeal.τ).loc Cert.FirstRefIdeal.main_arg0))) →
    ∃ (v0 : Buf (Elt Ideal) (((0 : Dev Cert.FirstRefIdeal.nD).tc : Thread Cert.FirstRefIdeal.nD Cert.FirstRefIdeal.τ).loc Cert.FirstRefIdeal.main_v0)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0))
      ∧ θ_run (Cert.FirstRefIdeal.defs (F := Ideal)) (onTc (τ := Cert.FirstRefIdeal.τ) (Cert.FirstRefIdeal.main (F := Ideal))) ⟨m', fun _ => 0, g'⟩ (fun r =>
          r.2.mem (((0 : Dev Cert.FirstRefIdeal.nD).tc : Thread Cert.FirstRefIdeal.nD Cert.FirstRefIdeal.τ).loc Cert.FirstRefIdeal.main_v0) = v0
          ∧ r.2.mem (((0 : Dev Cert.FirstRefIdeal.nD).tc : Thread Cert.FirstRefIdeal.nD Cert.FirstRefIdeal.τ).loc Cert.FirstRefIdeal.main_arg0) = m' (((0 : Dev Cert.FirstRefIdeal.nD).tc : Thread Cert.FirstRefIdeal.nD Cert.FirstRefIdeal.τ).loc Cert.FirstRefIdeal.main_arg0))

def bitexact_First_FirstRef [hFirst : Cert.First.Facts] [hFirstRef : Cert.FirstRef.Facts] : Prop :=
  ∀ (m : (ℓ : Loc Cert.First.nD Cert.First.τ Cert.First.sig) → Buf (Elt Bits) ℓ) (g : Dev Cert.First.nD → PrngReg)
    (m' : (ℓ : Loc Cert.FirstRef.nD Cert.FirstRef.τ Cert.FirstRef.sig) → Buf (Elt Bits) ℓ) (g' : Dev Cert.FirstRef.nD → PrngReg), Pre_First m →
    (∀ c : Dev Cert.First.nD,
      m ((c.tc : Thread Cert.First.nD Cert.First.τ).loc Cert.First.main_arg0) = Layout.block ⟨2, ![32, 128]⟩ ⟨2, ![256, 128]⟩ 0 8 c (m' (((0 : Dev Cert.FirstRef.nD).tc : Thread Cert.FirstRef.nD Cert.FirstRef.τ).loc Cert.FirstRef.main_arg0))) →
    ∃ (v0 : Buf (Elt Bits) (((0 : Dev Cert.FirstRef.nD).tc : Thread Cert.FirstRef.nD Cert.FirstRef.τ).loc Cert.FirstRef.main_v0)),
      θ_run (Cert.First.defs (F := Bits)) (onTc (τ := Cert.First.τ) (Cert.First.main (F := Bits))) ⟨m, fun _ => 0, g⟩ (fun r => ∀ c : Dev Cert.First.nD,
          r.2.mem ((c.tc : Thread Cert.First.nD Cert.First.τ).loc Cert.First.main_v1) = v0
          ∧ r.2.mem ((c.tc : Thread Cert.First.nD Cert.First.τ).loc Cert.First.main_arg0) = m ((c.tc : Thread Cert.First.nD Cert.First.τ).loc Cert.First.main_arg0))
      ∧ θ_run (Cert.FirstRef.defs (F := Bits)) (onTc (τ := Cert.FirstRef.τ) (Cert.FirstRef.main (F := Bits))) ⟨m', fun _ => 0, g'⟩ (fun r =>
          r.2.mem (((0 : Dev Cert.FirstRef.nD).tc : Thread Cert.FirstRef.nD Cert.FirstRef.τ).loc Cert.FirstRef.main_v0) = v0
          ∧ r.2.mem (((0 : Dev Cert.FirstRef.nD).tc : Thread Cert.FirstRef.nD Cert.FirstRef.τ).loc Cert.FirstRef.main_arg0) = m' (((0 : Dev Cert.FirstRef.nD).tc : Thread Cert.FirstRef.nD Cert.FirstRef.τ).loc Cert.FirstRef.main_arg0))

def preserves_UpAdaW_UpAdaWIdeal : Prop :=
  True

def algebraic_UpAdaWIdeal_UpAdaWRefIdeal [hUpAdaWIdeal : Cert.UpAdaWIdeal.Facts] [hUpAdaWRefIdeal : Cert.UpAdaWRefIdeal.Facts] : Prop :=
  ∀ (m : (ℓ : Loc Cert.UpAdaWIdeal.nD Cert.UpAdaWIdeal.τ Cert.UpAdaWIdeal.sig) → Buf (Elt Ideal) ℓ) (g : Dev Cert.UpAdaWIdeal.nD → PrngReg)
    (m' : (ℓ : Loc Cert.UpAdaWRefIdeal.nD Cert.UpAdaWRefIdeal.τ Cert.UpAdaWRefIdeal.sig) → Buf (Elt Ideal) ℓ) (g' : Dev Cert.UpAdaWRefIdeal.nD → PrngReg), Pre_UpAdaWIdeal m →
    (∀ c : Dev Cert.UpAdaWIdeal.nD,
      m' ((c.tc : Thread Cert.UpAdaWRefIdeal.nD Cert.UpAdaWRefIdeal.τ).loc Cert.UpAdaWRefIdeal.main_arg0) = m ((c.tc : Thread Cert.UpAdaWIdeal.nD Cert.UpAdaWIdeal.τ).loc Cert.UpAdaWIdeal.main_arg0)
      ∧ m' ((c.tc : Thread Cert.UpAdaWRefIdeal.nD Cert.UpAdaWRefIdeal.τ).loc Cert.UpAdaWRefIdeal.main_arg1) = m ((c.tc : Thread Cert.UpAdaWIdeal.nD Cert.UpAdaWIdeal.τ).loc Cert.UpAdaWIdeal.main_arg1)
      ∧ m' ((c.tc : Thread Cert.UpAdaWRefIdeal.nD Cert.UpAdaWRefIdeal.τ).loc Cert.UpAdaWRefIdeal.main_arg2) = m ((c.tc : Thread Cert.UpAdaWIdeal.nD Cert.UpAdaWIdeal.τ).loc Cert.UpAdaWIdeal.main_arg2)
      ∧ m' ((c.tc : Thread Cert.UpAdaWRefIdeal.nD Cert.UpAdaWRefIdeal.τ).loc Cert.UpAdaWRefIdeal.main_arg3) = m ((c.tc : Thread Cert.UpAdaWIdeal.nD Cert.UpAdaWIdeal.τ).loc Cert.UpAdaWIdeal.main_arg3)) →
    ∃ (v0 : (c : Dev Cert.UpAdaWIdeal.nD) → Buf (Elt Ideal) ((c.tc : Thread Cert.UpAdaWIdeal.nD Cert.UpAdaWIdeal.τ).loc Cert.UpAdaWIdeal.main_v0_0)) (v1 : (c : Dev Cert.UpAdaWIdeal.nD) → Buf (Elt Ideal) ((c.tc : Thread Cert.UpAdaWIdeal.nD Cert.UpAdaWIdeal.τ).loc Cert.UpAdaWIdeal.main_v0_1)) (v2 : (c : Dev Cert.UpAdaWIdeal.nD) → Buf (Elt Ideal) ((c.tc : Thread Cert.UpAdaWIdeal.nD Cert.UpAdaWIdeal.τ).loc Cert.UpAdaWIdeal.main_v0_2)),
      θ_run (Cert.UpAdaWIdeal.defs (F := Ideal)) (onTc (τ := Cert.UpAdaWIdeal.τ) (Cert.UpAdaWIdeal.main (F := Ideal))) ⟨m, fun _ => 0, g⟩ (fun r => ∀ c : Dev Cert.UpAdaWIdeal.nD,
          r.2.mem ((c.tc : Thread Cert.UpAdaWIdeal.nD Cert.UpAdaWIdeal.τ).loc Cert.UpAdaWIdeal.main_v0_0) = v0 c
          ∧ r.2.mem ((c.tc : Thread Cert.UpAdaWIdeal.nD Cert.UpAdaWIdeal.τ).loc Cert.UpAdaWIdeal.main_v0_1) = v1 c
          ∧ r.2.mem ((c.tc : Thread Cert.UpAdaWIdeal.nD Cert.UpAdaWIdeal.τ).loc Cert.UpAdaWIdeal.main_v0_2) = v2 c
          ∧ r.2.mem ((c.tc : Thread Cert.UpAdaWIdeal.nD Cert.UpAdaWIdeal.τ).loc Cert.UpAdaWIdeal.main_arg0) = m ((c.tc : Thread Cert.UpAdaWIdeal.nD Cert.UpAdaWIdeal.τ).loc Cert.UpAdaWIdeal.main_arg0)
          ∧ r.2.mem ((c.tc : Thread Cert.UpAdaWIdeal.nD Cert.UpAdaWIdeal.τ).loc Cert.UpAdaWIdeal.main_arg1) = m ((c.tc : Thread Cert.UpAdaWIdeal.nD Cert.UpAdaWIdeal.τ).loc Cert.UpAdaWIdeal.main_arg1)
          ∧ r.2.mem ((c.tc : Thread Cert.UpAdaWIdeal.nD Cert.UpAdaWIdeal.τ).loc Cert.UpAdaWIdeal.main_arg2) = m ((c.tc : Thread Cert.UpAdaWIdeal.nD Cert.UpAdaWIdeal.τ).loc Cert.UpAdaWIdeal.main_arg2)
          ∧ r.2.mem ((c.tc : Thread Cert.UpAdaWIdeal.nD Cert.UpAdaWIdeal.τ).loc Cert.UpAdaWIdeal.main_arg3) = m ((c.tc : Thread Cert.UpAdaWIdeal.nD Cert.UpAdaWIdeal.τ).loc Cert.UpAdaWIdeal.main_arg3))
      ∧ θ_run (Cert.UpAdaWRefIdeal.defs (F := Ideal)) (onTc (τ := Cert.UpAdaWRefIdeal.τ) (Cert.UpAdaWRefIdeal.main (F := Ideal))) ⟨m', fun _ => 0, g'⟩ (fun r => ∀ c : Dev Cert.UpAdaWRefIdeal.nD,
          r.2.mem ((c.tc : Thread Cert.UpAdaWRefIdeal.nD Cert.UpAdaWRefIdeal.τ).loc Cert.UpAdaWRefIdeal.main_v23) = v0 c
          ∧ r.2.mem ((c.tc : Thread Cert.UpAdaWRefIdeal.nD Cert.UpAdaWRefIdeal.τ).loc Cert.UpAdaWRefIdeal.main_v4) = v1 c
          ∧ r.2.mem ((c.tc : Thread Cert.UpAdaWRefIdeal.nD Cert.UpAdaWRefIdeal.τ).loc Cert.UpAdaWRefIdeal.main_v10) = v2 c
          ∧ r.2.mem ((c.tc : Thread Cert.UpAdaWRefIdeal.nD Cert.UpAdaWRefIdeal.τ).loc Cert.UpAdaWRefIdeal.main_arg0) = m' ((c.tc : Thread Cert.UpAdaWRefIdeal.nD Cert.UpAdaWRefIdeal.τ).loc Cert.UpAdaWRefIdeal.main_arg0)
          ∧ r.2.mem ((c.tc : Thread Cert.UpAdaWRefIdeal.nD Cert.UpAdaWRefIdeal.τ).loc Cert.UpAdaWRefIdeal.main_arg1) = m' ((c.tc : Thread Cert.UpAdaWRefIdeal.nD Cert.UpAdaWRefIdeal.τ).loc Cert.UpAdaWRefIdeal.main_arg1)
          ∧ r.2.mem ((c.tc : Thread Cert.UpAdaWRefIdeal.nD Cert.UpAdaWRefIdeal.τ).loc Cert.UpAdaWRefIdeal.main_arg2) = m' ((c.tc : Thread Cert.UpAdaWRefIdeal.nD Cert.UpAdaWRefIdeal.τ).loc Cert.UpAdaWRefIdeal.main_arg2)
          ∧ r.2.mem ((c.tc : Thread Cert.UpAdaWRefIdeal.nD Cert.UpAdaWRefIdeal.τ).loc Cert.UpAdaWRefIdeal.main_arg3) = m' ((c.tc : Thread Cert.UpAdaWRefIdeal.nD Cert.UpAdaWRefIdeal.τ).loc Cert.UpAdaWRefIdeal.main_arg3))

def preserves_UpConv_UpConvIdeal : Prop :=
  True

def algebraic_UpConvIdeal_UpConvRefIdeal [hUpConvIdeal : Cert.UpConvIdeal.Facts] [hUpConvRefIdeal : Cert.UpConvRefIdeal.Facts] : Prop :=
  ∀ (m : (ℓ : Loc Cert.UpConvIdeal.nD Cert.UpConvIdeal.τ Cert.UpConvIdeal.sig) → Buf (Elt Ideal) ℓ) (g : Dev Cert.UpConvIdeal.nD → PrngReg)
    (m' : (ℓ : Loc Cert.UpConvRefIdeal.nD Cert.UpConvRefIdeal.τ Cert.UpConvRefIdeal.sig) → Buf (Elt Ideal) ℓ) (g' : Dev Cert.UpConvRefIdeal.nD → PrngReg), Pre_UpConvIdeal m →
    (∀ c : Dev Cert.UpConvIdeal.nD,
      m' ((c.tc : Thread Cert.UpConvRefIdeal.nD Cert.UpConvRefIdeal.τ).loc Cert.UpConvRefIdeal.main_arg0) = m ((c.tc : Thread Cert.UpConvIdeal.nD Cert.UpConvIdeal.τ).loc Cert.UpConvIdeal.main_arg0)
      ∧ m' ((c.tc : Thread Cert.UpConvRefIdeal.nD Cert.UpConvRefIdeal.τ).loc Cert.UpConvRefIdeal.main_arg1) = m ((c.tc : Thread Cert.UpConvIdeal.nD Cert.UpConvIdeal.τ).loc Cert.UpConvIdeal.main_arg1)
      ∧ m' ((c.tc : Thread Cert.UpConvRefIdeal.nD Cert.UpConvRefIdeal.τ).loc Cert.UpConvRefIdeal.main_arg2) = m ((c.tc : Thread Cert.UpConvIdeal.nD Cert.UpConvIdeal.τ).loc Cert.UpConvIdeal.main_arg2)
      ∧ m' ((c.tc : Thread Cert.UpConvRefIdeal.nD Cert.UpConvRefIdeal.τ).loc Cert.UpConvRefIdeal.main_arg3) = m ((c.tc : Thread Cert.UpConvIdeal.nD Cert.UpConvIdeal.τ).loc Cert.UpConvIdeal.main_arg3)) →
    ∃ (v0 : (c : Dev Cert.UpConvIdeal.nD) → Buf (Elt Ideal) ((c.tc : Thread Cert.UpConvIdeal.nD Cert.UpConvIdeal.τ).loc Cert.UpConvIdeal.main_v0_0)) (v1 : (c : Dev Cert.UpConvIdeal.nD) → Buf (Elt Ideal) ((c.tc : Thread Cert.UpConvIdeal.nD Cert.UpConvIdeal.τ).loc Cert.UpConvIdeal.main_v0_1)) (v2 : (c : Dev Cert.UpConvIdeal.nD) → Buf (Elt Ideal) ((c.tc : Thread Cert.UpConvIdeal.nD Cert.UpConvIdeal.τ).loc Cert.UpConvIdeal.main_v0_2)),
      θ_run (Cert.UpConvIdeal.defs (F := Ideal)) (onTc (τ := Cert.UpConvIdeal.τ) (Cert.UpConvIdeal.main (F := Ideal))) ⟨m, fun _ => 0, g⟩ (fun r => ∀ c : Dev Cert.UpConvIdeal.nD,
          r.2.mem ((c.tc : Thread Cert.UpConvIdeal.nD Cert.UpConvIdeal.τ).loc Cert.UpConvIdeal.main_v0_0) = v0 c
          ∧ r.2.mem ((c.tc : Thread Cert.UpConvIdeal.nD Cert.UpConvIdeal.τ).loc Cert.UpConvIdeal.main_v0_1) = v1 c
          ∧ r.2.mem ((c.tc : Thread Cert.UpConvIdeal.nD Cert.UpConvIdeal.τ).loc Cert.UpConvIdeal.main_v0_2) = v2 c
          ∧ r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
          ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
          ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
          ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ θ_run (Cert.UpConvRefIdeal.defs (F := Ideal)) (onTc (τ := Cert.UpConvRefIdeal.τ) (Cert.UpConvRefIdeal.main (F := Ideal))) ⟨m', fun _ => 0, g'⟩ (fun r => ∀ c : Dev Cert.UpConvRefIdeal.nD,
          r.2.mem ((c.tc : Thread Cert.UpConvRefIdeal.nD Cert.UpConvRefIdeal.τ).loc Cert.UpConvRefIdeal.main_v23) = v0 c
          ∧ r.2.mem ((c.tc : Thread Cert.UpConvRefIdeal.nD Cert.UpConvRefIdeal.τ).loc Cert.UpConvRefIdeal.main_v4) = v1 c
          ∧ r.2.mem ((c.tc : Thread Cert.UpConvRefIdeal.nD Cert.UpConvRefIdeal.τ).loc Cert.UpConvRefIdeal.main_v10) = v2 c
          ∧ r.2.mem ((c.tc : Thread Cert.UpConvRefIdeal.nD Cert.UpConvRefIdeal.τ).loc Cert.UpConvRefIdeal.main_arg0) = m' ((c.tc : Thread Cert.UpConvRefIdeal.nD Cert.UpConvRefIdeal.τ).loc Cert.UpConvRefIdeal.main_arg0)
          ∧ r.2.mem ((c.tc : Thread Cert.UpConvRefIdeal.nD Cert.UpConvRefIdeal.τ).loc Cert.UpConvRefIdeal.main_arg1) = m' ((c.tc : Thread Cert.UpConvRefIdeal.nD Cert.UpConvRefIdeal.τ).loc Cert.UpConvRefIdeal.main_arg1)
          ∧ r.2.mem ((c.tc : Thread Cert.UpConvRefIdeal.nD Cert.UpConvRefIdeal.τ).loc Cert.UpConvRefIdeal.main_arg2) = m' ((c.tc : Thread Cert.UpConvRefIdeal.nD Cert.UpConvRefIdeal.τ).loc Cert.UpConvRefIdeal.main_arg2)
          ∧ r.2.mem ((c.tc : Thread Cert.UpConvRefIdeal.nD Cert.UpConvRefIdeal.τ).loc Cert.UpConvRefIdeal.main_arg3) = m' ((c.tc : Thread Cert.UpConvRefIdeal.nD Cert.UpConvRefIdeal.τ).loc Cert.UpConvRefIdeal.main_arg3))

def preserves_UpAbIn_UpAbInIdeal : Prop :=
  True

def algebraic_UpAbInIdeal_UpAbInRefIdeal [hUpAbInIdeal : Cert.UpAbInIdeal.Facts] [hUpAbInRefIdeal : Cert.UpAbInRefIdeal.Facts] : Prop :=
  ∀ (m : (ℓ : Loc Cert.UpAbInIdeal.nD Cert.UpAbInIdeal.τ Cert.UpAbInIdeal.sig) → Buf (Elt Ideal) ℓ) (g : Dev Cert.UpAbInIdeal.nD → PrngReg)
    (m' : (ℓ : Loc Cert.UpAbInRefIdeal.nD Cert.UpAbInRefIdeal.τ Cert.UpAbInRefIdeal.sig) → Buf (Elt Ideal) ℓ) (g' : Dev Cert.UpAbInRefIdeal.nD → PrngReg), Pre_UpAbInIdeal m →
    (∀ c : Dev Cert.UpAbInIdeal.nD,
      m' ((c.tc : Thread Cert.UpAbInRefIdeal.nD Cert.UpAbInRefIdeal.τ).loc Cert.UpAbInRefIdeal.main_arg0) = m ((c.tc : Thread Cert.UpAbInIdeal.nD Cert.UpAbInIdeal.τ).loc Cert.UpAbInIdeal.main_arg0)
      ∧ m' ((c.tc : Thread Cert.UpAbInRefIdeal.nD Cert.UpAbInRefIdeal.τ).loc Cert.UpAbInRefIdeal.main_arg1) = m ((c.tc : Thread Cert.UpAbInIdeal.nD Cert.UpAbInIdeal.τ).loc Cert.UpAbInIdeal.main_arg1)
      ∧ m' ((c.tc : Thread Cert.UpAbInRefIdeal.nD Cert.UpAbInRefIdeal.τ).loc Cert.UpAbInRefIdeal.main_arg2) = m ((c.tc : Thread Cert.UpAbInIdeal.nD Cert.UpAbInIdeal.τ).loc Cert.UpAbInIdeal.main_arg2)
      ∧ m' ((c.tc : Thread Cert.UpAbInRefIdeal.nD Cert.UpAbInRefIdeal.τ).loc Cert.UpAbInRefIdeal.main_arg3) = m ((c.tc : Thread Cert.UpAbInIdeal.nD Cert.UpAbInIdeal.τ).loc Cert.UpAbInIdeal.main_arg3)) →
    ∃ (v0 : (c : Dev Cert.UpAbInIdeal.nD) → Buf (Elt Ideal) ((c.tc : Thread Cert.UpAbInIdeal.nD Cert.UpAbInIdeal.τ).loc Cert.UpAbInIdeal.main_v0_0)) (v1 : (c : Dev Cert.UpAbInIdeal.nD) → Buf (Elt Ideal) ((c.tc : Thread Cert.UpAbInIdeal.nD Cert.UpAbInIdeal.τ).loc Cert.UpAbInIdeal.main_v0_1)) (v2 : (c : Dev Cert.UpAbInIdeal.nD) → Buf (Elt Ideal) ((c.tc : Thread Cert.UpAbInIdeal.nD Cert.UpAbInIdeal.τ).loc Cert.UpAbInIdeal.main_v0_2)),
      θ_run (Cert.UpAbInIdeal.defs (F := Ideal)) (onTc (τ := Cert.UpAbInIdeal.τ) (Cert.UpAbInIdeal.main (F := Ideal))) ⟨m, fun _ => 0, g⟩ (fun r => ∀ c : Dev Cert.UpAbInIdeal.nD,
          r.2.mem ((c.tc : Thread Cert.UpAbInIdeal.nD Cert.UpAbInIdeal.τ).loc Cert.UpAbInIdeal.main_v0_0) = v0 c
          ∧ r.2.mem ((c.tc : Thread Cert.UpAbInIdeal.nD Cert.UpAbInIdeal.τ).loc Cert.UpAbInIdeal.main_v0_1) = v1 c
          ∧ r.2.mem ((c.tc : Thread Cert.UpAbInIdeal.nD Cert.UpAbInIdeal.τ).loc Cert.UpAbInIdeal.main_v0_2) = v2 c
          ∧ r.2.mem ((c.tc : Thread Cert.UpAbInIdeal.nD Cert.UpAbInIdeal.τ).loc Cert.UpAbInIdeal.main_arg0) = m ((c.tc : Thread Cert.UpAbInIdeal.nD Cert.UpAbInIdeal.τ).loc Cert.UpAbInIdeal.main_arg0)
          ∧ r.2.mem ((c.tc : Thread Cert.UpAbInIdeal.nD Cert.UpAbInIdeal.τ).loc Cert.UpAbInIdeal.main_arg1) = m ((c.tc : Thread Cert.UpAbInIdeal.nD Cert.UpAbInIdeal.τ).loc Cert.UpAbInIdeal.main_arg1)
          ∧ r.2.mem ((c.tc : Thread Cert.UpAbInIdeal.nD Cert.UpAbInIdeal.τ).loc Cert.UpAbInIdeal.main_arg2) = m ((c.tc : Thread Cert.UpAbInIdeal.nD Cert.UpAbInIdeal.τ).loc Cert.UpAbInIdeal.main_arg2)
          ∧ r.2.mem ((c.tc : Thread Cert.UpAbInIdeal.nD Cert.UpAbInIdeal.τ).loc Cert.UpAbInIdeal.main_arg3) = m ((c.tc : Thread Cert.UpAbInIdeal.nD Cert.UpAbInIdeal.τ).loc Cert.UpAbInIdeal.main_arg3))
      ∧ θ_run (Cert.UpAbInRefIdeal.defs (F := Ideal)) (onTc (τ := Cert.UpAbInRefIdeal.τ) (Cert.UpAbInRefIdeal.main (F := Ideal))) ⟨m', fun _ => 0, g'⟩ (fun r => ∀ c : Dev Cert.UpAbInRefIdeal.nD,
          r.2.mem ((c.tc : Thread Cert.UpAbInRefIdeal.nD Cert.UpAbInRefIdeal.τ).loc Cert.UpAbInRefIdeal.main_v23) = v0 c
          ∧ r.2.mem ((c.tc : Thread Cert.UpAbInRefIdeal.nD Cert.UpAbInRefIdeal.τ).loc Cert.UpAbInRefIdeal.main_v4) = v1 c
          ∧ r.2.mem ((c.tc : Thread Cert.UpAbInRefIdeal.nD Cert.UpAbInRefIdeal.τ).loc Cert.UpAbInRefIdeal.main_v10) = v2 c
          ∧ r.2.mem ((c.tc : Thread Cert.UpAbInRefIdeal.nD Cert.UpAbInRefIdeal.τ).loc Cert.UpAbInRefIdeal.main_arg0) = m' ((c.tc : Thread Cert.UpAbInRefIdeal.nD Cert.UpAbInRefIdeal.τ).loc Cert.UpAbInRefIdeal.main_arg0)
          ∧ r.2.mem ((c.tc : Thread Cert.UpAbInRefIdeal.nD Cert.UpAbInRefIdeal.τ).loc Cert.UpAbInRefIdeal.main_arg1) = m' ((c.tc : Thread Cert.UpAbInRefIdeal.nD Cert.UpAbInRefIdeal.τ).loc Cert.UpAbInRefIdeal.main_arg1)
          ∧ r.2.mem ((c.tc : Thread Cert.UpAbInRefIdeal.nD Cert.UpAbInRefIdeal.τ).loc Cert.UpAbInRefIdeal.main_arg2) = m' ((c.tc : Thread Cert.UpAbInRefIdeal.nD Cert.UpAbInRefIdeal.τ).loc Cert.UpAbInRefIdeal.main_arg2)
          ∧ r.2.mem ((c.tc : Thread Cert.UpAbInRefIdeal.nD Cert.UpAbInRefIdeal.τ).loc Cert.UpAbInRefIdeal.main_arg3) = m' ((c.tc : Thread Cert.UpAbInRefIdeal.nD Cert.UpAbInRefIdeal.τ).loc Cert.UpAbInRefIdeal.main_arg3))

def preserves_UpAbOut_UpAbOutIdeal : Prop :=
  True

def algebraic_UpAbOutIdeal_UpAbOutRefIdeal [hUpAbOutIdeal : Cert.UpAbOutIdeal.Facts] [hUpAbOutRefIdeal : Cert.UpAbOutRefIdeal.Facts] : Prop :=
  ∀ (m : (ℓ : Loc Cert.UpAbOutIdeal.nD Cert.UpAbOutIdeal.τ Cert.UpAbOutIdeal.sig) → Buf (Elt Ideal) ℓ) (g : Dev Cert.UpAbOutIdeal.nD → PrngReg)
    (m' : (ℓ : Loc Cert.UpAbOutRefIdeal.nD Cert.UpAbOutRefIdeal.τ Cert.UpAbOutRefIdeal.sig) → Buf (Elt Ideal) ℓ) (g' : Dev Cert.UpAbOutRefIdeal.nD → PrngReg), Pre_UpAbOutIdeal m →
    (∀ c : Dev Cert.UpAbOutIdeal.nD,
      m' ((c.tc : Thread Cert.UpAbOutRefIdeal.nD Cert.UpAbOutRefIdeal.τ).loc Cert.UpAbOutRefIdeal.main_arg0) = m ((c.tc : Thread Cert.UpAbOutIdeal.nD Cert.UpAbOutIdeal.τ).loc Cert.UpAbOutIdeal.main_arg0)
      ∧ m' ((c.tc : Thread Cert.UpAbOutRefIdeal.nD Cert.UpAbOutRefIdeal.τ).loc Cert.UpAbOutRefIdeal.main_arg1) = m ((c.tc : Thread Cert.UpAbOutIdeal.nD Cert.UpAbOutIdeal.τ).loc Cert.UpAbOutIdeal.main_arg1)
      ∧ m' ((c.tc : Thread Cert.UpAbOutRefIdeal.nD Cert.UpAbOutRefIdeal.τ).loc Cert.UpAbOutRefIdeal.main_arg2) = m ((c.tc : Thread Cert.UpAbOutIdeal.nD Cert.UpAbOutIdeal.τ).loc Cert.UpAbOutIdeal.main_arg2)
      ∧ m' ((c.tc : Thread Cert.UpAbOutRefIdeal.nD Cert.UpAbOutRefIdeal.τ).loc Cert.UpAbOutRefIdeal.main_arg3) = m ((c.tc : Thread Cert.UpAbOutIdeal.nD Cert.UpAbOutIdeal.τ).loc Cert.UpAbOutIdeal.main_arg3)) →
    ∃ (v0 : (c : Dev Cert.UpAbOutIdeal.nD) → Buf (Elt Ideal) ((c.tc : Thread Cert.UpAbOutIdeal.nD Cert.UpAbOutIdeal.τ).loc Cert.UpAbOutIdeal.main_v0_0)) (v1 : (c : Dev Cert.UpAbOutIdeal.nD) → Buf (Elt Ideal) ((c.tc : Thread Cert.UpAbOutIdeal.nD Cert.UpAbOutIdeal.τ).loc Cert.UpAbOutIdeal.main_v0_1)) (v2 : (c : Dev Cert.UpAbOutIdeal.nD) → Buf (Elt Ideal) ((c.tc : Thread Cert.UpAbOutIdeal.nD Cert.UpAbOutIdeal.τ).loc Cert.UpAbOutIdeal.main_v0_2)),
      θ_run (Cert.UpAbOutIdeal.defs (F := Ideal)) (onTc (τ := Cert.UpAbOutIdeal.τ) (Cert.UpAbOutIdeal.main (F := Ideal))) ⟨m, fun _ => 0, g⟩ (fun r => ∀ c : Dev Cert.UpAbOutIdeal.nD,
          r.2.mem ((c.tc : Thread Cert.UpAbOutIdeal.nD Cert.UpAbOutIdeal.τ).loc Cert.UpAbOutIdeal.main_v0_0) = v0 c
          ∧ r.2.mem ((c.tc : Thread Cert.UpAbOutIdeal.nD Cert.UpAbOutIdeal.τ).loc Cert.UpAbOutIdeal.main_v0_1) = v1 c
          ∧ r.2.mem ((c.tc : Thread Cert.UpAbOutIdeal.nD Cert.UpAbOutIdeal.τ).loc Cert.UpAbOutIdeal.main_v0_2) = v2 c
          ∧ r.2.mem ((c.tc : Thread Cert.UpAbOutIdeal.nD Cert.UpAbOutIdeal.τ).loc Cert.UpAbOutIdeal.main_arg0) = m ((c.tc : Thread Cert.UpAbOutIdeal.nD Cert.UpAbOutIdeal.τ).loc Cert.UpAbOutIdeal.main_arg0)
          ∧ r.2.mem ((c.tc : Thread Cert.UpAbOutIdeal.nD Cert.UpAbOutIdeal.τ).loc Cert.UpAbOutIdeal.main_arg1) = m ((c.tc : Thread Cert.UpAbOutIdeal.nD Cert.UpAbOutIdeal.τ).loc Cert.UpAbOutIdeal.main_arg1)
          ∧ r.2.mem ((c.tc : Thread Cert.UpAbOutIdeal.nD Cert.UpAbOutIdeal.τ).loc Cert.UpAbOutIdeal.main_arg2) = m ((c.tc : Thread Cert.UpAbOutIdeal.nD Cert.UpAbOutIdeal.τ).loc Cert.UpAbOutIdeal.main_arg2)
          ∧ r.2.mem ((c.tc : Thread Cert.UpAbOutIdeal.nD Cert.UpAbOutIdeal.τ).loc Cert.UpAbOutIdeal.main_arg3) = m ((c.tc : Thread Cert.UpAbOutIdeal.nD Cert.UpAbOutIdeal.τ).loc Cert.UpAbOutIdeal.main_arg3))
      ∧ θ_run (Cert.UpAbOutRefIdeal.defs (F := Ideal)) (onTc (τ := Cert.UpAbOutRefIdeal.τ) (Cert.UpAbOutRefIdeal.main (F := Ideal))) ⟨m', fun _ => 0, g'⟩ (fun r => ∀ c : Dev Cert.UpAbOutRefIdeal.nD,
          r.2.mem ((c.tc : Thread Cert.UpAbOutRefIdeal.nD Cert.UpAbOutRefIdeal.τ).loc Cert.UpAbOutRefIdeal.main_v23) = v0 c
          ∧ r.2.mem ((c.tc : Thread Cert.UpAbOutRefIdeal.nD Cert.UpAbOutRefIdeal.τ).loc Cert.UpAbOutRefIdeal.main_v4) = v1 c
          ∧ r.2.mem ((c.tc : Thread Cert.UpAbOutRefIdeal.nD Cert.UpAbOutRefIdeal.τ).loc Cert.UpAbOutRefIdeal.main_v10) = v2 c
          ∧ r.2.mem ((c.tc : Thread Cert.UpAbOutRefIdeal.nD Cert.UpAbOutRefIdeal.τ).loc Cert.UpAbOutRefIdeal.main_arg0) = m' ((c.tc : Thread Cert.UpAbOutRefIdeal.nD Cert.UpAbOutRefIdeal.τ).loc Cert.UpAbOutRefIdeal.main_arg0)
          ∧ r.2.mem ((c.tc : Thread Cert.UpAbOutRefIdeal.nD Cert.UpAbOutRefIdeal.τ).loc Cert.UpAbOutRefIdeal.main_arg1) = m' ((c.tc : Thread Cert.UpAbOutRefIdeal.nD Cert.UpAbOutRefIdeal.τ).loc Cert.UpAbOutRefIdeal.main_arg1)
          ∧ r.2.mem ((c.tc : Thread Cert.UpAbOutRefIdeal.nD Cert.UpAbOutRefIdeal.τ).loc Cert.UpAbOutRefIdeal.main_arg2) = m' ((c.tc : Thread Cert.UpAbOutRefIdeal.nD Cert.UpAbOutRefIdeal.τ).loc Cert.UpAbOutRefIdeal.main_arg2)
          ∧ r.2.mem ((c.tc : Thread Cert.UpAbOutRefIdeal.nD Cert.UpAbOutRefIdeal.τ).loc Cert.UpAbOutRefIdeal.main_arg3) = m' ((c.tc : Thread Cert.UpAbOutRefIdeal.nD Cert.UpAbOutRefIdeal.τ).loc Cert.UpAbOutRefIdeal.main_arg3))

def preserves_UpGlu_UpGluIdeal : Prop :=
  True

def algebraic_UpGluIdeal_UpGluRefIdeal [hUpGluIdeal : Cert.UpGluIdeal.Facts] [hUpGluRefIdeal : Cert.UpGluRefIdeal.Facts] : Prop :=
  ∀ (m : (ℓ : Loc Cert.UpGluIdeal.nD Cert.UpGluIdeal.τ Cert.UpGluIdeal.sig) → Buf (Elt Ideal) ℓ) (g : Dev Cert.UpGluIdeal.nD → PrngReg)
    (m' : (ℓ : Loc Cert.UpGluRefIdeal.nD Cert.UpGluRefIdeal.τ Cert.UpGluRefIdeal.sig) → Buf (Elt Ideal) ℓ) (g' : Dev Cert.UpGluRefIdeal.nD → PrngReg), Pre_UpGluIdeal m →
    (∀ c : Dev Cert.UpGluIdeal.nD,
      m' ((c.tc : Thread Cert.UpGluRefIdeal.nD Cert.UpGluRefIdeal.τ).loc Cert.UpGluRefIdeal.main_arg0) = m ((c.tc : Thread Cert.UpGluIdeal.nD Cert.UpGluIdeal.τ).loc Cert.UpGluIdeal.main_arg0)
      ∧ m' ((c.tc : Thread Cert.UpGluRefIdeal.nD Cert.UpGluRefIdeal.τ).loc Cert.UpGluRefIdeal.main_arg1) = m ((c.tc : Thread Cert.UpGluIdeal.nD Cert.UpGluIdeal.τ).loc Cert.UpGluIdeal.main_arg1)
      ∧ m' ((c.tc : Thread Cert.UpGluRefIdeal.nD Cert.UpGluRefIdeal.τ).loc Cert.UpGluRefIdeal.main_arg2) = m ((c.tc : Thread Cert.UpGluIdeal.nD Cert.UpGluIdeal.τ).loc Cert.UpGluIdeal.main_arg2)
      ∧ m' ((c.tc : Thread Cert.UpGluRefIdeal.nD Cert.UpGluRefIdeal.τ).loc Cert.UpGluRefIdeal.main_arg3) = m ((c.tc : Thread Cert.UpGluIdeal.nD Cert.UpGluIdeal.τ).loc Cert.UpGluIdeal.main_arg3)) →
    ∃ (v0 : (c : Dev Cert.UpGluIdeal.nD) → Buf (Elt Ideal) ((c.tc : Thread Cert.UpGluIdeal.nD Cert.UpGluIdeal.τ).loc Cert.UpGluIdeal.main_v0_0)) (v1 : (c : Dev Cert.UpGluIdeal.nD) → Buf (Elt Ideal) ((c.tc : Thread Cert.UpGluIdeal.nD Cert.UpGluIdeal.τ).loc Cert.UpGluIdeal.main_v0_1)) (v2 : (c : Dev Cert.UpGluIdeal.nD) → Buf (Elt Ideal) ((c.tc : Thread Cert.UpGluIdeal.nD Cert.UpGluIdeal.τ).loc Cert.UpGluIdeal.main_v0_2)),
      θ_run (Cert.UpGluIdeal.defs (F := Ideal)) (onTc (τ := Cert.UpGluIdeal.τ) (Cert.UpGluIdeal.main (F := Ideal))) ⟨m, fun _ => 0, g⟩ (fun r => ∀ c : Dev Cert.UpGluIdeal.nD,
          r.2.mem ((c.tc : Thread Cert.UpGluIdeal.nD Cert.UpGluIdeal.τ).loc Cert.UpGluIdeal.main_v0_0) = v0 c
          ∧ r.2.mem ((c.tc : Thread Cert.UpGluIdeal.nD Cert.UpGluIdeal.τ).loc Cert.UpGluIdeal.main_v0_1) = v1 c
          ∧ r.2.mem ((c.tc : Thread Cert.UpGluIdeal.nD Cert.UpGluIdeal.τ).loc Cert.UpGluIdeal.main_v0_2) = v2 c
          ∧ r.2.mem ((c.tc : Thread Cert.UpGluIdeal.nD Cert.UpGluIdeal.τ).loc Cert.UpGluIdeal.main_arg0) = m ((c.tc : Thread Cert.UpGluIdeal.nD Cert.UpGluIdeal.τ).loc Cert.UpGluIdeal.main_arg0)
          ∧ r.2.mem ((c.tc : Thread Cert.UpGluIdeal.nD Cert.UpGluIdeal.τ).loc Cert.UpGluIdeal.main_arg1) = m ((c.tc : Thread Cert.UpGluIdeal.nD Cert.UpGluIdeal.τ).loc Cert.UpGluIdeal.main_arg1)
          ∧ r.2.mem ((c.tc : Thread Cert.UpGluIdeal.nD Cert.UpGluIdeal.τ).loc Cert.UpGluIdeal.main_arg2) = m ((c.tc : Thread Cert.UpGluIdeal.nD Cert.UpGluIdeal.τ).loc Cert.UpGluIdeal.main_arg2)
          ∧ r.2.mem ((c.tc : Thread Cert.UpGluIdeal.nD Cert.UpGluIdeal.τ).loc Cert.UpGluIdeal.main_arg3) = m ((c.tc : Thread Cert.UpGluIdeal.nD Cert.UpGluIdeal.τ).loc Cert.UpGluIdeal.main_arg3))
      ∧ θ_run (Cert.UpGluRefIdeal.defs (F := Ideal)) (onTc (τ := Cert.UpGluRefIdeal.τ) (Cert.UpGluRefIdeal.main (F := Ideal))) ⟨m', fun _ => 0, g'⟩ (fun r => ∀ c : Dev Cert.UpGluRefIdeal.nD,
          r.2.mem ((c.tc : Thread Cert.UpGluRefIdeal.nD Cert.UpGluRefIdeal.τ).loc Cert.UpGluRefIdeal.main_v23) = v0 c
          ∧ r.2.mem ((c.tc : Thread Cert.UpGluRefIdeal.nD Cert.UpGluRefIdeal.τ).loc Cert.UpGluRefIdeal.main_v4) = v1 c
          ∧ r.2.mem ((c.tc : Thread Cert.UpGluRefIdeal.nD Cert.UpGluRefIdeal.τ).loc Cert.UpGluRefIdeal.main_v10) = v2 c
          ∧ r.2.mem ((c.tc : Thread Cert.UpGluRefIdeal.nD Cert.UpGluRefIdeal.τ).loc Cert.UpGluRefIdeal.main_arg0) = m' ((c.tc : Thread Cert.UpGluRefIdeal.nD Cert.UpGluRefIdeal.τ).loc Cert.UpGluRefIdeal.main_arg0)
          ∧ r.2.mem ((c.tc : Thread Cert.UpGluRefIdeal.nD Cert.UpGluRefIdeal.τ).loc Cert.UpGluRefIdeal.main_arg1) = m' ((c.tc : Thread Cert.UpGluRefIdeal.nD Cert.UpGluRefIdeal.τ).loc Cert.UpGluRefIdeal.main_arg1)
          ∧ r.2.mem ((c.tc : Thread Cert.UpGluRefIdeal.nD Cert.UpGluRefIdeal.τ).loc Cert.UpGluRefIdeal.main_arg2) = m' ((c.tc : Thread Cert.UpGluRefIdeal.nD Cert.UpGluRefIdeal.τ).loc Cert.UpGluRefIdeal.main_arg2)
          ∧ r.2.mem ((c.tc : Thread Cert.UpGluRefIdeal.nD Cert.UpGluRefIdeal.τ).loc Cert.UpGluRefIdeal.main_arg3) = m' ((c.tc : Thread Cert.UpGluRefIdeal.nD Cert.UpGluRefIdeal.τ).loc Cert.UpGluRefIdeal.main_arg3))

def preserves_UpGdnIn_UpGdnInIdeal : Prop :=
  True

def algebraic_UpGdnInIdeal_UpGdnInRefIdeal [hUpGdnInIdeal : Cert.UpGdnInIdeal.Facts] [hUpGdnInRefIdeal : Cert.UpGdnInRefIdeal.Facts] : Prop :=
  ∀ (m : (ℓ : Loc Cert.UpGdnInIdeal.nD Cert.UpGdnInIdeal.τ Cert.UpGdnInIdeal.sig) → Buf (Elt Ideal) ℓ) (g : Dev Cert.UpGdnInIdeal.nD → PrngReg)
    (m' : (ℓ : Loc Cert.UpGdnInRefIdeal.nD Cert.UpGdnInRefIdeal.τ Cert.UpGdnInRefIdeal.sig) → Buf (Elt Ideal) ℓ) (g' : Dev Cert.UpGdnInRefIdeal.nD → PrngReg), Pre_UpGdnInIdeal m →
    (∀ c : Dev Cert.UpGdnInIdeal.nD,
      m' ((c.tc : Thread Cert.UpGdnInRefIdeal.nD Cert.UpGdnInRefIdeal.τ).loc Cert.UpGdnInRefIdeal.main_arg0) = m ((c.tc : Thread Cert.UpGdnInIdeal.nD Cert.UpGdnInIdeal.τ).loc Cert.UpGdnInIdeal.main_arg0)
      ∧ m' ((c.tc : Thread Cert.UpGdnInRefIdeal.nD Cert.UpGdnInRefIdeal.τ).loc Cert.UpGdnInRefIdeal.main_arg1) = m ((c.tc : Thread Cert.UpGdnInIdeal.nD Cert.UpGdnInIdeal.τ).loc Cert.UpGdnInIdeal.main_arg1)
      ∧ m' ((c.tc : Thread Cert.UpGdnInRefIdeal.nD Cert.UpGdnInRefIdeal.τ).loc Cert.UpGdnInRefIdeal.main_arg2) = m ((c.tc : Thread Cert.UpGdnInIdeal.nD Cert.UpGdnInIdeal.τ).loc Cert.UpGdnInIdeal.main_arg2)
      ∧ m' ((c.tc : Thread Cert.UpGdnInRefIdeal.nD Cert.UpGdnInRefIdeal.τ).loc Cert.UpGdnInRefIdeal.main_arg3) = m ((c.tc : Thread Cert.UpGdnInIdeal.nD Cert.UpGdnInIdeal.τ).loc Cert.UpGdnInIdeal.main_arg3)) →
    ∃ (v0 : (c : Dev Cert.UpGdnInIdeal.nD) → Buf (Elt Ideal) ((c.tc : Thread Cert.UpGdnInIdeal.nD Cert.UpGdnInIdeal.τ).loc Cert.UpGdnInIdeal.main_v0_0)) (v1 : (c : Dev Cert.UpGdnInIdeal.nD) → Buf (Elt Ideal) ((c.tc : Thread Cert.UpGdnInIdeal.nD Cert.UpGdnInIdeal.τ).loc Cert.UpGdnInIdeal.main_v0_1)) (v2 : (c : Dev Cert.UpGdnInIdeal.nD) → Buf (Elt Ideal) ((c.tc : Thread Cert.UpGdnInIdeal.nD Cert.UpGdnInIdeal.τ).loc Cert.UpGdnInIdeal.main_v0_2)),
      θ_run (Cert.UpGdnInIdeal.defs (F := Ideal)) (onTc (τ := Cert.UpGdnInIdeal.τ) (Cert.UpGdnInIdeal.main (F := Ideal))) ⟨m, fun _ => 0, g⟩ (fun r => ∀ c : Dev Cert.UpGdnInIdeal.nD,
          r.2.mem ((c.tc : Thread Cert.UpGdnInIdeal.nD Cert.UpGdnInIdeal.τ).loc Cert.UpGdnInIdeal.main_v0_0) = v0 c
          ∧ r.2.mem ((c.tc : Thread Cert.UpGdnInIdeal.nD Cert.UpGdnInIdeal.τ).loc Cert.UpGdnInIdeal.main_v0_1) = v1 c
          ∧ r.2.mem ((c.tc : Thread Cert.UpGdnInIdeal.nD Cert.UpGdnInIdeal.τ).loc Cert.UpGdnInIdeal.main_v0_2) = v2 c
          ∧ r.2.mem ((c.tc : Thread Cert.UpGdnInIdeal.nD Cert.UpGdnInIdeal.τ).loc Cert.UpGdnInIdeal.main_arg0) = m ((c.tc : Thread Cert.UpGdnInIdeal.nD Cert.UpGdnInIdeal.τ).loc Cert.UpGdnInIdeal.main_arg0)
          ∧ r.2.mem ((c.tc : Thread Cert.UpGdnInIdeal.nD Cert.UpGdnInIdeal.τ).loc Cert.UpGdnInIdeal.main_arg1) = m ((c.tc : Thread Cert.UpGdnInIdeal.nD Cert.UpGdnInIdeal.τ).loc Cert.UpGdnInIdeal.main_arg1)
          ∧ r.2.mem ((c.tc : Thread Cert.UpGdnInIdeal.nD Cert.UpGdnInIdeal.τ).loc Cert.UpGdnInIdeal.main_arg2) = m ((c.tc : Thread Cert.UpGdnInIdeal.nD Cert.UpGdnInIdeal.τ).loc Cert.UpGdnInIdeal.main_arg2)
          ∧ r.2.mem ((c.tc : Thread Cert.UpGdnInIdeal.nD Cert.UpGdnInIdeal.τ).loc Cert.UpGdnInIdeal.main_arg3) = m ((c.tc : Thread Cert.UpGdnInIdeal.nD Cert.UpGdnInIdeal.τ).loc Cert.UpGdnInIdeal.main_arg3))
      ∧ θ_run (Cert.UpGdnInRefIdeal.defs (F := Ideal)) (onTc (τ := Cert.UpGdnInRefIdeal.τ) (Cert.UpGdnInRefIdeal.main (F := Ideal))) ⟨m', fun _ => 0, g'⟩ (fun r => ∀ c : Dev Cert.UpGdnInRefIdeal.nD,
          r.2.mem ((c.tc : Thread Cert.UpGdnInRefIdeal.nD Cert.UpGdnInRefIdeal.τ).loc Cert.UpGdnInRefIdeal.main_v23) = v0 c
          ∧ r.2.mem ((c.tc : Thread Cert.UpGdnInRefIdeal.nD Cert.UpGdnInRefIdeal.τ).loc Cert.UpGdnInRefIdeal.main_v4) = v1 c
          ∧ r.2.mem ((c.tc : Thread Cert.UpGdnInRefIdeal.nD Cert.UpGdnInRefIdeal.τ).loc Cert.UpGdnInRefIdeal.main_v10) = v2 c
          ∧ r.2.mem ((c.tc : Thread Cert.UpGdnInRefIdeal.nD Cert.UpGdnInRefIdeal.τ).loc Cert.UpGdnInRefIdeal.main_arg0) = m' ((c.tc : Thread Cert.UpGdnInRefIdeal.nD Cert.UpGdnInRefIdeal.τ).loc Cert.UpGdnInRefIdeal.main_arg0)
          ∧ r.2.mem ((c.tc : Thread Cert.UpGdnInRefIdeal.nD Cert.UpGdnInRefIdeal.τ).loc Cert.UpGdnInRefIdeal.main_arg1) = m' ((c.tc : Thread Cert.UpGdnInRefIdeal.nD Cert.UpGdnInRefIdeal.τ).loc Cert.UpGdnInRefIdeal.main_arg1)
          ∧ r.2.mem ((c.tc : Thread Cert.UpGdnInRefIdeal.nD Cert.UpGdnInRefIdeal.τ).loc Cert.UpGdnInRefIdeal.main_arg2) = m' ((c.tc : Thread Cert.UpGdnInRefIdeal.nD Cert.UpGdnInRefIdeal.τ).loc Cert.UpGdnInRefIdeal.main_arg2)
          ∧ r.2.mem ((c.tc : Thread Cert.UpGdnInRefIdeal.nD Cert.UpGdnInRefIdeal.τ).loc Cert.UpGdnInRefIdeal.main_arg3) = m' ((c.tc : Thread Cert.UpGdnInRefIdeal.nD Cert.UpGdnInRefIdeal.τ).loc Cert.UpGdnInRefIdeal.main_arg3))

def preserves_UpGdnOut_UpGdnOutIdeal : Prop :=
  True

def algebraic_UpGdnOutIdeal_UpGdnOutRefIdeal [hUpGdnOutIdeal : Cert.UpGdnOutIdeal.Facts] [hUpGdnOutRefIdeal : Cert.UpGdnOutRefIdeal.Facts] : Prop :=
  ∀ (m : (ℓ : Loc Cert.UpGdnOutIdeal.nD Cert.UpGdnOutIdeal.τ Cert.UpGdnOutIdeal.sig) → Buf (Elt Ideal) ℓ) (g : Dev Cert.UpGdnOutIdeal.nD → PrngReg)
    (m' : (ℓ : Loc Cert.UpGdnOutRefIdeal.nD Cert.UpGdnOutRefIdeal.τ Cert.UpGdnOutRefIdeal.sig) → Buf (Elt Ideal) ℓ) (g' : Dev Cert.UpGdnOutRefIdeal.nD → PrngReg), Pre_UpGdnOutIdeal m →
    (∀ c : Dev Cert.UpGdnOutIdeal.nD,
      m' ((c.tc : Thread Cert.UpGdnOutRefIdeal.nD Cert.UpGdnOutRefIdeal.τ).loc Cert.UpGdnOutRefIdeal.main_arg0) = m ((c.tc : Thread Cert.UpGdnOutIdeal.nD Cert.UpGdnOutIdeal.τ).loc Cert.UpGdnOutIdeal.main_arg0)
      ∧ m' ((c.tc : Thread Cert.UpGdnOutRefIdeal.nD Cert.UpGdnOutRefIdeal.τ).loc Cert.UpGdnOutRefIdeal.main_arg1) = m ((c.tc : Thread Cert.UpGdnOutIdeal.nD Cert.UpGdnOutIdeal.τ).loc Cert.UpGdnOutIdeal.main_arg1)
      ∧ m' ((c.tc : Thread Cert.UpGdnOutRefIdeal.nD Cert.UpGdnOutRefIdeal.τ).loc Cert.UpGdnOutRefIdeal.main_arg2) = m ((c.tc : Thread Cert.UpGdnOutIdeal.nD Cert.UpGdnOutIdeal.τ).loc Cert.UpGdnOutIdeal.main_arg2)
      ∧ m' ((c.tc : Thread Cert.UpGdnOutRefIdeal.nD Cert.UpGdnOutRefIdeal.τ).loc Cert.UpGdnOutRefIdeal.main_arg3) = m ((c.tc : Thread Cert.UpGdnOutIdeal.nD Cert.UpGdnOutIdeal.τ).loc Cert.UpGdnOutIdeal.main_arg3)) →
    ∃ (v0 : (c : Dev Cert.UpGdnOutIdeal.nD) → Buf (Elt Ideal) ((c.tc : Thread Cert.UpGdnOutIdeal.nD Cert.UpGdnOutIdeal.τ).loc Cert.UpGdnOutIdeal.main_v0_0)) (v1 : (c : Dev Cert.UpGdnOutIdeal.nD) → Buf (Elt Ideal) ((c.tc : Thread Cert.UpGdnOutIdeal.nD Cert.UpGdnOutIdeal.τ).loc Cert.UpGdnOutIdeal.main_v0_1)) (v2 : (c : Dev Cert.UpGdnOutIdeal.nD) → Buf (Elt Ideal) ((c.tc : Thread Cert.UpGdnOutIdeal.nD Cert.UpGdnOutIdeal.τ).loc Cert.UpGdnOutIdeal.main_v0_2)),
      θ_run (Cert.UpGdnOutIdeal.defs (F := Ideal)) (onTc (τ := Cert.UpGdnOutIdeal.τ) (Cert.UpGdnOutIdeal.main (F := Ideal))) ⟨m, fun _ => 0, g⟩ (fun r => ∀ c : Dev Cert.UpGdnOutIdeal.nD,
          r.2.mem ((c.tc : Thread Cert.UpGdnOutIdeal.nD Cert.UpGdnOutIdeal.τ).loc Cert.UpGdnOutIdeal.main_v0_0) = v0 c
          ∧ r.2.mem ((c.tc : Thread Cert.UpGdnOutIdeal.nD Cert.UpGdnOutIdeal.τ).loc Cert.UpGdnOutIdeal.main_v0_1) = v1 c
          ∧ r.2.mem ((c.tc : Thread Cert.UpGdnOutIdeal.nD Cert.UpGdnOutIdeal.τ).loc Cert.UpGdnOutIdeal.main_v0_2) = v2 c
          ∧ r.2.mem ((c.tc : Thread Cert.UpGdnOutIdeal.nD Cert.UpGdnOutIdeal.τ).loc Cert.UpGdnOutIdeal.main_arg0) = m ((c.tc : Thread Cert.UpGdnOutIdeal.nD Cert.UpGdnOutIdeal.τ).loc Cert.UpGdnOutIdeal.main_arg0)
          ∧ r.2.mem ((c.tc : Thread Cert.UpGdnOutIdeal.nD Cert.UpGdnOutIdeal.τ).loc Cert.UpGdnOutIdeal.main_arg1) = m ((c.tc : Thread Cert.UpGdnOutIdeal.nD Cert.UpGdnOutIdeal.τ).loc Cert.UpGdnOutIdeal.main_arg1)
          ∧ r.2.mem ((c.tc : Thread Cert.UpGdnOutIdeal.nD Cert.UpGdnOutIdeal.τ).loc Cert.UpGdnOutIdeal.main_arg2) = m ((c.tc : Thread Cert.UpGdnOutIdeal.nD Cert.UpGdnOutIdeal.τ).loc Cert.UpGdnOutIdeal.main_arg2)
          ∧ r.2.mem ((c.tc : Thread Cert.UpGdnOutIdeal.nD Cert.UpGdnOutIdeal.τ).loc Cert.UpGdnOutIdeal.main_arg3) = m ((c.tc : Thread Cert.UpGdnOutIdeal.nD Cert.UpGdnOutIdeal.τ).loc Cert.UpGdnOutIdeal.main_arg3))
      ∧ θ_run (Cert.UpGdnOutRefIdeal.defs (F := Ideal)) (onTc (τ := Cert.UpGdnOutRefIdeal.τ) (Cert.UpGdnOutRefIdeal.main (F := Ideal))) ⟨m', fun _ => 0, g'⟩ (fun r => ∀ c : Dev Cert.UpGdnOutRefIdeal.nD,
          r.2.mem ((c.tc : Thread Cert.UpGdnOutRefIdeal.nD Cert.UpGdnOutRefIdeal.τ).loc Cert.UpGdnOutRefIdeal.main_v23) = v0 c
          ∧ r.2.mem ((c.tc : Thread Cert.UpGdnOutRefIdeal.nD Cert.UpGdnOutRefIdeal.τ).loc Cert.UpGdnOutRefIdeal.main_v4) = v1 c
          ∧ r.2.mem ((c.tc : Thread Cert.UpGdnOutRefIdeal.nD Cert.UpGdnOutRefIdeal.τ).loc Cert.UpGdnOutRefIdeal.main_v10) = v2 c
          ∧ r.2.mem ((c.tc : Thread Cert.UpGdnOutRefIdeal.nD Cert.UpGdnOutRefIdeal.τ).loc Cert.UpGdnOutRefIdeal.main_arg0) = m' ((c.tc : Thread Cert.UpGdnOutRefIdeal.nD Cert.UpGdnOutRefIdeal.τ).loc Cert.UpGdnOutRefIdeal.main_arg0)
          ∧ r.2.mem ((c.tc : Thread Cert.UpGdnOutRefIdeal.nD Cert.UpGdnOutRefIdeal.τ).loc Cert.UpGdnOutRefIdeal.main_arg1) = m' ((c.tc : Thread Cert.UpGdnOutRefIdeal.nD Cert.UpGdnOutRefIdeal.τ).loc Cert.UpGdnOutRefIdeal.main_arg1)
          ∧ r.2.mem ((c.tc : Thread Cert.UpGdnOutRefIdeal.nD Cert.UpGdnOutRefIdeal.τ).loc Cert.UpGdnOutRefIdeal.main_arg2) = m' ((c.tc : Thread Cert.UpGdnOutRefIdeal.nD Cert.UpGdnOutRefIdeal.τ).loc Cert.UpGdnOutRefIdeal.main_arg2)
          ∧ r.2.mem ((c.tc : Thread Cert.UpGdnOutRefIdeal.nD Cert.UpGdnOutRefIdeal.τ).loc Cert.UpGdnOutRefIdeal.main_arg3) = m' ((c.tc : Thread Cert.UpGdnOutRefIdeal.nD Cert.UpGdnOutRefIdeal.τ).loc Cert.UpGdnOutRefIdeal.main_arg3))

def preserves_UpSmall_UpSmallIdeal : Prop :=
  True

def algebraic_UpSmallIdeal_UpSmallRefIdeal [hUpSmallIdeal : Cert.UpSmallIdeal.Facts] [hUpSmallRefIdeal : Cert.UpSmallRefIdeal.Facts] : Prop :=
  ∀ (m : (ℓ : Loc Cert.UpSmallIdeal.nD Cert.UpSmallIdeal.τ Cert.UpSmallIdeal.sig) → Buf (Elt Ideal) ℓ) (g : Dev Cert.UpSmallIdeal.nD → PrngReg)
    (m' : (ℓ : Loc Cert.UpSmallRefIdeal.nD Cert.UpSmallRefIdeal.τ Cert.UpSmallRefIdeal.sig) → Buf (Elt Ideal) ℓ) (g' : Dev Cert.UpSmallRefIdeal.nD → PrngReg), Pre_UpSmallIdeal m →
    (∀ c : Dev Cert.UpSmallIdeal.nD,
      m' ((c.tc : Thread Cert.UpSmallRefIdeal.nD Cert.UpSmallRefIdeal.τ).loc Cert.UpSmallRefIdeal.main_arg0) = m ((c.tc : Thread Cert.UpSmallIdeal.nD Cert.UpSmallIdeal.τ).loc Cert.UpSmallIdeal.main_arg0)
      ∧ m' ((c.tc : Thread Cert.UpSmallRefIdeal.nD Cert.UpSmallRefIdeal.τ).loc Cert.UpSmallRefIdeal.main_arg1) = m ((c.tc : Thread Cert.UpSmallIdeal.nD Cert.UpSmallIdeal.τ).loc Cert.UpSmallIdeal.main_arg1)
      ∧ m' ((c.tc : Thread Cert.UpSmallRefIdeal.nD Cert.UpSmallRefIdeal.τ).loc Cert.UpSmallRefIdeal.main_arg2) = m ((c.tc : Thread Cert.UpSmallIdeal.nD Cert.UpSmallIdeal.τ).loc Cert.UpSmallIdeal.main_arg2)
      ∧ m' ((c.tc : Thread Cert.UpSmallRefIdeal.nD Cert.UpSmallRefIdeal.τ).loc Cert.UpSmallRefIdeal.main_arg3) = m ((c.tc : Thread Cert.UpSmallIdeal.nD Cert.UpSmallIdeal.τ).loc Cert.UpSmallIdeal.main_arg3)) →
    ∃ (v0 : (c : Dev Cert.UpSmallIdeal.nD) → Buf (Elt Ideal) ((c.tc : Thread Cert.UpSmallIdeal.nD Cert.UpSmallIdeal.τ).loc Cert.UpSmallIdeal.main_v0_0)) (v1 : (c : Dev Cert.UpSmallIdeal.nD) → Buf (Elt Ideal) ((c.tc : Thread Cert.UpSmallIdeal.nD Cert.UpSmallIdeal.τ).loc Cert.UpSmallIdeal.main_v0_1)) (v2 : (c : Dev Cert.UpSmallIdeal.nD) → Buf (Elt Ideal) ((c.tc : Thread Cert.UpSmallIdeal.nD Cert.UpSmallIdeal.τ).loc Cert.UpSmallIdeal.main_v0_2)),
      θ_run (Cert.UpSmallIdeal.defs (F := Ideal)) (onTc (τ := Cert.UpSmallIdeal.τ) (Cert.UpSmallIdeal.main (F := Ideal))) ⟨m, fun _ => 0, g⟩ (fun r => ∀ c : Dev Cert.UpSmallIdeal.nD,
          r.2.mem ((c.tc : Thread Cert.UpSmallIdeal.nD Cert.UpSmallIdeal.τ).loc Cert.UpSmallIdeal.main_v0_0) = v0 c
          ∧ r.2.mem ((c.tc : Thread Cert.UpSmallIdeal.nD Cert.UpSmallIdeal.τ).loc Cert.UpSmallIdeal.main_v0_1) = v1 c
          ∧ r.2.mem ((c.tc : Thread Cert.UpSmallIdeal.nD Cert.UpSmallIdeal.τ).loc Cert.UpSmallIdeal.main_v0_2) = v2 c
          ∧ r.2.mem ((c.tc : Thread Cert.UpSmallIdeal.nD Cert.UpSmallIdeal.τ).loc Cert.UpSmallIdeal.main_arg0) = m ((c.tc : Thread Cert.UpSmallIdeal.nD Cert.UpSmallIdeal.τ).loc Cert.UpSmallIdeal.main_arg0)
          ∧ r.2.mem ((c.tc : Thread Cert.UpSmallIdeal.nD Cert.UpSmallIdeal.τ).loc Cert.UpSmallIdeal.main_arg1) = m ((c.tc : Thread Cert.UpSmallIdeal.nD Cert.UpSmallIdeal.τ).loc Cert.UpSmallIdeal.main_arg1)
          ∧ r.2.mem ((c.tc : Thread Cert.UpSmallIdeal.nD Cert.UpSmallIdeal.τ).loc Cert.UpSmallIdeal.main_arg2) = m ((c.tc : Thread Cert.UpSmallIdeal.nD Cert.UpSmallIdeal.τ).loc Cert.UpSmallIdeal.main_arg2)
          ∧ r.2.mem ((c.tc : Thread Cert.UpSmallIdeal.nD Cert.UpSmallIdeal.τ).loc Cert.UpSmallIdeal.main_arg3) = m ((c.tc : Thread Cert.UpSmallIdeal.nD Cert.UpSmallIdeal.τ).loc Cert.UpSmallIdeal.main_arg3))
      ∧ θ_run (Cert.UpSmallRefIdeal.defs (F := Ideal)) (onTc (τ := Cert.UpSmallRefIdeal.τ) (Cert.UpSmallRefIdeal.main (F := Ideal))) ⟨m', fun _ => 0, g'⟩ (fun r => ∀ c : Dev Cert.UpSmallRefIdeal.nD,
          r.2.mem ((c.tc : Thread Cert.UpSmallRefIdeal.nD Cert.UpSmallRefIdeal.τ).loc Cert.UpSmallRefIdeal.main_v23) = v0 c
          ∧ r.2.mem ((c.tc : Thread Cert.UpSmallRefIdeal.nD Cert.UpSmallRefIdeal.τ).loc Cert.UpSmallRefIdeal.main_v4) = v1 c
          ∧ r.2.mem ((c.tc : Thread Cert.UpSmallRefIdeal.nD Cert.UpSmallRefIdeal.τ).loc Cert.UpSmallRefIdeal.main_v10) = v2 c
          ∧ r.2.mem ((c.tc : Thread Cert.UpSmallRefIdeal.nD Cert.UpSmallRefIdeal.τ).loc Cert.UpSmallRefIdeal.main_arg0) = m' ((c.tc : Thread Cert.UpSmallRefIdeal.nD Cert.UpSmallRefIdeal.τ).loc Cert.UpSmallRefIdeal.main_arg0)
          ∧ r.2.mem ((c.tc : Thread Cert.UpSmallRefIdeal.nD Cert.UpSmallRefIdeal.τ).loc Cert.UpSmallRefIdeal.main_arg1) = m' ((c.tc : Thread Cert.UpSmallRefIdeal.nD Cert.UpSmallRefIdeal.τ).loc Cert.UpSmallRefIdeal.main_arg1)
          ∧ r.2.mem ((c.tc : Thread Cert.UpSmallRefIdeal.nD Cert.UpSmallRefIdeal.τ).loc Cert.UpSmallRefIdeal.main_arg2) = m' ((c.tc : Thread Cert.UpSmallRefIdeal.nD Cert.UpSmallRefIdeal.τ).loc Cert.UpSmallRefIdeal.main_arg2)
          ∧ r.2.mem ((c.tc : Thread Cert.UpSmallRefIdeal.nD Cert.UpSmallRefIdeal.τ).loc Cert.UpSmallRefIdeal.main_arg3) = m' ((c.tc : Thread Cert.UpSmallRefIdeal.nD Cert.UpSmallRefIdeal.τ).loc Cert.UpSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SibAbIn_SibAbInIdeal : Prop :=
  True

def algebraic_SibAbInIdeal_SibAbInRefIdeal [hSibAbInIdeal : Cert.SibAbInIdeal.Facts] [hSibAbInRefIdeal : Cert.SibAbInRefIdeal.Facts] : Prop :=
  ∀ (m : (ℓ : Loc Cert.SibAbInIdeal.nD Cert.SibAbInIdeal.τ Cert.SibAbInIdeal.sig) → Buf (Elt Ideal) ℓ) (g : Dev Cert.SibAbInIdeal.nD → PrngReg)
    (m' : (ℓ : Loc Cert.SibAbInRefIdeal.nD Cert.SibAbInRefIdeal.τ Cert.SibAbInRefIdeal.sig) → Buf (Elt Ideal) ℓ) (g' : Dev Cert.SibAbInRefIdeal.nD → PrngReg), Pre_SibAbInIdeal m →
    (∀ c : Dev Cert.SibAbInIdeal.nD,
      m' ((c.tc : Thread Cert.SibAbInRefIdeal.nD Cert.SibAbInRefIdeal.τ).loc Cert.SibAbInRefIdeal.main_arg0) = m ((c.tc : Thread Cert.SibAbInIdeal.nD Cert.SibAbInIdeal.τ).loc Cert.SibAbInIdeal.main_arg0)
      ∧ m' ((c.tc : Thread Cert.SibAbInRefIdeal.nD Cert.SibAbInRefIdeal.τ).loc Cert.SibAbInRefIdeal.main_arg1) = m ((c.tc : Thread Cert.SibAbInIdeal.nD Cert.SibAbInIdeal.τ).loc Cert.SibAbInIdeal.main_arg1)) →
    ∃ (v0 : (c : Dev Cert.SibAbInIdeal.nD) → Buf (Elt Ideal) ((c.tc : Thread Cert.SibAbInIdeal.nD Cert.SibAbInIdeal.τ).loc Cert.SibAbInIdeal.main_v0)),
      θ_run (Cert.SibAbInIdeal.defs (F := Ideal)) (onTc (τ := Cert.SibAbInIdeal.τ) (Cert.SibAbInIdeal.main (F := Ideal))) ⟨m, fun _ => 0, g⟩ (fun r => ∀ c : Dev Cert.SibAbInIdeal.nD,
          r.2.mem ((c.tc : Thread Cert.SibAbInIdeal.nD Cert.SibAbInIdeal.τ).loc Cert.SibAbInIdeal.main_v0) = v0 c
          ∧ r.2.mem ((c.tc : Thread Cert.SibAbInIdeal.nD Cert.SibAbInIdeal.τ).loc Cert.SibAbInIdeal.main_arg0) = m ((c.tc : Thread Cert.SibAbInIdeal.nD Cert.SibAbInIdeal.τ).loc Cert.SibAbInIdeal.main_arg0)
          ∧ r.2.mem ((c.tc : Thread Cert.SibAbInIdeal.nD Cert.SibAbInIdeal.τ).loc Cert.SibAbInIdeal.main_arg1) = m ((c.tc : Thread Cert.SibAbInIdeal.nD Cert.SibAbInIdeal.τ).loc Cert.SibAbInIdeal.main_arg1))
      ∧ θ_run (Cert.SibAbInRefIdeal.defs (F := Ideal)) (onTc (τ := Cert.SibAbInRefIdeal.τ) (Cert.SibAbInRefIdeal.main (F := Ideal))) ⟨m', fun _ => 0, g'⟩ (fun r => ∀ c : Dev Cert.SibAbInRefIdeal.nD,
          r.2.mem ((c.tc : Thread Cert.SibAbInRefIdeal.nD Cert.SibAbInRefIdeal.τ).loc Cert.SibAbInRefIdeal.main_v0) = v0 c
          ∧ r.2.mem ((c.tc : Thread Cert.SibAbInRefIdeal.nD Cert.SibAbInRefIdeal.τ).loc Cert.SibAbInRefIdeal.main_arg0) = m' ((c.tc : Thread Cert.SibAbInRefIdeal.nD Cert.SibAbInRefIdeal.τ).loc Cert.SibAbInRefIdeal.main_arg0)
          ∧ r.2.mem ((c.tc : Thread Cert.SibAbInRefIdeal.nD Cert.SibAbInRefIdeal.τ).loc Cert.SibAbInRefIdeal.main_arg1) = m' ((c.tc : Thread Cert.SibAbInRefIdeal.nD Cert.SibAbInRefIdeal.τ).loc Cert.SibAbInRefIdeal.main_arg1))

def bitexact_SibAbIn_SibAbInRef [hSibAbIn : Cert.SibAbIn.Facts] [hSibAbInRef : Cert.SibAbInRef.Facts] : Prop :=
  ∀ (m : (ℓ : Loc Cert.SibAbIn.nD Cert.SibAbIn.τ Cert.SibAbIn.sig) → Buf (Elt Bits) ℓ) (g : Dev Cert.SibAbIn.nD → PrngReg)
    (m' : (ℓ : Loc Cert.SibAbInRef.nD Cert.SibAbInRef.τ Cert.SibAbInRef.sig) → Buf (Elt Bits) ℓ) (g' : Dev Cert.SibAbInRef.nD → PrngReg), Pre_SibAbIn m →
    (∀ c : Dev Cert.SibAbIn.nD,
      m' ((c.tc : Thread Cert.SibAbInRef.nD Cert.SibAbInRef.τ).loc Cert.SibAbInRef.main_arg0) = m ((c.tc : Thread Cert.SibAbIn.nD Cert.SibAbIn.τ).loc Cert.SibAbIn.main_arg0)
      ∧ m' ((c.tc : Thread Cert.SibAbInRef.nD Cert.SibAbInRef.τ).loc Cert.SibAbInRef.main_arg1) = m ((c.tc : Thread Cert.SibAbIn.nD Cert.SibAbIn.τ).loc Cert.SibAbIn.main_arg1)) →
    ∃ (v0 : (c : Dev Cert.SibAbIn.nD) → Buf (Elt Bits) ((c.tc : Thread Cert.SibAbIn.nD Cert.SibAbIn.τ).loc Cert.SibAbIn.main_v0)),
      θ_run (Cert.SibAbIn.defs (F := Bits)) (onTc (τ := Cert.SibAbIn.τ) (Cert.SibAbIn.main (F := Bits))) ⟨m, fun _ => 0, g⟩ (fun r => ∀ c : Dev Cert.SibAbIn.nD,
          r.2.mem ((c.tc : Thread Cert.SibAbIn.nD Cert.SibAbIn.τ).loc Cert.SibAbIn.main_v0) = v0 c
          ∧ r.2.mem ((c.tc : Thread Cert.SibAbIn.nD Cert.SibAbIn.τ).loc Cert.SibAbIn.main_arg0) = m ((c.tc : Thread Cert.SibAbIn.nD Cert.SibAbIn.τ).loc Cert.SibAbIn.main_arg0)
          ∧ r.2.mem ((c.tc : Thread Cert.SibAbIn.nD Cert.SibAbIn.τ).loc Cert.SibAbIn.main_arg1) = m ((c.tc : Thread Cert.SibAbIn.nD Cert.SibAbIn.τ).loc Cert.SibAbIn.main_arg1))
      ∧ θ_run (Cert.SibAbInRef.defs (F := Bits)) (onTc (τ := Cert.SibAbInRef.τ) (Cert.SibAbInRef.main (F := Bits))) ⟨m', fun _ => 0, g'⟩ (fun r => ∀ c : Dev Cert.SibAbInRef.nD,
          r.2.mem ((c.tc : Thread Cert.SibAbInRef.nD Cert.SibAbInRef.τ).loc Cert.SibAbInRef.main_v0) = v0 c
          ∧ r.2.mem ((c.tc : Thread Cert.SibAbInRef.nD Cert.SibAbInRef.τ).loc Cert.SibAbInRef.main_arg0) = m' ((c.tc : Thread Cert.SibAbInRef.nD Cert.SibAbInRef.τ).loc Cert.SibAbInRef.main_arg0)
          ∧ r.2.mem ((c.tc : Thread Cert.SibAbInRef.nD Cert.SibAbInRef.τ).loc Cert.SibAbInRef.main_arg1) = m' ((c.tc : Thread Cert.SibAbInRef.nD Cert.SibAbInRef.τ).loc Cert.SibAbInRef.main_arg1))

def preserves_SumAbIn_SumAbInIdeal : Prop :=
  True

def algebraic_SumAbInIdeal_SumAbInRefIdeal [hSumAbInIdeal : Cert.SumAbInIdeal.Facts] [hSumAbInRefIdeal : Cert.SumAbInRefIdeal.Facts] : Prop :=
  ∀ (m : (ℓ : Loc Cert.SumAbInIdeal.nD Cert.SumAbInIdeal.τ Cert.SumAbInIdeal.sig) → Buf (Elt Ideal) ℓ) (g : Dev Cert.SumAbInIdeal.nD → PrngReg)
    (m' : (ℓ : Loc Cert.SumAbInRefIdeal.nD Cert.SumAbInRefIdeal.τ Cert.SumAbInRefIdeal.sig) → Buf (Elt Ideal) ℓ) (g' : Dev Cert.SumAbInRefIdeal.nD → PrngReg), Pre_SumAbInIdeal m →
    (∀ c : Dev Cert.SumAbInIdeal.nD,
      m' ((c.tc : Thread Cert.SumAbInRefIdeal.nD Cert.SumAbInRefIdeal.τ).loc Cert.SumAbInRefIdeal.main_arg0) = m ((c.tc : Thread Cert.SumAbInIdeal.nD Cert.SumAbInIdeal.τ).loc Cert.SumAbInIdeal.main_arg0)) →
    ∃ (v0 : (c : Dev Cert.SumAbInIdeal.nD) → Buf (Elt Ideal) ((c.tc : Thread Cert.SumAbInIdeal.nD Cert.SumAbInIdeal.τ).loc Cert.SumAbInIdeal.main_v0)),
      θ_run (Cert.SumAbInIdeal.defs (F := Ideal)) (onTc (τ := Cert.SumAbInIdeal.τ) (Cert.SumAbInIdeal.main (F := Ideal))) ⟨m, fun _ => 0, g⟩ (fun r => ∀ c : Dev Cert.SumAbInIdeal.nD,
          r.2.mem ((c.tc : Thread Cert.SumAbInIdeal.nD Cert.SumAbInIdeal.τ).loc Cert.SumAbInIdeal.main_v0) = v0 c
          ∧ r.2.mem ((c.tc : Thread Cert.SumAbInIdeal.nD Cert.SumAbInIdeal.τ).loc Cert.SumAbInIdeal.main_arg0) = m ((c.tc : Thread Cert.SumAbInIdeal.nD Cert.SumAbInIdeal.τ).loc Cert.SumAbInIdeal.main_arg0))
      ∧ θ_run (Cert.SumAbInRefIdeal.defs (F := Ideal)) (onTc (τ := Cert.SumAbInRefIdeal.τ) (Cert.SumAbInRefIdeal.main (F := Ideal))) ⟨m', fun _ => 0, g'⟩ (fun r => ∀ c : Dev Cert.SumAbInRefIdeal.nD,
          r.2.mem ((c.tc : Thread Cert.SumAbInRefIdeal.nD Cert.SumAbInRefIdeal.τ).loc Cert.SumAbInRefIdeal.main_v0) = v0 c
          ∧ r.2.mem ((c.tc : Thread Cert.SumAbInRefIdeal.nD Cert.SumAbInRefIdeal.τ).loc Cert.SumAbInRefIdeal.main_arg0) = m' ((c.tc : Thread Cert.SumAbInRefIdeal.nD Cert.SumAbInRefIdeal.τ).loc Cert.SumAbInRefIdeal.main_arg0))

def preserves_SibAbOut_SibAbOutIdeal : Prop :=
  True

def algebraic_SibAbOutIdeal_SibAbOutRefIdeal [hSibAbOutIdeal : Cert.SibAbOutIdeal.Facts] [hSibAbOutRefIdeal : Cert.SibAbOutRefIdeal.Facts] : Prop :=
  ∀ (m : (ℓ : Loc Cert.SibAbOutIdeal.nD Cert.SibAbOutIdeal.τ Cert.SibAbOutIdeal.sig) → Buf (Elt Ideal) ℓ) (g : Dev Cert.SibAbOutIdeal.nD → PrngReg)
    (m' : (ℓ : Loc Cert.SibAbOutRefIdeal.nD Cert.SibAbOutRefIdeal.τ Cert.SibAbOutRefIdeal.sig) → Buf (Elt Ideal) ℓ) (g' : Dev Cert.SibAbOutRefIdeal.nD → PrngReg), Pre_SibAbOutIdeal m →
    (∀ c : Dev Cert.SibAbOutIdeal.nD,
      m' ((c.tc : Thread Cert.SibAbOutRefIdeal.nD Cert.SibAbOutRefIdeal.τ).loc Cert.SibAbOutRefIdeal.main_arg0) = m ((c.tc : Thread Cert.SibAbOutIdeal.nD Cert.SibAbOutIdeal.τ).loc Cert.SibAbOutIdeal.main_arg0)
      ∧ m' ((c.tc : Thread Cert.SibAbOutRefIdeal.nD Cert.SibAbOutRefIdeal.τ).loc Cert.SibAbOutRefIdeal.main_arg1) = m ((c.tc : Thread Cert.SibAbOutIdeal.nD Cert.SibAbOutIdeal.τ).loc Cert.SibAbOutIdeal.main_arg1)) →
    ∃ (v0 : (c : Dev Cert.SibAbOutIdeal.nD) → Buf (Elt Ideal) ((c.tc : Thread Cert.SibAbOutIdeal.nD Cert.SibAbOutIdeal.τ).loc Cert.SibAbOutIdeal.main_v0)),
      θ_run (Cert.SibAbOutIdeal.defs (F := Ideal)) (onTc (τ := Cert.SibAbOutIdeal.τ) (Cert.SibAbOutIdeal.main (F := Ideal))) ⟨m, fun _ => 0, g⟩ (fun r => ∀ c : Dev Cert.SibAbOutIdeal.nD,
          r.2.mem ((c.tc : Thread Cert.SibAbOutIdeal.nD Cert.SibAbOutIdeal.τ).loc Cert.SibAbOutIdeal.main_v0) = v0 c
          ∧ r.2.mem ((c.tc : Thread Cert.SibAbOutIdeal.nD Cert.SibAbOutIdeal.τ).loc Cert.SibAbOutIdeal.main_arg0) = m ((c.tc : Thread Cert.SibAbOutIdeal.nD Cert.SibAbOutIdeal.τ).loc Cert.SibAbOutIdeal.main_arg0)
          ∧ r.2.mem ((c.tc : Thread Cert.SibAbOutIdeal.nD Cert.SibAbOutIdeal.τ).loc Cert.SibAbOutIdeal.main_arg1) = m ((c.tc : Thread Cert.SibAbOutIdeal.nD Cert.SibAbOutIdeal.τ).loc Cert.SibAbOutIdeal.main_arg1))
      ∧ θ_run (Cert.SibAbOutRefIdeal.defs (F := Ideal)) (onTc (τ := Cert.SibAbOutRefIdeal.τ) (Cert.SibAbOutRefIdeal.main (F := Ideal))) ⟨m', fun _ => 0, g'⟩ (fun r => ∀ c : Dev Cert.SibAbOutRefIdeal.nD,
          r.2.mem ((c.tc : Thread Cert.SibAbOutRefIdeal.nD Cert.SibAbOutRefIdeal.τ).loc Cert.SibAbOutRefIdeal.main_v0) = v0 c
          ∧ r.2.mem ((c.tc : Thread Cert.SibAbOutRefIdeal.nD Cert.SibAbOutRefIdeal.τ).loc Cert.SibAbOutRefIdeal.main_arg0) = m' ((c.tc : Thread Cert.SibAbOutRefIdeal.nD Cert.SibAbOutRefIdeal.τ).loc Cert.SibAbOutRefIdeal.main_arg0)
          ∧ r.2.mem ((c.tc : Thread Cert.SibAbOutRefIdeal.nD Cert.SibAbOutRefIdeal.τ).loc Cert.SibAbOutRefIdeal.main_arg1) = m' ((c.tc : Thread Cert.SibAbOutRefIdeal.nD Cert.SibAbOutRefIdeal.τ).loc Cert.SibAbOutRefIdeal.main_arg1))

def bitexact_SibAbOut_SibAbOutRef [hSibAbOut : Cert.SibAbOut.Facts] [hSibAbOutRef : Cert.SibAbOutRef.Facts] : Prop :=
  ∀ (m : (ℓ : Loc Cert.SibAbOut.nD Cert.SibAbOut.τ Cert.SibAbOut.sig) → Buf (Elt Bits) ℓ) (g : Dev Cert.SibAbOut.nD → PrngReg)
    (m' : (ℓ : Loc Cert.SibAbOutRef.nD Cert.SibAbOutRef.τ Cert.SibAbOutRef.sig) → Buf (Elt Bits) ℓ) (g' : Dev Cert.SibAbOutRef.nD → PrngReg), Pre_SibAbOut m →
    (∀ c : Dev Cert.SibAbOut.nD,
      m' ((c.tc : Thread Cert.SibAbOutRef.nD Cert.SibAbOutRef.τ).loc Cert.SibAbOutRef.main_arg0) = m ((c.tc : Thread Cert.SibAbOut.nD Cert.SibAbOut.τ).loc Cert.SibAbOut.main_arg0)
      ∧ m' ((c.tc : Thread Cert.SibAbOutRef.nD Cert.SibAbOutRef.τ).loc Cert.SibAbOutRef.main_arg1) = m ((c.tc : Thread Cert.SibAbOut.nD Cert.SibAbOut.τ).loc Cert.SibAbOut.main_arg1)) →
    ∃ (v0 : (c : Dev Cert.SibAbOut.nD) → Buf (Elt Bits) ((c.tc : Thread Cert.SibAbOut.nD Cert.SibAbOut.τ).loc Cert.SibAbOut.main_v0)),
      θ_run (Cert.SibAbOut.defs (F := Bits)) (onTc (τ := Cert.SibAbOut.τ) (Cert.SibAbOut.main (F := Bits))) ⟨m, fun _ => 0, g⟩ (fun r => ∀ c : Dev Cert.SibAbOut.nD,
          r.2.mem ((c.tc : Thread Cert.SibAbOut.nD Cert.SibAbOut.τ).loc Cert.SibAbOut.main_v0) = v0 c
          ∧ r.2.mem ((c.tc : Thread Cert.SibAbOut.nD Cert.SibAbOut.τ).loc Cert.SibAbOut.main_arg0) = m ((c.tc : Thread Cert.SibAbOut.nD Cert.SibAbOut.τ).loc Cert.SibAbOut.main_arg0)
          ∧ r.2.mem ((c.tc : Thread Cert.SibAbOut.nD Cert.SibAbOut.τ).loc Cert.SibAbOut.main_arg1) = m ((c.tc : Thread Cert.SibAbOut.nD Cert.SibAbOut.τ).loc Cert.SibAbOut.main_arg1))
      ∧ θ_run (Cert.SibAbOutRef.defs (F := Bits)) (onTc (τ := Cert.SibAbOutRef.τ) (Cert.SibAbOutRef.main (F := Bits))) ⟨m', fun _ => 0, g'⟩ (fun r => ∀ c : Dev Cert.SibAbOutRef.nD,
          r.2.mem ((c.tc : Thread Cert.SibAbOutRef.nD Cert.SibAbOutRef.τ).loc Cert.SibAbOutRef.main_v0) = v0 c
          ∧ r.2.mem ((c.tc : Thread Cert.SibAbOutRef.nD Cert.SibAbOutRef.τ).loc Cert.SibAbOutRef.main_arg0) = m' ((c.tc : Thread Cert.SibAbOutRef.nD Cert.SibAbOutRef.τ).loc Cert.SibAbOutRef.main_arg0)
          ∧ r.2.mem ((c.tc : Thread Cert.SibAbOutRef.nD Cert.SibAbOutRef.τ).loc Cert.SibAbOutRef.main_arg1) = m' ((c.tc : Thread Cert.SibAbOutRef.nD Cert.SibAbOutRef.τ).loc Cert.SibAbOutRef.main_arg1))

def preserves_SumAbOut_SumAbOutIdeal : Prop :=
  True

def algebraic_SumAbOutIdeal_SumAbOutRefIdeal [hSumAbOutIdeal : Cert.SumAbOutIdeal.Facts] [hSumAbOutRefIdeal : Cert.SumAbOutRefIdeal.Facts] : Prop :=
  ∀ (m : (ℓ : Loc Cert.SumAbOutIdeal.nD Cert.SumAbOutIdeal.τ Cert.SumAbOutIdeal.sig) → Buf (Elt Ideal) ℓ) (g : Dev Cert.SumAbOutIdeal.nD → PrngReg)
    (m' : (ℓ : Loc Cert.SumAbOutRefIdeal.nD Cert.SumAbOutRefIdeal.τ Cert.SumAbOutRefIdeal.sig) → Buf (Elt Ideal) ℓ) (g' : Dev Cert.SumAbOutRefIdeal.nD → PrngReg), Pre_SumAbOutIdeal m →
    (∀ c : Dev Cert.SumAbOutIdeal.nD,
      m' ((c.tc : Thread Cert.SumAbOutRefIdeal.nD Cert.SumAbOutRefIdeal.τ).loc Cert.SumAbOutRefIdeal.main_arg0) = m ((c.tc : Thread Cert.SumAbOutIdeal.nD Cert.SumAbOutIdeal.τ).loc Cert.SumAbOutIdeal.main_arg0)) →
    ∃ (v0 : (c : Dev Cert.SumAbOutIdeal.nD) → Buf (Elt Ideal) ((c.tc : Thread Cert.SumAbOutIdeal.nD Cert.SumAbOutIdeal.τ).loc Cert.SumAbOutIdeal.main_v0)),
      θ_run (Cert.SumAbOutIdeal.defs (F := Ideal)) (onTc (τ := Cert.SumAbOutIdeal.τ) (Cert.SumAbOutIdeal.main (F := Ideal))) ⟨m, fun _ => 0, g⟩ (fun r => ∀ c : Dev Cert.SumAbOutIdeal.nD,
          r.2.mem ((c.tc : Thread Cert.SumAbOutIdeal.nD Cert.SumAbOutIdeal.τ).loc Cert.SumAbOutIdeal.main_v0) = v0 c
          ∧ r.2.mem ((c.tc : Thread Cert.SumAbOutIdeal.nD Cert.SumAbOutIdeal.τ).loc Cert.SumAbOutIdeal.main_arg0) = m ((c.tc : Thread Cert.SumAbOutIdeal.nD Cert.SumAbOutIdeal.τ).loc Cert.SumAbOutIdeal.main_arg0))
      ∧ θ_run (Cert.SumAbOutRefIdeal.defs (F := Ideal)) (onTc (τ := Cert.SumAbOutRefIdeal.τ) (Cert.SumAbOutRefIdeal.main (F := Ideal))) ⟨m', fun _ => 0, g'⟩ (fun r => ∀ c : Dev Cert.SumAbOutRefIdeal.nD,
          r.2.mem ((c.tc : Thread Cert.SumAbOutRefIdeal.nD Cert.SumAbOutRefIdeal.τ).loc Cert.SumAbOutRefIdeal.main_v0) = v0 c
          ∧ r.2.mem ((c.tc : Thread Cert.SumAbOutRefIdeal.nD Cert.SumAbOutRefIdeal.τ).loc Cert.SumAbOutRefIdeal.main_arg0) = m' ((c.tc : Thread Cert.SumAbOutRefIdeal.nD Cert.SumAbOutRefIdeal.τ).loc Cert.SumAbOutRefIdeal.main_arg0))

def preserves_SibGlu_SibGluIdeal : Prop :=
  True

def algebraic_SibGluIdeal_SibGluRefIdeal [hSibGluIdeal : Cert.SibGluIdeal.Facts] [hSibGluRefIdeal : Cert.SibGluRefIdeal.Facts] : Prop :=
  ∀ (m : (ℓ : Loc Cert.SibGluIdeal.nD Cert.SibGluIdeal.τ Cert.SibGluIdeal.sig) → Buf (Elt Ideal) ℓ) (g : Dev Cert.SibGluIdeal.nD → PrngReg)
    (m' : (ℓ : Loc Cert.SibGluRefIdeal.nD Cert.SibGluRefIdeal.τ Cert.SibGluRefIdeal.sig) → Buf (Elt Ideal) ℓ) (g' : Dev Cert.SibGluRefIdeal.nD → PrngReg), Pre_SibGluIdeal m →
    (∀ c : Dev Cert.SibGluIdeal.nD,
      m' ((c.tc : Thread Cert.SibGluRefIdeal.nD Cert.SibGluRefIdeal.τ).loc Cert.SibGluRefIdeal.main_arg0) = m ((c.tc : Thread Cert.SibGluIdeal.nD Cert.SibGluIdeal.τ).loc Cert.SibGluIdeal.main_arg0)
      ∧ m' ((c.tc : Thread Cert.SibGluRefIdeal.nD Cert.SibGluRefIdeal.τ).loc Cert.SibGluRefIdeal.main_arg1) = m ((c.tc : Thread Cert.SibGluIdeal.nD Cert.SibGluIdeal.τ).loc Cert.SibGluIdeal.main_arg1)) →
    ∃ (v0 : (c : Dev Cert.SibGluIdeal.nD) → Buf (Elt Ideal) ((c.tc : Thread Cert.SibGluIdeal.nD Cert.SibGluIdeal.τ).loc Cert.SibGluIdeal.main_v0)),
      θ_run (Cert.SibGluIdeal.defs (F := Ideal)) (onTc (τ := Cert.SibGluIdeal.τ) (Cert.SibGluIdeal.main (F := Ideal))) ⟨m, fun _ => 0, g⟩ (fun r => ∀ c : Dev Cert.SibGluIdeal.nD,
          r.2.mem ((c.tc : Thread Cert.SibGluIdeal.nD Cert.SibGluIdeal.τ).loc Cert.SibGluIdeal.main_v0) = v0 c
          ∧ r.2.mem ((c.tc : Thread Cert.SibGluIdeal.nD Cert.SibGluIdeal.τ).loc Cert.SibGluIdeal.main_arg0) = m ((c.tc : Thread Cert.SibGluIdeal.nD Cert.SibGluIdeal.τ).loc Cert.SibGluIdeal.main_arg0)
          ∧ r.2.mem ((c.tc : Thread Cert.SibGluIdeal.nD Cert.SibGluIdeal.τ).loc Cert.SibGluIdeal.main_arg1) = m ((c.tc : Thread Cert.SibGluIdeal.nD Cert.SibGluIdeal.τ).loc Cert.SibGluIdeal.main_arg1))
      ∧ θ_run (Cert.SibGluRefIdeal.defs (F := Ideal)) (onTc (τ := Cert.SibGluRefIdeal.τ) (Cert.SibGluRefIdeal.main (F := Ideal))) ⟨m', fun _ => 0, g'⟩ (fun r => ∀ c : Dev Cert.SibGluRefIdeal.nD,
          r.2.mem ((c.tc : Thread Cert.SibGluRefIdeal.nD Cert.SibGluRefIdeal.τ).loc Cert.SibGluRefIdeal.main_v0) = v0 c
          ∧ r.2.mem ((c.tc : Thread Cert.SibGluRefIdeal.nD Cert.SibGluRefIdeal.τ).loc Cert.SibGluRefIdeal.main_arg0) = m' ((c.tc : Thread Cert.SibGluRefIdeal.nD Cert.SibGluRefIdeal.τ).loc Cert.SibGluRefIdeal.main_arg0)
          ∧ r.2.mem ((c.tc : Thread Cert.SibGluRefIdeal.nD Cert.SibGluRefIdeal.τ).loc Cert.SibGluRefIdeal.main_arg1) = m' ((c.tc : Thread Cert.SibGluRefIdeal.nD Cert.SibGluRefIdeal.τ).loc Cert.SibGluRefIdeal.main_arg1))

def bitexact_SibGlu_SibGluRef [hSibGlu : Cert.SibGlu.Facts] [hSibGluRef : Cert.SibGluRef.Facts] : Prop :=
  ∀ (m : (ℓ : Loc Cert.SibGlu.nD Cert.SibGlu.τ Cert.SibGlu.sig) → Buf (Elt Bits) ℓ) (g : Dev Cert.SibGlu.nD → PrngReg)
    (m' : (ℓ : Loc Cert.SibGluRef.nD Cert.SibGluRef.τ Cert.SibGluRef.sig) → Buf (Elt Bits) ℓ) (g' : Dev Cert.SibGluRef.nD → PrngReg), Pre_SibGlu m →
    (∀ c : Dev Cert.SibGlu.nD,
      m' ((c.tc : Thread Cert.SibGluRef.nD Cert.SibGluRef.τ).loc Cert.SibGluRef.main_arg0) = m ((c.tc : Thread Cert.SibGlu.nD Cert.SibGlu.τ).loc Cert.SibGlu.main_arg0)
      ∧ m' ((c.tc : Thread Cert.SibGluRef.nD Cert.SibGluRef.τ).loc Cert.SibGluRef.main_arg1) = m ((c.tc : Thread Cert.SibGlu.nD Cert.SibGlu.τ).loc Cert.SibGlu.main_arg1)) →
    ∃ (v0 : (c : Dev Cert.SibGlu.nD) → Buf (Elt Bits) ((c.tc : Thread Cert.SibGlu.nD Cert.SibGlu.τ).loc Cert.SibGlu.main_v0)),
      θ_run (Cert.SibGlu.defs (F := Bits)) (onTc (τ := Cert.SibGlu.τ) (Cert.SibGlu.main (F := Bits))) ⟨m, fun _ => 0, g⟩ (fun r => ∀ c : Dev Cert.SibGlu.nD,
          r.2.mem ((c.tc : Thread Cert.SibGlu.nD Cert.SibGlu.τ).loc Cert.SibGlu.main_v0) = v0 c
          ∧ r.2.mem ((c.tc : Thread Cert.SibGlu.nD Cert.SibGlu.τ).loc Cert.SibGlu.main_arg0) = m ((c.tc : Thread Cert.SibGlu.nD Cert.SibGlu.τ).loc Cert.SibGlu.main_arg0)
          ∧ r.2.mem ((c.tc : Thread Cert.SibGlu.nD Cert.SibGlu.τ).loc Cert.SibGlu.main_arg1) = m ((c.tc : Thread Cert.SibGlu.nD Cert.SibGlu.τ).loc Cert.SibGlu.main_arg1))
      ∧ θ_run (Cert.SibGluRef.defs (F := Bits)) (onTc (τ := Cert.SibGluRef.τ) (Cert.SibGluRef.main (F := Bits))) ⟨m', fun _ => 0, g'⟩ (fun r => ∀ c : Dev Cert.SibGluRef.nD,
          r.2.mem ((c.tc : Thread Cert.SibGluRef.nD Cert.SibGluRef.τ).loc Cert.SibGluRef.main_v0) = v0 c
          ∧ r.2.mem ((c.tc : Thread Cert.SibGluRef.nD Cert.SibGluRef.τ).loc Cert.SibGluRef.main_arg0) = m' ((c.tc : Thread Cert.SibGluRef.nD Cert.SibGluRef.τ).loc Cert.SibGluRef.main_arg0)
          ∧ r.2.mem ((c.tc : Thread Cert.SibGluRef.nD Cert.SibGluRef.τ).loc Cert.SibGluRef.main_arg1) = m' ((c.tc : Thread Cert.SibGluRef.nD Cert.SibGluRef.τ).loc Cert.SibGluRef.main_arg1))

def preserves_SumGlu_SumGluIdeal : Prop :=
  True

def algebraic_SumGluIdeal_SumGluRefIdeal [hSumGluIdeal : Cert.SumGluIdeal.Facts] [hSumGluRefIdeal : Cert.SumGluRefIdeal.Facts] : Prop :=
  ∀ (m : (ℓ : Loc Cert.SumGluIdeal.nD Cert.SumGluIdeal.τ Cert.SumGluIdeal.sig) → Buf (Elt Ideal) ℓ) (g : Dev Cert.SumGluIdeal.nD → PrngReg)
    (m' : (ℓ : Loc Cert.SumGluRefIdeal.nD Cert.SumGluRefIdeal.τ Cert.SumGluRefIdeal.sig) → Buf (Elt Ideal) ℓ) (g' : Dev Cert.SumGluRefIdeal.nD → PrngReg), Pre_SumGluIdeal m →
    (∀ c : Dev Cert.SumGluIdeal.nD,
      m' ((c.tc : Thread Cert.SumGluRefIdeal.nD Cert.SumGluRefIdeal.τ).loc Cert.SumGluRefIdeal.main_arg0) = m ((c.tc : Thread Cert.SumGluIdeal.nD Cert.SumGluIdeal.τ).loc Cert.SumGluIdeal.main_arg0)) →
    ∃ (v0 : (c : Dev Cert.SumGluIdeal.nD) → Buf (Elt Ideal) ((c.tc : Thread Cert.SumGluIdeal.nD Cert.SumGluIdeal.τ).loc Cert.SumGluIdeal.main_v0)),
      θ_run (Cert.SumGluIdeal.defs (F := Ideal)) (onTc (τ := Cert.SumGluIdeal.τ) (Cert.SumGluIdeal.main (F := Ideal))) ⟨m, fun _ => 0, g⟩ (fun r => ∀ c : Dev Cert.SumGluIdeal.nD,
          r.2.mem ((c.tc : Thread Cert.SumGluIdeal.nD Cert.SumGluIdeal.τ).loc Cert.SumGluIdeal.main_v0) = v0 c
          ∧ r.2.mem ((c.tc : Thread Cert.SumGluIdeal.nD Cert.SumGluIdeal.τ).loc Cert.SumGluIdeal.main_arg0) = m ((c.tc : Thread Cert.SumGluIdeal.nD Cert.SumGluIdeal.τ).loc Cert.SumGluIdeal.main_arg0))
      ∧ θ_run (Cert.SumGluRefIdeal.defs (F := Ideal)) (onTc (τ := Cert.SumGluRefIdeal.τ) (Cert.SumGluRefIdeal.main (F := Ideal))) ⟨m', fun _ => 0, g'⟩ (fun r => ∀ c : Dev Cert.SumGluRefIdeal.nD,
          r.2.mem ((c.tc : Thread Cert.SumGluRefIdeal.nD Cert.SumGluRefIdeal.τ).loc Cert.SumGluRefIdeal.main_v0) = v0 c
          ∧ r.2.mem ((c.tc : Thread Cert.SumGluRefIdeal.nD Cert.SumGluRefIdeal.τ).loc Cert.SumGluRefIdeal.main_arg0) = m' ((c.tc : Thread Cert.SumGluRefIdeal.nD Cert.SumGluRefIdeal.τ).loc Cert.SumGluRefIdeal.main_arg0))

def preserves_SibGdnIn_SibGdnInIdeal : Prop :=
  True

def algebraic_SibGdnInIdeal_SibGdnInRefIdeal [hSibGdnInIdeal : Cert.SibGdnInIdeal.Facts] [hSibGdnInRefIdeal : Cert.SibGdnInRefIdeal.Facts] : Prop :=
  ∀ (m : (ℓ : Loc Cert.SibGdnInIdeal.nD Cert.SibGdnInIdeal.τ Cert.SibGdnInIdeal.sig) → Buf (Elt Ideal) ℓ) (g : Dev Cert.SibGdnInIdeal.nD → PrngReg)
    (m' : (ℓ : Loc Cert.SibGdnInRefIdeal.nD Cert.SibGdnInRefIdeal.τ Cert.SibGdnInRefIdeal.sig) → Buf (Elt Ideal) ℓ) (g' : Dev Cert.SibGdnInRefIdeal.nD → PrngReg), Pre_SibGdnInIdeal m →
    (∀ c : Dev Cert.SibGdnInIdeal.nD,
      m' ((c.tc : Thread Cert.SibGdnInRefIdeal.nD Cert.SibGdnInRefIdeal.τ).loc Cert.SibGdnInRefIdeal.main_arg0) = m ((c.tc : Thread Cert.SibGdnInIdeal.nD Cert.SibGdnInIdeal.τ).loc Cert.SibGdnInIdeal.main_arg0)
      ∧ m' ((c.tc : Thread Cert.SibGdnInRefIdeal.nD Cert.SibGdnInRefIdeal.τ).loc Cert.SibGdnInRefIdeal.main_arg1) = m ((c.tc : Thread Cert.SibGdnInIdeal.nD Cert.SibGdnInIdeal.τ).loc Cert.SibGdnInIdeal.main_arg1)) →
    ∃ (v0 : (c : Dev Cert.SibGdnInIdeal.nD) → Buf (Elt Ideal) ((c.tc : Thread Cert.SibGdnInIdeal.nD Cert.SibGdnInIdeal.τ).loc Cert.SibGdnInIdeal.main_v0)),
      θ_run (Cert.SibGdnInIdeal.defs (F := Ideal)) (onTc (τ := Cert.SibGdnInIdeal.τ) (Cert.SibGdnInIdeal.main (F := Ideal))) ⟨m, fun _ => 0, g⟩ (fun r => ∀ c : Dev Cert.SibGdnInIdeal.nD,
          r.2.mem ((c.tc : Thread Cert.SibGdnInIdeal.nD Cert.SibGdnInIdeal.τ).loc Cert.SibGdnInIdeal.main_v0) = v0 c
          ∧ r.2.mem ((c.tc : Thread Cert.SibGdnInIdeal.nD Cert.SibGdnInIdeal.τ).loc Cert.SibGdnInIdeal.main_arg0) = m ((c.tc : Thread Cert.SibGdnInIdeal.nD Cert.SibGdnInIdeal.τ).loc Cert.SibGdnInIdeal.main_arg0)
          ∧ r.2.mem ((c.tc : Thread Cert.SibGdnInIdeal.nD Cert.SibGdnInIdeal.τ).loc Cert.SibGdnInIdeal.main_arg1) = m ((c.tc : Thread Cert.SibGdnInIdeal.nD Cert.SibGdnInIdeal.τ).loc Cert.SibGdnInIdeal.main_arg1))
      ∧ θ_run (Cert.SibGdnInRefIdeal.defs (F := Ideal)) (onTc (τ := Cert.SibGdnInRefIdeal.τ) (Cert.SibGdnInRefIdeal.main (F := Ideal))) ⟨m', fun _ => 0, g'⟩ (fun r => ∀ c : Dev Cert.SibGdnInRefIdeal.nD,
          r.2.mem ((c.tc : Thread Cert.SibGdnInRefIdeal.nD Cert.SibGdnInRefIdeal.τ).loc Cert.SibGdnInRefIdeal.main_v0) = v0 c
          ∧ r.2.mem ((c.tc : Thread Cert.SibGdnInRefIdeal.nD Cert.SibGdnInRefIdeal.τ).loc Cert.SibGdnInRefIdeal.main_arg0) = m' ((c.tc : Thread Cert.SibGdnInRefIdeal.nD Cert.SibGdnInRefIdeal.τ).loc Cert.SibGdnInRefIdeal.main_arg0)
          ∧ r.2.mem ((c.tc : Thread Cert.SibGdnInRefIdeal.nD Cert.SibGdnInRefIdeal.τ).loc Cert.SibGdnInRefIdeal.main_arg1) = m' ((c.tc : Thread Cert.SibGdnInRefIdeal.nD Cert.SibGdnInRefIdeal.τ).loc Cert.SibGdnInRefIdeal.main_arg1))

def bitexact_SibGdnIn_SibGdnInRef [hSibGdnIn : Cert.SibGdnIn.Facts] [hSibGdnInRef : Cert.SibGdnInRef.Facts] : Prop :=
  ∀ (m : (ℓ : Loc Cert.SibGdnIn.nD Cert.SibGdnIn.τ Cert.SibGdnIn.sig) → Buf (Elt Bits) ℓ) (g : Dev Cert.SibGdnIn.nD → PrngReg)
    (m' : (ℓ : Loc Cert.SibGdnInRef.nD Cert.SibGdnInRef.τ Cert.SibGdnInRef.sig) → Buf (Elt Bits) ℓ) (g' : Dev Cert.SibGdnInRef.nD → PrngReg), Pre_SibGdnIn m →
    (∀ c : Dev Cert.SibGdnIn.nD,
      m' ((c.tc : Thread Cert.SibGdnInRef.nD Cert.SibGdnInRef.τ).loc Cert.SibGdnInRef.main_arg0) = m ((c.tc : Thread Cert.SibGdnIn.nD Cert.SibGdnIn.τ).loc Cert.SibGdnIn.main_arg0)
      ∧ m' ((c.tc : Thread Cert.SibGdnInRef.nD Cert.SibGdnInRef.τ).loc Cert.SibGdnInRef.main_arg1) = m ((c.tc : Thread Cert.SibGdnIn.nD Cert.SibGdnIn.τ).loc Cert.SibGdnIn.main_arg1)) →
    ∃ (v0 : (c : Dev Cert.SibGdnIn.nD) → Buf (Elt Bits) ((c.tc : Thread Cert.SibGdnIn.nD Cert.SibGdnIn.τ).loc Cert.SibGdnIn.main_v0)),
      θ_run (Cert.SibGdnIn.defs (F := Bits)) (onTc (τ := Cert.SibGdnIn.τ) (Cert.SibGdnIn.main (F := Bits))) ⟨m, fun _ => 0, g⟩ (fun r => ∀ c : Dev Cert.SibGdnIn.nD,
          r.2.mem ((c.tc : Thread Cert.SibGdnIn.nD Cert.SibGdnIn.τ).loc Cert.SibGdnIn.main_v0) = v0 c
          ∧ r.2.mem ((c.tc : Thread Cert.SibGdnIn.nD Cert.SibGdnIn.τ).loc Cert.SibGdnIn.main_arg0) = m ((c.tc : Thread Cert.SibGdnIn.nD Cert.SibGdnIn.τ).loc Cert.SibGdnIn.main_arg0)
          ∧ r.2.mem ((c.tc : Thread Cert.SibGdnIn.nD Cert.SibGdnIn.τ).loc Cert.SibGdnIn.main_arg1) = m ((c.tc : Thread Cert.SibGdnIn.nD Cert.SibGdnIn.τ).loc Cert.SibGdnIn.main_arg1))
      ∧ θ_run (Cert.SibGdnInRef.defs (F := Bits)) (onTc (τ := Cert.SibGdnInRef.τ) (Cert.SibGdnInRef.main (F := Bits))) ⟨m', fun _ => 0, g'⟩ (fun r => ∀ c : Dev Cert.SibGdnInRef.nD,
          r.2.mem ((c.tc : Thread Cert.SibGdnInRef.nD Cert.SibGdnInRef.τ).loc Cert.SibGdnInRef.main_v0) = v0 c
          ∧ r.2.mem ((c.tc : Thread Cert.SibGdnInRef.nD Cert.SibGdnInRef.τ).loc Cert.SibGdnInRef.main_arg0) = m' ((c.tc : Thread Cert.SibGdnInRef.nD Cert.SibGdnInRef.τ).loc Cert.SibGdnInRef.main_arg0)
          ∧ r.2.mem ((c.tc : Thread Cert.SibGdnInRef.nD Cert.SibGdnInRef.τ).loc Cert.SibGdnInRef.main_arg1) = m' ((c.tc : Thread Cert.SibGdnInRef.nD Cert.SibGdnInRef.τ).loc Cert.SibGdnInRef.main_arg1))

def preserves_SumGdnIn_SumGdnInIdeal : Prop :=
  True

def algebraic_SumGdnInIdeal_SumGdnInRefIdeal [hSumGdnInIdeal : Cert.SumGdnInIdeal.Facts] [hSumGdnInRefIdeal : Cert.SumGdnInRefIdeal.Facts] : Prop :=
  ∀ (m : (ℓ : Loc Cert.SumGdnInIdeal.nD Cert.SumGdnInIdeal.τ Cert.SumGdnInIdeal.sig) → Buf (Elt Ideal) ℓ) (g : Dev Cert.SumGdnInIdeal.nD → PrngReg)
    (m' : (ℓ : Loc Cert.SumGdnInRefIdeal.nD Cert.SumGdnInRefIdeal.τ Cert.SumGdnInRefIdeal.sig) → Buf (Elt Ideal) ℓ) (g' : Dev Cert.SumGdnInRefIdeal.nD → PrngReg), Pre_SumGdnInIdeal m →
    (∀ c : Dev Cert.SumGdnInIdeal.nD,
      m' ((c.tc : Thread Cert.SumGdnInRefIdeal.nD Cert.SumGdnInRefIdeal.τ).loc Cert.SumGdnInRefIdeal.main_arg0) = m ((c.tc : Thread Cert.SumGdnInIdeal.nD Cert.SumGdnInIdeal.τ).loc Cert.SumGdnInIdeal.main_arg0)) →
    ∃ (v0 : (c : Dev Cert.SumGdnInIdeal.nD) → Buf (Elt Ideal) ((c.tc : Thread Cert.SumGdnInIdeal.nD Cert.SumGdnInIdeal.τ).loc Cert.SumGdnInIdeal.main_v0)),
      θ_run (Cert.SumGdnInIdeal.defs (F := Ideal)) (onTc (τ := Cert.SumGdnInIdeal.τ) (Cert.SumGdnInIdeal.main (F := Ideal))) ⟨m, fun _ => 0, g⟩ (fun r => ∀ c : Dev Cert.SumGdnInIdeal.nD,
          r.2.mem ((c.tc : Thread Cert.SumGdnInIdeal.nD Cert.SumGdnInIdeal.τ).loc Cert.SumGdnInIdeal.main_v0) = v0 c
          ∧ r.2.mem ((c.tc : Thread Cert.SumGdnInIdeal.nD Cert.SumGdnInIdeal.τ).loc Cert.SumGdnInIdeal.main_arg0) = m ((c.tc : Thread Cert.SumGdnInIdeal.nD Cert.SumGdnInIdeal.τ).loc Cert.SumGdnInIdeal.main_arg0))
      ∧ θ_run (Cert.SumGdnInRefIdeal.defs (F := Ideal)) (onTc (τ := Cert.SumGdnInRefIdeal.τ) (Cert.SumGdnInRefIdeal.main (F := Ideal))) ⟨m', fun _ => 0, g'⟩ (fun r => ∀ c : Dev Cert.SumGdnInRefIdeal.nD,
          r.2.mem ((c.tc : Thread Cert.SumGdnInRefIdeal.nD Cert.SumGdnInRefIdeal.τ).loc Cert.SumGdnInRefIdeal.main_v0) = v0 c
          ∧ r.2.mem ((c.tc : Thread Cert.SumGdnInRefIdeal.nD Cert.SumGdnInRefIdeal.τ).loc Cert.SumGdnInRefIdeal.main_arg0) = m' ((c.tc : Thread Cert.SumGdnInRefIdeal.nD Cert.SumGdnInRefIdeal.τ).loc Cert.SumGdnInRefIdeal.main_arg0))

def preserves_SibGdnOut_SibGdnOutIdeal : Prop :=
  True

def algebraic_SibGdnOutIdeal_SibGdnOutRefIdeal [hSibGdnOutIdeal : Cert.SibGdnOutIdeal.Facts] [hSibGdnOutRefIdeal : Cert.SibGdnOutRefIdeal.Facts] : Prop :=
  ∀ (m : (ℓ : Loc Cert.SibGdnOutIdeal.nD Cert.SibGdnOutIdeal.τ Cert.SibGdnOutIdeal.sig) → Buf (Elt Ideal) ℓ) (g : Dev Cert.SibGdnOutIdeal.nD → PrngReg)
    (m' : (ℓ : Loc Cert.SibGdnOutRefIdeal.nD Cert.SibGdnOutRefIdeal.τ Cert.SibGdnOutRefIdeal.sig) → Buf (Elt Ideal) ℓ) (g' : Dev Cert.SibGdnOutRefIdeal.nD → PrngReg), Pre_SibGdnOutIdeal m →
    (∀ c : Dev Cert.SibGdnOutIdeal.nD,
      m' ((c.tc : Thread Cert.SibGdnOutRefIdeal.nD Cert.SibGdnOutRefIdeal.τ).loc Cert.SibGdnOutRefIdeal.main_arg0) = m ((c.tc : Thread Cert.SibGdnOutIdeal.nD Cert.SibGdnOutIdeal.τ).loc Cert.SibGdnOutIdeal.main_arg0)
      ∧ m' ((c.tc : Thread Cert.SibGdnOutRefIdeal.nD Cert.SibGdnOutRefIdeal.τ).loc Cert.SibGdnOutRefIdeal.main_arg1) = m ((c.tc : Thread Cert.SibGdnOutIdeal.nD Cert.SibGdnOutIdeal.τ).loc Cert.SibGdnOutIdeal.main_arg1)) →
    ∃ (v0 : (c : Dev Cert.SibGdnOutIdeal.nD) → Buf (Elt Ideal) ((c.tc : Thread Cert.SibGdnOutIdeal.nD Cert.SibGdnOutIdeal.τ).loc Cert.SibGdnOutIdeal.main_v0)),
      θ_run (Cert.SibGdnOutIdeal.defs (F := Ideal)) (onTc (τ := Cert.SibGdnOutIdeal.τ) (Cert.SibGdnOutIdeal.main (F := Ideal))) ⟨m, fun _ => 0, g⟩ (fun r => ∀ c : Dev Cert.SibGdnOutIdeal.nD,
          r.2.mem ((c.tc : Thread Cert.SibGdnOutIdeal.nD Cert.SibGdnOutIdeal.τ).loc Cert.SibGdnOutIdeal.main_v0) = v0 c
          ∧ r.2.mem ((c.tc : Thread Cert.SibGdnOutIdeal.nD Cert.SibGdnOutIdeal.τ).loc Cert.SibGdnOutIdeal.main_arg0) = m ((c.tc : Thread Cert.SibGdnOutIdeal.nD Cert.SibGdnOutIdeal.τ).loc Cert.SibGdnOutIdeal.main_arg0)
          ∧ r.2.mem ((c.tc : Thread Cert.SibGdnOutIdeal.nD Cert.SibGdnOutIdeal.τ).loc Cert.SibGdnOutIdeal.main_arg1) = m ((c.tc : Thread Cert.SibGdnOutIdeal.nD Cert.SibGdnOutIdeal.τ).loc Cert.SibGdnOutIdeal.main_arg1))
      ∧ θ_run (Cert.SibGdnOutRefIdeal.defs (F := Ideal)) (onTc (τ := Cert.SibGdnOutRefIdeal.τ) (Cert.SibGdnOutRefIdeal.main (F := Ideal))) ⟨m', fun _ => 0, g'⟩ (fun r => ∀ c : Dev Cert.SibGdnOutRefIdeal.nD,
          r.2.mem ((c.tc : Thread Cert.SibGdnOutRefIdeal.nD Cert.SibGdnOutRefIdeal.τ).loc Cert.SibGdnOutRefIdeal.main_v0) = v0 c
          ∧ r.2.mem ((c.tc : Thread Cert.SibGdnOutRefIdeal.nD Cert.SibGdnOutRefIdeal.τ).loc Cert.SibGdnOutRefIdeal.main_arg0) = m' ((c.tc : Thread Cert.SibGdnOutRefIdeal.nD Cert.SibGdnOutRefIdeal.τ).loc Cert.SibGdnOutRefIdeal.main_arg0)
          ∧ r.2.mem ((c.tc : Thread Cert.SibGdnOutRefIdeal.nD Cert.SibGdnOutRefIdeal.τ).loc Cert.SibGdnOutRefIdeal.main_arg1) = m' ((c.tc : Thread Cert.SibGdnOutRefIdeal.nD Cert.SibGdnOutRefIdeal.τ).loc Cert.SibGdnOutRefIdeal.main_arg1))

def bitexact_SibGdnOut_SibGdnOutRef [hSibGdnOut : Cert.SibGdnOut.Facts] [hSibGdnOutRef : Cert.SibGdnOutRef.Facts] : Prop :=
  ∀ (m : (ℓ : Loc Cert.SibGdnOut.nD Cert.SibGdnOut.τ Cert.SibGdnOut.sig) → Buf (Elt Bits) ℓ) (g : Dev Cert.SibGdnOut.nD → PrngReg)
    (m' : (ℓ : Loc Cert.SibGdnOutRef.nD Cert.SibGdnOutRef.τ Cert.SibGdnOutRef.sig) → Buf (Elt Bits) ℓ) (g' : Dev Cert.SibGdnOutRef.nD → PrngReg), Pre_SibGdnOut m →
    (∀ c : Dev Cert.SibGdnOut.nD,
      m' ((c.tc : Thread Cert.SibGdnOutRef.nD Cert.SibGdnOutRef.τ).loc Cert.SibGdnOutRef.main_arg0) = m ((c.tc : Thread Cert.SibGdnOut.nD Cert.SibGdnOut.τ).loc Cert.SibGdnOut.main_arg0)
      ∧ m' ((c.tc : Thread Cert.SibGdnOutRef.nD Cert.SibGdnOutRef.τ).loc Cert.SibGdnOutRef.main_arg1) = m ((c.tc : Thread Cert.SibGdnOut.nD Cert.SibGdnOut.τ).loc Cert.SibGdnOut.main_arg1)) →
    ∃ (v0 : (c : Dev Cert.SibGdnOut.nD) → Buf (Elt Bits) ((c.tc : Thread Cert.SibGdnOut.nD Cert.SibGdnOut.τ).loc Cert.SibGdnOut.main_v0)),
      θ_run (Cert.SibGdnOut.defs (F := Bits)) (onTc (τ := Cert.SibGdnOut.τ) (Cert.SibGdnOut.main (F := Bits))) ⟨m, fun _ => 0, g⟩ (fun r => ∀ c : Dev Cert.SibGdnOut.nD,
          r.2.mem ((c.tc : Thread Cert.SibGdnOut.nD Cert.SibGdnOut.τ).loc Cert.SibGdnOut.main_v0) = v0 c
          ∧ r.2.mem ((c.tc : Thread Cert.SibGdnOut.nD Cert.SibGdnOut.τ).loc Cert.SibGdnOut.main_arg0) = m ((c.tc : Thread Cert.SibGdnOut.nD Cert.SibGdnOut.τ).loc Cert.SibGdnOut.main_arg0)
          ∧ r.2.mem ((c.tc : Thread Cert.SibGdnOut.nD Cert.SibGdnOut.τ).loc Cert.SibGdnOut.main_arg1) = m ((c.tc : Thread Cert.SibGdnOut.nD Cert.SibGdnOut.τ).loc Cert.SibGdnOut.main_arg1))
      ∧ θ_run (Cert.SibGdnOutRef.defs (F := Bits)) (onTc (τ := Cert.SibGdnOutRef.τ) (Cert.SibGdnOutRef.main (F := Bits))) ⟨m', fun _ => 0, g'⟩ (fun r => ∀ c : Dev Cert.SibGdnOutRef.nD,
          r.2.mem ((c.tc : Thread Cert.SibGdnOutRef.nD Cert.SibGdnOutRef.τ).loc Cert.SibGdnOutRef.main_v0) = v0 c
          ∧ r.2.mem ((c.tc : Thread Cert.SibGdnOutRef.nD Cert.SibGdnOutRef.τ).loc Cert.SibGdnOutRef.main_arg0) = m' ((c.tc : Thread Cert.SibGdnOutRef.nD Cert.SibGdnOutRef.τ).loc Cert.SibGdnOutRef.main_arg0)
          ∧ r.2.mem ((c.tc : Thread Cert.SibGdnOutRef.nD Cert.SibGdnOutRef.τ).loc Cert.SibGdnOutRef.main_arg1) = m' ((c.tc : Thread Cert.SibGdnOutRef.nD Cert.SibGdnOutRef.τ).loc Cert.SibGdnOutRef.main_arg1))

def preserves_SumGdnOut_SumGdnOutIdeal : Prop :=
  True

def algebraic_SumGdnOutIdeal_SumGdnOutRefIdeal [hSumGdnOutIdeal : Cert.SumGdnOutIdeal.Facts] [hSumGdnOutRefIdeal : Cert.SumGdnOutRefIdeal.Facts] : Prop :=
  ∀ (m : (ℓ : Loc Cert.SumGdnOutIdeal.nD Cert.SumGdnOutIdeal.τ Cert.SumGdnOutIdeal.sig) → Buf (Elt Ideal) ℓ) (g : Dev Cert.SumGdnOutIdeal.nD → PrngReg)
    (m' : (ℓ : Loc Cert.SumGdnOutRefIdeal.nD Cert.SumGdnOutRefIdeal.τ Cert.SumGdnOutRefIdeal.sig) → Buf (Elt Ideal) ℓ) (g' : Dev Cert.SumGdnOutRefIdeal.nD → PrngReg), Pre_SumGdnOutIdeal m →
    (∀ c : Dev Cert.SumGdnOutIdeal.nD,
      m' ((c.tc : Thread Cert.SumGdnOutRefIdeal.nD Cert.SumGdnOutRefIdeal.τ).loc Cert.SumGdnOutRefIdeal.main_arg0) = m ((c.tc : Thread Cert.SumGdnOutIdeal.nD Cert.SumGdnOutIdeal.τ).loc Cert.SumGdnOutIdeal.main_arg0)) →
    ∃ (v0 : (c : Dev Cert.SumGdnOutIdeal.nD) → Buf (Elt Ideal) ((c.tc : Thread Cert.SumGdnOutIdeal.nD Cert.SumGdnOutIdeal.τ).loc Cert.SumGdnOutIdeal.main_v0)),
      θ_run (Cert.SumGdnOutIdeal.defs (F := Ideal)) (onTc (τ := Cert.SumGdnOutIdeal.τ) (Cert.SumGdnOutIdeal.main (F := Ideal))) ⟨m, fun _ => 0, g⟩ (fun r => ∀ c : Dev Cert.SumGdnOutIdeal.nD,
          r.2.mem ((c.tc : Thread Cert.SumGdnOutIdeal.nD Cert.SumGdnOutIdeal.τ).loc Cert.SumGdnOutIdeal.main_v0) = v0 c
          ∧ r.2.mem ((c.tc : Thread Cert.SumGdnOutIdeal.nD Cert.SumGdnOutIdeal.τ).loc Cert.SumGdnOutIdeal.main_arg0) = m ((c.tc : Thread Cert.SumGdnOutIdeal.nD Cert.SumGdnOutIdeal.τ).loc Cert.SumGdnOutIdeal.main_arg0))
      ∧ θ_run (Cert.SumGdnOutRefIdeal.defs (F := Ideal)) (onTc (τ := Cert.SumGdnOutRefIdeal.τ) (Cert.SumGdnOutRefIdeal.main (F := Ideal))) ⟨m', fun _ => 0, g'⟩ (fun r => ∀ c : Dev Cert.SumGdnOutRefIdeal.nD,
          r.2.mem ((c.tc : Thread Cert.SumGdnOutRefIdeal.nD Cert.SumGdnOutRefIdeal.τ).loc Cert.SumGdnOutRefIdeal.main_v0) = v0 c
          ∧ r.2.mem ((c.tc : Thread Cert.SumGdnOutRefIdeal.nD Cert.SumGdnOutRefIdeal.τ).loc Cert.SumGdnOutRefIdeal.main_arg0) = m' ((c.tc : Thread Cert.SumGdnOutRefIdeal.nD Cert.SumGdnOutRefIdeal.τ).loc Cert.SumGdnOutRefIdeal.main_arg0))

def preserves_ModLocal_ModLocalIdeal : Prop :=
  True

def algebraic_ModLocalIdeal_ModLocalRefIdeal [hModLocalIdeal : Cert.ModLocalIdeal.Facts] [hModLocalRefIdeal : Cert.ModLocalRefIdeal.Facts] : Prop :=
  ∀ (m : (ℓ : Loc Cert.ModLocalIdeal.nD Cert.ModLocalIdeal.τ Cert.ModLocalIdeal.sig) → Buf (Elt Ideal) ℓ) (g : Dev Cert.ModLocalIdeal.nD → PrngReg)
    (m' : (ℓ : Loc Cert.ModLocalRefIdeal.nD Cert.ModLocalRefIdeal.τ Cert.ModLocalRefIdeal.sig) → Buf (Elt Ideal) ℓ) (g' : Dev Cert.ModLocalRefIdeal.nD → PrngReg), Pre_ModLocalIdeal m →
    (∀ c : Dev Cert.ModLocalIdeal.nD,
      m' ((c.tc : Thread Cert.ModLocalRefIdeal.nD Cert.ModLocalRefIdeal.τ).loc Cert.ModLocalRefIdeal.main_arg0) = m ((c.tc : Thread Cert.ModLocalIdeal.nD Cert.ModLocalIdeal.τ).loc Cert.ModLocalIdeal.main_arg0)
      ∧ m' ((c.tc : Thread Cert.ModLocalRefIdeal.nD Cert.ModLocalRefIdeal.τ).loc Cert.ModLocalRefIdeal.main_arg1) = m ((c.tc : Thread Cert.ModLocalIdeal.nD Cert.ModLocalIdeal.τ).loc Cert.ModLocalIdeal.main_arg1)) →
    ∃ (v0 : (c : Dev Cert.ModLocalIdeal.nD) → Buf (Elt Ideal) ((c.tc : Thread Cert.ModLocalIdeal.nD Cert.ModLocalIdeal.τ).loc Cert.ModLocalIdeal.main_v0)),
      θ_run (Cert.ModLocalIdeal.defs (F := Ideal)) (onTc (τ := Cert.ModLocalIdeal.τ) (Cert.ModLocalIdeal.main (F := Ideal))) ⟨m, fun _ => 0, g⟩ (fun r => ∀ c : Dev Cert.ModLocalIdeal.nD,
          r.2.mem ((c.tc : Thread Cert.ModLocalIdeal.nD Cert.ModLocalIdeal.τ).loc Cert.ModLocalIdeal.main_v0) = v0 c
          ∧ r.2.mem ((c.tc : Thread Cert.ModLocalIdeal.nD Cert.ModLocalIdeal.τ).loc Cert.ModLocalIdeal.main_arg0) = m ((c.tc : Thread Cert.ModLocalIdeal.nD Cert.ModLocalIdeal.τ).loc Cert.ModLocalIdeal.main_arg0)
          ∧ r.2.mem ((c.tc : Thread Cert.ModLocalIdeal.nD Cert.ModLocalIdeal.τ).loc Cert.ModLocalIdeal.main_arg1) = m ((c.tc : Thread Cert.ModLocalIdeal.nD Cert.ModLocalIdeal.τ).loc Cert.ModLocalIdeal.main_arg1))
      ∧ θ_run (Cert.ModLocalRefIdeal.defs (F := Ideal)) (onTc (τ := Cert.ModLocalRefIdeal.τ) (Cert.ModLocalRefIdeal.main (F := Ideal))) ⟨m', fun _ => 0, g'⟩ (fun r => ∀ c : Dev Cert.ModLocalRefIdeal.nD,
          r.2.mem ((c.tc : Thread Cert.ModLocalRefIdeal.nD Cert.ModLocalRefIdeal.τ).loc Cert.ModLocalRefIdeal.main_v2) = v0 c
          ∧ r.2.mem ((c.tc : Thread Cert.ModLocalRefIdeal.nD Cert.ModLocalRefIdeal.τ).loc Cert.ModLocalRefIdeal.main_arg0) = m' ((c.tc : Thread Cert.ModLocalRefIdeal.nD Cert.ModLocalRefIdeal.τ).loc Cert.ModLocalRefIdeal.main_arg0)
          ∧ r.2.mem ((c.tc : Thread Cert.ModLocalRefIdeal.nD Cert.ModLocalRefIdeal.τ).loc Cert.ModLocalRefIdeal.main_arg1) = m' ((c.tc : Thread Cert.ModLocalRefIdeal.nD Cert.ModLocalRefIdeal.τ).loc Cert.ModLocalRefIdeal.main_arg1))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v0)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v0) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v3) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def preserves_DwAb_DwAbIdeal : Prop :=
  True

def algebraic_DwAbIdeal_DwAbRefIdeal [hDwAbIdeal : Cert.DwAbIdeal.Facts] [hDwAbRefIdeal : Cert.DwAbRefIdeal.Facts] : Prop :=
  ∀ (m : (ℓ : Loc Cert.DwAbIdeal.nD Cert.DwAbIdeal.τ Cert.DwAbIdeal.sig) → Buf (Elt Ideal) ℓ) (g : Dev Cert.DwAbIdeal.nD → PrngReg)
    (m' : (ℓ : Loc Cert.DwAbRefIdeal.nD Cert.DwAbRefIdeal.τ Cert.DwAbRefIdeal.sig) → Buf (Elt Ideal) ℓ) (g' : Dev Cert.DwAbRefIdeal.nD → PrngReg), Pre_DwAbIdeal m →
    (∀ c : Dev Cert.DwAbIdeal.nD,
      m' ((c.tc : Thread Cert.DwAbRefIdeal.nD Cert.DwAbRefIdeal.τ).loc Cert.DwAbRefIdeal.main_arg0) = m ((c.tc : Thread Cert.DwAbIdeal.nD Cert.DwAbIdeal.τ).loc Cert.DwAbIdeal.main_arg0)
      ∧ m' ((c.tc : Thread Cert.DwAbRefIdeal.nD Cert.DwAbRefIdeal.τ).loc Cert.DwAbRefIdeal.main_arg1) = m ((c.tc : Thread Cert.DwAbIdeal.nD Cert.DwAbIdeal.τ).loc Cert.DwAbIdeal.main_arg1)) →
    ∃ (v0 : (c : Dev Cert.DwAbIdeal.nD) → Buf (Elt Ideal) ((c.tc : Thread Cert.DwAbIdeal.nD Cert.DwAbIdeal.τ).loc Cert.DwAbIdeal.main_v0)),
      θ_run (Cert.DwAbIdeal.defs (F := Ideal)) (onTc (τ := Cert.DwAbIdeal.τ) (Cert.DwAbIdeal.main (F := Ideal))) ⟨m, fun _ => 0, g⟩ (fun r => ∀ c : Dev Cert.DwAbIdeal.nD,
          r.2.mem ((c.tc : Thread Cert.DwAbIdeal.nD Cert.DwAbIdeal.τ).loc Cert.DwAbIdeal.main_v0) = v0 c
          ∧ r.2.mem ((c.tc : Thread Cert.DwAbIdeal.nD Cert.DwAbIdeal.τ).loc Cert.DwAbIdeal.main_arg0) = m ((c.tc : Thread Cert.DwAbIdeal.nD Cert.DwAbIdeal.τ).loc Cert.DwAbIdeal.main_arg0)
          ∧ r.2.mem ((c.tc : Thread Cert.DwAbIdeal.nD Cert.DwAbIdeal.τ).loc Cert.DwAbIdeal.main_arg1) = m ((c.tc : Thread Cert.DwAbIdeal.nD Cert.DwAbIdeal.τ).loc Cert.DwAbIdeal.main_arg1))
      ∧ θ_run (Cert.DwAbRefIdeal.defs (F := Ideal)) (onTc (τ := Cert.DwAbRefIdeal.τ) (Cert.DwAbRefIdeal.main (F := Ideal))) ⟨m', fun _ => 0, g'⟩ (fun r => ∀ c : Dev Cert.DwAbRefIdeal.nD,
          r.2.mem ((c.tc : Thread Cert.DwAbRefIdeal.nD Cert.DwAbRefIdeal.τ).loc Cert.DwAbRefIdeal.main_v1) = v0 c
          ∧ r.2.mem ((c.tc : Thread Cert.DwAbRefIdeal.nD Cert.DwAbRefIdeal.τ).loc Cert.DwAbRefIdeal.main_arg0) = m' ((c.tc : Thread Cert.DwAbRefIdeal.nD Cert.DwAbRefIdeal.τ).loc Cert.DwAbRefIdeal.main_arg0)
          ∧ r.2.mem ((c.tc : Thread Cert.DwAbRefIdeal.nD Cert.DwAbRefIdeal.τ).loc Cert.DwAbRefIdeal.main_arg1) = m' ((c.tc : Thread Cert.DwAbRefIdeal.nD Cert.DwAbRefIdeal.τ).loc Cert.DwAbRefIdeal.main_arg1))

def preserves_DwGdn_DwGdnIdeal : Prop :=
  True

def algebraic_DwGdnIdeal_DwGdnRefIdeal [hDwGdnIdeal : Cert.DwGdnIdeal.Facts] [hDwGdnRefIdeal : Cert.DwGdnRefIdeal.Facts] : Prop :=
  ∀ (m : (ℓ : Loc Cert.DwGdnIdeal.nD Cert.DwGdnIdeal.τ Cert.DwGdnIdeal.sig) → Buf (Elt Ideal) ℓ) (g : Dev Cert.DwGdnIdeal.nD → PrngReg)
    (m' : (ℓ : Loc Cert.DwGdnRefIdeal.nD Cert.DwGdnRefIdeal.τ Cert.DwGdnRefIdeal.sig) → Buf (Elt Ideal) ℓ) (g' : Dev Cert.DwGdnRefIdeal.nD → PrngReg), Pre_DwGdnIdeal m →
    (∀ c : Dev Cert.DwGdnIdeal.nD,
      m' ((c.tc : Thread Cert.DwGdnRefIdeal.nD Cert.DwGdnRefIdeal.τ).loc Cert.DwGdnRefIdeal.main_arg0) = m ((c.tc : Thread Cert.DwGdnIdeal.nD Cert.DwGdnIdeal.τ).loc Cert.DwGdnIdeal.main_arg0)
      ∧ m' ((c.tc : Thread Cert.DwGdnRefIdeal.nD Cert.DwGdnRefIdeal.τ).loc Cert.DwGdnRefIdeal.main_arg1) = m ((c.tc : Thread Cert.DwGdnIdeal.nD Cert.DwGdnIdeal.τ).loc Cert.DwGdnIdeal.main_arg1)) →
    ∃ (v0 : (c : Dev Cert.DwGdnIdeal.nD) → Buf (Elt Ideal) ((c.tc : Thread Cert.DwGdnIdeal.nD Cert.DwGdnIdeal.τ).loc Cert.DwGdnIdeal.main_v0)),
      θ_run (Cert.DwGdnIdeal.defs (F := Ideal)) (onTc (τ := Cert.DwGdnIdeal.τ) (Cert.DwGdnIdeal.main (F := Ideal))) ⟨m, fun _ => 0, g⟩ (fun r => ∀ c : Dev Cert.DwGdnIdeal.nD,
          r.2.mem ((c.tc : Thread Cert.DwGdnIdeal.nD Cert.DwGdnIdeal.τ).loc Cert.DwGdnIdeal.main_v0) = v0 c
          ∧ r.2.mem ((c.tc : Thread Cert.DwGdnIdeal.nD Cert.DwGdnIdeal.τ).loc Cert.DwGdnIdeal.main_arg0) = m ((c.tc : Thread Cert.DwGdnIdeal.nD Cert.DwGdnIdeal.τ).loc Cert.DwGdnIdeal.main_arg0)
          ∧ r.2.mem ((c.tc : Thread Cert.DwGdnIdeal.nD Cert.DwGdnIdeal.τ).loc Cert.DwGdnIdeal.main_arg1) = m ((c.tc : Thread Cert.DwGdnIdeal.nD Cert.DwGdnIdeal.τ).loc Cert.DwGdnIdeal.main_arg1))
      ∧ θ_run (Cert.DwGdnRefIdeal.defs (F := Ideal)) (onTc (τ := Cert.DwGdnRefIdeal.τ) (Cert.DwGdnRefIdeal.main (F := Ideal))) ⟨m', fun _ => 0, g'⟩ (fun r => ∀ c : Dev Cert.DwGdnRefIdeal.nD,
          r.2.mem ((c.tc : Thread Cert.DwGdnRefIdeal.nD Cert.DwGdnRefIdeal.τ).loc Cert.DwGdnRefIdeal.main_v1) = v0 c
          ∧ r.2.mem ((c.tc : Thread Cert.DwGdnRefIdeal.nD Cert.DwGdnRefIdeal.τ).loc Cert.DwGdnRefIdeal.main_arg0) = m' ((c.tc : Thread Cert.DwGdnRefIdeal.nD Cert.DwGdnRefIdeal.τ).loc Cert.DwGdnRefIdeal.main_arg0)
          ∧ r.2.mem ((c.tc : Thread Cert.DwGdnRefIdeal.nD Cert.DwGdnRefIdeal.τ).loc Cert.DwGdnRefIdeal.main_arg1) = m' ((c.tc : Thread Cert.DwGdnRefIdeal.nD Cert.DwGdnRefIdeal.τ).loc Cert.DwGdnRefIdeal.main_arg1))

def preserves_FrontAb_FrontAbIdeal : Prop :=
  True

def algebraic_FrontAbIdeal_FrontAbRefIdeal [hFrontAbIdeal : Cert.FrontAbIdeal.Facts] [hFrontAbRefIdeal : Cert.FrontAbRefIdeal.Facts] : Prop :=
  ∀ (m : (ℓ : Loc Cert.FrontAbIdeal.nD Cert.FrontAbIdeal.τ Cert.FrontAbIdeal.sig) → Buf (Elt Ideal) ℓ) (g : Dev Cert.FrontAbIdeal.nD → PrngReg)
    (m' : (ℓ : Loc Cert.FrontAbRefIdeal.nD Cert.FrontAbRefIdeal.τ Cert.FrontAbRefIdeal.sig) → Buf (Elt Ideal) ℓ) (g' : Dev Cert.FrontAbRefIdeal.nD → PrngReg), Pre_FrontAbIdeal m →
    (∀ c : Dev Cert.FrontAbIdeal.nD,
      m' ((c.tc : Thread Cert.FrontAbRefIdeal.nD Cert.FrontAbRefIdeal.τ).loc Cert.FrontAbRefIdeal.main_arg0) = m ((c.tc : Thread Cert.FrontAbIdeal.nD Cert.FrontAbIdeal.τ).loc Cert.FrontAbIdeal.main_arg0)
      ∧ m' ((c.tc : Thread Cert.FrontAbRefIdeal.nD Cert.FrontAbRefIdeal.τ).loc Cert.FrontAbRefIdeal.main_arg1) = m ((c.tc : Thread Cert.FrontAbIdeal.nD Cert.FrontAbIdeal.τ).loc Cert.FrontAbIdeal.main_arg1)
      ∧ m' ((c.tc : Thread Cert.FrontAbRefIdeal.nD Cert.FrontAbRefIdeal.τ).loc Cert.FrontAbRefIdeal.main_arg2) = m ((c.tc : Thread Cert.FrontAbIdeal.nD Cert.FrontAbIdeal.τ).loc Cert.FrontAbIdeal.main_arg2)
      ∧ m' ((c.tc : Thread Cert.FrontAbRefIdeal.nD Cert.FrontAbRefIdeal.τ).loc Cert.FrontAbRefIdeal.main_arg3) = m ((c.tc : Thread Cert.FrontAbIdeal.nD Cert.FrontAbIdeal.τ).loc Cert.FrontAbIdeal.main_arg3)
      ∧ m' ((c.tc : Thread Cert.FrontAbRefIdeal.nD Cert.FrontAbRefIdeal.τ).loc Cert.FrontAbRefIdeal.main_arg4) = m ((c.tc : Thread Cert.FrontAbIdeal.nD Cert.FrontAbIdeal.τ).loc Cert.FrontAbIdeal.main_arg4)) →
    ∃ (v0 : (c : Dev Cert.FrontAbIdeal.nD) → Buf (Elt Ideal) ((c.tc : Thread Cert.FrontAbIdeal.nD Cert.FrontAbIdeal.τ).loc Cert.FrontAbIdeal.main_v0_0)) (v1 : (c : Dev Cert.FrontAbIdeal.nD) → Buf (Elt Ideal) ((c.tc : Thread Cert.FrontAbIdeal.nD Cert.FrontAbIdeal.τ).loc Cert.FrontAbIdeal.main_v0_1)) (v2 : (c : Dev Cert.FrontAbIdeal.nD) → Buf (Elt Ideal) ((c.tc : Thread Cert.FrontAbIdeal.nD Cert.FrontAbIdeal.τ).loc Cert.FrontAbIdeal.main_v0_2)) (v3 : (c : Dev Cert.FrontAbIdeal.nD) → Buf (Elt Ideal) ((c.tc : Thread Cert.FrontAbIdeal.nD Cert.FrontAbIdeal.τ).loc Cert.FrontAbIdeal.main_v0_3)) (v4 : (c : Dev Cert.FrontAbIdeal.nD) → Buf (Elt Ideal) ((c.tc : Thread Cert.FrontAbIdeal.nD Cert.FrontAbIdeal.τ).loc Cert.FrontAbIdeal.main_v0_4)) (v5 : (c : Dev Cert.FrontAbIdeal.nD) → Buf (Elt Ideal) ((c.tc : Thread Cert.FrontAbIdeal.nD Cert.FrontAbIdeal.τ).loc Cert.FrontAbIdeal.main_v0_5)) (v6 : (c : Dev Cert.FrontAbIdeal.nD) → Buf (Elt Ideal) ((c.tc : Thread Cert.FrontAbIdeal.nD Cert.FrontAbIdeal.τ).loc Cert.FrontAbIdeal.main_v0_6)),
      θ_run (Cert.FrontAbIdeal.defs (F := Ideal)) (onTc (τ := Cert.FrontAbIdeal.τ) (Cert.FrontAbIdeal.main (F := Ideal))) ⟨m, fun _ => 0, g⟩ (fun r => ∀ c : Dev Cert.FrontAbIdeal.nD,
          r.2.mem ((c.tc : Thread Cert.FrontAbIdeal.nD Cert.FrontAbIdeal.τ).loc Cert.FrontAbIdeal.main_v0_0) = v0 c
          ∧ r.2.mem ((c.tc : Thread Cert.FrontAbIdeal.nD Cert.FrontAbIdeal.τ).loc Cert.FrontAbIdeal.main_v0_1) = v1 c
          ∧ r.2.mem ((c.tc : Thread Cert.FrontAbIdeal.nD Cert.FrontAbIdeal.τ).loc Cert.FrontAbIdeal.main_v0_2) = v2 c
          ∧ r.2.mem ((c.tc : Thread Cert.FrontAbIdeal.nD Cert.FrontAbIdeal.τ).loc Cert.FrontAbIdeal.main_v0_3) = v3 c
          ∧ r.2.mem ((c.tc : Thread Cert.FrontAbIdeal.nD Cert.FrontAbIdeal.τ).loc Cert.FrontAbIdeal.main_v0_4) = v4 c
          ∧ r.2.mem ((c.tc : Thread Cert.FrontAbIdeal.nD Cert.FrontAbIdeal.τ).loc Cert.FrontAbIdeal.main_v0_5) = v5 c
          ∧ r.2.mem ((c.tc : Thread Cert.FrontAbIdeal.nD Cert.FrontAbIdeal.τ).loc Cert.FrontAbIdeal.main_v0_6) = v6 c
          ∧ r.2.mem ((c.tc : Thread Cert.FrontAbIdeal.nD Cert.FrontAbIdeal.τ).loc Cert.FrontAbIdeal.main_arg0) = m ((c.tc : Thread Cert.FrontAbIdeal.nD Cert.FrontAbIdeal.τ).loc Cert.FrontAbIdeal.main_arg0)
          ∧ r.2.mem ((c.tc : Thread Cert.FrontAbIdeal.nD Cert.FrontAbIdeal.τ).loc Cert.FrontAbIdeal.main_arg1) = m ((c.tc : Thread Cert.FrontAbIdeal.nD Cert.FrontAbIdeal.τ).loc Cert.FrontAbIdeal.main_arg1)
          ∧ r.2.mem ((c.tc : Thread Cert.FrontAbIdeal.nD Cert.FrontAbIdeal.τ).loc Cert.FrontAbIdeal.main_arg2) = m ((c.tc : Thread Cert.FrontAbIdeal.nD Cert.FrontAbIdeal.τ).loc Cert.FrontAbIdeal.main_arg2)
          ∧ r.2.mem ((c.tc : Thread Cert.FrontAbIdeal.nD Cert.FrontAbIdeal.τ).loc Cert.FrontAbIdeal.main_arg3) = m ((c.tc : Thread Cert.FrontAbIdeal.nD Cert.FrontAbIdeal.τ).loc Cert.FrontAbIdeal.main_arg3)
          ∧ r.2.mem ((c.tc : Thread Cert.FrontAbIdeal.nD Cert.FrontAbIdeal.τ).loc Cert.FrontAbIdeal.main_arg4) = m ((c.tc : Thread Cert.FrontAbIdeal.nD Cert.FrontAbIdeal.τ).loc Cert.FrontAbIdeal.main_arg4))
      ∧ θ_run (Cert.FrontAbRefIdeal.defs (F := Ideal)) (onTc (τ := Cert.FrontAbRefIdeal.τ) (Cert.FrontAbRefIdeal.main (F := Ideal))) ⟨m', fun _ => 0, g'⟩ (fun r => ∀ c : Dev Cert.FrontAbRefIdeal.nD,
          r.2.mem ((c.tc : Thread Cert.FrontAbRefIdeal.nD Cert.FrontAbRefIdeal.τ).loc Cert.FrontAbRefIdeal.main_v20) = v0 c
          ∧ r.2.mem ((c.tc : Thread Cert.FrontAbRefIdeal.nD Cert.FrontAbRefIdeal.τ).loc Cert.FrontAbRefIdeal.main_v21) = v1 c
          ∧ r.2.mem ((c.tc : Thread Cert.FrontAbRefIdeal.nD Cert.FrontAbRefIdeal.τ).loc Cert.FrontAbRefIdeal.main_v22) = v2 c
          ∧ r.2.mem ((c.tc : Thread Cert.FrontAbRefIdeal.nD Cert.FrontAbRefIdeal.τ).loc Cert.FrontAbRefIdeal.main_v23) = v3 c
          ∧ r.2.mem ((c.tc : Thread Cert.FrontAbRefIdeal.nD Cert.FrontAbRefIdeal.τ).loc Cert.FrontAbRefIdeal.main_v24) = v4 c
          ∧ r.2.mem ((c.tc : Thread Cert.FrontAbRefIdeal.nD Cert.FrontAbRefIdeal.τ).loc Cert.FrontAbRefIdeal.main_v25) = v5 c
          ∧ r.2.mem ((c.tc : Thread Cert.FrontAbRefIdeal.nD Cert.FrontAbRefIdeal.τ).loc Cert.FrontAbRefIdeal.main_v26) = v6 c
          ∧ r.2.mem ((c.tc : Thread Cert.FrontAbRefIdeal.nD Cert.FrontAbRefIdeal.τ).loc Cert.FrontAbRefIdeal.main_arg0) = m' ((c.tc : Thread Cert.FrontAbRefIdeal.nD Cert.FrontAbRefIdeal.τ).loc Cert.FrontAbRefIdeal.main_arg0)
          ∧ r.2.mem ((c.tc : Thread Cert.FrontAbRefIdeal.nD Cert.FrontAbRefIdeal.τ).loc Cert.FrontAbRefIdeal.main_arg1) = m' ((c.tc : Thread Cert.FrontAbRefIdeal.nD Cert.FrontAbRefIdeal.τ).loc Cert.FrontAbRefIdeal.main_arg1)
          ∧ r.2.mem ((c.tc : Thread Cert.FrontAbRefIdeal.nD Cert.FrontAbRefIdeal.τ).loc Cert.FrontAbRefIdeal.main_arg2) = m' ((c.tc : Thread Cert.FrontAbRefIdeal.nD Cert.FrontAbRefIdeal.τ).loc Cert.FrontAbRefIdeal.main_arg2)
          ∧ r.2.mem ((c.tc : Thread Cert.FrontAbRefIdeal.nD Cert.FrontAbRefIdeal.τ).loc Cert.FrontAbRefIdeal.main_arg3) = m' ((c.tc : Thread Cert.FrontAbRefIdeal.nD Cert.FrontAbRefIdeal.τ).loc Cert.FrontAbRefIdeal.main_arg3)
          ∧ r.2.mem ((c.tc : Thread Cert.FrontAbRefIdeal.nD Cert.FrontAbRefIdeal.τ).loc Cert.FrontAbRefIdeal.main_arg4) = m' ((c.tc : Thread Cert.FrontAbRefIdeal.nD Cert.FrontAbRefIdeal.τ).loc Cert.FrontAbRefIdeal.main_arg4))

def preserves_FrontGdn_FrontGdnIdeal : Prop :=
  True

def algebraic_FrontGdnIdeal_FrontGdnRefIdeal [hFrontGdnIdeal : Cert.FrontGdnIdeal.Facts] [hFrontGdnRefIdeal : Cert.FrontGdnRefIdeal.Facts] : Prop :=
  ∀ (m : (ℓ : Loc Cert.FrontGdnIdeal.nD Cert.FrontGdnIdeal.τ Cert.FrontGdnIdeal.sig) → Buf (Elt Ideal) ℓ) (g : Dev Cert.FrontGdnIdeal.nD → PrngReg)
    (m' : (ℓ : Loc Cert.FrontGdnRefIdeal.nD Cert.FrontGdnRefIdeal.τ Cert.FrontGdnRefIdeal.sig) → Buf (Elt Ideal) ℓ) (g' : Dev Cert.FrontGdnRefIdeal.nD → PrngReg), Pre_FrontGdnIdeal m →
    (∀ c : Dev Cert.FrontGdnIdeal.nD,
      m' ((c.tc : Thread Cert.FrontGdnRefIdeal.nD Cert.FrontGdnRefIdeal.τ).loc Cert.FrontGdnRefIdeal.main_arg0) = m ((c.tc : Thread Cert.FrontGdnIdeal.nD Cert.FrontGdnIdeal.τ).loc Cert.FrontGdnIdeal.main_arg0)
      ∧ m' ((c.tc : Thread Cert.FrontGdnRefIdeal.nD Cert.FrontGdnRefIdeal.τ).loc Cert.FrontGdnRefIdeal.main_arg1) = m ((c.tc : Thread Cert.FrontGdnIdeal.nD Cert.FrontGdnIdeal.τ).loc Cert.FrontGdnIdeal.main_arg1)
      ∧ m' ((c.tc : Thread Cert.FrontGdnRefIdeal.nD Cert.FrontGdnRefIdeal.τ).loc Cert.FrontGdnRefIdeal.main_arg2) = m ((c.tc : Thread Cert.FrontGdnIdeal.nD Cert.FrontGdnIdeal.τ).loc Cert.FrontGdnIdeal.main_arg2)
      ∧ m' ((c.tc : Thread Cert.FrontGdnRefIdeal.nD Cert.FrontGdnRefIdeal.τ).loc Cert.FrontGdnRefIdeal.main_arg3) = m ((c.tc : Thread Cert.FrontGdnIdeal.nD Cert.FrontGdnIdeal.τ).loc Cert.FrontGdnIdeal.main_arg3)
      ∧ m' ((c.tc : Thread Cert.FrontGdnRefIdeal.nD Cert.FrontGdnRefIdeal.τ).loc Cert.FrontGdnRefIdeal.main_arg4) = m ((c.tc : Thread Cert.FrontGdnIdeal.nD Cert.FrontGdnIdeal.τ).loc Cert.FrontGdnIdeal.main_arg4)) →
    ∃ (v0 : (c : Dev Cert.FrontGdnIdeal.nD) → Buf (Elt Ideal) ((c.tc : Thread Cert.FrontGdnIdeal.nD Cert.FrontGdnIdeal.τ).loc Cert.FrontGdnIdeal.main_v0_0)) (v1 : (c : Dev Cert.FrontGdnIdeal.nD) → Buf (Elt Ideal) ((c.tc : Thread Cert.FrontGdnIdeal.nD Cert.FrontGdnIdeal.τ).loc Cert.FrontGdnIdeal.main_v0_1)) (v2 : (c : Dev Cert.FrontGdnIdeal.nD) → Buf (Elt Ideal) ((c.tc : Thread Cert.FrontGdnIdeal.nD Cert.FrontGdnIdeal.τ).loc Cert.FrontGdnIdeal.main_v0_2)) (v3 : (c : Dev Cert.FrontGdnIdeal.nD) → Buf (Elt Ideal) ((c.tc : Thread Cert.FrontGdnIdeal.nD Cert.FrontGdnIdeal.τ).loc Cert.FrontGdnIdeal.main_v0_3)),
      θ_run (Cert.FrontGdnIdeal.defs (F := Ideal)) (onTc (τ := Cert.FrontGdnIdeal.τ) (Cert.FrontGdnIdeal.main (F := Ideal))) ⟨m, fun _ => 0, g⟩ (fun r => ∀ c : Dev Cert.FrontGdnIdeal.nD,
          r.2.mem ((c.tc : Thread Cert.FrontGdnIdeal.nD Cert.FrontGdnIdeal.τ).loc Cert.FrontGdnIdeal.main_v0_0) = v0 c
          ∧ r.2.mem ((c.tc : Thread Cert.FrontGdnIdeal.nD Cert.FrontGdnIdeal.τ).loc Cert.FrontGdnIdeal.main_v0_1) = v1 c
          ∧ r.2.mem ((c.tc : Thread Cert.FrontGdnIdeal.nD Cert.FrontGdnIdeal.τ).loc Cert.FrontGdnIdeal.main_v0_2) = v2 c
          ∧ r.2.mem ((c.tc : Thread Cert.FrontGdnIdeal.nD Cert.FrontGdnIdeal.τ).loc Cert.FrontGdnIdeal.main_v0_3) = v3 c
          ∧ r.2.mem ((c.tc : Thread Cert.FrontGdnIdeal.nD Cert.FrontGdnIdeal.τ).loc Cert.FrontGdnIdeal.main_arg0) = m ((c.tc : Thread Cert.FrontGdnIdeal.nD Cert.FrontGdnIdeal.τ).loc Cert.FrontGdnIdeal.main_arg0)
          ∧ r.2.mem ((c.tc : Thread Cert.FrontGdnIdeal.nD Cert.FrontGdnIdeal.τ).loc Cert.FrontGdnIdeal.main_arg1) = m ((c.tc : Thread Cert.FrontGdnIdeal.nD Cert.FrontGdnIdeal.τ).loc Cert.FrontGdnIdeal.main_arg1)
          ∧ r.2.mem ((c.tc : Thread Cert.FrontGdnIdeal.nD Cert.FrontGdnIdeal.τ).loc Cert.FrontGdnIdeal.main_arg2) = m ((c.tc : Thread Cert.FrontGdnIdeal.nD Cert.FrontGdnIdeal.τ).loc Cert.FrontGdnIdeal.main_arg2)
          ∧ r.2.mem ((c.tc : Thread Cert.FrontGdnIdeal.nD Cert.FrontGdnIdeal.τ).loc Cert.FrontGdnIdeal.main_arg3) = m ((c.tc : Thread Cert.FrontGdnIdeal.nD Cert.FrontGdnIdeal.τ).loc Cert.FrontGdnIdeal.main_arg3)
          ∧ r.2.mem ((c.tc : Thread Cert.FrontGdnIdeal.nD Cert.FrontGdnIdeal.τ).loc Cert.FrontGdnIdeal.main_arg4) = m ((c.tc : Thread Cert.FrontGdnIdeal.nD Cert.FrontGdnIdeal.τ).loc Cert.FrontGdnIdeal.main_arg4))
      ∧ θ_run (Cert.FrontGdnRefIdeal.defs (F := Ideal)) (onTc (τ := Cert.FrontGdnRefIdeal.τ) (Cert.FrontGdnRefIdeal.main (F := Ideal))) ⟨m', fun _ => 0, g'⟩ (fun r => ∀ c : Dev Cert.FrontGdnRefIdeal.nD,
          r.2.mem ((c.tc : Thread Cert.FrontGdnRefIdeal.nD Cert.FrontGdnRefIdeal.τ).loc Cert.FrontGdnRefIdeal.main_v20) = v0 c
          ∧ r.2.mem ((c.tc : Thread Cert.FrontGdnRefIdeal.nD Cert.FrontGdnRefIdeal.τ).loc Cert.FrontGdnRefIdeal.main_v21) = v1 c
          ∧ r.2.mem ((c.tc : Thread Cert.FrontGdnRefIdeal.nD Cert.FrontGdnRefIdeal.τ).loc Cert.FrontGdnRefIdeal.main_v22) = v2 c
          ∧ r.2.mem ((c.tc : Thread Cert.FrontGdnRefIdeal.nD Cert.FrontGdnRefIdeal.τ).loc Cert.FrontGdnRefIdeal.main_v23) = v3 c
          ∧ r.2.mem ((c.tc : Thread Cert.FrontGdnRefIdeal.nD Cert.FrontGdnRefIdeal.τ).loc Cert.FrontGdnRefIdeal.main_arg0) = m' ((c.tc : Thread Cert.FrontGdnRefIdeal.nD Cert.FrontGdnRefIdeal.τ).loc Cert.FrontGdnRefIdeal.main_arg0)
          ∧ r.2.mem ((c.tc : Thread Cert.FrontGdnRefIdeal.nD Cert.FrontGdnRefIdeal.τ).loc Cert.FrontGdnRefIdeal.main_arg1) = m' ((c.tc : Thread Cert.FrontGdnRefIdeal.nD Cert.FrontGdnRefIdeal.τ).loc Cert.FrontGdnRefIdeal.main_arg1)
          ∧ r.2.mem ((c.tc : Thread Cert.FrontGdnRefIdeal.nD Cert.FrontGdnRefIdeal.τ).loc Cert.FrontGdnRefIdeal.main_arg2) = m' ((c.tc : Thread Cert.FrontGdnRefIdeal.nD Cert.FrontGdnRefIdeal.τ).loc Cert.FrontGdnRefIdeal.main_arg2)
          ∧ r.2.mem ((c.tc : Thread Cert.FrontGdnRefIdeal.nD Cert.FrontGdnRefIdeal.τ).loc Cert.FrontGdnRefIdeal.main_arg3) = m' ((c.tc : Thread Cert.FrontGdnRefIdeal.nD Cert.FrontGdnRefIdeal.τ).loc Cert.FrontGdnRefIdeal.main_arg3)
          ∧ r.2.mem ((c.tc : Thread Cert.FrontGdnRefIdeal.nD Cert.FrontGdnRefIdeal.τ).loc Cert.FrontGdnRefIdeal.main_arg4) = m' ((c.tc : Thread Cert.FrontGdnRefIdeal.nD Cert.FrontGdnRefIdeal.τ).loc Cert.FrontGdnRefIdeal.main_arg4))

def preserves_Zoh_ZohIdeal : Prop :=
  True

def algebraic_ZohIdeal_ZohRefIdeal [hZohIdeal : Cert.ZohIdeal.Facts] [hZohRefIdeal : Cert.ZohRefIdeal.Facts] : Prop :=
  ∀ (m : (ℓ : Loc Cert.ZohIdeal.nD Cert.ZohIdeal.τ Cert.ZohIdeal.sig) → Buf (Elt Ideal) ℓ) (g : Dev Cert.ZohIdeal.nD → PrngReg)
    (m' : (ℓ : Loc Cert.ZohRefIdeal.nD Cert.ZohRefIdeal.τ Cert.ZohRefIdeal.sig) → Buf (Elt Ideal) ℓ) (g' : Dev Cert.ZohRefIdeal.nD → PrngReg), Pre_ZohIdeal m →
    (∀ c : Dev Cert.ZohIdeal.nD,
      m' ((c.tc : Thread Cert.ZohRefIdeal.nD Cert.ZohRefIdeal.τ).loc Cert.ZohRefIdeal.main_arg0) = m ((c.tc : Thread Cert.ZohIdeal.nD Cert.ZohIdeal.τ).loc Cert.ZohIdeal.main_arg0)
      ∧ m' ((c.tc : Thread Cert.ZohRefIdeal.nD Cert.ZohRefIdeal.τ).loc Cert.ZohRefIdeal.main_arg1) = m ((c.tc : Thread Cert.ZohIdeal.nD Cert.ZohIdeal.τ).loc Cert.ZohIdeal.main_arg1)
      ∧ m' ((c.tc : Thread Cert.ZohRefIdeal.nD Cert.ZohRefIdeal.τ).loc Cert.ZohRefIdeal.main_arg2) = m ((c.tc : Thread Cert.ZohIdeal.nD Cert.ZohIdeal.τ).loc Cert.ZohIdeal.main_arg2)
      ∧ m' ((c.tc : Thread Cert.ZohRefIdeal.nD Cert.ZohRefIdeal.τ).loc Cert.ZohRefIdeal.main_arg3) = m ((c.tc : Thread Cert.ZohIdeal.nD Cert.ZohIdeal.τ).loc Cert.ZohIdeal.main_arg3)
      ∧ m' ((c.tc : Thread Cert.ZohRefIdeal.nD Cert.ZohRefIdeal.τ).loc Cert.ZohRefIdeal.main_arg4) = m ((c.tc : Thread Cert.ZohIdeal.nD Cert.ZohIdeal.τ).loc Cert.ZohIdeal.main_arg4)) →
    ∃ (v0 : (c : Dev Cert.ZohIdeal.nD) → Buf (Elt Ideal) ((c.tc : Thread Cert.ZohIdeal.nD Cert.ZohIdeal.τ).loc Cert.ZohIdeal.main_v0_0)) (v1 : (c : Dev Cert.ZohIdeal.nD) → Buf (Elt Ideal) ((c.tc : Thread Cert.ZohIdeal.nD Cert.ZohIdeal.τ).loc Cert.ZohIdeal.main_v0_1)) (v2 : (c : Dev Cert.ZohIdeal.nD) → Buf (Elt Ideal) ((c.tc : Thread Cert.ZohIdeal.nD Cert.ZohIdeal.τ).loc Cert.ZohIdeal.main_v0_2)) (v3 : (c : Dev Cert.ZohIdeal.nD) → Buf (Elt Ideal) ((c.tc : Thread Cert.ZohIdeal.nD Cert.ZohIdeal.τ).loc Cert.ZohIdeal.main_v0_3)),
      θ_run (Cert.ZohIdeal.defs (F := Ideal)) (onTc (τ := Cert.ZohIdeal.τ) (Cert.ZohIdeal.main (F := Ideal))) ⟨m, fun _ => 0, g⟩ (fun r => ∀ c : Dev Cert.ZohIdeal.nD,
          r.2.mem ((c.tc : Thread Cert.ZohIdeal.nD Cert.ZohIdeal.τ).loc Cert.ZohIdeal.main_v0_0) = v0 c
          ∧ r.2.mem ((c.tc : Thread Cert.ZohIdeal.nD Cert.ZohIdeal.τ).loc Cert.ZohIdeal.main_v0_1) = v1 c
          ∧ r.2.mem ((c.tc : Thread Cert.ZohIdeal.nD Cert.ZohIdeal.τ).loc Cert.ZohIdeal.main_v0_2) = v2 c
          ∧ r.2.mem ((c.tc : Thread Cert.ZohIdeal.nD Cert.ZohIdeal.τ).loc Cert.ZohIdeal.main_v0_3) = v3 c
          ∧ r.2.mem ((c.tc : Thread Cert.ZohIdeal.nD Cert.ZohIdeal.τ).loc Cert.ZohIdeal.main_arg0) = m ((c.tc : Thread Cert.ZohIdeal.nD Cert.ZohIdeal.τ).loc Cert.ZohIdeal.main_arg0)
          ∧ r.2.mem ((c.tc : Thread Cert.ZohIdeal.nD Cert.ZohIdeal.τ).loc Cert.ZohIdeal.main_arg1) = m ((c.tc : Thread Cert.ZohIdeal.nD Cert.ZohIdeal.τ).loc Cert.ZohIdeal.main_arg1)
          ∧ r.2.mem ((c.tc : Thread Cert.ZohIdeal.nD Cert.ZohIdeal.τ).loc Cert.ZohIdeal.main_arg2) = m ((c.tc : Thread Cert.ZohIdeal.nD Cert.ZohIdeal.τ).loc Cert.ZohIdeal.main_arg2)
          ∧ r.2.mem ((c.tc : Thread Cert.ZohIdeal.nD Cert.ZohIdeal.τ).loc Cert.ZohIdeal.main_arg3) = m ((c.tc : Thread Cert.ZohIdeal.nD Cert.ZohIdeal.τ).loc Cert.ZohIdeal.main_arg3)
          ∧ r.2.mem ((c.tc : Thread Cert.ZohIdeal.nD Cert.ZohIdeal.τ).loc Cert.ZohIdeal.main_arg4) = m ((c.tc : Thread Cert.ZohIdeal.nD Cert.ZohIdeal.τ).loc Cert.ZohIdeal.main_arg4))
      ∧ θ_run (Cert.ZohRefIdeal.defs (F := Ideal)) (onTc (τ := Cert.ZohRefIdeal.τ) (Cert.ZohRefIdeal.main (F := Ideal))) ⟨m', fun _ => 0, g'⟩ (fun r => ∀ c : Dev Cert.ZohRefIdeal.nD,
          r.2.mem ((c.tc : Thread Cert.ZohRefIdeal.nD Cert.ZohRefIdeal.τ).loc Cert.ZohRefIdeal.main_v7) = v0 c
          ∧ r.2.mem ((c.tc : Thread Cert.ZohRefIdeal.nD Cert.ZohRefIdeal.τ).loc Cert.ZohRefIdeal.main_v11) = v1 c
          ∧ r.2.mem ((c.tc : Thread Cert.ZohRefIdeal.nD Cert.ZohRefIdeal.τ).loc Cert.ZohRefIdeal.main_v36) = v2 c
          ∧ r.2.mem ((c.tc : Thread Cert.ZohRefIdeal.nD Cert.ZohRefIdeal.τ).loc Cert.ZohRefIdeal.main_v44) = v3 c
          ∧ r.2.mem ((c.tc : Thread Cert.ZohRefIdeal.nD Cert.ZohRefIdeal.τ).loc Cert.ZohRefIdeal.main_arg0) = m' ((c.tc : Thread Cert.ZohRefIdeal.nD Cert.ZohRefIdeal.τ).loc Cert.ZohRefIdeal.main_arg0)
          ∧ r.2.mem ((c.tc : Thread Cert.ZohRefIdeal.nD Cert.ZohRefIdeal.τ).loc Cert.ZohRefIdeal.main_arg1) = m' ((c.tc : Thread Cert.ZohRefIdeal.nD Cert.ZohRefIdeal.τ).loc Cert.ZohRefIdeal.main_arg1)
          ∧ r.2.mem ((c.tc : Thread Cert.ZohRefIdeal.nD Cert.ZohRefIdeal.τ).loc Cert.ZohRefIdeal.main_arg2) = m' ((c.tc : Thread Cert.ZohRefIdeal.nD Cert.ZohRefIdeal.τ).loc Cert.ZohRefIdeal.main_arg2)
          ∧ r.2.mem ((c.tc : Thread Cert.ZohRefIdeal.nD Cert.ZohRefIdeal.τ).loc Cert.ZohRefIdeal.main_arg3) = m' ((c.tc : Thread Cert.ZohRefIdeal.nD Cert.ZohRefIdeal.τ).loc Cert.ZohRefIdeal.main_arg3)
          ∧ r.2.mem ((c.tc : Thread Cert.ZohRefIdeal.nD Cert.ZohRefIdeal.τ).loc Cert.ZohRefIdeal.main_arg4) = m' ((c.tc : Thread Cert.ZohRefIdeal.nD Cert.ZohRefIdeal.τ).loc Cert.ZohRefIdeal.main_arg4))

def preserves_RelBias_RelBiasIdeal : Prop :=
  True

def algebraic_RelBiasIdeal_RelBiasRefIdeal [hRelBiasIdeal : Cert.RelBiasIdeal.Facts] [hRelBiasRefIdeal : Cert.RelBiasRefIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg)
    (m' : (ℓ : Loc Cert.RelBiasRefIdeal.nD Cert.RelBiasRefIdeal.τ Cert.RelBiasRefIdeal.sig) → Buf (Elt Ideal) ℓ) (g' : Dev Cert.RelBiasRefIdeal.nD → PrngReg), Pre_RelBiasIdeal m →
    (∀ c : Dev Cert.RelBiasIdeal.nD,
      m' ((c.tc : Thread Cert.RelBiasRefIdeal.nD Cert.RelBiasRefIdeal.τ).loc Cert.RelBiasRefIdeal.main_arg0) = m ((c.tc : Thread Cert.RelBiasIdeal.nD Cert.RelBiasIdeal.τ).loc Cert.RelBiasIdeal.main_arg0)
      ∧ m' ((c.tc : Thread Cert.RelBiasRefIdeal.nD Cert.RelBiasRefIdeal.τ).loc Cert.RelBiasRefIdeal.main_arg1) = m ((c.tc : Thread Cert.RelBiasIdeal.nD Cert.RelBiasIdeal.τ).loc Cert.RelBiasIdeal.main_arg1)) →
    ∃ (v0 : (c : Dev Cert.RelBiasIdeal.nD) → Buf (Elt Ideal) ((c.tc : Thread Cert.RelBiasIdeal.nD Cert.RelBiasIdeal.τ).loc Cert.RelBiasIdeal.main_v1)),
      θ_run (Cert.RelBiasIdeal.defs (F := Ideal)) (onTc (τ := Cert.RelBiasIdeal.τ) (Cert.RelBiasIdeal.main (F := Ideal))) ⟨m, fun _ => 0, g⟩ (fun r => ∀ c : Dev Cert.RelBiasIdeal.nD,
          r.2.mem ((c.tc : Thread Cert.RelBiasIdeal.nD Cert.RelBiasIdeal.τ).loc Cert.RelBiasIdeal.main_v1) = v0 c
          ∧ r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0)
          ∧ r.2.mem ((c.tc : Thread Cert.RelBiasIdeal.nD Cert.RelBiasIdeal.τ).loc Cert.RelBiasIdeal.main_arg1) = m ((c.tc : Thread Cert.RelBiasIdeal.nD Cert.RelBiasIdeal.τ).loc Cert.RelBiasIdeal.main_arg1))
      ∧ θ_run (Cert.RelBiasRefIdeal.defs (F := Ideal)) (onTc (τ := Cert.RelBiasRefIdeal.τ) (Cert.RelBiasRefIdeal.main (F := Ideal))) ⟨m', fun _ => 0, g'⟩ (fun r => ∀ c : Dev Cert.RelBiasRefIdeal.nD,
          r.2.mem ((c.tc : Thread Cert.RelBiasRefIdeal.nD Cert.RelBiasRefIdeal.τ).loc Cert.RelBiasRefIdeal.main_v11) = v0 c
          ∧ r.2.mem ((c.tc : Thread Cert.RelBiasRefIdeal.nD Cert.RelBiasRefIdeal.τ).loc Cert.RelBiasRefIdeal.main_arg0) = m' ((c.tc : Thread Cert.RelBiasRefIdeal.nD Cert.RelBiasRefIdeal.τ).loc Cert.RelBiasRefIdeal.main_arg0)
          ∧ r.2.mem ((c.tc : Thread Cert.RelBiasRefIdeal.nD Cert.RelBiasRefIdeal.τ).loc Cert.RelBiasRefIdeal.main_arg1) = m' ((c.tc : Thread Cert.RelBiasRefIdeal.nD Cert.RelBiasRefIdeal.τ).loc Cert.RelBiasRefIdeal.main_arg1))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)
      ∧ m' ((c.tc : Thread Cert.OutAbRefIdeal.nD Cert.OutAbRefIdeal.τ).loc Cert.OutAbRefIdeal.main_arg3) = m ((c.tc : Thread Cert.OutAbIdeal.nD Cert.OutAbIdeal.τ).loc Cert.OutAbIdeal.main_arg3)
      ∧ m' ((c.tc : Thread Cert.OutAbRefIdeal.nD Cert.OutAbRefIdeal.τ).loc Cert.OutAbRefIdeal.main_arg4) = m ((c.tc : Thread Cert.OutAbIdeal.nD Cert.OutAbIdeal.τ).loc Cert.OutAbIdeal.main_arg4)
      ∧ m' ((c.tc : Thread Cert.OutAbRefIdeal.nD Cert.OutAbRefIdeal.τ).loc Cert.OutAbRefIdeal.main_arg5) = m ((c.tc : Thread Cert.OutAbIdeal.nD Cert.OutAbIdeal.τ).loc Cert.OutAbIdeal.main_arg5)
      ∧ m' ((c.tc : Thread Cert.OutAbRefIdeal.nD Cert.OutAbRefIdeal.τ).loc Cert.OutAbRefIdeal.main_arg6) = m ((c.tc : Thread Cert.OutAbIdeal.nD Cert.OutAbIdeal.τ).loc Cert.OutAbIdeal.main_arg6)
      ∧ m' ((c.tc : Thread Cert.OutAbRefIdeal.nD Cert.OutAbRefIdeal.τ).loc Cert.OutAbRefIdeal.main_arg7) = m ((c.tc : Thread Cert.OutAbIdeal.nD Cert.OutAbIdeal.τ).loc Cert.OutAbIdeal.main_arg7)
      ∧ m' ((c.tc : Thread Cert.OutAbRefIdeal.nD Cert.OutAbRefIdeal.τ).loc Cert.OutAbRefIdeal.main_arg8) = m ((c.tc : Thread Cert.OutAbIdeal.nD Cert.OutAbIdeal.τ).loc Cert.OutAbIdeal.main_arg8)
      ∧ m' ((c.tc : Thread Cert.OutAbRefIdeal.nD Cert.OutAbRefIdeal.τ).loc Cert.OutAbRefIdeal.main_arg9) = m ((c.tc : Thread Cert.OutAbIdeal.nD Cert.OutAbIdeal.τ).loc Cert.OutAbIdeal.main_arg9)
      ∧ m' ((c.tc : Thread Cert.OutAbRefIdeal.nD Cert.OutAbRefIdeal.τ).loc Cert.OutAbRefIdeal.main_arg10) = m ((c.tc : Thread Cert.OutAbIdeal.nD Cert.OutAbIdeal.τ).loc Cert.OutAbIdeal.main_arg10)
      ∧ m' ((c.tc : Thread Cert.OutAbRefIdeal.nD Cert.OutAbRefIdeal.τ).loc Cert.OutAbRefIdeal.main_arg11) = m ((c.tc : Thread Cert.OutAbIdeal.nD Cert.OutAbIdeal.τ).loc Cert.OutAbIdeal.main_arg11)
      ∧ m' ((c.tc : Thread Cert.OutAbRefIdeal.nD Cert.OutAbRefIdeal.τ).loc Cert.OutAbRefIdeal.main_arg12) = m ((c.tc : Thread Cert.OutAbIdeal.nD Cert.OutAbIdeal.τ).loc Cert.OutAbIdeal.main_arg12)) →
    ∃ (v0 : (c : Dev Cert.OutAbIdeal.nD) → Buf (Elt Ideal) ((c.tc : Thread Cert.OutAbIdeal.nD Cert.OutAbIdeal.τ).loc Cert.OutAbIdeal.main_v0_0)) (v1 : (c : Dev Cert.OutAbIdeal.nD) → Buf (Elt Ideal) ((c.tc : Thread Cert.OutAbIdeal.nD Cert.OutAbIdeal.τ).loc Cert.OutAbIdeal.main_v0_1)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v0_0) = v0 c
          ∧ r.2.mem ((c.tc : Thread Cert.OutAbIdeal.nD Cert.OutAbIdeal.τ).loc Cert.OutAbIdeal.main_v0_1) = v1 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
          ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
          ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
          ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5)
          ∧ r.2.mem ((c.tc : Thread Cert.OutAbIdeal.nD Cert.OutAbIdeal.τ).loc Cert.OutAbIdeal.main_arg6) = m ((c.tc : Thread Cert.OutAbIdeal.nD Cert.OutAbIdeal.τ).loc Cert.OutAbIdeal.main_arg6)
          ∧ r.2.mem ((c.tc : Thread Cert.OutAbIdeal.nD Cert.OutAbIdeal.τ).loc Cert.OutAbIdeal.main_arg7) = m ((c.tc : Thread Cert.OutAbIdeal.nD Cert.OutAbIdeal.τ).loc Cert.OutAbIdeal.main_arg7)
          ∧ r.2.mem ((c.tc : Thread Cert.OutAbIdeal.nD Cert.OutAbIdeal.τ).loc Cert.OutAbIdeal.main_arg8) = m ((c.tc : Thread Cert.OutAbIdeal.nD Cert.OutAbIdeal.τ).loc Cert.OutAbIdeal.main_arg8)
          ∧ r.2.mem ((c.tc : Thread Cert.OutAbIdeal.nD Cert.OutAbIdeal.τ).loc Cert.OutAbIdeal.main_arg9) = m ((c.tc : Thread Cert.OutAbIdeal.nD Cert.OutAbIdeal.τ).loc Cert.OutAbIdeal.main_arg9)
          ∧ r.2.mem ((c.tc : Thread Cert.OutAbIdeal.nD Cert.OutAbIdeal.τ).loc Cert.OutAbIdeal.main_arg10) = m ((c.tc : Thread Cert.OutAbIdeal.nD Cert.OutAbIdeal.τ).loc Cert.OutAbIdeal.main_arg10)
          ∧ r.2.mem ((c.tc : Thread Cert.OutAbIdeal.nD Cert.OutAbIdeal.τ).loc Cert.OutAbIdeal.main_arg11) = m ((c.tc : Thread Cert.OutAbIdeal.nD Cert.OutAbIdeal.τ).loc Cert.OutAbIdeal.main_arg11)
          ∧ r.2.mem ((c.tc : Thread Cert.OutAbIdeal.nD Cert.OutAbIdeal.τ).loc Cert.OutAbIdeal.main_arg12) = m ((c.tc : Thread Cert.OutAbIdeal.nD Cert.OutAbIdeal.τ).loc Cert.OutAbIdeal.main_arg12))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v60) = v0 c
          ∧ r.2.mem ((c.tc : Thread Cert.OutAbRefIdeal.nD Cert.OutAbRefIdeal.τ).loc Cert.OutAbRefIdeal.main_v45) = v1 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2)
          ∧ r.2.mem ((c.tc : Thread Cert.OutAbRefIdeal.nD Cert.OutAbRefIdeal.τ).loc Cert.OutAbRefIdeal.main_arg3) = m' ((c.tc : Thread Cert.OutAbRefIdeal.nD Cert.OutAbRefIdeal.τ).loc Cert.OutAbRefIdeal.main_arg3)
          ∧ r.2.mem ((c.tc : Thread Cert.OutAbRefIdeal.nD Cert.OutAbRefIdeal.τ).loc Cert.OutAbRefIdeal.main_arg4) = m' ((c.tc : Thread Cert.OutAbRefIdeal.nD Cert.OutAbRefIdeal.τ).loc Cert.OutAbRefIdeal.main_arg4)
          ∧ r.2.mem ((c.tc : Thread Cert.OutAbRefIdeal.nD Cert.OutAbRefIdeal.τ).loc Cert.OutAbRefIdeal.main_arg5) = m' ((c.tc : Thread Cert.OutAbRefIdeal.nD Cert.OutAbRefIdeal.τ).loc Cert.OutAbRefIdeal.main_arg5)
          ∧ r.2.mem ((c.tc : Thread Cert.OutAbRefIdeal.nD Cert.OutAbRefIdeal.τ).loc Cert.OutAbRefIdeal.main_arg6) = m' ((c.tc : Thread Cert.OutAbRefIdeal.nD Cert.OutAbRefIdeal.τ).loc Cert.OutAbRefIdeal.main_arg6)
          ∧ r.2.mem ((c.tc : Thread Cert.OutAbRefIdeal.nD Cert.OutAbRefIdeal.τ).loc Cert.OutAbRefIdeal.main_arg7) = m' ((c.tc : Thread Cert.OutAbRefIdeal.nD Cert.OutAbRefIdeal.τ).loc Cert.OutAbRefIdeal.main_arg7)
          ∧ r.2.mem ((c.tc : Thread Cert.OutAbRefIdeal.nD Cert.OutAbRefIdeal.τ).loc Cert.OutAbRefIdeal.main_arg8) = m' ((c.tc : Thread Cert.OutAbRefIdeal.nD Cert.OutAbRefIdeal.τ).loc Cert.OutAbRefIdeal.main_arg8)
          ∧ r.2.mem ((c.tc : Thread Cert.OutAbRefIdeal.nD Cert.OutAbRefIdeal.τ).loc Cert.OutAbRefIdeal.main_arg9) = m' ((c.tc : Thread Cert.OutAbRefIdeal.nD Cert.OutAbRefIdeal.τ).loc Cert.OutAbRefIdeal.main_arg9)
          ∧ r.2.mem ((c.tc : Thread Cert.OutAbRefIdeal.nD Cert.OutAbRefIdeal.τ).loc Cert.OutAbRefIdeal.main_arg10) = m' ((c.tc : Thread Cert.OutAbRefIdeal.nD Cert.OutAbRefIdeal.τ).loc Cert.OutAbRefIdeal.main_arg10)
          ∧ r.2.mem ((c.tc : Thread Cert.OutAbRefIdeal.nD Cert.OutAbRefIdeal.τ).loc Cert.OutAbRefIdeal.main_arg11) = m' ((c.tc : Thread Cert.OutAbRefIdeal.nD Cert.OutAbRefIdeal.τ).loc Cert.OutAbRefIdeal.main_arg11)
          ∧ r.2.mem ((c.tc : Thread Cert.OutAbRefIdeal.nD Cert.OutAbRefIdeal.τ).loc Cert.OutAbRefIdeal.main_arg12) = m' ((c.tc : Thread Cert.OutAbRefIdeal.nD Cert.OutAbRefIdeal.τ).loc Cert.OutAbRefIdeal.main_arg12))

def preserves_GradGdn_GradGdnIdeal : Prop :=
  True

def algebraic_GradGdnIdeal_GradGdnRefIdeal [hGradGdnIdeal : Cert.GradGdnIdeal.Facts] [hGradGdnRefIdeal : Cert.GradGdnRefIdeal.Facts] : Prop :=
  ∀ (m : (ℓ : Loc Cert.GradGdnIdeal.nD Cert.GradGdnIdeal.τ Cert.GradGdnIdeal.sig) → Buf (Elt Ideal) ℓ) (g : Dev Cert.GradGdnIdeal.nD → PrngReg)
    (m' : (ℓ : Loc Cert.GradGdnRefIdeal.nD Cert.GradGdnRefIdeal.τ Cert.GradGdnRefIdeal.sig) → Buf (Elt Ideal) ℓ) (g' : Dev Cert.GradGdnRefIdeal.nD → PrngReg), Pre_GradGdnIdeal m →
    (∀ c : Dev Cert.GradGdnIdeal.nD,
      m' ((c.tc : Thread Cert.GradGdnRefIdeal.nD Cert.GradGdnRefIdeal.τ).loc Cert.GradGdnRefIdeal.main_arg0) = m ((c.tc : Thread Cert.GradGdnIdeal.nD Cert.GradGdnIdeal.τ).loc Cert.GradGdnIdeal.main_arg0)
      ∧ m' ((c.tc : Thread Cert.GradGdnRefIdeal.nD Cert.GradGdnRefIdeal.τ).loc Cert.GradGdnRefIdeal.main_arg1) = m ((c.tc : Thread Cert.GradGdnIdeal.nD Cert.GradGdnIdeal.τ).loc Cert.GradGdnIdeal.main_arg1)
      ∧ m' ((c.tc : Thread Cert.GradGdnRefIdeal.nD Cert.GradGdnRefIdeal.τ).loc Cert.GradGdnRefIdeal.main_arg2) = m ((c.tc : Thread Cert.GradGdnIdeal.nD Cert.GradGdnIdeal.τ).loc Cert.GradGdnIdeal.main_arg2)
      ∧ m' ((c.tc : Thread Cert.GradGdnRefIdeal.nD Cert.GradGdnRefIdeal.τ).loc Cert.GradGdnRefIdeal.main_arg3) = m ((c.tc : Thread Cert.GradGdnIdeal.nD Cert.GradGdnIdeal.τ).loc Cert.GradGdnIdeal.main_arg3)
      ∧ m' ((c.tc : Thread Cert.GradGdnRefIdeal.nD Cert.GradGdnRefIdeal.τ).loc Cert.GradGdnRefIdeal.main_arg4) = m ((c.tc : Thread Cert.GradGdnIdeal.nD Cert.GradGdnIdeal.τ).loc Cert.GradGdnIdeal.main_arg4)
      ∧ m' ((c.tc : Thread Cert.GradGdnRefIdeal.nD Cert.GradGdnRefIdeal.τ).loc Cert.GradGdnRefIdeal.main_arg5) = m ((c.tc : Thread Cert.GradGdnIdeal.nD Cert.GradGdnIdeal.τ).loc Cert.GradGdnIdeal.main_arg5)
      ∧ m' ((c.tc : Thread Cert.GradGdnRefIdeal.nD Cert.GradGdnRefIdeal.τ).loc Cert.GradGdnRefIdeal.main_arg6) = m ((c.tc : Thread Cert.GradGdnIdeal.nD Cert.GradGdnIdeal.τ).loc Cert.GradGdnIdeal.main_arg6)
      ∧ m' ((c.tc : Thread Cert.GradGdnRefIdeal.nD Cert.GradGdnRefIdeal.τ).loc Cert.GradGdnRefIdeal.main_arg7) = m ((c.tc : Thread Cert.GradGdnIdeal.nD Cert.GradGdnIdeal.τ).loc Cert.GradGdnIdeal.main_arg7)
      ∧ m' ((c.tc : Thread Cert.GradGdnRefIdeal.nD Cert.GradGdnRefIdeal.τ).loc Cert.GradGdnRefIdeal.main_arg8) = m ((c.tc : Thread Cert.GradGdnIdeal.nD Cert.GradGdnIdeal.τ).loc Cert.GradGdnIdeal.main_arg8)) →
    ∃ (v0 : (c : Dev Cert.GradGdnIdeal.nD) → Buf (Elt Ideal) ((c.tc : Thread Cert.GradGdnIdeal.nD Cert.GradGdnIdeal.τ).loc Cert.GradGdnIdeal.main_v0_0)) (v1 : (c : Dev Cert.GradGdnIdeal.nD) → Buf (Elt Ideal) ((c.tc : Thread Cert.GradGdnIdeal.nD Cert.GradGdnIdeal.τ).loc Cert.GradGdnIdeal.main_v0_1)) (v2 : (c : Dev Cert.GradGdnIdeal.nD) → Buf (Elt Ideal) ((c.tc : Thread Cert.GradGdnIdeal.nD Cert.GradGdnIdeal.τ).loc Cert.GradGdnIdeal.main_v0_2)) (v3 : (c : Dev Cert.GradGdnIdeal.nD) → Buf (Elt Ideal) ((c.tc : Thread Cert.GradGdnIdeal.nD Cert.GradGdnIdeal.τ).loc Cert.GradGdnIdeal.main_v0_3)) (v4 : (c : Dev Cert.GradGdnIdeal.nD) → Buf (Elt Ideal) ((c.tc : Thread Cert.GradGdnIdeal.nD Cert.GradGdnIdeal.τ).loc Cert.GradGdnIdeal.main_v0_4)),
      θ_run (Cert.GradGdnIdeal.defs (F := Ideal)) (onTc (τ := Cert.GradGdnIdeal.τ) (Cert.GradGdnIdeal.main (F := Ideal))) ⟨m, fun _ => 0, g⟩ (fun r => ∀ c : Dev Cert.GradGdnIdeal.nD,
          r.2.mem ((c.tc : Thread Cert.GradGdnIdeal.nD Cert.GradGdnIdeal.τ).loc Cert.GradGdnIdeal.main_v0_0) = v0 c
          ∧ r.2.mem ((c.tc : Thread Cert.GradGdnIdeal.nD Cert.GradGdnIdeal.τ).loc Cert.GradGdnIdeal.main_v0_1) = v1 c
          ∧ r.2.mem ((c.tc : Thread Cert.GradGdnIdeal.nD Cert.GradGdnIdeal.τ).loc Cert.GradGdnIdeal.main_v0_2) = v2 c
          ∧ r.2.mem ((c.tc : Thread Cert.GradGdnIdeal.nD Cert.GradGdnIdeal.τ).loc Cert.GradGdnIdeal.main_v0_3) = v3 c
          ∧ r.2.mem ((c.tc : Thread Cert.GradGdnIdeal.nD Cert.GradGdnIdeal.τ).loc Cert.GradGdnIdeal.main_v0_4) = v4 c
          ∧ r.2.mem ((c.tc : Thread Cert.GradGdnIdeal.nD Cert.GradGdnIdeal.τ).loc Cert.GradGdnIdeal.main_arg0) = m ((c.tc : Thread Cert.GradGdnIdeal.nD Cert.GradGdnIdeal.τ).loc Cert.GradGdnIdeal.main_arg0)
          ∧ r.2.mem ((c.tc : Thread Cert.GradGdnIdeal.nD Cert.GradGdnIdeal.τ).loc Cert.GradGdnIdeal.main_arg1) = m ((c.tc : Thread Cert.GradGdnIdeal.nD Cert.GradGdnIdeal.τ).loc Cert.GradGdnIdeal.main_arg1)
          ∧ r.2.mem ((c.tc : Thread Cert.GradGdnIdeal.nD Cert.GradGdnIdeal.τ).loc Cert.GradGdnIdeal.main_arg2) = m ((c.tc : Thread Cert.GradGdnIdeal.nD Cert.GradGdnIdeal.τ).loc Cert.GradGdnIdeal.main_arg2)
          ∧ r.2.mem ((c.tc : Thread Cert.GradGdnIdeal.nD Cert.GradGdnIdeal.τ).loc Cert.GradGdnIdeal.main_arg3) = m ((c.tc : Thread Cert.GradGdnIdeal.nD Cert.GradGdnIdeal.τ).loc Cert.GradGdnIdeal.main_arg3)
          ∧ r.2.mem ((c.tc : Thread Cert.GradGdnIdeal.nD Cert.GradGdnIdeal.τ).loc Cert.GradGdnIdeal.main_arg4) = m ((c.tc : Thread Cert.GradGdnIdeal.nD Cert.GradGdnIdeal.τ).loc Cert.GradGdnIdeal.main_arg4)
          ∧ r.2.mem ((c.tc : Thread Cert.GradGdnIdeal.nD Cert.GradGdnIdeal.τ).loc Cert.GradGdnIdeal.main_arg5) = m ((c.tc : Thread Cert.GradGdnIdeal.nD Cert.GradGdnIdeal.τ).loc Cert.GradGdnIdeal.main_arg5)
          ∧ r.2.mem ((c.tc : Thread Cert.GradGdnIdeal.nD Cert.GradGdnIdeal.τ).loc Cert.GradGdnIdeal.main_arg6) = m ((c.tc : Thread Cert.GradGdnIdeal.nD Cert.GradGdnIdeal.τ).loc Cert.GradGdnIdeal.main_arg6)
          ∧ r.2.mem ((c.tc : Thread Cert.GradGdnIdeal.nD Cert.GradGdnIdeal.τ).loc Cert.GradGdnIdeal.main_arg7) = m ((c.tc : Thread Cert.GradGdnIdeal.nD Cert.GradGdnIdeal.τ).loc Cert.GradGdnIdeal.main_arg7)
          ∧ r.2.mem ((c.tc : Thread Cert.GradGdnIdeal.nD Cert.GradGdnIdeal.τ).loc Cert.GradGdnIdeal.main_arg8) = m ((c.tc : Thread Cert.GradGdnIdeal.nD Cert.GradGdnIdeal.τ).loc Cert.GradGdnIdeal.main_arg8))
      ∧ θ_run (Cert.GradGdnRefIdeal.defs (F := Ideal)) (onTc (τ := Cert.GradGdnRefIdeal.τ) (Cert.GradGdnRefIdeal.main (F := Ideal))) ⟨m', fun _ => 0, g'⟩ (fun r => ∀ c : Dev Cert.GradGdnRefIdeal.nD,
          r.2.mem ((c.tc : Thread Cert.GradGdnRefIdeal.nD Cert.GradGdnRefIdeal.τ).loc Cert.GradGdnRefIdeal.main_v51) = v0 c
          ∧ r.2.mem ((c.tc : Thread Cert.GradGdnRefIdeal.nD Cert.GradGdnRefIdeal.τ).loc Cert.GradGdnRefIdeal.main_v52) = v1 c
          ∧ r.2.mem ((c.tc : Thread Cert.GradGdnRefIdeal.nD Cert.GradGdnRefIdeal.τ).loc Cert.GradGdnRefIdeal.main_v34) = v2 c
          ∧ r.2.mem ((c.tc : Thread Cert.GradGdnRefIdeal.nD Cert.GradGdnRefIdeal.τ).loc Cert.GradGdnRefIdeal.main_v29) = v3 c
          ∧ r.2.mem ((c.tc : Thread Cert.GradGdnRefIdeal.nD Cert.GradGdnRefIdeal.τ).loc Cert.GradGdnRefIdeal.main_v26) = v4 c
          ∧ r.2.mem ((c.tc : Thread Cert.GradGdnRefIdeal.nD Cert.GradGdnRefIdeal.τ).loc Cert.GradGdnRefIdeal.main_arg0) = m' ((c.tc : Thread Cert.GradGdnRefIdeal.nD Cert.GradGdnRefIdeal.τ).loc Cert.GradGdnRefIdeal.main_arg0)
          ∧ r.2.mem ((c.tc : Thread Cert.GradGdnRefIdeal.nD Cert.GradGdnRefIdeal.τ).loc Cert.GradGdnRefIdeal.main_arg1) = m' ((c.tc : Thread Cert.GradGdnRefIdeal.nD Cert.GradGdnRefIdeal.τ).loc Cert.GradGdnRefIdeal.main_arg1)
          ∧ r.2.mem ((c.tc : Thread Cert.GradGdnRefIdeal.nD Cert.GradGdnRefIdeal.τ).loc Cert.GradGdnRefIdeal.main_arg2) = m' ((c.tc : Thread Cert.GradGdnRefIdeal.nD Cert.GradGdnRefIdeal.τ).loc Cert.GradGdnRefIdeal.main_arg2)
          ∧ r.2.mem ((c.tc : Thread Cert.GradGdnRefIdeal.nD Cert.GradGdnRefIdeal.τ).loc Cert.GradGdnRefIdeal.main_arg3) = m' ((c.tc : Thread Cert.GradGdnRefIdeal.nD Cert.GradGdnRefIdeal.τ).loc Cert.GradGdnRefIdeal.main_arg3)
          ∧ r.2.mem ((c.tc : Thread Cert.GradGdnRefIdeal.nD Cert.GradGdnRefIdeal.τ).loc Cert.GradGdnRefIdeal.main_arg4) = m' ((c.tc : Thread Cert.GradGdnRefIdeal.nD Cert.GradGdnRefIdeal.τ).loc Cert.GradGdnRefIdeal.main_arg4)
          ∧ r.2.mem ((c.tc : Thread Cert.GradGdnRefIdeal.nD Cert.GradGdnRefIdeal.τ).loc Cert.GradGdnRefIdeal.main_arg5) = m' ((c.tc : Thread Cert.GradGdnRefIdeal.nD Cert.GradGdnRefIdeal.τ).loc Cert.GradGdnRefIdeal.main_arg5)
          ∧ r.2.mem ((c.tc : Thread Cert.GradGdnRefIdeal.nD Cert.GradGdnRefIdeal.τ).loc Cert.GradGdnRefIdeal.main_arg6) = m' ((c.tc : Thread Cert.GradGdnRefIdeal.nD Cert.GradGdnRefIdeal.τ).loc Cert.GradGdnRefIdeal.main_arg6)
          ∧ r.2.mem ((c.tc : Thread Cert.GradGdnRefIdeal.nD Cert.GradGdnRefIdeal.τ).loc Cert.GradGdnRefIdeal.main_arg7) = m' ((c.tc : Thread Cert.GradGdnRefIdeal.nD Cert.GradGdnRefIdeal.τ).loc Cert.GradGdnRefIdeal.main_arg7)
          ∧ r.2.mem ((c.tc : Thread Cert.GradGdnRefIdeal.nD Cert.GradGdnRefIdeal.τ).loc Cert.GradGdnRefIdeal.main_arg8) = m' ((c.tc : Thread Cert.GradGdnRefIdeal.nD Cert.GradGdnRefIdeal.τ).loc Cert.GradGdnRefIdeal.main_arg8))

def preserves_ZohGrad_ZohGradIdeal : Prop :=
  True

def algebraic_ZohGradIdeal_ZohGradRefIdeal [hZohGradIdeal : Cert.ZohGradIdeal.Facts] [hZohGradRefIdeal : Cert.ZohGradRefIdeal.Facts] : Prop :=
  ∀ (m : (ℓ : Loc Cert.ZohGradIdeal.nD Cert.ZohGradIdeal.τ Cert.ZohGradIdeal.sig) → Buf (Elt Ideal) ℓ) (g : Dev Cert.ZohGradIdeal.nD → PrngReg)
    (m' : (ℓ : Loc Cert.ZohGradRefIdeal.nD Cert.ZohGradRefIdeal.τ Cert.ZohGradRefIdeal.sig) → Buf (Elt Ideal) ℓ) (g' : Dev Cert.ZohGradRefIdeal.nD → PrngReg), Pre_ZohGradIdeal m →
    (∀ c : Dev Cert.ZohGradIdeal.nD,
      m' ((c.tc : Thread Cert.ZohGradRefIdeal.nD Cert.ZohGradRefIdeal.τ).loc Cert.ZohGradRefIdeal.main_arg0) = m ((c.tc : Thread Cert.ZohGradIdeal.nD Cert.ZohGradIdeal.τ).loc Cert.ZohGradIdeal.main_arg0)
      ∧ m' ((c.tc : Thread Cert.ZohGradRefIdeal.nD Cert.ZohGradRefIdeal.τ).loc Cert.ZohGradRefIdeal.main_arg1) = m ((c.tc : Thread Cert.ZohGradIdeal.nD Cert.ZohGradIdeal.τ).loc Cert.ZohGradIdeal.main_arg1)
      ∧ m' ((c.tc : Thread Cert.ZohGradRefIdeal.nD Cert.ZohGradRefIdeal.τ).loc Cert.ZohGradRefIdeal.main_arg2) = m ((c.tc : Thread Cert.ZohGradIdeal.nD Cert.ZohGradIdeal.τ).loc Cert.ZohGradIdeal.main_arg2)
      ∧ m' ((c.tc : Thread Cert.ZohGradRefIdeal.nD Cert.ZohGradRefIdeal.τ).loc Cert.ZohGradRefIdeal.main_arg3) = m ((c.tc : Thread Cert.ZohGradIdeal.nD Cert.ZohGradIdeal.τ).loc Cert.ZohGradIdeal.main_arg3)
      ∧ m' ((c.tc : Thread Cert.ZohGradRefIdeal.nD Cert.ZohGradRefIdeal.τ).loc Cert.ZohGradRefIdeal.main_arg4) = m ((c.tc : Thread Cert.ZohGradIdeal.nD Cert.ZohGradIdeal.τ).loc Cert.ZohGradIdeal.main_arg4)
      ∧ m' ((c.tc : Thread Cert.ZohGradRefIdeal.nD Cert.ZohGradRefIdeal.τ).loc Cert.ZohGradRefIdeal.main_arg5) = m ((c.tc : Thread Cert.ZohGradIdeal.nD Cert.ZohGradIdeal.τ).loc Cert.ZohGradIdeal.main_arg5)
      ∧ m' ((c.tc : Thread Cert.ZohGradRefIdeal.nD Cert.ZohGradRefIdeal.τ).loc Cert.ZohGradRefIdeal.main_arg6) = m ((c.tc : Thread Cert.ZohGradIdeal.nD Cert.ZohGradIdeal.τ).loc Cert.ZohGradIdeal.main_arg6)
      ∧ m' ((c.tc : Thread Cert.ZohGradRefIdeal.nD Cert.ZohGradRefIdeal.τ).loc Cert.ZohGradRefIdeal.main_arg7) = m ((c.tc : Thread Cert.ZohGradIdeal.nD Cert.ZohGradIdeal.τ).loc Cert.ZohGradIdeal.main_arg7)
      ∧ m' ((c.tc : Thread Cert.ZohGradRefIdeal.nD Cert.ZohGradRefIdeal.τ).loc Cert.ZohGradRefIdeal.main_arg8) = m ((c.tc : Thread Cert.ZohGradIdeal.nD Cert.ZohGradIdeal.τ).loc Cert.ZohGradIdeal.main_arg8)) →
    ∃ (v0 : (c : Dev Cert.ZohGradIdeal.nD) → Buf (Elt Ideal) ((c.tc : Thread Cert.ZohGradIdeal.nD Cert.ZohGradIdeal.τ).loc Cert.ZohGradIdeal.main_v0_0)) (v1 : (c : Dev Cert.ZohGradIdeal.nD) → Buf (Elt Ideal) ((c.tc : Thread Cert.ZohGradIdeal.nD Cert.ZohGradIdeal.τ).loc Cert.ZohGradIdeal.main_v0_1)) (v2 : (c : Dev Cert.ZohGradIdeal.nD) → Buf (Elt Ideal) ((c.tc : Thread Cert.ZohGradIdeal.nD Cert.ZohGradIdeal.τ).loc Cert.ZohGradIdeal.main_v0_2)) (v3 : (c : Dev Cert.ZohGradIdeal.nD) → Buf (Elt Ideal) ((c.tc : Thread Cert.ZohGradIdeal.nD Cert.ZohGradIdeal.τ).loc Cert.ZohGradIdeal.main_v0_3)) (v4 : (c : Dev Cert.ZohGradIdeal.nD) → Buf (Elt Ideal) ((c.tc : Thread Cert.ZohGradIdeal.nD Cert.ZohGradIdeal.τ).loc Cert.ZohGradIdeal.main_v0_4)),
      θ_run (Cert.ZohGradIdeal.defs (F := Ideal)) (onTc (τ := Cert.ZohGradIdeal.τ) (Cert.ZohGradIdeal.main (F := Ideal))) ⟨m, fun _ => 0, g⟩ (fun r => ∀ c : Dev Cert.ZohGradIdeal.nD,
          r.2.mem ((c.tc : Thread Cert.ZohGradIdeal.nD Cert.ZohGradIdeal.τ).loc Cert.ZohGradIdeal.main_v0_0) = v0 c
          ∧ r.2.mem ((c.tc : Thread Cert.ZohGradIdeal.nD Cert.ZohGradIdeal.τ).loc Cert.ZohGradIdeal.main_v0_1) = v1 c
          ∧ r.2.mem ((c.tc : Thread Cert.ZohGradIdeal.nD Cert.ZohGradIdeal.τ).loc Cert.ZohGradIdeal.main_v0_2) = v2 c
          ∧ r.2.mem ((c.tc : Thread Cert.ZohGradIdeal.nD Cert.ZohGradIdeal.τ).loc Cert.ZohGradIdeal.main_v0_3) = v3 c
          ∧ r.2.mem ((c.tc : Thread Cert.ZohGradIdeal.nD Cert.ZohGradIdeal.τ).loc Cert.ZohGradIdeal.main_v0_4) = v4 c
          ∧ r.2.mem ((c.tc : Thread Cert.ZohGradIdeal.nD Cert.ZohGradIdeal.τ).loc Cert.ZohGradIdeal.main_arg0) = m ((c.tc : Thread Cert.ZohGradIdeal.nD Cert.ZohGradIdeal.τ).loc Cert.ZohGradIdeal.main_arg0)
          ∧ r.2.mem ((c.tc : Thread Cert.ZohGradIdeal.nD Cert.ZohGradIdeal.τ).loc Cert.ZohGradIdeal.main_arg1) = m ((c.tc : Thread Cert.ZohGradIdeal.nD Cert.ZohGradIdeal.τ).loc Cert.ZohGradIdeal.main_arg1)
          ∧ r.2.mem ((c.tc : Thread Cert.ZohGradIdeal.nD Cert.ZohGradIdeal.τ).loc Cert.ZohGradIdeal.main_arg2) = m ((c.tc : Thread Cert.ZohGradIdeal.nD Cert.ZohGradIdeal.τ).loc Cert.ZohGradIdeal.main_arg2)
          ∧ r.2.mem ((c.tc : Thread Cert.ZohGradIdeal.nD Cert.ZohGradIdeal.τ).loc Cert.ZohGradIdeal.main_arg3) = m ((c.tc : Thread Cert.ZohGradIdeal.nD Cert.ZohGradIdeal.τ).loc Cert.ZohGradIdeal.main_arg3)
          ∧ r.2.mem ((c.tc : Thread Cert.ZohGradIdeal.nD Cert.ZohGradIdeal.τ).loc Cert.ZohGradIdeal.main_arg4) = m ((c.tc : Thread Cert.ZohGradIdeal.nD Cert.ZohGradIdeal.τ).loc Cert.ZohGradIdeal.main_arg4)
          ∧ r.2.mem ((c.tc : Thread Cert.ZohGradIdeal.nD Cert.ZohGradIdeal.τ).loc Cert.ZohGradIdeal.main_arg5) = m ((c.tc : Thread Cert.ZohGradIdeal.nD Cert.ZohGradIdeal.τ).loc Cert.ZohGradIdeal.main_arg5)
          ∧ r.2.mem ((c.tc : Thread Cert.ZohGradIdeal.nD Cert.ZohGradIdeal.τ).loc Cert.ZohGradIdeal.main_arg6) = m ((c.tc : Thread Cert.ZohGradIdeal.nD Cert.ZohGradIdeal.τ).loc Cert.ZohGradIdeal.main_arg6)
          ∧ r.2.mem ((c.tc : Thread Cert.ZohGradIdeal.nD Cert.ZohGradIdeal.τ).loc Cert.ZohGradIdeal.main_arg7) = m ((c.tc : Thread Cert.ZohGradIdeal.nD Cert.ZohGradIdeal.τ).loc Cert.ZohGradIdeal.main_arg7)
          ∧ r.2.mem ((c.tc : Thread Cert.ZohGradIdeal.nD Cert.ZohGradIdeal.τ).loc Cert.ZohGradIdeal.main_arg8) = m ((c.tc : Thread Cert.ZohGradIdeal.nD Cert.ZohGradIdeal.τ).loc Cert.ZohGradIdeal.main_arg8))
      ∧ θ_run (Cert.ZohGradRefIdeal.defs (F := Ideal)) (onTc (τ := Cert.ZohGradRefIdeal.τ) (Cert.ZohGradRefIdeal.main (F := Ideal))) ⟨m', fun _ => 0, g'⟩ (fun r => ∀ c : Dev Cert.ZohGradRefIdeal.nD,
          r.2.mem ((c.tc : Thread Cert.ZohGradRefIdeal.nD Cert.ZohGradRefIdeal.τ).loc Cert.ZohGradRefIdeal.main_v142) = v0 c
          ∧ r.2.mem ((c.tc : Thread Cert.ZohGradRefIdeal.nD Cert.ZohGradRefIdeal.τ).loc Cert.ZohGradRefIdeal.main_v134) = v1 c
          ∧ r.2.mem ((c.tc : Thread Cert.ZohGradRefIdeal.nD Cert.ZohGradRefIdeal.τ).loc Cert.ZohGradRefIdeal.main_v147) = v2 c
          ∧ r.2.mem ((c.tc : Thread Cert.ZohGradRefIdeal.nD Cert.ZohGradRefIdeal.τ).loc Cert.ZohGradRefIdeal.main_v85) = v3 c
          ∧ r.2.mem ((c.tc : Thread Cert.ZohGradRefIdeal.nD Cert.ZohGradRefIdeal.τ).loc Cert.ZohGradRefIdeal.main_v84) = v4 c
          ∧ r.2.mem ((c.tc : Thread Cert.ZohGradRefIdeal.nD Cert.ZohGradRefIdeal.τ).loc Cert.ZohGradRefIdeal.main_arg0) = m' ((c.tc : Thread Cert.ZohGradRefIdeal.nD Cert.ZohGradRefIdeal.τ).loc Cert.ZohGradRefIdeal.main_arg0)
          ∧ r.2.mem ((c.tc : Thread Cert.ZohGradRefIdeal.nD Cert.ZohGradRefIdeal.τ).loc Cert.ZohGradRefIdeal.main_arg1) = m' ((c.tc : Thread Cert.ZohGradRefIdeal.nD Cert.ZohGradRefIdeal.τ).loc Cert.ZohGradRefIdeal.main_arg1)
          ∧ r.2.mem ((c.tc : Thread Cert.ZohGradRefIdeal.nD Cert.ZohGradRefIdeal.τ).loc Cert.ZohGradRefIdeal.main_arg2) = m' ((c.tc : Thread Cert.ZohGradRefIdeal.nD Cert.ZohGradRefIdeal.τ).loc Cert.ZohGradRefIdeal.main_arg2)
          ∧ r.2.mem ((c.tc : Thread Cert.ZohGradRefIdeal.nD Cert.ZohGradRefIdeal.τ).loc Cert.ZohGradRefIdeal.main_arg3) = m' ((c.tc : Thread Cert.ZohGradRefIdeal.nD Cert.ZohGradRefIdeal.τ).loc Cert.ZohGradRefIdeal.main_arg3)
          ∧ r.2.mem ((c.tc : Thread Cert.ZohGradRefIdeal.nD Cert.ZohGradRefIdeal.τ).loc Cert.ZohGradRefIdeal.main_arg4) = m' ((c.tc : Thread Cert.ZohGradRefIdeal.nD Cert.ZohGradRefIdeal.τ).loc Cert.ZohGradRefIdeal.main_arg4)
          ∧ r.2.mem ((c.tc : Thread Cert.ZohGradRefIdeal.nD Cert.ZohGradRefIdeal.τ).loc Cert.ZohGradRefIdeal.main_arg5) = m' ((c.tc : Thread Cert.ZohGradRefIdeal.nD Cert.ZohGradRefIdeal.τ).loc Cert.ZohGradRefIdeal.main_arg5)
          ∧ r.2.mem ((c.tc : Thread Cert.ZohGradRefIdeal.nD Cert.ZohGradRefIdeal.τ).loc Cert.ZohGradRefIdeal.main_arg6) = m' ((c.tc : Thread Cert.ZohGradRefIdeal.nD Cert.ZohGradRefIdeal.τ).loc Cert.ZohGradRefIdeal.main_arg6)
          ∧ r.2.mem ((c.tc : Thread Cert.ZohGradRefIdeal.nD Cert.ZohGradRefIdeal.τ).loc Cert.ZohGradRefIdeal.main_arg7) = m' ((c.tc : Thread Cert.ZohGradRefIdeal.nD Cert.ZohGradRefIdeal.τ).loc Cert.ZohGradRefIdeal.main_arg7)
          ∧ r.2.mem ((c.tc : Thread Cert.ZohGradRefIdeal.nD Cert.ZohGradRefIdeal.τ).loc Cert.ZohGradRefIdeal.main_arg8) = m' ((c.tc : Thread Cert.ZohGradRefIdeal.nD Cert.ZohGradRefIdeal.τ).loc Cert.ZohGradRefIdeal.main_arg8))

def Claim : Prop :=
  ∃ (hSwap : Cert.Swap.Facts) (hSwapIdeal : Cert.SwapIdeal.Facts) (hSwapRefIdeal : Cert.SwapRefIdeal.Facts) (hSwapRef : Cert.SwapRef.Facts) (hScatter : Cert.Scatter.Facts) (hScatterIdeal : Cert.ScatterIdeal.Facts) (hScatterRefIdeal : Cert.ScatterRefIdeal.Facts) (hScatterRef : Cert.ScatterRef.Facts) (hPairs : Cert.Pairs.Facts) (hPairsIdeal : Cert.PairsIdeal.Facts) (hPairsRefIdeal : Cert.PairsRefIdeal.Facts) (hPairsRef : Cert.PairsRef.Facts) (hShards : Cert.Shards.Facts) (hShardsIdeal : Cert.ShardsIdeal.Facts) (hShardsRefIdeal : Cert.ShardsRefIdeal.Facts) (hShardsRef : Cert.ShardsRef.Facts) (hShare : Cert.Share.Facts) (hShareIdeal : Cert.ShareIdeal.Facts) (hShareRefIdeal : Cert.ShareRefIdeal.Facts) (hShareRef : Cert.ShareRef.Facts) (hSmall : Cert.Small.Facts) (hSmallIdeal : Cert.SmallIdeal.Facts) (hSmallRefIdeal : Cert.SmallRefIdeal.Facts) (hSmallRef : Cert.SmallRef.Facts) (hMod : Cert.Mod.Facts) (hModIdeal : Cert.ModIdeal.Facts) (hModRefIdeal : Cert.ModRefIdeal.Facts) (hModRef : Cert.ModRef.Facts) (hFirst : Cert.First.Facts) (hFirstIdeal : Cert.FirstIdeal.Facts) (hFirstRefIdeal : Cert.FirstRefIdeal.Facts) (hFirstRef : Cert.FirstRef.Facts) (hUpAdaW : Cert.UpAdaW.Facts) (hUpAdaWIdeal : Cert.UpAdaWIdeal.Facts) (hUpAdaWRefIdeal : Cert.UpAdaWRefIdeal.Facts) (hUpConv : Cert.UpConv.Facts) (hUpConvIdeal : Cert.UpConvIdeal.Facts) (hUpConvRefIdeal : Cert.UpConvRefIdeal.Facts) (hUpAbIn : Cert.UpAbIn.Facts) (hUpAbInIdeal : Cert.UpAbInIdeal.Facts) (hUpAbInRefIdeal : Cert.UpAbInRefIdeal.Facts) (hUpAbOut : Cert.UpAbOut.Facts) (hUpAbOutIdeal : Cert.UpAbOutIdeal.Facts) (hUpAbOutRefIdeal : Cert.UpAbOutRefIdeal.Facts) (hUpGlu : Cert.UpGlu.Facts) (hUpGluIdeal : Cert.UpGluIdeal.Facts) (hUpGluRefIdeal : Cert.UpGluRefIdeal.Facts) (hUpGdnIn : Cert.UpGdnIn.Facts) (hUpGdnInIdeal : Cert.UpGdnInIdeal.Facts) (hUpGdnInRefIdeal : Cert.UpGdnInRefIdeal.Facts) (hUpGdnOut : Cert.UpGdnOut.Facts) (hUpGdnOutIdeal : Cert.UpGdnOutIdeal.Facts) (hUpGdnOutRefIdeal : Cert.UpGdnOutRefIdeal.Facts) (hUpSmall : Cert.UpSmall.Facts) (hUpSmallIdeal : Cert.UpSmallIdeal.Facts) (hUpSmallRefIdeal : Cert.UpSmallRefIdeal.Facts) (hSumSmall : Cert.SumSmall.Facts) (hSumSmallIdeal : Cert.SumSmallIdeal.Facts) (hSumSmallRefIdeal : Cert.SumSmallRefIdeal.Facts) (hSibAbIn : Cert.SibAbIn.Facts) (hSibAbInIdeal : Cert.SibAbInIdeal.Facts) (hSibAbInRefIdeal : Cert.SibAbInRefIdeal.Facts) (hSibAbInRef : Cert.SibAbInRef.Facts) (hSumAbIn : Cert.SumAbIn.Facts) (hSumAbInIdeal : Cert.SumAbInIdeal.Facts) (hSumAbInRefIdeal : Cert.SumAbInRefIdeal.Facts) (hSibAbOut : Cert.SibAbOut.Facts) (hSibAbOutIdeal : Cert.SibAbOutIdeal.Facts) (hSibAbOutRefIdeal : Cert.SibAbOutRefIdeal.Facts) (hSibAbOutRef : Cert.SibAbOutRef.Facts) (hSumAbOut : Cert.SumAbOut.Facts) (hSumAbOutIdeal : Cert.SumAbOutIdeal.Facts) (hSumAbOutRefIdeal : Cert.SumAbOutRefIdeal.Facts) (hSibGlu : Cert.SibGlu.Facts) (hSibGluIdeal : Cert.SibGluIdeal.Facts) (hSibGluRefIdeal : Cert.SibGluRefIdeal.Facts) (hSibGluRef : Cert.SibGluRef.Facts) (hSumGlu : Cert.SumGlu.Facts) (hSumGluIdeal : Cert.SumGluIdeal.Facts) (hSumGluRefIdeal : Cert.SumGluRefIdeal.Facts) (hSibGdnIn : Cert.SibGdnIn.Facts) (hSibGdnInIdeal : Cert.SibGdnInIdeal.Facts) (hSibGdnInRefIdeal : Cert.SibGdnInRefIdeal.Facts) (hSibGdnInRef : Cert.SibGdnInRef.Facts) (hSumGdnIn : Cert.SumGdnIn.Facts) (hSumGdnInIdeal : Cert.SumGdnInIdeal.Facts) (hSumGdnInRefIdeal : Cert.SumGdnInRefIdeal.Facts) (hSibGdnOut : Cert.SibGdnOut.Facts) (hSibGdnOutIdeal : Cert.SibGdnOutIdeal.Facts) (hSibGdnOutRefIdeal : Cert.SibGdnOutRefIdeal.Facts) (hSibGdnOutRef : Cert.SibGdnOutRef.Facts) (hSumGdnOut : Cert.SumGdnOut.Facts) (hSumGdnOutIdeal : Cert.SumGdnOutIdeal.Facts) (hSumGdnOutRefIdeal : Cert.SumGdnOutRefIdeal.Facts) (hModLocal : Cert.ModLocal.Facts) (hModLocalIdeal : Cert.ModLocalIdeal.Facts) (hModLocalRefIdeal : Cert.ModLocalRefIdeal.Facts) (hAdaGrad : Cert.AdaGrad.Facts) (hAdaGradIdeal : Cert.AdaGradIdeal.Facts) (hAdaGradRefIdeal : Cert.AdaGradRefIdeal.Facts) (hDwAb : Cert.DwAb.Facts) (hDwAbIdeal : Cert.DwAbIdeal.Facts) (hDwAbRefIdeal : Cert.DwAbRefIdeal.Facts) (hDwGdn : Cert.DwGdn.Facts) (hDwGdnIdeal : Cert.DwGdnIdeal.Facts) (hDwGdnRefIdeal : Cert.DwGdnRefIdeal.Facts) (hFrontAb : Cert.FrontAb.Facts) (hFrontAbIdeal : Cert.FrontAbIdeal.Facts) (hFrontAbRefIdeal : Cert.FrontAbRefIdeal.Facts) (hFrontGdn : Cert.FrontGdn.Facts) (hFrontGdnIdeal : Cert.FrontGdnIdeal.Facts) (hFrontGdnRefIdeal : Cert.FrontGdnRefIdeal.Facts) (hZoh : Cert.Zoh.Facts) (hZohIdeal : Cert.ZohIdeal.Facts) (hZohRefIdeal : Cert.ZohRefIdeal.Facts) (hRelBias : Cert.RelBias.Facts) (hRelBiasIdeal : Cert.RelBiasIdeal.Facts) (hRelBiasRefIdeal : Cert.RelBiasRefIdeal.Facts) (hOutAb : Cert.OutAb.Facts) (hOutAbIdeal : Cert.OutAbIdeal.Facts) (hOutAbRefIdeal : Cert.OutAbRefIdeal.Facts) (hGradGdn : Cert.GradGdn.Facts) (hGradGdnIdeal : Cert.GradGdnIdeal.Facts) (hGradGdnRefIdeal : Cert.GradGdnRefIdeal.Facts) (hZohGrad : Cert.ZohGrad.Facts) (hZohGradIdeal : Cert.ZohGradIdeal.Facts) (hZohGradRefIdeal : Cert.ZohGradRefIdeal.Facts),
    quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Pairs (hPairs := hPairs)
    ∧ quiescent_PairsIdeal (hPairsIdeal := hPairsIdeal)
    ∧ quiescent_PairsRefIdeal (hPairsRefIdeal := hPairsRefIdeal)
    ∧ quiescent_PairsRef (hPairsRef := hPairsRef)
    ∧ quiescent_Shards (hShards := hShards)
    ∧ quiescent_ShardsIdeal (hShardsIdeal := hShardsIdeal)
    ∧ quiescent_ShardsRefIdeal (hShardsRefIdeal := hShardsRefIdeal)
    ∧ quiescent_ShardsRef (hShardsRef := hShardsRef)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_Small (hSmall := hSmall)
    ∧ quiescent_SmallIdeal (hSmallIdeal := hSmallIdeal)
    ∧ quiescent_SmallRefIdeal (hSmallRefIdeal := hSmallRefIdeal)
    ∧ quiescent_SmallRef (hSmallRef := hSmallRef)
    ∧ quiescent_Mod (hMod := hMod)
    ∧ quiescent_ModIdeal (hModIdeal := hModIdeal)
    ∧ quiescent_ModRefIdeal (hModRefIdeal := hModRefIdeal)
    ∧ quiescent_ModRef (hModRef := hModRef)
    ∧ quiescent_First (hFirst := hFirst)
    ∧ quiescent_FirstIdeal (hFirstIdeal := hFirstIdeal)
    ∧ quiescent_FirstRefIdeal (hFirstRefIdeal := hFirstRefIdeal)
    ∧ quiescent_FirstRef (hFirstRef := hFirstRef)
    ∧ quiescent_UpAdaW (hUpAdaW := hUpAdaW)
    ∧ quiescent_UpAdaWIdeal (hUpAdaWIdeal := hUpAdaWIdeal)
    ∧ quiescent_UpAdaWRefIdeal (hUpAdaWRefIdeal := hUpAdaWRefIdeal)
    ∧ quiescent_UpConv (hUpConv := hUpConv)
    ∧ quiescent_UpConvIdeal (hUpConvIdeal := hUpConvIdeal)
    ∧ quiescent_UpConvRefIdeal (hUpConvRefIdeal := hUpConvRefIdeal)
    ∧ quiescent_UpAbIn (hUpAbIn := hUpAbIn)
    ∧ quiescent_UpAbInIdeal (hUpAbInIdeal := hUpAbInIdeal)
    ∧ quiescent_UpAbInRefIdeal (hUpAbInRefIdeal := hUpAbInRefIdeal)
    ∧ quiescent_UpAbOut (hUpAbOut := hUpAbOut)
    ∧ quiescent_UpAbOutIdeal (hUpAbOutIdeal := hUpAbOutIdeal)
    ∧ quiescent_UpAbOutRefIdeal (hUpAbOutRefIdeal := hUpAbOutRefIdeal)
    ∧ quiescent_UpGlu (hUpGlu := hUpGlu)
    ∧ quiescent_UpGluIdeal (hUpGluIdeal := hUpGluIdeal)
    ∧ quiescent_UpGluRefIdeal (hUpGluRefIdeal := hUpGluRefIdeal)
    ∧ quiescent_UpGdnIn (hUpGdnIn := hUpGdnIn)
    ∧ quiescent_UpGdnInIdeal (hUpGdnInIdeal := hUpGdnInIdeal)
    ∧ quiescent_UpGdnInRefIdeal (hUpGdnInRefIdeal := hUpGdnInRefIdeal)
    ∧ quiescent_UpGdnOut (hUpGdnOut := hUpGdnOut)
    ∧ quiescent_UpGdnOutIdeal (hUpGdnOutIdeal := hUpGdnOutIdeal)
    ∧ quiescent_UpGdnOutRefIdeal (hUpGdnOutRefIdeal := hUpGdnOutRefIdeal)
    ∧ quiescent_UpSmall (hUpSmall := hUpSmall)
    ∧ quiescent_UpSmallIdeal (hUpSmallIdeal := hUpSmallIdeal)
    ∧ quiescent_UpSmallRefIdeal (hUpSmallRefIdeal := hUpSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SibAbIn (hSibAbIn := hSibAbIn)
    ∧ quiescent_SibAbInIdeal (hSibAbInIdeal := hSibAbInIdeal)
    ∧ quiescent_SibAbInRefIdeal (hSibAbInRefIdeal := hSibAbInRefIdeal)
    ∧ quiescent_SibAbInRef (hSibAbInRef := hSibAbInRef)
    ∧ quiescent_SumAbIn (hSumAbIn := hSumAbIn)
    ∧ quiescent_SumAbInIdeal (hSumAbInIdeal := hSumAbInIdeal)
    ∧ quiescent_SumAbInRefIdeal (hSumAbInRefIdeal := hSumAbInRefIdeal)
    ∧ quiescent_SibAbOut (hSibAbOut := hSibAbOut)
    ∧ quiescent_SibAbOutIdeal (hSibAbOutIdeal := hSibAbOutIdeal)
    ∧ quiescent_SibAbOutRefIdeal (hSibAbOutRefIdeal := hSibAbOutRefIdeal)
    ∧ quiescent_SibAbOutRef (hSibAbOutRef := hSibAbOutRef)
    ∧ quiescent_SumAbOut (hSumAbOut := hSumAbOut)
    ∧ quiescent_SumAbOutIdeal (hSumAbOutIdeal := hSumAbOutIdeal)
    ∧ quiescent_SumAbOutRefIdeal (hSumAbOutRefIdeal := hSumAbOutRefIdeal)
    ∧ quiescent_SibGlu (hSibGlu := hSibGlu)
    ∧ quiescent_SibGluIdeal (hSibGluIdeal := hSibGluIdeal)
    ∧ quiescent_SibGluRefIdeal (hSibGluRefIdeal := hSibGluRefIdeal)
    ∧ quiescent_SibGluRef (hSibGluRef := hSibGluRef)
    ∧ quiescent_SumGlu (hSumGlu := hSumGlu)
    ∧ quiescent_SumGluIdeal (hSumGluIdeal := hSumGluIdeal)
    ∧ quiescent_SumGluRefIdeal (hSumGluRefIdeal := hSumGluRefIdeal)
    ∧ quiescent_SibGdnIn (hSibGdnIn := hSibGdnIn)
    ∧ quiescent_SibGdnInIdeal (hSibGdnInIdeal := hSibGdnInIdeal)
    ∧ quiescent_SibGdnInRefIdeal (hSibGdnInRefIdeal := hSibGdnInRefIdeal)
    ∧ quiescent_SibGdnInRef (hSibGdnInRef := hSibGdnInRef)
    ∧ quiescent_SumGdnIn (hSumGdnIn := hSumGdnIn)
    ∧ quiescent_SumGdnInIdeal (hSumGdnInIdeal := hSumGdnInIdeal)
    ∧ quiescent_SumGdnInRefIdeal (hSumGdnInRefIdeal := hSumGdnInRefIdeal)
    ∧ quiescent_SibGdnOut (hSibGdnOut := hSibGdnOut)
    ∧ quiescent_SibGdnOutIdeal (hSibGdnOutIdeal := hSibGdnOutIdeal)
    ∧ quiescent_SibGdnOutRefIdeal (hSibGdnOutRefIdeal := hSibGdnOutRefIdeal)
    ∧ quiescent_SibGdnOutRef (hSibGdnOutRef := hSibGdnOutRef)
    ∧ quiescent_SumGdnOut (hSumGdnOut := hSumGdnOut)
    ∧ quiescent_SumGdnOutIdeal (hSumGdnOutIdeal := hSumGdnOutIdeal)
    ∧ quiescent_SumGdnOutRefIdeal (hSumGdnOutRefIdeal := hSumGdnOutRefIdeal)
    ∧ quiescent_ModLocal (hModLocal := hModLocal)
    ∧ quiescent_ModLocalIdeal (hModLocalIdeal := hModLocalIdeal)
    ∧ quiescent_ModLocalRefIdeal (hModLocalRefIdeal := hModLocalRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_DwAb (hDwAb := hDwAb)
    ∧ quiescent_DwAbIdeal (hDwAbIdeal := hDwAbIdeal)
    ∧ quiescent_DwAbRefIdeal (hDwAbRefIdeal := hDwAbRefIdeal)
    ∧ quiescent_DwGdn (hDwGdn := hDwGdn)
    ∧ quiescent_DwGdnIdeal (hDwGdnIdeal := hDwGdnIdeal)
    ∧ quiescent_DwGdnRefIdeal (hDwGdnRefIdeal := hDwGdnRefIdeal)
    ∧ quiescent_FrontAb (hFrontAb := hFrontAb)
    ∧ quiescent_FrontAbIdeal (hFrontAbIdeal := hFrontAbIdeal)
    ∧ quiescent_FrontAbRefIdeal (hFrontAbRefIdeal := hFrontAbRefIdeal)
    ∧ quiescent_FrontGdn (hFrontGdn := hFrontGdn)
    ∧ quiescent_FrontGdnIdeal (hFrontGdnIdeal := hFrontGdnIdeal)
    ∧ quiescent_FrontGdnRefIdeal (hFrontGdnRefIdeal := hFrontGdnRefIdeal)
    ∧ quiescent_Zoh (hZoh := hZoh)
    ∧ quiescent_ZohIdeal (hZohIdeal := hZohIdeal)
    ∧ quiescent_ZohRefIdeal (hZohRefIdeal := hZohRefIdeal)
    ∧ quiescent_RelBias (hRelBias := hRelBias)
    ∧ quiescent_RelBiasIdeal (hRelBiasIdeal := hRelBiasIdeal)
    ∧ quiescent_RelBiasRefIdeal (hRelBiasRefIdeal := hRelBiasRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_GradGdn (hGradGdn := hGradGdn)
    ∧ quiescent_GradGdnIdeal (hGradGdnIdeal := hGradGdnIdeal)
    ∧ quiescent_GradGdnRefIdeal (hGradGdnRefIdeal := hGradGdnRefIdeal)
    ∧ quiescent_ZohGrad (hZohGrad := hZohGrad)
    ∧ quiescent_ZohGradIdeal (hZohGradIdeal := hZohGradIdeal)
    ∧ quiescent_ZohGradRefIdeal (hZohGradRefIdeal := hZohGradRefIdeal)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Pairs_PairsIdeal
    ∧ algebraic_PairsIdeal_PairsRefIdeal (hPairsIdeal := hPairsIdeal) (hPairsRefIdeal := hPairsRefIdeal)
    ∧ bitexact_Pairs_PairsRef (hPairs := hPairs) (hPairsRef := hPairsRef)
    ∧ preserves_Shards_ShardsIdeal
    ∧ algebraic_ShardsIdeal_ShardsRefIdeal (hShardsIdeal := hShardsIdeal) (hShardsRefIdeal := hShardsRefIdeal)
    ∧ bitexact_Shards_ShardsRef (hShards := hShards) (hShardsRef := hShardsRef)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_Small_SmallIdeal
    ∧ algebraic_SmallIdeal_SmallRefIdeal (hSmallIdeal := hSmallIdeal) (hSmallRefIdeal := hSmallRefIdeal)
    ∧ bitexact_Small_SmallRef (hSmall := hSmall) (hSmallRef := hSmallRef)
    ∧ preserves_Mod_ModIdeal
    ∧ algebraic_ModIdeal_ModRefIdeal (hModIdeal := hModIdeal) (hModRefIdeal := hModRefIdeal)
    ∧ bitexact_Mod_ModRef (hMod := hMod) (hModRef := hModRef)
    ∧ preserves_First_FirstIdeal
    ∧ algebraic_FirstIdeal_FirstRefIdeal (hFirstIdeal := hFirstIdeal) (hFirstRefIdeal := hFirstRefIdeal)
    ∧ bitexact_First_FirstRef (hFirst := hFirst) (hFirstRef := hFirstRef)
    ∧ preserves_UpAdaW_UpAdaWIdeal
    ∧ algebraic_UpAdaWIdeal_UpAdaWRefIdeal (hUpAdaWIdeal := hUpAdaWIdeal) (hUpAdaWRefIdeal := hUpAdaWRefIdeal)
    ∧ preserves_UpConv_UpConvIdeal
    ∧ algebraic_UpConvIdeal_UpConvRefIdeal (hUpConvIdeal := hUpConvIdeal) (hUpConvRefIdeal := hUpConvRefIdeal)
    ∧ preserves_UpAbIn_UpAbInIdeal
    ∧ algebraic_UpAbInIdeal_UpAbInRefIdeal (hUpAbInIdeal := hUpAbInIdeal) (hUpAbInRefIdeal := hUpAbInRefIdeal)
    ∧ preserves_UpAbOut_UpAbOutIdeal
    ∧ algebraic_UpAbOutIdeal_UpAbOutRefIdeal (hUpAbOutIdeal := hUpAbOutIdeal) (hUpAbOutRefIdeal := hUpAbOutRefIdeal)
    ∧ preserves_UpGlu_UpGluIdeal
    ∧ algebraic_UpGluIdeal_UpGluRefIdeal (hUpGluIdeal := hUpGluIdeal) (hUpGluRefIdeal := hUpGluRefIdeal)
    ∧ preserves_UpGdnIn_UpGdnInIdeal
    ∧ algebraic_UpGdnInIdeal_UpGdnInRefIdeal (hUpGdnInIdeal := hUpGdnInIdeal) (hUpGdnInRefIdeal := hUpGdnInRefIdeal)
    ∧ preserves_UpGdnOut_UpGdnOutIdeal
    ∧ algebraic_UpGdnOutIdeal_UpGdnOutRefIdeal (hUpGdnOutIdeal := hUpGdnOutIdeal) (hUpGdnOutRefIdeal := hUpGdnOutRefIdeal)
    ∧ preserves_UpSmall_UpSmallIdeal
    ∧ algebraic_UpSmallIdeal_UpSmallRefIdeal (hUpSmallIdeal := hUpSmallIdeal) (hUpSmallRefIdeal := hUpSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SibAbIn_SibAbInIdeal
    ∧ algebraic_SibAbInIdeal_SibAbInRefIdeal (hSibAbInIdeal := hSibAbInIdeal) (hSibAbInRefIdeal := hSibAbInRefIdeal)
    ∧ bitexact_SibAbIn_SibAbInRef (hSibAbIn := hSibAbIn) (hSibAbInRef := hSibAbInRef)
    ∧ preserves_SumAbIn_SumAbInIdeal
    ∧ algebraic_SumAbInIdeal_SumAbInRefIdeal (hSumAbInIdeal := hSumAbInIdeal) (hSumAbInRefIdeal := hSumAbInRefIdeal)
    ∧ preserves_SibAbOut_SibAbOutIdeal
    ∧ algebraic_SibAbOutIdeal_SibAbOutRefIdeal (hSibAbOutIdeal := hSibAbOutIdeal) (hSibAbOutRefIdeal := hSibAbOutRefIdeal)
    ∧ bitexact_SibAbOut_SibAbOutRef (hSibAbOut := hSibAbOut) (hSibAbOutRef := hSibAbOutRef)
    ∧ preserves_SumAbOut_SumAbOutIdeal
    ∧ algebraic_SumAbOutIdeal_SumAbOutRefIdeal (hSumAbOutIdeal := hSumAbOutIdeal) (hSumAbOutRefIdeal := hSumAbOutRefIdeal)
    ∧ preserves_SibGlu_SibGluIdeal
    ∧ algebraic_SibGluIdeal_SibGluRefIdeal (hSibGluIdeal := hSibGluIdeal) (hSibGluRefIdeal := hSibGluRefIdeal)
    ∧ bitexact_SibGlu_SibGluRef (hSibGlu := hSibGlu) (hSibGluRef := hSibGluRef)
    ∧ preserves_SumGlu_SumGluIdeal
    ∧ algebraic_SumGluIdeal_SumGluRefIdeal (hSumGluIdeal := hSumGluIdeal) (hSumGluRefIdeal := hSumGluRefIdeal)
    ∧ preserves_SibGdnIn_SibGdnInIdeal
    ∧ algebraic_SibGdnInIdeal_SibGdnInRefIdeal (hSibGdnInIdeal := hSibGdnInIdeal) (hSibGdnInRefIdeal := hSibGdnInRefIdeal)
    ∧ bitexact_SibGdnIn_SibGdnInRef (hSibGdnIn := hSibGdnIn) (hSibGdnInRef := hSibGdnInRef)
    ∧ preserves_SumGdnIn_SumGdnInIdeal
    ∧ algebraic_SumGdnInIdeal_SumGdnInRefIdeal (hSumGdnInIdeal := hSumGdnInIdeal) (hSumGdnInRefIdeal := hSumGdnInRefIdeal)
    ∧ preserves_SibGdnOut_SibGdnOutIdeal
    ∧ algebraic_SibGdnOutIdeal_SibGdnOutRefIdeal (hSibGdnOutIdeal := hSibGdnOutIdeal) (hSibGdnOutRefIdeal := hSibGdnOutRefIdeal)
    ∧ bitexact_SibGdnOut_SibGdnOutRef (hSibGdnOut := hSibGdnOut) (hSibGdnOutRef := hSibGdnOutRef)
    ∧ preserves_SumGdnOut_SumGdnOutIdeal
    ∧ algebraic_SumGdnOutIdeal_SumGdnOutRefIdeal (hSumGdnOutIdeal := hSumGdnOutIdeal) (hSumGdnOutRefIdeal := hSumGdnOutRefIdeal)
    ∧ preserves_ModLocal_ModLocalIdeal
    ∧ algebraic_ModLocalIdeal_ModLocalRefIdeal (hModLocalIdeal := hModLocalIdeal) (hModLocalRefIdeal := hModLocalRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_DwAb_DwAbIdeal
    ∧ algebraic_DwAbIdeal_DwAbRefIdeal (hDwAbIdeal := hDwAbIdeal) (hDwAbRefIdeal := hDwAbRefIdeal)
    ∧ preserves_DwGdn_DwGdnIdeal
    ∧ algebraic_DwGdnIdeal_DwGdnRefIdeal (hDwGdnIdeal := hDwGdnIdeal) (hDwGdnRefIdeal := hDwGdnRefIdeal)
    ∧ preserves_FrontAb_FrontAbIdeal
    ∧ algebraic_FrontAbIdeal_FrontAbRefIdeal (hFrontAbIdeal := hFrontAbIdeal) (hFrontAbRefIdeal := hFrontAbRefIdeal)
    ∧ preserves_FrontGdn_FrontGdnIdeal
    ∧ algebraic_FrontGdnIdeal_FrontGdnRefIdeal (hFrontGdnIdeal := hFrontGdnIdeal) (hFrontGdnRefIdeal := hFrontGdnRefIdeal)
    ∧ preserves_Zoh_ZohIdeal
    ∧ algebraic_ZohIdeal_ZohRefIdeal (hZohIdeal := hZohIdeal) (hZohRefIdeal := hZohRefIdeal)
    ∧ preserves_RelBias_RelBiasIdeal
    ∧ algebraic_RelBiasIdeal_RelBiasRefIdeal (hRelBiasIdeal := hRelBiasIdeal) (hRelBiasRefIdeal := hRelBiasRefIdeal)
    ∧ preserves_OutAb_OutAbIdeal
    ∧ algebraic_OutAbIdeal_OutAbRefIdeal (hOutAbIdeal := hOutAbIdeal) (hOutAbRefIdeal := hOutAbRefIdeal)
    ∧ preserves_GradGdn_GradGdnIdeal
    ∧ algebraic_GradGdnIdeal_GradGdnRefIdeal (hGradGdnIdeal := hGradGdnIdeal) (hGradGdnRefIdeal := hGradGdnRefIdeal)
    ∧ preserves_ZohGrad_ZohGradIdeal
    ∧ algebraic_ZohGradIdeal_ZohGradRefIdeal (hZohGradIdeal := hZohGradIdeal) (hZohGradRefIdeal := hZohGradRefIdeal)
-- ==== Swap.lean ====
abbrev S4x512x768 : Shape := ⟨3, ![4, 512, 768]⟩
abbrev S4x128x1024 : Shape := ⟨3, ![4, 128, 1024]⟩
abbrev S4x64x512 : Shape := ⟨3, ![4, 64, 512]⟩
abbrev S4x512x1028 : Shape := ⟨3, ![4, 512, 1028]⟩
abbrev S5 : Shape := ⟨1, ![5]⟩
abbrev S1 : Shape := ⟨1, ![1]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S4x128x1024, .f32⟩
  | .hbm, ⟨2, _⟩ => ⟨S4x64x512, .f32⟩
  | .hbm, ⟨3, _⟩ => ⟨S4x512x1028, .f32⟩
  | .hbm, ⟨4, _⟩ => ⟨S4x128x1024, .f32⟩
  | .hbm, ⟨5, _⟩ => ⟨S4x512x768, .f32⟩
  | .hbm, ⟨6, _⟩ => ⟨S4x128x1024, .f32⟩
  | .hbm, ⟨7, _⟩ => ⟨S4x64x512, .f32⟩
  | .hbm, ⟨8, _⟩ => ⟨S4x512x1028, .f32⟩
  | .hbm, ⟨9, _⟩ => ⟨S4x128x1024, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v10 : BitVec 32 := Scalar.muli v2 c4_i32_5
  let v11 : BitVec 32 := Scalar.addi c0_i32_6 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v12 : BitVec 32 := Scalar.muli v5 c2_i32_7
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v14 : BitVec 32 := Scalar.muli v9 c1_i32_8
  let v15 : BitVec 32 := Scalar.addi v13 v14
  v15.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v20 : BitVec 32 := Scalar.muli v2 c4_i32_11
  let v21 : BitVec 32 := Scalar.addi c0_i32_12 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v22 : BitVec 32 := Scalar.muli v5 c2_i32_13
  let v23 : BitVec 32 := Scalar.addi v21 v22
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_14 : BitVec 32 := 1#32
  let v24 : BitVec 32 := Scalar.muli v9 c1_i32_14
  let v25 : BitVec 32 := Scalar.addi v23 v24
  v25.toNat
def k0_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v30 : BitVec 32 := Scalar.muli v2 c4_i32_17
  let v31 : BitVec 32 := Scalar.addi c0_i32_18 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v32 : BitVec 32 := Scalar.muli v5 c2_i32_19
  let v33 : BitVec 32 := Scalar.addi v31 v32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v34 : BitVec 32 := Scalar.muli v9 c1_i32_20
  let v35 : BitVec 32 := Scalar.addi v33 v34
  v35.toNat
def k0_dev4 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v40 : BitVec 32 := Scalar.muli v2 c4_i32_22
  let v41 : BitVec 32 := Scalar.addi c0_i32_23 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v42 : BitVec 32 := Scalar.muli v5 c2_i32_24
  let v43 : BitVec 32 := Scalar.addi v41 v42
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v44 : BitVec 32 := Scalar.muli v9 c1_i32_25
  let v45 : BitVec 32 := Scalar.addi v43 v44
  v45.toNat
def k0_dev5 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v50 : BitVec 32 := Scalar.muli v2 c4_i32_28
  let v51 : BitVec 32 := Scalar.addi c0_i32_29 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v52 : BitVec 32 := Scalar.muli v5 c2_i32_30
  let v53 : BitVec 32 := Scalar.addi v51 v52
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_31 : BitVec 32 := 1#32
  let v54 : BitVec 32 := Scalar.muli v9 c1_i32_31
  let v55 : BitVec 32 := Scalar.addi v53 v54
  v55.toNat
-- ==== SwapRef.lean ====
abbrev S16x1024x768 : Shape := ⟨3, ![16, 1024, 768]⟩
abbrev S16x256x1024 : Shape := ⟨3, ![16, 256, 1024]⟩
abbrev S16x128x512 : Shape := ⟨3, ![16, 128, 512]⟩
abbrev S16x1024x1028 : Shape := ⟨3, ![16, 1024, 1028]⟩
abbrev S16x512x768 : Shape := ⟨3, ![16, 512, 768]⟩
abbrev S16x128x1024 : Shape := ⟨3, ![16, 128, 1024]⟩
abbrev S16x64x512 : Shape := ⟨3, ![16, 64, 512]⟩
abbrev S16x512x1028 : Shape := ⟨3, ![16, 512, 1028]⟩

abbrev nBuf : Space → Nat
  | .hbm => 20
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S16x256x1024, .f32⟩
  | .hbm, ⟨2, _⟩ => ⟨S16x128x512, .f32⟩
  | .hbm, ⟨3, _⟩ => ⟨S16x1024x1028, .f32⟩
  | .hbm, ⟨4, _⟩ => ⟨S16x256x1024, .f32⟩
  | .hbm, ⟨5, _⟩ => ⟨S16x512x768, .f32⟩
  | .hbm, ⟨6, _⟩ => ⟨S16x512x768, .f32⟩
  | .hbm, ⟨7, _⟩ => ⟨S16x1024x768, .f32⟩
  | .hbm, ⟨8, _⟩ => ⟨S16x128x1024, .f32⟩
  | .hbm, ⟨9, _⟩ => ⟨S16x128x1024, .f32⟩
  | .hbm, ⟨10, _⟩ => ⟨S16x256x1024, .f32⟩
  | .hbm, ⟨11, _⟩ => ⟨S16x64x512, .f32⟩
  | .hbm, ⟨12, _⟩ => ⟨S16x64x512, .f32⟩
  | .hbm, ⟨13, _⟩ => ⟨S16x128x512, .f32⟩
  | .hbm, ⟨14, _⟩ => ⟨S16x512x1028, .f32⟩
  | .hbm, ⟨15, _⟩ => ⟨S16x512x1028, .f32⟩
  | .hbm, ⟨16, _⟩ => ⟨S16x1024x1028, .f32⟩
  | .hbm, ⟨17, _⟩ => ⟨S16x128x1024, .f32⟩
  | .hbm, ⟨18, _⟩ => ⟨S16x128x1024, .f32⟩
  | .hbm, ⟨19, _⟩ => ⟨S16x256x1024, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Scatter.lean ====
abbrev S4x512x768 : Shape := ⟨3, ![4, 512, 768]⟩
abbrev S4x128x1024 : Shape := ⟨3, ![4, 128, 1024]⟩
abbrev S4x64x512 : Shape := ⟨3, ![4, 64, 512]⟩
abbrev S4x512x1028 : Shape := ⟨3, ![4, 512, 1028]⟩
abbrev S15 : Shape := ⟨1, ![15]⟩
abbrev S5 : Shape := ⟨1, ![5]⟩
abbrev S1 : Shape := ⟨1, ![1]⟩
abbrev S_ : Shape := ⟨0, ![]⟩
abbrev S1x512x768 : Shape := ⟨3, ![1, 512, 768]⟩
abbrev S512x768 : Shape := ⟨2, ![512, 768]⟩
abbrev S1x128x1024 : Shape := ⟨3, ![1, 128, 1024]⟩
abbrev S128x1024 : Shape := ⟨2, ![128, 1024]⟩
abbrev S1x64x512 : Shape := ⟨3, ![1, 64, 512]⟩
abbrev S64x512 : Shape := ⟨2, ![64, 512]⟩
abbrev S1x512x1028 : Shape := ⟨3, ![1, 512, 1028]⟩
abbrev S512x1028 : Shape := ⟨2, ![512, 1028]⟩

abbrev nBuf : Space → Nat
  | .hbm => 10
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S4x128x1024, .f32⟩
  | .hbm, ⟨2, _⟩ => ⟨S4x64x512, .f32⟩
  | .hbm, ⟨3, _⟩ => ⟨S4x512x1028, .f32⟩
  | .hbm, ⟨4, _⟩ => ⟨S4x128x1024, .f32⟩
  | .hbm, ⟨5, _⟩ => ⟨S4x512x768, .f32⟩
  | .hbm, ⟨6, _⟩ => ⟨S4x128x1024, .f32⟩
  | .hbm, ⟨7, _⟩ => ⟨S4x64x512, .f32⟩
  | .hbm, ⟨8, _⟩ => ⟨S4x512x1028, .f32⟩
  | .hbm, ⟨9, _⟩ => ⟨S4x128x1024, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_54 : BitVec 32 := 0#32
  let c0_i32_55 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_59 : BitVec 32 := 0#32
  let c0_i32_60 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_64 : BitVec 32 := 0#32
  let c0_i32_65 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_68 : BitVec 32 := 0#32
  let c0_i32_69 : BitVec 32 := 0#32
  ![v10.toNat, 0, 0]
def k0_off5 (d0 : Dev nD) : Fin 3 → Nat :=
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_5 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let v13 : BitVec 32 := Scalar.addi v12 v11
  let c0_i32_85 : BitVec 32 := 0#32
  let c0_i32_86 : BitVec 32 := 0#32
  ![v13.toNat, 0, 0]
def k0_dev1 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v121 : BitVec 32 := Scalar.muli v2 c4_i32_79
  let v122 : BitVec 32 := Scalar.addi c0_i32_80 v121
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_81 : BitVec 32 := 2#32
  let v123 : BitVec 32 := Scalar.muli v11 c2_i32_81
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v125 : BitVec 32 := Scalar.muli v8 c1_i32_82
  let v126 : BitVec 32 := Scalar.addi v124 v125
  v126.toNat
def k0_off6 (d0 : Dev nD) : Fin 3 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let v17 : BitVec 32 := Scalar.muli c2_i32_8 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.addi v17 v5
  let c0_i32_95 : BitVec 32 := 0#32
  let c0_i32_96 : BitVec 32 := 0#32
  ![v18.toNat, 0, 0]
def k0_dev2 (d0 : Dev nD) : Nat :=
  let c0_i32_90 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_7 v2
  let c4_i32_89 : BitVec 32 := 4#32
  let v135 : BitVec 32 := Scalar.muli v16 c4_i32_89
  let v136 : BitVec 32 := Scalar.addi c0_i32_90 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v137 : BitVec 32 := Scalar.muli v5 c2_i32_91
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v139 : BitVec 32 := Scalar.muli v8 c1_i32_92
  let v140 : BitVec 32 := Scalar.addi v138 v139
  v140.toNat
def k0_off7 (d0 : Dev nD) : Fin 3 → Nat :=
  let c2_i32_12 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_10 v2
  let v23 : BitVec 32 := Scalar.muli c2_i32_12 v21
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v24 : BitVec 32 := Scalar.addi v23 v22
  let c0_i32_105 : BitVec 32 := 0#32
  let c0_i32_106 : BitVec 32 := 0#32
  ![v24.toNat, 0, 0]
def k0_dev3 (d0 : Dev nD) : Nat :=
  let c0_i32_100 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_10 v2
  let c4_i32_99 : BitVec 32 := 4#32
  let v149 : BitVec 32 := Scalar.muli v21 c4_i32_99
  let v150 : BitVec 32 := Scalar.addi c0_i32_100 v149
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let c2_i32_101 : BitVec 32 := 2#32
  let v151 : BitVec 32 := Scalar.muli v22 c2_i32_101
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v153 : BitVec 32 := Scalar.muli v8 c1_i32_102
  let v154 : BitVec 32 := Scalar.addi v152 v153
  v154.toNat
def k0_off8 (d0 : Dev nD) : Fin 3 → Nat :=
  let c2_i32_15 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v28 : BitVec 32 := Scalar.muli c2_i32_15 v2
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let v29 : BitVec 32 := Scalar.addi v28 v27
  let c0_i32_115 : BitVec 32 := 0#32
  let c0_i32_116 : BitVec 32 := 0#32
  ![v29.toNat, 0, 0]
def k0_dev4 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v163 : BitVec 32 := Scalar.muli v2 c4_i32_109
  let v164 : BitVec 32 := Scalar.addi c0_i32_110 v163
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let c2_i32_111 : BitVec 32 := 2#32
  let v165 : BitVec 32 := Scalar.muli v27 c2_i32_111
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v167 : BitVec 32 := Scalar.muli v8 c1_i32_112
  let v168 : BitVec 32 := Scalar.addi v166 v167
  v168.toNat
def k0_off9 (d0 : Dev nD) : Fin 3 → Nat :=
  let c2_i32_18 : BitVec 32 := 2#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.subi c1_i32_17 v2
  let v33 : BitVec 32 := Scalar.muli c2_i32_18 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.addi v33 v5
  let c0_i32_125 : BitVec 32 := 0#32
  let c0_i32_126 : BitVec 32 := 0#32
  ![v34.toNat, 0, 0]
def k0_dev5 (d0 : Dev nD) : Nat :=
  let c0_i32_120 : BitVec 32 := 0#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.subi c1_i32_17 v2
  let c4_i32_119 : BitVec 32 := 4#32
  let v177 : BitVec 32 := Scalar.muli v32 c4_i32_119
  let v178 : BitVec 32 := Scalar.addi c0_i32_120 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v179 : BitVec 32 := Scalar.muli v5 c2_i32_121
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v181 : BitVec 32 := Scalar.muli v8 c1_i32_122
  let v182 : BitVec 32 := Scalar.addi v180 v181
  v182.toNat
def k0_off10 (d0 : Dev nD) : Fin 3 → Nat :=
  let c2_i32_22 : BitVec 32 := 2#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let v39 : BitVec 32 := Scalar.muli c2_i32_22 v37
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let v40 : BitVec 32 := Scalar.addi v39 v38
  let c0_i32_134 : BitVec 32 := 0#32
  let c0_i32_135 : BitVec 32 := 0#32
  ![v40.toNat, 0, 0]
def k0_dev6 (d0 : Dev nD) : Nat :=
  let c0_i32_129 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_20 v2
  let c4_i32_128 : BitVec 32 := 4#32
  let v191 : BitVec 32 := Scalar.muli v37 c4_i32_128
  let v192 : BitVec 32 := Scalar.addi c0_i32_129 v191
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_21 v5
  let c2_i32_130 : BitVec 32 := 2#32
  let v193 : BitVec 32 := Scalar.muli v38 c2_i32_130
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v195 : BitVec 32 := Scalar.muli v8 c1_i32_131
  let v196 : BitVec 32 := Scalar.addi v194 v195
  v196.toNat
def k0_off11 (d0 : Dev nD) : Fin 3 → Nat :=
  let c2_i32_25 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.muli c2_i32_25 v2
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let v45 : BitVec 32 := Scalar.addi v44 v43
  let c0_i32_143 : BitVec 32 := 0#32
  let c0_i32_144 : BitVec 32 := 0#32
  ![v45.toNat, 0, 0]
def k0_dev7 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_137 : BitVec 32 := 4#32
  let v205 : BitVec 32 := Scalar.muli v2 c4_i32_137
  let v206 : BitVec 32 := Scalar.addi c0_i32_138 v205
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_24 v5
  let c2_i32_139 : BitVec 32 := 2#32
  let v207 : BitVec 32 := Scalar.muli v43 c2_i32_139
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v209 : BitVec 32 := Scalar.muli v8 c1_i32_140
  let v210 : BitVec 32 := Scalar.addi v208 v209
  v210.toNat
def k0_off12 (d0 : Dev nD) : Fin 3 → Nat :=
  let c2_i32_28 : BitVec 32 := 2#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let v49 : BitVec 32 := Scalar.muli c2_i32_28 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.addi v49 v5
  let c0_i32_152 : BitVec 32 := 0#32
  let c0_i32_153 : BitVec 32 := 0#32
  ![v50.toNat, 0, 0]
def k0_dev8 (d0 : Dev nD) : Nat :=
  let c0_i32_147 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v48 : BitVec 32 := Scalar.subi c1_i32_27 v2
  let c4_i32_146 : BitVec 32 := 4#32
  let v219 : BitVec 32 := Scalar.muli v48 c4_i32_146
  let v220 : BitVec 32 := Scalar.addi c0_i32_147 v219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v221 : BitVec 32 := Scalar.muli v5 c2_i32_148
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v223 : BitVec 32 := Scalar.muli v8 c1_i32_149
  let v224 : BitVec 32 := Scalar.addi v222 v223
  v224.toNat
def k0_off13 (d0 : Dev nD) : Fin 3 → Nat :=
  let c2_i32_32 : BitVec 32 := 2#32
  let c1_i32_30 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_30 v2
  let v55 : BitVec 32 := Scalar.muli c2_i32_32 v53
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_31 v5
  let v56 : BitVec 32 := Scalar.addi v55 v54
  let c0_i32_161 : BitVec 32 := 0#32
  let c0_i32_162 : BitVec 32 := 0#32
  ![v56.toNat, 0, 0]
def k0_dev9 (d0 : Dev nD) : Nat :=
  let c0_i32_156 : BitVec 32 := 0#32
  let c1_i32_30 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.subi c1_i32_30 v2
  let c4_i32_155 : BitVec 32 := 4#32
  let v233 : BitVec 32 := Scalar.muli v53 c4_i32_155
  let v234 : BitVec 32 := Scalar.addi c0_i32_156 v233
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v54 : BitVec 32 := Scalar.subi c1_i32_31 v5
  let c2_i32_157 : BitVec 32 := 2#32
  let v235 : BitVec 32 := Scalar.muli v54 c2_i32_157
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v237 : BitVec 32 := Scalar.muli v8 c1_i32_158
  let v238 : BitVec 32 := Scalar.addi v236 v237
  v238.toNat
def k0_off14 (d0 : Dev nD) : Fin 3 → Nat :=
  let c2_i32_35 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.muli c2_i32_35 v2
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.subi c1_i32_34 v5
  let v61 : BitVec 32 := Scalar.addi v60 v59
  let c0_i32_170 : BitVec 32 := 0#32
  let c0_i32_171 : BitVec 32 := 0#32
  ![v61.toNat, 0, 0]
def k0_dev10 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v247 : BitVec 32 := Scalar.muli v2 c4_i32_164
  let v248 : BitVec 32 := Scalar.addi c0_i32_165 v247
  let c1_i32_34 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.subi c1_i32_34 v5
  let c2_i32_166 : BitVec 32 := 2#32
  let v249 : BitVec 32 := Scalar.muli v59 c2_i32_166
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_167 : BitVec 32 := 1#32
  let v251 : BitVec 32 := Scalar.muli v8 c1_i32_167
  let v252 : BitVec 32 := Scalar.addi v250 v251
  v252.toNat
def k0_off15 (d0 : Dev nD) : Fin 3 → Nat :=
  let c2_i32_38 : BitVec 32 := 2#32
  let c1_i32_37 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_37 v2
  let v65 : BitVec 32 := Scalar.muli c2_i32_38 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.addi v65 v5
  let c0_i32_179 : BitVec 32 := 0#32
  let c0_i32_180 : BitVec 32 := 0#32
  ![v66.toNat, 0, 0]
def k0_dev11 (d0 : Dev nD) : Nat :=
  let c0_i32_174 : BitVec 32 := 0#32
  let c1_i32_37 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v64 : BitVec 32 := Scalar.subi c1_i32_37 v2
  let c4_i32_173 : BitVec 32 := 4#32
  let v261 : BitVec 32 := Scalar.muli v64 c4_i32_173
  let v262 : BitVec 32 := Scalar.addi c0_i32_174 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v263 : BitVec 32 := Scalar.muli v5 c2_i32_175
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v265 : BitVec 32 := Scalar.muli v8 c1_i32_176
  let v266 : BitVec 32 := Scalar.addi v264 v265
  v266.toNat
def k0_off16 (d0 : Dev nD) : Fin 3 → Nat :=
  let c2_i32_42 : BitVec 32 := 2#32
  let c1_i32_40 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_40 v2
  let v71 : BitVec 32 := Scalar.muli c2_i32_42 v69
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v70 : BitVec 32 := Scalar.subi c1_i32_41 v5
  let v72 : BitVec 32 := Scalar.addi v71 v70
  let c0_i32_188 : BitVec 32 := 0#32
  let c0_i32_189 : BitVec 32 := 0#32
  ![v72.toNat, 0, 0]
def k0_dev12 (d0 : Dev nD) : Nat :=
  let c0_i32_183 : BitVec 32 := 0#32
  let c1_i32_40 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_40 v2
  let c4_i32_182 : BitVec 32 := 4#32
  let v275 : BitVec 32 := Scalar.muli v69 c4_i32_182
  let v276 : BitVec 32 := Scalar.addi c0_i32_183 v275
  let c1_i32_41 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v70 : BitVec 32 := Scalar.subi c1_i32_41 v5
  let c2_i32_184 : BitVec 32 := 2#32
  let v277 : BitVec 32 := Scalar.muli v70 c2_i32_184
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v279 : BitVec 32 := Scalar.muli v8 c1_i32_185
  let v280 : BitVec 32 := Scalar.addi v278 v279
  v280.toNat
def k0_dev13 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v289 : BitVec 32 := Scalar.muli v2 c4_i32_191
  let v290 : BitVec 32 := Scalar.addi c0_i32_192 v289
  let c1_i32_44 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v75 : BitVec 32 := Scalar.subi c1_i32_44 v5
  let c2_i32_193 : BitVec 32 := 2#32
  let v291 : BitVec 32 := Scalar.muli v75 c2_i32_193
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v293 : BitVec 32 := Scalar.muli v8 c1_i32_194
  let v294 : BitVec 32 := Scalar.addi v292 v293
  v294.toNat
def k0_dev14 (d0 : Dev nD) : Nat :=
  let c0_i32_201 : BitVec 32 := 0#32
  let c1_i32_47 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v80 : BitVec 32 := Scalar.subi c1_i32_47 v2
  let c4_i32_200 : BitVec 32 := 4#32
  let v303 : BitVec 32 := Scalar.muli v80 c4_i32_200
  let v304 : BitVec 32 := Scalar.addi c0_i32_201 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v305 : BitVec 32 := Scalar.muli v5 c2_i32_202
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v307 : BitVec 32 := Scalar.muli v8 c1_i32_203
  let v308 : BitVec 32 := Scalar.addi v306 v307
  v308.toNat
def k0_dev15 (d0 : Dev nD) : Nat :=
  let c0_i32_210 : BitVec 32 := 0#32
  let c1_i32_50 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v85 : BitVec 32 := Scalar.subi c1_i32_50 v2
  let c4_i32_209 : BitVec 32 := 4#32
  let v317 : BitVec 32 := Scalar.muli v85 c4_i32_209
  let v318 : BitVec 32 := Scalar.addi c0_i32_210 v317
  let c1_i32_51 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v86 : BitVec 32 := Scalar.subi c1_i32_51 v5
  let c2_i32_211 : BitVec 32 := 2#32
  let v319 : BitVec 32 := Scalar.muli v86 c2_i32_211
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v321 : BitVec 32 := Scalar.muli v8 c1_i32_212
  let v322 : BitVec 32 := Scalar.addi v320 v321
  v322.toNat
-- ==== ScatterRef.lean ====
abbrev S16x1024x768 : Shape := ⟨3, ![16, 1024, 768]⟩
abbrev S16x256x1024 : Shape := ⟨3, ![16, 256, 1024]⟩
abbrev S16x128x512 : Shape := ⟨3, ![16, 128, 512]⟩
abbrev S16x1024x1028 : Shape := ⟨3, ![16, 1024, 1028]⟩
abbrev S4x4x1024x768 : Shape := ⟨4, ![4, 4, 1024, 768]⟩
abbrev S4x4x256x1024 : Shape := ⟨4, ![4, 4, 256, 1024]⟩
abbrev S4x4x128x512 : Shape := ⟨4, ![4, 4, 128, 512]⟩
abbrev S4x4x1024x1028 : Shape := ⟨4, ![4, 4, 1024, 1028]⟩

abbrev nBuf : Space → Nat
  | .hbm => 20
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S16x256x1024, .f32⟩
  | .hbm, ⟨2, _⟩ => ⟨S16x128x512, .f32⟩
  | .hbm, ⟨3, _⟩ => ⟨S16x1024x1028, .f32⟩
  | .hbm, ⟨4, _⟩ => ⟨S16x256x1024, .f32⟩
  | .hbm, ⟨5, _⟩ => ⟨S4x4x1024x768, .f32⟩
  | .hbm, ⟨6, _⟩ => ⟨S4x4x1024x768, .f32⟩
  | .hbm, ⟨7, _⟩ => ⟨S16x1024x768, .f32⟩
  | .hbm, ⟨8, _⟩ => ⟨S4x4x256x1024, .f32⟩
  | .hbm, ⟨9, _⟩ => ⟨S4x4x256x1024, .f32⟩
  | .hbm, ⟨10, _⟩ => ⟨S16x256x1024, .f32⟩
  | .hbm, ⟨11, _⟩ => ⟨S4x4x128x512, .f32⟩
  | .hbm, ⟨12, _⟩ => ⟨S4x4x128x512, .f32⟩
  | .hbm, ⟨13, _⟩ => ⟨S16x128x512, .f32⟩
  | .hbm, ⟨14, _⟩ => ⟨S4x4x1024x1028, .f32⟩
  | .hbm, ⟨15, _⟩ => ⟨S4x4x1024x1028, .f32⟩
  | .hbm, ⟨16, _⟩ => ⟨S16x1024x1028, .f32⟩
  | .hbm, ⟨17, _⟩ => ⟨S4x4x256x1024, .f32⟩
  | .hbm, ⟨18, _⟩ => ⟨S4x4x256x1024, .f32⟩
  | .hbm, ⟨19, _⟩ => ⟨S16x256x1024, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Pairs.lean ====
abbrev S4x512x768 : Shape := ⟨3, ![4, 512, 768]⟩
abbrev S4x128x1024 : Shape := ⟨3, ![4, 128, 1024]⟩
abbrev S4x64x512 : Shape := ⟨3, ![4, 64, 512]⟩
abbrev S4x512x1028 : Shape := ⟨3, ![4, 512, 1028]⟩
abbrev S2x4x512x768 : Shape := ⟨4, ![2, 4, 512, 768]⟩
abbrev S2x4x128x1024 : Shape := ⟨4, ![2, 4, 128, 1024]⟩
abbrev S2x4x64x512 : Shape := ⟨4, ![2, 4, 64, 512]⟩
abbrev S2x4x512x1028 : Shape := ⟨4, ![2, 4, 512, 1028]⟩
abbrev S5 : Shape := ⟨1, ![5]⟩
abbrev S1 : Shape := ⟨1, ![1]⟩
abbrev S_ : Shape := ⟨0, ![]⟩
abbrev S1x4x512x768 : Shape := ⟨4, ![1, 4, 512, 768]⟩
abbrev S1x4x128x1024 : Shape := ⟨4, ![1, 4, 128, 1024]⟩
abbrev S1x4x64x512 : Shape := ⟨4, ![1, 4, 64, 512]⟩
abbrev S1x4x512x1028 : Shape := ⟨4, ![1, 4, 512, 1028]⟩

abbrev nBuf : Space → Nat
  | .hbm => 10
  | .vmem => 0
  | .smem => 0
  | _ => 0

abbrev bufTy : (tb : Table) → Fin (tcTables nBuf tb) → BufTy
  | .hbm, ⟨0, _⟩ => ⟨S4x512x768, .bf16⟩
  | .hbm, ⟨1, _⟩ => ⟨S4x128x1024, .bf16⟩
  | .hbm, ⟨2, _⟩ => ⟨S4x64x512, .bf16⟩
  | .hbm, ⟨3, _⟩ => ⟨S4x512x1028, .bf16⟩
  | .hbm, ⟨4, _⟩ => ⟨S4x128x1024, .bf16⟩
  | .hbm, ⟨5, _⟩ => ⟨S2x4x512x768, .bf16⟩
  | .hbm, ⟨6, _⟩ => ⟨S2x4x128x1024, .bf16⟩
  | .hbm, ⟨7, _⟩ => ⟨S2x4x64x512, .bf16⟩
  | .hbm, ⟨8, _⟩ => ⟨S2x4x512x1028, .bf16⟩
  | .hbm, ⟨9, _⟩ => ⟨S2x4x128x1024, .bf16⟩
  | _, _ => ⟨S4x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let c0_i32_10 : BitVec 32 := 0#32
  let c0_i32_11 : BitVec 32 := 0#32
  ![v8.toNat, 0, 0, 0]
def k0_off2 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_13 : BitVec 32 := 0#32
  let c0_i32_14 : BitVec 32 := 0#32
  let c0_i32_15 : BitVec 32 := 0#32
  ![v8.toNat, 0, 0, 0]
def k0_off3 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let c0_i32_18 : BitVec 32 := 0#32
  let c0_i32_19 : BitVec 32 := 0#32
  ![v8.toNat, 0, 0, 0]
def k0_off4 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_20 : BitVec 32 := 0#32
  let c0_i32_21 : BitVec 32 := 0#32
  let c0_i32_22 : BitVec 32 := 0#32
  ![v8.toNat, 0, 0, 0]
def k0_dev1 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v35 : BitVec 32 := Scalar.muli v2 c4_i32_29
  let v36 : BitVec 32 := Scalar.addi c0_i32_30 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v37 : BitVec 32 := Scalar.muli v5 c2_i32_31
  let v38 : BitVec 32 := Scalar.addi v36 v37
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_32 : BitVec 32 := 1#32
  let v39 : BitVec 32 := Scalar.muli v9 c1_i32_32
  let v40 : BitVec 32 := Scalar.addi v38 v39
  v40.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v47 : BitVec 32 := Scalar.muli v2 c4_i32_38
  let v48 : BitVec 32 := Scalar.addi c0_i32_39 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v49 : BitVec 32 := Scalar.muli v5 c2_i32_40
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_41 : BitVec 32 := 1#32
  let v51 : BitVec 32 := Scalar.muli v9 c1_i32_41
  let v52 : BitVec 32 := Scalar.addi v50 v51
  v52.toNat
def k0_dev3 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v59 : BitVec 32 := Scalar.muli v2 c4_i32_47
  let v60 : BitVec 32 := Scalar.addi c0_i32_48 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v61 : BitVec 32 := Scalar.muli v5 c2_i32_49
  let v62 : BitVec 32 := Scalar.addi v60 v61
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_50 : BitVec 32 := 1#32
  let v63 : BitVec 32 := Scalar.muli v9 c1_i32_50
  let v64 : BitVec 32 := Scalar.addi v62 v63
  v64.toNat
def k0_dev4 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v71 : BitVec 32 := Scalar.muli v2 c4_i32_56
  let v72 : BitVec 32 := Scalar.addi c0_i32_57 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v73 : BitVec 32 := Scalar.muli v5 c2_i32_58
  let v74 : BitVec 32 := Scalar.addi v72 v73
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_59 : BitVec 32 := 1#32
  let v75 : BitVec 32 := Scalar.muli v9 c1_i32_59
  let v76 : BitVec 32 := Scalar.addi v74 v75
  v76.toNat
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v83 : BitVec 32 := Scalar.muli v2 c4_i32_65
  let v84 : BitVec 32 := Scalar.addi c0_i32_66 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v85 : BitVec 32 := Scalar.muli v5 c2_i32_67
  let v86 : BitVec 32 := Scalar.addi v84 v85
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v87 : BitVec 32 := Scalar.muli v9 c1_i32_68
  let v88 : BitVec 32 := Scalar.addi v86 v87
  v88.toNat
def k0_off5 (d0 : Dev nD) : Fin 4 → Nat :=
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c0_i32_78 : BitVec 32 := 0#32
  let c0_i32_79 : BitVec 32 := 0#32
  let c0_i32_80 : BitVec 32 := 0#32
  ![v10.toNat, 0, 0, 0]
def k0_off6 (d0 : Dev nD) : Fin 4 → Nat :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_87 : BitVec 32 := 0#32
  let c0_i32_88 : BitVec 32 := 0#32
  let c0_i32_89 : BitVec 32 := 0#32
  ![v11.toNat, 0, 0, 0]
def k0_off7 (d0 : Dev nD) : Fin 4 → Nat :=
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c0_i32_96 : BitVec 32 := 0#32
  let c0_i32_97 : BitVec 32 := 0#32
  let c0_i32_98 : BitVec 32 := 0#32
  ![v12.toNat, 0, 0, 0]
def k0_off8 (d0 : Dev nD) : Fin 4 → Nat :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_105 : BitVec 32 := 0#32
  let c0_i32_106 : BitVec 32 := 0#32
  let c0_i32_107 : BitVec 32 := 0#32
  ![v13.toNat, 0, 0, 0]
-- ==== PairsRef.lean ====
abbrev S4x1024x768 : Shape := ⟨3, ![4, 1024, 768]⟩
abbrev S4x256x1024 : Shape := ⟨3, ![4, 256, 1024]⟩
abbrev S4x128x512 : Shape := ⟨3, ![4, 128, 512]⟩
abbrev S4x1024x1028 : Shape := ⟨3, ![4, 1024, 1028]⟩
abbrev S4x2x512x768 : Shape := ⟨4, ![4, 2, 512, 768]⟩
abbrev S2x4x512x768 : Shape := ⟨4, ![2, 4, 512, 768]⟩
abbrev S4x2x128x1024 : Shape := ⟨4, ![4, 2, 128, 1024]⟩
abbrev S2x4x128x1024 : Shape := ⟨4, ![2, 4, 128, 1024]⟩
abbrev S4x2x64x512 : Shape := ⟨4, ![4, 2, 64, 512]⟩
abbrev S2x4x64x512 : Shape := ⟨4, ![2, 4, 64, 512]⟩
abbrev S4x2x512x1028 : Shape := ⟨4, ![4, 2, 512, 1028]⟩
abbrev S2x4x512x1028 : Shape := ⟨4, ![2, 4, 512, 1028]⟩

abbrev nBuf : Space → Nat
  | .hbm => 15
  | .vmem => 0
  | .smem => 0
  | _ => 0

abbrev bufTy : (tb : Table) → Fin (tcTables nBuf tb) → BufTy
  | .hbm, ⟨0, _⟩ => ⟨S4x1024x768, .bf16⟩
  | .hbm, ⟨1, _⟩ => ⟨S4x256x1024, .bf16⟩
  | .hbm, ⟨2, _⟩ => ⟨S4x128x512, .bf16⟩
  | .hbm, ⟨3, _⟩ => ⟨S4x1024x1028, .bf16⟩
  | .hbm, ⟨4, _⟩ => ⟨S4x256x1024, .bf16⟩
  | .hbm, ⟨5, _⟩ => ⟨S4x2x512x768, .bf16⟩
  | .hbm, ⟨6, _⟩ => ⟨S2x4x512x768, .bf16⟩
  | .hbm, ⟨7, _⟩ => ⟨S4x2x128x1024, .bf16⟩
  | .hbm, ⟨8, _⟩ => ⟨S2x4x128x1024, .bf16⟩
  | .hbm, ⟨9, _⟩ => ⟨S4x2x64x512, .bf16⟩
  | .hbm, ⟨10, _⟩ => ⟨S2x4x64x512, .bf16⟩
  | .hbm, ⟨11, _⟩ => ⟨S4x2x512x1028, .bf16⟩
  | .hbm, ⟨12, _⟩ => ⟨S2x4x512x1028, .bf16⟩
  | .hbm, ⟨13, _⟩ => ⟨S4x2x128x1024, .bf16⟩
  | .hbm, ⟨14, _⟩ => ⟨S2x4x128x1024, .bf16⟩
  | _, _ => ⟨S4x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Shards.lean ====
abbrev S512x768 : Shape := ⟨2, ![512, 768]⟩
abbrev S128x1024 : Shape := ⟨2, ![128, 1024]⟩
abbrev S64x512 : Shape := ⟨2, ![64, 512]⟩
abbrev S512x1028 : Shape := ⟨2, ![512, 1028]⟩
abbrev S4x512x768 : Shape := ⟨3, ![4, 512, 768]⟩
abbrev S4x128x1024 : Shape := ⟨3, ![4, 128, 1024]⟩
abbrev S4x64x512 : Shape := ⟨3, ![4, 64, 512]⟩
abbrev S4x512x1028 : Shape := ⟨3, ![4, 512, 1028]⟩
abbrev S15 : Shape := ⟨1, ![15]⟩
abbrev S5 : Shape := ⟨1, ![5]⟩
abbrev S1 : Shape := ⟨1, ![1]⟩
abbrev S_ : Shape := ⟨0, ![]⟩
abbrev S1x512x768 : Shape := ⟨3, ![1, 512, 768]⟩
abbrev S1x128x1024 : Shape := ⟨3, ![1, 128, 1024]⟩
abbrev S1x64x512 : Shape := ⟨3, ![1, 64, 512]⟩
abbrev S1x512x1028 : Shape := ⟨3, ![1, 512, 1028]⟩

abbrev nBuf : Space → Nat
  | .hbm => 10
  | .vmem => 0
  | .smem => 0
  | _ => 0

abbrev bufTy : (tb : Table) → Fin (tcTables nBuf tb) → BufTy
  | .hbm, ⟨0, _⟩ => ⟨S512x768, .bf16⟩
  | .hbm, ⟨1, _⟩ => ⟨S128x1024, .bf16⟩
  | .hbm, ⟨2, _⟩ => ⟨S64x512, .bf16⟩
  | .hbm, ⟨3, _⟩ => ⟨S512x1028, .bf16⟩
  | .hbm, ⟨4, _⟩ => ⟨S128x1024, .bf16⟩
  | .hbm, ⟨5, _⟩ => ⟨S4x512x768, .bf16⟩
  | .hbm, ⟨6, _⟩ => ⟨S4x128x1024, .bf16⟩
  | .hbm, ⟨7, _⟩ => ⟨S4x64x512, .bf16⟩
  | .hbm, ⟨8, _⟩ => ⟨S4x512x1028, .bf16⟩
  | .hbm, ⟨9, _⟩ => ⟨S4x128x1024, .bf16⟩
  | _, _ => ⟨S512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_39 : BitVec 32 := 0#32
  let c0_i32_40 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_42 : BitVec 32 := 0#32
  let c0_i32_43 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_45 : BitVec 32 := 0#32
  let c0_i32_46 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_47 : BitVec 32 := 0#32
  let c0_i32_48 : BitVec 32 := 0#32
  ![v10.toNat, 0, 0]
def k0_dev1 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v81 : BitVec 32 := Scalar.muli v2 c4_i32_54
  let v82 : BitVec 32 := Scalar.addi c0_i32_55 v81
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_56 : BitVec 32 := 2#32
  let v83 : BitVec 32 := Scalar.muli v11 c2_i32_56
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v85 : BitVec 32 := Scalar.muli v8 c1_i32_57
  let v86 : BitVec 32 := Scalar.addi v84 v85
  v86.toNat
def k0_dev2 (d0 : Dev nD) : Nat :=
  let c0_i32_63 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let c4_i32_62 : BitVec 32 := 4#32
  let v93 : BitVec 32 := Scalar.muli v14 c4_i32_62
  let v94 : BitVec 32 := Scalar.addi c0_i32_63 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v95 : BitVec 32 := Scalar.muli v5 c2_i32_64
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v97 : BitVec 32 := Scalar.muli v8 c1_i32_65
  let v98 : BitVec 32 := Scalar.addi v96 v97
  v98.toNat
def k0_dev3 (d0 : Dev nD) : Nat :=
  let c0_i32_71 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_70 : BitVec 32 := 4#32
  let v105 : BitVec 32 := Scalar.muli v17 c4_i32_70
  let v106 : BitVec 32 := Scalar.addi c0_i32_71 v105
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_72 : BitVec 32 := 2#32
  let v107 : BitVec 32 := Scalar.muli v18 c2_i32_72
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v109 : BitVec 32 := Scalar.muli v8 c1_i32_73
  let v110 : BitVec 32 := Scalar.addi v108 v109
  v110.toNat
def k0_dev4 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v117 : BitVec 32 := Scalar.muli v2 c4_i32_78
  let v118 : BitVec 32 := Scalar.addi c0_i32_79 v117
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_80 : BitVec 32 := 2#32
  let v119 : BitVec 32 := Scalar.muli v21 c2_i32_80
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v121 : BitVec 32 := Scalar.muli v8 c1_i32_81
  let v122 : BitVec 32 := Scalar.addi v120 v121
  v122.toNat
def k0_dev5 (d0 : Dev nD) : Nat :=
  let c0_i32_87 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let c4_i32_86 : BitVec 32 := 4#32
  let v129 : BitVec 32 := Scalar.muli v24 c4_i32_86
  let v130 : BitVec 32 := Scalar.addi c0_i32_87 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v131 : BitVec 32 := Scalar.muli v5 c2_i32_88
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v133 : BitVec 32 := Scalar.muli v8 c1_i32_89
  let v134 : BitVec 32 := Scalar.addi v132 v133
  v134.toNat
def k0_dev6 (d0 : Dev nD) : Nat :=
  let c0_i32_94 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let c4_i32_93 : BitVec 32 := 4#32
  let v141 : BitVec 32 := Scalar.muli v27 c4_i32_93
  let v142 : BitVec 32 := Scalar.addi c0_i32_94 v141
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_16 v5
  let c2_i32_95 : BitVec 32 := 2#32
  let v143 : BitVec 32 := Scalar.muli v28 c2_i32_95
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v145 : BitVec 32 := Scalar.muli v8 c1_i32_96
  let v146 : BitVec 32 := Scalar.addi v144 v145
  v146.toNat
def k0_dev7 (d0 : Dev nD) : Nat :=
  let c0_i32_101 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_100 : BitVec 32 := 4#32
  let v153 : BitVec 32 := Scalar.muli v2 c4_i32_100
  let v154 : BitVec 32 := Scalar.addi c0_i32_101 v153
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_18 v5
  let c2_i32_102 : BitVec 32 := 2#32
  let v155 : BitVec 32 := Scalar.muli v31 c2_i32_102
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v157 : BitVec 32 := Scalar.muli v8 c1_i32_103
  let v158 : BitVec 32 := Scalar.addi v156 v157
  v158.toNat
def k0_dev8 (d0 : Dev nD) : Nat :=
  let c0_i32_108 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_20 v2
  let c4_i32_107 : BitVec 32 := 4#32
  let v165 : BitVec 32 := Scalar.muli v34 c4_i32_107
  let v166 : BitVec 32 := Scalar.addi c0_i32_108 v165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v167 : BitVec 32 := Scalar.muli v5 c2_i32_109
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v169 : BitVec 32 := Scalar.muli v8 c1_i32_110
  let v170 : BitVec 32 := Scalar.addi v168 v169
  v170.toNat
def k0_dev9 (d0 : Dev nD) : Nat :=
  let c0_i32_115 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_22 v2
  let c4_i32_114 : BitVec 32 := 4#32
  let v177 : BitVec 32 := Scalar.muli v37 c4_i32_114
  let v178 : BitVec 32 := Scalar.addi c0_i32_115 v177
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_23 v5
  let c2_i32_116 : BitVec 32 := 2#32
  let v179 : BitVec 32 := Scalar.muli v38 c2_i32_116
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v181 : BitVec 32 := Scalar.muli v8 c1_i32_117
  let v182 : BitVec 32 := Scalar.addi v180 v181
  v182.toNat
def k0_dev10 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v189 : BitVec 32 := Scalar.muli v2 c4_i32_121
  let v190 : BitVec 32 := Scalar.addi c0_i32_122 v189
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_25 v5
  let c2_i32_123 : BitVec 32 := 2#32
  let v191 : BitVec 32 := Scalar.muli v41 c2_i32_123
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v193 : BitVec 32 := Scalar.muli v8 c1_i32_124
  let v194 : BitVec 32 := Scalar.addi v192 v193
  v194.toNat
def k0_dev11 (d0 : Dev nD) : Nat :=
  let c0_i32_129 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_27 v2
  let c4_i32_128 : BitVec 32 := 4#32
  let v201 : BitVec 32 := Scalar.muli v44 c4_i32_128
  let v202 : BitVec 32 := Scalar.addi c0_i32_129 v201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v203 : BitVec 32 := Scalar.muli v5 c2_i32_130
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v205 : BitVec 32 := Scalar.muli v8 c1_i32_131
  let v206 : BitVec 32 := Scalar.addi v204 v205
  v206.toNat
def k0_dev12 (d0 : Dev nD) : Nat :=
  let c0_i32_136 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_29 v2
  let c4_i32_135 : BitVec 32 := 4#32
  let v213 : BitVec 32 := Scalar.muli v47 c4_i32_135
  let v214 : BitVec 32 := Scalar.addi c0_i32_136 v213
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_30 v5
  let c2_i32_137 : BitVec 32 := 2#32
  let v215 : BitVec 32 := Scalar.muli v48 c2_i32_137
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v217 : BitVec 32 := Scalar.muli v8 c1_i32_138
  let v218 : BitVec 32 := Scalar.addi v216 v217
  v218.toNat
def k0_dev13 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v225 : BitVec 32 := Scalar.muli v2 c4_i32_142
  let v226 : BitVec 32 := Scalar.addi c0_i32_143 v225
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_32 v5
  let c2_i32_144 : BitVec 32 := 2#32
  let v227 : BitVec 32 := Scalar.muli v51 c2_i32_144
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v229 : BitVec 32 := Scalar.muli v8 c1_i32_145
  let v230 : BitVec 32 := Scalar.addi v228 v229
  v230.toNat
def k0_dev14 (d0 : Dev nD) : Nat :=
  let c0_i32_150 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v54 : BitVec 32 := Scalar.subi c1_i32_34 v2
  let c4_i32_149 : BitVec 32 := 4#32
  let v237 : BitVec 32 := Scalar.muli v54 c4_i32_149
  let v238 : BitVec 32 := Scalar.addi c0_i32_150 v237
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v239 : BitVec 32 := Scalar.muli v5 c2_i32_151
  let v240 : BitVec 32 := Scalar.addi v238 v239
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v241 : BitVec 32 := Scalar.muli v8 c1_i32_152
  let v242 : BitVec 32 := Scalar.addi v240 v241
  v242.toNat
def k0_dev15 (d0 : Dev nD) : Nat :=
  let c0_i32_157 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_36 v2
  let c4_i32_156 : BitVec 32 := 4#32
  let v249 : BitVec 32 := Scalar.muli v57 c4_i32_156
  let v250 : BitVec 32 := Scalar.addi c0_i32_157 v249
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v58 : BitVec 32 := Scalar.subi c1_i32_37 v5
  let c2_i32_158 : BitVec 32 := 2#32
  let v251 : BitVec 32 := Scalar.muli v58 c2_i32_158
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v253 : BitVec 32 := Scalar.muli v8 c1_i32_159
  let v254 : BitVec 32 := Scalar.addi v252 v253
  v254.toNat
def k0_off5 (d0 : Dev nD) : Fin 3 → Nat :=
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_5 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let v13 : BitVec 32 := Scalar.addi v12 v11
  let c0_i32_168 : BitVec 32 := 0#32
  let c0_i32_169 : BitVec 32 := 0#32
  ![v13.toNat, 0, 0]
def k0_off6 (d0 : Dev nD) : Fin 3 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_176 : BitVec 32 := 0#32
  let c0_i32_177 : BitVec 32 := 0#32
  ![v16.toNat, 0, 0]
def k0_off7 (d0 : Dev nD) : Fin 3 → Nat :=
  let c2_i32_10 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v19 : BitVec 32 := Scalar.muli c2_i32_10 v17
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let v20 : BitVec 32 := Scalar.addi v19 v18
  let c0_i32_184 : BitVec 32 := 0#32
  let c0_i32_185 : BitVec 32 := 0#32
  ![v20.toNat, 0, 0]
def k0_off8 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c2_i32_12 v2
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let v23 : BitVec 32 := Scalar.addi v22 v21
  let c0_i32_192 : BitVec 32 := 0#32
  let c0_i32_193 : BitVec 32 := 0#32
  ![v23.toNat, 0, 0]
def k0_off9 (d0 : Dev nD) : Fin 3 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_13 v2
  let v25 : BitVec 32 := Scalar.muli c2_i32_14 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.addi v25 v5
  let c0_i32_200 : BitVec 32 := 0#32
  let c0_i32_201 : BitVec 32 := 0#32
  ![v26.toNat, 0, 0]
def k0_off10 (d0 : Dev nD) : Fin 3 → Nat :=
  let c2_i32_17 : BitVec 32 := 2#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_15 v2
  let v29 : BitVec 32 := Scalar.muli c2_i32_17 v27
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_16 v5
  let v30 : BitVec 32 := Scalar.addi v29 v28
  let c0_i32_208 : BitVec 32 := 0#32
  let c0_i32_209 : BitVec 32 := 0#32
  ![v30.toNat, 0, 0]
def k0_off11 (d0 : Dev nD) : Fin 3 → Nat :=
  let c2_i32_19 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.muli c2_i32_19 v2
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.subi c1_i32_18 v5
  let v33 : BitVec 32 := Scalar.addi v32 v31
  let c0_i32_216 : BitVec 32 := 0#32
  let c0_i32_217 : BitVec 32 := 0#32
  ![v33.toNat, 0, 0]
def k0_off12 (d0 : Dev nD) : Fin 3 → Nat :=
  let c2_i32_21 : BitVec 32 := 2#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_20 v2
  let v35 : BitVec 32 := Scalar.muli c2_i32_21 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.addi v35 v5
  let c0_i32_224 : BitVec 32 := 0#32
  let c0_i32_225 : BitVec 32 := 0#32
  ![v36.toNat, 0, 0]
def k0_off13 (d0 : Dev nD) : Fin 3 → Nat :=
  let c2_i32_24 : BitVec 32 := 2#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_22 v2
  let v39 : BitVec 32 := Scalar.muli c2_i32_24 v37
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_23 v5
  let v40 : BitVec 32 := Scalar.addi v39 v38
  let c0_i32_232 : BitVec 32 := 0#32
  let c0_i32_233 : BitVec 32 := 0#32
  ![v40.toNat, 0, 0]
def k0_off14 (d0 : Dev nD) : Fin 3 → Nat :=
  let c2_i32_26 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.muli c2_i32_26 v2
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_25 v5
  let v43 : BitVec 32 := Scalar.addi v42 v41
  let c0_i32_240 : BitVec 32 := 0#32
  let c0_i32_241 : BitVec 32 := 0#32
  ![v43.toNat, 0, 0]
def k0_off15 (d0 : Dev nD) : Fin 3 → Nat :=
  let c2_i32_28 : BitVec 32 := 2#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_27 v2
  let v45 : BitVec 32 := Scalar.muli c2_i32_28 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.addi v45 v5
  let c0_i32_248 : BitVec 32 := 0#32
  let c0_i32_249 : BitVec 32 := 0#32
  ![v46.toNat, 0, 0]
def k0_off16 (d0 : Dev nD) : Fin 3 → Nat :=
  let c2_i32_31 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_29 v2
  let v49 : BitVec 32 := Scalar.muli c2_i32_31 v47
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_30 v5
  let v50 : BitVec 32 := Scalar.addi v49 v48
  let c0_i32_256 : BitVec 32 := 0#32
  let c0_i32_257 : BitVec 32 := 0#32
  ![v50.toNat, 0, 0]
-- ==== ShardsRef.lean ====
abbrev S4096x768 : Shape := ⟨2, ![4096, 768]⟩
abbrev S1024x1024 : Shape := ⟨2, ![1024, 1024]⟩
abbrev S512x512 : Shape := ⟨2, ![512, 512]⟩
abbrev S4096x1028 : Shape := ⟨2, ![4096, 1028]⟩
abbrev S4x1024x768 : Shape := ⟨3, ![4, 1024, 768]⟩
abbrev S4x256x1024 : Shape := ⟨3, ![4, 256, 1024]⟩
abbrev S4x128x512 : Shape := ⟨3, ![4, 128, 512]⟩
abbrev S4x1024x1028 : Shape := ⟨3, ![4, 1024, 1028]⟩

abbrev nBuf : Space → Nat
  | .hbm => 10
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S1024x1024, .bf16⟩
  | .hbm, ⟨2, _⟩ => ⟨S512x512, .bf16⟩
  | .hbm, ⟨3, _⟩ => ⟨S4096x1028, .bf16⟩
  | .hbm, ⟨4, _⟩ => ⟨S1024x1024, .bf16⟩
  | .hbm, ⟨5, _⟩ => ⟨S4x1024x768, .bf16⟩
  | .hbm, ⟨6, _⟩ => ⟨S4x256x1024, .bf16⟩
  | .hbm, ⟨7, _⟩ => ⟨S4x128x512, .bf16⟩
  | .hbm, ⟨8, _⟩ => ⟨S4x1024x1028, .bf16⟩
  | .hbm, ⟨9, _⟩ => ⟨S4x256x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Share.lean ====
abbrev S512x768 : Shape := ⟨2, ![512, 768]⟩
abbrev S128x1024 : Shape := ⟨2, ![128, 1024]⟩
abbrev S64x512 : Shape := ⟨2, ![64, 512]⟩
abbrev S512x1028 : Shape := ⟨2, ![512, 1028]⟩
abbrev S2x512x768 : Shape := ⟨3, ![2, 512, 768]⟩
abbrev S2x128x1024 : Shape := ⟨3, ![2, 128, 1024]⟩
abbrev S2x64x512 : Shape := ⟨3, ![2, 64, 512]⟩
abbrev S2x512x1028 : Shape := ⟨3, ![2, 512, 1028]⟩
abbrev S5 : Shape := ⟨1, ![5]⟩
abbrev S1 : Shape := ⟨1, ![1]⟩
abbrev S_ : Shape := ⟨0, ![]⟩
abbrev S1x512x768 : Shape := ⟨3, ![1, 512, 768]⟩
abbrev S1x128x1024 : Shape := ⟨3, ![1, 128, 1024]⟩
abbrev S1x64x512 : Shape := ⟨3, ![1, 64, 512]⟩
abbrev S1x512x1028 : Shape := ⟨3, ![1, 512, 1028]⟩

abbrev nBuf : Space → Nat
  | .hbm => 10
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S128x1024, .f32⟩
  | .hbm, ⟨2, _⟩ => ⟨S64x512, .f32⟩
  | .hbm, ⟨3, _⟩ => ⟨S512x1028, .f32⟩
  | .hbm, ⟨4, _⟩ => ⟨S128x1024, .f32⟩
  | .hbm, ⟨5, _⟩ => ⟨S2x512x768, .f32⟩
  | .hbm, ⟨6, _⟩ => ⟨S2x128x1024, .f32⟩
  | .hbm, ⟨7, _⟩ => ⟨S2x64x512, .f32⟩
  | .hbm, ⟨8, _⟩ => ⟨S2x512x1028, .f32⟩
  | .hbm, ⟨9, _⟩ => ⟨S2x128x1024, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let c0_i32_10 : BitVec 32 := 0#32
  ![v8.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let c0_i32_13 : BitVec 32 := 0#32
  ![v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let c0_i32_16 : BitVec 32 := 0#32
  ![v8.toNat, 0, 0]
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let c0_i32_18 : BitVec 32 := 0#32
  ![v8.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v35 : BitVec 32 := Scalar.muli v2 c4_i32_24
  let v36 : BitVec 32 := Scalar.addi c0_i32_25 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v37 : BitVec 32 := Scalar.muli v5 c2_i32_26
  let v38 : BitVec 32 := Scalar.addi v36 v37
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v39 : BitVec 32 := Scalar.muli v9 c1_i32_27
  let v40 : BitVec 32 := Scalar.addi v38 v39
  v40.toNat
def k0_dev2 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v47 : BitVec 32 := Scalar.muli v2 c4_i32_32
  let v48 : BitVec 32 := Scalar.addi c0_i32_33 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v49 : BitVec 32 := Scalar.muli v5 c2_i32_34
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_35 : BitVec 32 := 1#32
  let v51 : BitVec 32 := Scalar.muli v9 c1_i32_35
  let v52 : BitVec 32 := Scalar.addi v50 v51
  v52.toNat
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v59 : BitVec 32 := Scalar.muli v2 c4_i32_40
  let v60 : BitVec 32 := Scalar.addi c0_i32_41 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v61 : BitVec 32 := Scalar.muli v5 c2_i32_42
  let v62 : BitVec 32 := Scalar.addi v60 v61
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_43 : BitVec 32 := 1#32
  let v63 : BitVec 32 := Scalar.muli v9 c1_i32_43
  let v64 : BitVec 32 := Scalar.addi v62 v63
  v64.toNat
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v71 : BitVec 32 := Scalar.muli v2 c4_i32_48
  let v72 : BitVec 32 := Scalar.addi c0_i32_49 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v73 : BitVec 32 := Scalar.muli v5 c2_i32_50
  let v74 : BitVec 32 := Scalar.addi v72 v73
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_51 : BitVec 32 := 1#32
  let v75 : BitVec 32 := Scalar.muli v9 c1_i32_51
  let v76 : BitVec 32 := Scalar.addi v74 v75
  v76.toNat
def k0_dev5 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v83 : BitVec 32 := Scalar.muli v2 c4_i32_56
  let v84 : BitVec 32 := Scalar.addi c0_i32_57 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v85 : BitVec 32 := Scalar.muli v5 c2_i32_58
  let v86 : BitVec 32 := Scalar.addi v84 v85
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_59 : BitVec 32 := 1#32
  let v87 : BitVec 32 := Scalar.muli v9 c1_i32_59
  let v88 : BitVec 32 := Scalar.addi v86 v87
  v88.toNat
def k0_off5 (d0 : Dev nD) : Fin 3 → Nat :=
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c0_i32_68 : BitVec 32 := 0#32
  let c0_i32_69 : BitVec 32 := 0#32
  ![v10.toNat, 0, 0]
def k0_off6 (d0 : Dev nD) : Fin 3 → Nat :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_76 : BitVec 32 := 0#32
  let c0_i32_77 : BitVec 32 := 0#32
  ![v11.toNat, 0, 0]
def k0_off7 (d0 : Dev nD) : Fin 3 → Nat :=
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c0_i32_84 : BitVec 32 := 0#32
  let c0_i32_85 : BitVec 32 := 0#32
  ![v12.toNat, 0, 0]
def k0_off8 (d0 : Dev nD) : Fin 3 → Nat :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_92 : BitVec 32 := 0#32
  let c0_i32_93 : BitVec 32 := 0#32
  ![v13.toNat, 0, 0]
-- ==== ShareRef.lean ====
abbrev S4096x768 : Shape := ⟨2, ![4096, 768]⟩
abbrev S1024x1024 : Shape := ⟨2, ![1024, 1024]⟩
abbrev S512x512 : Shape := ⟨2, ![512, 512]⟩
abbrev S4096x1028 : Shape := ⟨2, ![4096, 1028]⟩
abbrev S8x512x768 : Shape := ⟨3, ![8, 512, 768]⟩
abbrev S8x128x1024 : Shape := ⟨3, ![8, 128, 1024]⟩
abbrev S8x64x512 : Shape := ⟨3, ![8, 64, 512]⟩
abbrev S8x512x1028 : Shape := ⟨3, ![8, 512, 1028]⟩

abbrev nBuf : Space → Nat
  | .hbm => 10
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1024x1024, .f32⟩
  | .hbm, ⟨2, _⟩ => ⟨S512x512, .f32⟩
  | .hbm, ⟨3, _⟩ => ⟨S4096x1028, .f32⟩
  | .hbm, ⟨4, _⟩ => ⟨S1024x1024, .f32⟩
  | .hbm, ⟨5, _⟩ => ⟨S8x512x768, .f32⟩
  | .hbm, ⟨6, _⟩ => ⟨S8x128x1024, .f32⟩
  | .hbm, ⟨7, _⟩ => ⟨S8x64x512, .f32⟩
  | .hbm, ⟨8, _⟩ => ⟨S8x512x1028, .f32⟩
  | .hbm, ⟨9, _⟩ => ⟨S8x128x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Small.lean ====
abbrev S1248x128 : Shape := ⟨2, ![1248, 128]⟩
abbrev S8x1248x128 : Shape := ⟨3, ![8, 1248, 128]⟩
abbrev S7 : Shape := ⟨1, ![7]⟩
abbrev S1 : Shape := ⟨1, ![1]⟩
abbrev S_ : Shape := ⟨0, ![]⟩
abbrev S1x1248x128 : Shape := ⟨3, ![1, 1248, 128]⟩

abbrev nBuf : Space → Nat
  | .hbm => 2
  | .vmem => 0
  | .smem => 0
  | _ => 0

abbrev bufTy : (tb : Table) → Fin (tcTables nBuf tb) → BufTy
  | .hbm, ⟨0, _⟩ => ⟨S1248x128, .f32⟩
  | .hbm, ⟨1, _⟩ => ⟨S8x1248x128, .f32⟩
  | _, _ => ⟨S1248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v57 : BitVec 32 := Scalar.muli v2 c4_i32_35
  let v58 : BitVec 32 := Scalar.addi c0_i32_36 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v59 : BitVec 32 := Scalar.muli v5 c2_i32_37
  let v60 : BitVec 32 := Scalar.addi v58 v59
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_38 : BitVec 32 := 1#32
  let v61 : BitVec 32 := Scalar.muli v17 c1_i32_38
  let v62 : BitVec 32 := Scalar.addi v60 v61
  v62.toNat
def k0_dev2 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v69 : BitVec 32 := Scalar.muli v2 c4_i32_43
  let v70 : BitVec 32 := Scalar.addi c0_i32_44 v69
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_10 v5
  let c2_i32_45 : BitVec 32 := 2#32
  let v71 : BitVec 32 := Scalar.muli v22 c2_i32_45
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v73 : BitVec 32 := Scalar.muli v8 c1_i32_46
  let v74 : BitVec 32 := Scalar.addi v72 v73
  v74.toNat
def k0_dev3 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v81 : BitVec 32 := Scalar.muli v2 c4_i32_51
  let v82 : BitVec 32 := Scalar.addi c0_i32_52 v81
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_13 v5
  let c2_i32_53 : BitVec 32 := 2#32
  let v83 : BitVec 32 := Scalar.muli v27 c2_i32_53
  let v84 : BitVec 32 := Scalar.addi v82 v83
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_14 v8
  let c1_i32_54 : BitVec 32 := 1#32
  let v85 : BitVec 32 := Scalar.muli v28 c1_i32_54
  let v86 : BitVec 32 := Scalar.addi v84 v85
  v86.toNat
def k0_dev4 (d0 : Dev nD) : Nat :=
  let c0_i32_59 : BitVec 32 := 0#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_17 v2
  let c4_i32_58 : BitVec 32 := 4#32
  let v93 : BitVec 32 := Scalar.muli v33 c4_i32_58
  let v94 : BitVec 32 := Scalar.addi c0_i32_59 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v95 : BitVec 32 := Scalar.muli v5 c2_i32_60
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v97 : BitVec 32 := Scalar.muli v8 c1_i32_61
  let v98 : BitVec 32 := Scalar.addi v96 v97
  v98.toNat
def k0_dev5 (d0 : Dev nD) : Nat :=
  let c0_i32_67 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_20 v2
  let c4_i32_66 : BitVec 32 := 4#32
  let v105 : BitVec 32 := Scalar.muli v38 c4_i32_66
  let v106 : BitVec 32 := Scalar.addi c0_i32_67 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v107 : BitVec 32 := Scalar.muli v5 c2_i32_68
  let v108 : BitVec 32 := Scalar.addi v106 v107
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_21 v8
  let c1_i32_69 : BitVec 32 := 1#32
  let v109 : BitVec 32 := Scalar.muli v39 c1_i32_69
  let v110 : BitVec 32 := Scalar.addi v108 v109
  v110.toNat
def k0_dev6 (d0 : Dev nD) : Nat :=
  let c0_i32_74 : BitVec 32 := 0#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_24 v2
  let c4_i32_73 : BitVec 32 := 4#32
  let v117 : BitVec 32 := Scalar.muli v44 c4_i32_73
  let v118 : BitVec 32 := Scalar.addi c0_i32_74 v117
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_25 v5
  let c2_i32_75 : BitVec 32 := 2#32
  let v119 : BitVec 32 := Scalar.muli v45 c2_i32_75
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v121 : BitVec 32 := Scalar.muli v8 c1_i32_76
  let v122 : BitVec 32 := Scalar.addi v120 v121
  v122.toNat
def k0_dev7 (d0 : Dev nD) : Nat :=
  let c0_i32_81 : BitVec 32 := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let c4_i32_80 : BitVec 32 := 4#32
  let v129 : BitVec 32 := Scalar.muli v50 c4_i32_80
  let v130 : BitVec 32 := Scalar.addi c0_i32_81 v129
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let c2_i32_82 : BitVec 32 := 2#32
  let v131 : BitVec 32 := Scalar.muli v51 c2_i32_82
  let v132 : BitVec 32 := Scalar.addi v130 v131
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let c1_i32_83 : BitVec 32 := 1#32
  let v133 : BitVec 32 := Scalar.muli v52 c1_i32_83
  let v134 : BitVec 32 := Scalar.addi v132 v133
  v134.toNat
def k0_off2 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_9 v5
  let v20 : BitVec 32 := Scalar.addi v18 v19
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let v21 : BitVec 32 := Scalar.addi v20 v17
  let c0_i32_92 : BitVec 32 := 0#32
  let c0_i32_93 : BitVec 32 := 0#32
  ![v21.toNat, 0, 0]
def k0_off3 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_11 v2
  let c2_i32_12 : BitVec 32 := 2#32
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_10 v5
  let v24 : BitVec 32 := Scalar.muli c2_i32_12 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_100 : BitVec 32 := 0#32
  let c0_i32_101 : BitVec 32 := 0#32
  ![v26.toNat, 0, 0]
def k0_off4 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_15 v2
  let c2_i32_16 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_13 v5
  let v30 : BitVec 32 := Scalar.muli c2_i32_16 v27
  let v31 : BitVec 32 := Scalar.addi v29 v30
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_14 v8
  let v32 : BitVec 32 := Scalar.addi v31 v28
  let c0_i32_108 : BitVec 32 := 0#32
  let c0_i32_109 : BitVec 32 := 0#32
  ![v32.toNat, 0, 0]
def k0_off5 (d0 : Dev nD) : Fin 3 → Nat :=
  let c4_i32_18 : BitVec 32 := 4#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_17 v2
  let v34 : BitVec 32 := Scalar.muli c4_i32_18 v33
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_116 : BitVec 32 := 0#32
  let c0_i32_117 : BitVec 32 := 0#32
  ![v37.toNat, 0, 0]
def k0_off6 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_20 v2
  let v40 : BitVec 32 := Scalar.muli c4_i32_22 v38
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_23 v5
  let v42 : BitVec 32 := Scalar.addi v40 v41
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_21 v8
  let v43 : BitVec 32 := Scalar.addi v42 v39
  let c0_i32_124 : BitVec 32 := 0#32
  let c0_i32_125 : BitVec 32 := 0#32
  ![v43.toNat, 0, 0]
def k0_off7 (d0 : Dev nD) : Fin 3 → Nat :=
  let c4_i32_26 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_24 v2
  let v46 : BitVec 32 := Scalar.muli c4_i32_26 v44
  let c2_i32_27 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_25 v5
  let v47 : BitVec 32 := Scalar.muli c2_i32_27 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_132 : BitVec 32 := 0#32
  let c0_i32_133 : BitVec 32 := 0#32
  ![v49.toNat, 0, 0]
def k0_off8 (d0 : Dev nD) : Fin 3 → Nat :=
  let c4_i32_31 : BitVec 32 := 4#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let v53 : BitVec 32 := Scalar.muli c4_i32_31 v50
  let c2_i32_32 : BitVec 32 := 2#32
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let v54 : BitVec 32 := Scalar.muli c2_i32_32 v51
  let v55 : BitVec 32 := Scalar.addi v53 v54
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let v56 : BitVec 32 := Scalar.addi v55 v52
  let c0_i32_140 : BitVec 32 := 0#32
  let c0_i32_141 : BitVec 32 := 0#32
  ![v56.toNat, 0, 0]
-- ==== SmallRefIdeal.lean ====
abbrev S9984x128 : Shape := ⟨2, ![9984, 128]⟩
abbrev S8x1248x128 : Shape := ⟨3, ![8, 1248, 128]⟩

abbrev nBuf : Space → Nat
  | .hbm => 2
  | .vmem => 0
  | .smem => 0
  | _ => 0

abbrev bufTy : (tb : Table) → Fin (tcTables nBuf tb) → BufTy
  | .hbm, ⟨0, _⟩ => ⟨S9984x128, .f32⟩
  | .hbm, ⟨1, _⟩ => ⟨S8x1248x128, .f32⟩
  | _, _ => ⟨S9984x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== SmallRef.lean ====
abbrev S9984x128 : Shape := ⟨2, ![9984, 128]⟩
abbrev S8x1248x128 : Shape := ⟨3, ![8, 1248, 128]⟩

abbrev nBuf : Space → Nat
  | .hbm => 2
  | .vmem => 0
  | .smem => 0
  | _ => 0

abbrev bufTy : (tb : Table) → Fin (tcTables nBuf tb) → BufTy
  | .hbm, ⟨0, _⟩ => ⟨S9984x128, .f32⟩
  | .hbm, ⟨1, _⟩ => ⟨S8x1248x128, .f32⟩
  | _, _ => ⟨S9984x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Mod.lean ====
abbrev S2x8x768 : Shape := ⟨3, ![2, 8, 768]⟩
abbrev S8x2x8x768 : Shape := ⟨4, ![8, 2, 8, 768]⟩
abbrev S7 : Shape := ⟨1, ![7]⟩
abbrev S1 : Shape := ⟨1, ![1]⟩
abbrev S_ : Shape := ⟨0, ![]⟩
abbrev S1x2x8x768 : Shape := ⟨4, ![1, 2, 8, 768]⟩

abbrev nBuf : Space → Nat
  | .hbm => 2
  | .vmem => 0
  | .smem => 0
  | _ => 0

abbrev bufTy : (tb : Table) → Fin (tcTables nBuf tb) → BufTy
  | .hbm, ⟨0, _⟩ => ⟨S2x8x768, .f32⟩
  | .hbm, ⟨1, _⟩ => ⟨S8x2x8x768, .f32⟩
  | _, _ => ⟨S2x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  let c0_i32_7 : BitVec 32 := 0#32
  ![v12.toNat, 0, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_39 : BitVec 32 := 1#32
  let v61 : BitVec 32 := Scalar.muli v17 c1_i32_39
  let v62 : BitVec 32 := Scalar.addi v60 v61
  v62.toNat
def k0_dev2 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v69 : BitVec 32 := Scalar.muli v2 c4_i32_45
  let v70 : BitVec 32 := Scalar.addi c0_i32_46 v69
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let c2_i32_47 : BitVec 32 := 2#32
  let v71 : BitVec 32 := Scalar.muli v22 c2_i32_47
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v73 : BitVec 32 := Scalar.muli v8 c1_i32_48
  let v74 : BitVec 32 := Scalar.addi v72 v73
  v74.toNat
def k0_dev3 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v81 : BitVec 32 := Scalar.muli v2 c4_i32_54
  let v82 : BitVec 32 := Scalar.addi c0_i32_55 v81
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let c2_i32_56 : BitVec 32 := 2#32
  let v83 : BitVec 32 := Scalar.muli v27 c2_i32_56
  let v84 : BitVec 32 := Scalar.addi v82 v83
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let c1_i32_57 : BitVec 32 := 1#32
  let v85 : BitVec 32 := Scalar.muli v28 c1_i32_57
  let v86 : BitVec 32 := Scalar.addi v84 v85
  v86.toNat
def k0_dev4 (d0 : Dev nD) : Nat :=
  let c0_i32_63 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let c4_i32_62 : BitVec 32 := 4#32
  let v93 : BitVec 32 := Scalar.muli v33 c4_i32_62
  let v94 : BitVec 32 := Scalar.addi c0_i32_63 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v95 : BitVec 32 := Scalar.muli v5 c2_i32_64
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v97 : BitVec 32 := Scalar.muli v8 c1_i32_65
  let v98 : BitVec 32 := Scalar.addi v96 v97
  v98.toNat
def k0_dev5 (d0 : Dev nD) : Nat :=
  let c0_i32_72 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let c4_i32_71 : BitVec 32 := 4#32
  let v105 : BitVec 32 := Scalar.muli v38 c4_i32_71
  let v106 : BitVec 32 := Scalar.addi c0_i32_72 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v107 : BitVec 32 := Scalar.muli v5 c2_i32_73
  let v108 : BitVec 32 := Scalar.addi v106 v107
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let c1_i32_74 : BitVec 32 := 1#32
  let v109 : BitVec 32 := Scalar.muli v39 c1_i32_74
  let v110 : BitVec 32 := Scalar.addi v108 v109
  v110.toNat
def k0_dev6 (d0 : Dev nD) : Nat :=
  let c0_i32_80 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let c4_i32_79 : BitVec 32 := 4#32
  let v117 : BitVec 32 := Scalar.muli v44 c4_i32_79
  let v118 : BitVec 32 := Scalar.addi c0_i32_80 v117
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let c2_i32_81 : BitVec 32 := 2#32
  let v119 : BitVec 32 := Scalar.muli v45 c2_i32_81
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v121 : BitVec 32 := Scalar.muli v8 c1_i32_82
  let v122 : BitVec 32 := Scalar.addi v120 v121
  v122.toNat
def k0_dev7 (d0 : Dev nD) : Nat :=
  let c0_i32_88 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let c4_i32_87 : BitVec 32 := 4#32
  let v129 : BitVec 32 := Scalar.muli v50 c4_i32_87
  let v130 : BitVec 32 := Scalar.addi c0_i32_88 v129
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let c2_i32_89 : BitVec 32 := 2#32
  let v131 : BitVec 32 := Scalar.muli v51 c2_i32_89
  let v132 : BitVec 32 := Scalar.addi v130 v131
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let c1_i32_90 : BitVec 32 := 1#32
  let v133 : BitVec 32 := Scalar.muli v52 c1_i32_90
  let v134 : BitVec 32 := Scalar.addi v132 v133
  v134.toNat
def k0_off2 (d0 : Dev nD) : Fin 4 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_100 : BitVec 32 := 0#32
  let c0_i32_101 : BitVec 32 := 0#32
  let c0_i32_102 : BitVec 32 := 0#32
  ![v21.toNat, 0, 0, 0]
def k0_off3 (d0 : Dev nD) : Fin 4 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_12 v2
  let c2_i32_13 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v24 : BitVec 32 := Scalar.muli c2_i32_13 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_109 : BitVec 32 := 0#32
  let c0_i32_110 : BitVec 32 := 0#32
  let c0_i32_111 : BitVec 32 := 0#32
  ![v26.toNat, 0, 0, 0]
def k0_off4 (d0 : Dev nD) : Fin 4 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_16 v2
  let c2_i32_17 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let v30 : BitVec 32 := Scalar.muli c2_i32_17 v27
  let v31 : BitVec 32 := Scalar.addi v29 v30
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v32 : BitVec 32 := Scalar.addi v31 v28
  let c0_i32_118 : BitVec 32 := 0#32
  let c0_i32_119 : BitVec 32 := 0#32
  let c0_i32_120 : BitVec 32 := 0#32
  ![v32.toNat, 0, 0, 0]
def k0_off5 (d0 : Dev nD) : Fin 4 → Nat :=
  let c4_i32_19 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let v34 : BitVec 32 := Scalar.muli c4_i32_19 v33
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_20 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_127 : BitVec 32 := 0#32
  let c0_i32_128 : BitVec 32 := 0#32
  let c0_i32_129 : BitVec 32 := 0#32
  ![v37.toNat, 0, 0, 0]
def k0_off6 (d0 : Dev nD) : Fin 4 → Nat :=
  let c4_i32_23 : BitVec 32 := 4#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let v40 : BitVec 32 := Scalar.muli c4_i32_23 v38
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_24 v5
  let v42 : BitVec 32 := Scalar.addi v40 v41
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let v43 : BitVec 32 := Scalar.addi v42 v39
  let c0_i32_136 : BitVec 32 := 0#32
  let c0_i32_137 : BitVec 32 := 0#32
  let c0_i32_138 : BitVec 32 := 0#32
  ![v43.toNat, 0, 0, 0]
def k0_off7 (d0 : Dev nD) : Fin 4 → Nat :=
  let c4_i32_27 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let v46 : BitVec 32 := Scalar.muli c4_i32_27 v44
  let c2_i32_28 : BitVec 32 := 2#32
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let v47 : BitVec 32 := Scalar.muli c2_i32_28 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_145 : BitVec 32 := 0#32
  let c0_i32_146 : BitVec 32 := 0#32
  let c0_i32_147 : BitVec 32 := 0#32
  ![v49.toNat, 0, 0, 0]
def k0_off8 (d0 : Dev nD) : Fin 4 → Nat :=
  let c4_i32_32 : BitVec 32 := 4#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let v53 : BitVec 32 := Scalar.muli c4_i32_32 v50
  let c2_i32_33 : BitVec 32 := 2#32
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let v54 : BitVec 32 := Scalar.muli c2_i32_33 v51
  let v55 : BitVec 32 := Scalar.addi v53 v54
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let v56 : BitVec 32 := Scalar.addi v55 v52
  let c0_i32_154 : BitVec 32 := 0#32
  let c0_i32_155 : BitVec 32 := 0#32
  let c0_i32_156 : BitVec 32 := 0#32
  ![v56.toNat, 0, 0, 0]
-- ==== ModRefIdeal.lean ====
abbrev S16x8x768 : Shape := ⟨3, ![16, 8, 768]⟩
abbrev S8x2x8x768 : Shape := ⟨4, ![8, 2, 8, 768]⟩

abbrev nBuf : Space → Nat
  | .hbm => 2
  | .vmem => 0
  | .smem => 0
  | _ => 0

abbrev bufTy : (tb : Table) → Fin (tcTables nBuf tb) → BufTy
  | .hbm, ⟨0, _⟩ => ⟨S16x8x768, .f32⟩
  | .hbm, ⟨1, _⟩ => ⟨S8x2x8x768, .f32⟩
  | _, _ => ⟨S16x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ModRef.lean ====
abbrev S16x8x768 : Shape := ⟨3, ![16, 8, 768]⟩
abbrev S8x2x8x768 : Shape := ⟨4, ![8, 2, 8, 768]⟩

abbrev nBuf : Space → Nat
  | .hbm => 2
  | .vmem => 0
  | .smem => 0
  | _ => 0

abbrev bufTy : (tb : Table) → Fin (tcTables nBuf tb) → BufTy
  | .hbm, ⟨0, _⟩ => ⟨S16x8x768, .f32⟩
  | .hbm, ⟨1, _⟩ => ⟨S8x2x8x768, .f32⟩
  | _, _ => ⟨S16x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== First.lean ====
abbrev S32x128 : Shape := ⟨2, ![32, 128]⟩
abbrev S8x32x128 : Shape := ⟨3, ![8, 32, 128]⟩
abbrev S7 : Shape := ⟨1, ![7]⟩
abbrev S1 : Shape := ⟨1, ![1]⟩
abbrev S_ : Shape := ⟨0, ![]⟩
abbrev S1x32x128 : Shape := ⟨3, ![1, 32, 128]⟩

abbrev nBuf : Space → Nat
  | .hbm => 2
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S8x32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v57 : BitVec 32 := Scalar.muli v2 c4_i32_35
  let v58 : BitVec 32 := Scalar.addi c0_i32_36 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v59 : BitVec 32 := Scalar.muli v5 c2_i32_37
  let v60 : BitVec 32 := Scalar.addi v58 v59
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_38 : BitVec 32 := 1#32
  let v61 : BitVec 32 := Scalar.muli v17 c1_i32_38
  let v62 : BitVec 32 := Scalar.addi v60 v61
  v62.toNat
def k0_dev2 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v69 : BitVec 32 := Scalar.muli v2 c4_i32_43
  let v70 : BitVec 32 := Scalar.addi c0_i32_44 v69
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_10 v5
  let c2_i32_45 : BitVec 32 := 2#32
  let v71 : BitVec 32 := Scalar.muli v22 c2_i32_45
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v73 : BitVec 32 := Scalar.muli v8 c1_i32_46
  let v74 : BitVec 32 := Scalar.addi v72 v73
  v74.toNat
def k0_dev3 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v81 : BitVec 32 := Scalar.muli v2 c4_i32_51
  let v82 : BitVec 32 := Scalar.addi c0_i32_52 v81
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_13 v5
  let c2_i32_53 : BitVec 32 := 2#32
  let v83 : BitVec 32 := Scalar.muli v27 c2_i32_53
  let v84 : BitVec 32 := Scalar.addi v82 v83
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_14 v8
  let c1_i32_54 : BitVec 32 := 1#32
  let v85 : BitVec 32 := Scalar.muli v28 c1_i32_54
  let v86 : BitVec 32 := Scalar.addi v84 v85
  v86.toNat
def k0_dev4 (d0 : Dev nD) : Nat :=
  let c0_i32_59 : BitVec 32 := 0#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_17 v2
  let c4_i32_58 : BitVec 32 := 4#32
  let v93 : BitVec 32 := Scalar.muli v33 c4_i32_58
  let v94 : BitVec 32 := Scalar.addi c0_i32_59 v93
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v95 : BitVec 32 := Scalar.muli v5 c2_i32_60
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v97 : BitVec 32 := Scalar.muli v8 c1_i32_61
  let v98 : BitVec 32 := Scalar.addi v96 v97
  v98.toNat
def k0_dev5 (d0 : Dev nD) : Nat :=
  let c0_i32_67 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_20 v2
  let c4_i32_66 : BitVec 32 := 4#32
  let v105 : BitVec 32 := Scalar.muli v38 c4_i32_66
  let v106 : BitVec 32 := Scalar.addi c0_i32_67 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v107 : BitVec 32 := Scalar.muli v5 c2_i32_68
  let v108 : BitVec 32 := Scalar.addi v106 v107
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_21 v8
  let c1_i32_69 : BitVec 32 := 1#32
  let v109 : BitVec 32 := Scalar.muli v39 c1_i32_69
  let v110 : BitVec 32 := Scalar.addi v108 v109
  v110.toNat
def k0_dev6 (d0 : Dev nD) : Nat :=
  let c0_i32_74 : BitVec 32 := 0#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_24 v2
  let c4_i32_73 : BitVec 32 := 4#32
  let v117 : BitVec 32 := Scalar.muli v44 c4_i32_73
  let v118 : BitVec 32 := Scalar.addi c0_i32_74 v117
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_25 v5
  let c2_i32_75 : BitVec 32 := 2#32
  let v119 : BitVec 32 := Scalar.muli v45 c2_i32_75
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v121 : BitVec 32 := Scalar.muli v8 c1_i32_76
  let v122 : BitVec 32 := Scalar.addi v120 v121
  v122.toNat
def k0_dev7 (d0 : Dev nD) : Nat :=
  let c0_i32_81 : BitVec 32 := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let c4_i32_80 : BitVec 32 := 4#32
  let v129 : BitVec 32 := Scalar.muli v50 c4_i32_80
  let v130 : BitVec 32 := Scalar.addi c0_i32_81 v129
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let c2_i32_82 : BitVec 32 := 2#32
  let v131 : BitVec 32 := Scalar.muli v51 c2_i32_82
  let v132 : BitVec 32 := Scalar.addi v130 v131
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let c1_i32_83 : BitVec 32 := 1#32
  let v133 : BitVec 32 := Scalar.muli v52 c1_i32_83
  let v134 : BitVec 32 := Scalar.addi v132 v133
  v134.toNat
def k0_off2 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_9 v5
  let v20 : BitVec 32 := Scalar.addi v18 v19
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let v21 : BitVec 32 := Scalar.addi v20 v17
  let c0_i32_92 : BitVec 32 := 0#32
  let c0_i32_93 : BitVec 32 := 0#32
  ![v21.toNat, 0, 0]
def k0_off3 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_11 v2
  let c2_i32_12 : BitVec 32 := 2#32
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_10 v5
  let v24 : BitVec 32 := Scalar.muli c2_i32_12 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_100 : BitVec 32 := 0#32
  let c0_i32_101 : BitVec 32 := 0#32
  ![v26.toNat, 0, 0]
def k0_off4 (d0 : Dev nD) : Fin 3 → Nat :=
  let c4_i32_15 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_15 v2
  let c2_i32_16 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_13 v5
  let v30 : BitVec 32 := Scalar.muli c2_i32_16 v27
  let v31 : BitVec 32 := Scalar.addi v29 v30
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_14 v8
  let v32 : BitVec 32 := Scalar.addi v31 v28
  let c0_i32_108 : BitVec 32 := 0#32
  let c0_i32_109 : BitVec 32 := 0#32
  ![v32.toNat, 0, 0]
def k0_off5 (d0 : Dev nD) : Fin 3 → Nat :=
  let c4_i32_18 : BitVec 32 := 4#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_17 v2
  let v34 : BitVec 32 := Scalar.muli c4_i32_18 v33
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_116 : BitVec 32 := 0#32
  let c0_i32_117 : BitVec 32 := 0#32
  ![v37.toNat, 0, 0]
def k0_off6 (d0 : Dev nD) : Fin 3 → Nat :=
  let c4_i32_22 : BitVec 32 := 4#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_20 v2
  let v40 : BitVec 32 := Scalar.muli c4_i32_22 v38
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_23 v5
  let v42 : BitVec 32 := Scalar.addi v40 v41
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_21 v8
  let v43 : BitVec 32 := Scalar.addi v42 v39
  let c0_i32_124 : BitVec 32 := 0#32
  let c0_i32_125 : BitVec 32 := 0#32
  ![v43.toNat, 0, 0]
def k0_off7 (d0 : Dev nD) : Fin 3 → Nat :=
  let c4_i32_26 : BitVec 32 := 4#32
  let c1_i32_24 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_24 v2
  let v46 : BitVec 32 := Scalar.muli c4_i32_26 v44
  let c2_i32_27 : BitVec 32 := 2#32
  let c1_i32_25 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_25 v5
  let v47 : BitVec 32 := Scalar.muli c2_i32_27 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_132 : BitVec 32 := 0#32
  let c0_i32_133 : BitVec 32 := 0#32
  ![v49.toNat, 0, 0]
def k0_off8 (d0 : Dev nD) : Fin 3 → Nat :=
  let c4_i32_31 : BitVec 32 := 4#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let v53 : BitVec 32 := Scalar.muli c4_i32_31 v50
  let c2_i32_32 : BitVec 32 := 2#32
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let v54 : BitVec 32 := Scalar.muli c2_i32_32 v51
  let v55 : BitVec 32 := Scalar.addi v53 v54
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let v56 : BitVec 32 := Scalar.addi v55 v52
  let c0_i32_140 : BitVec 32 := 0#32
  let c0_i32_141 : BitVec 32 := 0#32
  ![v56.toNat, 0, 0]
-- ==== FirstRef.lean ====
abbrev S256x128 : Shape := ⟨2, ![256, 128]⟩
abbrev S8x32x128 : Shape := ⟨3, ![8, 32, 128]⟩

abbrev nBuf : Space → Nat
  | .hbm => 2
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S8x32x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== UpAdaW.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpAdaWIdeal.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpAdaWRefIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpConv.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpConvIdeal.lean ====
abbrev S4x768 : Shape := ⟨2, ![4, 768]⟩

abbrev nBuf : Space → Nat
  | .hbm => 7
  | .vmem => 7
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpConvRefIdeal.lean ====
abbrev S4x768 : Shape := ⟨2, ![4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S4x768, .f32⟩
  | .hbm, ⟨7, _⟩ => ⟨S_, .f32⟩
  | .hbm, ⟨8, _⟩ => ⟨S4x768, .f32⟩
  | .hbm, ⟨9, _⟩ => ⟨S4x768, .f32⟩
  | .hbm, ⟨10, _⟩ => ⟨S4x768, .f32⟩
  | .hbm, ⟨11, _⟩ => ⟨S_, .f32⟩
  | .hbm, ⟨12, _⟩ => ⟨S4x768, .f32⟩
  | .hbm, ⟨13, _⟩ => ⟨S4x768, .f32⟩
  | .hbm, ⟨14, _⟩ => ⟨S4x768, .f32⟩
  | .hbm, ⟨15, _⟩ => ⟨S_, .f32⟩
  | .hbm, ⟨16, _⟩ => ⟨S4x768, .f32⟩
  | .hbm, ⟨17, _⟩ => ⟨S4x768, .f32⟩
  | .hbm, ⟨18, _⟩ => ⟨S4x768, .f32⟩
  | .hbm, ⟨19, _⟩ => ⟨S_, .f32⟩
  | .hbm, ⟨20, _⟩ => ⟨S4x768, .f32⟩
  | .hbm, ⟨21, _⟩ => ⟨S4x768, .f32⟩
  | .hbm, ⟨22, _⟩ => ⟨S_, .f32⟩
  | .hbm, ⟨23, _⟩ => ⟨S4x768, .f32⟩
  | .hbm, ⟨24, _⟩ => ⟨S4x768, .f32⟩
  | .hbm, ⟨25, _⟩ => ⟨S4x768, .f32⟩
  | .hbm, ⟨26, _⟩ => ⟨S_, .f32⟩
  | .hbm, ⟨27, _⟩ => ⟨S4x768, .f32⟩
  | .hbm, ⟨28, _⟩ => ⟨S4x768, .f32⟩
  | .hbm, ⟨29, _⟩ => ⟨S4x768, .f32⟩
  | .hbm, ⟨30, _⟩ => ⟨S_, .f32⟩
  | .hbm, ⟨31, _⟩ => ⟨S4x768, .f32⟩
  | .hbm, ⟨32, _⟩ => ⟨S4x768, .f32⟩
  | .hbm, ⟨33, _⟩ => ⟨S4x768, .f32⟩
  | .hbm, ⟨34, _⟩ => ⟨S_, .f32⟩
  | .hbm, ⟨35, _⟩ => ⟨S4x768, .f32⟩
  | .hbm, ⟨36, _⟩ => ⟨S4x768, .f32⟩
  | _, _ => ⟨S4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpAbIn.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpAbInIdeal.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpAbInRefIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpAbOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpAbOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpAbOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpGlu.lean ====
abbrev S128x512 : Shape := ⟨2, ![128, 512]⟩

abbrev nBuf : Space → Nat
  | .hbm => 7
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpGluIdeal.lean ====
abbrev S128x512 : Shape := ⟨2, ![128, 512]⟩

abbrev nBuf : Space → Nat
  | .hbm => 7
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpGluRefIdeal.lean ====
abbrev S128x512 : Shape := ⟨2, ![128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S128x512, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S128x512, .f32⟩
  | .hbm, ⟨11, _⟩ => ⟨S_, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S_, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpGdnIn.lean ====
abbrev S1024x1028 : Shape := ⟨2, ![1024, 1028]⟩
abbrev S256x1028 : Shape := ⟨2, ![256, 1028]⟩

abbrev nBuf : Space → Nat
  | .hbm => 7
  | .vmem => 14
  | .smem => 0
  | _ => 0

abbrev bufTy : (tb : Table) → Fin (tcTables nBuf tb) → BufTy
  | .hbm, ⟨0, _⟩ => ⟨S1024x1028, .f32⟩
  | .hbm, ⟨1, _⟩ => ⟨S1024x1028, .f32⟩
  | .hbm, ⟨2, _⟩ => ⟨S1024x1028, .f32⟩
  | .hbm, ⟨3, _⟩ => ⟨S1024x1028, .f32⟩
  | .hbm, ⟨4, _⟩ => ⟨S1024x1028, .f32⟩
  | .hbm, ⟨5, _⟩ => ⟨S1024x1028, .f32⟩
  | .hbm, ⟨6, _⟩ => ⟨S1024x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpGdnInIdeal.lean ====
abbrev S1024x1028 : Shape := ⟨2, ![1024, 1028]⟩
abbrev S256x1028 : Shape := ⟨2, ![256, 1028]⟩

abbrev nBuf : Space → Nat
  | .hbm => 7
  | .vmem => 14
  | .smem => 0
  | _ => 0

abbrev bufTy : (tb : Table) → Fin (tcTables nBuf tb) → BufTy
  | .hbm, ⟨0, _⟩ => ⟨S1024x1028, .f32⟩
  | .hbm, ⟨1, _⟩ => ⟨S1024x1028, .f32⟩
  | .hbm, ⟨2, _⟩ => ⟨S1024x1028, .f32⟩
  | .hbm, ⟨3, _⟩ => ⟨S1024x1028, .f32⟩
  | .hbm, ⟨4, _⟩ => ⟨S1024x1028, .f32⟩
  | .hbm, ⟨5, _⟩ => ⟨S1024x1028, .f32⟩
  | .hbm, ⟨6, _⟩ => ⟨S1024x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | _, _ => ⟨S1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpGdnInRefIdeal.lean ====
abbrev S1024x1028 : Shape := ⟨2, ![1024, 1028]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1028, .f32⟩
  | .hbm, ⟨1, _⟩ => ⟨S1024x1028, .f32⟩
  | .hbm, ⟨2, _⟩ => ⟨S1024x1028, .f32⟩
  | .hbm, ⟨3, _⟩ => ⟨S1024x1028, .f32⟩
  | .hbm, ⟨4, _⟩ => ⟨S_, .f32⟩
  | .hbm, ⟨5, _⟩ => ⟨S1024x1028, .f32⟩
  | .hbm, ⟨6, _⟩ => ⟨S1024x1028, .f32⟩
  | .hbm, ⟨7, _⟩ => ⟨S_, .f32⟩
  | .hbm, ⟨8, _⟩ => ⟨S1024x1028, .f32⟩
  | .hbm, ⟨9, _⟩ => ⟨S1024x1028, .f32⟩
  | .hbm, ⟨10, _⟩ => ⟨S1024x1028, .f32⟩
  | .hbm, ⟨11, _⟩ => ⟨S_, .f32⟩
  | .hbm, ⟨12, _⟩ => ⟨S1024x1028, .f32⟩
  | .hbm, ⟨13, _⟩ => ⟨S1024x1028, .f32⟩
  | .hbm, ⟨14, _⟩ => ⟨S1024x1028, .f32⟩
  | .hbm, ⟨15, _⟩ => ⟨S_, .f32⟩
  | .hbm, ⟨16, _⟩ => ⟨S1024x1028, .f32⟩
  | .hbm, ⟨17, _⟩ => ⟨S1024x1028, .f32⟩
  | .hbm, ⟨18, _⟩ => ⟨S1024x1028, .f32⟩
  | .hbm, ⟨19, _⟩ => ⟨S_, .f32⟩
  | .hbm, ⟨20, _⟩ => ⟨S1024x1028, .f32⟩
  | .hbm, ⟨21, _⟩ => ⟨S1024x1028, .f32⟩
  | .hbm, ⟨22, _⟩ => ⟨S_, .f32⟩
  | .hbm, ⟨23, _⟩ => ⟨S1024x1028, .f32⟩
  | .hbm, ⟨24, _⟩ => ⟨S1024x1028, .f32⟩
  | .hbm, ⟨25, _⟩ => ⟨S1024x1028, .f32⟩
  | .hbm, ⟨26, _⟩ => ⟨S_, .f32⟩
  | .hbm, ⟨27, _⟩ => ⟨S1024x1028, .f32⟩
  | .hbm, ⟨28, _⟩ => ⟨S1024x1028, .f32⟩
  | .hbm, ⟨29, _⟩ => ⟨S1024x1028, .f32⟩
  | .hbm, ⟨30, _⟩ => ⟨S_, .f32⟩
  | .hbm, ⟨31, _⟩ => ⟨S1024x1028, .f32⟩
  | .hbm, ⟨32, _⟩ => ⟨S1024x1028, .f32⟩
  | .hbm, ⟨33, _⟩ => ⟨S1024x1028, .f32⟩
  | .hbm, ⟨34, _⟩ => ⟨S_, .f32⟩
  | .hbm, ⟨35, _⟩ => ⟨S1024x1028, .f32⟩
  | .hbm, ⟨36, _⟩ => ⟨S1024x1028, .f32⟩
  | _, _ => ⟨S1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpGdnOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpGdnOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpGdnOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpSmall.lean ====
abbrev S1248x128 : Shape := ⟨2, ![1248, 128]⟩
abbrev S32x128 : Shape := ⟨2, ![32, 128]⟩

abbrev nBuf : Space → Nat
  | .hbm => 7
  | .vmem => 14
  | .smem => 0
  | _ => 0

abbrev bufTy : (tb : Table) → Fin (tcTables nBuf tb) → BufTy
  | .hbm, ⟨0, _⟩ => ⟨S1248x128, .f32⟩
  | .hbm, ⟨1, _⟩ => ⟨S1248x128, .f32⟩
  | .hbm, ⟨2, _⟩ => ⟨S1248x128, .f32⟩
  | .hbm, ⟨3, _⟩ => ⟨S1248x128, .f32⟩
  | .hbm, ⟨4, _⟩ => ⟨S1248x128, .f32⟩
  | .hbm, ⟨5, _⟩ => ⟨S1248x128, .f32⟩
  | .hbm, ⟨6, _⟩ => ⟨S1248x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S1248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![39], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpSmallRefIdeal.lean ====
abbrev S1248x128 : Shape := ⟨2, ![1248, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1248x128, .f32⟩
  | .hbm, ⟨1, _⟩ => ⟨S1248x128, .f32⟩
  | .hbm, ⟨2, _⟩ => ⟨S1248x128, .f32⟩
  | .hbm, ⟨3, _⟩ => ⟨S1248x128, .f32⟩
  | .hbm, ⟨4, _⟩ => ⟨S_, .f32⟩
  | .hbm, ⟨5, _⟩ => ⟨S1248x128, .f32⟩
  | .hbm, ⟨6, _⟩ => ⟨S1248x128, .f32⟩
  | .hbm, ⟨7, _⟩ => ⟨S_, .f32⟩
  | .hbm, ⟨8, _⟩ => ⟨S1248x128, .f32⟩
  | .hbm, ⟨9, _⟩ => ⟨S1248x128, .f32⟩
  | .hbm, ⟨10, _⟩ => ⟨S1248x128, .f32⟩
  | .hbm, ⟨11, _⟩ => ⟨S_, .f32⟩
  | .hbm, ⟨12, _⟩ => ⟨S1248x128, .f32⟩
  | .hbm, ⟨13, _⟩ => ⟨S1248x128, .f32⟩
  | .hbm, ⟨14, _⟩ => ⟨S1248x128, .f32⟩
  | .hbm, ⟨15, _⟩ => ⟨S_, .f32⟩
  | .hbm, ⟨16, _⟩ => ⟨S1248x128, .f32⟩
  | .hbm, ⟨17, _⟩ => ⟨S1248x128, .f32⟩
  | .hbm, ⟨18, _⟩ => ⟨S1248x128, .f32⟩
  | .hbm, ⟨19, _⟩ => ⟨S_, .f32⟩
  | .hbm, ⟨20, _⟩ => ⟨S1248x128, .f32⟩
  | .hbm, ⟨21, _⟩ => ⟨S1248x128, .f32⟩
  | .hbm, ⟨22, _⟩ => ⟨S_, .f32⟩
  | .hbm, ⟨23, _⟩ => ⟨S1248x128, .f32⟩
  | .hbm, ⟨24, _⟩ => ⟨S1248x128, .f32⟩
  | .hbm, ⟨25, _⟩ => ⟨S1248x128, .f32⟩
  | .hbm, ⟨26, _⟩ => ⟨S_, .f32⟩
  | .hbm, ⟨27, _⟩ => ⟨S1248x128, .f32⟩
  | .hbm, ⟨28, _⟩ => ⟨S1248x128, .f32⟩
  | .hbm, ⟨29, _⟩ => ⟨S1248x128, .f32⟩
  | .hbm, ⟨30, _⟩ => ⟨S_, .f32⟩
  | .hbm, ⟨31, _⟩ => ⟨S1248x128, .f32⟩
  | .hbm, ⟨32, _⟩ => ⟨S1248x128, .f32⟩
  | .hbm, ⟨33, _⟩ => ⟨S1248x128, .f32⟩
  | .hbm, ⟨34, _⟩ => ⟨S_, .f32⟩
  | .hbm, ⟨35, _⟩ => ⟨S1248x128, .f32⟩
  | .hbm, ⟨36, _⟩ => ⟨S1248x128, .f32⟩
  | _, _ => ⟨S1248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x1248x128 : Shape := ⟨3, ![8, 1248, 128]⟩
abbrev S1248x128 : Shape := ⟨2, ![1248, 128]⟩
abbrev S1x32x128 : Shape := ⟨3, ![1, 32, 128]⟩
abbrev S32x128 : Shape := ⟨2, ![32, 128]⟩

abbrev nBuf : Space → Nat
  | .hbm => 2
  | .vmem => 18
  | .smem => 0
  | _ => 0

abbrev bufTy : (tb : Table) → Fin (tcTables nBuf tb) → BufTy
  | .hbm, ⟨0, _⟩ => ⟨S8x1248x128, .f32⟩
  | .hbm, ⟨1, _⟩ => ⟨S1248x128, .f32⟩
  | .local _ .vmem, ⟨0, _⟩ => ⟨S1x32x128, .f32⟩
  | .local _ .vmem, ⟨1, _⟩ => ⟨S1x32x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128, .f32⟩
  | .local _ .vmem, ⟨5, _⟩ => ⟨S1x32x128, .f32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S1x32x128, .f32⟩
  | .local _ .vmem, ⟨11, _⟩ => ⟨S1x32x128, .f32⟩
  | .local _ .vmem, ⟨12, _⟩ => ⟨S1x32x128, .f32⟩
  | .local _ .vmem, ⟨13, _⟩ => ⟨S1x32x128, .f32⟩
  | .local _ .vmem, ⟨14, _⟩ => ⟨S1x32x128, .f32⟩
  | .local _ .vmem, ⟨15, _⟩ => ⟨S1x32x128, .f32⟩
  | .local _ .vmem, ⟨16, _⟩ => ⟨S32x128, .f32⟩
  | .local _ .vmem, ⟨17, _⟩ => ⟨S32x128, .f32⟩
  | _, _ => ⟨S8x1248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![39], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumSmallIdeal.lean ====
abbrev S8x1248x128 : Shape := ⟨3, ![8, 1248, 128]⟩
abbrev S1248x128 : Shape := ⟨2, ![1248, 128]⟩
abbrev S1x32x128 : Shape := ⟨3, ![1, 32, 128]⟩
abbrev S32x128 : Shape := ⟨2, ![32, 128]⟩

abbrev nBuf : Space → Nat
  | .hbm => 2
  | .vmem => 18
  | .smem => 0
  | _ => 0

abbrev bufTy : (tb : Table) → Fin (tcTables nBuf tb) → BufTy
  | .hbm, ⟨0, _⟩ => ⟨S8x1248x128, .f32⟩
  | .hbm, ⟨1, _⟩ => ⟨S1248x128, .f32⟩
  | .local _ .vmem, ⟨0, _⟩ => ⟨S1x32x128, .f32⟩
  | .local _ .vmem, ⟨1, _⟩ => ⟨S1x32x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128, .f32⟩
  | .local _ .vmem, ⟨5, _⟩ => ⟨S1x32x128, .f32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S1x32x128, .f32⟩
  | .local _ .vmem, ⟨11, _⟩ => ⟨S1x32x128, .f32⟩
  | .local _ .vmem, ⟨12, _⟩ => ⟨S1x32x128, .f32⟩
  | .local _ .vmem, ⟨13, _⟩ => ⟨S1x32x128, .f32⟩
  | .local _ .vmem, ⟨14, _⟩ => ⟨S1x32x128, .f32⟩
  | .local _ .vmem, ⟨15, _⟩ => ⟨S1x32x128, .f32⟩
  | .local _ .vmem, ⟨16, _⟩ => ⟨S32x128, .f32⟩
  | .local _ .vmem, ⟨17, _⟩ => ⟨S32x128, .f32⟩
  | _, _ => ⟨S8x1248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![39], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumSmallRefIdeal.lean ====
abbrev S8x1248x128 : Shape := ⟨3, ![8, 1248, 128]⟩
abbrev S_ : Shape := ⟨0, ![]⟩
abbrev S1248x128 : Shape := ⟨2, ![1248, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1248x128, .f32⟩
  | .hbm, ⟨1, _⟩ => ⟨S_, .f32⟩
  | .hbm, ⟨2, _⟩ => ⟨S1248x128, .f32⟩
  | _, _ => ⟨S8x1248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SibAbIn.lean ====
abbrev S2048x768 : Shape := ⟨2, ![2048, 768]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SibAbInIdeal.lean ====
abbrev S2048x768 : Shape := ⟨2, ![2048, 768]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SibAbInRefIdeal.lean ====
abbrev S2048x768 : Shape := ⟨2, ![2048, 768]⟩

abbrev nBuf : Space → Nat
  | .hbm => 3
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SibAbInRef.lean ====
abbrev S2048x768 : Shape := ⟨2, ![2048, 768]⟩

abbrev nBuf : Space → Nat
  | .hbm => 3
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumAbIn.lean ====
abbrev S4x512x768 : Shape := ⟨3, ![4, 512, 768]⟩
abbrev S512x768 : Shape := ⟨2, ![512, 768]⟩
abbrev S1x256x768 : Shape := ⟨3, ![1, 256, 768]⟩
abbrev S256x768 : Shape := ⟨2, ![256, 768]⟩

abbrev nBuf : Space → Nat
  | .hbm => 2
  | .vmem => 10
  | .smem => 0
  | _ => 0

abbrev bufTy : (tb : Table) → Fin (tcTables nBuf tb) → BufTy
  | .hbm, ⟨0, _⟩ => ⟨S4x512x768, .f32⟩
  | .hbm, ⟨1, _⟩ => ⟨S512x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumAbInIdeal.lean ====
abbrev S4x512x768 : Shape := ⟨3, ![4, 512, 768]⟩
abbrev S512x768 : Shape := ⟨2, ![512, 768]⟩
abbrev S1x256x768 : Shape := ⟨3, ![1, 256, 768]⟩
abbrev S256x768 : Shape := ⟨2, ![256, 768]⟩

abbrev nBuf : Space → Nat
  | .hbm => 2
  | .vmem => 10
  | .smem => 0
  | _ => 0

abbrev bufTy : (tb : Table) → Fin (tcTables nBuf tb) → BufTy
  | .hbm, ⟨0, _⟩ => ⟨S4x512x768, .f32⟩
  | .hbm, ⟨1, _⟩ => ⟨S512x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumAbInRefIdeal.lean ====
abbrev S4x512x768 : Shape := ⟨3, ![4, 512, 768]⟩
abbrev S_ : Shape := ⟨0, ![]⟩
abbrev S512x768 : Shape := ⟨2, ![512, 768]⟩

abbrev nBuf : Space → Nat
  | .hbm => 3
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S_, .f32⟩
  | .hbm, ⟨2, _⟩ => ⟨S512x768, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SibAbOut.lean ====
abbrev S512x1024 : Shape := ⟨2, ![512, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SibAbOutRef.lean ====
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumAbOut.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4x128x1024, .f32⟩
  | .hbm, ⟨1, _⟩ => ⟨S128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumAbOutRefIdeal.lean ====
abbrev S4x128x1024 : Shape := ⟨3, ![4, 128, 1024]⟩
abbrev S_ : Shape := ⟨0, ![]⟩
abbrev S128x1024 : Shape := ⟨2, ![128, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S_, .f32⟩
  | .hbm, ⟨2, _⟩ => ⟨S128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SibGlu.lean ====
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SibGluIdeal.lean ====
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SibGluRefIdeal.lean ====
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SibGluRef.lean ====
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumGlu.lean ====
abbrev S4x64x512 : Shape := ⟨3, ![4, 64, 512]⟩
abbrev S64x512 : Shape := ⟨2, ![64, 512]⟩
abbrev S1x64x512 : Shape := ⟨3, ![1, 64, 512]⟩

abbrev nBuf : Space → Nat
  | .hbm => 2
  | .vmem => 5
  | .smem => 0
  | _ => 0

abbrev bufTy : (tb : Table) → Fin (tcTables nBuf tb) → BufTy
  | .hbm, ⟨0, _⟩ => ⟨S4x64x512, .f32⟩
  | .hbm, ⟨1, _⟩ => ⟨S64x512, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S64x512, .f32⟩
  | _, _ => ⟨S4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumGluIdeal.lean ====
abbrev S4x64x512 : Shape := ⟨3, ![4, 64, 512]⟩
abbrev S64x512 : Shape := ⟨2, ![64, 512]⟩
abbrev S1x64x512 : Shape := ⟨3, ![1, 64, 512]⟩

abbrev nBuf : Space → Nat
  | .hbm => 2
  | .vmem => 5
  | .smem => 0
  | _ => 0

abbrev bufTy : (tb : Table) → Fin (tcTables nBuf tb) → BufTy
  | .hbm, ⟨0, _⟩ => ⟨S4x64x512, .f32⟩
  | .hbm, ⟨1, _⟩ => ⟨S64x512, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S64x512, .f32⟩
  | _, _ => ⟨S4x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumGluRefIdeal.lean ====
abbrev S4x64x512 : Shape := ⟨3, ![4, 64, 512]⟩
abbrev S_ : Shape := ⟨0, ![]⟩
abbrev S64x512 : Shape := ⟨2, ![64, 512]⟩

abbrev nBuf : Space → Nat
  | .hbm => 3
  | .vmem => 0
  | .smem => 0
  | _ => 0

abbrev bufTy : (tb : Table) → Fin (tcTables nBuf tb) → BufTy
  | .hbm, ⟨0, _⟩ => ⟨S4x64x512, .f32⟩
  | .hbm, ⟨1, _⟩ => ⟨S_, .f32⟩
  | .hbm, ⟨2, _⟩ => ⟨S64x512, .f32⟩
  | _, _ => ⟨S4x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SibGdnIn.lean ====
abbrev S2048x1028 : Shape := ⟨2, ![2048, 1028]⟩
abbrev S256x1028 : Shape := ⟨2, ![256, 1028]⟩

abbrev nBuf : Space → Nat
  | .hbm => 3
  | .vmem => 6
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SibGdnInIdeal.lean ====
abbrev S2048x1028 : Shape := ⟨2, ![2048, 1028]⟩
abbrev S256x1028 : Shape := ⟨2, ![256, 1028]⟩

abbrev nBuf : Space → Nat
  | .hbm => 3
  | .vmem => 6
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SibGdnInRefIdeal.lean ====
abbrev S2048x1028 : Shape := ⟨2, ![2048, 1028]⟩

abbrev nBuf : Space → Nat
  | .hbm => 3
  | .vmem => 0
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | _, _ => ⟨S2048x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SibGdnInRef.lean ====
abbrev S2048x1028 : Shape := ⟨2, ![2048, 1028]⟩

abbrev nBuf : Space → Nat
  | .hbm => 3
  | .vmem => 0
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | _, _ => ⟨S2048x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumGdnIn.lean ====
abbrev S4x512x1028 : Shape := ⟨3, ![4, 512, 1028]⟩
abbrev S512x1028 : Shape := ⟨2, ![512, 1028]⟩
abbrev S1x256x1028 : Shape := ⟨3, ![1, 256, 1028]⟩
abbrev S256x1028 : Shape := ⟨2, ![256, 1028]⟩

abbrev nBuf : Space → Nat
  | .hbm => 2
  | .vmem => 10
  | .smem => 0
  | _ => 0

abbrev bufTy : (tb : Table) → Fin (tcTables nBuf tb) → BufTy
  | .hbm, ⟨0, _⟩ => ⟨S4x512x1028, .f32⟩
  | .hbm, ⟨1, _⟩ => ⟨S512x1028, .f32⟩
  | .local _ .vmem, ⟨0, _⟩ => ⟨S1x256x1028, .f32⟩
  | .local _ .vmem, ⟨1, _⟩ => ⟨S1x256x1028, .f32⟩
  | .local _ .vmem, ⟨2, _⟩ => ⟨S1x256x1028, .f32⟩
  | .local _ .vmem, ⟨3, _⟩ => ⟨S1x256x1028, .f32⟩
  | .local _ .vmem, ⟨4, _⟩ => ⟨S1x256x1028, .f32⟩
  | .local _ .vmem, ⟨5, _⟩ => ⟨S1x256x1028, .f32⟩
  | .local _ .vmem, ⟨6, _⟩ => ⟨S1x256x1028, .f32⟩
  | .local _ .vmem, ⟨7, _⟩ => ⟨S1x256x1028, .f32⟩
  | .local _ .vmem, ⟨8, _⟩ => ⟨S256x1028, .f32⟩
  | .local _ .vmem, ⟨9, _⟩ => ⟨S256x1028, .f32⟩
  | _, _ => ⟨S4x512x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumGdnInIdeal.lean ====
abbrev S4x512x1028 : Shape := ⟨3, ![4, 512, 1028]⟩
abbrev S512x1028 : Shape := ⟨2, ![512, 1028]⟩
abbrev S1x256x1028 : Shape := ⟨3, ![1, 256, 1028]⟩
abbrev S256x1028 : Shape := ⟨2, ![256, 1028]⟩

abbrev nBuf : Space → Nat
  | .hbm => 2
  | .vmem => 10
  | .smem => 0
  | _ => 0

abbrev bufTy : (tb : Table) → Fin (tcTables nBuf tb) → BufTy
  | .hbm, ⟨0, _⟩ => ⟨S4x512x1028, .f32⟩
  | .hbm, ⟨1, _⟩ => ⟨S512x1028, .f32⟩
  | .local _ .vmem, ⟨0, _⟩ => ⟨S1x256x1028, .f32⟩
  | .local _ .vmem, ⟨1, _⟩ => ⟨S1x256x1028, .f32⟩
  | .local _ .vmem, ⟨2, _⟩ => ⟨S1x256x1028, .f32⟩
  | .local _ .vmem, ⟨3, _⟩ => ⟨S1x256x1028, .f32⟩
  | .local _ .vmem, ⟨4, _⟩ => ⟨S1x256x1028, .f32⟩
  | .local _ .vmem, ⟨5, _⟩ => ⟨S1x256x1028, .f32⟩
  | .local _ .vmem, ⟨6, _⟩ => ⟨S1x256x1028, .f32⟩
  | .local _ .vmem, ⟨7, _⟩ => ⟨S1x256x1028, .f32⟩
  | .local _ .vmem, ⟨8, _⟩ => ⟨S256x1028, .f32⟩
  | .local _ .vmem, ⟨9, _⟩ => ⟨S256x1028, .f32⟩
  | _, _ => ⟨S4x512x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumGdnInRefIdeal.lean ====
abbrev S4x512x1028 : Shape := ⟨3, ![4, 512, 1028]⟩
abbrev S_ : Shape := ⟨0, ![]⟩
abbrev S512x1028 : Shape := ⟨2, ![512, 1028]⟩

abbrev nBuf : Space → Nat
  | .hbm => 3
  | .vmem => 0
  | .smem => 0
  | _ => 0

abbrev bufTy : (tb : Table) → Fin (tcTables nBuf tb) → BufTy
  | .hbm, ⟨0, _⟩ => ⟨S4x512x1028, .f32⟩
  | .hbm, ⟨1, _⟩ => ⟨S_, .f32⟩
  | .hbm, ⟨2, _⟩ => ⟨S512x1028, .f32⟩
  | _, _ => ⟨S4x512x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SibGdnOut.lean ====
abbrev S512x1024 : Shape := ⟨2, ![512, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SibGdnOutRef.lean ====
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumGdnOut.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4x128x1024, .f32⟩
  | .hbm, ⟨1, _⟩ => ⟨S128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumGdnOutRefIdeal.lean ====
abbrev S4x128x1024 : Shape := ⟨3, ![4, 128, 1024]⟩
abbrev S_ : Shape := ⟨0, ![]⟩
abbrev S128x1024 : Shape := ⟨2, ![128, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S_, .f32⟩
  | .hbm, ⟨2, _⟩ => ⟨S128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ModLocal.lean ====
abbrev S8x1024 : Shape := ⟨2, ![8, 1024]⟩
abbrev S2x1024x768 : Shape := ⟨3, ![2, 1024, 768]⟩
abbrev S2x8x768 : Shape := ⟨3, ![2, 8, 768]⟩
abbrev S1x1024x768 : Shape := ⟨3, ![1, 1024, 768]⟩
abbrev S1024x768 : Shape := ⟨2, ![1024, 768]⟩
abbrev S8x768 : Shape := ⟨2, ![8, 768]⟩
abbrev S1x8x768 : Shape := ⟨3, ![1, 8, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x8x768, .f32⟩
  | .local _ .vmem, ⟨0, _⟩ => ⟨S8x1024, .f32⟩
  | .local _ .vmem, ⟨1, _⟩ => ⟨S2x1024x768, .f32⟩
  | .local _ .vmem, ⟨2, _⟩ => ⟨S2x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ModLocalRefIdeal.lean ====
abbrev S8x1024 : Shape := ⟨2, ![8, 1024]⟩
abbrev S2x1024x768 : Shape := ⟨3, ![2, 1024, 768]⟩
abbrev S_ : Shape := ⟨0, ![]⟩
abbrev S8x2x768 : Shape := ⟨3, ![8, 2, 768]⟩
abbrev S2x8x768 : Shape := ⟨3, ![2, 8, 768]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x2x768, .f32⟩
  | .hbm, ⟨12, _⟩ => ⟨S2x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== AdaGrad.lean ====
abbrev S8x1024 : Shape := ⟨2, ![8, 1024]⟩
abbrev S2x8x768 : Shape := ⟨3, ![2, 8, 768]⟩
abbrev S2x1024x768 : Shape := ⟨3, ![2, 1024, 768]⟩
abbrev S1x8x768 : Shape := ⟨3, ![1, 8, 768]⟩
abbrev S8x768 : Shape := ⟨2, ![8, 768]⟩
abbrev S1024x768 : Shape := ⟨2, ![1024, 768]⟩
abbrev S1x1024x768 : Shape := ⟨3, ![1, 1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .local _ .vmem, ⟨0, _⟩ => ⟨S8x1024, .f32⟩
  | .local _ .vmem, ⟨1, _⟩ => ⟨S2x8x768, .f32⟩
  | .local _ .vmem, ⟨2, _⟩ => ⟨S2x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaGradRefIdeal.lean ====
abbrev S8x1024 : Shape := ⟨2, ![8, 1024]⟩
abbrev S2x8x768 : Shape := ⟨3, ![2, 8, 768]⟩
abbrev S_ : Shape := ⟨0, ![]⟩
abbrev S1024x8 : Shape := ⟨2, ![1024, 8]⟩
abbrev S1024x2x768 : Shape := ⟨3, ![1024, 2, 768]⟩
abbrev S2x1024x768 : Shape := ⟨3, ![2, 1024, 768]⟩

abbrev nBuf : Space → Nat
  | .hbm => 14
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x8, .f32⟩
  | .hbm, ⟨12, _⟩ => ⟨S1024x2x768, .f32⟩
  | .hbm, ⟨13, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== DwAb.lean ====
abbrev S4096x1024 : Shape := ⟨2, ![4096, 1024]⟩
abbrev S4096x3072 : Shape := ⟨2, ![4096, 3072]⟩
abbrev S1024x3072 : Shape := ⟨2, ![1024, 3072]⟩
abbrev S512x1024 : Shape := ⟨2, ![512, 1024]⟩
abbrev S512x768 : Shape := ⟨2, ![512, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwAbIdeal.lean ====
abbrev S4096x1024 : Shape := ⟨2, ![4096, 1024]⟩
abbrev S4096x3072 : Shape := ⟨2, ![4096, 3072]⟩
abbrev S1024x3072 : Shape := ⟨2, ![1024, 3072]⟩
abbrev S512x1024 : Shape := ⟨2, ![512, 1024]⟩
abbrev S512x768 : Shape := ⟨2, ![512, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwAbRefIdeal.lean ====
abbrev S4096x1024 : Shape := ⟨2, ![4096, 1024]⟩
abbrev S4096x3072 : Shape := ⟨2, ![4096, 3072]⟩
abbrev S1024x4096 : Shape := ⟨2, ![1024, 4096]⟩
abbrev S1024x3072 : Shape := ⟨2, ![1024, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x4096, .bf16⟩
  | .hbm, ⟨3, _⟩ => ⟨S1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwGdn.lean ====
abbrev S4096x1024 : Shape := ⟨2, ![4096, 1024]⟩
abbrev S4096x4224 : Shape := ⟨2, ![4096, 4224]⟩
abbrev S1024x4224 : Shape := ⟨2, ![1024, 4224]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S1024x4224, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwGdnRefIdeal.lean ====
abbrev S4096x1024 : Shape := ⟨2, ![4096, 1024]⟩
abbrev S4096x4224 : Shape := ⟨2, ![4096, 4224]⟩
abbrev S1024x4096 : Shape := ⟨2, ![1024, 4096]⟩
abbrev S1024x4224 : Shape := ⟨2, ![1024, 4224]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S1024x4096, .bf16⟩
  | .hbm, ⟨3, _⟩ => ⟨S1024x4224, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FrontAb.lean ====
abbrev S4096x1024 : Shape := ⟨2, ![4096, 1024]⟩
abbrev S1x1024 : Shape := ⟨2, ![1, 1024]⟩
abbrev S1024x3072 : Shape := ⟨2, ![1024, 3072]⟩
abbrev S4096x512 : Shape := ⟨2, ![4096, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x3072 : Shape := ⟨2, ![256, 3072]⟩

abbrev nBuf : Space → Nat
  | .hbm => 12
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .bf16⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3072, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1024, .bf16⟩
  | .local _ .vmem, ⟨19, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FrontAbRefIdeal.lean ====
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S4096x512 : Shape := ⟨2, ![4096, 512]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x3072, .f32⟩
  | .hbm, ⟨28, _⟩ => ⟨S4096x3072, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== FrontGdn.lean ====
abbrev S4096x1024 : Shape := ⟨2, ![4096, 1024]⟩
abbrev S1x1024 : Shape := ⟨2, ![1, 1024]⟩
abbrev S1024x4224 : Shape := ⟨2, ![1024, 4224]⟩
abbrev S4096x3072 : Shape := ⟨2, ![4096, 3072]⟩
abbrev S4096x128 : Shape := ⟨2, ![4096, 128]⟩
abbrev S256x1024 : Shape := ⟨2, ![256, 1024]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S256x4224 : Shape := ⟨2, ![256, 4224]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4224, .bf16⟩
  | .hbm, ⟨5, _⟩ => ⟨S4096x3072, .f32⟩
  | .hbm, ⟨6, _⟩ => ⟨S4096x1024, .f32⟩
  | .hbm, ⟨7, _⟩ => ⟨S4096x128, .f32⟩
  | .hbm, ⟨8, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x4224, .bf16⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FrontGdnRefIdeal.lean ====
abbrev S4096x1024 : Shape := ⟨2, ![4096, 1024]⟩
abbrev S1x1024 : Shape := ⟨2, ![1, 1024]⟩
abbrev S1024x4224 : Shape := ⟨2, ![1024, 4224]⟩
abbrev S_ : Shape := ⟨0, ![]⟩
abbrev S4096 : Shape := ⟨1, ![4096]⟩
abbrev S4096x1 : Shape := ⟨2, ![4096, 1]⟩
abbrev S4096x4224 : Shape := ⟨2, ![4096, 4224]⟩
abbrev S4096x3072 : Shape := ⟨2, ![4096, 3072]⟩
abbrev S4096x128 : Shape := ⟨2, ![4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4224, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x4224, .f32⟩
  | .hbm, ⟨28, _⟩ => ⟨S4096x4224, .f32⟩
  | .hbm, ⟨29, _⟩ => ⟨S4096x3072, .f32⟩
  | .hbm, ⟨30, _⟩ => ⟨S4096x1024, .f32⟩
  | .hbm, ⟨31, _⟩ => ⟨S4096x128, .f32⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Zoh.lean ====
abbrev S32x64 : Shape := ⟨2, ![32, 64]⟩
abbrev S32x1 : Shape := ⟨2, ![32, 1]⟩
abbrev S512x64 : Shape := ⟨2, ![512, 64]⟩
abbrev S512x32 : Shape := ⟨2, ![512, 32]⟩

abbrev nBuf : Space → Nat
  | .hbm => 9
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S512x64, .f32⟩
  | .hbm, ⟨4, _⟩ => ⟨S512x64, .f32⟩
  | .hbm, ⟨5, _⟩ => ⟨S32x64, .f32⟩
  | .hbm, ⟨6, _⟩ => ⟨S32x64, .f32⟩
  | .hbm, ⟨7, _⟩ => ⟨S512x64, .f32⟩
  | .hbm, ⟨8, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S512x64, .f32⟩
  | .local _ .vmem, ⟨4, _⟩ => ⟨S512x64, .f32⟩
  | .local _ .vmem, ⟨5, _⟩ => ⟨S32x64, .f32⟩
  | .local _ .vmem, ⟨6, _⟩ => ⟨S32x64, .f32⟩
  | .local _ .vmem, ⟨7, _⟩ => ⟨S512x64, .f32⟩
  | .local _ .vmem, ⟨8, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ZohRefIdeal.lean ====
abbrev S32x64 : Shape := ⟨2, ![32, 64]⟩
abbrev S32x1 : Shape := ⟨2, ![32, 1]⟩
abbrev S512x64 : Shape := ⟨2, ![512, 64]⟩
abbrev S_ : Shape := ⟨0, ![]⟩
abbrev S32x16x64 : Shape := ⟨3, ![32, 16, 64]⟩
abbrev S32x1x64 : Shape := ⟨3, ![32, 1, 64]⟩

abbrev nBuf : Space → Nat
  | .hbm => 52
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S512x64, .f32⟩
  | .hbm, ⟨4, _⟩ => ⟨S512x64, .f32⟩
  | .hbm, ⟨5, _⟩ => ⟨S32x1, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S_, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S_, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x16x64, .f32⟩
  | .hbm, ⟨35, _⟩ => ⟨S32x16x64, .f32⟩
  | .hbm, ⟨36, _⟩ => ⟨S32x1x64, .f32⟩
  | .hbm, ⟨37, _⟩ => ⟨S32x16x64, .f32⟩
  | .hbm, ⟨38, _⟩ => ⟨S32x16x64, .f32⟩
  | .hbm, ⟨39, _⟩ => ⟨S32x1x64, .f32⟩
  | .hbm, ⟨40, _⟩ => ⟨S32x16x64, .f32⟩
  | .hbm, ⟨41, _⟩ => ⟨S32x16x64, .f32⟩
  | .hbm, ⟨42, _⟩ => ⟨S32x16x64, .f32⟩
  | .hbm, ⟨43, _⟩ => ⟨S512x64, .f32⟩
  | .hbm, ⟨44, _⟩ => ⟨S32x1x64, .f32⟩
  | .hbm, ⟨45, _⟩ => ⟨S32x16x64, .f32⟩
  | .hbm, ⟨46, _⟩ => ⟨S32x16x64, .f32⟩
  | .hbm, ⟨47, _⟩ => ⟨S32x1x64, .f32⟩
  | .hbm, ⟨48, _⟩ => ⟨S32x16x64, .f32⟩
  | .hbm, ⟨49, _⟩ => ⟨S32x16x64, .f32⟩
  | .hbm, ⟨50, _⟩ => ⟨S32x16x64, .f32⟩
  | .hbm, ⟨51, _⟩ => ⟨S512x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩

abbrev nD : Nat := 1
abbrev τ : Topo := Topo.v7x

variable {F : FTy → Type} [FloatOps F]
-- ==== RelBias.lean ====
abbrev S3x8x128x256 : Shape := ⟨4, ![3, 8, 128, 256]⟩
abbrev S3x32768 : Shape := ⟨2, ![3, 32768]⟩
abbrev S3x8x32768 : Shape := ⟨3, ![3, 8, 32768]⟩
abbrev S8x32 : Shape := ⟨2, ![8, 32]⟩
abbrev S32x32768 : Shape := ⟨2, ![32, 32768]⟩
abbrev S1x32768 : Shape := ⟨2, ![1, 32768]⟩
abbrev S1x8x32768 : Shape := ⟨3, ![1, 8, 32768]⟩
abbrev S8x32768 : Shape := ⟨2, ![8, 32768]⟩

abbrev nBuf : Space → Nat
  | .hbm => 4
  | .vmem => 3
  | .smem => 0
  | _ => 0

abbrev bufTy : (tb : Table) → Fin (tcTables nBuf tb) → BufTy
  | .hbm, ⟨0, _⟩ => ⟨S3x8x128x256, .f32⟩
  | .hbm, ⟨1, _⟩ => ⟨S3x32768, .f32⟩
  | .hbm, ⟨2, _⟩ => ⟨S3x8x32768, .f32⟩
  | .hbm, ⟨3, _⟩ => ⟨S8x32, .f32⟩
  | .local _ .vmem, ⟨0, _⟩ => ⟨S3x8x32768, .f32⟩
  | .local _ .vmem, ⟨1, _⟩ => ⟨S3x32768, .f32⟩
  | .local _ .vmem, ⟨2, _⟩ => ⟨S8x32, .f32⟩
  | _, _ => ⟨S3x8x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3x8x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RelBiasRefIdeal.lean ====
abbrev S3x8x128x256 : Shape := ⟨4, ![3, 8, 128, 256]⟩
abbrev S3x32768 : Shape := ⟨2, ![3, 32768]⟩
abbrev S3x8x32768 : Shape := ⟨3, ![3, 8, 32768]⟩
abbrev S3x1x1x32768 : Shape := ⟨4, ![3, 1, 1, 32768]⟩
abbrev S32 : Shape := ⟨1, ![32]⟩
abbrev S32x1 : Shape := ⟨2, ![32, 1]⟩
abbrev S1x1x32x1 : Shape := ⟨4, ![1, 1, 32, 1]⟩
abbrev S3x1x32x32768 : Shape := ⟨4, ![3, 1, 32, 32768]⟩
abbrev S3x8x1x32768 : Shape := ⟨4, ![3, 8, 1, 32768]⟩
abbrev S_ : Shape := ⟨0, ![]⟩
abbrev S3x8x32x32768 : Shape := ⟨4, ![3, 8, 32, 32768]⟩
abbrev S3x8x32 : Shape := ⟨3, ![3, 8, 32]⟩
abbrev S8x32 : Shape := ⟨2, ![8, 32]⟩

abbrev nBuf : Space → Nat
  | .hbm => 21
  | .vmem => 0
  | .smem => 0
  | _ => 0

abbrev bufTy : (tb : Table) → Fin (tcTables nBuf tb) → BufTy
  | .hbm, ⟨0, _⟩ => ⟨S3x8x128x256, .f32⟩
  | .hbm, ⟨1, _⟩ => ⟨S3x32768, .f32⟩
  | .hbm, ⟨2, _⟩ => ⟨S3x8x32768, .f32⟩
  | .hbm, ⟨3, _⟩ => ⟨S3x1x1x32768, .f32⟩
  | .hbm, ⟨4, _⟩ => ⟨S32, .f32⟩
  | .hbm, ⟨5, _⟩ => ⟨S32x1, .f32⟩
  | .hbm, ⟨6, _⟩ => ⟨S1x1x32x1, .f32⟩
  | .hbm, ⟨7, _⟩ => ⟨S3x1x32x32768, .f32⟩
  | .hbm, ⟨8, _⟩ => ⟨S3x1x32x32768, .f32⟩
  | .hbm, ⟨9, _⟩ => ⟨S3x1x32x32768, .i1⟩
  | .hbm, ⟨10, _⟩ => ⟨S3x8x1x32768, .f32⟩
  | .hbm, ⟨11, _⟩ => ⟨S_, .f32⟩
  | .hbm, ⟨12, _⟩ => ⟨S_, .f32⟩
  | .hbm, ⟨13, _⟩ => ⟨S3x8x32x32768, .i1⟩
  | .hbm, ⟨14, _⟩ => ⟨S3x8x32x32768, .f32⟩
  | .hbm, ⟨15, _⟩ => ⟨S3x8x32x32768, .f32⟩
  | .hbm, ⟨16, _⟩ => ⟨S3x8x32x32768, .f32⟩
  | .hbm, ⟨17, _⟩ => ⟨S_, .f32⟩
  | .hbm, ⟨18, _⟩ => ⟨S3x8x32, .f32⟩
  | .hbm, ⟨19, _⟩ => ⟨S_, .f32⟩
  | .hbm, ⟨20, _⟩ => ⟨S8x32, .f32⟩
  | _, _ => ⟨S3x8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== OutAb.lean ====
abbrev S3x4096x512 : Shape := ⟨3, ![3, 4096, 512]⟩
abbrev S4096x512 : Shape := ⟨2, ![4096, 512]⟩
abbrev S4096x1024 : Shape := ⟨2, ![4096, 1024]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S3x256x512 : Shape := ⟨3, ![3, 256, 512]⟩
abbrev S256x512 : Shape := ⟨2, ![256, 512]⟩
abbrev S256x1024 : Shape := ⟨2, ![256, 1024]⟩
abbrev S1x256x512 : Shape := ⟨3, ![1, 256, 512]⟩
abbrev S512x1024 : Shape := ⟨2, ![512, 1024]⟩
abbrev S256 : Shape := ⟨1, ![256]⟩
abbrev S256x1 : Shape := ⟨2, ![256, 1]⟩

abbrev nBuf : Space → Nat
  | .hbm => 15
  | .vmem => 24
  | .smem => 0
  | _ => 0

abbrev bufTy : (tb : Table) → Fin (tcTables nBuf tb) → BufTy
  | .hbm, ⟨0, _⟩ => ⟨S3x4096x512, .f32⟩
  | .hbm, ⟨1, _⟩ => ⟨S3x4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S1x512, .f32⟩
  | .hbm, ⟨8, _⟩ => ⟨S512x512, .bf16⟩
  | .hbm, ⟨9, _⟩ => ⟨S1x512, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .local _ .vmem, ⟨0, _⟩ => ⟨S3x256x512, .f32⟩
  | .local _ .vmem, ⟨1, _⟩ => ⟨S3x256x512, .f32⟩
  | .local _ .vmem, ⟨2, _⟩ => ⟨S3x256x512, .f32⟩
  | .local _ .vmem, ⟨3, _⟩ => ⟨S3x256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S1x512, .f32⟩
  | .local _ .vmem, ⟨15, _⟩ => ⟨S512x512, .bf16⟩
  | .local _ .vmem, ⟨16, _⟩ => ⟨S1x512, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S3x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutAbRefIdeal.lean ====
abbrev S3x4096x512 : Shape := ⟨3, ![3, 4096, 512]⟩
abbrev S4096x512 : Shape := ⟨2, ![4096, 512]⟩
abbrev S4096x1024 : Shape := ⟨2, ![4096, 1024]⟩
abbrev S1x512 : Shape := ⟨2, ![1, 512]⟩
abbrev S512x512 : Shape := ⟨2, ![512, 512]⟩
abbrev S1024x1024 : Shape := ⟨2, ![1024, 1024]⟩
abbrev S1x1024 : Shape := ⟨2, ![1, 1024]⟩
abbrev S_ : Shape := ⟨0, ![]⟩
abbrev S1x4096x512 : Shape := ⟨3, ![1, 4096, 512]⟩
abbrev S4096 : Shape := ⟨1, ![4096]⟩
abbrev S4096x1 : Shape := ⟨2, ![4096, 1]⟩

abbrev nBuf : Space → Nat
  | .hbm => 95
  | .vmem => 0
  | .smem => 0
  | _ => 0

abbrev bufTy : (tb : Table) → Fin (tcTables nBuf tb) → BufTy
  | .hbm, ⟨0, _⟩ => ⟨S3x4096x512, .f32⟩
  | .hbm, ⟨1, _⟩ => ⟨S3x4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S1x512, .f32⟩
  | .hbm, ⟨8, _⟩ => ⟨S512x512, .bf16⟩
  | .hbm, ⟨9, _⟩ => ⟨S1x512, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S4096x512, .f32⟩
  | .hbm, ⟨15, _⟩ => ⟨S1x4096x512, .f32⟩
  | .hbm, ⟨16, _⟩ => ⟨S3x4096x512, .f32⟩
  | .hbm, ⟨17, _⟩ => ⟨S3x4096x512, .f32⟩
  | .hbm, ⟨18, _⟩ => ⟨S3x4096x512, .f32⟩
  | .hbm, ⟨19, _⟩ => ⟨S_, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S1x4096x512, .f32⟩
  | .hbm, ⟨25, _⟩ => ⟨S3x4096x512, .f32⟩
  | .hbm, ⟨26, _⟩ => ⟨S3x4096x512, .f32⟩
  | .hbm, ⟨27, _⟩ => ⟨S3x4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S512x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1024x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | _, _ => ⟨S3x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩

abbrev nD : Nat := 1
abbrev τ : Topo := Topo.v7x

variable {F : FTy → Type} [FloatOps F]
-- ==== GradGdn.lean ====
abbrev S4096x1024 : Shape := ⟨2, ![4096, 1024]⟩
abbrev S1x1024 : Shape := ⟨2, ![1, 1024]⟩
abbrev S1024x4224 : Shape := ⟨2, ![1024, 4224]⟩
abbrev S4096x3072 : Shape := ⟨2, ![4096, 3072]⟩
abbrev S4096x128 : Shape := ⟨2, ![4096, 128]⟩
abbrev S4096x4224 : Shape := ⟨2, ![4096, 4224]⟩
abbrev S256x1024 : Shape := ⟨2, ![256, 1024]⟩
abbrev S256x3072 : Shape := ⟨2, ![256, 3072]⟩
abbrev S256x128 : Shape := ⟨2, ![256, 128]⟩
abbrev S256x4224 : Shape := ⟨2, ![256, 4224]⟩
abbrev S256 : Shape := ⟨1, ![256]⟩
abbrev S256x1 : Shape := ⟨2, ![256, 1]⟩
abbrev S1024x3072 : Shape := ⟨2, ![1024, 3072]⟩
abbrev S1024x1024 : Shape := ⟨2, ![1024, 1024]⟩
abbrev S1024x128 : Shape := ⟨2, ![1024, 128]⟩
abbrev S1024 : Shape := ⟨1, ![1024]⟩

abbrev nBuf : Space → Nat
  | .hbm => 14
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4224, .bf16⟩
  | .hbm, ⟨5, _⟩ => ⟨S4096x1024, .f32⟩
  | .hbm, ⟨6, _⟩ => ⟨S4096x3072, .f32⟩
  | .hbm, ⟨7, _⟩ => ⟨S4096x1024, .f32⟩
  | .hbm, ⟨8, _⟩ => ⟨S4096x128, .f32⟩
  | .hbm, ⟨9, _⟩ => ⟨S4096x4224, .bf16⟩
  | .hbm, ⟨10, _⟩ => ⟨S4096x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x4224, .bf16⟩
  | .local _ .vmem, ⟨6, _⟩ => ⟨S256x1024, .f32⟩
  | .local _ .vmem, ⟨7, _⟩ => ⟨S256x1024, .f32⟩
  | .local _ .vmem, ⟨8, _⟩ => ⟨S256x3072, .f32⟩
  | .local _ .vmem, ⟨9, _⟩ => ⟨S256x3072, .f32⟩
  | .local _ .vmem, ⟨10, _⟩ => ⟨S256x1024, .f32⟩
  | .local _ .vmem, ⟨11, _⟩ => ⟨S256x1024, .f32⟩
  | .local _ .vmem, ⟨12, _⟩ => ⟨S256x128, .f32⟩
  | .local _ .vmem, ⟨13, _⟩ => ⟨S256x128, .f32⟩
  | .local _ .vmem, ⟨14, _⟩ => ⟨S256x4224, .bf16⟩
  | .local _ .vmem, ⟨15, _⟩ => ⟨S256x4224, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4224 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== GradGdnRefIdeal.lean ====
abbrev S4096x1024 : Shape := ⟨2, ![4096, 1024]⟩
abbrev S1x1024 : Shape := ⟨2, ![1, 1024]⟩
abbrev S1024x4224 : Shape := ⟨2, ![1024, 4224]⟩
abbrev S4096x3072 : Shape := ⟨2, ![4096, 3072]⟩
abbrev S4096x128 : Shape := ⟨2, ![4096, 128]⟩
abbrev S4096x4224 : Shape := ⟨2, ![4096, 4224]⟩
abbrev S_ : Shape := ⟨0, ![]⟩
abbrev S4096 : Shape := ⟨1, ![4096]⟩
abbrev S4096x1 : Shape := ⟨2, ![4096, 1]⟩
abbrev S4224x1024 : Shape := ⟨2, ![4224, 1024]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4224, .bf16⟩
  | .hbm, ⟨5, _⟩ => ⟨S4096x1024, .f32⟩
  | .hbm, ⟨6, _⟩ => ⟨S4096x3072, .f32⟩
  | .hbm, ⟨7, _⟩ => ⟨S4096x1024, .f32⟩
  | .hbm, ⟨8, _⟩ => ⟨S4096x128, .f32⟩
  | .hbm, ⟨9, _⟩ => ⟨S4096x4224, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1024x4224, .f32⟩
  | .hbm, ⟨37, _⟩ => ⟨S4224x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x4224, .bf16⟩
  | .hbm, ⟨72, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== ZohGrad.lean ====
abbrev S32x64 : Shape := ⟨2, ![32, 64]⟩
abbrev S32x1 : Shape := ⟨2, ![32, 1]⟩
abbrev S512x64 : Shape := ⟨2, ![512, 64]⟩
abbrev S512x32 : Shape := ⟨2, ![512, 32]⟩
abbrev S64x32 : Shape := ⟨2, ![64, 32]⟩
abbrev S32 : Shape := ⟨1, ![32]⟩

abbrev nBuf : Space → Nat
  | .hbm => 14
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x1, .f32⟩
  | .hbm, ⟨3, _⟩ => ⟨S512x64, .f32⟩
  | .hbm, ⟨4, _⟩ => ⟨S512x64, .f32⟩
  | .hbm, ⟨5, _⟩ => ⟨S32x64, .f32⟩
  | .hbm, ⟨6, _⟩ => ⟨S32x64, .f32⟩
  | .hbm, ⟨7, _⟩ => ⟨S512x64, .f32⟩
  | .hbm, ⟨8, _⟩ => ⟨S512x64, .f32⟩
  | .hbm, ⟨9, _⟩ => ⟨S32x64, .f32⟩
  | .hbm, ⟨10, _⟩ => ⟨S32x64, .f32⟩
  | .hbm, ⟨11, _⟩ => ⟨S32x1, .f32⟩
  | .hbm, ⟨12, _⟩ => ⟨S512x64, .f32⟩
  | .hbm, ⟨13, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S512x64, .f32⟩
  | .local _ .vmem, ⟨4, _⟩ => ⟨S512x64, .f32⟩
  | .local _ .vmem, ⟨5, _⟩ => ⟨S32x64, .f32⟩
  | .local _ .vmem, ⟨6, _⟩ => ⟨S32x64, .f32⟩
  | .local _ .vmem, ⟨7, _⟩ => ⟨S512x64, .f32⟩
  | .local _ .vmem, ⟨8, _⟩ => ⟨S512x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S512x64, .f32⟩
  | .local _ .vmem, ⟨13, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ZohGradRefIdeal.lean ====
abbrev S32x64 : Shape := ⟨2, ![32, 64]⟩
abbrev S32x1 : Shape := ⟨2, ![32, 1]⟩
abbrev S512x64 : Shape := ⟨2, ![512, 64]⟩
abbrev S_ : Shape := ⟨0, ![]⟩
abbrev S32x16x64 : Shape := ⟨3, ![32, 16, 64]⟩
abbrev S32x1x64 : Shape := ⟨3, ![32, 1, 64]⟩
abbrev S32 : Shape := ⟨1, ![32]⟩

abbrev nBuf : Space → Nat
  | .hbm => 172
  | .vmem => 0
  | .smem => 0
  | _ => 0

abbrev hbmTy0_0 (i : Nat) : BufTy := match i % 128 with
  | 0 => ⟨S32x64, .f32⟩
  | 1 => ⟨S32x64, .f32⟩
  | 2 => ⟨S32x1, .f32⟩
  | 3 => ⟨S512x64, .f32⟩
  | 4 => ⟨S512x64, .f32⟩
  | 5 => ⟨S32x64, .f32⟩
  | 6 => ⟨S32x64, .f32⟩
  | 7 => ⟨S512x64, .f32⟩
  | 8 => ⟨S512x64, .f32⟩
  | 9 => ⟨S32x1, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S_, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S_, .f32⟩
  | 35 => ⟨S32x64, .f32⟩
  | 36 => ⟨S32x64, .f32⟩
  | 37 => ⟨S32x64, .f32⟩
  | 38 => ⟨S_, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S_, .f32⟩
  | 46 => ⟨S32x64, .f32⟩
  | 47 => ⟨S32x64, .f32⟩
  | 48 => ⟨S32x16x64, .f32⟩
  | 49 => ⟨S32x16x64, .f32⟩
  | 50 => ⟨S32x1x64, .f32⟩
  | 51 => ⟨S32x16x64, .f32⟩
  | 52 => ⟨S32x16x64, .f32⟩
  | 53 => ⟨S32x1x64, .f32⟩
  | 54 => ⟨S32x16x64, .f32⟩
  | 55 => ⟨S32x16x64, .f32⟩
  | 56 => ⟨S32x16x64, .f32⟩
  | 57 => ⟨S512x64, .f32⟩
  | 58 => ⟨S32x1x64, .f32⟩
  | 59 => ⟨S32x16x64, .f32⟩
  | 60 => ⟨S32x16x64, .f32⟩
  | 61 => ⟨S32x1x64, .f32⟩
  | 62 => ⟨S32x16x64, .f32⟩
  | 63 => ⟨S32x16x64, .f32⟩
  | 64 => ⟨S32x16x64, .f32⟩
  | 65 => ⟨S512x64, .f32⟩
  | 66 => ⟨S32x16x64, .f32⟩
  | 67 => ⟨S32x16x64, .f32⟩
  | 68 => ⟨S32x16x64, .f32⟩
  | 69 => ⟨S32x16x64, .f32⟩
  | 70 => ⟨S_, .f32⟩
  | 71 => ⟨S32x64, .f32⟩
  | 72 => ⟨S32x1x64, .f32⟩
  | 73 => ⟨S_, .f32⟩
  | 74 => ⟨S32x64, .f32⟩
  | 75 => ⟨S32x16x64, .f32⟩
  | 76 => ⟨S32x16x64, .f32⟩
  | 77 => ⟨S32x16x64, .f32⟩
  | 78 => ⟨S_, .f32⟩
  | 79 => ⟨S32x64, .f32⟩
  | 80 => ⟨S32x1x64, .f32⟩
  | 81 => ⟨S_, .f32⟩
  | 82 => ⟨S32x64, .f32⟩
  | 83 => ⟨S32x16x64, .f32⟩
  | 84 => ⟨S32x16x64, .f32⟩
  | 85 => ⟨S32x16x64, .f32⟩
  | 86 => ⟨S32x16x64, .f32⟩
  | 87 => ⟨S32x16x64, .f32⟩
  | 88 => ⟨S32x16x64, .f32⟩
  | 89 => ⟨S_, .f32⟩
  | 90 => ⟨S32x64, .f32⟩
  | 91 => ⟨S32x1x64, .f32⟩
  | 92 => ⟨S_, .f32⟩
  | 93 => ⟨S32x64, .f32⟩
  | 94 => ⟨S32x64, .f32⟩
  | 95 => ⟨S32x16x64, .f32⟩
  | 96 => ⟨S32x16x64, .f32⟩
  | 97 => ⟨S32x16x64, .f32⟩
  | 98 => ⟨S32x16x64, .f32⟩
  | 99 => ⟨S_, .f32⟩
  | 100 => ⟨S32x64, .f32⟩
  | 101 => ⟨S32x1x64, .f32⟩
  | 102 => ⟨S_, .f32⟩
  | 103 => ⟨S32x64, .f32⟩
  | 104 => ⟨S32x64, .f32⟩
  | 105 => ⟨S512x64, .f32⟩
  | 106 => ⟨S512x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S_, .f32⟩
  | 19 => ⟨S32, .f32⟩
  | 20 => ⟨S32x1, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S_, .f32⟩
  | 31 => ⟨S32, .f32⟩
  | 32 => ⟨S32x1, .f32⟩
  | 33 => ⟨S32x1, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S_, .f32⟩
  | 40 => ⟨S32, .f32⟩
  | 41 => ⟨S32x1, .f32⟩
  | 42 => ⟨S32x1, .f32⟩
  | 43 => ⟨S32x1, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_3 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_9 : Ref sig .tc := ⟨.hbm, 99, rfl⟩
abbrev main_v80 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_cst_11 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_cst_12 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_13 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩

abbrev nD : Nat := 1
abbrev τ : Topo := Topo.v7x

variable {F : FTy → Type} [FloatOps F]
-- ==== Proof.Start.lean ====
/-
  The launch of a program whose first operation is a kernel without windows that talks to the other devices, and
  whose remaining operations need not.

  The kernel's semaphores are scoped and no device signals that it has arrived: a transfer may land in a device's
  output, and credit its counter, before that device has taken a single step.  So everything the transfers touch
  (every device's counters of this kernel and every device's unscoped buffers) has to be shared out at the launch,
  in ONE step for the whole machine (`hglob`), before any device runs.
-/
module

public import Idealize.ShloMosaic.Lib.Pipeline.Regions

@[expose] public section

set_option Elab.async false

noncomputable section

namespace Exchange

open Idealize.ShloMosaic Idealize.ShloMosaic.Pipeline
open Idealize.SL
open Idealize.SL.BI (sProp bigSep bigSep_sep' bigSep_mono bigSep_erase)
open scoped Idealize.SL.BI
open Idealize.SL.BI.BIBase Idealize.SL.BI.Laws Idealize.SL.Sem Idealize.SL.ProofMode
open Idealize.SL.RA
open TcCoe
open PCS
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type} [Fintype P]
variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

/-- The ghost state of every pipeline but `p`, on device `c`. -/
def others [DecidableEq P] (c : Dev nD) : sProp 𝕄 := PerCore.ghostOn pcs a EP (Finset.univ.erase p) c

/-- What device `c` holds when the launch's global step is about to be taken, less what that step takes. -/
def kept (O₀ : Dev nD → CellTallies nD τ sig Ix) (c : Dev nD) : sProp 𝕄 :=
  iprop(scopedBufs (c.tc : Thread nD τ) ∗ PerCore.cellsSems0 (pinD pcs a) p c ∗ PerCore.idleSems0 (pinD pcs a) phinj p (fun _ => ho) c
    ∗ opIdle (c.tc : Thread nD τ) ∗ owes (c.tc : Thread nD τ) (O₀ c) ∅)

/-- What the global step takes of device `c`: its unscoped buffers and counters, the first kernel's own counters, the
    credit the other devices owe it, its random-number state and the certificate's ghost state. -/
def given (osem : K → SemLoc sig) (O₀ : Dev nD → CellTallies nD τ sig Ix) (m : (ℓ : Loc nD τ sig) → Buf Val ℓ) (g : Dev nD → PrngReg)
    (G : Dev nD → sProp 𝕄) (c : Dev nD) : sProp 𝕄 :=
  iprop(unscopedBufs c (fun b => m ((c.tc : Thread nD τ).loc b)) ∗ unscopedSems0 c ∗ ownSems0 osem c ∗ launchCred O₀ c
    ∗ prngReg c (g c) ∗ G c)

include hw in
/-- A device's initial holdings, sorted into what it keeps and what the global step takes. -/
theorem sort_core [Preorder Lvl] (O₀ : Dev nD → CellTallies nD τ sig Ix) (m : (ℓ : Loc nD τ sig) → Buf Val ℓ) (g : Dev nD → PrngReg) (c : Dev nD) :
    coreInit (Ix := Ix) (Name := Name) (U := U) (Lvl := Lvl) (owing O₀) 0 (⟨m, fun _ => 0, g⟩ : MemSt nD τ sig Val) (c.tc : Thread nD τ)
      ⊢ iprop(kept pcs a phinj p ho O₀ c ∗ given osem O₀ m g (fun _ => iprop(emp)) c) := by
  refine (coreInit_boundary_owing O₀ m g c).trans ?_
  unfold kept given boundary
  rw [PerCore.scopedSems0_split (pinD pcs a) phinj p (fun _ => hw) (fun _ => ho) c]
  iintro ⟨⟨Hsc, ⟨⟨Hcells, Hos⟩, Hidle⟩, Hidl⟩, Hub, Hus, HL, -, Hpr, Hcr⟩
  isplitl [Hsc Hcells Hidle Hidl HL]
  · isplitl [Hsc]; · iexact Hsc
    isplitl [Hcells]; · iexact Hcells
    isplitl [Hidle]; · iexact Hidle
    isplitl [Hidl] <;> iassumption
  isplitl [Hub]; · iexact Hub
  isplitl [Hus]; · iexact Hus
  isplitl [Hos]; · iexact Hos
  isplitl [Hcr]; · iexact Hcr
  isplitl [Hpr]; · iexact Hpr
  iempintro

local notation "𝔻" => Pipeline.defs pcs defs₀
local notation "𝕍" => Variants.lift 𝒱₀

include phinj hw ho in
/-- One device's run: the first kernel from the share `X c` the global step dealt it, then the continuation. -/
theorem run_core [DecidableEq P] [Preorder Lvl] [∀ e, Nonempty (Val e)] [Infinite Name] [EP.LandsIn (upEmb : UEmb _ 𝕄)]
    (hW : IsEmpty (Fin (pcs p).W)) (hK : IsEmpty (Fin (pcs p).pre.K))
    (k : PUnit → Prog (TpuEff nD τ sig Val (Sig Λ₀ P fun p => (pcs p).Adm) .tc) PUnit) (c : Dev nD)
    (hbody : BodyObligationLoose (pdats p c) defs₀ 𝒱₀ ι Set.univ)
    (O₀ : Dev nD → CellTallies nD τ sig Ix) (howed₀ : (pdats p c).owed 0 = O₀ c) (howedN : (pdats p c).owed (Fin.last _) = 0)
    (X Y Y' : Dev nD → sProp 𝕄)
    (hin : iprop(X c ∗ scopedRest (pinD pcs a c p).spec c) ⊢ (pdats p c).Φ 0)
    (hout : (pdats p c).Φ (Fin.last (pinD pcs a c p).N) ⊢ iprop(Y c ∗ ownSems0 osem c ∗ scopedRest (pinD pcs a c p).spec c))
    (htail : ∀ (Q' : PUnit → sProp 𝕄),
      iprop((iprop(boundary (c.tc : Thread nD τ) ∗ Y' c ∗ (∃ W, owes (c.tc : Thread nD τ) (0 : CellTallies nD τ sig Ix) W)) -∗ Q' ⟨⟩)
          ∗ boundary (c.tc : Thread nD τ) ∗ Y c ∗ (∃ W, owes (c.tc : Thread nD τ) (0 : CellTallies nD τ sig Ix) W) ∗ others pcs a p EP c)
        ⊢ wp frame (wpE 𝔻 𝕍 (c.tc : Thread nD τ) none) Set.univ (k ⟨⟩) Q') (Q : PUnit → sProp 𝕄) :
    iprop((iprop(boundary (c.tc : Thread nD τ) ∗ Y' c ∗ (∃ W, owes (c.tc : Thread nD τ) (0 : CellTallies nD τ sig Ix) W)) -∗ Q ⟨⟩)
        ∗ kept pcs a phinj p ho O₀ c ∗ X c ∗ PerCore.ghostOn pcs a EP Finset.univ c)
      ⊢ wp frame (wpE 𝔻 𝕍 (c.tc : Thread nD τ) none) Set.univ (.op (.customCall (entry p) ()) k) Q := by
  have hstage : ∀ (w : Fin (pcs p).W) s, (((pcs p).spec w).stage s).IsWhole := fun w => hW.elim w
  have hsb := PerCore.scopedBufs_split (pinD pcs a) p c hw.stage_scoped hw.stage_inj hstage (nD := nD) (τ := τ) (Ix := Ix) (Val := Val) (Name := Name) (U := U) (Lvl := Lvl)
  have hss := PerCore.scopedSems0_split (pinD pcs a) phinj p (fun _ => hw) (fun _ => ho) (Ix := Ix) (Val := Val) (Name := Name) (U := U) (Lvl := Lvl) c
  have hnoarr : (iprop(emp) : sProp 𝕄) ⊢ (pdats p c).arrays ((pdats p c).arrAt · 0) := by
    rw [PerCore.arrays_eq (pinD pcs a) pdats p c (fun w => hW.elim w) (fun w => hW.elim w)]
    haveI : IsEmpty (Fin (pinD pcs a c p).W) := hW
    rw [Finset.univ_eq_empty, BI.bigSep_empty]
    exact BI.Entails.refl _
  have hnopre : (iprop(emp) : sProp 𝕄) ⊢ prefHeld (pcs p).pre c (fun _ => fullShare.right) (a c p).1 := by
    unfold prefHeld
    rw [Finset.univ_eq_empty, BI.bigSep_empty]
    exact BI.Entails.refl _
  have hin' : iprop(X c ∗ prefHeld (pcs p).pre c (fun _ => fullShare.right) (a c p).1 ∗ scopedRest (pinD pcs a c p).spec c) ⊢ (pdats p c).Φ 0 := by
    have h : iprop(X c ∗ prefHeld (pcs p).pre c (fun _ => fullShare.right) (a c p).1 ∗ scopedRest (pinD pcs a c p).spec c)
        ⊢ iprop(X c ∗ scopedRest (pinD pcs a c p).spec c) := by
      iintro ⟨HX, -, HR⟩
      isplitl [HX] <;> iassumption
    exact h.trans hin
  have hout' : iprop((pdats p c).Φ (Fin.last (pinD pcs a c p).N) ∗ PerCore.cellsSems0 (pinD pcs a) p c ∗ Dat.staging (pinD pcs a c p) c ∗ PerCore.idleSems0 (pinD pcs a) phinj p (fun _ => ho) c)
      ⊢ iprop(Y c ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  have hpost : PerCore.EntryPost (pinD pcs a) pdats ι p c ⊢ iprop(∃ W, owes (c.tc : Thread nD τ) (0 : CellTallies nD τ sig Ix) W) := by
    unfold PerCore.EntryPost Dat.owesAt owesWithin
    rw [howedN]
    iintro ⟨-, ⟨%W, -, HW⟩⟩
    iexists W; iexact HW
  rw [PerCore.ghostOn_erase pcs a EP (Finset.mem_univ p) c]
  unfold kept
  iintro ⟨Hk, ⟨Hsc, Hcells, Hidle, Hidl, HL⟩, HX, ⟨⟨Hg, Ht⟩, Hrest⟩⟩
  ihave Hw := (PerCore.cellsWaits_intro (pinD pcs a) pdats ι p c (R := iprop(emp)) fun (w : Fin (pcs p).W) s t => absurd w.pos (by have := hW.false; intro h; exact hW.false ⟨0, h⟩)) $$ []
  · iempintro
  iapply (fupd_wp frame (wpE 𝔻 𝕍 (c.tc : Thread nD τ) none) Set.univ _ _)
  imod (PerCore.cellsInit_alloc (pinD pcs a) pdats EP phinj p c) $$ [Hcells Hg] with ⟨%κ, -, Hinit⟩
  · isplitl [Hcells] <;> iassumption
  imodintro
  iapply (PerCore.wp_customCall_entry_frame pcs a pdats ι EP κ phinj p defs₀ 𝒱₀ (fun _ => fullShare.right) c Set.univ (fun _ _ => Set.mem_univ _)
      hbody (fun w => hW.elim w) none (fun u h => nomatch h) (X := X c) (Y := Y c) (R := scopedRest (pinD pcs a c p).spec c) (I := PerCore.idleSems0 (pinD pcs a) phinj p (fun _ => ho) c)
      (Entails.of_eq hsb) hin' hout' (k := k) (Q := Q)) $$ [HL Hinit Ht HX Hidle Hsc Hw]
  · isplitl [HL Hinit Ht Hw]
    · unfold PerCore.EntryPre Dat.owesAt owesWithin
      rw [howed₀]
      isplitr; · iapply hnoarr; iempintro
      isplitl [HL]
      · iexists ∅; isplitr; · ipureintro; rw [Finset.coe_empty]; exact Set.empty_subset _
        iexact HL
      isplitl [Hw]; · iexact Hw
      isplitl [Hinit] <;> iassumption
    isplitr; · iapply hnopre; iempintro
    isplitl [HX]; · iexact HX
    isplitl [Hidle] <;> iassumption
  iintro ⟨Hpost, HY, Hss2, Hsc2⟩
  ihave HO := hpost $$ Hpost
  ihave Hb2 := (show iprop(scopedBufs (c.tc : Thread nD τ) ∗ scopedSems0 (c.tc : Thread nD τ) ∗ opIdle (c.tc : Thread nD τ))
      ⊢ boundary (c.tc : Thread nD τ) from BI.Entails.refl _) $$ [Hsc2 Hss2 Hidl]
  · isplitl [Hsc2]; · iexact Hsc2
    isplitl [Hss2] <;> iassumption
  iapply (htail Q)
  isplitl [Hk]; · iexact Hk
  isplitl [Hb2]; · iexact Hb2
  isplitl [HY]; · iexact HY
  isplitl [HO]; · iexact HO
  unfold others; iexact Hrest

include phinj hw ho in
/-- The launch theorem: a program `customCall (entry p) (); k c` whose first kernel has no windows, launched with every
    counter at zero.  The devices may owe `O₀`.  Before any device runs, `hglob` turns every device's buffers, counters and
    ghost state into the shares `X c`; the kernel's body runs from `X c` to `Y c`, the continuation from `Y c` to `Y' c`;
    what `Y'` shows of the final memory on every device, and that no counter but unscoped ones is off zero, gives `Q`. -/
theorem launch [DecidableEq P] [Preorder Lvl] [∀ e, Nonempty (Val e)] [Infinite Name] [EP.LandsIn (upEmb : UEmb _ 𝕄)]
    (hW : IsEmpty (Fin (pcs p).W)) (hK : IsEmpty (Fin (pcs p).pre.K))
    (m : (ℓ : Loc nD τ sig) → Buf Val ℓ) (g : Dev nD → PrngReg)
    (main : Dev nD → Prog (TpuEff nD τ sig Val (Sig Λ₀ P fun p => (pcs p).Adm) .tc) PUnit)
    (k : Dev nD → PUnit → Prog (TpuEff nD τ sig Val (Sig Λ₀ P fun p => (pcs p).Adm) .tc) PUnit)
    (hmain : ∀ c, main c = .op (.customCall (entry p) ()) (k c))
    (hbody : ∀ c, BodyObligationLoose (pdats p c) defs₀ 𝒱₀ ι Set.univ)
    (O₀ : Dev nD → CellTallies nD τ sig Ix) (howed₀ : ∀ c, (pdats p c).owed 0 = O₀ c) (howedN : ∀ c, (pdats p c).owed (Fin.last _) = 0)
    (G : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (X Y Y' : Dev nD → sProp 𝕄)
    (hglob : (bigSep Finset.univ fun c => given osem O₀ m g G c : sProp 𝕄) ⊢ |={Set.univ}=> bigSep Finset.univ X)
    (hin : ∀ c, iprop(X c ∗ scopedRest (pinD pcs a c p).spec c) ⊢ (pdats p c).Φ 0)
    (hout : ∀ c, (pdats p c).Φ (Fin.last (pinD pcs a c p).N) ⊢ iprop(Y c ∗ ownSems0 osem c ∗ scopedRest (pinD pcs a c p).spec c))
    (htail : ∀ (c : Dev nD) (Q' : PUnit → sProp 𝕄),
      iprop((iprop(boundary (c.tc : Thread nD τ) ∗ Y' c ∗ (∃ W, owes (c.tc : Thread nD τ) (0 : CellTallies nD τ sig Ix) W)) -∗ Q' ⟨⟩)
          ∗ boundary (c.tc : Thread nD τ) ∗ Y c ∗ (∃ W, owes (c.tc : Thread nD τ) (0 : CellTallies nD τ sig Ix) W) ∗ others pcs a p EP c)
        ⊢ wp frame (wpE 𝔻 𝕍 (c.tc : Thread nD τ) none) Set.univ (k c ⟨⟩) Q')
    (QY : Dev nD → MemSt nD τ sig Val → Prop)
    (hY : ∀ c (s' : Phys nD τ sig Val), iprop(Y' c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop(kept pcs a phinj p ho O₀ c ∗ X c ∗ PerCore.ghostOn pcs a EP Finset.univ c)
  let fin : Dev nD → sProp 𝕄 := fun c => iprop(Y' c ∗ boundary (c.tc : Thread nD τ))
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c => kept pcs a phinj p ho O₀ c) ∗ bigSep Finset.univ fun c => given osem O₀ m g (fun _ => iprop(emp)) c) := by
      rw [← bigSep_sep']
      exact bigSep_mono fun c _ => sort_core (Name := Name) (U := U) (Lvl := Lvl) pcs a phinj p hw ho O₀ m g c
    have hG1 (c : Dev nD) : iprop(given osem O₀ m g (fun _ => iprop(emp)) c ∗ G c) ⊢ given osem O₀ m g G c := by
      unfold given
      iintro ⟨⟨H1, H2, H3, H4, H5, -⟩, H6⟩
      isplitl [H1]; · iexact H1
      isplitl [H2]; · iexact H2
      isplitl [H3]; · iexact H3
      isplitl [H4]; · iexact H4
      isplitl [H5] <;> iassumption
    have hG : iprop((bigSep Finset.univ fun c => given osem O₀ m g (fun _ => iprop(emp)) c) ∗ bigSep Finset.univ G)
        ⊢ bigSep Finset.univ fun c => given osem O₀ m g G c := by
      rw [← bigSep_sep']
      exact bigSep_mono fun c _ => hG1 c
    iintro ⟨Hcores, Hu⟩
    ihave Hc := hcores $$ Hcores
    icases Hc with ⟨Hkept, Hgiven⟩
    imod hu₀ $$ Hu with ⟨HP, HG⟩
    imod (PerCore.fund_ghost (pinD pcs a) EP phinj) $$ HP with ⟨Hg, Ht⟩
    ihave Hgiven' := hG $$ [Hgiven HG]
    · isplitl [Hgiven] <;> iassumption
    imod hglob $$ Hgiven' with HX
    imodintro
    iexists ()
    isplitr []
    · simp only [pre, PerCore.ghostOn, bigSep_sep']
      isplitl [Hkept]; · iexact Hkept
      isplitl [HX]; · iexact HX
      isplitl [Hg] <;> iassumption
    · iempintro
  · rw [hmain c]
    simp only [pre]
    iintro H
    iapply (run_core pcs a pdats ι phinj p hw ho EP defs₀ 𝒱₀ hW hK (k c) c (hbody c) O₀ (howed₀ c) (howedN c) X Y Y' (hin c) (hout c) (htail c)
      (fun _ => post (liftTc fin BI.emp) (c.tc : Thread nD τ)))
    isplitr
    · iintro ⟨Hb, HY, HW⟩
      unfold post; simp only [liftTc_tc, fin]
      isplitr [HW]
      · isplitl [HY] <;> iassumption
      · iexact HW
    iexact H
  · iintro ⟨H, -, Hsc⟩ %s' HSI
    ihave %hsc := (scSems_read_zero m g s') $$ [Hsc HSI]
    · isplitl [Hsc] <;> iassumption
    imod (posts_fupd Finset.univ (fun c s' => boundary_read c s' (hY c s')) s') $$ [H HSI] with %h
    · isplitl [H] <;> iassumption
    imodintro
    ipureintro
    exact ⟨fun c => h c (Finset.mem_univ c), hsc⟩

end Exchange
-- ==== Proof.Protocol.lean ====
/-
  One exchange between the devices, as data: every device copies some buffers of its own into places of its own
  ("local copies") and some into places of its peers ("sends"), all of them started before any is waited for.  Send `j`
  of device `c` goes to `peer j c`; `peer j` is an involution, so what arrives at `c` under `j` comes from `peer j c`.

  Every copy has a counter of its own: `sS j` on the sender, `sR j` on the receiver, `sL i` for local copy `i`.  Each is
  raised exactly once (by the copy) and waited for exactly once (by the device that holds it).  What a counter hands over:

  * the sender's counter `sS j`  : the sender's share of the source, unchanged;
  * the receiver's counter `sR j`: the elements the copy wrote on the receiver, at their final contents;
  * the local counter `sL i`     : both of these.

  `m` is the memory the program starts from, `m'` the memory it ends with; that the copies produce `m'` is the
  assumption `hR`/`hL` of the theorems below, read through the views of the copy.
-/
module

public import proofs.«01_k».proof.Proof.Start
public import Idealize.ShloMosaic.Lib.Pipeline.Launch
public import Idealize.ShloMosaic.Lib.Pipeline.Kit
public import Idealize.ShloMosaic.Lib.Pipeline.BigSepL
public import Idealize.ShloMosaic.Lib.Tactic

@[expose] public section

set_option Elab.async false

noncomputable section

namespace Exchange

open Idealize.ShloMosaic Idealize.ShloMosaic.Pipeline
open Idealize.SL
open Idealize.SL.BI (sProp bigSep bigSepL bigSep_sep' bigSep_mono bigSep_erase bigSep_congr bigSep_univ_prod bigSep_univ_sum bigSep_univ_comm
  bigSep_univ_equiv bigSep_map bigSep_singleton bigSep_elim bigSep_fupd bigSepL_cons' bigSep_univ_eq_bigSepL)
open scoped Idealize.SL.BI
open Idealize.SL.BI.BIBase Idealize.SL.BI.Laws Idealize.SL.Sem Idealize.SL.ProofMode
open Idealize.SL.RA
open TcCoe
open Idealize.ShloMosaic.Rounds

/-- One copy: its source and target windows. -/
structure Copy (sig : RefSig) where
  s : Shape
  e : EltTy
  src : Memref sig .tc .hbm s e
  dst : Memref sig .tc .hbm s e
  hsrc : src.view.WordExact
  hdst : dst.view.WordExact
  hsc : dst.view.ref.isScScratch = false

variable (nD : Nat) (τ : Topo) (sig : RefSig) (Val : EltTy → Type) (Λ : Labels) (J I : Type) [Fintype J] [Fintype I] [DecidableEq J] [DecidableEq I]

/-- The counter of a slot: a send's on the sender, a send's on the receiver, a local copy's. -/
def semOf {sig : RefSig} {J I : Type} (sS sR : J → DmaSem sig) (sL : I → DmaSem sig) : J ⊕ J ⊕ I → SemLoc sig
  | .inl j => .dma (sS j)
  | .inr (.inl j) => .dma (sR j)
  | .inr (.inr i) => .dma (sL i)

/-- An exchange: peers, copies, counters, the bytes each copy credits, the share of its source each copy holds, and the
    waits as the kernel writes them. -/
structure Exch where
  peer : J → Dev nD → Dev nD
  peer_peer : ∀ j c, peer j (peer j c) = c
  rc : Dev nD → J → Copy sig
  lc : Dev nD → I → Copy sig
  sS : J → DmaSem sig
  sR : J → DmaSem sig
  sL : I → DmaSem sig
  inj : Function.Injective (semOf sS sR sL)
  N : J → ℕ
  NL : I → ℕ
  N_pos : ∀ j, 0 < N j
  NL_pos : ∀ i, 0 < NL i
  hN : ∀ c j, (rc c j).dst.view.dmaCredit = N j
  hNL : ∀ c i, (lc c i).dst.view.dmaCredit = NL i
  qs : J → PosShare TreeShare
  ql : I → PosShare TreeShare
  wS : Dev nD → J → TpuEff nD τ sig Val Λ .tc PUnit
  wR : Dev nD → J → TpuEff nD τ sig Val Λ .tc PUnit
  wL : Dev nD → I → TpuEff nD τ sig Val Λ .tc PUnit

/-- Operations one after another, then `rest`. -/
def runL {nD : Nat} {τ : Topo} {sig : RefSig} {Val : EltTy → Type} {Λ : Labels} {α : Type}
    (l : List (TpuEff nD τ sig Val Λ .tc PUnit)) (rest : Prog (TpuEff nD τ sig Val Λ .tc) α) : Prog (TpuEff nD τ sig Val Λ .tc) α :=
  l.foldr (fun e k => .op e fun _ => k) rest

/-- The rounds algebra of the exchange's counters. -/
abbrev UR : Type := URounds (GSem nD τ sig) Unit

namespace Exch

variable {nD τ sig Val Λ J I}
variable (X : Exch nD τ sig Val Λ J I)

abbrev osem : J ⊕ J ⊕ I → SemLoc sig := semOf X.sS X.sR X.sL
/-- Slot `k`'s counter on device `c`. -/
abbrev cell (ck : Dev nD × (J ⊕ J ⊕ I)) : GSem nD τ sig := ((ck.1.tc : Thread nD τ), X.osem ck.2)

abbrev kS (j : J) : J ⊕ J ⊕ I := .inl j
abbrev kR (j : J) : J ⊕ J ⊕ I := .inr (.inl j)
abbrev kL (i : I) : J ⊕ J ⊕ I := .inr (.inr i)

theorem cell_inj : Function.Injective (X.cell : Dev nD × (J ⊕ J ⊕ I) → GSem nD τ sig) := by
  rintro ⟨c, k⟩ ⟨c', k'⟩ h
  have h1 : c = c' := congrArg (fun g : GSem nD τ sig => g.1.1) h
  have h2 : k = k' := X.inj (congrArg Prod.snd h)
  rw [h1, h2]

/-- The operation that starts send `j`. -/
def opSend (c : Dev nD) (j : J) : TpuEff nD τ sig Val Λ .tc PUnit :=
  .enqueueDma (X.rc c j).src (.remote ((X.peer j c).tc : Thread nD τ) (X.rc c j).dst (.dma (X.sS j)) (X.rc c j).hsc) (.dma (X.sR j))
    (X.rc c j).hsrc (X.rc c j).hdst ⟨⟨rfl, Or.inl rfl⟩, trivial⟩

/-- The operation that starts local copy `i`. -/
def opLocal (c : Dev nD) (i : I) : TpuEff nD τ sig Val Λ .tc PUnit :=
  .enqueueDma (X.lc c i).src (.here (X.lc c i).dst) (.dma (X.sL i)) (X.lc c i).hsrc (X.lc c i).hdst ⟨Or.inl rfl, trivial⟩

/-- Device `c`'s run: start the local copies, start the sends, await what arrives, await the sends, await the local copies. -/
def prog (il : List I) (jl : List J) (c : Dev nD) : Prog (TpuEff nD τ sig Val Λ .tc) PUnit :=
  runL (il.map (X.opLocal c)) (runL (jl.map (X.opSend c)) (runL (jl.map (X.wR c)) (runL (jl.map (X.wS c)) (runL (il.map (X.wL c)) (.ret ⟨⟩)))))

local notation "UU" => UR nD τ sig × UR nD τ sig
local notation "𝕄" => MT nD τ sig Unit Val ℕ (UR nD τ sig × UR nD τ sig) ℕ

abbrev EP : Emb (UR nD τ sig) (MT nD τ sig Unit Val ℕ (UR nD τ sig × UR nD τ sig) ℕ) := embL
abbrev ER : Emb (UR nD τ sig) (MT nD τ sig Unit Val ℕ (UR nD τ sig × UR nD τ sig) ℕ) := embR

variable (m m' : (ℓ : Loc nD τ sig) → Buf Val ℓ)

/-- Send `j`'s source on `c`, at the contents memory `f` holds. -/
def srcPt (f : (ℓ : Loc nD τ sig) → Buf Val ℓ) (c : Dev nD) (j : J) : sProp 𝕄 :=
  ((X.rc c j).src.view.loc (c.tc : Thread nD τ)) ↦[(X.rc c j).src.view.set]{X.qs j} f ((X.rc c j).src.view.loc (c.tc : Thread nD τ))
/-- The elements of `c'` that send `j` of `c` writes, at the contents memory `f` holds. -/
def dstPt (f : (ℓ : Loc nD τ sig) → Buf Val ℓ) (j : J) (c c' : Dev nD) : sProp 𝕄 :=
  ((X.rc c j).dst.view.loc (c'.tc : Thread nD τ)) ↦[(X.rc c j).dst.view.set]{fullShare} f ((X.rc c j).dst.view.loc (c'.tc : Thread nD τ))
/-- Local copy `i`'s source. -/
def lsrcPt (f : (ℓ : Loc nD τ sig) → Buf Val ℓ) (c : Dev nD) (i : I) : sProp 𝕄 :=
  ((X.lc c i).src.view.loc (c.tc : Thread nD τ)) ↦[(X.lc c i).src.view.set]{X.ql i} f ((X.lc c i).src.view.loc (c.tc : Thread nD τ))
/-- Local copy `i`'s target. -/
def ldstPt (f : (ℓ : Loc nD τ sig) → Buf Val ℓ) (c : Dev nD) (i : I) : sProp 𝕄 :=
  ((X.lc c i).dst.view.loc (c.tc : Thread nD τ)) ↦[(X.lc c i).dst.view.set]{fullShare} f ((X.lc c i).dst.view.loc (c.tc : Thread nD τ))

/-- What slot `k`'s counter hands device `c`. -/
def pay (ck : Dev nD × (J ⊕ J ⊕ I)) : sProp 𝕄 :=
  match ck.2 with
  | .inl j => X.srcPt m ck.1 j
  | .inr (.inl j) => X.dstPt m' j (X.peer j ck.1) ck.1
  | .inr (.inr i) => iprop(X.ldstPt m' ck.1 i ∗ X.lsrcPt m ck.1 i)

/-- The bytes slot `k`'s counter is raised by. -/
def amt : J ⊕ J ⊕ I → ℕ
  | .inl j => X.N j
  | .inr (.inl j) => X.N j
  | .inr (.inr i) => X.NL i

theorem amt_pos : ∀ k, 0 < X.amt k
  | .inl j => X.N_pos j
  | .inr (.inl j) => X.N_pos j
  | .inr (.inr i) => X.NL_pos i

instance pay_storable (ck : Dev nD × (J ⊕ J ⊕ I)) : BI.Storable (upEmb : UEmb _ 𝕄) (X.pay m m' ck) := by
  obtain ⟨c, k⟩ := ck
  unfold pay srcPt dstPt ldstPt lsrcPt
  rcases k with j | j | i <;> dsimp only <;> infer_instance

open Classical in
/-- The schedule: each counter of the exchange has one round with one duty. -/
def sched : Rounds.Schedule (GSem nD τ sig) Unit 𝕄 where
  duties g r := if r = 0 ∧ ∃ ck, X.cell ck = g then {()} else ∅
  unitless _ := False
  amount g _ _ := if h : ∃ ck, X.cell ck = g then X.amt h.choose.2 else 1
  payload g _ _ := if h : ∃ ck, X.cell ck = g then X.pay m m' h.choose else iprop(emp)
  amount_pos g _ _ _ := by
    by_cases h : ∃ ck, X.cell ck = g
    · rw [dif_pos h]; exact X.amt_pos _
    · rw [dif_neg h]; exact Nat.one_pos

instance sched_storable (g : GSem nD τ sig) (r : ℕ) (d : Unit) : BI.Storable (upEmb : UEmb _ 𝕄) ((X.sched m m').payload g r d) := by
  classical
  by_cases h : ∃ ck, X.cell ck = g
  · have e : (X.sched m m').payload g r d = X.pay m m' h.choose := by dsimp only [sched]; rw [dif_pos h]
    rw [e]; infer_instance
  · have e : (X.sched m m').payload g r d = iprop(emp) := by dsimp only [sched]; rw [dif_neg h]
    rw [e]; infer_instance

section Sched
variable (ck : Dev nD × (J ⊕ J ⊕ I))

theorem choose_cell (h : ∃ ck', X.cell ck' = (X.cell ck : GSem nD τ sig)) : h.choose = ck := X.cell_inj h.choose_spec

theorem duties_cell : (X.sched m m').duties (X.cell ck) 0 = {()} := by dsimp only [sched]; exact if_pos ⟨rfl, ck, rfl⟩
theorem mem_duties : () ∈ (X.sched m m').duties (X.cell ck) 0 := by rw [duties_cell]; exact Finset.mem_singleton_self _
theorem duties_later (g : GSem nD τ sig) : ∀ r, 1 ≤ r → (X.sched m m').duties g r = ∅ :=
  fun r hr => by dsimp only [sched]; exact if_neg fun h => by omega
theorem amount_cell (r : ℕ) (d : Unit) : (X.sched m m').amount (X.cell ck) r d = X.amt ck.2 := by
  have h : ∃ ck', X.cell ck' = (X.cell ck : GSem nD τ sig) := ⟨ck, rfl⟩
  dsimp only [sched]; rw [dif_pos h, X.choose_cell ck h]
theorem payload_cell (r : ℕ) (d : Unit) : (X.sched m m').payload (X.cell ck) r d = X.pay m m' ck := by
  have h : ∃ ck', X.cell ck' = (X.cell ck : GSem nD τ sig) := ⟨ck, rfl⟩
  dsimp only [sched]; rw [dif_pos h, X.choose_cell ck h]
theorem expect_cell : (X.sched m m').expect (X.cell ck) 0 = X.amt ck.2 := by
  unfold Schedule.expect Schedule.amountOf; rw [duties_cell, Finset.sum_singleton, amount_cell]
theorem rest_cell : bigSep ((X.sched m m').duties (X.cell ck) 0 \ ∅) (fun u => (X.sched m m').payload (X.cell ck) 0 u) = X.pay m m' ck := by
  rw [Finset.sdiff_empty, duties_cell, bigSep_singleton, payload_cell]

end Sched

/-! ## A written window -/

/-- A window overwritten by `w` holds any contents that read back as `w`. -/
theorem written {s : Shape} {e : EltTy} {sp : Space} (v : Memref sig .tc sp s e) (c : Dev nD) (fd g : Buf Val (v.view.loc (c.tc : Thread nD τ)))
    (w : s.Idx → Val e) (h : v.view.read Val g = w) :
    ((v.view.loc (c.tc : Thread nD τ) ↦[v.view.set]{fullShare} (v.view.write Val fd w Finset.univ)) : sProp 𝕄)
      = (v.view.loc (c.tc : Thread nD τ) ↦[v.view.set]{fullShare} g) := by
  subst h
  refine pointsTo_congr fun i hi => ?_
  obtain ⟨x, -, rfl⟩ := Finset.mem_map.mp hi
  refine (View.write_emb_of_mem (v := v.view) fd (v.view.read Val g) (Finset.mem_univ x)).trans ?_
  rw [View.read_apply]
  exact (cast_cast _ _ _).trans (cast_eq _ _)

/-! ## A list of operations -/

variable (defs₀ : Defs nD τ sig Val Λ) (𝒱₀ : Variants)

/-- Operations `e b`, `b` in `l`, run one after another: if each takes `need b` and moves the state `St` on, giving `give b`,
    the whole list does, and `rest` goes on from there.  `R` is what every one of them may use. -/
theorem run_list {β : Type} (c : Dev nD) (e : β → TpuEff nD τ sig Val Λ .tc PUnit) (St : List β → sProp 𝕄) (need give : β → sProp 𝕄)
    (R : sProp 𝕄) [BI.Persistent R]
    (h : ∀ (b : β) (l : List β) (k : PUnit → Prog (TpuEff nD τ sig Val Λ .tc) PUnit) (Q : PUnit → sProp 𝕄),
      iprop(R ∗ need b ∗ St (b :: l)) ⊢ iprop(((give b ∗ St l) -∗ wp frame (wpE defs₀ 𝒱₀ (c.tc : Thread nD τ) none) Set.univ (k ⟨⟩) Q)
        -∗ wp frame (wpE defs₀ 𝒱₀ (c.tc : Thread nD τ) none) Set.univ (.op (e b) k) Q))
    (rest : Prog (TpuEff nD τ sig Val Λ .tc) PUnit) (Q : PUnit → sProp 𝕄) (l : List β) :
    iprop(R ∗ bigSepL l need ∗ St l) ⊢ iprop(((bigSepL l give ∗ St []) -∗ wp frame (wpE defs₀ 𝒱₀ (c.tc : Thread nD τ) none) Set.univ rest Q)
        -∗ wp frame (wpE defs₀ 𝒱₀ (c.tc : Thread nD τ) none) Set.univ (runL (l.map e) rest) Q) := by
  induction l with
  | nil =>
    iintro ⟨-, Hn, Hs⟩ Hk
    iapply Hk
    isplitl [Hn]; · iexact Hn
    iexact Hs
  | cons b l ih =>
    rw [bigSepL_cons', bigSepL_cons']
    iintro ⟨#HR, ⟨Hb, Hl⟩, Hs⟩ Hk
    iapply (h b l (fun _ => runL (l.map e) rest) Q) $$ [Hb Hs]
    · isplitr; · iexact HR
      isplitl [Hb] <;> iassumption
    iintro ⟨Hg, Hs⟩
    iapply ih $$ [Hl Hs]
    · isplitr; · iexact HR
      isplitl [Hl] <;> iassumption
    iintro ⟨Hgl, Hs⟩
    iapply Hk
    isplitl [Hg Hgl]
    · isplitl [Hg] <;> iassumption
    iexact Hs

/-- `run_list` over every member of a finite type, listed once each. -/
theorem run_univ {β : Type} [Fintype β] [DecidableEq β] (c : Dev nD) (e : β → TpuEff nD τ sig Val Λ .tc PUnit) (St : List β → sProp 𝕄) (need give : β → sProp 𝕄)
    (R : sProp 𝕄) [BI.Persistent R]
    (h : ∀ (b : β) (l : List β) (k : PUnit → Prog (TpuEff nD τ sig Val Λ .tc) PUnit) (Q : PUnit → sProp 𝕄),
      iprop(R ∗ need b ∗ St (b :: l)) ⊢ iprop(((give b ∗ St l) -∗ wp frame (wpE defs₀ 𝒱₀ (c.tc : Thread nD τ) none) Set.univ (k ⟨⟩) Q)
        -∗ wp frame (wpE defs₀ 𝒱₀ (c.tc : Thread nD τ) none) Set.univ (.op (e b) k) Q))
    (rest : Prog (TpuEff nD τ sig Val Λ .tc) PUnit) (Q : PUnit → sProp 𝕄) (l : List β) (hl : Finset.univ = l.toFinset) (hn : l.Nodup) :
    iprop(R ∗ bigSep Finset.univ need ∗ St l)
      ⊢ iprop(((bigSep Finset.univ give ∗ St []) -∗ wp frame (wpE defs₀ 𝒱₀ (c.tc : Thread nD τ) none) Set.univ rest Q)
        -∗ wp frame (wpE defs₀ 𝒱₀ (c.tc : Thread nD τ) none) Set.univ (runL (l.map e) rest) Q) := by
  rw [bigSep_univ_eq_bigSepL l hl hn, bigSep_univ_eq_bigSepL l hl hn]
  exact run_list defs₀ 𝒱₀ c e St need give R h rest Q l

/-! ## The steps -/

/-- What every step may use: every counter's invariant, and that every counter has reached round 0. -/
def records (κ : Dev nD × (J ⊕ J ⊕ I) → ℕ) : sProp 𝕄 :=
  iprop((bigSep Finset.univ fun ck => cellInv (ER (Val := Val)) (X.sched m m') (κ ck) (X.cell ck))
    ∗ bigSep Finset.univ fun ck => reached (ER (Val := Val)) (X.cell ck) 0)
instance records_persistent (κ : Dev nD × (J ⊕ J ⊕ I) → ℕ) : BI.Persistent (X.records m m' κ) := by unfold records; infer_instance

theorem inv_at (κ : Dev nD × (J ⊕ J ⊕ I) → ℕ) (ck : Dev nD × (J ⊕ J ⊕ I)) :
    (bigSep Finset.univ fun ck => (cellInv (ER (Val := Val)) (X.sched m m') (κ ck) (X.cell ck) : sProp 𝕄))
      ⊢ cellInv (ER (Val := Val)) (X.sched m m') (κ ck) (X.cell ck) :=
  bigSep_elim (Finset.mem_univ ck)
theorem reached_at (ck : Dev nD × (J ⊕ J ⊕ I)) :
    (bigSep Finset.univ fun ck => (reached (ER (Val := Val)) (X.cell ck) 0 : sProp 𝕄)) ⊢ reached (ER (Val := Val)) (X.cell ck) 0 :=
  bigSep_elim (Finset.mem_univ ck)

/-- What starting send `j` takes. -/
def sendNeed (c : Dev nD) (j : J) : sProp 𝕄 :=
  iprop(X.srcPt m c j ∗ X.dstPt m j c (X.peer j c) ∗ dutyTok (ER (Val := Val)) (X.cell (c, kS j)) 0 () ∗ dutyTok (ER (Val := Val)) (X.cell (X.peer j c, kR j)) 0 ())
/-- What starting local copy `i` takes. -/
def localNeed (c : Dev nD) (i : I) : sProp 𝕄 :=
  iprop(X.lsrcPt m c i ∗ X.ldstPt m c i ∗ dutyTok (ER (Val := Val)) (X.cell (c, kL i)) 0 ())
/-- What waiting on slot `k` takes. -/
def waitNeed (c : Dev nD) (k : J ⊕ J ⊕ I) : sProp 𝕄 :=
  iprop(cred (tallyAt (X.cell (c, k)) () (X.amt k)) ∗ atPos (ER (Val := Val)) (X.cell (c, k)) 0 ∅ 0)
/-- What waiting on slot `k` gives. -/
def waitGive (c : Dev nD) (k : J ⊕ J ⊕ I) : sProp 𝕄 := iprop(X.pay m m' (c, k) ∗ semVal (X.cell (c, k)) 0)

/-- What device `c` owes for send `j`. -/
def owed (c : Dev nD) (j : J) : CellTallies nD τ sig Unit := tallyAt (X.cell (X.peer j c, kR j)) () (X.N j)
/-- What device `c` owes at the start: the bytes of every send, on its receiver's counter. -/
def O₀ (c : Dev nD) : CellTallies nD τ sig Unit := ∑ j : J, X.owed c j

section Steps
variable (κ : Dev nD × (J ⊕ J ⊕ I) → ℕ) (c : Dev nD)
variable (hR : ∀ c j, (X.rc c j).dst.view.read Val (m' ((X.rc c j).dst.view.loc ((X.peer j c).tc : Thread nD τ)))
  = (X.rc c j).src.view.read Val (m ((X.rc c j).src.view.loc (c.tc : Thread nD τ))))
variable (hL : ∀ c i, (X.lc c i).dst.view.read Val (m' ((X.lc c i).dst.view.loc (c.tc : Thread nD τ)))
  = (X.lc c i).src.view.read Val (m ((X.lc c i).src.view.loc (c.tc : Thread nD τ))))

include hL in
theorem step_local (i : I) (l : List I) (k : PUnit → Prog (TpuEff nD τ sig Val Λ .tc) PUnit) (Q : PUnit → sProp 𝕄) :
    iprop(X.records m m' κ ∗ X.localNeed m c i ∗ emp)
      ⊢ iprop(((cred (tallyAt (X.cell (c, kL i)) () (X.NL i)) ∗ emp) -∗ wp frame (wpE defs₀ 𝒱₀ (c.tc : Thread nD τ) none) Set.univ (k ⟨⟩) Q)
        -∗ wp frame (wpE defs₀ 𝒱₀ (c.tc : Thread nD τ) none) Set.univ (.op (X.opLocal c i) k) Q) := by
  have hpay : iprop(((X.lc c i).dst.view.loc (c.tc : Thread nD τ) ↦[(X.lc c i).dst.view.set]{fullShare}
        ((X.lc c i).dst.view.write Val (m ((X.lc c i).dst.view.loc (c.tc : Thread nD τ))) ((X.lc c i).src.view.read Val (m ((X.lc c i).src.view.loc (c.tc : Thread nD τ)))) Finset.univ))
      ∗ ((X.lc c i).src.view.loc (c.tc : Thread nD τ) ↦[(X.lc c i).src.view.set]{X.ql i} m ((X.lc c i).src.view.loc (c.tc : Thread nD τ))))
      ⊢ (X.sched m m').payload (X.cell (c, kL i)) 0 () := by
    rw [payload_cell, written _ c _ _ _ (hL c i)]
    exact BI.Entails.refl _
  have hw := wp_copy_pointsTo (Q := Q) (k := k) 𝒱₀ (defs := defs₀) (ER (Val := Val)) (X.sched m m') (c.tc : Thread nD τ) none (Γ := .empty) (sem := .dma (X.sL i)) (κ := κ (c, kL i)) (d := ()) (r := 0)
    (src := (X.lc c i).src) (dst := (X.lc c i).dst) (hsrc := (X.lc c i).hsrc) (hdst := (X.lc c i).hdst) (hsem := ⟨Or.inl rfl, trivial⟩)
    (X.mem_duties m m' (c, kL i)) () (X.NL i) (X.hNL c i) (X.amount_cell m m' (c, kL i) 0 ()) hpay (Es := Set.univ)
  unfold records localNeed lsrcPt ldstPt
  iintro ⟨⟨#HI, #HR⟩, ⟨Hs, Hd, Ht⟩, -⟩ Hk
  ihave HI' := (X.inv_at m m' κ (c, kL i)) $$ HI
  ihave HR' := (X.reached_at (c, kL i)) $$ HR
  iapply hw $$ [HI' HR' Hs Hd Ht]
  · isplitl [HI']; · iexact HI'
    isplitl [Hs]; · iexact Hs
    isplitl [Hd]; · iexact Hd
    isplitl [Ht]; · iexact Ht
    iexact HR'
  iintro Hc
  iapply Hk
  isplitl [Hc]; · iexact Hc
  iempintro

/-- The devices' wires carry every transfer of the exchange. -/
def Routes (nD : ℕ) (τ : Topo) : Prop := ∀ c d : Dev nD, τ.routes (c.tc : Thread nD τ) (d.tc : Thread nD τ) = true

/-- What is still owed while the sends `l` are to come. -/
def owing' (l : List J) : sProp 𝕄 := iprop(∃ W, owes (c.tc : Thread nD τ) (l.map (X.owed c)).sum W)

include hR in
theorem step_send (hroute : Routes nD τ) (j : J) (l : List J) (k : PUnit → Prog (TpuEff nD τ sig Val Λ .tc) PUnit) (Q : PUnit → sProp 𝕄) :
    iprop(X.records m m' κ ∗ X.sendNeed m c j ∗ X.owing' c (j :: l))
      ⊢ iprop(((cred (tallyAt (X.cell (c, kS j)) () (X.N j)) ∗ X.owing' c l) -∗ wp frame (wpE defs₀ 𝒱₀ (c.tc : Thread nD τ) none) Set.univ (k ⟨⟩) Q)
        -∗ wp frame (wpE defs₀ 𝒱₀ (c.tc : Thread nD τ) none) Set.univ (.op (X.opSend c j) k) Q) := by
  have hpay₁ : ((X.rc c j).src.view.loc (c.tc : Thread nD τ) ↦[(X.rc c j).src.view.set]{X.qs j} m ((X.rc c j).src.view.loc (c.tc : Thread nD τ)))
      ⊢ (X.sched m m').payload (X.cell (c, kS j)) 0 () := by
    rw [payload_cell]; exact BI.Entails.refl _
  have hpay₂ : ((X.rc c j).dst.view.loc ((X.peer j c).tc : Thread nD τ) ↦[(X.rc c j).dst.view.set]{fullShare}
        ((X.rc c j).dst.view.write Val (m ((X.rc c j).dst.view.loc ((X.peer j c).tc : Thread nD τ)))
          ((X.rc c j).src.view.read Val (m ((X.rc c j).src.view.loc (c.tc : Thread nD τ)))) Finset.univ))
      ⊢ (X.sched m m').payload (X.cell (X.peer j c, kR j)) 0 () := by
    rw [payload_cell, written _ (X.peer j c) _ _ _ (hR c j)]
    show _ ⊢ X.dstPt m' j (X.peer j (X.peer j c)) (X.peer j c)
    rw [X.peer_peer]
    exact BI.Entails.refl _
  have hw (W : Waits sig Unit) := wp_send_pointsTo (Q := Q) (k := k) 𝒱₀ (defs := defs₀) (ER (Val := Val)) (X.sched m m') (c.tc : Thread nD τ) none (Γ := .empty) (c' := ((X.peer j c).tc : Thread nD τ))
    (sS := .dma (X.sS j)) (sem := .dma (X.sR j)) (κ₁ := κ (c, kS j)) (κ₂ := κ (X.peer j c, kR j)) (d₁ := ()) (r₁ := 0) (d₂ := ()) (r₂ := 0) (W := W)
    (src := (X.rc c j).src) (dst := (X.rc c j).dst) (hsc := (X.rc c j).hsc) (hsrc := (X.rc c j).hsrc) (hdst := (X.rc c j).hdst) (hsem := ⟨⟨rfl, Or.inl rfl⟩, trivial⟩)
    (X.mem_duties m m' (c, kS j)) (X.mem_duties m m' (X.peer j c, kR j)) () () (X.N j) (X.hN c j)
    (X.amount_cell m m' (c, kS j) 0 ()) (X.amount_cell m m' (X.peer j c, kR j) 0 ())
    (O₀ := ((j :: l).map (X.owed c)).sum) ((l.map (X.owed c)).sum) (by rw [List.map_cons, List.sum_cons, add_comm]; rfl) hpay₁ hpay₂ (Es := Set.univ) (hroute c (X.peer j c))
  unfold records sendNeed srcPt dstPt owing'
  iintro ⟨⟨#HI, #HR⟩, ⟨Hs, Hd, Ht, Ht'⟩, ⟨%W, HO⟩⟩ Hk
  ihave HI1 := (X.inv_at m m' κ (c, kS j)) $$ HI
  ihave HR1 := (X.reached_at (c, kS j)) $$ HR
  ihave HI2 := (X.inv_at m m' κ (X.peer j c, kR j)) $$ HI
  ihave HR2 := (X.reached_at (X.peer j c, kR j)) $$ HR
  iapply (hw W) $$ [HI1 HI2 HR1 HR2 Hs Hd Ht Ht' HO]
  · isplitl [HI1]; · iexact HI1
    isplitl [HI2]; · iexact HI2
    isplitl [Hs]; · iexact Hs
    isplitl [Hd]; · iexact Hd
    isplitl [HO]; · iexact HO
    isplitl [Ht]; · iexact Ht
    isplitl [HR1]; · iexact HR1
    isplitl [Ht']; · iexact Ht'
    iexact HR2
  iintro ⟨Hc, HO⟩
  iapply Hk
  isplitl [Hc]; · iexact Hc
  iexists W; iexact HO

/-- Nothing is owed any more. -/
def free : sProp 𝕄 := iprop(∃ W, owes (c.tc : Thread nD τ) (0 : CellTallies nD τ sig Unit) W)

/-- A wait on slot `k`: what the counter hands over, and the counter itself back at zero. -/
theorem step_wait (x : J ⊕ J ⊕ I) (w : TpuEff nD τ sig Val Λ .tc PUnit)
    (hw : ∀ K : PUnit → sProp 𝕄, wpE defs₀ 𝒱₀ (c.tc : Thread nD τ) none Set.univ w K = waitSpec (c.tc : Thread nD τ) Set.univ (X.osem x) (X.amt x) K)
    (k : PUnit → Prog (TpuEff nD τ sig Val Λ .tc) PUnit) (Q : PUnit → sProp 𝕄) :
    iprop(X.records m m' κ ∗ X.waitNeed c x ∗ free c)
      ⊢ iprop(((X.waitGive m m' c x ∗ free c) -∗ wp frame (wpE defs₀ 𝒱₀ (c.tc : Thread nD τ) none) Set.univ (k ⟨⟩) Q)
        -∗ wp frame (wpE defs₀ 𝒱₀ (c.tc : Thread nD τ) none) Set.univ (.op w k) Q) := by
  have hstep (W : Waits sig Unit) := wp_wait_rest_token (Q := Q) (k := k) 𝒱₀ (defs := defs₀) (ER (Val := Val)) (X.sched m m') (c.tc : Thread nD τ) none (Γ := .empty) (w := w) (sm := X.osem x)
    (k' := X.amt x) (Es := Set.univ) (κ := κ (c, x)) hw (Set.mem_univ _) () (O := 0) (W := W) (R := 0) (m := 0) (T := ∅)
    (by rw [Nat.zero_add]; exact (X.expect_cell m m' (c, x)).symm)
  have hclose := cell_close (ER (Val := Val)) (X.sched m m') (g := X.cell (c, x)) (κ := κ (c, x)) (Es := Set.univ) (Set.mem_univ _) (fun h => h) (R := 1) (X.duties_later m m' _)
  unfold records waitNeed waitGive free
  iintro ⟨⟨#HI, #HR⟩, ⟨Hc, Hat⟩, ⟨%W, HO⟩⟩ Hk
  ihave HI1 := (X.inv_at m m' κ (c, x)) $$ HI
  iapply (hstep W) $$ [HI1 Hc Hat HO]
  · isplitl [HI1]; · iexact HI1
    isplitl [Hc]; · iexact Hc
    isplitl [HO]; · iexact HO
    isplitr
    · rw [MayWait_zero]; iempintro
    iexact Hat
  rw [X.rest_cell m m' (c, x)]
  iintro ⟨HO, Hat, -, Hp⟩
  ihave HI2 := (X.inv_at m m' κ (c, x)) $$ HI
  iapply (fupd_wp frame (wpE defs₀ 𝒱₀ (c.tc : Thread nD τ) none) Set.univ _ _)
  imod hclose $$ [HI2 Hat] with Hv
  · isplitl [HI2] <;> iassumption
  imodintro
  iapply Hk
  isplitl [Hp Hv]
  · isplitl [Hp] <;> iassumption
  iexists _; iexact HO

/-- What device `c`'s run starts from. -/
def start : sProp 𝕄 :=
  iprop((bigSep Finset.univ fun i => X.localNeed m c i) ∗ (bigSep Finset.univ fun j => X.sendNeed m c j)
    ∗ (bigSep Finset.univ fun k => atPos (ER (Val := Val)) (X.cell (c, k)) 0 ∅ 0)
    ∗ bigSep Finset.univ fun j => cred (tallyAt (X.cell (c, kR j)) () (X.N j)))
/-- What it ends with. -/
def finish : sProp 𝕄 := bigSep Finset.univ fun k => X.waitGive m m' c k

/-- That the waits are waits on the exchange's own counters, for the bytes the copies credit. -/
structure Waits' : Prop where
  hwS : ∀ c j (K : PUnit → sProp 𝕄), wpE defs₀ 𝒱₀ (c.tc : Thread nD τ) none Set.univ (X.wS c j) K = waitSpec (c.tc : Thread nD τ) Set.univ (.dma (X.sS j)) (X.N j) K
  hwR : ∀ c j (K : PUnit → sProp 𝕄), wpE defs₀ 𝒱₀ (c.tc : Thread nD τ) none Set.univ (X.wR c j) K = waitSpec (c.tc : Thread nD τ) Set.univ (.dma (X.sR j)) (X.N j) K
  hwL : ∀ c i (K : PUnit → sProp 𝕄), wpE defs₀ 𝒱₀ (c.tc : Thread nD τ) none Set.univ (X.wL c i) K = waitSpec (c.tc : Thread nD τ) Set.univ (.dma (X.sL i)) (X.NL i) K

include hR hL in
/-- One device's run of the exchange. -/
theorem wp_prog (hroute : Routes nD τ) (hw : X.Waits' defs₀ 𝒱₀) (il : List I) (jl : List J) (hi : Finset.univ = il.toFinset) (hin : il.Nodup)
    (hj : Finset.univ = jl.toFinset) (hjn : jl.Nodup) (Q : PUnit → sProp 𝕄) :
    iprop(X.records m m' κ ∗ X.start m c ∗ (∃ W, owes (c.tc : Thread nD τ) (X.O₀ c) W))
      ⊢ iprop(((X.finish m m' c ∗ free c) -∗ Q ⟨⟩) -∗ wp frame (wpE defs₀ 𝒱₀ (c.tc : Thread nD τ) none) Set.univ (X.prog il jl c) Q) := by
  have h1 := run_univ defs₀ 𝒱₀ c (X.opLocal c) (fun _ => iprop(emp)) (X.localNeed m c) (fun i => cred (tallyAt (X.cell (c, kL i)) () (X.NL i)))
    (X.records m m' κ) (fun b l k Q => X.step_local m m' defs₀ 𝒱₀ κ c hL b l k Q)
    (runL (jl.map (X.opSend c)) (runL (jl.map (X.wR c)) (runL (jl.map (X.wS c)) (runL (il.map (X.wL c)) (.ret ⟨⟩))))) Q il hi hin
  have h2 := run_univ defs₀ 𝒱₀ c (X.opSend c) (X.owing' c) (X.sendNeed m c) (fun j => cred (tallyAt (X.cell (c, kS j)) () (X.N j)))
    (X.records m m' κ) (fun b l k Q => X.step_send m m' defs₀ 𝒱₀ κ c hR hroute b l k Q)
    (runL (jl.map (X.wR c)) (runL (jl.map (X.wS c)) (runL (il.map (X.wL c)) (.ret ⟨⟩)))) Q jl hj hjn
  have h3 := run_univ defs₀ 𝒱₀ c (X.wR c) (fun _ => free c) (fun j => X.waitNeed c (kR j)) (fun j => X.waitGive m m' c (kR j))
    (X.records m m' κ) (fun b l k Q => X.step_wait m m' defs₀ 𝒱₀ κ c (kR b) _ (hw.hwR c b) k Q)
    (runL (jl.map (X.wS c)) (runL (il.map (X.wL c)) (.ret ⟨⟩))) Q jl hj hjn
  have h4 := run_univ defs₀ 𝒱₀ c (X.wS c) (fun _ => free c) (fun j => X.waitNeed c (kS j)) (fun j => X.waitGive m m' c (kS j))
    (X.records m m' κ) (fun b l k Q => X.step_wait m m' defs₀ 𝒱₀ κ c (kS b) _ (hw.hwS c b) k Q)
    (runL (il.map (X.wL c)) (.ret ⟨⟩)) Q jl hj hjn
  have h5 := run_univ defs₀ 𝒱₀ c (X.wL c) (fun _ => free c) (fun i => X.waitNeed c (kL i)) (fun i => X.waitGive m m' c (kL i))
    (X.records m m' κ) (fun b l k Q => X.step_wait m m' defs₀ 𝒱₀ κ c (kL b) _ (hw.hwL c b) k Q)
    (.ret ⟨⟩) Q il hi hin
  have hO : X.O₀ c = (jl.map (X.owed c)).sum := by
    unfold O₀; rw [hj]; exact List.sum_toFinset _ hjn
  have hstart : X.start m c ⊢ iprop((bigSep Finset.univ fun i => X.localNeed m c i) ∗ (bigSep Finset.univ fun j => X.sendNeed m c j)
      ∗ ((bigSep Finset.univ fun j => atPos (ER (Val := Val)) (X.cell (c, kS j)) 0 ∅ 0)
        ∗ (bigSep Finset.univ fun j => atPos (ER (Val := Val)) (X.cell (c, kR j)) 0 ∅ 0)
        ∗ (bigSep Finset.univ fun i => atPos (ER (Val := Val)) (X.cell (c, kL i)) 0 ∅ 0))
      ∗ bigSep Finset.univ fun j => cred (tallyAt (X.cell (c, kR j)) () (X.N j))) := by
    unfold start; rw [bigSep_univ_sum, bigSep_univ_sum]; exact BI.Entails.refl _
  have hfin : iprop((bigSep Finset.univ fun j => X.waitGive m m' c (kS j)) ∗ (bigSep Finset.univ fun j => X.waitGive m m' c (kR j))
      ∗ (bigSep Finset.univ fun i => X.waitGive m m' c (kL i))) ⊢ X.finish m m' c := by
    unfold finish; rw [bigSep_univ_sum, bigSep_univ_sum]; exact BI.Entails.refl _
  have hneed {β : Type} [Fintype β] (f : β → J ⊕ J ⊕ I) : iprop((bigSep Finset.univ fun b => cred (tallyAt (X.cell (c, f b)) () (X.amt (f b))))
      ∗ bigSep Finset.univ fun b => atPos (ER (Val := Val)) (X.cell (c, f b)) 0 ∅ 0) ⊢ (bigSep Finset.univ fun b => X.waitNeed c (f b) : sProp 𝕄) := by
    rw [← bigSep_sep']; exact BI.Entails.refl _
  rw [hO]
  unfold prog
  iintro ⟨#HR, Hst, HO⟩ Hk
  ihave Hst' := hstart $$ Hst
  icases Hst' with ⟨Hl, Hs, ⟨HaS, HaR, HaL⟩, Hcr⟩
  iapply h1 $$ [Hl]
  · isplitr; · iexact HR
    isplitl; · iexact Hl
    iempintro
  iintro ⟨HcL, -⟩
  iapply h2 $$ [Hs HO]
  · isplitr; · iexact HR
    isplitl [Hs]; · iexact Hs
    unfold owing'; iexact HO
  iintro ⟨HcS, HO⟩
  iapply h3 $$ [Hcr HaR HO]
  · isplitr; · iexact HR
    isplitl [Hcr HaR]
    · iapply (hneed kR); isplitl [Hcr]; · iexact Hcr
      iexact HaR
    unfold owing' free; iexact HO
  iintro ⟨HgR, HO⟩
  iapply h4 $$ [HcS HaS HO]
  · isplitr; · iexact HR
    isplitl [HcS HaS]
    · iapply (hneed kS); isplitl [HcS]; · iexact HcS
      iexact HaS
    iexact HO
  iintro ⟨HgS, HO⟩
  iapply h5 $$ [HcL HaL HO]
  · isplitr; · iexact HR
    isplitl [HcL HaL]
    · iapply (hneed kL); isplitl [HcL]; · iexact HcL
      iexact HaL
    iexact HO
  iintro ⟨HgL, HO⟩
  rw [wp_ret]
  imodintro
  iapply Hk
  isplitl [HgR HgS HgL]
  · iapply hfin
    isplitl [HgS]; · iexact HgS
    isplitl [HgR] <;> iassumption
  iexact HO

end Steps

end Exch

end Exchange
-- ==== Proof.Deal.lean ====
/-
  The launch of an exchange: what is shared out among the devices before any of them runs, and the run of a whole
  program whose first operation is an exchange.
-/
module

public import proofs.«01_k».proof.Proof.Protocol

@[expose] public section

set_option Elab.async false

noncomputable section

namespace Exchange

open Idealize.ShloMosaic Idealize.ShloMosaic.Pipeline
open Idealize.SL
open Idealize.SL.BI (sProp bigSep bigSepL bigSep_sep' bigSep_mono bigSep_erase bigSep_congr bigSep_univ_prod bigSep_univ_sum bigSep_univ_comm
  bigSep_univ_equiv bigSep_map bigSep_singleton bigSep_elim bigSep_fupd bigSepL_cons' bigSep_univ_eq_bigSepL bigSep_with_persistent)
open scoped Idealize.SL.BI
open Idealize.SL.BI.BIBase Idealize.SL.BI.Laws Idealize.SL.Sem Idealize.SL.ProofMode
open Idealize.SL.RA
open TcCoe
open PCS
open Idealize.ShloMosaic.Rounds

namespace Exch

variable {nD : Nat} {τ : Topo} {sig : RefSig} {Val : EltTy → Type} {Λ : Labels} {J I : Type} [Fintype J] [Fintype I] [DecidableEq J] [DecidableEq I]
variable (X : Exch nD τ sig Val Λ J I)

local notation "𝕄" => MT nD τ sig Unit Val ℕ (UR nD τ sig × UR nD τ sig) ℕ

variable (m m' : (ℓ : Loc nD τ sig) → Buf Val ℓ) (g : Dev nD → PrngReg)
-- what a device holds besides the exchange's buffers
variable (Rest : Dev nD → sProp (MT nD τ sig Unit Val ℕ (UR nD τ sig × UR nD τ sig) ℕ))

/-! ## Ghost state -/

/-- The exchange's ghost state on device `c`. -/
def G (c : Dev nD) : sProp 𝕄 :=
  iprop((bigSep Finset.univ fun k => roundState (ER (Val := Val)) (X.sched m m') (X.cell (c, k)) 0)
    ∗ (bigSep Finset.univ fun k => reached (ER (Val := Val)) (X.cell (c, k)) 0)
    ∗ (bigSep Finset.univ fun k => atPos (ER (Val := Val)) (X.cell (c, k)) 0 ∅ 0)
    ∗ (bigSep Finset.univ fun k => dutyTok (ER (Val := Val)) (X.cell (c, k)) 0 ()))

def cells : Finset (GSem nD τ sig) := Finset.univ.map ⟨X.cell, X.cell_inj⟩
def toks : Finset (GSem nD τ sig × ℕ × Unit) :=
  Finset.univ.map ⟨fun ck : Dev nD × (J ⊕ J ⊕ I) => (X.cell ck, 0, ()), fun _ _ h => X.cell_inj (congrArg Prod.fst h)⟩

theorem fund : BI.own (ER (Val := Val) (initOf X.cells X.toks)) ⊢ (|==> bigSep Finset.univ (X.G m m') : sProp 𝕄) := by
  have hX (Φ : GSem nD τ sig → sProp 𝕄) : bigSep X.cells Φ = bigSep Finset.univ fun c : Dev nD => bigSep Finset.univ fun k => Φ (X.cell (c, k)) := by
    unfold cells; rw [bigSep_map, bigSep_univ_prod]; rfl
  have hT : bigSep X.toks (fun x => (dutyTok (ER (Val := Val)) x.1 x.2.1 x.2.2 : sProp 𝕄))
      = bigSep Finset.univ fun c : Dev nD => bigSep Finset.univ fun k => dutyTok (ER (Val := Val)) (X.cell (c, k)) 0 () := by
    unfold toks; rw [bigSep_map, bigSep_univ_prod]; rfl
  iintro HX
  imod (Rounds.fund (ER (Val := Val)) (X.sched m m') X.cells X.toks) $$ HX with ⟨Hst, Hr, Hat, Htok⟩
  imodintro
  ihave Hst' := (Entails.of_eq (hX fun g => roundState (ER (Val := Val)) (X.sched m m') g 0)) $$ Hst
  ihave Hat' := (Entails.of_eq (hX fun g => atPos (ER (Val := Val)) g 0 ∅ 0)) $$ Hat
  ihave Hr' := (Entails.of_eq (hX fun g => reached (ER (Val := Val)) g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-! ## The global step -/

/-- What the run of a device carries along untouched. -/
def carried (c : Dev nD) : sProp 𝕄 := iprop(unscopedSems0 c ∗ prngReg c (g c) ∗ Rest c)

/-- Device `c`'s share of the launch. -/
def share (c : Dev nD) : sProp 𝕄 := iprop((∃ κ, X.records m m' κ) ∗ X.start m c ∗ carried g Rest c)

/-- A device's buffers, dealt out: sources, local sources, what its peers write, local targets, the rest. -/
def dealt (m₁ m₂ : (ℓ : Loc nD τ sig) → Buf Val ℓ) (c : Dev nD) : sProp 𝕄 :=
  iprop((bigSep Finset.univ fun j => X.srcPt m₁ c j) ∗ (bigSep Finset.univ fun i => X.lsrcPt m₁ c i)
    ∗ (bigSep Finset.univ fun j => X.dstPt m₂ j (X.peer j c) c) ∗ (bigSep Finset.univ fun i => X.ldstPt m₂ c i))

/-- Over all devices, what each has of its peers' is what each peer has of it. -/
theorem around (Φ : J → Dev nD → Dev nD → sProp 𝕄) :
    (bigSep Finset.univ fun c => bigSep Finset.univ fun j => Φ j (X.peer j c) c) = bigSep Finset.univ fun c => bigSep Finset.univ fun j => Φ j c (X.peer j c) := by
  rw [BI.bigSep_univ_comm, BI.bigSep_univ_comm (fun c j => Φ j c (X.peer j c))]
  refine bigSep_congr fun j _ => ?_
  rw [bigSep_univ_equiv (⟨X.peer j, X.peer j, X.peer_peer j, X.peer_peer j⟩ : Dev nD ≃ Dev nD) (fun c => Φ j c (X.peer j c))]
  refine bigSep_congr fun c _ => ?_
  show Φ j (X.peer j c) c = Φ j (X.peer j c) (X.peer j (X.peer j c))
  rw [X.peer_peer]

theorem creds (c : Dev nD) : (launchCred X.O₀ c : sProp 𝕄) ⊢ bigSep Finset.univ fun j => cred (tallyAt (X.cell (c, kR j)) () (X.N j)) := by
  have e : (launchCred X.O₀ c : sProp 𝕄) = bigSep Finset.univ fun j => launchCred (fun d => X.owed d j) c := launchCred_sum Finset.univ (fun j d => X.owed d j) c
  rw [e]
  exact bigSep_mono fun j _ => launchCred_tallyAt (.dma (X.sR j)) (X.peer j) (X.peer j) (X.peer_peer j) (X.peer_peer j) () (X.N j) c

/-- What device `c` keeps of the launch before the devices' shares are dealt round. -/
def kept' (c : Dev nD) : sProp 𝕄 :=
  iprop((bigSep Finset.univ fun k => reached (ER (Val := Val)) (X.cell (c, k)) 0)
    ∗ (bigSep Finset.univ fun k => atPos (ER (Val := Val)) (X.cell (c, k)) 0 ∅ 0)
    ∗ ((bigSep Finset.univ fun j => dutyTok (ER (Val := Val)) (X.cell (c, kS j)) 0 ())
      ∗ (bigSep Finset.univ fun j => dutyTok (ER (Val := Val)) (X.cell (c, kR j)) 0 ())
      ∗ (bigSep Finset.univ fun i => dutyTok (ER (Val := Val)) (X.cell (c, kL i)) 0 ()))
    ∗ ((bigSep Finset.univ fun j => X.srcPt m c j) ∗ (bigSep Finset.univ fun i => X.lsrcPt m c i)
      ∗ (bigSep Finset.univ fun j => X.dstPt m j (X.peer j c) c) ∗ (bigSep Finset.univ fun i => X.ldstPt m c i))
    ∗ (bigSep Finset.univ fun j => cred (tallyAt (X.cell (c, kR j)) () (X.N j)))
    ∗ carried g Rest c)

/-- Every device's buffers, as memory `m` has them, are the exchange's pieces and the rest. -/
def Splits : Prop := ∀ c : Dev nD, (unscopedBufs c (fun b => m ((c.tc : Thread nD τ).loc b)) : sProp 𝕄) ⊢ iprop(X.dealt m m c ∗ Rest c)

variable (hsplit : X.Splits m Rest)

include hsplit in
theorem core_alloc (c : Dev nD) : (given X.osem X.O₀ m g (X.G m m') c : sProp 𝕄)
    ⊢ |={Set.univ}=> iprop((bigSep Finset.univ fun k => iprop(∃ κ : ℕ, cellInv (ER (Val := Val)) (X.sched m m') κ (X.cell (c, k)))) ∗ X.kept' m g Rest c) := by
  have hal : iprop((bigSep Finset.univ fun k => semVal (X.cell (c, k)) 0) ∗ bigSep Finset.univ fun k => roundState (ER (Val := Val)) (X.sched m m') (X.cell (c, k)) 0)
      ⊢ (|={Set.univ}=> bigSep Finset.univ fun k => iprop(∃ κ : ℕ, cellInv (ER (Val := Val)) (X.sched m m') κ (X.cell (c, k))) : sProp 𝕄) := by
    rw [← bigSep_sep']
    exact (bigSep_mono fun k _ => (Rounds.body_intro (ER (Val := Val)) (X.sched m m') (X.cell (c, k))).trans inv_alloc).trans (bigSep_fupd _ _)
  have htok : (bigSep Finset.univ fun k => dutyTok (ER (Val := Val)) (X.cell (c, k)) 0 () : sProp 𝕄)
      ⊢ iprop((bigSep Finset.univ fun j => dutyTok (ER (Val := Val)) (X.cell (c, kS j)) 0 ())
      ∗ (bigSep Finset.univ fun j => dutyTok (ER (Val := Val)) (X.cell (c, kR j)) 0 ())
      ∗ (bigSep Finset.univ fun i => dutyTok (ER (Val := Val)) (X.cell (c, kL i)) 0 ())) := by
    rw [bigSep_univ_sum, bigSep_univ_sum]; exact BI.Entails.refl _
  have hsem : (ownSems0 X.osem c : sProp 𝕄) ⊢ bigSep Finset.univ fun k => semVal (X.cell (c, k)) 0 := BI.Entails.refl _
  unfold given G kept' carried
  iintro ⟨Hb, Hus, Hos, Hcr, Hpr, Hst, Hr, Hat, Ht⟩
  ihave Hos' := hsem $$ Hos
  imod hal $$ [Hos' Hst] with Hinv
  · isplitl [Hos'] <;> iassumption
  ihave Ht' := htok $$ Ht
  ihave Hb' := (hsplit c) $$ Hb
  icases Hb' with ⟨Hb', HRest⟩
  ihave Hcr' := (X.creds c) $$ Hcr
  imodintro
  isplitl [Hinv]; · iexact Hinv
  isplitl [Hr]; · iexact Hr
  isplitl [Hat]; · iexact Hat
  isplitl [Ht']; · iexact Ht'
  isplitl [Hb']; · unfold dealt; iexact Hb'
  isplitl [Hcr']; · iexact Hcr'
  isplitl [Hus]; · iexact Hus
  isplitl [Hpr] <;> iassumption

theorem regroup : (bigSep Finset.univ fun c => iprop((bigSep Finset.univ fun k => iprop(∃ κ : ℕ, cellInv (ER (Val := Val)) (X.sched m m') κ (X.cell (c, k)))) ∗ X.kept' m g Rest c) : sProp 𝕄)
    ⊢ bigSep Finset.univ (X.share m m' g Rest) := by
  have hdeal : (iprop((bigSep Finset.univ fun c : Dev nD => bigSep Finset.univ fun k => atPos (ER (Val := Val)) (X.cell (c, k)) 0 ∅ 0)
      ∗ ((bigSep Finset.univ fun c : Dev nD => bigSep Finset.univ fun j => dutyTok (ER (Val := Val)) (X.cell (c, kS j)) 0 ())
        ∗ (bigSep Finset.univ fun c : Dev nD => bigSep Finset.univ fun j => dutyTok (ER (Val := Val)) (X.cell (c, kR j)) 0 ())
        ∗ (bigSep Finset.univ fun c : Dev nD => bigSep Finset.univ fun i => dutyTok (ER (Val := Val)) (X.cell (c, kL i)) 0 ()))
      ∗ ((bigSep Finset.univ fun c : Dev nD => bigSep Finset.univ fun j => X.srcPt m c j) ∗ (bigSep Finset.univ fun c : Dev nD => bigSep Finset.univ fun i => X.lsrcPt m c i)
        ∗ (bigSep Finset.univ fun c : Dev nD => bigSep Finset.univ fun j => X.dstPt m j (X.peer j c) c) ∗ (bigSep Finset.univ fun c : Dev nD => bigSep Finset.univ fun i => X.ldstPt m c i))
      ∗ (bigSep Finset.univ fun c : Dev nD => bigSep Finset.univ fun j => cred (tallyAt (X.cell (c, kR j)) () (X.N j)))
      ∗ bigSep Finset.univ fun c : Dev nD => carried g Rest c) : sProp 𝕄)
      ⊢ bigSep Finset.univ fun c : Dev nD => iprop(X.start m c ∗ carried g Rest c) := by
    rw [X.around (fun j c c' => X.dstPt m j c c'), X.around (fun j _ c => dutyTok (ER (Val := Val)) (X.cell (c, kR j)) 0 ())]
    unfold start localNeed sendNeed
    simp only [bigSep_sep']
    iintro ⟨Hat, ⟨HtS, HtR, HtL⟩, ⟨Hs, Hls, Hd, Hld⟩, Hcr, Hc⟩
    isplitr [Hc]
    · isplitl [Hls Hld HtL]
      · isplitl [Hls]; · iexact Hls
        isplitl [Hld] <;> iassumption
      isplitl [Hs Hd HtS HtR]
      · isplitl [Hs]; · iexact Hs
        isplitl [Hd]; · iexact Hd
        isplitl [HtS] <;> iassumption
      isplitl [Hat] <;> iassumption
    iexact Hc
  have hfin (κ : Dev nD × (J ⊕ J ⊕ I) → ℕ) (c : Dev nD) : iprop(X.records m m' κ ∗ (X.start m c ∗ carried g Rest c)) ⊢ X.share m m' g Rest c := by
    unfold share
    iintro ⟨#HR, Hs, Hc⟩
    isplitr; · iexists κ; iexact HR
    isplitl [Hs] <;> iassumption
  unfold kept'
  simp only [bigSep_sep']
  rw [← bigSep_univ_prod (fun ck : Dev nD × (J ⊕ J ⊕ I) => iprop(∃ κ : ℕ, cellInv (ER (Val := Val)) (X.sched m m') κ (X.cell ck))),
    ← bigSep_univ_prod (fun ck : Dev nD × (J ⊕ J ⊕ I) => (reached (ER (Val := Val)) (X.cell ck) 0 : sProp 𝕄))]
  iintro ⟨HI, #HR, Hat, Ht, Hb, Hcr, Hc⟩
  ihave HK := (BI.bigSep_exists_pi Finset.univ (fun (ck : Dev nD × (J ⊕ J ⊕ I)) (κ : ℕ) => (cellInv (ER (Val := Val)) (X.sched m m') κ (X.cell ck) : sProp 𝕄))) $$ HI
  icases HK with ⟨%κ, #HI⟩
  ihave Hd := hdeal $$ [Hat Ht Hb Hcr Hc]
  · isplitl [Hat]; · iexact Hat
    isplitl [Ht]; · iexact Ht
    isplitl [Hb]; · iexact Hb
    isplitl [Hcr] <;> iassumption
  iapply (bigSep_with_persistent (R := X.records m m' κ) fun c _ => hfin κ c)
  isplitr
  · unfold records; isplitl; · iexact HI
    iexact HR
  iexact Hd

include hsplit in
theorem glob : (bigSep Finset.univ fun c => given X.osem X.O₀ m g (X.G m m') c : sProp 𝕄) ⊢ |={Set.univ}=> bigSep Finset.univ (X.share m m' g Rest) :=
  ((bigSep_mono fun c _ => X.core_alloc m m' g Rest hsplit c).trans (bigSep_fupd _ _)).trans (BI.fupd_mono (X.regroup m m' g Rest))

/-! ## The body -/

/-- The pieces, with what arrived in place, and the rest are every device's buffers as memory `m'` has them. -/
def Joins : Prop := ∀ c : Dev nD, iprop(X.dealt m m' c ∗ Rest c) ⊢ (unscopedBufs c (fun b => m' ((c.tc : Thread nD τ).loc b)) : sProp 𝕄)

/-- What a device has after the exchange: its buffers at `m'`, its other counters and its random state. -/
def result (c : Dev nD) : sProp 𝕄 :=
  iprop(unscopedBufs c (fun b => m' ((c.tc : Thread nD τ).loc b)) ∗ unscopedSems0 c ∗ prngReg c (g c))

variable (defs₀ : Defs nD τ sig Val Λ) (𝒱₀ : Variants)
variable (hR : ∀ c j, (X.rc c j).dst.view.read Val (m' ((X.rc c j).dst.view.loc ((X.peer j c).tc : Thread nD τ)))
  = (X.rc c j).src.view.read Val (m ((X.rc c j).src.view.loc (c.tc : Thread nD τ))))
variable (hL : ∀ c i, (X.lc c i).dst.view.read Val (m' ((X.lc c i).dst.view.loc (c.tc : Thread nD τ)))
  = (X.lc c i).src.view.read Val (m ((X.lc c i).src.view.loc (c.tc : Thread nD τ))))
variable (hjoin : X.Joins m m' Rest)

include hR hL hjoin in
theorem wp_body (hroute : Routes nD τ) (hw : X.Waits' defs₀ 𝒱₀) (il : List I) (jl : List J) (hi : Finset.univ = il.toFinset) (hin : il.Nodup)
    (hj : Finset.univ = jl.toFinset) (hjn : jl.Nodup) (c : Dev nD) :
    iprop(X.share m m' g Rest c ∗ (∃ W, owes (c.tc : Thread nD τ) (X.O₀ c) W))
      ⊢ wp frame (wpE defs₀ 𝒱₀ (c.tc : Thread nD τ) none) Set.univ (.op .deviceId fun d => X.prog il jl d)
          fun _ => iprop((result m' g c ∗ ownSems0 X.osem c) ∗ free c) := by
  rw [wp_deviceId]
  have hfin : X.finish m m' c ⊢ iprop(X.dealt m m' c ∗ ownSems0 X.osem c) := by
    have hsem : iprop((bigSep Finset.univ fun j => semVal (X.cell (c, kS j)) 0) ∗ (bigSep Finset.univ fun j => semVal (X.cell (c, kR j)) 0)
        ∗ (bigSep Finset.univ fun i => semVal (X.cell (c, kL i)) 0)) ⊢ (ownSems0 X.osem c : sProp 𝕄) := by
      show _ ⊢ bigSep Finset.univ fun k => semVal (X.cell (c, k)) 0
      rw [bigSep_univ_sum, bigSep_univ_sum]; exact BI.Entails.refl _
    have hopen : X.finish m m' c ⊢ iprop((bigSep Finset.univ fun j => iprop(X.srcPt m c j ∗ semVal (X.cell (c, kS j)) 0))
        ∗ (bigSep Finset.univ fun j => iprop(X.dstPt m' j (X.peer j c) c ∗ semVal (X.cell (c, kR j)) 0))
        ∗ (bigSep Finset.univ fun i => iprop((X.ldstPt m' c i ∗ X.lsrcPt m c i) ∗ semVal (X.cell (c, kL i)) 0))) := by
      unfold finish; rw [bigSep_univ_sum, bigSep_univ_sum]; exact BI.Entails.refl _
    simp only [bigSep_sep'] at hopen
    unfold dealt
    refine hopen.trans ?_
    iintro ⟨⟨Hs, Hvs⟩, ⟨Hd, Hvd⟩, ⟨Hld, Hls⟩, Hvl⟩
    isplitl [Hs Hd Hld Hls]
    · isplitl [Hs]; · iexact Hs
      isplitl [Hls]; · iexact Hls
      isplitl [Hd] <;> iassumption
    iapply hsem
    isplitl [Hvs]; · iexact Hvs
    isplitl [Hvd] <;> iassumption
  have hrun (κ : Dev nD × (J ⊕ J ⊕ I) → ℕ) := X.wp_prog m m' defs₀ 𝒱₀ κ c hR hL hroute hw il jl hi hin hj hjn (fun _ => iprop((result m' g c ∗ ownSems0 X.osem c) ∗ free c))
  unfold share carried
  iintro ⟨⟨⟨%κ, #HR⟩, Hst, Hus, Hpr, HRest⟩, HO⟩
  iapply (hrun κ) $$ [Hst HO]
  · isplitr; · iexact HR
    isplitl [Hst] <;> iassumption
  iintro ⟨Hf, HO⟩
  ihave Hf' := hfin $$ Hf
  icases Hf' with ⟨Hd, Hs⟩
  isplitr [HO]
  · unfold result
    isplitr [Hs]
    · isplitl [Hd HRest]
      · iapply (hjoin c); isplitl [Hd] <;> iassumption
      isplitl [Hus] <;> iassumption
    iexact Hs
  iexact HO

/-- The proof data of the exchange as a kernel without windows and with one grid point. -/
def dat {cfg : Pipeline.Cfg sig Λ} (hW : IsEmpty (Fin cfg.W)) (c : Dev nD) : Dat τ Val Unit ℕ (UR nD τ sig × UR nD τ sig) ℕ cfg c where
  A w := hW.elim w
  after w := hW.elim w
  Φ t := if t.val = 0 then iprop(X.share m m' g Rest c ∗ scopedRest cfg.spec c) else iprop((result m' g c ∗ ownSems0 X.osem c) ∗ scopedRest cfg.spec c)
  q _ := fullShare
  owed t := if t.val = 0 then X.O₀ c else 0

theorem dat_Φ_first {cfg : Pipeline.Cfg sig Λ} (hW : IsEmpty (Fin cfg.W)) (c : Dev nD) {t : Fin (cfg.N + 1)} (h : t.val = 0) :
    (X.dat m m' g Rest hW c).Φ t = iprop(X.share m m' g Rest c ∗ scopedRest cfg.spec c) := by
  show (if t.val = 0 then _ else _) = _; rw [if_pos h]
theorem dat_Φ_later {cfg : Pipeline.Cfg sig Λ} (hW : IsEmpty (Fin cfg.W)) (c : Dev nD) {t : Fin (cfg.N + 1)} (h : t.val ≠ 0) :
    (X.dat m m' g Rest hW c).Φ t = iprop((result m' g c ∗ ownSems0 X.osem c) ∗ scopedRest cfg.spec c) := by
  show (if t.val = 0 then _ else _) = _; rw [if_neg h]
theorem dat_owed_first {cfg : Pipeline.Cfg sig Λ} (hW : IsEmpty (Fin cfg.W)) (c : Dev nD) {t : Fin (cfg.N + 1)} (h : t.val = 0) :
    (X.dat m m' g Rest hW c).owed t = X.O₀ c := by
  show (if t.val = 0 then _ else _) = _; rw [if_pos h]
theorem dat_owed_later {cfg : Pipeline.Cfg sig Λ} (hW : IsEmpty (Fin cfg.W)) (c : Dev nD) {t : Fin (cfg.N + 1)} (h : t.val ≠ 0) :
    (X.dat m m' g Rest hW c).owed t = 0 := by
  show (if t.val = 0 then _ else _) = _; rw [if_neg h]

include hR hL hjoin in
theorem obligation {cfg : Pipeline.Cfg sig Λ} (hW : IsEmpty (Fin cfg.W)) (hN : cfg.N = 1) (hroute : Routes nD τ) (hw : X.Waits' defs₀ 𝒱₀)
    (il : List I) (jl : List J) (hi : Finset.univ = il.toFinset) (hin : il.Nodup) (hj : Finset.univ = jl.toFinset) (hjn : jl.Nodup)
    (c : Dev nD) (hprog : ∀ (t : Fin cfg.N) (Q : sProp 𝕄),
      wp frame (wpE defs₀ 𝒱₀ (c.tc : Thread nD τ) none) Set.univ (.op .deviceId fun d => X.prog il jl d) (fun _ => Q)
        ⊢ wp frame (wpE defs₀ 𝒱₀ (c.tc : Thread nD τ) none) Set.univ (defs₀ .tc cfg.body (cfg.bodyArgs t (cfg.slots t))) (fun _ => Q)) :
    BodyObligationLoose (X.dat m m' g Rest hW c) defs₀ 𝒱₀ () Set.univ := by
  refine BodyObligation.loose _ fun t => ?_
  have ht : t.val = 0 := by have := t.isLt; omega
  have e0 : (X.dat m m' g Rest hW c).Φ t.castSucc = iprop(X.share m m' g Rest c ∗ scopedRest cfg.spec c) := X.dat_Φ_first m m' g Rest hW c ht
  have e1 : (X.dat m m' g Rest hW c).Φ t.succ = iprop((result m' g c ∗ ownSems0 X.osem c) ∗ scopedRest cfg.spec c) := X.dat_Φ_later m m' g Rest hW c (by rw [Fin.val_succ]; omega)
  have o0 : (X.dat m m' g Rest hW c).owed t.castSucc = X.O₀ c := X.dat_owed_first m m' g Rest hW c ht
  have o1 : (X.dat m m' g Rest hW c).owed t.succ = 0 := X.dat_owed_later m m' g Rest hW c (by rw [Fin.val_succ]; omega)
  have hno : (iprop(emp) : sProp 𝕄) ⊢ iprop(emp) := BI.Entails.refl _
  rw [e0, e1]
  unfold Dat.owesAt owesWithin
  rw [o0, o1, Finset.univ_eq_empty, BI.bigSep_empty, BI.bigSep_empty]
  have hb := X.wp_body m m' g Rest defs₀ 𝒱₀ hR hL hjoin hroute hw il jl hi hin hj hjn c
  have hfr := hb.trans (hprog t _)
  iintro ⟨⟨Hs, Hrest⟩, ⟨%W, -, HO⟩, -⟩
  iapply (wp_wand frame (wpE defs₀ 𝒱₀ (c.tc : Thread nD τ) none) Set.univ) $$ [Hs HO]
  · iapply hfr
    isplitl [Hs]; · iexact Hs
    iexists W; iexact HO
  iintro %u ⟨Hr, HO⟩
  isplitl [Hr Hrest]
  · isplitl [Hr] <;> iassumption
  isplitl [HO]
  · unfold free
    icases HO with ⟨%W', HO⟩
    iexists W'
    isplitr; · ipureintro; exact fun _ _ => Or.inl trivial
    iexact HO
  iempintro

end Exch

end Exchange
-- ==== Proof.Run.lean ====
/-
  The run of a program whose `@main` is one exchange: every device ends with its buffers at `m'` and every counter at zero.
-/
module

public import proofs.«01_k».proof.Proof.Start
public import proofs.«01_k».proof.Proof.Deal

@[expose] public section

set_option Elab.async false

noncomputable section

namespace Exchange

open Idealize.ShloMosaic Idealize.ShloMosaic.Pipeline
open Idealize.SL
open Idealize.SL.BI (sProp bigSep bigSepL bigSep_sep' bigSep_mono)
open scoped Idealize.SL.BI
open Idealize.SL.BI.BIBase Idealize.SL.BI.Laws Idealize.SL.Sem Idealize.SL.ProofMode
open Idealize.SL.RA
open TcCoe
open PCS
open Idealize.ShloMosaic.Rounds

namespace Exch

variable {nD : Nat} {τ : Topo} {sig : RefSig} {Val : EltTy → Type} {Λ : Labels} {J I : Type} [Fintype J] [Fintype I] [DecidableEq J] [DecidableEq I]
variable (X : Exch nD τ sig Val Λ J I)

local notation "𝕄" => MT nD τ sig Unit Val ℕ (UR nD τ sig × UR nD τ sig) ℕ

variable (m m' : (ℓ : Loc nD τ sig) → Buf Val ℓ) (g : Dev nD → PrngReg)
variable (Rest : Dev nD → sProp (MT nD τ sig Unit Val ℕ (UR nD τ sig × UR nD τ sig) ℕ))

/-- What a final state shows of one device: its unscoped buffers are at `m'`. -/
def Shows (c : Dev nD) (s : MemSt nD τ sig Val) : Prop :=
  ∀ b : Ref sig .tc, ¬ b.isScoped → s.mem ((c.tc : Thread nD τ).loc b) = m' ((c.tc : Thread nD τ).loc b)

/-- What is left of the ghost state after the launch's first update, for an exchange's `launch`. -/
theorem funded {U₁ : UR nD τ sig} :
    (ownU ((U₁, initOf X.cells X.toks) : UR nD τ sig × UR nD τ sig) : sProp 𝕄)
      ⊢ |={Set.univ}=> iprop(BI.own ((EP (Val := Val)) U₁) ∗ bigSep Finset.univ (X.G m m')) := by
  iintro Hu
  ihave H := (ownU_pair _ _) $$ Hu
  icases H with ⟨HP, HX⟩
  imod (X.fund m m') $$ HX with HG
  imodintro
  isplitl [HP] <;> iassumption

theorem shows_of_result (c : Dev nD) (s' : Phys nD τ sig Val) :
    iprop(result m' g c ∗ SI s') ⊢ (|={Set.univ}=> iprop(⌜Shows m' c s'.mem⌝ ∗ SI s') : sProp 𝕄) := by
  have h := pointsTo_read_all (Ix := Unit) (Name := ℕ) (U := UR nD τ sig × UR nD τ sig) (Lvl := ℕ) (q := fullShare) (Finset.univ.filter fun b : Ref sig .tc => ¬ b.isScoped)
    (fun b => (c.tc : Thread nD τ).loc b) (fun b => m' ((c.tc : Thread nD τ).loc b)) s'
  unfold result
  iintro ⟨⟨Hb, -, -⟩, HSI⟩
  ihave H := h $$ [Hb HSI]
  · isplitl [Hb]
    · unfold unscopedBufs; iexact Hb
    iexact HSI
  icases H with ⟨%hr, HSI⟩
  imodintro
  isplitr
  · ipureintro
    exact fun b hb => hr b (Finset.mem_filter.2 ⟨Finset.mem_univ b, hb⟩)
  iexact HSI

/-! ## The run -/

/-- Everything an instance supplies: memories `m` and `m'`, the pieces of `m` the copies touch, that every copy carries `m`'s
    contents to where `m'` has them, and the facts of the mesh and of the kernel's layout. -/
structure Facts (defs₀ : Defs nD τ sig Val Λ) (𝒱₀ : Variants) : Prop where
  hsplit : X.Splits m Rest
  hjoin : X.Joins m m' Rest
  hR : ∀ c j, (X.rc c j).dst.view.read Val (m' ((X.rc c j).dst.view.loc ((X.peer j c).tc : Thread nD τ)))
    = (X.rc c j).src.view.read Val (m ((X.rc c j).src.view.loc (c.tc : Thread nD τ)))
  hL : ∀ c i, (X.lc c i).dst.view.read Val (m' ((X.lc c i).dst.view.loc (c.tc : Thread nD τ)))
    = (X.lc c i).src.view.read Val (m ((X.lc c i).src.view.loc (c.tc : Thread nD τ)))
  hroute : Routes nD τ
  hw : X.Waits' defs₀ 𝒱₀

variable (cfgs : Fin 1 → Pipeline.Cfg sig Λ)
variable (defs₀ : Defs nD τ sig Val Λ) (𝒱₀ : Variants)

/-- A program whose `@main` is the one exchange: every fair execution ends with every device's unscoped buffers at `m'` and
    every counter at zero. -/
theorem run [∀ e, Nonempty (Val e)] (hinj : Function.Injective (Pipeline.cellOf (nD := nD) (τ := τ) cfgs)) (hF : X.Facts m m' Rest defs₀ 𝒱₀) (hW : ∀ q, IsEmpty (Fin (cfgs q).W)) (hN : ∀ q, (cfgs q).N = 1)
    (hwin : WinFacts₀ (cfgs 0).spec) (ho : OwnSemFacts (cfgs 0).spec X.osem)
    (main : Dev nD → Prog (TpuEff nD τ sig Val (Sig Λ (Fin 1) fun p => ((cfgs p).toPCfg (Val := Val)).Adm) .tc) PUnit)
    (hmain : ∀ c, main c = .op (.customCall (entry 0) ()) fun _ => .ret ⟨⟩)
    (il : List I) (jl : List J) (hi : Finset.univ = il.toFinset) (hin : il.Nodup) (hj : Finset.univ = jl.toFinset) (hjn : jl.Nodup)
    (hprog : ∀ (c : Dev nD) (t : Fin (cfgs 0).N) (Q : sProp 𝕄),
      wp frame (wpE defs₀ 𝒱₀ (c.tc : Thread nD τ) none) Set.univ (.op .deviceId fun d => X.prog il jl d) (fun _ => Q)
        ⊢ wp frame (wpE defs₀ 𝒱₀ (c.tc : Thread nD τ) none) Set.univ (defs₀ .tc (cfgs 0).body ((cfgs 0).bodyArgs t ((cfgs 0).slots t))) (fun _ => Q))
    (hsc : ∀ sm : SemLoc sig, sm.isScoped .tc = true) :
    θ_run (Pipeline.defs (fun q => (cfgs q).toPCfg) defs₀) (onTc main) ⟨m, fun _ => 0, g⟩
      (fun r => (∀ c, Shows m' c r.2) ∧ r.2.sem = fun _ => 0) := by
  refine launch (Ix := Unit) (Name := ℕ) (U := UR nD τ sig × UR nD τ sig) (Lvl := ℕ) (fun q => (cfgs q).toPCfg) (fun _ q => (cfgs q).toPCfg_adm)
    (fun q c => X.dat m m' g Rest (hW q) c) () hinj (0 : Fin 1) hwin ho (EP (Val := Val)) defs₀ 𝒱₀ (hW 0) ⟨fun k => k.elim0⟩ m g main (fun _ _ => .ret ⟨⟩) hmain
    (fun c => X.obligation m m' g Rest defs₀ 𝒱₀ hF.hR hF.hL hF.hjoin (hW 0) (hN 0) hF.hroute hF.hw il jl hi hin hj hjn c (hprog c))
    X.O₀ (fun c => X.dat_owed_first m m' g Rest (hW 0) c rfl)
    (fun c => X.dat_owed_later m m' g Rest (hW 0) c (by rw [Fin.val_last]; have := hN 0; show (cfgs 0).N ≠ 0; omega))
    (X.G m m') _ (X.funded m m') (X.share m m' g Rest) (result m' g) (result m' g)
    (X.glob m m' g Rest hF.hsplit) (fun c => ?_) (fun c => ?_) (fun c Q' => ?_) (Shows m') (shows_of_result m' g) ?_
  · rw [X.dat_Φ_first m m' g Rest (hW 0) c rfl]
  · have hne : (Fin.last (cfgs 0).N).val ≠ 0 := by rw [Fin.val_last, hN 0]; exact one_ne_zero
    rw [show (X.dat m m' g Rest (hW 0) c).Φ (Fin.last (cfgs 0).N) = _ from X.dat_Φ_later m m' g Rest (hW 0) c hne]
    iintro ⟨⟨H1, H2⟩, H3⟩
    isplitl [H1]; · iexact H1
    isplitl [H2] <;> iassumption
  · iintro ⟨Hk, Hb, HY, HO, -⟩
    rw [wp_ret]; imodintro
    iapply Hk
    isplitl [Hb]; · iexact Hb
    isplitl [HY] <;> iassumption
  · exact fun s h hs => ⟨h, sem_eq_zero_of_scoped hsc hs⟩

end Exch

end Exchange
-- ==== Proof.Values.lean ====
/-
  Memories with one buffer of every device replaced.
-/
module

public import Idealize.ShloMosaic.Lib.Pipeline.Kit

@[expose] public section

set_option Elab.async false

noncomputable section

namespace Exchange

open Idealize.ShloMosaic Idealize.ShloMosaic.TcCoe

variable {nD : Nat} {τ : Topo} {sig : RefSig} {Val : EltTy → Type}

/-- Memory `m` with buffer `b` of every device `c` at `f c`. -/
def put (m : (ℓ : Loc nD τ sig) → Buf Val ℓ) (b : Ref sig .tc) (f : (c : Dev nD) → Buf Val ((c.tc : Thread nD τ).loc b)) :
    (ℓ : Loc nD τ sig) → Buf Val ℓ :=
  fun ℓ => Function.update (β := fun r => Buf Val ((ℓ.1, r) : Loc nD τ sig)) (fun r => m (ℓ.1, r)) ((Proc.tc : Proc τ).devRef b) (f ℓ.1) ℓ.2

theorem put_self (m : (ℓ : Loc nD τ sig) → Buf Val ℓ) (b : Ref sig .tc) (f : (c : Dev nD) → Buf Val ((c.tc : Thread nD τ).loc b)) (c : Dev nD) :
    put m b f ((c.tc : Thread nD τ).loc b) = f c :=
  Function.update_self (β := fun r => Buf Val ((c, r) : Loc nD τ sig)) ((Proc.tc : Proc τ).devRef b) (f c) (fun r => m (c, r))

theorem put_ne (m : (ℓ : Loc nD τ sig) → Buf Val ℓ) (b : Ref sig .tc) (f : (c : Dev nD) → Buf Val ((c.tc : Thread nD τ).loc b)) {b' : Ref sig .tc} {c : Dev nD}
    (h : (Proc.tc : Proc τ).devRef b' ≠ (Proc.tc : Proc τ).devRef b) :
    put m b f ((c.tc : Thread nD τ).loc b') = m ((c.tc : Thread nD τ).loc b') :=
  Function.update_of_ne (β := fun r => Buf Val ((c, r) : Loc nD τ sig)) h (f c) (fun r => m (c, r))

/-- The contents of buffer `b` on two names of one device. -/
theorem mem_at (m : (ℓ : Loc nD τ sig) → Buf Val ℓ) (b : Ref sig .tc) {c d : Dev nD} (h : c = d) :
    m ((c.tc : Thread nD τ).loc b) = (m ((d.tc : Thread nD τ).loc b) : Buf Val ((c.tc : Thread nD τ).loc b)) := by
  subst h; rfl

/-- The same, element by element. -/
theorem elt_at (m : (ℓ : Loc nD τ sig) → Buf Val ℓ) (b : Ref sig .tc) {c d : Dev nD} (h : c = d) (y : b.ty.shape.Idx) :
    (m ((c.tc : Thread nD τ).loc b) : b.ty.shape.Idx → Val b.ty.elt) y = (m ((d.tc : Thread nD τ).loc b) : b.ty.shape.Idx → Val b.ty.elt) y := by
  subst h; rfl

end Exchange

end
-- ==== Proof.Swap.lean ====
/-
  `reduce_sibling`: the two cores of a chip swap five arrays.  The instance of the exchange, and its run: every device ends
  with its sibling's arrays in its result buffers.
-/
module

public import proofs.«01_k».proof.Proof.Gen.SwapIdeal.Launch
public import proofs.«01_k».proof.Proof.Run
public import proofs.«01_k».proof.Proof.Values

@[expose] public section

set_option Elab.async false

noncomputable section

namespace Exchange.Swap

open Idealize.ShloMosaic Idealize.ShloMosaic.TcCoe
open Idealize.ShloMosaic.Pipeline (scopedRest)
open Idealize.SL
open Idealize.SL.BI (sProp bigSep bigSepL)
open scoped Idealize.SL.BI
open Idealize.SL.BI.BIBase Idealize.SL.BI.Laws Idealize.SL.Sem Idealize.SL.ProofMode
open Idealize.SL.RA
open Cert.SwapIdeal Cert.SwapIdeal.Gen

variable {F : FTy → Type} [FloatOps F]

/-- Send `j`'s target device. -/
def peer : Fin 5 → Dev nD → Dev nD
  | 0, d0 => ⟨k0_dev1 d0, k0_dev1_lt d0⟩
  | 1, d0 => ⟨k0_dev2 d0, k0_dev2_lt d0⟩
  | 2, d0 => ⟨k0_dev3 d0, k0_dev3_lt d0⟩
  | 3, d0 => ⟨k0_dev4 d0, k0_dev4_lt d0⟩
  | 4, d0 => ⟨k0_dev5 d0, k0_dev5_lt d0⟩

/-- The device's sibling: the other core of its chip. -/
def sib (c : Dev nD) : Dev nD := ⟨k0_dev1 c, k0_dev1_lt c⟩

theorem peer_eq : ∀ j c, peer j c = sib c := by decide
theorem sib_sib : ∀ c, sib (sib c) = c := by decide

/-- Array `j` of the device, and the sibling's buffer it is copied to. -/
def copyOf : Fin 5 → Copy sig
  | 0 => ⟨S4x512x768, .f32, Memref.whole main_arg0, Memref.whole main_v1_0, (Memref.isWhole_whole _).wordExact, (Memref.isWhole_whole _).wordExact, rfl⟩
  | 1 => ⟨S4x128x1024, .f32, Memref.whole main_arg1, Memref.whole main_v1_1, (Memref.isWhole_whole _).wordExact, (Memref.isWhole_whole _).wordExact, rfl⟩
  | 2 => ⟨S4x64x512, .f32, Memref.whole main_arg2, Memref.whole main_v1_2, (Memref.isWhole_whole _).wordExact, (Memref.isWhole_whole _).wordExact, rfl⟩
  | 3 => ⟨S4x512x1028, .f32, Memref.whole main_arg3, Memref.whole main_v1_3, (Memref.isWhole_whole _).wordExact, (Memref.isWhole_whole _).wordExact, rfl⟩
  | 4 => ⟨S4x128x1024, .f32, Memref.whole main_arg4, Memref.whole main_v1_4, (Memref.isWhole_whole _).wordExact, (Memref.isWhole_whole _).wordExact, rfl⟩

def sS : Fin 5 → DmaSem sig
  | 0 => (((cc0_scratch0 : DmaSems sig S5).slice (Rect.unit (s := S5) ![0] S1.size inb_S5_S1_0)).squeeze S_ squeezes_S1_S_).sem
  | 1 => (((cc0_scratch0 : DmaSems sig S5).slice (Rect.unit (s := S5) ![1] S1.size inb_S5_S1_1)).squeeze S_ squeezes_S1_S_).sem
  | 2 => (((cc0_scratch0 : DmaSems sig S5).slice (Rect.unit (s := S5) ![2] S1.size inb_S5_S1_2)).squeeze S_ squeezes_S1_S_).sem
  | 3 => (((cc0_scratch0 : DmaSems sig S5).slice (Rect.unit (s := S5) ![3] S1.size inb_S5_S1_3)).squeeze S_ squeezes_S1_S_).sem
  | 4 => (((cc0_scratch0 : DmaSems sig S5).slice (Rect.unit (s := S5) ![4] S1.size inb_S5_S1_4)).squeeze S_ squeezes_S1_S_).sem
def sR : Fin 5 → DmaSem sig
  | 0 => (((cc0_scratch1 : DmaSems sig S5).slice (Rect.unit (s := S5) ![0] S1.size inb_S5_S1_0)).squeeze S_ squeezes_S1_S_).sem
  | 1 => (((cc0_scratch1 : DmaSems sig S5).slice (Rect.unit (s := S5) ![1] S1.size inb_S5_S1_1)).squeeze S_ squeezes_S1_S_).sem
  | 2 => (((cc0_scratch1 : DmaSems sig S5).slice (Rect.unit (s := S5) ![2] S1.size inb_S5_S1_2)).squeeze S_ squeezes_S1_S_).sem
  | 3 => (((cc0_scratch1 : DmaSems sig S5).slice (Rect.unit (s := S5) ![3] S1.size inb_S5_S1_3)).squeeze S_ squeezes_S1_S_).sem
  | 4 => (((cc0_scratch1 : DmaSems sig S5).slice (Rect.unit (s := S5) ![4] S1.size inb_S5_S1_4)).squeeze S_ squeezes_S1_S_).sem

def wS : Fin 5 → TpuEff nD τ sig (Elt F) Λ₀ .tc PUnit
  | 0 => .waitDma2 (sS 0) (Memref.whole main_v1_0) (Memref.whole main_arg0) (Memref.isWhole_whole _).wordExact (Memref.isWhole_whole _).wordExact
  | 1 => .waitDma2 (sS 1) (Memref.whole main_v1_1) (Memref.whole main_arg1) (Memref.isWhole_whole _).wordExact (Memref.isWhole_whole _).wordExact
  | 2 => .waitDma2 (sS 2) (Memref.whole main_v1_2) (Memref.whole main_arg2) (Memref.isWhole_whole _).wordExact (Memref.isWhole_whole _).wordExact
  | 3 => .waitDma2 (sS 3) (Memref.whole main_v1_3) (Memref.whole main_arg3) (Memref.isWhole_whole _).wordExact (Memref.isWhole_whole _).wordExact
  | 4 => .waitDma2 (sS 4) (Memref.whole main_v1_4) (Memref.whole main_arg4) (Memref.isWhole_whole _).wordExact (Memref.isWhole_whole _).wordExact
def wR : Fin 5 → TpuEff nD τ sig (Elt F) Λ₀ .tc PUnit
  | 0 => .waitDma2 (sR 0) (Memref.whole main_arg0) (Memref.whole main_v1_0) (Memref.isWhole_whole _).wordExact (Memref.isWhole_whole _).wordExact
  | 1 => .waitDma2 (sR 1) (Memref.whole main_arg1) (Memref.whole main_v1_1) (Memref.isWhole_whole _).wordExact (Memref.isWhole_whole _).wordExact
  | 2 => .waitDma2 (sR 2) (Memref.whole main_arg2) (Memref.whole main_v1_2) (Memref.isWhole_whole _).wordExact (Memref.isWhole_whole _).wordExact
  | 3 => .waitDma2 (sR 3) (Memref.whole main_arg3) (Memref.whole main_v1_3) (Memref.isWhole_whole _).wordExact (Memref.isWhole_whole _).wordExact
  | 4 => .waitDma2 (sR 4) (Memref.whole main_arg4) (Memref.whole main_v1_4) (Memref.isWhole_whole _).wordExact (Memref.isWhole_whole _).wordExact

/-- The exchange. -/
def X : Exch nD τ sig (Elt F) Λ₀ (Fin 5) (Fin 0) where
  peer := peer
  peer_peer j c := by rw [peer_eq, peer_eq, sib_sib]
  rc _ j := copyOf j
  lc _ i := i.elim0
  sS := sS
  sR := sR
  sL i := i.elim0
  inj := by decide
  N j := (copyOf j).dst.view.dmaCredit
  NL i := i.elim0
  N_pos j := View.dmaCredit_pos _ (by revert j; decide)
  NL_pos i := i.elim0
  hN _ _ := rfl
  hNL _ i := i.elim0
  qs _ := fullShare
  ql i := i.elim0
  wS _ := wS
  wR _ := wR
  wL _ i := i.elim0

variable (m : (ℓ : Loc nD τ sig) → Buf (Elt F) ℓ) (g : Dev nD → PrngReg)

/-- The memory after the exchange: each result buffer holds the sibling's array. -/
def after : (ℓ : Loc nD τ sig) → Buf (Elt F) ℓ :=
  put (put (put (put (put m main_v1_0 (fun c => m ((sib c).tc.loc main_arg0))) main_v1_1 (fun c => m ((sib c).tc.loc main_arg1))) main_v1_2 (fun c => m ((sib c).tc.loc main_arg2))) main_v1_3 (fun c => m ((sib c).tc.loc main_arg3))) main_v1_4 (fun c => m ((sib c).tc.loc main_arg4))

theorem after_v1_0 (c : Dev nD) : after m (c.tc.loc main_v1_0) = m ((sib c).tc.loc main_arg0) := by
  unfold after; rw [put_ne _ _ _ (by decide), put_ne _ _ _ (by decide), put_ne _ _ _ (by decide), put_ne _ _ _ (by decide), put_self]
theorem after_v1_1 (c : Dev nD) : after m (c.tc.loc main_v1_1) = m ((sib c).tc.loc main_arg1) := by
  unfold after; rw [put_ne _ _ _ (by decide), put_ne _ _ _ (by decide), put_ne _ _ _ (by decide), put_self]
theorem after_v1_2 (c : Dev nD) : after m (c.tc.loc main_v1_2) = m ((sib c).tc.loc main_arg2) := by
  unfold after; rw [put_ne _ _ _ (by decide), put_ne _ _ _ (by decide), put_self]
theorem after_v1_3 (c : Dev nD) : after m (c.tc.loc main_v1_3) = m ((sib c).tc.loc main_arg3) := by
  unfold after; rw [put_ne _ _ _ (by decide), put_self]
theorem after_v1_4 (c : Dev nD) : after m (c.tc.loc main_v1_4) = m ((sib c).tc.loc main_arg4) := by
  unfold after; rw [put_self]
theorem after_arg0 (c : Dev nD) : after m (c.tc.loc main_arg0) = m (c.tc.loc main_arg0) := by
  unfold after; rw [put_ne _ _ _ (by decide), put_ne _ _ _ (by decide), put_ne _ _ _ (by decide), put_ne _ _ _ (by decide), put_ne _ _ _ (by decide)]
theorem after_arg1 (c : Dev nD) : after m (c.tc.loc main_arg1) = m (c.tc.loc main_arg1) := by
  unfold after; rw [put_ne _ _ _ (by decide), put_ne _ _ _ (by decide), put_ne _ _ _ (by decide), put_ne _ _ _ (by decide), put_ne _ _ _ (by decide)]
theorem after_arg2 (c : Dev nD) : after m (c.tc.loc main_arg2) = m (c.tc.loc main_arg2) := by
  unfold after; rw [put_ne _ _ _ (by decide), put_ne _ _ _ (by decide), put_ne _ _ _ (by decide), put_ne _ _ _ (by decide), put_ne _ _ _ (by decide)]
theorem after_arg3 (c : Dev nD) : after m (c.tc.loc main_arg3) = m (c.tc.loc main_arg3) := by
  unfold after; rw [put_ne _ _ _ (by decide), put_ne _ _ _ (by decide), put_ne _ _ _ (by decide), put_ne _ _ _ (by decide), put_ne _ _ _ (by decide)]
theorem after_arg4 (c : Dev nD) : after m (c.tc.loc main_arg4) = m (c.tc.loc main_arg4) := by
  unfold after; rw [put_ne _ _ _ (by decide), put_ne _ _ _ (by decide), put_ne _ _ _ (by decide), put_ne _ _ _ (by decide), put_ne _ _ _ (by decide)]

local notation "𝕄" => MT nD τ sig Unit (Elt F) ℕ (UR nD τ sig × UR nD τ sig) ℕ

theorem bufs_eq (f : (ℓ : Loc nD τ sig) → Buf (Elt F) ℓ) (c : Dev nD) :
    (unscopedBufs c (fun b => f ((c.tc : Thread nD τ).loc b)) : sProp 𝕄) = iprop((((c : Thread nD τ).loc main_arg0) ↦{fullShare} f ((c : Thread nD τ).loc main_arg0)) ∗ (((c : Thread nD τ).loc main_arg1) ↦{fullShare} f ((c : Thread nD τ).loc main_arg1)) ∗ (((c : Thread nD τ).loc main_arg2) ↦{fullShare} f ((c : Thread nD τ).loc main_arg2)) ∗ (((c : Thread nD τ).loc main_arg3) ↦{fullShare} f ((c : Thread nD τ).loc main_arg3)) ∗ (((c : Thread nD τ).loc main_arg4) ↦{fullShare} f ((c : Thread nD τ).loc main_arg4)) ∗ (((c : Thread nD τ).loc main_v1_0) ↦{fullShare} f ((c : Thread nD τ).loc main_v1_0)) ∗ (((c : Thread nD τ).loc main_v1_1) ↦{fullShare} f ((c : Thread nD τ).loc main_v1_1)) ∗ (((c : Thread nD τ).loc main_v1_2) ↦{fullShare} f ((c : Thread nD τ).loc main_v1_2)) ∗ (((c : Thread nD τ).loc main_v1_3) ↦{fullShare} f ((c : Thread nD τ).loc main_v1_3)) ∗ (((c : Thread nD τ).loc main_v1_4) ↦{fullShare} f ((c : Thread nD τ).loc main_v1_4))) :=
  BI.bigSep_eq_bigSepL_of_eq [main_arg0, main_arg1, main_arg2, main_arg3, main_arg4, main_v1_0, main_v1_1, main_v1_2, main_v1_3, main_v1_4] (by decide) (by decide) _

theorem dealt_eq (f₁ f₂ : (ℓ : Loc nD τ sig) → Buf (Elt F) ℓ) (c : Dev nD) :
    (X.dealt f₁ f₂ c : sProp 𝕄) = iprop(((((c : Thread nD τ).loc main_arg0) ↦[(Memref.whole main_arg0 : Memref sig .tc .hbm S4x512x768 .f32).view.set]{fullShare} f₁ ((c : Thread nD τ).loc main_arg0)) ∗ (((c : Thread nD τ).loc main_arg1) ↦[(Memref.whole main_arg1 : Memref sig .tc .hbm S4x128x1024 .f32).view.set]{fullShare} f₁ ((c : Thread nD τ).loc main_arg1)) ∗ (((c : Thread nD τ).loc main_arg2) ↦[(Memref.whole main_arg2 : Memref sig .tc .hbm S4x64x512 .f32).view.set]{fullShare} f₁ ((c : Thread nD τ).loc main_arg2)) ∗ (((c : Thread nD τ).loc main_arg3) ↦[(Memref.whole main_arg3 : Memref sig .tc .hbm S4x512x1028 .f32).view.set]{fullShare} f₁ ((c : Thread nD τ).loc main_arg3)) ∗ (((c : Thread nD τ).loc main_arg4) ↦[(Memref.whole main_arg4 : Memref sig .tc .hbm S4x128x1024 .f32).view.set]{fullShare} f₁ ((c : Thread nD τ).loc main_arg4))) ∗ emp ∗ ((((c : Thread nD τ).loc main_v1_0) ↦[(Memref.whole main_v1_0 : Memref sig .tc .hbm S4x512x768 .f32).view.set]{fullShare} f₂ ((c : Thread nD τ).loc main_v1_0)) ∗ (((c : Thread nD τ).loc main_v1_1) ↦[(Memref.whole main_v1_1 : Memref sig .tc .hbm S4x128x1024 .f32).view.set]{fullShare} f₂ ((c : Thread nD τ).loc main_v1_1)) ∗ (((c : Thread nD τ).loc main_v1_2) ↦[(Memref.whole main_v1_2 : Memref sig .tc .hbm S4x64x512 .f32).view.set]{fullShare} f₂ ((c : Thread nD τ).loc main_v1_2)) ∗ (((c : Thread nD τ).loc main_v1_3) ↦[(Memref.whole main_v1_3 : Memref sig .tc .hbm S4x512x1028 .f32).view.set]{fullShare} f₂ ((c : Thread nD τ).loc main_v1_3)) ∗ (((c : Thread nD τ).loc main_v1_4) ↦[(Memref.whole main_v1_4 : Memref sig .tc .hbm S4x128x1024 .f32).view.set]{fullShare} f₂ ((c : Thread nD τ).loc main_v1_4))) ∗ emp) := by
  have e1 (Φ : Fin 5 → sProp 𝕄) : bigSep Finset.univ Φ = bigSepL [0, 1, 2, 3, 4] Φ := BI.bigSep_univ_eq_bigSepL [(0 : Fin 5), 1, 2, 3, 4] (by decide) (by decide) Φ
  have e0 (Φ : Fin 0 → sProp 𝕄) : bigSep Finset.univ Φ = emp := by rw [Finset.univ_eq_empty, BI.bigSep_empty]; rfl
  unfold Exch.dealt
  rw [e1, e1, e0, e0]
  rfl

theorem splits : X.Splits m (fun _ => (emp : sProp 𝕄)) := by
  intro c
  rw [bufs_eq, dealt_eq]
  simp only [View.set_whole]
  iintro ⟨A0, A1, A2, A3, A4, V0, V1, V2, V3, V4⟩
  isplitl [A0 A1 A2 A3 A4 V0 V1 V2 V3 V4]
  · isplitl [A0 A1 A2 A3 A4]
    · isplitl [A0]; · iexact A0
      isplitl [A1]; · iexact A1
      isplitl [A2]; · iexact A2
      isplitl [A3]; · iexact A3
      iexact A4
    isplitr; · ipureintro; trivial
    isplitl [V0 V1 V2 V3 V4]
    · isplitl [V0]; · iexact V0
      isplitl [V1]; · iexact V1
      isplitl [V2]; · iexact V2
      isplitl [V3]; · iexact V3
      iexact V4
    ipureintro; trivial
  ipureintro; trivial

theorem joins : X.Joins m (after m) (fun _ => (emp : sProp 𝕄)) := by
  intro c
  rw [bufs_eq, dealt_eq]
  simp only [View.set_whole]
  rw [after_arg0]
  rw [after_arg1]
  rw [after_arg2]
  rw [after_arg3]
  rw [after_arg4]
  iintro ⟨⟨⟨A0, A1, A2, A3, A4⟩, -, ⟨V0, V1, V2, V3, V4⟩, -⟩, -⟩
  isplitl [A0]; · iexact A0
  isplitl [A1]; · iexact A1
  isplitl [A2]; · iexact A2
  isplitl [A3]; · iexact A3
  isplitl [A4]; · iexact A4
  isplitl [V0]; · iexact V0
  isplitl [V1]; · iexact V1
  isplitl [V2]; · iexact V2
  isplitl [V3]; · iexact V3
  iexact V4

/-- The exchange's facts. -/
theorem facts (𝒱₀ : Variants) : X.Facts m (after m) (fun _ => (emp : sProp 𝕄)) (defs₀ (F := F)) 𝒱₀ where
  hsplit := splits m
  hjoin := joins m
  hR c j := by
    match j with
    | 0 =>
      have h : after m ((peer 0 c).tc.loc main_v1_0) = m (c.tc.loc main_arg0) :=
        (after_v1_0 m (peer 0 c)).trans (mem_at m main_arg0 (by rw [peer_eq, sib_sib]))
      exact (View.read_whole main_v1_0 (after m ((peer 0 c).tc.loc main_v1_0))).trans (h.trans (View.read_whole main_arg0 (m (c.tc.loc main_arg0))).symm)
    | 1 =>
      have h : after m ((peer 1 c).tc.loc main_v1_1) = m (c.tc.loc main_arg1) :=
        (after_v1_1 m (peer 1 c)).trans (mem_at m main_arg1 (by rw [peer_eq, sib_sib]))
      exact (View.read_whole main_v1_1 (after m ((peer 1 c).tc.loc main_v1_1))).trans (h.trans (View.read_whole main_arg1 (m (c.tc.loc main_arg1))).symm)
    | 2 =>
      have h : after m ((peer 2 c).tc.loc main_v1_2) = m (c.tc.loc main_arg2) :=
        (after_v1_2 m (peer 2 c)).trans (mem_at m main_arg2 (by rw [peer_eq, sib_sib]))
      exact (View.read_whole main_v1_2 (after m ((peer 2 c).tc.loc main_v1_2))).trans (h.trans (View.read_whole main_arg2 (m (c.tc.loc main_arg2))).symm)
    | 3 =>
      have h : after m ((peer 3 c).tc.loc main_v1_3) = m (c.tc.loc main_arg3) :=
        (after_v1_3 m (peer 3 c)).trans (mem_at m main_arg3 (by rw [peer_eq, sib_sib]))
      exact (View.read_whole main_v1_3 (after m ((peer 3 c).tc.loc main_v1_3))).trans (h.trans (View.read_whole main_arg3 (m (c.tc.loc main_arg3))).symm)
    | 4 =>
      have h : after m ((peer 4 c).tc.loc main_v1_4) = m (c.tc.loc main_arg4) :=
        (after_v1_4 m (peer 4 c)).trans (mem_at m main_arg4 (by rw [peer_eq, sib_sib]))
      exact (View.read_whole main_v1_4 (after m ((peer 4 c).tc.loc main_v1_4))).trans (h.trans (View.read_whole main_arg4 (m (c.tc.loc main_arg4))).symm)
  hL c i := i.elim0
  hroute := by unfold Exch.Routes; decide
  hw := ⟨fun c j K => by match j with | 0 => rfl | 1 => rfl | 2 => rfl | 3 => rfl | 4 => rfl,
    fun c j K => by match j with | 0 => rfl | 1 => rfl | 2 => rfl | 3 => rfl | 4 => rfl, fun c i => i.elim0⟩

set_option maxRecDepth 65536 in
theorem body_eq (t : Fin cfg0.N) : defs₀ (F := F) .tc cfg0.body (cfg0.bodyArgs t (cfg0.slots t)) = .op .deviceId fun d => X.prog [] [0, 1, 2, 3, 4] d := rfl

theorem own : Pipeline.OwnSemFacts (cfgs 0).spec (semOf sS sR fun i : Fin 0 => i.elim0) := by decide

/-- The run: every fair execution ends with every device's buffers as `after m` has them, every counter at zero. -/
theorem run_main : θ_run (defs (F := F)) (onTc main) ⟨m, fun _ => 0, g⟩ (fun r => (∀ c, Exch.Shows (after m) c r.2) ∧ r.2.sem = fun _ => 0) :=
  Exch.run X m (after m) g (fun _ => emp) cfgs defs₀ Variants.none cellOf_inj (facts m _) (fun | 0 => (inferInstance : IsEmpty (Fin 0)))
    (fun | 0 => N_0) winFacts0.to₀ own main (fun c => main_chain c) [] [0, 1, 2, 3, 4] (by decide) (by decide) (by decide) (by decide)
    (fun c t Q => by rw [show defs₀ .tc (cfgs 0).body ((cfgs 0).bodyArgs t ((cfgs 0).slots t)) = _ from body_eq t]) (by decide)

end Exchange.Swap

end
-- ==== Proof.SwapValue.lean ====
/-
  The value of `reduce_sibling`'s reference: the halves of every array changed over, block by block.
-/
module

public import proofs.«01_k».proof.Proof.Swap
public import Idealize.ShloMosaic.Lib.Layout
public import Idealize.ShloMosaic.Lib.Pipeline.Value

@[expose] public section

set_option Elab.async false

noncomputable section

namespace Exchange.Swap

open Idealize.ShloMosaic

/-- The two cores of a chip: same place on the chips, the one at half 0 and the other at half 1. -/
theorem places : ∀ c : Fin 8, Layout.meshLin [2, 2, 2] (sib c).val [0, 1] = Layout.meshLin [2, 2, 2] c.val [0, 1]
    ∧ (Layout.meshLin [2, 2, 2] c.val [2] = 0 ∧ Layout.meshLin [2, 2, 2] (sib c).val [2] = 1
      ∨ Layout.meshLin [2, 2, 2] c.val [2] = 1 ∧ Layout.meshLin [2, 2, 2] (sib c).val [2] = 0) := by decide

/-- Device `c`'s block of the array with its halves changed over is its sibling's block of the array. -/
theorem swapped_block {α : Type} {h n k : ℕ} (x : (⟨3, ![16, k, n]⟩ : Shape).Idx → α)
    (h₁ : (⟨3, ![16, k, n]⟩ : Shape).Slices ![0, h, 0] ⟨3, ![16, h, n]⟩) (h₀ : (⟨3, ![16, k, n]⟩ : Shape).Slices ![0, 0, 0] ⟨3, ![16, h, n]⟩)
    (hc : Shape.Concatenates [⟨3, ![16, h, n]⟩, ⟨3, ![16, h, n]⟩] ⟨3, ![16, k, n]⟩ 1)
    (ht : Layout.TilesN ⟨3, ![4, h, n]⟩ ⟨3, ![16, k, n]⟩ fun b => Layout.cutSize [2, 2, 2] ((![[0, 1], [2], []] : Fin 3 → List ℕ) b)) (c : Fin 8) :
    Layout.blockN ⟨3, ![4, h, n]⟩ ⟨3, ![16, k, n]⟩ (Layout.meshBlock [2, 2, 2] ![[0, 1], [2], []] c)
        (concatenate ⟨3, ![16, k, n]⟩ 1 [⟨⟨3, ![16, h, n]⟩, extractStridedSlice ⟨3, ![16, h, n]⟩ ![0, h, 0] x h₁⟩,
          ⟨⟨3, ![16, h, n]⟩, extractStridedSlice ⟨3, ![16, h, n]⟩ ![0, 0, 0] x h₀⟩] hc) ht
      = Layout.blockN ⟨3, ![4, h, n]⟩ ⟨3, ![16, k, n]⟩ (Layout.meshBlock [2, 2, 2] ![[0, 1], [2], []] (sib c)) x ht := by
  funext i
  rw [Layout.blockN_apply, Layout.blockN_apply]
  obtain ⟨hp, hh⟩ := places c
  have b0 : (ht.idx (Layout.meshBlock [2, 2, 2] ![[0, 1], [2], []] c) i 0).val < 16 := (ht.idx (Layout.meshBlock [2, 2, 2] ![[0, 1], [2], []] c) i 0).isLt
  have b2 : (ht.idx (Layout.meshBlock [2, 2, 2] ![[0, 1], [2], []] c) i 2).val < n := (ht.idx (Layout.meshBlock [2, 2, 2] ![[0, 1], [2], []] c) i 2).isLt
  have i1 : (i 1).val < h := (i 1).isLt
  have e1 : (ht.idx (Layout.meshBlock [2, 2, 2] ![[0, 1], [2], []] c) i 1).val = Layout.meshLin [2, 2, 2] c.val [2] * h + (i 1).val := rfl
  have e0 : (ht.idx (Layout.meshBlock [2, 2, 2] ![[0, 1], [2], []] c) i 0).val = Layout.meshLin [2, 2, 2] c.val [0, 1] * 4 + (i 0).val := rfl
  let k₀ : (⟨3, ![16, h, n]⟩ : Shape).Idx := fun
    | 0 => ⟨_, b0⟩
    | 1 => ⟨_, i1⟩
    | 2 => ⟨_, b2⟩
  rcases hh with ⟨hc0, hc1⟩ | ⟨hc0, hc1⟩
  · rw [concatenate_pair_apply_left _ _ _ hc _ rfl k₀ (fun b => by
      fin_cases b
      · rfl
      · show (i 1).val = (ht.idx _ i 1).val
        rw [e1, hc0]; omega
      · rfl)]
    refine extractStridedSlice_apply _ _ h₁ _ _ fun a => ?_
    fin_cases a
    · show Layout.meshLin [2, 2, 2] (sib c).val [0, 1] * 4 + (i 0).val = 0 + (Layout.meshLin [2, 2, 2] c.val [0, 1] * 4 + (i 0).val)
      rw [hp]; omega
    · show Layout.meshLin [2, 2, 2] (sib c).val [2] * h + (i 1).val = h + (i 1).val
      rw [hc1]; omega
    · show 0 * n + (i 2).val = 0 + (0 * n + (i 2).val)
      omega
  · rw [concatenate_pair_apply_right _ _ _ hc _ rfl rfl k₀ (fun b hb => by
      fin_cases b
      · rfl
      · exact absurd rfl hb
      · rfl) (by
        show (i 1).val + h = (ht.idx _ i 1).val
        rw [e1, hc0]; omega)]
    refine extractStridedSlice_apply _ _ h₀ _ _ fun a => ?_
    fin_cases a
    · show Layout.meshLin [2, 2, 2] (sib c).val [0, 1] * 4 + (i 0).val = 0 + (Layout.meshLin [2, 2, 2] c.val [0, 1] * 4 + (i 0).val)
      rw [hp]; omega
    · show Layout.meshLin [2, 2, 2] (sib c).val [2] * h + (i 1).val = 0 + (i 1).val
      rw [hc1]; omega
    · show 0 * n + (i 2).val = 0 + (0 * n + (i 2).val)
      omega

end Exchange.Swap

end
-- ==== Proof.SwapClaims.lean ====
/-
  The claims about `reduce_sibling`.
-/
module

public import proofs.«01_k».proof.Defs
public import proofs.«01_k».proof.Proof.SwapValue
public import proofs.«01_k».proof.Proof.Gen.Swap
public import proofs.«01_k».proof.Proof.Gen.SwapRef
public import proofs.«01_k».proof.Proof.Gen.SwapRefIdeal.Run

@[expose] public section

set_option Elab.async false

noncomputable section

namespace Exchange.Swap

open Idealize.ShloMosaic Idealize.ShloMosaic.TcCoe Idealize.SL.Sem

variable {F : FTy → Type} [FloatOps F]

/-- The run, argument by argument and result by result. -/
theorem run_read (m : (ℓ : Loc Cert.SwapIdeal.nD Cert.SwapIdeal.τ Cert.SwapIdeal.sig) → Buf (Elt F) ℓ) (g : Dev Cert.SwapIdeal.nD → PrngReg) :
    θ_run (Cert.SwapIdeal.defs (F := F)) (onTc (τ := Cert.SwapIdeal.τ) (Cert.SwapIdeal.main (F := F))) ⟨m, fun _ => 0, g⟩ (fun r => (∀ c : Dev Cert.SwapIdeal.nD,
      r.2.mem ((c.tc : Thread Cert.SwapIdeal.nD Cert.SwapIdeal.τ).loc Cert.SwapIdeal.main_v1_0) = m (((sib c).tc : Thread Cert.SwapIdeal.nD Cert.SwapIdeal.τ).loc Cert.SwapIdeal.main_arg0) ∧
      r.2.mem ((c.tc : Thread Cert.SwapIdeal.nD Cert.SwapIdeal.τ).loc Cert.SwapIdeal.main_v1_1) = m (((sib c).tc : Thread Cert.SwapIdeal.nD Cert.SwapIdeal.τ).loc Cert.SwapIdeal.main_arg1) ∧
      r.2.mem ((c.tc : Thread Cert.SwapIdeal.nD Cert.SwapIdeal.τ).loc Cert.SwapIdeal.main_v1_2) = m (((sib c).tc : Thread Cert.SwapIdeal.nD Cert.SwapIdeal.τ).loc Cert.SwapIdeal.main_arg2) ∧
      r.2.mem ((c.tc : Thread Cert.SwapIdeal.nD Cert.SwapIdeal.τ).loc Cert.SwapIdeal.main_v1_3) = m (((sib c).tc : Thread Cert.SwapIdeal.nD Cert.SwapIdeal.τ).loc Cert.SwapIdeal.main_arg3) ∧
      r.2.mem ((c.tc : Thread Cert.SwapIdeal.nD Cert.SwapIdeal.τ).loc Cert.SwapIdeal.main_v1_4) = m (((sib c).tc : Thread Cert.SwapIdeal.nD Cert.SwapIdeal.τ).loc Cert.SwapIdeal.main_arg4) ∧
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0) ∧
      r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1) ∧
      r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2) ∧
      r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3) ∧
      r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4))
      ∧ r.2.sem = fun _ => 0) :=
  (θ_run Cert.SwapIdeal.defs _ _).mono (fun _ h => ⟨fun c => ⟨(h.1 c Cert.SwapIdeal.main_v1_0 (by decide)).trans (after_v1_0 m c), (h.1 c Cert.SwapIdeal.main_v1_1 (by decide)).trans (after_v1_1 m c), (h.1 c Cert.SwapIdeal.main_v1_2 (by decide)).trans (after_v1_2 m c), (h.1 c Cert.SwapIdeal.main_v1_3 (by decide)).trans (after_v1_3 m c), (h.1 c Cert.SwapIdeal.main_v1_4 (by decide)).trans (after_v1_4 m c), (h.1 c Cert.SwapIdeal.main_arg0 (by decide)).trans (after_arg0 m c), (h.1 c Cert.SwapIdeal.main_arg1 (by decide)).trans (after_arg1 m c), (h.1 c Cert.SwapIdeal.main_arg2 (by decide)).trans (after_arg2 m c), (h.1 c Cert.SwapIdeal.main_arg3 (by decide)).trans (after_arg3 m c), (h.1 c Cert.SwapIdeal.main_arg4 (by decide)).trans (after_arg4 m c)⟩, h.2⟩) (run_main m g)

theorem frame_swapIdeal : Cert.quiescent_SwapIdeal := fun m g _ =>
  (θ_run Cert.SwapIdeal.defs _ _).mono (fun _ h => ⟨fun c => (h.1 c).2.2.2.2.2, h.2⟩) (run_read (F := Ideal) m g)

theorem frame_swap : Cert.quiescent_Swap := fun m g _ =>
  (θ_run Cert.SwapIdeal.defs _ _).mono (fun _ h => ⟨fun c => (h.1 c).2.2.2.2.2, h.2⟩) (run_read (F := Bits) m g)

theorem frame_swapRefIdeal : Cert.quiescent_SwapRefIdeal := fun m g _ =>
  (θ_run Cert.SwapRefIdeal.defs _ _).mono (fun r h => ⟨fun c => (h c).2.2.2.2.2, sem_eq_zero_of_no_sems (by decide) r.2⟩)
    (Cert.SwapRefIdeal.Value.run (F := Ideal) m g)

theorem frame_swapRef : Cert.quiescent_SwapRef := fun m g _ =>
  (θ_run Cert.SwapRefIdeal.defs _ _).mono (fun r h => ⟨fun c => (h c).2.2.2.2.2, sem_eq_zero_of_no_sems (by decide) r.2⟩)
    (Cert.SwapRefIdeal.Value.run (F := Bits) m g)

theorem algebraic_swap : Cert.algebraic_SwapIdeal_SwapRefIdeal := by
  intro m g m' g' _ h
  refine ⟨_, _, _, _, _, ?_, (θ_run Cert.SwapRefIdeal.defs _ _).mono (fun _ hr => hr 0) (Cert.SwapRefIdeal.Value.run (F := Ideal) m' g')⟩
  refine (θ_run Cert.SwapIdeal.defs _ _).mono (fun _ hr c => ?_) (run_read (F := Ideal) m g)
  obtain ⟨h0, h1, h2, h3, h4⟩ := h (sib c)
  obtain ⟨⟨r0, r1, r2, r3, r4, ha⟩⟩ := And.intro (hr.1 c) trivial
  exact ⟨r0.trans (h0.trans (swapped_block _ _ _ _ _ c).symm), r1.trans (h1.trans (swapped_block _ _ _ _ _ c).symm), r2.trans (h2.trans (swapped_block _ _ _ _ _ c).symm),
    r3.trans (h3.trans (swapped_block _ _ _ _ _ c).symm), r4.trans (h4.trans (swapped_block _ _ _ _ _ c).symm), ha⟩

theorem bitexact_swap : Cert.bitexact_Swap_SwapRef := by
  intro m g m' g' _ h
  refine ⟨_, _, _, _, _, ?_, (θ_run Cert.SwapRefIdeal.defs _ _).mono (fun _ hr => hr 0) (Cert.SwapRefIdeal.Value.run (F := Bits) m' g')⟩
  refine (θ_run Cert.SwapIdeal.defs _ _).mono (fun _ hr c => ?_) (run_read (F := Bits) m g)
  obtain ⟨h0, h1, h2, h3, h4⟩ := h (sib c)
  obtain ⟨⟨r0, r1, r2, r3, r4, ha⟩⟩ := And.intro (hr.1 c) trivial
  exact ⟨r0.trans (h0.trans (swapped_block _ _ _ _ _ c).symm), r1.trans (h1.trans (swapped_block _ _ _ _ _ c).symm), r2.trans (h2.trans (swapped_block _ _ _ _ _ c).symm),
    r3.trans (h3.trans (swapped_block _ _ _ _ _ c).symm), r4.trans (h4.trans (swapped_block _ _ _ _ _ c).symm), ha⟩

end Exchange.Swap

end
-- ==== Proof.Slots.lean ====
/-
  Arrays that travel whole, or slot by slot: how a buffer is its slots, how a source is shared among the copies that read
  it, and from that how a device's buffers are the pieces of an exchange of several arrays.
-/
module

public import proofs.«01_k».proof.Proof.Run
public import Idealize.ShloMosaic.Lib.Ring
public import Idealize.ShloMosaic.Lib.ShareLeaves

@[expose] public section

set_option Elab.async false

noncomputable section

namespace Exchange

open Idealize.ShloMosaic Idealize.ShloMosaic.Pipeline
open Idealize.SL
open Idealize.SL.BI (sProp bigSep bigSepL bigSep_sep' bigSep_mono bigSep_congr bigSep_univ_prod bigSep_univ_sum bigSep_univ_equiv bigSep_map bigSep_singleton)
open scoped Idealize.SL.BI
open Idealize.SL.BI.BIBase Idealize.SL.BI.Laws Idealize.SL.Sem Idealize.SL.ProofMode
open Idealize.SL.RA
open TcCoe

/-! ## Slots -/

section Slot

variable {sig : RefSig} {κ : Kind} {sp : Space} {e : EltTy} {r M : ℕ} {d : Fin r → ℕ}

/-- The part of a view along its first axis at the place `off` names, without that axis. -/
abbrev slot (v : View sig κ sp ⟨r + 1, Matrix.vecCons M d⟩ e) (off : Fin (r + 1) → ℕ)
    (inb : ∀ a, off a + (Matrix.vecCons 1 d : Fin (r + 1) → ℕ) a ≤ (Matrix.vecCons M d : Fin (r + 1) → ℕ) a)
    (h : (⟨r, d⟩ : Shape).numel = (⟨r + 1, Matrix.vecCons 1 d⟩ : Shape).numel) : View sig κ sp ⟨r, d⟩ e :=
  (v.slice (Rect.unit (s := ⟨r + 1, Matrix.vecCons M d⟩) off (Matrix.vecCons 1 d) inb)).reshape ⟨r, d⟩ h

/-- Element `y` of slot `i` is element `i, y` of the whole. -/
theorem slot_emb (v : View sig κ sp ⟨r + 1, Matrix.vecCons M d⟩ e) (off : Fin (r + 1) → ℕ)
    (inb : ∀ a, off a + (Matrix.vecCons 1 d : Fin (r + 1) → ℕ) a ≤ (Matrix.vecCons M d : Fin (r + 1) → ℕ) a)
    (h : (⟨r, d⟩ : Shape).numel = (⟨r + 1, Matrix.vecCons 1 d⟩ : Shape).numel) (i : Fin M) (h0 : off 0 = i.val) (hs : ∀ a : Fin r, off a.succ = 0)
    (y : (⟨r, d⟩ : Shape).Idx) :
    (slot v off inb h).emb y = v.emb (Fin.cons (α := fun a : Fin (r + 1) => Fin ((Matrix.vecCons M d : Fin (r + 1) → ℕ) a)) i y) := by
  show v.emb ((Rect.unit (s := ⟨r + 1, Matrix.vecCons M d⟩) off (Matrix.vecCons 1 d) inb).emb (Shape.reshapeEquiv h y)) = _
  congr 1
  rw [Shape.reshapeEquiv_cons_one h y]
  funext a
  refine Fin.ext ?_
  refine Fin.cases ?_ (fun b => ?_) a
  · show off 0 + 1 * 0 = i.val
    omega
  · show off b.succ + 1 * (y b).val = (y b).val
    rw [hs]; omega

/-- The elements of slot `i`: those whose first coordinate is `i`. -/
theorem mem_slot (v : View sig κ sp ⟨r + 1, Matrix.vecCons M d⟩ e) (off : Fin (r + 1) → ℕ)
    (inb : ∀ a, off a + (Matrix.vecCons 1 d : Fin (r + 1) → ℕ) a ≤ (Matrix.vecCons M d : Fin (r + 1) → ℕ) a)
    (h : (⟨r, d⟩ : Shape).numel = (⟨r + 1, Matrix.vecCons 1 d⟩ : Shape).numel) (hs : ∀ a : Fin r, off a.succ = 0)
    (x : (⟨r + 1, Matrix.vecCons M d⟩ : Shape).Idx) : v.emb x ∈ (slot v off inb h).set ↔ (x 0).val = off 0 := by
  rw [View.set_reshape, View.set_slice, Finset.mem_map' v.emb, Rect.mem_set_unit]
  constructor
  · intro hx
    have h0 := hx 0
    have : (Matrix.vecCons 1 d : Fin (r + 1) → ℕ) 0 = 1 := rfl
    rw [this] at h0; omega
  · intro hx a
    refine Fin.cases ?_ (fun b => ?_) a
    · have : (Matrix.vecCons 1 d : Fin (r + 1) → ℕ) 0 = 1 := rfl
      rw [this]; omega
    · have hb : (x b.succ).val < d b := (x b.succ).isLt
      have : (Matrix.vecCons 1 d : Fin (r + 1) → ℕ) b.succ = d b := rfl
      rw [this, hs b]; omega

/-- Slot `i` of a buffer, read: the buffer at `i` along its first axis. -/
theorem slot_read {Val : EltTy → Type} (v : View sig κ sp ⟨r + 1, Matrix.vecCons M d⟩ e) (off : Fin (r + 1) → ℕ)
    (inb : ∀ a, off a + (Matrix.vecCons 1 d : Fin (r + 1) → ℕ) a ≤ (Matrix.vecCons M d : Fin (r + 1) → ℕ) a)
    (h : (⟨r, d⟩ : Shape).numel = (⟨r + 1, Matrix.vecCons 1 d⟩ : Shape).numel) (i : Fin M) (h0 : off 0 = i.val) (hs : ∀ a : Fin r, off a.succ = 0)
    (f : v.ty.Contents Val) (y : (⟨r, d⟩ : Shape).Idx) :
    (slot v off inb h).read Val f y = v.read Val f (Fin.cons (α := fun a : Fin (r + 1) => Fin ((Matrix.vecCons M d : Fin (r + 1) → ℕ) a)) i y) := by
  rw [View.read_apply, View.read_apply]
  have he : (slot v off inb h).emb y = v.emb (Fin.cons (α := fun a : Fin (r + 1) => Fin ((Matrix.vecCons M d : Fin (r + 1) → ℕ) a)) i y) :=
    slot_emb v off inb h i h0 hs y
  exact congrArg (fun z => _root_.cast (congrArg Val v.elt_eq) (f z)) he

end Slot

section Points

variable {nD : Nat} {τ : Topo} {sig : RefSig} {Val : EltTy → Type}

local notation "𝕄" => MT nD τ sig Unit Val ℕ (UR nD τ sig × UR nD τ sig) ℕ

/-- A star over `P` things and one more. -/
theorem bigSep_more {P : ℕ} (Φ : Fin P ⊕ Fin 1 → sProp 𝕄) :
    bigSep Finset.univ Φ = iprop((bigSep Finset.univ fun k => Φ (.inl k)) ∗ Φ (.inr 0)) := by
  rw [bigSep_univ_sum, BI.bigSep_univ_of_subsingleton (0 : Fin 1)]; rfl

/-- A buffer is its slots: those at the places `n k`, and the one at `n₀`. -/
theorem slots_pointsTo {sp : Space} {e : EltTy} {r M P : ℕ} {d : Fin r → ℕ} (v : View sig .tc sp ⟨r + 1, Matrix.vecCons M d⟩ e) (c : Dev nD)
    (hv : v.set = Finset.univ) (off : Fin P → Fin (r + 1) → ℕ) (off₀ : Fin (r + 1) → ℕ)
    (inb : ∀ k a, off k a + (Matrix.vecCons 1 d : Fin (r + 1) → ℕ) a ≤ (Matrix.vecCons M d : Fin (r + 1) → ℕ) a)
    (inb₀ : ∀ a, off₀ a + (Matrix.vecCons 1 d : Fin (r + 1) → ℕ) a ≤ (Matrix.vecCons M d : Fin (r + 1) → ℕ) a)
    (h : (⟨r, d⟩ : Shape).numel = (⟨r + 1, Matrix.vecCons 1 d⟩ : Shape).numel)
    (hs : ∀ k, ∀ a : Fin r, off k a.succ = 0) (hs₀ : ∀ a : Fin r, off₀ a.succ = 0)
    (hinj : ∀ k k', off k 0 = off k' 0 → k = k') (hne : ∀ k, off k 0 ≠ off₀ 0) (hall : ∀ i : Fin M, (∃ k, off k 0 = i.val) ∨ off₀ 0 = i.val)
    (f : Buf Val (v.loc (c.tc : Thread nD τ))) :
    (v.loc (c.tc : Thread nD τ) ↦{fullShare} f : sProp 𝕄)
      = iprop((bigSep Finset.univ fun k => v.loc (c.tc : Thread nD τ) ↦[(slot v (off k) (inb k) h).set]{fullShare} f) ∗ (v.loc (c.tc : Thread nD τ) ↦[(slot v off₀ inb₀ h).set]{fullShare} f)) := by
  let I : Fin P ⊕ Fin 1 → Finset (Idx (v.loc (c.tc : Thread nD τ))) := Sum.elim (fun k => (slot v (off k) (inb k) h).set) (fun _ => (slot v off₀ inb₀ h).set)
  have hof (x : Idx (v.loc (c.tc : Thread nD τ))) : ∃ y, v.emb y = x := by
    have hx : x ∈ v.set := by rw [hv]; exact Finset.mem_univ _
    obtain ⟨y, -, hy⟩ := Finset.mem_map.1 hx
    exact ⟨y, hy⟩
  have hd : ∀ b b', b ≠ b' → Disjoint (I b) (I b') := by
    intro b b' hb
    refine Finset.disjoint_left.2 fun x hx hx' => ?_
    obtain ⟨y, rfl⟩ := hof x
    rcases b with k | z <;> rcases b' with k' | z'
    · exact hb (congrArg _ (hinj k k' (((mem_slot v _ (inb k) h (hs k) y).1 hx).symm.trans ((mem_slot v _ (inb k') h (hs k') y).1 hx'))))
    · exact hne k (((mem_slot v _ (inb k) h (hs k) y).1 hx).symm.trans ((mem_slot v _ inb₀ h hs₀ y).1 hx'))
    · exact hne k' (((mem_slot v _ (inb k') h (hs k') y).1 hx').symm.trans ((mem_slot v _ inb₀ h hs₀ y).1 hx))
    · exact hb (congrArg _ (Subsingleton.elim z z'))
  have hc : Finset.univ.biUnion I = Finset.univ := by
    refine Finset.eq_univ_of_forall fun x => ?_
    obtain ⟨y, rfl⟩ := hof x
    rcases hall (y 0) with ⟨k, hk⟩ | h0
    · exact Finset.mem_biUnion.2 ⟨.inl k, Finset.mem_univ _, (mem_slot v _ (inb k) h (hs k) y).2 hk.symm⟩
    · exact Finset.mem_biUnion.2 ⟨.inr 0, Finset.mem_univ _, (mem_slot v _ inb₀ h hs₀ y).2 h0.symm⟩
  rw [Ring.pointsTo_blocks I hd hc f, bigSep_more]
  rfl

/-- The share of a source that copy `k` of `P` holds, and the last, where `P + 1 = 2 ^ n`. -/
def part (n P : ℕ) (h : P + 1 = 2 ^ n) (k : Fin P ⊕ Fin 1) : PosShare TreeShare := ShareLeaves.leaf n fullShare (finCongr h (finSumFinEquiv k))

/-- A source is its shares. -/
theorem parts_pointsTo (n P : ℕ) (h : P + 1 = 2 ^ n) {ℓ : Loc nD τ sig} (I : Finset (Idx ℓ)) (hI : I = Finset.univ) (f : Buf Val ℓ) :
    (ℓ ↦{fullShare} f : sProp 𝕄)
      = iprop((bigSep Finset.univ fun k => ℓ ↦[I]{part n P h (.inl k)} f) ∗ (ℓ ↦[I]{part n P h (.inr 0)} f)) := by
  subst hI
  rw [ShareLeaves.pointsTo_leaves Finset.univ f n fullShare, bigSep_univ_equiv (finSumFinEquiv.trans (finCongr h)), bigSep_more]
  rfl

end Points

/-! ## Several arrays -/

namespace Exch

variable {nD : Nat} {τ : Topo} {sig : RefSig} {Val : EltTy → Type} {Λ : Labels} {A : Type} [Fintype A] [DecidableEq A] {P : ℕ}
variable (X : Exch nD τ sig Val Λ (A × Fin P) A)

local notation "𝕄" => MT nD τ sig Unit Val ℕ (UR nD τ sig × UR nD τ sig) ℕ

/-- The program's buffers are one source and one target for every array, and the copies' pieces make them up. -/
structure Arrays (inB outB : A → Ref sig .tc) : Prop where
  inj : Function.Injective (Sum.elim inB outB)
  all : (Finset.univ.filter fun b : Ref sig .tc => ¬ b.isScoped) = Finset.univ.map ⟨Sum.elim inB outB, inj⟩
  src : ∀ (f : (ℓ : Loc nD τ sig) → Buf Val ℓ) (c : Dev nD) (a : A), (((c.tc : Thread nD τ).loc (inB a)) ↦{fullShare} f ((c.tc : Thread nD τ).loc (inB a)) : sProp 𝕄)
    = iprop((bigSep Finset.univ fun k => X.srcPt f c (a, k)) ∗ X.lsrcPt f c a)
  dst : ∀ (f : (ℓ : Loc nD τ sig) → Buf Val ℓ) (c : Dev nD) (a : A), (((c.tc : Thread nD τ).loc (outB a)) ↦{fullShare} f ((c.tc : Thread nD τ).loc (outB a)) : sProp 𝕄)
    = iprop((bigSep Finset.univ fun k => X.dstPt f (a, k) (X.peer (a, k) c) c) ∗ X.ldstPt f c a)

variable {X} {inB outB : A → Ref sig .tc} (h : X.Arrays inB outB)
include h

theorem Arrays.bufs (V : (b : Ref sig .tc) → (c : Dev nD) → Buf Val ((c.tc : Thread nD τ).loc b)) (c : Dev nD) :
    (unscopedBufs c (fun b => V b c) : sProp 𝕄)
      = iprop((bigSep Finset.univ fun a => ((c.tc : Thread nD τ).loc (inB a)) ↦{fullShare} V (inB a) c)
        ∗ (bigSep Finset.univ fun a => ((c.tc : Thread nD τ).loc (outB a)) ↦{fullShare} V (outB a) c)) := by
  unfold unscopedBufs
  rw [h.all, bigSep_map, bigSep_univ_sum]
  rfl

theorem Arrays.pieces (f₁ f₂ : (ℓ : Loc nD τ sig) → Buf Val ℓ) (c : Dev nD) :
    (X.dealt f₁ f₂ c : sProp 𝕄)
      = iprop((bigSep Finset.univ fun a => ((c.tc : Thread nD τ).loc (inB a)) ↦{fullShare} f₁ ((c.tc : Thread nD τ).loc (inB a)))
        ∗ (bigSep Finset.univ fun a => ((c.tc : Thread nD τ).loc (outB a)) ↦{fullShare} f₂ ((c.tc : Thread nD τ).loc (outB a)))) := by
  have e1 : (bigSep Finset.univ fun a => ((c.tc : Thread nD τ).loc (inB a)) ↦{fullShare} f₁ ((c.tc : Thread nD τ).loc (inB a)) : sProp 𝕄)
      = iprop((bigSep Finset.univ fun j => X.srcPt f₁ c j) ∗ (bigSep Finset.univ fun i => X.lsrcPt f₁ c i)) := by
    rw [bigSep_univ_prod, ← bigSep_sep']; exact bigSep_congr fun a _ => h.src f₁ c a
  have e2 : (bigSep Finset.univ fun a => ((c.tc : Thread nD τ).loc (outB a)) ↦{fullShare} f₂ ((c.tc : Thread nD τ).loc (outB a)) : sProp 𝕄)
      = iprop((bigSep Finset.univ fun j => X.dstPt f₂ j (X.peer j c) c) ∗ (bigSep Finset.univ fun i => X.ldstPt f₂ c i)) := by
    rw [bigSep_univ_prod, ← bigSep_sep']; exact bigSep_congr fun a _ => h.dst f₂ c a
  rw [e1, e2]
  unfold dealt
  generalize (bigSep Finset.univ fun j => X.srcPt f₁ c j) = a₁
  generalize (bigSep Finset.univ fun i => X.lsrcPt f₁ c i) = a₂
  generalize (bigSep Finset.univ fun j => X.dstPt f₂ j (X.peer j c) c) = a₃
  generalize (bigSep Finset.univ fun i => X.ldstPt f₂ c i) = a₄
  have l : iprop(a₁ ∗ a₂ ∗ a₃ ∗ a₄) ⊢ (iprop((a₁ ∗ a₂) ∗ a₃ ∗ a₄) : sProp 𝕄) := by
    iintro ⟨A, B, C, D⟩
    isplitl [A B]
    · isplitl [A] <;> iassumption
    isplitl [C] <;> iassumption
  have r : iprop((a₁ ∗ a₂) ∗ a₃ ∗ a₄) ⊢ (iprop(a₁ ∗ a₂ ∗ a₃ ∗ a₄) : sProp 𝕄) := by
    iintro ⟨⟨A, B⟩, C, D⟩
    isplitl [A]; · iexact A
    isplitl [B]; · iexact B
    isplitl [C] <;> iassumption
  exact BI.Entails.antisymm l r

theorem Arrays.splits (m : (ℓ : Loc nD τ sig) → Buf Val ℓ) : X.Splits m (fun _ => (emp : sProp 𝕄)) := by
  intro c
  rw [h.bufs (fun b c => m ((c.tc : Thread nD τ).loc b)) c, h.pieces m m c]
  iintro H
  isplitl [H]; · iexact H
  ipureintro; trivial

theorem Arrays.joins (m m' : (ℓ : Loc nD τ sig) → Buf Val ℓ)
    (hin : ∀ (c : Dev nD) (a : A), m' ((c.tc : Thread nD τ).loc (inB a)) = m ((c.tc : Thread nD τ).loc (inB a))) : X.Joins m m' (fun _ => (emp : sProp 𝕄)) := by
  intro c
  rw [h.bufs (fun b c => m' ((c.tc : Thread nD τ).loc b)) c, h.pieces m m' c]
  have e : (bigSep Finset.univ fun a => ((c.tc : Thread nD τ).loc (inB a)) ↦{fullShare} m' ((c.tc : Thread nD τ).loc (inB a)) : sProp 𝕄)
      = bigSep Finset.univ fun a => ((c.tc : Thread nD τ).loc (inB a)) ↦{fullShare} m ((c.tc : Thread nD τ).loc (inB a)) :=
    bigSep_congr fun a _ => by rw [hin c a]
  rw [e]
  iintro ⟨H, -⟩
  iexact H

end Exch

end Exchange

end
-- ==== Proof.Scatter.lean ====
/-
  `reduce_chips`: every device hands to each other chip, at its own core, that chip's slot of five arrays.
  The instance of the exchange, and its run.
-/
module

public import proofs.«01_k».proof.Proof.Gen.ScatterIdeal.Launch
public import proofs.«01_k».proof.Proof.Slots
public import proofs.«01_k».proof.Proof.Values

@[expose] public section

set_option Elab.async false

noncomputable section

namespace Exchange.Scatter

open Idealize.ShloMosaic Idealize.ShloMosaic.TcCoe
open Idealize.ShloMosaic.Pipeline (scopedRest)
open Idealize.SL
open Idealize.SL.BI (sProp bigSep bigSepL)
open scoped Idealize.SL.BI
open Idealize.SL.BI.BIBase Idealize.SL.BI.Laws Idealize.SL.Sem Idealize.SL.ProofMode
open Idealize.SL.RA
open Cert.ScatterIdeal Cert.ScatterIdeal.Gen

variable {F : FTy → Type} [FloatOps F]

/-! ## Places -/

/-- The other devices a device deals with. -/
def peer : Fin 3 → Dev nD → Dev nD
  | 0, d0 => ⟨k0_dev1 d0, k0_dev1_lt d0⟩
  | 1, d0 => ⟨k0_dev2 d0, k0_dev2_lt d0⟩
  | 2, d0 => ⟨k0_dev3 d0, k0_dev3_lt d0⟩

theorem peer_peer : ∀ k c, peer k (peer k c) = c := by decide

/-- The slot a device's arrays go to. -/
def place (c : Dev nD) : Fin 4 := ⟨k0_off1 c 0, by revert c; decide⟩

/-- The device whose arrays are in slot `i` of device `c`. -/
def holder (c : Dev nD) (i : Fin 4) : Dev nD := ⟨2 * i.val + c.val % 2, by revert c i; decide⟩

theorem holder_place : ∀ k c, holder (peer k c) (place c) = c := by decide
theorem holder_own : ∀ c, holder c (place c) = c := by decide
theorem off_tail : ∀ c, ∀ a : Fin 2, k0_off1 c a.succ = 0 := by decide
theorem off_inj : ∀ c k k', k0_off1 (peer k c) 0 = k0_off1 (peer k' c) 0 → k = k' := by decide
theorem off_ne : ∀ c k, k0_off1 (peer k c) 0 ≠ k0_off1 c 0 := by decide
theorem off_all : ∀ c, ∀ i : Fin 4, (∃ k, k0_off1 (peer k c) 0 = i.val) ∨ k0_off1 c 0 = i.val := by decide

/-- The slots a device hands away. -/
def poff : Fin 3 → Dev nD → Fin 3 → ℕ
  | 0, d0 => k0_off5 d0
  | 1, d0 => k0_off6 d0
  | 2, d0 => k0_off7 d0

theorem poff_eq : ∀ k c, poff k c 0 = (place (peer k c)).val := by decide
theorem poff_tail : ∀ k c, ∀ a : Fin 2, poff k c a.succ = 0 := by decide
theorem poff_inj : ∀ c k k', poff k c 0 = poff k' c 0 → k = k' := by decide
theorem poff_ne : ∀ c k, poff k c 0 ≠ k0_off1 c 0 := by decide
theorem poff_all : ∀ c, ∀ i : Fin 4, (∃ k, poff k c 0 = i.val) ∨ k0_off1 c 0 = i.val := by decide
theorem poff_inb0 (k : Fin 3) (c : Dev nD) : ∀ a, poff k c a + S1x512x768.size a ≤ S4x512x768.size a :=
  match k with | 0 => k0_off5_inb c | 1 => k0_off6_inb c | 2 => k0_off7_inb c
theorem poff_inb1 (k : Fin 3) (c : Dev nD) : ∀ a, poff k c a + S1x128x1024.size a ≤ S4x128x1024.size a :=
  match k with | 0 => k0_off8_inb c | 1 => k0_off9_inb c | 2 => k0_off10_inb c
theorem poff_inb2 (k : Fin 3) (c : Dev nD) : ∀ a, poff k c a + S1x64x512.size a ≤ S4x64x512.size a :=
  match k with | 0 => k0_off11_inb c | 1 => k0_off12_inb c | 2 => k0_off13_inb c
theorem poff_inb3 (k : Fin 3) (c : Dev nD) : ∀ a, poff k c a + S1x512x1028.size a ≤ S4x512x1028.size a :=
  match k with | 0 => k0_off14_inb c | 1 => k0_off15_inb c | 2 => k0_off16_inb c
theorem poff_inb4 (k : Fin 3) (c : Dev nD) : ∀ a, poff k c a + S1x128x1024.size a ≤ S4x128x1024.size a :=
  match k with | 0 => k0_off8_inb c | 1 => k0_off9_inb c | 2 => k0_off10_inb c

/-! ## Copies and counters -/

/-- Array by array, what a device sends. -/
def sent (c : Dev nD) : Fin 5 × Fin 3 → Copy sig
  | (0, k) => ⟨S512x768, .f32, (((Memref.whole main_arg0 : Memref sig .tc .hbm S4x512x768 .f32).slice (Rect.unit (s := S4x512x768) (poff k c) S1x512x768.size (poff_inb0 k c)) (fun _ => rfl)).squeeze S512x768 squeezes_S1x512x768_S512x768), (((Memref.whole main_v1_0 : Memref sig .tc .hbm S4x512x768 .f32).slice (Rect.unit (s := S4x512x768) (k0_off1 c) S1x512x768.size (k0_off1_inb c)) (fun _ => rfl)).squeeze S512x768 squeezes_S1x512x768_S512x768), ((View.wordExact_bits rfl).reshape _ _), ((View.wordExact_bits rfl).reshape _ _), rfl⟩
  | (1, k) => ⟨S128x1024, .f32, (((Memref.whole main_arg1 : Memref sig .tc .hbm S4x128x1024 .f32).slice (Rect.unit (s := S4x128x1024) (poff k c) S1x128x1024.size (poff_inb1 k c)) (fun _ => rfl)).squeeze S128x1024 squeezes_S1x128x1024_S128x1024), (((Memref.whole main_v1_1 : Memref sig .tc .hbm S4x128x1024 .f32).slice (Rect.unit (s := S4x128x1024) (k0_off2 c) S1x128x1024.size (k0_off2_inb c)) (fun _ => rfl)).squeeze S128x1024 squeezes_S1x128x1024_S128x1024), ((View.wordExact_bits rfl).reshape _ _), ((View.wordExact_bits rfl).reshape _ _), rfl⟩
  | (2, k) => ⟨S64x512, .f32, (((Memref.whole main_arg2 : Memref sig .tc .hbm S4x64x512 .f32).slice (Rect.unit (s := S4x64x512) (poff k c) S1x64x512.size (poff_inb2 k c)) (fun _ => rfl)).squeeze S64x512 squeezes_S1x64x512_S64x512), (((Memref.whole main_v1_2 : Memref sig .tc .hbm S4x64x512 .f32).slice (Rect.unit (s := S4x64x512) (k0_off3 c) S1x64x512.size (k0_off3_inb c)) (fun _ => rfl)).squeeze S64x512 squeezes_S1x64x512_S64x512), ((View.wordExact_bits rfl).reshape _ _), ((View.wordExact_bits rfl).reshape _ _), rfl⟩
  | (3, k) => ⟨S512x1028, .f32, (((Memref.whole main_arg3 : Memref sig .tc .hbm S4x512x1028 .f32).slice (Rect.unit (s := S4x512x1028) (poff k c) S1x512x1028.size (poff_inb3 k c)) (fun _ => rfl)).squeeze S512x1028 squeezes_S1x512x1028_S512x1028), (((Memref.whole main_v1_3 : Memref sig .tc .hbm S4x512x1028 .f32).slice (Rect.unit (s := S4x512x1028) (k0_off4 c) S1x512x1028.size (k0_off4_inb c)) (fun _ => rfl)).squeeze S512x1028 squeezes_S1x512x1028_S512x1028), ((View.wordExact_bits rfl).reshape _ _), ((View.wordExact_bits rfl).reshape _ _), rfl⟩
  | (4, k) => ⟨S128x1024, .f32, (((Memref.whole main_arg4 : Memref sig .tc .hbm S4x128x1024 .f32).slice (Rect.unit (s := S4x128x1024) (poff k c) S1x128x1024.size (poff_inb4 k c)) (fun _ => rfl)).squeeze S128x1024 squeezes_S1x128x1024_S128x1024), (((Memref.whole main_v1_4 : Memref sig .tc .hbm S4x128x1024 .f32).slice (Rect.unit (s := S4x128x1024) (k0_off2 c) S1x128x1024.size (k0_off2_inb c)) (fun _ => rfl)).squeeze S128x1024 squeezes_S1x128x1024_S128x1024), ((View.wordExact_bits rfl).reshape _ _), ((View.wordExact_bits rfl).reshape _ _), rfl⟩

/-- Array by array, what a device keeps. -/
def kept (c : Dev nD) : Fin 5 → Copy sig
  | 0 => ⟨S512x768, .f32, (((Memref.whole main_arg0 : Memref sig .tc .hbm S4x512x768 .f32).slice (Rect.unit (s := S4x512x768) (k0_off1 c) S1x512x768.size (k0_off1_inb c)) (fun _ => rfl)).squeeze S512x768 squeezes_S1x512x768_S512x768), (((Memref.whole main_v1_0 : Memref sig .tc .hbm S4x512x768 .f32).slice (Rect.unit (s := S4x512x768) (k0_off1 c) S1x512x768.size (k0_off1_inb c)) (fun _ => rfl)).squeeze S512x768 squeezes_S1x512x768_S512x768), ((View.wordExact_bits rfl).reshape _ _), ((View.wordExact_bits rfl).reshape _ _), rfl⟩
  | 1 => ⟨S128x1024, .f32, (((Memref.whole main_arg1 : Memref sig .tc .hbm S4x128x1024 .f32).slice (Rect.unit (s := S4x128x1024) (k0_off2 c) S1x128x1024.size (k0_off2_inb c)) (fun _ => rfl)).squeeze S128x1024 squeezes_S1x128x1024_S128x1024), (((Memref.whole main_v1_1 : Memref sig .tc .hbm S4x128x1024 .f32).slice (Rect.unit (s := S4x128x1024) (k0_off2 c) S1x128x1024.size (k0_off2_inb c)) (fun _ => rfl)).squeeze S128x1024 squeezes_S1x128x1024_S128x1024), ((View.wordExact_bits rfl).reshape _ _), ((View.wordExact_bits rfl).reshape _ _), rfl⟩
  | 2 => ⟨S64x512, .f32, (((Memref.whole main_arg2 : Memref sig .tc .hbm S4x64x512 .f32).slice (Rect.unit (s := S4x64x512) (k0_off3 c) S1x64x512.size (k0_off3_inb c)) (fun _ => rfl)).squeeze S64x512 squeezes_S1x64x512_S64x512), (((Memref.whole main_v1_2 : Memref sig .tc .hbm S4x64x512 .f32).slice (Rect.unit (s := S4x64x512) (k0_off3 c) S1x64x512.size (k0_off3_inb c)) (fun _ => rfl)).squeeze S64x512 squeezes_S1x64x512_S64x512), ((View.wordExact_bits rfl).reshape _ _), ((View.wordExact_bits rfl).reshape _ _), rfl⟩
  | 3 => ⟨S512x1028, .f32, (((Memref.whole main_arg3 : Memref sig .tc .hbm S4x512x1028 .f32).slice (Rect.unit (s := S4x512x1028) (k0_off4 c) S1x512x1028.size (k0_off4_inb c)) (fun _ => rfl)).squeeze S512x1028 squeezes_S1x512x1028_S512x1028), (((Memref.whole main_v1_3 : Memref sig .tc .hbm S4x512x1028 .f32).slice (Rect.unit (s := S4x512x1028) (k0_off4 c) S1x512x1028.size (k0_off4_inb c)) (fun _ => rfl)).squeeze S512x1028 squeezes_S1x512x1028_S512x1028), ((View.wordExact_bits rfl).reshape _ _), ((View.wordExact_bits rfl).reshape _ _), rfl⟩
  | 4 => ⟨S128x1024, .f32, (((Memref.whole main_arg4 : Memref sig .tc .hbm S4x128x1024 .f32).slice (Rect.unit (s := S4x128x1024) (k0_off2 c) S1x128x1024.size (k0_off2_inb c)) (fun _ => rfl)).squeeze S128x1024 squeezes_S1x128x1024_S128x1024), (((Memref.whole main_v1_4 : Memref sig .tc .hbm S4x128x1024 .f32).slice (Rect.unit (s := S4x128x1024) (k0_off2 c) S1x128x1024.size (k0_off2_inb c)) (fun _ => rfl)).squeeze S128x1024 squeezes_S1x128x1024_S128x1024), ((View.wordExact_bits rfl).reshape _ _), ((View.wordExact_bits rfl).reshape _ _), rfl⟩

def sS : Fin 5 × Fin 3 → DmaSem sig
  | (0, 0) => (((cc0_scratch0 : DmaSems sig S15).slice (Rect.unit (s := S15) ![0] S1.size inb_S15_S1_0)).squeeze S_ squeezes_S1_S_).sem
  | (0, 1) => (((cc0_scratch0 : DmaSems sig S15).slice (Rect.unit (s := S15) ![1] S1.size inb_S15_S1_1)).squeeze S_ squeezes_S1_S_).sem
  | (0, 2) => (((cc0_scratch0 : DmaSems sig S15).slice (Rect.unit (s := S15) ![2] S1.size inb_S15_S1_2)).squeeze S_ squeezes_S1_S_).sem
  | (1, 0) => (((cc0_scratch0 : DmaSems sig S15).slice (Rect.unit (s := S15) ![3] S1.size inb_S15_S1_3)).squeeze S_ squeezes_S1_S_).sem
  | (1, 1) => (((cc0_scratch0 : DmaSems sig S15).slice (Rect.unit (s := S15) ![4] S1.size inb_S15_S1_4)).squeeze S_ squeezes_S1_S_).sem
  | (1, 2) => (((cc0_scratch0 : DmaSems sig S15).slice (Rect.unit (s := S15) ![5] S1.size inb_S15_S1_5)).squeeze S_ squeezes_S1_S_).sem
  | (2, 0) => (((cc0_scratch0 : DmaSems sig S15).slice (Rect.unit (s := S15) ![6] S1.size inb_S15_S1_6)).squeeze S_ squeezes_S1_S_).sem
  | (2, 1) => (((cc0_scratch0 : DmaSems sig S15).slice (Rect.unit (s := S15) ![7] S1.size inb_S15_S1_7)).squeeze S_ squeezes_S1_S_).sem
  | (2, 2) => (((cc0_scratch0 : DmaSems sig S15).slice (Rect.unit (s := S15) ![8] S1.size inb_S15_S1_8)).squeeze S_ squeezes_S1_S_).sem
  | (3, 0) => (((cc0_scratch0 : DmaSems sig S15).slice (Rect.unit (s := S15) ![9] S1.size inb_S15_S1_9)).squeeze S_ squeezes_S1_S_).sem
  | (3, 1) => (((cc0_scratch0 : DmaSems sig S15).slice (Rect.unit (s := S15) ![10] S1.size inb_S15_S1_10)).squeeze S_ squeezes_S1_S_).sem
  | (3, 2) => (((cc0_scratch0 : DmaSems sig S15).slice (Rect.unit (s := S15) ![11] S1.size inb_S15_S1_11)).squeeze S_ squeezes_S1_S_).sem
  | (4, 0) => (((cc0_scratch0 : DmaSems sig S15).slice (Rect.unit (s := S15) ![12] S1.size inb_S15_S1_12)).squeeze S_ squeezes_S1_S_).sem
  | (4, 1) => (((cc0_scratch0 : DmaSems sig S15).slice (Rect.unit (s := S15) ![13] S1.size inb_S15_S1_13)).squeeze S_ squeezes_S1_S_).sem
  | (4, 2) => (((cc0_scratch0 : DmaSems sig S15).slice (Rect.unit (s := S15) ![14] S1.size inb_S15_S1_14)).squeeze S_ squeezes_S1_S_).sem
def sR : Fin 5 × Fin 3 → DmaSem sig
  | (0, 0) => (((cc0_scratch1 : DmaSems sig S15).slice (Rect.unit (s := S15) ![0] S1.size inb_S15_S1_0)).squeeze S_ squeezes_S1_S_).sem
  | (0, 1) => (((cc0_scratch1 : DmaSems sig S15).slice (Rect.unit (s := S15) ![1] S1.size inb_S15_S1_1)).squeeze S_ squeezes_S1_S_).sem
  | (0, 2) => (((cc0_scratch1 : DmaSems sig S15).slice (Rect.unit (s := S15) ![2] S1.size inb_S15_S1_2)).squeeze S_ squeezes_S1_S_).sem
  | (1, 0) => (((cc0_scratch1 : DmaSems sig S15).slice (Rect.unit (s := S15) ![3] S1.size inb_S15_S1_3)).squeeze S_ squeezes_S1_S_).sem
  | (1, 1) => (((cc0_scratch1 : DmaSems sig S15).slice (Rect.unit (s := S15) ![4] S1.size inb_S15_S1_4)).squeeze S_ squeezes_S1_S_).sem
  | (1, 2) => (((cc0_scratch1 : DmaSems sig S15).slice (Rect.unit (s := S15) ![5] S1.size inb_S15_S1_5)).squeeze S_ squeezes_S1_S_).sem
  | (2, 0) => (((cc0_scratch1 : DmaSems sig S15).slice (Rect.unit (s := S15) ![6] S1.size inb_S15_S1_6)).squeeze S_ squeezes_S1_S_).sem
  | (2, 1) => (((cc0_scratch1 : DmaSems sig S15).slice (Rect.unit (s := S15) ![7] S1.size inb_S15_S1_7)).squeeze S_ squeezes_S1_S_).sem
  | (2, 2) => (((cc0_scratch1 : DmaSems sig S15).slice (Rect.unit (s := S15) ![8] S1.size inb_S15_S1_8)).squeeze S_ squeezes_S1_S_).sem
  | (3, 0) => (((cc0_scratch1 : DmaSems sig S15).slice (Rect.unit (s := S15) ![9] S1.size inb_S15_S1_9)).squeeze S_ squeezes_S1_S_).sem
  | (3, 1) => (((cc0_scratch1 : DmaSems sig S15).slice (Rect.unit (s := S15) ![10] S1.size inb_S15_S1_10)).squeeze S_ squeezes_S1_S_).sem
  | (3, 2) => (((cc0_scratch1 : DmaSems sig S15).slice (Rect.unit (s := S15) ![11] S1.size inb_S15_S1_11)).squeeze S_ squeezes_S1_S_).sem
  | (4, 0) => (((cc0_scratch1 : DmaSems sig S15).slice (Rect.unit (s := S15) ![12] S1.size inb_S15_S1_12)).squeeze S_ squeezes_S1_S_).sem
  | (4, 1) => (((cc0_scratch1 : DmaSems sig S15).slice (Rect.unit (s := S15) ![13] S1.size inb_S15_S1_13)).squeeze S_ squeezes_S1_S_).sem
  | (4, 2) => (((cc0_scratch1 : DmaSems sig S15).slice (Rect.unit (s := S15) ![14] S1.size inb_S15_S1_14)).squeeze S_ squeezes_S1_S_).sem
def sL : Fin 5 → DmaSem sig
  | 0 => (((cc0_scratch2 : DmaSems sig S5).slice (Rect.unit (s := S5) ![0] S1.size inb_S5_S1_0)).squeeze S_ squeezes_S1_S_).sem
  | 1 => (((cc0_scratch2 : DmaSems sig S5).slice (Rect.unit (s := S5) ![1] S1.size inb_S5_S1_1)).squeeze S_ squeezes_S1_S_).sem
  | 2 => (((cc0_scratch2 : DmaSems sig S5).slice (Rect.unit (s := S5) ![2] S1.size inb_S5_S1_2)).squeeze S_ squeezes_S1_S_).sem
  | 3 => (((cc0_scratch2 : DmaSems sig S5).slice (Rect.unit (s := S5) ![3] S1.size inb_S5_S1_3)).squeeze S_ squeezes_S1_S_).sem
  | 4 => (((cc0_scratch2 : DmaSems sig S5).slice (Rect.unit (s := S5) ![4] S1.size inb_S5_S1_4)).squeeze S_ squeezes_S1_S_).sem

def wS (c : Dev nD) : Fin 5 × Fin 3 → TpuEff nD τ sig (Elt F) Λ₀ .tc PUnit
  | (0, 0) => .waitDma2 (sS (0, 0)) (((Memref.whole main_v1_0 : Memref sig .tc .hbm S4x512x768 .f32).slice (Rect.unit (s := S4x512x768) (k0_off1 c) S1x512x768.size (k0_off1_inb c)) (fun _ => rfl)).squeeze S512x768 squeezes_S1x512x768_S512x768) (((Memref.whole main_arg0 : Memref sig .tc .hbm S4x512x768 .f32).slice (Rect.unit (s := S4x512x768) (k0_off5 c) S1x512x768.size (k0_off5_inb c)) (fun _ => rfl)).squeeze S512x768 squeezes_S1x512x768_S512x768) ((View.wordExact_bits rfl).reshape _ _) ((View.wordExact_bits rfl).reshape _ _)
  | (0, 1) => .waitDma2 (sS (0, 1)) (((Memref.whole main_v1_0 : Memref sig .tc .hbm S4x512x768 .f32).slice (Rect.unit (s := S4x512x768) (k0_off1 c) S1x512x768.size (k0_off1_inb c)) (fun _ => rfl)).squeeze S512x768 squeezes_S1x512x768_S512x768) (((Memref.whole main_arg0 : Memref sig .tc .hbm S4x512x768 .f32).slice (Rect.unit (s := S4x512x768) (k0_off6 c) S1x512x768.size (k0_off6_inb c)) (fun _ => rfl)).squeeze S512x768 squeezes_S1x512x768_S512x768) ((View.wordExact_bits rfl).reshape _ _) ((View.wordExact_bits rfl).reshape _ _)
  | (0, 2) => .waitDma2 (sS (0, 2)) (((Memref.whole main_v1_0 : Memref sig .tc .hbm S4x512x768 .f32).slice (Rect.unit (s := S4x512x768) (k0_off1 c) S1x512x768.size (k0_off1_inb c)) (fun _ => rfl)).squeeze S512x768 squeezes_S1x512x768_S512x768) (((Memref.whole main_arg0 : Memref sig .tc .hbm S4x512x768 .f32).slice (Rect.unit (s := S4x512x768) (k0_off7 c) S1x512x768.size (k0_off7_inb c)) (fun _ => rfl)).squeeze S512x768 squeezes_S1x512x768_S512x768) ((View.wordExact_bits rfl).reshape _ _) ((View.wordExact_bits rfl).reshape _ _)
  | (1, 0) => .waitDma2 (sS (1, 0)) (((Memref.whole main_v1_1 : Memref sig .tc .hbm S4x128x1024 .f32).slice (Rect.unit (s := S4x128x1024) (k0_off2 c) S1x128x1024.size (k0_off2_inb c)) (fun _ => rfl)).squeeze S128x1024 squeezes_S1x128x1024_S128x1024) (((Memref.whole main_arg1 : Memref sig .tc .hbm S4x128x1024 .f32).slice (Rect.unit (s := S4x128x1024) (k0_off8 c) S1x128x1024.size (k0_off8_inb c)) (fun _ => rfl)).squeeze S128x1024 squeezes_S1x128x1024_S128x1024) ((View.wordExact_bits rfl).reshape _ _) ((View.wordExact_bits rfl).reshape _ _)
  | (1, 1) => .waitDma2 (sS (1, 1)) (((Memref.whole main_v1_1 : Memref sig .tc .hbm S4x128x1024 .f32).slice (Rect.unit (s := S4x128x1024) (k0_off2 c) S1x128x1024.size (k0_off2_inb c)) (fun _ => rfl)).squeeze S128x1024 squeezes_S1x128x1024_S128x1024) (((Memref.whole main_arg1 : Memref sig .tc .hbm S4x128x1024 .f32).slice (Rect.unit (s := S4x128x1024) (k0_off9 c) S1x128x1024.size (k0_off9_inb c)) (fun _ => rfl)).squeeze S128x1024 squeezes_S1x128x1024_S128x1024) ((View.wordExact_bits rfl).reshape _ _) ((View.wordExact_bits rfl).reshape _ _)
  | (1, 2) => .waitDma2 (sS (1, 2)) (((Memref.whole main_v1_1 : Memref sig .tc .hbm S4x128x1024 .f32).slice (Rect.unit (s := S4x128x1024) (k0_off2 c) S1x128x1024.size (k0_off2_inb c)) (fun _ => rfl)).squeeze S128x1024 squeezes_S1x128x1024_S128x1024) (((Memref.whole main_arg1 : Memref sig .tc .hbm S4x128x1024 .f32).slice (Rect.unit (s := S4x128x1024) (k0_off10 c) S1x128x1024.size (k0_off10_inb c)) (fun _ => rfl)).squeeze S128x1024 squeezes_S1x128x1024_S128x1024) ((View.wordExact_bits rfl).reshape _ _) ((View.wordExact_bits rfl).reshape _ _)
  | (2, 0) => .waitDma2 (sS (2, 0)) (((Memref.whole main_v1_2 : Memref sig .tc .hbm S4x64x512 .f32).slice (Rect.unit (s := S4x64x512) (k0_off3 c) S1x64x512.size (k0_off3_inb c)) (fun _ => rfl)).squeeze S64x512 squeezes_S1x64x512_S64x512) (((Memref.whole main_arg2 : Memref sig .tc .hbm S4x64x512 .f32).slice (Rect.unit (s := S4x64x512) (k0_off11 c) S1x64x512.size (k0_off11_inb c)) (fun _ => rfl)).squeeze S64x512 squeezes_S1x64x512_S64x512) ((View.wordExact_bits rfl).reshape _ _) ((View.wordExact_bits rfl).reshape _ _)
  | (2, 1) => .waitDma2 (sS (2, 1)) (((Memref.whole main_v1_2 : Memref sig .tc .hbm S4x64x512 .f32).slice (Rect.unit (s := S4x64x512) (k0_off3 c) S1x64x512.size (k0_off3_inb c)) (fun _ => rfl)).squeeze S64x512 squeezes_S1x64x512_S64x512) (((Memref.whole main_arg2 : Memref sig .tc .hbm S4x64x512 .f32).slice (Rect.unit (s := S4x64x512) (k0_off12 c) S1x64x512.size (k0_off12_inb c)) (fun _ => rfl)).squeeze S64x512 squeezes_S1x64x512_S64x512) ((View.wordExact_bits rfl).reshape _ _) ((View.wordExact_bits rfl).reshape _ _)
  | (2, 2) => .waitDma2 (sS (2, 2)) (((Memref.whole main_v1_2 : Memref sig .tc .hbm S4x64x512 .f32).slice (Rect.unit (s := S4x64x512) (k0_off3 c) S1x64x512.size (k0_off3_inb c)) (fun _ => rfl)).squeeze S64x512 squeezes_S1x64x512_S64x512) (((Memref.whole main_arg2 : Memref sig .tc .hbm S4x64x512 .f32).slice (Rect.unit (s := S4x64x512) (k0_off13 c) S1x64x512.size (k0_off13_inb c)) (fun _ => rfl)).squeeze S64x512 squeezes_S1x64x512_S64x512) ((View.wordExact_bits rfl).reshape _ _) ((View.wordExact_bits rfl).reshape _ _)
  | (3, 0) => .waitDma2 (sS (3, 0)) (((Memref.whole main_v1_3 : Memref sig .tc .hbm S4x512x1028 .f32).slice (Rect.unit (s := S4x512x1028) (k0_off4 c) S1x512x1028.size (k0_off4_inb c)) (fun _ => rfl)).squeeze S512x1028 squeezes_S1x512x1028_S512x1028) (((Memref.whole main_arg3 : Memref sig .tc .hbm S4x512x1028 .f32).slice (Rect.unit (s := S4x512x1028) (k0_off14 c) S1x512x1028.size (k0_off14_inb c)) (fun _ => rfl)).squeeze S512x1028 squeezes_S1x512x1028_S512x1028) ((View.wordExact_bits rfl).reshape _ _) ((View.wordExact_bits rfl).reshape _ _)
  | (3, 1) => .waitDma2 (sS (3, 1)) (((Memref.whole main_v1_3 : Memref sig .tc .hbm S4x512x1028 .f32).slice (Rect.unit (s := S4x512x1028) (k0_off4 c) S1x512x1028.size (k0_off4_inb c)) (fun _ => rfl)).squeeze S512x1028 squeezes_S1x512x1028_S512x1028) (((Memref.whole main_arg3 : Memref sig .tc .hbm S4x512x1028 .f32).slice (Rect.unit (s := S4x512x1028) (k0_off15 c) S1x512x1028.size (k0_off15_inb c)) (fun _ => rfl)).squeeze S512x1028 squeezes_S1x512x1028_S512x1028) ((View.wordExact_bits rfl).reshape _ _) ((View.wordExact_bits rfl).reshape _ _)
  | (3, 2) => .waitDma2 (sS (3, 2)) (((Memref.whole main_v1_3 : Memref sig .tc .hbm S4x512x1028 .f32).slice (Rect.unit (s := S4x512x1028) (k0_off4 c) S1x512x1028.size (k0_off4_inb c)) (fun _ => rfl)).squeeze S512x1028 squeezes_S1x512x1028_S512x1028) (((Memref.whole main_arg3 : Memref sig .tc .hbm S4x512x1028 .f32).slice (Rect.unit (s := S4x512x1028) (k0_off16 c) S1x512x1028.size (k0_off16_inb c)) (fun _ => rfl)).squeeze S512x1028 squeezes_S1x512x1028_S512x1028) ((View.wordExact_bits rfl).reshape _ _) ((View.wordExact_bits rfl).reshape _ _)
  | (4, 0) => .waitDma2 (sS (4, 0)) (((Memref.whole main_v1_4 : Memref sig .tc .hbm S4x128x1024 .f32).slice (Rect.unit (s := S4x128x1024) (k0_off2 c) S1x128x1024.size (k0_off2_inb c)) (fun _ => rfl)).squeeze S128x1024 squeezes_S1x128x1024_S128x1024) (((Memref.whole main_arg4 : Memref sig .tc .hbm S4x128x1024 .f32).slice (Rect.unit (s := S4x128x1024) (k0_off8 c) S1x128x1024.size (k0_off8_inb c)) (fun _ => rfl)).squeeze S128x1024 squeezes_S1x128x1024_S128x1024) ((View.wordExact_bits rfl).reshape _ _) ((View.wordExact_bits rfl).reshape _ _)
  | (4, 1) => .waitDma2 (sS (4, 1)) (((Memref.whole main_v1_4 : Memref sig .tc .hbm S4x128x1024 .f32).slice (Rect.unit (s := S4x128x1024) (k0_off2 c) S1x128x1024.size (k0_off2_inb c)) (fun _ => rfl)).squeeze S128x1024 squeezes_S1x128x1024_S128x1024) (((Memref.whole main_arg4 : Memref sig .tc .hbm S4x128x1024 .f32).slice (Rect.unit (s := S4x128x1024) (k0_off9 c) S1x128x1024.size (k0_off9_inb c)) (fun _ => rfl)).squeeze S128x1024 squeezes_S1x128x1024_S128x1024) ((View.wordExact_bits rfl).reshape _ _) ((View.wordExact_bits rfl).reshape _ _)
  | (4, 2) => .waitDma2 (sS (4, 2)) (((Memref.whole main_v1_4 : Memref sig .tc .hbm S4x128x1024 .f32).slice (Rect.unit (s := S4x128x1024) (k0_off2 c) S1x128x1024.size (k0_off2_inb c)) (fun _ => rfl)).squeeze S128x1024 squeezes_S1x128x1024_S128x1024) (((Memref.whole main_arg4 : Memref sig .tc .hbm S4x128x1024 .f32).slice (Rect.unit (s := S4x128x1024) (k0_off10 c) S1x128x1024.size (k0_off10_inb c)) (fun _ => rfl)).squeeze S128x1024 squeezes_S1x128x1024_S128x1024) ((View.wordExact_bits rfl).reshape _ _) ((View.wordExact_bits rfl).reshape _ _)
def wR (c : Dev nD) : Fin 5 × Fin 3 → TpuEff nD τ sig (Elt F) Λ₀ .tc PUnit
  | (0, 0) => .waitDma2 (sR (0, 0)) (((Memref.whole main_arg0 : Memref sig .tc .hbm S4x512x768 .f32).slice (Rect.unit (s := S4x512x768) (k0_off5 c) S1x512x768.size (k0_off5_inb c)) (fun _ => rfl)).squeeze S512x768 squeezes_S1x512x768_S512x768) (((Memref.whole main_v1_0 : Memref sig .tc .hbm S4x512x768 .f32).slice (Rect.unit (s := S4x512x768) (k0_off5 c) S1x512x768.size (k0_off5_inb c)) (fun _ => rfl)).squeeze S512x768 squeezes_S1x512x768_S512x768) ((View.wordExact_bits rfl).reshape _ _) ((View.wordExact_bits rfl).reshape _ _)
  | (0, 1) => .waitDma2 (sR (0, 1)) (((Memref.whole main_arg0 : Memref sig .tc .hbm S4x512x768 .f32).slice (Rect.unit (s := S4x512x768) (k0_off6 c) S1x512x768.size (k0_off6_inb c)) (fun _ => rfl)).squeeze S512x768 squeezes_S1x512x768_S512x768) (((Memref.whole main_v1_0 : Memref sig .tc .hbm S4x512x768 .f32).slice (Rect.unit (s := S4x512x768) (k0_off6 c) S1x512x768.size (k0_off6_inb c)) (fun _ => rfl)).squeeze S512x768 squeezes_S1x512x768_S512x768) ((View.wordExact_bits rfl).reshape _ _) ((View.wordExact_bits rfl).reshape _ _)
  | (0, 2) => .waitDma2 (sR (0, 2)) (((Memref.whole main_arg0 : Memref sig .tc .hbm S4x512x768 .f32).slice (Rect.unit (s := S4x512x768) (k0_off7 c) S1x512x768.size (k0_off7_inb c)) (fun _ => rfl)).squeeze S512x768 squeezes_S1x512x768_S512x768) (((Memref.whole main_v1_0 : Memref sig .tc .hbm S4x512x768 .f32).slice (Rect.unit (s := S4x512x768) (k0_off7 c) S1x512x768.size (k0_off7_inb c)) (fun _ => rfl)).squeeze S512x768 squeezes_S1x512x768_S512x768) ((View.wordExact_bits rfl).reshape _ _) ((View.wordExact_bits rfl).reshape _ _)
  | (1, 0) => .waitDma2 (sR (1, 0)) (((Memref.whole main_arg1 : Memref sig .tc .hbm S4x128x1024 .f32).slice (Rect.unit (s := S4x128x1024) (k0_off8 c) S1x128x1024.size (k0_off8_inb c)) (fun _ => rfl)).squeeze S128x1024 squeezes_S1x128x1024_S128x1024) (((Memref.whole main_v1_1 : Memref sig .tc .hbm S4x128x1024 .f32).slice (Rect.unit (s := S4x128x1024) (k0_off8 c) S1x128x1024.size (k0_off8_inb c)) (fun _ => rfl)).squeeze S128x1024 squeezes_S1x128x1024_S128x1024) ((View.wordExact_bits rfl).reshape _ _) ((View.wordExact_bits rfl).reshape _ _)
  | (1, 1) => .waitDma2 (sR (1, 1)) (((Memref.whole main_arg1 : Memref sig .tc .hbm S4x128x1024 .f32).slice (Rect.unit (s := S4x128x1024) (k0_off9 c) S1x128x1024.size (k0_off9_inb c)) (fun _ => rfl)).squeeze S128x1024 squeezes_S1x128x1024_S128x1024) (((Memref.whole main_v1_1 : Memref sig .tc .hbm S4x128x1024 .f32).slice (Rect.unit (s := S4x128x1024) (k0_off9 c) S1x128x1024.size (k0_off9_inb c)) (fun _ => rfl)).squeeze S128x1024 squeezes_S1x128x1024_S128x1024) ((View.wordExact_bits rfl).reshape _ _) ((View.wordExact_bits rfl).reshape _ _)
  | (1, 2) => .waitDma2 (sR (1, 2)) (((Memref.whole main_arg1 : Memref sig .tc .hbm S4x128x1024 .f32).slice (Rect.unit (s := S4x128x1024) (k0_off10 c) S1x128x1024.size (k0_off10_inb c)) (fun _ => rfl)).squeeze S128x1024 squeezes_S1x128x1024_S128x1024) (((Memref.whole main_v1_1 : Memref sig .tc .hbm S4x128x1024 .f32).slice (Rect.unit (s := S4x128x1024) (k0_off10 c) S1x128x1024.size (k0_off10_inb c)) (fun _ => rfl)).squeeze S128x1024 squeezes_S1x128x1024_S128x1024) ((View.wordExact_bits rfl).reshape _ _) ((View.wordExact_bits rfl).reshape _ _)
  | (2, 0) => .waitDma2 (sR (2, 0)) (((Memref.whole main_arg2 : Memref sig .tc .hbm S4x64x512 .f32).slice (Rect.unit (s := S4x64x512) (k0_off11 c) S1x64x512.size (k0_off11_inb c)) (fun _ => rfl)).squeeze S64x512 squeezes_S1x64x512_S64x512) (((Memref.whole main_v1_2 : Memref sig .tc .hbm S4x64x512 .f32).slice (Rect.unit (s := S4x64x512) (k0_off11 c) S1x64x512.size (k0_off11_inb c)) (fun _ => rfl)).squeeze S64x512 squeezes_S1x64x512_S64x512) ((View.wordExact_bits rfl).reshape _ _) ((View.wordExact_bits rfl).reshape _ _)
  | (2, 1) => .waitDma2 (sR (2, 1)) (((Memref.whole main_arg2 : Memref sig .tc .hbm S4x64x512 .f32).slice (Rect.unit (s := S4x64x512) (k0_off12 c) S1x64x512.size (k0_off12_inb c)) (fun _ => rfl)).squeeze S64x512 squeezes_S1x64x512_S64x512) (((Memref.whole main_v1_2 : Memref sig .tc .hbm S4x64x512 .f32).slice (Rect.unit (s := S4x64x512) (k0_off12 c) S1x64x512.size (k0_off12_inb c)) (fun _ => rfl)).squeeze S64x512 squeezes_S1x64x512_S64x512) ((View.wordExact_bits rfl).reshape _ _) ((View.wordExact_bits rfl).reshape _ _)
  | (2, 2) => .waitDma2 (sR (2, 2)) (((Memref.whole main_arg2 : Memref sig .tc .hbm S4x64x512 .f32).slice (Rect.unit (s := S4x64x512) (k0_off13 c) S1x64x512.size (k0_off13_inb c)) (fun _ => rfl)).squeeze S64x512 squeezes_S1x64x512_S64x512) (((Memref.whole main_v1_2 : Memref sig .tc .hbm S4x64x512 .f32).slice (Rect.unit (s := S4x64x512) (k0_off13 c) S1x64x512.size (k0_off13_inb c)) (fun _ => rfl)).squeeze S64x512 squeezes_S1x64x512_S64x512) ((View.wordExact_bits rfl).reshape _ _) ((View.wordExact_bits rfl).reshape _ _)
  | (3, 0) => .waitDma2 (sR (3, 0)) (((Memref.whole main_arg3 : Memref sig .tc .hbm S4x512x1028 .f32).slice (Rect.unit (s := S4x512x1028) (k0_off14 c) S1x512x1028.size (k0_off14_inb c)) (fun _ => rfl)).squeeze S512x1028 squeezes_S1x512x1028_S512x1028) (((Memref.whole main_v1_3 : Memref sig .tc .hbm S4x512x1028 .f32).slice (Rect.unit (s := S4x512x1028) (k0_off14 c) S1x512x1028.size (k0_off14_inb c)) (fun _ => rfl)).squeeze S512x1028 squeezes_S1x512x1028_S512x1028) ((View.wordExact_bits rfl).reshape _ _) ((View.wordExact_bits rfl).reshape _ _)
  | (3, 1) => .waitDma2 (sR (3, 1)) (((Memref.whole main_arg3 : Memref sig .tc .hbm S4x512x1028 .f32).slice (Rect.unit (s := S4x512x1028) (k0_off15 c) S1x512x1028.size (k0_off15_inb c)) (fun _ => rfl)).squeeze S512x1028 squeezes_S1x512x1028_S512x1028) (((Memref.whole main_v1_3 : Memref sig .tc .hbm S4x512x1028 .f32).slice (Rect.unit (s := S4x512x1028) (k0_off15 c) S1x512x1028.size (k0_off15_inb c)) (fun _ => rfl)).squeeze S512x1028 squeezes_S1x512x1028_S512x1028) ((View.wordExact_bits rfl).reshape _ _) ((View.wordExact_bits rfl).reshape _ _)
  | (3, 2) => .waitDma2 (sR (3, 2)) (((Memref.whole main_arg3 : Memref sig .tc .hbm S4x512x1028 .f32).slice (Rect.unit (s := S4x512x1028) (k0_off16 c) S1x512x1028.size (k0_off16_inb c)) (fun _ => rfl)).squeeze S512x1028 squeezes_S1x512x1028_S512x1028) (((Memref.whole main_v1_3 : Memref sig .tc .hbm S4x512x1028 .f32).slice (Rect.unit (s := S4x512x1028) (k0_off16 c) S1x512x1028.size (k0_off16_inb c)) (fun _ => rfl)).squeeze S512x1028 squeezes_S1x512x1028_S512x1028) ((View.wordExact_bits rfl).reshape _ _) ((View.wordExact_bits rfl).reshape _ _)
  | (4, 0) => .waitDma2 (sR (4, 0)) (((Memref.whole main_arg4 : Memref sig .tc .hbm S4x128x1024 .f32).slice (Rect.unit (s := S4x128x1024) (k0_off8 c) S1x128x1024.size (k0_off8_inb c)) (fun _ => rfl)).squeeze S128x1024 squeezes_S1x128x1024_S128x1024) (((Memref.whole main_v1_4 : Memref sig .tc .hbm S4x128x1024 .f32).slice (Rect.unit (s := S4x128x1024) (k0_off8 c) S1x128x1024.size (k0_off8_inb c)) (fun _ => rfl)).squeeze S128x1024 squeezes_S1x128x1024_S128x1024) ((View.wordExact_bits rfl).reshape _ _) ((View.wordExact_bits rfl).reshape _ _)
  | (4, 1) => .waitDma2 (sR (4, 1)) (((Memref.whole main_arg4 : Memref sig .tc .hbm S4x128x1024 .f32).slice (Rect.unit (s := S4x128x1024) (k0_off9 c) S1x128x1024.size (k0_off9_inb c)) (fun _ => rfl)).squeeze S128x1024 squeezes_S1x128x1024_S128x1024) (((Memref.whole main_v1_4 : Memref sig .tc .hbm S4x128x1024 .f32).slice (Rect.unit (s := S4x128x1024) (k0_off9 c) S1x128x1024.size (k0_off9_inb c)) (fun _ => rfl)).squeeze S128x1024 squeezes_S1x128x1024_S128x1024) ((View.wordExact_bits rfl).reshape _ _) ((View.wordExact_bits rfl).reshape _ _)
  | (4, 2) => .waitDma2 (sR (4, 2)) (((Memref.whole main_arg4 : Memref sig .tc .hbm S4x128x1024 .f32).slice (Rect.unit (s := S4x128x1024) (k0_off10 c) S1x128x1024.size (k0_off10_inb c)) (fun _ => rfl)).squeeze S128x1024 squeezes_S1x128x1024_S128x1024) (((Memref.whole main_v1_4 : Memref sig .tc .hbm S4x128x1024 .f32).slice (Rect.unit (s := S4x128x1024) (k0_off10 c) S1x128x1024.size (k0_off10_inb c)) (fun _ => rfl)).squeeze S128x1024 squeezes_S1x128x1024_S128x1024) ((View.wordExact_bits rfl).reshape _ _) ((View.wordExact_bits rfl).reshape _ _)
def wL (c : Dev nD) : Fin 5 → TpuEff nD τ sig (Elt F) Λ₀ .tc PUnit
  | 0 => .waitDma2 (sL 0) (((Memref.whole main_arg0 : Memref sig .tc .hbm S4x512x768 .f32).slice (Rect.unit (s := S4x512x768) (k0_off1 c) S1x512x768.size (k0_off1_inb c)) (fun _ => rfl)).squeeze S512x768 squeezes_S1x512x768_S512x768) (((Memref.whole main_v1_0 : Memref sig .tc .hbm S4x512x768 .f32).slice (Rect.unit (s := S4x512x768) (k0_off1 c) S1x512x768.size (k0_off1_inb c)) (fun _ => rfl)).squeeze S512x768 squeezes_S1x512x768_S512x768) ((View.wordExact_bits rfl).reshape _ _) ((View.wordExact_bits rfl).reshape _ _)
  | 1 => .waitDma2 (sL 1) (((Memref.whole main_arg1 : Memref sig .tc .hbm S4x128x1024 .f32).slice (Rect.unit (s := S4x128x1024) (k0_off2 c) S1x128x1024.size (k0_off2_inb c)) (fun _ => rfl)).squeeze S128x1024 squeezes_S1x128x1024_S128x1024) (((Memref.whole main_v1_1 : Memref sig .tc .hbm S4x128x1024 .f32).slice (Rect.unit (s := S4x128x1024) (k0_off2 c) S1x128x1024.size (k0_off2_inb c)) (fun _ => rfl)).squeeze S128x1024 squeezes_S1x128x1024_S128x1024) ((View.wordExact_bits rfl).reshape _ _) ((View.wordExact_bits rfl).reshape _ _)
  | 2 => .waitDma2 (sL 2) (((Memref.whole main_arg2 : Memref sig .tc .hbm S4x64x512 .f32).slice (Rect.unit (s := S4x64x512) (k0_off3 c) S1x64x512.size (k0_off3_inb c)) (fun _ => rfl)).squeeze S64x512 squeezes_S1x64x512_S64x512) (((Memref.whole main_v1_2 : Memref sig .tc .hbm S4x64x512 .f32).slice (Rect.unit (s := S4x64x512) (k0_off3 c) S1x64x512.size (k0_off3_inb c)) (fun _ => rfl)).squeeze S64x512 squeezes_S1x64x512_S64x512) ((View.wordExact_bits rfl).reshape _ _) ((View.wordExact_bits rfl).reshape _ _)
  | 3 => .waitDma2 (sL 3) (((Memref.whole main_arg3 : Memref sig .tc .hbm S4x512x1028 .f32).slice (Rect.unit (s := S4x512x1028) (k0_off4 c) S1x512x1028.size (k0_off4_inb c)) (fun _ => rfl)).squeeze S512x1028 squeezes_S1x512x1028_S512x1028) (((Memref.whole main_v1_3 : Memref sig .tc .hbm S4x512x1028 .f32).slice (Rect.unit (s := S4x512x1028) (k0_off4 c) S1x512x1028.size (k0_off4_inb c)) (fun _ => rfl)).squeeze S512x1028 squeezes_S1x512x1028_S512x1028) ((View.wordExact_bits rfl).reshape _ _) ((View.wordExact_bits rfl).reshape _ _)
  | 4 => .waitDma2 (sL 4) (((Memref.whole main_arg4 : Memref sig .tc .hbm S4x128x1024 .f32).slice (Rect.unit (s := S4x128x1024) (k0_off2 c) S1x128x1024.size (k0_off2_inb c)) (fun _ => rfl)).squeeze S128x1024 squeezes_S1x128x1024_S128x1024) (((Memref.whole main_v1_4 : Memref sig .tc .hbm S4x128x1024 .f32).slice (Rect.unit (s := S4x128x1024) (k0_off2 c) S1x128x1024.size (k0_off2_inb c)) (fun _ => rfl)).squeeze S128x1024 squeezes_S1x128x1024_S128x1024) ((View.wordExact_bits rfl).reshape _ _) ((View.wordExact_bits rfl).reshape _ _)

theorem kept_pos (i : Fin 5) : 0 < (kept 0 i).dst.view.dmaCredit := View.dmaCredit_pos _ (by revert i; decide)

theorem sems_inj : Function.Injective (semOf sS sR sL) := by decide

/-- The exchange. -/
def X : Exch nD τ sig (Elt F) Λ₀ (Fin 5 × Fin 3) (Fin 5) where
  peer j := peer j.2
  peer_peer j c := peer_peer j.2 c
  rc := sent
  lc := kept
  sS := sS
  sR := sR
  sL := sL
  inj := sems_inj
  N j := (kept 0 j.1).dst.view.dmaCredit
  NL i := (kept 0 i).dst.view.dmaCredit
  N_pos j := kept_pos j.1
  NL_pos i := kept_pos i
  hN c j := by obtain ⟨a, k⟩ := j; exact match a with | 0 => rfl | 1 => rfl | 2 => rfl | 3 => rfl | 4 => rfl
  hNL c i := match i with | 0 => rfl | 1 => rfl | 2 => rfl | 3 => rfl | 4 => rfl
  qs _ := fullShare
  ql _ := fullShare
  wS := wS
  wR := wR
  wL := wL

set_option maxRecDepth 65536 in
theorem body_eq (t : Fin cfg0.N) : defs₀ (F := F) .tc cfg0.body (cfg0.bodyArgs t (cfg0.slots t)) = .op .deviceId fun d => X.prog [0, 1, 2, 3, 4] [(0, 0), (0, 1), (0, 2), (1, 0), (1, 1), (1, 2), (2, 0), (2, 1), (2, 2), (3, 0), (3, 1), (3, 2), (4, 0), (4, 1), (4, 2)] d := rfl

theorem own : Pipeline.OwnSemFacts (cfgs 0).spec (semOf sS sR sL) := by decide

end Exchange.Scatter

end
-- ==== Proof.ScatterRun.lean ====
/-
  `reduce_chips`: every device hands to each other chip, at its own core, that chip's slot of five arrays.
  What every device holds before and after, and the run.
-/
module

public import proofs.«01_k».proof.Proof.Scatter

@[expose] public section

set_option Elab.async false

noncomputable section

namespace Exchange.Scatter

open Idealize.ShloMosaic Idealize.ShloMosaic.TcCoe
open Idealize.ShloMosaic.Pipeline (scopedRest)
open Idealize.SL
open Idealize.SL.BI (sProp bigSep bigSepL bigSep_congr)
open scoped Idealize.SL.BI
open Idealize.SL.BI.BIBase Idealize.SL.BI.Laws Idealize.SL.Sem Idealize.SL.ProofMode
open Idealize.SL.RA
open Cert.ScatterIdeal Cert.ScatterIdeal.Gen

variable {F : FTy → Type} [FloatOps F]

/-! ## Buffers -/

variable (m : (ℓ : Loc nD τ sig) → Buf (Elt F) ℓ) (g : Dev nD → PrngReg)

/-- What device `c` has of array 0 afterwards. -/
def got0 (c : Dev nD) : Buf (Elt F) ((c.tc : Thread nD τ).loc main_v1_0) := fun x : (⟨3, ![4, 512, 768]⟩ : Shape).Idx => m ((holder c (x 0)).tc.loc main_arg0) (Fin.cons (α := fun b : Fin 3 => Fin (![4, 512, 768] b)) (place c) (Fin.tail (α := fun b : Fin 3 => Fin (![4, 512, 768] b)) x))
/-- What device `c` has of array 1 afterwards. -/
def got1 (c : Dev nD) : Buf (Elt F) ((c.tc : Thread nD τ).loc main_v1_1) := fun x : (⟨3, ![4, 128, 1024]⟩ : Shape).Idx => m ((holder c (x 0)).tc.loc main_arg1) (Fin.cons (α := fun b : Fin 3 => Fin (![4, 128, 1024] b)) (place c) (Fin.tail (α := fun b : Fin 3 => Fin (![4, 128, 1024] b)) x))
/-- What device `c` has of array 2 afterwards. -/
def got2 (c : Dev nD) : Buf (Elt F) ((c.tc : Thread nD τ).loc main_v1_2) := fun x : (⟨3, ![4, 64, 512]⟩ : Shape).Idx => m ((holder c (x 0)).tc.loc main_arg2) (Fin.cons (α := fun b : Fin 3 => Fin (![4, 64, 512] b)) (place c) (Fin.tail (α := fun b : Fin 3 => Fin (![4, 64, 512] b)) x))
/-- What device `c` has of array 3 afterwards. -/
def got3 (c : Dev nD) : Buf (Elt F) ((c.tc : Thread nD τ).loc main_v1_3) := fun x : (⟨3, ![4, 512, 1028]⟩ : Shape).Idx => m ((holder c (x 0)).tc.loc main_arg3) (Fin.cons (α := fun b : Fin 3 => Fin (![4, 512, 1028] b)) (place c) (Fin.tail (α := fun b : Fin 3 => Fin (![4, 512, 1028] b)) x))
/-- What device `c` has of array 4 afterwards. -/
def got4 (c : Dev nD) : Buf (Elt F) ((c.tc : Thread nD τ).loc main_v1_4) := fun x : (⟨3, ![4, 128, 1024]⟩ : Shape).Idx => m ((holder c (x 0)).tc.loc main_arg4) (Fin.cons (α := fun b : Fin 3 => Fin (![4, 128, 1024] b)) (place c) (Fin.tail (α := fun b : Fin 3 => Fin (![4, 128, 1024] b)) x))

/-- The memory after the exchange. -/
def after : (ℓ : Loc nD τ sig) → Buf (Elt F) ℓ :=
  put (put (put (put (put m main_v1_0 (got0 m)) main_v1_1 (got1 m)) main_v1_2 (got2 m)) main_v1_3 (got3 m)) main_v1_4 (got4 m)

theorem after_out0 (c : Dev nD) : after m (c.tc.loc main_v1_0) = got0 m c := by
  unfold after; rw [put_ne _ _ _ (by decide), put_ne _ _ _ (by decide), put_ne _ _ _ (by decide), put_ne _ _ _ (by decide), put_self]
theorem after_out1 (c : Dev nD) : after m (c.tc.loc main_v1_1) = got1 m c := by
  unfold after; rw [put_ne _ _ _ (by decide), put_ne _ _ _ (by decide), put_ne _ _ _ (by decide), put_self]
theorem after_out2 (c : Dev nD) : after m (c.tc.loc main_v1_2) = got2 m c := by
  unfold after; rw [put_ne _ _ _ (by decide), put_ne _ _ _ (by decide), put_self]
theorem after_out3 (c : Dev nD) : after m (c.tc.loc main_v1_3) = got3 m c := by
  unfold after; rw [put_ne _ _ _ (by decide), put_self]
theorem after_out4 (c : Dev nD) : after m (c.tc.loc main_v1_4) = got4 m c := by
  unfold after; rw [put_self]
theorem after_in0 (c : Dev nD) : after m (c.tc.loc main_arg0) = m (c.tc.loc main_arg0) := by
  unfold after; rw [put_ne _ _ _ (by decide), put_ne _ _ _ (by decide), put_ne _ _ _ (by decide), put_ne _ _ _ (by decide), put_ne _ _ _ (by decide)]
theorem after_in1 (c : Dev nD) : after m (c.tc.loc main_arg1) = m (c.tc.loc main_arg1) := by
  unfold after; rw [put_ne _ _ _ (by decide), put_ne _ _ _ (by decide), put_ne _ _ _ (by decide), put_ne _ _ _ (by decide), put_ne _ _ _ (by decide)]
theorem after_in2 (c : Dev nD) : after m (c.tc.loc main_arg2) = m (c.tc.loc main_arg2) := by
  unfold after; rw [put_ne _ _ _ (by decide), put_ne _ _ _ (by decide), put_ne _ _ _ (by decide), put_ne _ _ _ (by decide), put_ne _ _ _ (by decide)]
theorem after_in3 (c : Dev nD) : after m (c.tc.loc main_arg3) = m (c.tc.loc main_arg3) := by
  unfold after; rw [put_ne _ _ _ (by decide), put_ne _ _ _ (by decide), put_ne _ _ _ (by decide), put_ne _ _ _ (by decide), put_ne _ _ _ (by decide)]
theorem after_in4 (c : Dev nD) : after m (c.tc.loc main_arg4) = m (c.tc.loc main_arg4) := by
  unfold after; rw [put_ne _ _ _ (by decide), put_ne _ _ _ (by decide), put_ne _ _ _ (by decide), put_ne _ _ _ (by decide), put_ne _ _ _ (by decide)]

def inB : Fin 5 → Ref sig .tc | 0 => main_arg0 | 1 => main_arg1 | 2 => main_arg2 | 3 => main_arg3 | 4 => main_arg4
def outB : Fin 5 → Ref sig .tc | 0 => main_v1_0 | 1 => main_v1_1 | 2 => main_v1_2 | 3 => main_v1_3 | 4 => main_v1_4

local notation "𝕄" => MT nD τ sig Unit (Elt F) ℕ (UR nD τ sig × UR nD τ sig) ℕ

theorem src_eq0 (f : (ℓ : Loc nD τ sig) → Buf (Elt F) ℓ) (c : Dev nD) : (((c.tc : Thread nD τ).loc main_arg0) ↦{fullShare} f ((c.tc : Thread nD τ).loc main_arg0) : sProp 𝕄)
    = iprop((bigSep Finset.univ fun k => X.srcPt f c (0, k)) ∗ X.lsrcPt f c 0) :=
  slots_pointsTo (M := 4) (d := ![512, 768]) (View.whole main_arg0) c (View.set_whole _) (fun k => poff k c) (k0_off1 c) (fun k => poff_inb0 k c)
    (k0_off1_inb c) squeezes_S1x512x768_S512x768.numel_eq (fun k => poff_tail k c) (off_tail c) (poff_inj c) (poff_ne c) (poff_all c)
    (f ((c.tc : Thread nD τ).loc main_arg0))
theorem dst_eq0 (f : (ℓ : Loc nD τ sig) → Buf (Elt F) ℓ) (c : Dev nD) : (((c.tc : Thread nD τ).loc main_v1_0) ↦{fullShare} f ((c.tc : Thread nD τ).loc main_v1_0) : sProp 𝕄)
    = iprop((bigSep Finset.univ fun k => X.dstPt f (0, k) ((X (F := F)).peer (0, k) c) c) ∗ X.ldstPt f c 0) :=
  slots_pointsTo (M := 4) (d := ![512, 768]) (View.whole main_v1_0) c (View.set_whole _) (fun k => k0_off1 (peer k c)) (k0_off1 c) (fun k => k0_off1_inb (peer k c))
    (k0_off1_inb c) squeezes_S1x512x768_S512x768.numel_eq (fun k => off_tail (peer k c)) (off_tail c) (off_inj c) (off_ne c) (off_all c)
    (f ((c.tc : Thread nD τ).loc main_v1_0))
theorem src_eq1 (f : (ℓ : Loc nD τ sig) → Buf (Elt F) ℓ) (c : Dev nD) : (((c.tc : Thread nD τ).loc main_arg1) ↦{fullShare} f ((c.tc : Thread nD τ).loc main_arg1) : sProp 𝕄)
    = iprop((bigSep Finset.univ fun k => X.srcPt f c (1, k)) ∗ X.lsrcPt f c 1) :=
  slots_pointsTo (M := 4) (d := ![128, 1024]) (View.whole main_arg1) c (View.set_whole _) (fun k => poff k c) (k0_off1 c) (fun k => poff_inb1 k c)
    (k0_off2_inb c) squeezes_S1x128x1024_S128x1024.numel_eq (fun k => poff_tail k c) (off_tail c) (poff_inj c) (poff_ne c) (poff_all c)
    (f ((c.tc : Thread nD τ).loc main_arg1))
theorem dst_eq1 (f : (ℓ : Loc nD τ sig) → Buf (Elt F) ℓ) (c : Dev nD) : (((c.tc : Thread nD τ).loc main_v1_1) ↦{fullShare} f ((c.tc : Thread nD τ).loc main_v1_1) : sProp 𝕄)
    = iprop((bigSep Finset.univ fun k => X.dstPt f (1, k) ((X (F := F)).peer (1, k) c) c) ∗ X.ldstPt f c 1) :=
  slots_pointsTo (M := 4) (d := ![128, 1024]) (View.whole main_v1_1) c (View.set_whole _) (fun k => k0_off1 (peer k c)) (k0_off1 c) (fun k => k0_off2_inb (peer k c))
    (k0_off2_inb c) squeezes_S1x128x1024_S128x1024.numel_eq (fun k => off_tail (peer k c)) (off_tail c) (off_inj c) (off_ne c) (off_all c)
    (f ((c.tc : Thread nD τ).loc main_v1_1))
theorem src_eq2 (f : (ℓ : Loc nD τ sig) → Buf (Elt F) ℓ) (c : Dev nD) : (((c.tc : Thread nD τ).loc main_arg2) ↦{fullShare} f ((c.tc : Thread nD τ).loc main_arg2) : sProp 𝕄)
    = iprop((bigSep Finset.univ fun k => X.srcPt f c (2, k)) ∗ X.lsrcPt f c 2) :=
  slots_pointsTo (M := 4) (d := ![64, 512]) (View.whole main_arg2) c (View.set_whole _) (fun k => poff k c) (k0_off1 c) (fun k => poff_inb2 k c)
    (k0_off3_inb c) squeezes_S1x64x512_S64x512.numel_eq (fun k => poff_tail k c) (off_tail c) (poff_inj c) (poff_ne c) (poff_all c)
    (f ((c.tc : Thread nD τ).loc main_arg2))
theorem dst_eq2 (f : (ℓ : Loc nD τ sig) → Buf (Elt F) ℓ) (c : Dev nD) : (((c.tc : Thread nD τ).loc main_v1_2) ↦{fullShare} f ((c.tc : Thread nD τ).loc main_v1_2) : sProp 𝕄)
    = iprop((bigSep Finset.univ fun k => X.dstPt f (2, k) ((X (F := F)).peer (2, k) c) c) ∗ X.ldstPt f c 2) :=
  slots_pointsTo (M := 4) (d := ![64, 512]) (View.whole main_v1_2) c (View.set_whole _) (fun k => k0_off1 (peer k c)) (k0_off1 c) (fun k => k0_off3_inb (peer k c))
    (k0_off3_inb c) squeezes_S1x64x512_S64x512.numel_eq (fun k => off_tail (peer k c)) (off_tail c) (off_inj c) (off_ne c) (off_all c)
    (f ((c.tc : Thread nD τ).loc main_v1_2))
theorem src_eq3 (f : (ℓ : Loc nD τ sig) → Buf (Elt F) ℓ) (c : Dev nD) : (((c.tc : Thread nD τ).loc main_arg3) ↦{fullShare} f ((c.tc : Thread nD τ).loc main_arg3) : sProp 𝕄)
    = iprop((bigSep Finset.univ fun k => X.srcPt f c (3, k)) ∗ X.lsrcPt f c 3) :=
  slots_pointsTo (M := 4) (d := ![512, 1028]) (View.whole main_arg3) c (View.set_whole _) (fun k => poff k c) (k0_off1 c) (fun k => poff_inb3 k c)
    (k0_off4_inb c) squeezes_S1x512x1028_S512x1028.numel_eq (fun k => poff_tail k c) (off_tail c) (poff_inj c) (poff_ne c) (poff_all c)
    (f ((c.tc : Thread nD τ).loc main_arg3))
theorem dst_eq3 (f : (ℓ : Loc nD τ sig) → Buf (Elt F) ℓ) (c : Dev nD) : (((c.tc : Thread nD τ).loc main_v1_3) ↦{fullShare} f ((c.tc : Thread nD τ).loc main_v1_3) : sProp 𝕄)
    = iprop((bigSep Finset.univ fun k => X.dstPt f (3, k) ((X (F := F)).peer (3, k) c) c) ∗ X.ldstPt f c 3) :=
  slots_pointsTo (M := 4) (d := ![512, 1028]) (View.whole main_v1_3) c (View.set_whole _) (fun k => k0_off1 (peer k c)) (k0_off1 c) (fun k => k0_off4_inb (peer k c))
    (k0_off4_inb c) squeezes_S1x512x1028_S512x1028.numel_eq (fun k => off_tail (peer k c)) (off_tail c) (off_inj c) (off_ne c) (off_all c)
    (f ((c.tc : Thread nD τ).loc main_v1_3))
theorem src_eq4 (f : (ℓ : Loc nD τ sig) → Buf (Elt F) ℓ) (c : Dev nD) : (((c.tc : Thread nD τ).loc main_arg4) ↦{fullShare} f ((c.tc : Thread nD τ).loc main_arg4) : sProp 𝕄)
    = iprop((bigSep Finset.univ fun k => X.srcPt f c (4, k)) ∗ X.lsrcPt f c 4) :=
  slots_pointsTo (M := 4) (d := ![128, 1024]) (View.whole main_arg4) c (View.set_whole _) (fun k => poff k c) (k0_off1 c) (fun k => poff_inb4 k c)
    (k0_off2_inb c) squeezes_S1x128x1024_S128x1024.numel_eq (fun k => poff_tail k c) (off_tail c) (poff_inj c) (poff_ne c) (poff_all c)
    (f ((c.tc : Thread nD τ).loc main_arg4))
theorem dst_eq4 (f : (ℓ : Loc nD τ sig) → Buf (Elt F) ℓ) (c : Dev nD) : (((c.tc : Thread nD τ).loc main_v1_4) ↦{fullShare} f ((c.tc : Thread nD τ).loc main_v1_4) : sProp 𝕄)
    = iprop((bigSep Finset.univ fun k => X.dstPt f (4, k) ((X (F := F)).peer (4, k) c) c) ∗ X.ldstPt f c 4) :=
  slots_pointsTo (M := 4) (d := ![128, 1024]) (View.whole main_v1_4) c (View.set_whole _) (fun k => k0_off1 (peer k c)) (k0_off1 c) (fun k => k0_off2_inb (peer k c))
    (k0_off2_inb c) squeezes_S1x128x1024_S128x1024.numel_eq (fun k => off_tail (peer k c)) (off_tail c) (off_inj c) (off_ne c) (off_all c)
    (f ((c.tc : Thread nD τ).loc main_v1_4))

theorem bufs_inj : Function.Injective (Sum.elim inB outB) := by decide

theorem arrays : (X (F := F)).Arrays inB outB where
  inj := bufs_inj
  all := by decide
  src f c a := match a with | 0 => src_eq0 f c | 1 => src_eq1 f c | 2 => src_eq2 f c | 3 => src_eq3 f c | 4 => src_eq4 f c
  dst f c a := match a with | 0 => dst_eq0 f c | 1 => dst_eq1 f c | 2 => dst_eq2 f c | 3 => dst_eq3 f c | 4 => dst_eq4 f c

theorem read_sent0 (c : Dev nD) (k : Fin 3) :
    ((X (F := F)).rc c (0, k)).dst.view.read (Elt F) (after m (((X (F := F)).rc c (0, k)).dst.view.loc (((X (F := F)).peer (0, k) c).tc : Thread nD τ)))
      = ((X (F := F)).rc c (0, k)).src.view.read (Elt F) (m (((X (F := F)).rc c (0, k)).src.view.loc (c.tc : Thread nD τ))) := by
  funext y
  refine (slot_read (M := 4) (d := ![512, 768]) (View.whole main_v1_0) (k0_off1 c) (k0_off1_inb c) squeezes_S1x512x768_S512x768.numel_eq (place c) rfl (off_tail c)
    (after m ((peer k c).tc.loc main_v1_0)) y).trans ?_
  refine (congrFun (after_out0 m (peer k c)) (Fin.cons (α := fun b : Fin 3 => Fin (![4, 512, 768] b)) (place c) y)).trans ?_
  have e := elt_at m main_arg0 (holder_place k c) (Fin.cons (α := fun b : Fin 3 => Fin (![4, 512, 768] b)) (place (peer k c)) y)
  exact e.trans ((slot_read (M := 4) (d := ![512, 768]) (View.whole main_arg0) (poff k c) (poff_inb0 k c) squeezes_S1x512x768_S512x768.numel_eq (place (peer k c)) (poff_eq k c) (poff_tail k c) (m (c.tc.loc main_arg0)) y).symm)
theorem read_kept0 (c : Dev nD) :
    ((X (F := F)).lc c 0).dst.view.read (Elt F) (after m (((X (F := F)).lc c 0).dst.view.loc (c.tc : Thread nD τ)))
      = ((X (F := F)).lc c 0).src.view.read (Elt F) (m (((X (F := F)).lc c 0).src.view.loc (c.tc : Thread nD τ))) := by
  funext y
  refine (slot_read (M := 4) (d := ![512, 768]) (View.whole main_v1_0) (k0_off1 c) (k0_off1_inb c) squeezes_S1x512x768_S512x768.numel_eq (place c) rfl (off_tail c)
    (after m (c.tc.loc main_v1_0)) y).trans ?_
  refine (congrFun (after_out0 m c) (Fin.cons (α := fun b : Fin 3 => Fin (![4, 512, 768] b)) (place c) y)).trans ?_
  have e := elt_at m main_arg0 (holder_own c) (Fin.cons (α := fun b : Fin 3 => Fin (![4, 512, 768] b)) (place c) y)
  exact e.trans ((slot_read (M := 4) (d := ![512, 768]) (View.whole main_arg0) (k0_off1 c) (k0_off1_inb c) squeezes_S1x512x768_S512x768.numel_eq (place c) rfl (off_tail c) (m (c.tc.loc main_arg0)) y).symm)
theorem read_sent1 (c : Dev nD) (k : Fin 3) :
    ((X (F := F)).rc c (1, k)).dst.view.read (Elt F) (after m (((X (F := F)).rc c (1, k)).dst.view.loc (((X (F := F)).peer (1, k) c).tc : Thread nD τ)))
      = ((X (F := F)).rc c (1, k)).src.view.read (Elt F) (m (((X (F := F)).rc c (1, k)).src.view.loc (c.tc : Thread nD τ))) := by
  funext y
  refine (slot_read (M := 4) (d := ![128, 1024]) (View.whole main_v1_1) (k0_off1 c) (k0_off2_inb c) squeezes_S1x128x1024_S128x1024.numel_eq (place c) rfl (off_tail c)
    (after m ((peer k c).tc.loc main_v1_1)) y).trans ?_
  refine (congrFun (after_out1 m (peer k c)) (Fin.cons (α := fun b : Fin 3 => Fin (![4, 128, 1024] b)) (place c) y)).trans ?_
  have e := elt_at m main_arg1 (holder_place k c) (Fin.cons (α := fun b : Fin 3 => Fin (![4, 128, 1024] b)) (place (peer k c)) y)
  exact e.trans ((slot_read (M := 4) (d := ![128, 1024]) (View.whole main_arg1) (poff k c) (poff_inb1 k c) squeezes_S1x128x1024_S128x1024.numel_eq (place (peer k c)) (poff_eq k c) (poff_tail k c) (m (c.tc.loc main_arg1)) y).symm)
theorem read_kept1 (c : Dev nD) :
    ((X (F := F)).lc c 1).dst.view.read (Elt F) (after m (((X (F := F)).lc c 1).dst.view.loc (c.tc : Thread nD τ)))
      = ((X (F := F)).lc c 1).src.view.read (Elt F) (m (((X (F := F)).lc c 1).src.view.loc (c.tc : Thread nD τ))) := by
  funext y
  refine (slot_read (M := 4) (d := ![128, 1024]) (View.whole main_v1_1) (k0_off1 c) (k0_off2_inb c) squeezes_S1x128x1024_S128x1024.numel_eq (place c) rfl (off_tail c)
    (after m (c.tc.loc main_v1_1)) y).trans ?_
  refine (congrFun (after_out1 m c) (Fin.cons (α := fun b : Fin 3 => Fin (![4, 128, 1024] b)) (place c) y)).trans ?_
  have e := elt_at m main_arg1 (holder_own c) (Fin.cons (α := fun b : Fin 3 => Fin (![4, 128, 1024] b)) (place c) y)
  exact e.trans ((slot_read (M := 4) (d := ![128, 1024]) (View.whole main_arg1) (k0_off1 c) (k0_off2_inb c) squeezes_S1x128x1024_S128x1024.numel_eq (place c) rfl (off_tail c) (m (c.tc.loc main_arg1)) y).symm)
theorem read_sent2 (c : Dev nD) (k : Fin 3) :
    ((X (F := F)).rc c (2, k)).dst.view.read (Elt F) (after m (((X (F := F)).rc c (2, k)).dst.view.loc (((X (F := F)).peer (2, k) c).tc : Thread nD τ)))
      = ((X (F := F)).rc c (2, k)).src.view.read (Elt F) (m (((X (F := F)).rc c (2, k)).src.view.loc (c.tc : Thread nD τ))) := by
  funext y
  refine (slot_read (M := 4) (d := ![64, 512]) (View.whole main_v1_2) (k0_off1 c) (k0_off3_inb c) squeezes_S1x64x512_S64x512.numel_eq (place c) rfl (off_tail c)
    (after m ((peer k c).tc.loc main_v1_2)) y).trans ?_
  refine (congrFun (after_out2 m (peer k c)) (Fin.cons (α := fun b : Fin 3 => Fin (![4, 64, 512] b)) (place c) y)).trans ?_
  have e := elt_at m main_arg2 (holder_place k c) (Fin.cons (α := fun b : Fin 3 => Fin (![4, 64, 512] b)) (place (peer k c)) y)
  exact e.trans ((slot_read (M := 4) (d := ![64, 512]) (View.whole main_arg2) (poff k c) (poff_inb2 k c) squeezes_S1x64x512_S64x512.numel_eq (place (peer k c)) (poff_eq k c) (poff_tail k c) (m (c.tc.loc main_arg2)) y).symm)
theorem read_kept2 (c : Dev nD) :
    ((X (F := F)).lc c 2).dst.view.read (Elt F) (after m (((X (F := F)).lc c 2).dst.view.loc (c.tc : Thread nD τ)))
      = ((X (F := F)).lc c 2).src.view.read (Elt F) (m (((X (F := F)).lc c 2).src.view.loc (c.tc : Thread nD τ))) := by
  funext y
  refine (slot_read (M := 4) (d := ![64, 512]) (View.whole main_v1_2) (k0_off1 c) (k0_off3_inb c) squeezes_S1x64x512_S64x512.numel_eq (place c) rfl (off_tail c)
    (after m (c.tc.loc main_v1_2)) y).trans ?_
  refine (congrFun (after_out2 m c) (Fin.cons (α := fun b : Fin 3 => Fin (![4, 64, 512] b)) (place c) y)).trans ?_
  have e := elt_at m main_arg2 (holder_own c) (Fin.cons (α := fun b : Fin 3 => Fin (![4, 64, 512] b)) (place c) y)
  exact e.trans ((slot_read (M := 4) (d := ![64, 512]) (View.whole main_arg2) (k0_off1 c) (k0_off3_inb c) squeezes_S1x64x512_S64x512.numel_eq (place c) rfl (off_tail c) (m (c.tc.loc main_arg2)) y).symm)
theorem read_sent3 (c : Dev nD) (k : Fin 3) :
    ((X (F := F)).rc c (3, k)).dst.view.read (Elt F) (after m (((X (F := F)).rc c (3, k)).dst.view.loc (((X (F := F)).peer (3, k) c).tc : Thread nD τ)))
      = ((X (F := F)).rc c (3, k)).src.view.read (Elt F) (m (((X (F := F)).rc c (3, k)).src.view.loc (c.tc : Thread nD τ))) := by
  funext y
  refine (slot_read (M := 4) (d := ![512, 1028]) (View.whole main_v1_3) (k0_off1 c) (k0_off4_inb c) squeezes_S1x512x1028_S512x1028.numel_eq (place c) rfl (off_tail c)
    (after m ((peer k c).tc.loc main_v1_3)) y).trans ?_
  refine (congrFun (after_out3 m (peer k c)) (Fin.cons (α := fun b : Fin 3 => Fin (![4, 512, 1028] b)) (place c) y)).trans ?_
  have e := elt_at m main_arg3 (holder_place k c) (Fin.cons (α := fun b : Fin 3 => Fin (![4, 512, 1028] b)) (place (peer k c)) y)
  exact e.trans ((slot_read (M := 4) (d := ![512, 1028]) (View.whole main_arg3) (poff k c) (poff_inb3 k c) squeezes_S1x512x1028_S512x1028.numel_eq (place (peer k c)) (poff_eq k c) (poff_tail k c) (m (c.tc.loc main_arg3)) y).symm)
theorem read_kept3 (c : Dev nD) :
    ((X (F := F)).lc c 3).dst.view.read (Elt F) (after m (((X (F := F)).lc c 3).dst.view.loc (c.tc : Thread nD τ)))
      = ((X (F := F)).lc c 3).src.view.read (Elt F) (m (((X (F := F)).lc c 3).src.view.loc (c.tc : Thread nD τ))) := by
  funext y
  refine (slot_read (M := 4) (d := ![512, 1028]) (View.whole main_v1_3) (k0_off1 c) (k0_off4_inb c) squeezes_S1x512x1028_S512x1028.numel_eq (place c) rfl (off_tail c)
    (after m (c.tc.loc main_v1_3)) y).trans ?_
  refine (congrFun (after_out3 m c) (Fin.cons (α := fun b : Fin 3 => Fin (![4, 512, 1028] b)) (place c) y)).trans ?_
  have e := elt_at m main_arg3 (holder_own c) (Fin.cons (α := fun b : Fin 3 => Fin (![4, 512, 1028] b)) (place c) y)
  exact e.trans ((slot_read (M := 4) (d := ![512, 1028]) (View.whole main_arg3) (k0_off1 c) (k0_off4_inb c) squeezes_S1x512x1028_S512x1028.numel_eq (place c) rfl (off_tail c) (m (c.tc.loc main_arg3)) y).symm)
theorem read_sent4 (c : Dev nD) (k : Fin 3) :
    ((X (F := F)).rc c (4, k)).dst.view.read (Elt F) (after m (((X (F := F)).rc c (4, k)).dst.view.loc (((X (F := F)).peer (4, k) c).tc : Thread nD τ)))
      = ((X (F := F)).rc c (4, k)).src.view.read (Elt F) (m (((X (F := F)).rc c (4, k)).src.view.loc (c.tc : Thread nD τ))) := by
  funext y
  refine (slot_read (M := 4) (d := ![128, 1024]) (View.whole main_v1_4) (k0_off1 c) (k0_off2_inb c) squeezes_S1x128x1024_S128x1024.numel_eq (place c) rfl (off_tail c)
    (after m ((peer k c).tc.loc main_v1_4)) y).trans ?_
  refine (congrFun (after_out4 m (peer k c)) (Fin.cons (α := fun b : Fin 3 => Fin (![4, 128, 1024] b)) (place c) y)).trans ?_
  have e := elt_at m main_arg4 (holder_place k c) (Fin.cons (α := fun b : Fin 3 => Fin (![4, 128, 1024] b)) (place (peer k c)) y)
  exact e.trans ((slot_read (M := 4) (d := ![128, 1024]) (View.whole main_arg4) (poff k c) (poff_inb4 k c) squeezes_S1x128x1024_S128x1024.numel_eq (place (peer k c)) (poff_eq k c) (poff_tail k c) (m (c.tc.loc main_arg4)) y).symm)
theorem read_kept4 (c : Dev nD) :
    ((X (F := F)).lc c 4).dst.view.read (Elt F) (after m (((X (F := F)).lc c 4).dst.view.loc (c.tc : Thread nD τ)))
      = ((X (F := F)).lc c 4).src.view.read (Elt F) (m (((X (F := F)).lc c 4).src.view.loc (c.tc : Thread nD τ))) := by
  funext y
  refine (slot_read (M := 4) (d := ![128, 1024]) (View.whole main_v1_4) (k0_off1 c) (k0_off2_inb c) squeezes_S1x128x1024_S128x1024.numel_eq (place c) rfl (off_tail c)
    (after m (c.tc.loc main_v1_4)) y).trans ?_
  refine (congrFun (after_out4 m c) (Fin.cons (α := fun b : Fin 3 => Fin (![4, 128, 1024] b)) (place c) y)).trans ?_
  have e := elt_at m main_arg4 (holder_own c) (Fin.cons (α := fun b : Fin 3 => Fin (![4, 128, 1024] b)) (place c) y)
  exact e.trans ((slot_read (M := 4) (d := ![128, 1024]) (View.whole main_arg4) (k0_off1 c) (k0_off2_inb c) squeezes_S1x128x1024_S128x1024.numel_eq (place c) rfl (off_tail c) (m (c.tc.loc main_arg4)) y).symm)

/-- The exchange's facts. -/
theorem facts (𝒱₀ : Variants) : X.Facts m (after m) (fun _ => (emp : sProp 𝕄)) (defs₀ (F := F)) 𝒱₀ where
  hsplit := arrays.splits m
  hjoin := arrays.joins m (after m) (fun c a => match a with | 0 => after_in0 m c | 1 => after_in1 m c | 2 => after_in2 m c | 3 => after_in3 m c | 4 => after_in4 m c)
  hR c j := by
    obtain ⟨a, k⟩ := j
    exact match a with | 0 => read_sent0 m c k | 1 => read_sent1 m c k | 2 => read_sent2 m c k | 3 => read_sent3 m c k | 4 => read_sent4 m c k
  hL c i := match i with | 0 => read_kept0 m c | 1 => read_kept1 m c | 2 => read_kept2 m c | 3 => read_kept3 m c | 4 => read_kept4 m c
  hroute := by unfold Exch.Routes; decide
  hw := ⟨fun c j K => match j with | (0, 0) => rfl | (0, 1) => rfl | (0, 2) => rfl | (1, 0) => rfl | (1, 1) => rfl | (1, 2) => rfl | (2, 0) => rfl | (2, 1) => rfl | (2, 2) => rfl | (3, 0) => rfl | (3, 1) => rfl | (3, 2) => rfl | (4, 0) => rfl | (4, 1) => rfl | (4, 2) => rfl,
    fun c j K => match j with | (0, 0) => rfl | (0, 1) => rfl | (0, 2) => rfl | (1, 0) => rfl | (1, 1) => rfl | (1, 2) => rfl | (2, 0) => rfl | (2, 1) => rfl | (2, 2) => rfl | (3, 0) => rfl | (3, 1) => rfl | (3, 2) => rfl | (4, 0) => rfl | (4, 1) => rfl | (4, 2) => rfl,
    fun c i K => match i with | 0 => rfl | 1 => rfl | 2 => rfl | 3 => rfl | 4 => rfl⟩

/-- The run: every fair execution ends with every device's buffers as `after m` has them, every counter at zero. -/
theorem run_main : θ_run (defs (F := F)) (onTc main) ⟨m, fun _ => 0, g⟩ (fun r => (∀ c, Exch.Shows (after m) c r.2) ∧ r.2.sem = fun _ => 0) :=
  Exch.run X m (after m) g (fun _ => emp) cfgs defs₀ Variants.none cellOf_inj (facts m _) (fun | 0 => (inferInstance : IsEmpty (Fin 0)))
    (fun | 0 => N_0) winFacts0.to₀ own main (fun c => main_chain c) [0, 1, 2, 3, 4] [(0, 0), (0, 1), (0, 2), (1, 0), (1, 1), (1, 2), (2, 0), (2, 1), (2, 2), (3, 0), (3, 1), (3, 2), (4, 0), (4, 1), (4, 2)] (by decide) (by decide) (by decide) (by decide)
    (fun c t Q => by rw [show defs₀ .tc (cfgs 0).body ((cfgs 0).bodyArgs t ((cfgs 0).slots t)) = _ from body_eq t]) (by decide)

end Exchange.Scatter

end
-- ==== Proof.Blocks.lean ====
/-
  Arrays cut among the devices, read after a reshape or a transpose of the whole array: where each element of the result
  lies in a block of the array.
-/
module

public import Idealize.ShloMosaic.Lib.Layout
public import Idealize.ShloMosaic.Lib.Pipeline.Value
public import Mathlib.Tactic.Ring

@[expose] public section

set_option Elab.async false

noncomputable section

namespace Exchange

open Idealize.ShloMosaic

variable {α : Type} {h k n K : ℕ}

/-- Rows cut among eight devices, read as eight slots: slot `d` is device `d`'s block. -/
theorem slots_rows (x : (⟨2, ![K, n]⟩ : Shape).Idx → α) (hc : (⟨2, ![K, n]⟩ : Shape).ShapeCasts ⟨3, ![8, h, n]⟩)
    (ht : Layout.Tiles ⟨2, ![h, n]⟩ ⟨2, ![K, n]⟩ 0 8) (i : (⟨3, ![8, h, n]⟩ : Shape).Idx) (d : Fin 8) (hd : d.val = (i 0).val) :
    shapeCast ⟨3, ![8, h, n]⟩ x hc i = Layout.block ⟨2, ![h, n]⟩ ⟨2, ![K, n]⟩ 0 8 d x ht (Fin.tail (α := fun b : Fin 3 => Fin (![8, h, n] b)) i) := by
  refine Eq.trans (shapeCast_apply x hc i (ht.idx d _) ?_) (Layout.block_apply d x ht _).symm
  rw [Shape.rowMajor_val_two, Shape.rowMajor_val_three]
  show (d.val * h + (i 1).val) * n + (i 2).val = ((i 0).val * h + (i 1).val) * n + (i 2).val
  rw [hd]

/-- The same of a stack of matrices. -/
theorem slots_mats {g : ℕ} (x : (⟨3, ![K, h, n]⟩ : Shape).Idx → α) (hc : (⟨3, ![K, h, n]⟩ : Shape).ShapeCasts ⟨4, ![8, g, h, n]⟩)
    (ht : Layout.Tiles ⟨3, ![g, h, n]⟩ ⟨3, ![K, h, n]⟩ 0 8) (i : (⟨4, ![8, g, h, n]⟩ : Shape).Idx) (d : Fin 8) (hd : d.val = (i 0).val) :
    shapeCast ⟨4, ![8, g, h, n]⟩ x hc i = Layout.block ⟨3, ![g, h, n]⟩ ⟨3, ![K, h, n]⟩ 0 8 d x ht (Fin.tail (α := fun b : Fin 4 => Fin (![8, g, h, n] b)) i) := by
  refine Eq.trans (shapeCast_apply x hc i (ht.idx d _) ?_) (Layout.block_apply d x ht _).symm
  rw [Shape.rowMajor_val_three, Shape.rowMajor_val_four]
  show ((d.val * g + (i 1).val) * h + (i 2).val) * n + (i 3).val = (((i 0).val * g + (i 1).val) * h + (i 2).val) * n + (i 3).val
  rw [hd]

/-- Rows cut among eight devices, read as one array for every chip, its rows cut among the chip's cores: device `c`'s part of
    chip `j`'s array is the block of chip `j`'s core. -/
theorem chips_rows (x : (⟨2, ![K, n]⟩ : Shape).Idx → α) (hc : (⟨2, ![K, n]⟩ : Shape).ShapeCasts ⟨3, ![4, k, n]⟩) (hk : k = 2 * h)
    (ht : Layout.Tiles ⟨2, ![h, n]⟩ ⟨2, ![K, n]⟩ 0 8)
    (hN : Layout.TilesN ⟨3, ![4, h, n]⟩ ⟨3, ![4, k, n]⟩ fun b => Layout.cutSize [2, 2, 2] ((![[], [2], []] : Fin 3 → List ℕ) b))
    (i : (⟨3, ![4, h, n]⟩ : Shape).Idx) (c d : Fin 8) (hd : d.val = 2 * (i 0).val + Layout.meshLin [2, 2, 2] c.val [2]) :
    Layout.blockN ⟨3, ![4, h, n]⟩ ⟨3, ![4, k, n]⟩ (Layout.meshBlock [2, 2, 2] ![[], [2], []] c) (shapeCast ⟨3, ![4, k, n]⟩ x hc) hN i
      = Layout.block ⟨2, ![h, n]⟩ ⟨2, ![K, n]⟩ 0 8 d x ht (Fin.tail (α := fun b : Fin 3 => Fin (![4, h, n] b)) i) := by
  refine Eq.trans (shapeCast_apply x hc _ (ht.idx d _) ?_) (Layout.block_apply d x ht _).symm
  rw [Shape.rowMajor_val_two, Shape.rowMajor_val_three]
  show (d.val * h + (i 1).val) * n + (i 2).val
    = ((0 * 4 + (i 0).val) * k + (Layout.meshLin [2, 2, 2] c.val [2] * h + (i 1).val)) * n + (0 * n + (i 2).val)
  rw [hd, hk]; ring

/-- Rows cut among eight devices, read as eight arrays, two for every chip: device `c`'s two are its chip's cores' blocks. -/
theorem cores_rows (x : (⟨2, ![K, n]⟩ : Shape).Idx → α) (hc : (⟨2, ![K, n]⟩ : Shape).ShapeCasts ⟨3, ![8, h, n]⟩)
    (ht : Layout.Tiles ⟨2, ![h, n]⟩ ⟨2, ![K, n]⟩ 0 8)
    (hN : Layout.TilesN ⟨3, ![2, h, n]⟩ ⟨3, ![8, h, n]⟩ fun b => Layout.cutSize [2, 2, 2] ((![[0, 1], [], []] : Fin 3 → List ℕ) b))
    (i : (⟨3, ![2, h, n]⟩ : Shape).Idx) (c d : Fin 8) (hd : d.val = Layout.meshLin [2, 2, 2] c.val [0, 1] * 2 + (i 0).val) :
    Layout.blockN ⟨3, ![2, h, n]⟩ ⟨3, ![8, h, n]⟩ (Layout.meshBlock [2, 2, 2] ![[0, 1], [], []] c) (shapeCast ⟨3, ![8, h, n]⟩ x hc) hN i
      = Layout.block ⟨2, ![h, n]⟩ ⟨2, ![K, n]⟩ 0 8 d x ht (Fin.tail (α := fun b : Fin 3 => Fin (![2, h, n] b)) i) := by
  refine Eq.trans (shapeCast_apply x hc _ (ht.idx d _) ?_) (Layout.block_apply d x ht _).symm
  rw [Shape.rowMajor_val_two, Shape.rowMajor_val_three]
  show (d.val * h + (i 1).val) * n + (i 2).val
    = ((Layout.meshLin [2, 2, 2] c.val [0, 1] * 2 + (i 0).val) * h + (0 * h + (i 1).val)) * n + (0 * n + (i 2).val)
  rw [hd]; ring

/-- Arrays whose rows are cut among a chip's two cores, read as two slots: slot `d`'s is core `d`'s block. -/
theorem halves_slots (x : (⟨3, ![4, k, n]⟩ : Shape).Idx → α) (hc : (⟨3, ![4, k, n]⟩ : Shape).ShapeCasts ⟨4, ![4, 2, h, n]⟩) (hk : k = 2 * h)
    (hp : (⟨4, ![4, 2, h, n]⟩ : Shape).Transposes [1, 0, 2, 3] ⟨4, ![2, 4, h, n]⟩)
    (hN : Layout.TilesN ⟨3, ![4, h, n]⟩ ⟨3, ![4, k, n]⟩ fun b => Layout.cutSize [2, 2, 2] ((![[], [2], []] : Fin 3 → List ℕ) b))
    (i : (⟨4, ![2, 4, h, n]⟩ : Shape).Idx) (d : Fin 8) (hd : Layout.meshLin [2, 2, 2] d.val [2] = (i 0).val) :
    transpose ⟨4, ![2, 4, h, n]⟩ [1, 0, 2, 3] (shapeCast ⟨4, ![4, 2, h, n]⟩ x hc) hp i
      = Layout.blockN ⟨3, ![4, h, n]⟩ ⟨3, ![4, k, n]⟩ (Layout.meshBlock [2, 2, 2] ![[], [2], []] d) x hN
          (Fin.tail (α := fun b : Fin 4 => Fin (![2, 4, h, n] b)) i) := by
  let j : (⟨4, ![4, 2, h, n]⟩ : Shape).Idx := fun
    | 0 => i 1
    | 1 => i 0
    | 2 => i 2
    | 3 => i 3
  refine (transpose_apply [1, 0, 2, 3] _ hp i j (fun b => by fin_cases b <;> rfl)).trans ?_
  refine Eq.trans (shapeCast_apply x hc _ (hN.idx (Layout.meshBlock [2, 2, 2] ![[], [2], []] d) _) ?_) (Layout.blockN_apply _ x hN _).symm
  rw [Shape.rowMajor_val_three, Shape.rowMajor_val_four]
  show ((0 * 4 + (i 1).val) * k + (Layout.meshLin [2, 2, 2] d.val [2] * h + (i 2).val)) * n + (0 * n + (i 3).val)
    = (((i 1).val * 2 + (i 0).val) * h + (i 2).val) * n + (i 3).val
  rw [hd, hk]; ring

/-- An array of four by four slots with the two changed over: what device `c` has in slot `j` of it is slot `c` of chip `j`'s
    block, core by core. -/
theorem slots_over (x : (⟨3, ![16, k, n]⟩ : Shape).Idx → α) (hc : (⟨3, ![16, k, n]⟩ : Shape).ShapeCasts ⟨4, ![4, 4, k, n]⟩)
    (hp : (⟨4, ![4, 4, k, n]⟩ : Shape).Transposes [1, 0, 2, 3] ⟨4, ![4, 4, k, n]⟩)
    (hc' : (⟨4, ![4, 4, k, n]⟩ : Shape).ShapeCasts ⟨3, ![16, k, n]⟩)
    (hN : Layout.TilesN ⟨3, ![4, h, n]⟩ ⟨3, ![16, k, n]⟩ fun b => Layout.cutSize [2, 2, 2] ((![[0, 1], [2], []] : Fin 3 → List ℕ) b))
    (i : (⟨3, ![4, h, n]⟩ : Shape).Idx) (c d : Fin 8) (p : Fin 4) (hp' : Layout.meshLin [2, 2, 2] c.val [0, 1] = p.val)
    (hd : Layout.meshLin [2, 2, 2] d.val [0, 1] = (i 0).val) (hd' : Layout.meshLin [2, 2, 2] d.val [2] = Layout.meshLin [2, 2, 2] c.val [2]) :
    Layout.blockN ⟨3, ![4, h, n]⟩ ⟨3, ![16, k, n]⟩ (Layout.meshBlock [2, 2, 2] ![[0, 1], [2], []] c)
        (shapeCast ⟨3, ![16, k, n]⟩ (transpose ⟨4, ![4, 4, k, n]⟩ [1, 0, 2, 3] (shapeCast ⟨4, ![4, 4, k, n]⟩ x hc) hp) hc') hN i
      = Layout.blockN ⟨3, ![4, h, n]⟩ ⟨3, ![16, k, n]⟩ (Layout.meshBlock [2, 2, 2] ![[0, 1], [2], []] d) x hN
          (Fin.cons (α := fun b : Fin 3 => Fin (![4, h, n] b)) p (Fin.tail (α := fun b : Fin 3 => Fin (![4, h, n] b)) i)) := by
  have b1 : (hN.idx (Layout.meshBlock [2, 2, 2] ![[0, 1], [2], []] c) i 1).val < k := (hN.idx (Layout.meshBlock [2, 2, 2] ![[0, 1], [2], []] c) i 1).isLt
  have b2 : (hN.idx (Layout.meshBlock [2, 2, 2] ![[0, 1], [2], []] c) i 2).val < n := (hN.idx (Layout.meshBlock [2, 2, 2] ![[0, 1], [2], []] c) i 2).isLt
  let j : (⟨4, ![4, 4, k, n]⟩ : Shape).Idx := fun
    | 0 => p
    | 1 => i 0
    | 2 => ⟨_, b1⟩
    | 3 => ⟨_, b2⟩
  let j' : (⟨4, ![4, 4, k, n]⟩ : Shape).Idx := fun
    | 0 => i 0
    | 1 => p
    | 2 => ⟨_, b1⟩
    | 3 => ⟨_, b2⟩
  refine (shapeCast_apply _ hc' (hN.idx (Layout.meshBlock [2, 2, 2] ![[0, 1], [2], []] c) i) j (by
      rw [Shape.rowMajor_val_three, Shape.rowMajor_val_four]
      show ((p.val * 4 + (i 0).val) * k + (hN.idx _ i 1).val) * n + (hN.idx _ i 2).val
        = ((Layout.meshLin [2, 2, 2] c.val [0, 1] * 4 + (i 0).val) * k + (hN.idx _ i 1).val) * n + (hN.idx _ i 2).val
      rw [hp'])).trans ((transpose_apply [1, 0, 2, 3] _ hp j j' (fun b => by fin_cases b <;> rfl)).trans ?_)
  refine Eq.trans (shapeCast_apply x hc _ (hN.idx (Layout.meshBlock [2, 2, 2] ![[0, 1], [2], []] d) _) ?_) (Layout.blockN_apply _ x hN _).symm
  rw [Shape.rowMajor_val_three, Shape.rowMajor_val_four]
  show ((Layout.meshLin [2, 2, 2] d.val [0, 1] * 4 + p.val) * k + (Layout.meshLin [2, 2, 2] d.val [2] * h + (i 1).val)) * n + (0 * n + (i 2).val)
    = (((i 0).val * 4 + p.val) * k + (Layout.meshLin [2, 2, 2] c.val [2] * h + (i 1).val)) * n + (0 * n + (i 2).val)
  rw [hd, hd']

end Exchange

end
-- ==== Proof.ScatterClaims.lean ====
/-
  The claims about `reduce_chips`.
-/
module

public import proofs.«01_k».proof.Defs
public import proofs.«01_k».proof.Proof.ScatterRun
public import proofs.«01_k».proof.Proof.Blocks
public import proofs.«01_k».proof.Proof.Gen.Scatter
public import proofs.«01_k».proof.Proof.Gen.ScatterRef
public import proofs.«01_k».proof.Proof.Gen.ScatterRefIdeal.Run

@[expose] public section

set_option Elab.async false

noncomputable section

namespace Exchange.Scatter

open Idealize.ShloMosaic Idealize.ShloMosaic.TcCoe Idealize.SL.Sem

variable {F : FTy → Type} [FloatOps F]

/-- A device's own slot is its chip's. -/
theorem place_at : ∀ c : Fin 8, Layout.meshLin [2, 2, 2] c.val [0, 1] = (place c).val := by decide

/-- The chip whose part a device takes into slot `i`. -/
theorem holder_at : ∀ (c : Fin 8) (i : Fin 4), Layout.meshLin [2, 2, 2] (holder c i).val [0, 1] = i.val := by decide

/-- The parts are taken from the device's own core of every chip. -/
theorem holder_core : ∀ (c : Fin 8) (i : Fin 4), Layout.meshLin [2, 2, 2] (holder c i).val [2] = Layout.meshLin [2, 2, 2] c.val [2] := by decide

/-- The run, argument by argument and result by result. -/
theorem run_read (m : (ℓ : Loc Cert.ScatterIdeal.nD Cert.ScatterIdeal.τ Cert.ScatterIdeal.sig) → Buf (Elt F) ℓ) (g : Dev Cert.ScatterIdeal.nD → PrngReg) :
    θ_run (Cert.ScatterIdeal.defs (F := F)) (onTc (τ := Cert.ScatterIdeal.τ) (Cert.ScatterIdeal.main (F := F))) ⟨m, fun _ => 0, g⟩ (fun r => (∀ c : Dev Cert.ScatterIdeal.nD,
      r.2.mem ((c.tc : Thread Cert.ScatterIdeal.nD Cert.ScatterIdeal.τ).loc Cert.ScatterIdeal.main_v1_0) = got0 m c ∧
      r.2.mem ((c.tc : Thread Cert.ScatterIdeal.nD Cert.ScatterIdeal.τ).loc Cert.ScatterIdeal.main_v1_1) = got1 m c ∧
      r.2.mem ((c.tc : Thread Cert.ScatterIdeal.nD Cert.ScatterIdeal.τ).loc Cert.ScatterIdeal.main_v1_2) = got2 m c ∧
      r.2.mem ((c.tc : Thread Cert.ScatterIdeal.nD Cert.ScatterIdeal.τ).loc Cert.ScatterIdeal.main_v1_3) = got3 m c ∧
      r.2.mem ((c.tc : Thread Cert.ScatterIdeal.nD Cert.ScatterIdeal.τ).loc Cert.ScatterIdeal.main_v1_4) = got4 m c ∧
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0) ∧
      r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1) ∧
      r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2) ∧
      r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3) ∧
      r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4))
      ∧ r.2.sem = fun _ => 0) :=
  (θ_run Cert.ScatterIdeal.defs _ _).mono (fun _ h => ⟨fun c => ⟨(h.1 c Cert.ScatterIdeal.main_v1_0 (by decide)).trans (after_out0 m c), (h.1 c Cert.ScatterIdeal.main_v1_1 (by decide)).trans (after_out1 m c), (h.1 c Cert.ScatterIdeal.main_v1_2 (by decide)).trans (after_out2 m c), (h.1 c Cert.ScatterIdeal.main_v1_3 (by decide)).trans (after_out3 m c), (h.1 c Cert.ScatterIdeal.main_v1_4 (by decide)).trans (after_out4 m c), (h.1 c Cert.ScatterIdeal.main_arg0 (by decide)).trans (after_in0 m c), (h.1 c Cert.ScatterIdeal.main_arg1 (by decide)).trans (after_in1 m c), (h.1 c Cert.ScatterIdeal.main_arg2 (by decide)).trans (after_in2 m c), (h.1 c Cert.ScatterIdeal.main_arg3 (by decide)).trans (after_in3 m c), (h.1 c Cert.ScatterIdeal.main_arg4 (by decide)).trans (after_in4 m c)⟩, h.2⟩) (run_main m g)

theorem frame_scatterIdeal : Cert.quiescent_ScatterIdeal := fun m g _ =>
  (θ_run Cert.ScatterIdeal.defs _ _).mono (fun _ h => ⟨fun c => (h.1 c).2.2.2.2.2, h.2⟩) (run_read (F := Ideal) m g)

theorem frame_scatter : Cert.quiescent_Scatter := fun m g _ =>
  (θ_run Cert.ScatterIdeal.defs _ _).mono (fun _ h => ⟨fun c => (h.1 c).2.2.2.2.2, h.2⟩) (run_read (F := Bits) m g)

theorem frame_scatterRefIdeal : Cert.quiescent_ScatterRefIdeal := fun m g _ =>
  (θ_run Cert.ScatterRefIdeal.defs _ _).mono (fun r h => ⟨fun c => (h c).2.2.2.2.2, sem_eq_zero_of_no_sems (by decide) r.2⟩)
    (Cert.ScatterRefIdeal.Value.run (F := Ideal) m g)

theorem frame_scatterRef : Cert.quiescent_ScatterRef := fun m g _ =>
  (θ_run Cert.ScatterRefIdeal.defs _ _).mono (fun r h => ⟨fun c => (h c).2.2.2.2.2, sem_eq_zero_of_no_sems (by decide) r.2⟩)
    (Cert.ScatterRefIdeal.Value.run (F := Bits) m g)

theorem algebraic_scatter : Cert.algebraic_ScatterIdeal_ScatterRefIdeal := by
  intro m g m' g' _ h
  refine ⟨_, _, _, _, _, ?_, (θ_run Cert.ScatterRefIdeal.defs _ _).mono (fun _ hr => hr 0) (Cert.ScatterRefIdeal.Value.run (F := Ideal) m' g')⟩
  refine (θ_run Cert.ScatterIdeal.defs _ _).mono (fun _ hr c => ?_) (run_read (F := Ideal) m g)
  obtain ⟨r0, r1, r2, r3, r4, ha⟩ := hr.1 c
  refine ⟨?_, ?_, ?_, ?_, ?_, ha⟩
  · refine (r0).trans (funext fun i => ?_)
    exact (congrFun ((h (holder c (i 0))).1) _).trans (slots_over _ _ _ _ _ i c (holder c (i 0)) (place c) (place_at c) (holder_at c (i 0)) (holder_core c (i 0))).symm
  · refine (r1).trans (funext fun i => ?_)
    exact (congrFun ((h (holder c (i 0))).2.1) _).trans (slots_over _ _ _ _ _ i c (holder c (i 0)) (place c) (place_at c) (holder_at c (i 0)) (holder_core c (i 0))).symm
  · refine (r2).trans (funext fun i => ?_)
    exact (congrFun ((h (holder c (i 0))).2.2.1) _).trans (slots_over _ _ _ _ _ i c (holder c (i 0)) (place c) (place_at c) (holder_at c (i 0)) (holder_core c (i 0))).symm
  · refine (r3).trans (funext fun i => ?_)
    exact (congrFun ((h (holder c (i 0))).2.2.2.1) _).trans (slots_over _ _ _ _ _ i c (holder c (i 0)) (place c) (place_at c) (holder_at c (i 0)) (holder_core c (i 0))).symm
  · refine (r4).trans (funext fun i => ?_)
    exact (congrFun ((h (holder c (i 0))).2.2.2.2) _).trans (slots_over _ _ _ _ _ i c (holder c (i 0)) (place c) (place_at c) (holder_at c (i 0)) (holder_core c (i 0))).symm

theorem bitexact_scatter : Cert.bitexact_Scatter_ScatterRef := by
  intro m g m' g' _ h
  refine ⟨_, _, _, _, _, ?_, (θ_run Cert.ScatterRefIdeal.defs _ _).mono (fun _ hr => hr 0) (Cert.ScatterRefIdeal.Value.run (F := Bits) m' g')⟩
  refine (θ_run Cert.ScatterIdeal.defs _ _).mono (fun _ hr c => ?_) (run_read (F := Bits) m g)
  obtain ⟨r0, r1, r2, r3, r4, ha⟩ := hr.1 c
  refine ⟨?_, ?_, ?_, ?_, ?_, ha⟩
  · refine (r0).trans (funext fun i => ?_)
    exact (congrFun ((h (holder c (i 0))).1) _).trans (slots_over _ _ _ _ _ i c (holder c (i 0)) (place c) (place_at c) (holder_at c (i 0)) (holder_core c (i 0))).symm
  · refine (r1).trans (funext fun i => ?_)
    exact (congrFun ((h (holder c (i 0))).2.1) _).trans (slots_over _ _ _ _ _ i c (holder c (i 0)) (place c) (place_at c) (holder_at c (i 0)) (holder_core c (i 0))).symm
  · refine (r2).trans (funext fun i => ?_)
    exact (congrFun ((h (holder c (i 0))).2.2.1) _).trans (slots_over _ _ _ _ _ i c (holder c (i 0)) (place c) (place_at c) (holder_at c (i 0)) (holder_core c (i 0))).symm
  · refine (r3).trans (funext fun i => ?_)
    exact (congrFun ((h (holder c (i 0))).2.2.2.1) _).trans (slots_over _ _ _ _ _ i c (holder c (i 0)) (place c) (place_at c) (holder_at c (i 0)) (holder_core c (i 0))).symm
  · refine (r4).trans (funext fun i => ?_)
    exact (congrFun ((h (holder c (i 0))).2.2.2.2) _).trans (slots_over _ _ _ _ _ i c (holder c (i 0)) (place c) (place_at c) (holder_at c (i 0)) (holder_core c (i 0))).symm

end Exchange.Scatter

end
-- ==== Proof.Pairs.lean ====
/-
  `gather_w_sibling`: the two cores of a chip hand each other five arrays, each keeping both in slots.
  The instance of the exchange, and its run.
-/
module

public import proofs.«01_k».proof.Proof.Gen.PairsIdeal.Launch
public import proofs.«01_k».proof.Proof.Slots
public import proofs.«01_k».proof.Proof.Values

@[expose] public section

set_option Elab.async false

noncomputable section

namespace Exchange.Pairs

open Idealize.ShloMosaic Idealize.ShloMosaic.TcCoe
open Idealize.ShloMosaic.Pipeline (scopedRest)
open Idealize.SL
open Idealize.SL.BI (sProp bigSep bigSepL)
open scoped Idealize.SL.BI
open Idealize.SL.BI.BIBase Idealize.SL.BI.Laws Idealize.SL.Sem Idealize.SL.ProofMode
open Idealize.SL.RA
open Cert.PairsIdeal Cert.PairsIdeal.Gen

variable {F : FTy → Type} [FloatOps F]

/-! ## Places -/

/-- The other devices a device deals with. -/
def peer : Fin 1 → Dev nD → Dev nD
  | 0, d0 => ⟨k0_dev1 d0, k0_dev1_lt d0⟩

theorem peer_peer : ∀ k c, peer k (peer k c) = c := by decide

/-- The slot a device's arrays go to. -/
def place (c : Dev nD) : Fin 2 := ⟨k0_off1 c 0, by revert c; decide⟩

/-- The device whose arrays are in slot `i` of device `c`. -/
def holder (c : Dev nD) (i : Fin 2) : Dev nD := ⟨2 * (c.val / 2) + i.val, by revert c i; decide⟩

theorem holder_place : ∀ k c, holder (peer k c) (place c) = c := by decide
theorem holder_own : ∀ c, holder c (place c) = c := by decide
theorem off_tail : ∀ c, ∀ a : Fin 3, k0_off1 c a.succ = 0 := by decide
theorem off_inj : ∀ c k k', k0_off1 (peer k c) 0 = k0_off1 (peer k' c) 0 → k = k' := by decide
theorem off_ne : ∀ c k, k0_off1 (peer k c) 0 ≠ k0_off1 c 0 := by decide
theorem off_all : ∀ c, ∀ i : Fin 2, (∃ k, k0_off1 (peer k c) 0 = i.val) ∨ k0_off1 c 0 = i.val := by decide

/-! ## Copies and counters -/

/-- Array by array, what a device sends. -/
def sent (c : Dev nD) : Fin 5 × Fin 1 → Copy sig
  | (0, _) => ⟨S4x512x768, .bf16, (Memref.whole main_arg0 : Memref sig .tc .hbm S4x512x768 .bf16), (((Memref.whole main_v1_0 : Memref sig .tc .hbm S2x4x512x768 .bf16).slice (Rect.unit (s := S2x4x512x768) (k0_off1 c) S1x4x512x768.size (k0_off1_inb c)) (fun _ => rfl)).squeeze S4x512x768 squeezes_S1x4x512x768_S4x512x768), (Memref.isWhole_whole _).wordExact, (((Memref.isWhole_whole _).wordExact_slice rfl _ (k0_off1_wordsbf16 c)).reshape _ _), rfl⟩
  | (1, _) => ⟨S4x128x1024, .bf16, (Memref.whole main_arg1 : Memref sig .tc .hbm S4x128x1024 .bf16), (((Memref.whole main_v1_1 : Memref sig .tc .hbm S2x4x128x1024 .bf16).slice (Rect.unit (s := S2x4x128x1024) (k0_off2 c) S1x4x128x1024.size (k0_off2_inb c)) (fun _ => rfl)).squeeze S4x128x1024 squeezes_S1x4x128x1024_S4x128x1024), (Memref.isWhole_whole _).wordExact, (((Memref.isWhole_whole _).wordExact_slice rfl _ (k0_off2_wordsbf16 c)).reshape _ _), rfl⟩
  | (2, _) => ⟨S4x64x512, .bf16, (Memref.whole main_arg2 : Memref sig .tc .hbm S4x64x512 .bf16), (((Memref.whole main_v1_2 : Memref sig .tc .hbm S2x4x64x512 .bf16).slice (Rect.unit (s := S2x4x64x512) (k0_off3 c) S1x4x64x512.size (k0_off3_inb c)) (fun _ => rfl)).squeeze S4x64x512 squeezes_S1x4x64x512_S4x64x512), (Memref.isWhole_whole _).wordExact, (((Memref.isWhole_whole _).wordExact_slice rfl _ (k0_off3_wordsbf16 c)).reshape _ _), rfl⟩
  | (3, _) => ⟨S4x512x1028, .bf16, (Memref.whole main_arg3 : Memref sig .tc .hbm S4x512x1028 .bf16), (((Memref.whole main_v1_3 : Memref sig .tc .hbm S2x4x512x1028 .bf16).slice (Rect.unit (s := S2x4x512x1028) (k0_off4 c) S1x4x512x1028.size (k0_off4_inb c)) (fun _ => rfl)).squeeze S4x512x1028 squeezes_S1x4x512x1028_S4x512x1028), (Memref.isWhole_whole _).wordExact, (((Memref.isWhole_whole _).wordExact_slice rfl _ (k0_off4_wordsbf16 c)).reshape _ _), rfl⟩
  | (4, _) => ⟨S4x128x1024, .bf16, (Memref.whole main_arg4 : Memref sig .tc .hbm S4x128x1024 .bf16), (((Memref.whole main_v1_4 : Memref sig .tc .hbm S2x4x128x1024 .bf16).slice (Rect.unit (s := S2x4x128x1024) (k0_off2 c) S1x4x128x1024.size (k0_off2_inb c)) (fun _ => rfl)).squeeze S4x128x1024 squeezes_S1x4x128x1024_S4x128x1024), (Memref.isWhole_whole _).wordExact, (((Memref.isWhole_whole _).wordExact_slice rfl _ (k0_off2_wordsbf16 c)).reshape _ _), rfl⟩

/-- Array by array, what a device keeps. -/
def kept (c : Dev nD) : Fin 5 → Copy sig
  | 0 => ⟨S4x512x768, .bf16, (Memref.whole main_arg0 : Memref sig .tc .hbm S4x512x768 .bf16), (((Memref.whole main_v1_0 : Memref sig .tc .hbm S2x4x512x768 .bf16).slice (Rect.unit (s := S2x4x512x768) (k0_off1 c) S1x4x512x768.size (k0_off1_inb c)) (fun _ => rfl)).squeeze S4x512x768 squeezes_S1x4x512x768_S4x512x768), (Memref.isWhole_whole _).wordExact, (((Memref.isWhole_whole _).wordExact_slice rfl _ (k0_off1_wordsbf16 c)).reshape _ _), rfl⟩
  | 1 => ⟨S4x128x1024, .bf16, (Memref.whole main_arg1 : Memref sig .tc .hbm S4x128x1024 .bf16), (((Memref.whole main_v1_1 : Memref sig .tc .hbm S2x4x128x1024 .bf16).slice (Rect.unit (s := S2x4x128x1024) (k0_off2 c) S1x4x128x1024.size (k0_off2_inb c)) (fun _ => rfl)).squeeze S4x128x1024 squeezes_S1x4x128x1024_S4x128x1024), (Memref.isWhole_whole _).wordExact, (((Memref.isWhole_whole _).wordExact_slice rfl _ (k0_off2_wordsbf16 c)).reshape _ _), rfl⟩
  | 2 => ⟨S4x64x512, .bf16, (Memref.whole main_arg2 : Memref sig .tc .hbm S4x64x512 .bf16), (((Memref.whole main_v1_2 : Memref sig .tc .hbm S2x4x64x512 .bf16).slice (Rect.unit (s := S2x4x64x512) (k0_off3 c) S1x4x64x512.size (k0_off3_inb c)) (fun _ => rfl)).squeeze S4x64x512 squeezes_S1x4x64x512_S4x64x512), (Memref.isWhole_whole _).wordExact, (((Memref.isWhole_whole _).wordExact_slice rfl _ (k0_off3_wordsbf16 c)).reshape _ _), rfl⟩
  | 3 => ⟨S4x512x1028, .bf16, (Memref.whole main_arg3 : Memref sig .tc .hbm S4x512x1028 .bf16), (((Memref.whole main_v1_3 : Memref sig .tc .hbm S2x4x512x1028 .bf16).slice (Rect.unit (s := S2x4x512x1028) (k0_off4 c) S1x4x512x1028.size (k0_off4_inb c)) (fun _ => rfl)).squeeze S4x512x1028 squeezes_S1x4x512x1028_S4x512x1028), (Memref.isWhole_whole _).wordExact, (((Memref.isWhole_whole _).wordExact_slice rfl _ (k0_off4_wordsbf16 c)).reshape _ _), rfl⟩
  | 4 => ⟨S4x128x1024, .bf16, (Memref.whole main_arg4 : Memref sig .tc .hbm S4x128x1024 .bf16), (((Memref.whole main_v1_4 : Memref sig .tc .hbm S2x4x128x1024 .bf16).slice (Rect.unit (s := S2x4x128x1024) (k0_off2 c) S1x4x128x1024.size (k0_off2_inb c)) (fun _ => rfl)).squeeze S4x128x1024 squeezes_S1x4x128x1024_S4x128x1024), (Memref.isWhole_whole _).wordExact, (((Memref.isWhole_whole _).wordExact_slice rfl _ (k0_off2_wordsbf16 c)).reshape _ _), rfl⟩

def sS : Fin 5 × Fin 1 → DmaSem sig
  | (0, 0) => (((cc0_scratch0 : DmaSems sig S5).slice (Rect.unit (s := S5) ![0] S1.size inb_S5_S1_0)).squeeze S_ squeezes_S1_S_).sem
  | (1, 0) => (((cc0_scratch0 : DmaSems sig S5).slice (Rect.unit (s := S5) ![1] S1.size inb_S5_S1_1)).squeeze S_ squeezes_S1_S_).sem
  | (2, 0) => (((cc0_scratch0 : DmaSems sig S5).slice (Rect.unit (s := S5) ![2] S1.size inb_S5_S1_2)).squeeze S_ squeezes_S1_S_).sem
  | (3, 0) => (((cc0_scratch0 : DmaSems sig S5).slice (Rect.unit (s := S5) ![3] S1.size inb_S5_S1_3)).squeeze S_ squeezes_S1_S_).sem
  | (4, 0) => (((cc0_scratch0 : DmaSems sig S5).slice (Rect.unit (s := S5) ![4] S1.size inb_S5_S1_4)).squeeze S_ squeezes_S1_S_).sem
def sR : Fin 5 × Fin 1 → DmaSem sig
  | (0, 0) => (((cc0_scratch1 : DmaSems sig S5).slice (Rect.unit (s := S5) ![0] S1.size inb_S5_S1_0)).squeeze S_ squeezes_S1_S_).sem
  | (1, 0) => (((cc0_scratch1 : DmaSems sig S5).slice (Rect.unit (s := S5) ![1] S1.size inb_S5_S1_1)).squeeze S_ squeezes_S1_S_).sem
  | (2, 0) => (((cc0_scratch1 : DmaSems sig S5).slice (Rect.unit (s := S5) ![2] S1.size inb_S5_S1_2)).squeeze S_ squeezes_S1_S_).sem
  | (3, 0) => (((cc0_scratch1 : DmaSems sig S5).slice (Rect.unit (s := S5) ![3] S1.size inb_S5_S1_3)).squeeze S_ squeezes_S1_S_).sem
  | (4, 0) => (((cc0_scratch1 : DmaSems sig S5).slice (Rect.unit (s := S5) ![4] S1.size inb_S5_S1_4)).squeeze S_ squeezes_S1_S_).sem
def sL : Fin 5 → DmaSem sig
  | 0 => (((cc0_scratch2 : DmaSems sig S5).slice (Rect.unit (s := S5) ![0] S1.size inb_S5_S1_0)).squeeze S_ squeezes_S1_S_).sem
  | 1 => (((cc0_scratch2 : DmaSems sig S5).slice (Rect.unit (s := S5) ![1] S1.size inb_S5_S1_1)).squeeze S_ squeezes_S1_S_).sem
  | 2 => (((cc0_scratch2 : DmaSems sig S5).slice (Rect.unit (s := S5) ![2] S1.size inb_S5_S1_2)).squeeze S_ squeezes_S1_S_).sem
  | 3 => (((cc0_scratch2 : DmaSems sig S5).slice (Rect.unit (s := S5) ![3] S1.size inb_S5_S1_3)).squeeze S_ squeezes_S1_S_).sem
  | 4 => (((cc0_scratch2 : DmaSems sig S5).slice (Rect.unit (s := S5) ![4] S1.size inb_S5_S1_4)).squeeze S_ squeezes_S1_S_).sem

def wS (c : Dev nD) : Fin 5 × Fin 1 → TpuEff nD τ sig (Elt F) Λ₀ .tc PUnit
  | (0, 0) => .waitDma2 (sS (0, 0)) (((Memref.whole main_v1_0 : Memref sig .tc .hbm S2x4x512x768 .bf16).slice (Rect.unit (s := S2x4x512x768) (k0_off1 c) S1x4x512x768.size (k0_off1_inb c)) (fun _ => rfl)).squeeze S4x512x768 squeezes_S1x4x512x768_S4x512x768) (Memref.whole main_arg0 : Memref sig .tc .hbm S4x512x768 .bf16) (((Memref.isWhole_whole _).wordExact_slice rfl _ (k0_off1_wordsbf16 c)).reshape _ _) (Memref.isWhole_whole _).wordExact
  | (1, 0) => .waitDma2 (sS (1, 0)) (((Memref.whole main_v1_1 : Memref sig .tc .hbm S2x4x128x1024 .bf16).slice (Rect.unit (s := S2x4x128x1024) (k0_off2 c) S1x4x128x1024.size (k0_off2_inb c)) (fun _ => rfl)).squeeze S4x128x1024 squeezes_S1x4x128x1024_S4x128x1024) (Memref.whole main_arg1 : Memref sig .tc .hbm S4x128x1024 .bf16) (((Memref.isWhole_whole _).wordExact_slice rfl _ (k0_off2_wordsbf16 c)).reshape _ _) (Memref.isWhole_whole _).wordExact
  | (2, 0) => .waitDma2 (sS (2, 0)) (((Memref.whole main_v1_2 : Memref sig .tc .hbm S2x4x64x512 .bf16).slice (Rect.unit (s := S2x4x64x512) (k0_off3 c) S1x4x64x512.size (k0_off3_inb c)) (fun _ => rfl)).squeeze S4x64x512 squeezes_S1x4x64x512_S4x64x512) (Memref.whole main_arg2 : Memref sig .tc .hbm S4x64x512 .bf16) (((Memref.isWhole_whole _).wordExact_slice rfl _ (k0_off3_wordsbf16 c)).reshape _ _) (Memref.isWhole_whole _).wordExact
  | (3, 0) => .waitDma2 (sS (3, 0)) (((Memref.whole main_v1_3 : Memref sig .tc .hbm S2x4x512x1028 .bf16).slice (Rect.unit (s := S2x4x512x1028) (k0_off4 c) S1x4x512x1028.size (k0_off4_inb c)) (fun _ => rfl)).squeeze S4x512x1028 squeezes_S1x4x512x1028_S4x512x1028) (Memref.whole main_arg3 : Memref sig .tc .hbm S4x512x1028 .bf16) (((Memref.isWhole_whole _).wordExact_slice rfl _ (k0_off4_wordsbf16 c)).reshape _ _) (Memref.isWhole_whole _).wordExact
  | (4, 0) => .waitDma2 (sS (4, 0)) (((Memref.whole main_v1_4 : Memref sig .tc .hbm S2x4x128x1024 .bf16).slice (Rect.unit (s := S2x4x128x1024) (k0_off2 c) S1x4x128x1024.size (k0_off2_inb c)) (fun _ => rfl)).squeeze S4x128x1024 squeezes_S1x4x128x1024_S4x128x1024) (Memref.whole main_arg4 : Memref sig .tc .hbm S4x128x1024 .bf16) (((Memref.isWhole_whole _).wordExact_slice rfl _ (k0_off2_wordsbf16 c)).reshape _ _) (Memref.isWhole_whole _).wordExact
def wR (c : Dev nD) : Fin 5 × Fin 1 → TpuEff nD τ sig (Elt F) Λ₀ .tc PUnit
  | (0, 0) => .waitDma2 (sR (0, 0)) (Memref.whole main_arg0 : Memref sig .tc .hbm S4x512x768 .bf16) (((Memref.whole main_v1_0 : Memref sig .tc .hbm S2x4x512x768 .bf16).slice (Rect.unit (s := S2x4x512x768) (k0_off5 c) S1x4x512x768.size (k0_off5_inb c)) (fun _ => rfl)).squeeze S4x512x768 squeezes_S1x4x512x768_S4x512x768) (Memref.isWhole_whole _).wordExact (((Memref.isWhole_whole _).wordExact_slice rfl _ (k0_off5_wordsbf16 c)).reshape _ _)
  | (1, 0) => .waitDma2 (sR (1, 0)) (Memref.whole main_arg1 : Memref sig .tc .hbm S4x128x1024 .bf16) (((Memref.whole main_v1_1 : Memref sig .tc .hbm S2x4x128x1024 .bf16).slice (Rect.unit (s := S2x4x128x1024) (k0_off6 c) S1x4x128x1024.size (k0_off6_inb c)) (fun _ => rfl)).squeeze S4x128x1024 squeezes_S1x4x128x1024_S4x128x1024) (Memref.isWhole_whole _).wordExact (((Memref.isWhole_whole _).wordExact_slice rfl _ (k0_off6_wordsbf16 c)).reshape _ _)
  | (2, 0) => .waitDma2 (sR (2, 0)) (Memref.whole main_arg2 : Memref sig .tc .hbm S4x64x512 .bf16) (((Memref.whole main_v1_2 : Memref sig .tc .hbm S2x4x64x512 .bf16).slice (Rect.unit (s := S2x4x64x512) (k0_off7 c) S1x4x64x512.size (k0_off7_inb c)) (fun _ => rfl)).squeeze S4x64x512 squeezes_S1x4x64x512_S4x64x512) (Memref.isWhole_whole _).wordExact (((Memref.isWhole_whole _).wordExact_slice rfl _ (k0_off7_wordsbf16 c)).reshape _ _)
  | (3, 0) => .waitDma2 (sR (3, 0)) (Memref.whole main_arg3 : Memref sig .tc .hbm S4x512x1028 .bf16) (((Memref.whole main_v1_3 : Memref sig .tc .hbm S2x4x512x1028 .bf16).slice (Rect.unit (s := S2x4x512x1028) (k0_off8 c) S1x4x512x1028.size (k0_off8_inb c)) (fun _ => rfl)).squeeze S4x512x1028 squeezes_S1x4x512x1028_S4x512x1028) (Memref.isWhole_whole _).wordExact (((Memref.isWhole_whole _).wordExact_slice rfl _ (k0_off8_wordsbf16 c)).reshape _ _)
  | (4, 0) => .waitDma2 (sR (4, 0)) (Memref.whole main_arg4 : Memref sig .tc .hbm S4x128x1024 .bf16) (((Memref.whole main_v1_4 : Memref sig .tc .hbm S2x4x128x1024 .bf16).slice (Rect.unit (s := S2x4x128x1024) (k0_off6 c) S1x4x128x1024.size (k0_off6_inb c)) (fun _ => rfl)).squeeze S4x128x1024 squeezes_S1x4x128x1024_S4x128x1024) (Memref.isWhole_whole _).wordExact (((Memref.isWhole_whole _).wordExact_slice rfl _ (k0_off6_wordsbf16 c)).reshape _ _)
def wL (c : Dev nD) : Fin 5 → TpuEff nD τ sig (Elt F) Λ₀ .tc PUnit
  | 0 => .waitDma2 (sL 0) (Memref.whole main_arg0 : Memref sig .tc .hbm S4x512x768 .bf16) (((Memref.whole main_v1_0 : Memref sig .tc .hbm S2x4x512x768 .bf16).slice (Rect.unit (s := S2x4x512x768) (k0_off1 c) S1x4x512x768.size (k0_off1_inb c)) (fun _ => rfl)).squeeze S4x512x768 squeezes_S1x4x512x768_S4x512x768) (Memref.isWhole_whole _).wordExact (((Memref.isWhole_whole _).wordExact_slice rfl _ (k0_off1_wordsbf16 c)).reshape _ _)
  | 1 => .waitDma2 (sL 1) (Memref.whole main_arg1 : Memref sig .tc .hbm S4x128x1024 .bf16) (((Memref.whole main_v1_1 : Memref sig .tc .hbm S2x4x128x1024 .bf16).slice (Rect.unit (s := S2x4x128x1024) (k0_off2 c) S1x4x128x1024.size (k0_off2_inb c)) (fun _ => rfl)).squeeze S4x128x1024 squeezes_S1x4x128x1024_S4x128x1024) (Memref.isWhole_whole _).wordExact (((Memref.isWhole_whole _).wordExact_slice rfl _ (k0_off2_wordsbf16 c)).reshape _ _)
  | 2 => .waitDma2 (sL 2) (Memref.whole main_arg2 : Memref sig .tc .hbm S4x64x512 .bf16) (((Memref.whole main_v1_2 : Memref sig .tc .hbm S2x4x64x512 .bf16).slice (Rect.unit (s := S2x4x64x512) (k0_off3 c) S1x4x64x512.size (k0_off3_inb c)) (fun _ => rfl)).squeeze S4x64x512 squeezes_S1x4x64x512_S4x64x512) (Memref.isWhole_whole _).wordExact (((Memref.isWhole_whole _).wordExact_slice rfl _ (k0_off3_wordsbf16 c)).reshape _ _)
  | 3 => .waitDma2 (sL 3) (Memref.whole main_arg3 : Memref sig .tc .hbm S4x512x1028 .bf16) (((Memref.whole main_v1_3 : Memref sig .tc .hbm S2x4x512x1028 .bf16).slice (Rect.unit (s := S2x4x512x1028) (k0_off4 c) S1x4x512x1028.size (k0_off4_inb c)) (fun _ => rfl)).squeeze S4x512x1028 squeezes_S1x4x512x1028_S4x512x1028) (Memref.isWhole_whole _).wordExact (((Memref.isWhole_whole _).wordExact_slice rfl _ (k0_off4_wordsbf16 c)).reshape _ _)
  | 4 => .waitDma2 (sL 4) (Memref.whole main_arg4 : Memref sig .tc .hbm S4x128x1024 .bf16) (((Memref.whole main_v1_4 : Memref sig .tc .hbm S2x4x128x1024 .bf16).slice (Rect.unit (s := S2x4x128x1024) (k0_off2 c) S1x4x128x1024.size (k0_off2_inb c)) (fun _ => rfl)).squeeze S4x128x1024 squeezes_S1x4x128x1024_S4x128x1024) (Memref.isWhole_whole _).wordExact (((Memref.isWhole_whole _).wordExact_slice rfl _ (k0_off2_wordsbf16 c)).reshape _ _)

theorem kept_pos (i : Fin 5) : 0 < (kept 0 i).dst.view.dmaCredit := View.dmaCredit_pos _ (by revert i; decide)

theorem sems_inj : Function.Injective (semOf sS sR sL) := by decide

/-- The exchange. -/
def X : Exch nD τ sig (Elt F) Λ₀ (Fin 5 × Fin 1) (Fin 5) where
  peer j := peer j.2
  peer_peer j c := peer_peer j.2 c
  rc := sent
  lc := kept
  sS := sS
  sR := sR
  sL := sL
  inj := sems_inj
  N j := (kept 0 j.1).dst.view.dmaCredit
  NL i := (kept 0 i).dst.view.dmaCredit
  N_pos j := kept_pos j.1
  NL_pos i := kept_pos i
  hN c j := by obtain ⟨a, k⟩ := j; exact match a with | 0 => rfl | 1 => rfl | 2 => rfl | 3 => rfl | 4 => rfl
  hNL c i := match i with | 0 => rfl | 1 => rfl | 2 => rfl | 3 => rfl | 4 => rfl
  qs j := part 1 1 rfl (.inl j.2)
  ql _ := part 1 1 rfl (.inr 0)
  wS := wS
  wR := wR
  wL := wL

set_option maxRecDepth 65536 in
theorem body_eq (t : Fin cfg0.N) : defs₀ (F := F) .tc cfg0.body (cfg0.bodyArgs t (cfg0.slots t)) = .op .deviceId fun d => X.prog [0, 1, 2, 3, 4] [(0, 0), (1, 0), (2, 0), (3, 0), (4, 0)] d := rfl

theorem own : Pipeline.OwnSemFacts (cfgs 0).spec (semOf sS sR sL) := by decide

end Exchange.Pairs

end
-- ==== Proof.PairsRun.lean ====
/-
  `gather_w_sibling`: the two cores of a chip hand each other five arrays, each keeping both in slots.
  What every device holds before and after, and the run.
-/
module

public import proofs.«01_k».proof.Proof.Pairs

@[expose] public section

set_option Elab.async false

noncomputable section

namespace Exchange.Pairs

open Idealize.ShloMosaic Idealize.ShloMosaic.TcCoe
open Idealize.ShloMosaic.Pipeline (scopedRest)
open Idealize.SL
open Idealize.SL.BI (sProp bigSep bigSepL bigSep_congr)
open scoped Idealize.SL.BI
open Idealize.SL.BI.BIBase Idealize.SL.BI.Laws Idealize.SL.Sem Idealize.SL.ProofMode
open Idealize.SL.RA
open Cert.PairsIdeal Cert.PairsIdeal.Gen

variable {F : FTy → Type} [FloatOps F]

/-! ## Buffers -/

variable (m : (ℓ : Loc nD τ sig) → Buf (Elt F) ℓ) (g : Dev nD → PrngReg)

/-- What device `c` has of array 0 afterwards. -/
def got0 (c : Dev nD) : Buf (Elt F) ((c.tc : Thread nD τ).loc main_v1_0) := fun x : (⟨4, ![2, 4, 512, 768]⟩ : Shape).Idx => m ((holder c (x 0)).tc.loc main_arg0) (Fin.tail (α := fun b : Fin 4 => Fin (![2, 4, 512, 768] b)) x)
/-- What device `c` has of array 1 afterwards. -/
def got1 (c : Dev nD) : Buf (Elt F) ((c.tc : Thread nD τ).loc main_v1_1) := fun x : (⟨4, ![2, 4, 128, 1024]⟩ : Shape).Idx => m ((holder c (x 0)).tc.loc main_arg1) (Fin.tail (α := fun b : Fin 4 => Fin (![2, 4, 128, 1024] b)) x)
/-- What device `c` has of array 2 afterwards. -/
def got2 (c : Dev nD) : Buf (Elt F) ((c.tc : Thread nD τ).loc main_v1_2) := fun x : (⟨4, ![2, 4, 64, 512]⟩ : Shape).Idx => m ((holder c (x 0)).tc.loc main_arg2) (Fin.tail (α := fun b : Fin 4 => Fin (![2, 4, 64, 512] b)) x)
/-- What device `c` has of array 3 afterwards. -/
def got3 (c : Dev nD) : Buf (Elt F) ((c.tc : Thread nD τ).loc main_v1_3) := fun x : (⟨4, ![2, 4, 512, 1028]⟩ : Shape).Idx => m ((holder c (x 0)).tc.loc main_arg3) (Fin.tail (α := fun b : Fin 4 => Fin (![2, 4, 512, 1028] b)) x)
/-- What device `c` has of array 4 afterwards. -/
def got4 (c : Dev nD) : Buf (Elt F) ((c.tc : Thread nD τ).loc main_v1_4) := fun x : (⟨4, ![2, 4, 128, 1024]⟩ : Shape).Idx => m ((holder c (x 0)).tc.loc main_arg4) (Fin.tail (α := fun b : Fin 4 => Fin (![2, 4, 128, 1024] b)) x)

/-- The memory after the exchange. -/
def after : (ℓ : Loc nD τ sig) → Buf (Elt F) ℓ :=
  put (put (put (put (put m main_v1_0 (got0 m)) main_v1_1 (got1 m)) main_v1_2 (got2 m)) main_v1_3 (got3 m)) main_v1_4 (got4 m)

theorem after_out0 (c : Dev nD) : after m (c.tc.loc main_v1_0) = got0 m c := by
  unfold after; rw [put_ne _ _ _ (by decide), put_ne _ _ _ (by decide), put_ne _ _ _ (by decide), put_ne _ _ _ (by decide), put_self]
theorem after_out1 (c : Dev nD) : after m (c.tc.loc main_v1_1) = got1 m c := by
  unfold after; rw [put_ne _ _ _ (by decide), put_ne _ _ _ (by decide), put_ne _ _ _ (by decide), put_self]
theorem after_out2 (c : Dev nD) : after m (c.tc.loc main_v1_2) = got2 m c := by
  unfold after; rw [put_ne _ _ _ (by decide), put_ne _ _ _ (by decide), put_self]
theorem after_out3 (c : Dev nD) : after m (c.tc.loc main_v1_3) = got3 m c := by
  unfold after; rw [put_ne _ _ _ (by decide), put_self]
theorem after_out4 (c : Dev nD) : after m (c.tc.loc main_v1_4) = got4 m c := by
  unfold after; rw [put_self]
theorem after_in0 (c : Dev nD) : after m (c.tc.loc main_arg0) = m (c.tc.loc main_arg0) := by
  unfold after; rw [put_ne _ _ _ (by decide), put_ne _ _ _ (by decide), put_ne _ _ _ (by decide), put_ne _ _ _ (by decide), put_ne _ _ _ (by decide)]
theorem after_in1 (c : Dev nD) : after m (c.tc.loc main_arg1) = m (c.tc.loc main_arg1) := by
  unfold after; rw [put_ne _ _ _ (by decide), put_ne _ _ _ (by decide), put_ne _ _ _ (by decide), put_ne _ _ _ (by decide), put_ne _ _ _ (by decide)]
theorem after_in2 (c : Dev nD) : after m (c.tc.loc main_arg2) = m (c.tc.loc main_arg2) := by
  unfold after; rw [put_ne _ _ _ (by decide), put_ne _ _ _ (by decide), put_ne _ _ _ (by decide), put_ne _ _ _ (by decide), put_ne _ _ _ (by decide)]
theorem after_in3 (c : Dev nD) : after m (c.tc.loc main_arg3) = m (c.tc.loc main_arg3) := by
  unfold after; rw [put_ne _ _ _ (by decide), put_ne _ _ _ (by decide), put_ne _ _ _ (by decide), put_ne _ _ _ (by decide), put_ne _ _ _ (by decide)]
theorem after_in4 (c : Dev nD) : after m (c.tc.loc main_arg4) = m (c.tc.loc main_arg4) := by
  unfold after; rw [put_ne _ _ _ (by decide), put_ne _ _ _ (by decide), put_ne _ _ _ (by decide), put_ne _ _ _ (by decide), put_ne _ _ _ (by decide)]

def inB : Fin 5 → Ref sig .tc | 0 => main_arg0 | 1 => main_arg1 | 2 => main_arg2 | 3 => main_arg3 | 4 => main_arg4
def outB : Fin 5 → Ref sig .tc | 0 => main_v1_0 | 1 => main_v1_1 | 2 => main_v1_2 | 3 => main_v1_3 | 4 => main_v1_4

local notation "𝕄" => MT nD τ sig Unit (Elt F) ℕ (UR nD τ sig × UR nD τ sig) ℕ

theorem src_eq0 (f : (ℓ : Loc nD τ sig) → Buf (Elt F) ℓ) (c : Dev nD) : (((c.tc : Thread nD τ).loc main_arg0) ↦{fullShare} f ((c.tc : Thread nD τ).loc main_arg0) : sProp 𝕄)
    = iprop((bigSep Finset.univ fun k => X.srcPt f c (0, k)) ∗ X.lsrcPt f c 0) :=
  parts_pointsTo (ℓ := (c.tc : Thread nD τ).loc main_arg0) 1 1 rfl (View.whole main_arg0).set (View.set_whole _) (f ((c.tc : Thread nD τ).loc main_arg0))
theorem dst_eq0 (f : (ℓ : Loc nD τ sig) → Buf (Elt F) ℓ) (c : Dev nD) : (((c.tc : Thread nD τ).loc main_v1_0) ↦{fullShare} f ((c.tc : Thread nD τ).loc main_v1_0) : sProp 𝕄)
    = iprop((bigSep Finset.univ fun k => X.dstPt f (0, k) ((X (F := F)).peer (0, k) c) c) ∗ X.ldstPt f c 0) :=
  slots_pointsTo (M := 2) (d := ![4, 512, 768]) (View.whole main_v1_0) c (View.set_whole _) (fun k => k0_off1 (peer k c)) (k0_off1 c) (fun k => k0_off1_inb (peer k c))
    (k0_off1_inb c) squeezes_S1x4x512x768_S4x512x768.numel_eq (fun k => off_tail (peer k c)) (off_tail c) (off_inj c) (off_ne c) (off_all c)
    (f ((c.tc : Thread nD τ).loc main_v1_0))
theorem src_eq1 (f : (ℓ : Loc nD τ sig) → Buf (Elt F) ℓ) (c : Dev nD) : (((c.tc : Thread nD τ).loc main_arg1) ↦{fullShare} f ((c.tc : Thread nD τ).loc main_arg1) : sProp 𝕄)
    = iprop((bigSep Finset.univ fun k => X.srcPt f c (1, k)) ∗ X.lsrcPt f c 1) :=
  parts_pointsTo (ℓ := (c.tc : Thread nD τ).loc main_arg1) 1 1 rfl (View.whole main_arg1).set (View.set_whole _) (f ((c.tc : Thread nD τ).loc main_arg1))
theorem dst_eq1 (f : (ℓ : Loc nD τ sig) → Buf (Elt F) ℓ) (c : Dev nD) : (((c.tc : Thread nD τ).loc main_v1_1) ↦{fullShare} f ((c.tc : Thread nD τ).loc main_v1_1) : sProp 𝕄)
    = iprop((bigSep Finset.univ fun k => X.dstPt f (1, k) ((X (F := F)).peer (1, k) c) c) ∗ X.ldstPt f c 1) :=
  slots_pointsTo (M := 2) (d := ![4, 128, 1024]) (View.whole main_v1_1) c (View.set_whole _) (fun k => k0_off1 (peer k c)) (k0_off1 c) (fun k => k0_off2_inb (peer k c))
    (k0_off2_inb c) squeezes_S1x4x128x1024_S4x128x1024.numel_eq (fun k => off_tail (peer k c)) (off_tail c) (off_inj c) (off_ne c) (off_all c)
    (f ((c.tc : Thread nD τ).loc main_v1_1))
theorem src_eq2 (f : (ℓ : Loc nD τ sig) → Buf (Elt F) ℓ) (c : Dev nD) : (((c.tc : Thread nD τ).loc main_arg2) ↦{fullShare} f ((c.tc : Thread nD τ).loc main_arg2) : sProp 𝕄)
    = iprop((bigSep Finset.univ fun k => X.srcPt f c (2, k)) ∗ X.lsrcPt f c 2) :=
  parts_pointsTo (ℓ := (c.tc : Thread nD τ).loc main_arg2) 1 1 rfl (View.whole main_arg2).set (View.set_whole _) (f ((c.tc : Thread nD τ).loc main_arg2))
theorem dst_eq2 (f : (ℓ : Loc nD τ sig) → Buf (Elt F) ℓ) (c : Dev nD) : (((c.tc : Thread nD τ).loc main_v1_2) ↦{fullShare} f ((c.tc : Thread nD τ).loc main_v1_2) : sProp 𝕄)
    = iprop((bigSep Finset.univ fun k => X.dstPt f (2, k) ((X (F := F)).peer (2, k) c) c) ∗ X.ldstPt f c 2) :=
  slots_pointsTo (M := 2) (d := ![4, 64, 512]) (View.whole main_v1_2) c (View.set_whole _) (fun k => k0_off1 (peer k c)) (k0_off1 c) (fun k => k0_off3_inb (peer k c))
    (k0_off3_inb c) squeezes_S1x4x64x512_S4x64x512.numel_eq (fun k => off_tail (peer k c)) (off_tail c) (off_inj c) (off_ne c) (off_all c)
    (f ((c.tc : Thread nD τ).loc main_v1_2))
theorem src_eq3 (f : (ℓ : Loc nD τ sig) → Buf (Elt F) ℓ) (c : Dev nD) : (((c.tc : Thread nD τ).loc main_arg3) ↦{fullShare} f ((c.tc : Thread nD τ).loc main_arg3) : sProp 𝕄)
    = iprop((bigSep Finset.univ fun k => X.srcPt f c (3, k)) ∗ X.lsrcPt f c 3) :=
  parts_pointsTo (ℓ := (c.tc : Thread nD τ).loc main_arg3) 1 1 rfl (View.whole main_arg3).set (View.set_whole _) (f ((c.tc : Thread nD τ).loc main_arg3))
theorem dst_eq3 (f : (ℓ : Loc nD τ sig) → Buf (Elt F) ℓ) (c : Dev nD) : (((c.tc : Thread nD τ).loc main_v1_3) ↦{fullShare} f ((c.tc : Thread nD τ).loc main_v1_3) : sProp 𝕄)
    = iprop((bigSep Finset.univ fun k => X.dstPt f (3, k) ((X (F := F)).peer (3, k) c) c) ∗ X.ldstPt f c 3) :=
  slots_pointsTo (M := 2) (d := ![4, 512, 1028]) (View.whole main_v1_3) c (View.set_whole _) (fun k => k0_off1 (peer k c)) (k0_off1 c) (fun k => k0_off4_inb (peer k c))
    (k0_off4_inb c) squeezes_S1x4x512x1028_S4x512x1028.numel_eq (fun k => off_tail (peer k c)) (off_tail c) (off_inj c) (off_ne c) (off_all c)
    (f ((c.tc : Thread nD τ).loc main_v1_3))
theorem src_eq4 (f : (ℓ : Loc nD τ sig) → Buf (Elt F) ℓ) (c : Dev nD) : (((c.tc : Thread nD τ).loc main_arg4) ↦{fullShare} f ((c.tc : Thread nD τ).loc main_arg4) : sProp 𝕄)
    = iprop((bigSep Finset.univ fun k => X.srcPt f c (4, k)) ∗ X.lsrcPt f c 4) :=
  parts_pointsTo (ℓ := (c.tc : Thread nD τ).loc main_arg4) 1 1 rfl (View.whole main_arg4).set (View.set_whole _) (f ((c.tc : Thread nD τ).loc main_arg4))
theorem dst_eq4 (f : (ℓ : Loc nD τ sig) → Buf (Elt F) ℓ) (c : Dev nD) : (((c.tc : Thread nD τ).loc main_v1_4) ↦{fullShare} f ((c.tc : Thread nD τ).loc main_v1_4) : sProp 𝕄)
    = iprop((bigSep Finset.univ fun k => X.dstPt f (4, k) ((X (F := F)).peer (4, k) c) c) ∗ X.ldstPt f c 4) :=
  slots_pointsTo (M := 2) (d := ![4, 128, 1024]) (View.whole main_v1_4) c (View.set_whole _) (fun k => k0_off1 (peer k c)) (k0_off1 c) (fun k => k0_off2_inb (peer k c))
    (k0_off2_inb c) squeezes_S1x4x128x1024_S4x128x1024.numel_eq (fun k => off_tail (peer k c)) (off_tail c) (off_inj c) (off_ne c) (off_all c)
    (f ((c.tc : Thread nD τ).loc main_v1_4))

theorem bufs_inj : Function.Injective (Sum.elim inB outB) := by decide

theorem arrays : (X (F := F)).Arrays inB outB where
  inj := bufs_inj
  all := by decide
  src f c a := match a with | 0 => src_eq0 f c | 1 => src_eq1 f c | 2 => src_eq2 f c | 3 => src_eq3 f c | 4 => src_eq4 f c
  dst f c a := match a with | 0 => dst_eq0 f c | 1 => dst_eq1 f c | 2 => dst_eq2 f c | 3 => dst_eq3 f c | 4 => dst_eq4 f c

theorem read_sent0 (c : Dev nD) (k : Fin 1) :
    ((X (F := F)).rc c (0, k)).dst.view.read (Elt F) (after m (((X (F := F)).rc c (0, k)).dst.view.loc (((X (F := F)).peer (0, k) c).tc : Thread nD τ)))
      = ((X (F := F)).rc c (0, k)).src.view.read (Elt F) (m (((X (F := F)).rc c (0, k)).src.view.loc (c.tc : Thread nD τ))) := by
  funext y
  refine (slot_read (M := 2) (d := ![4, 512, 768]) (View.whole main_v1_0) (k0_off1 c) (k0_off1_inb c) squeezes_S1x4x512x768_S4x512x768.numel_eq (place c) rfl (off_tail c)
    (after m ((peer k c).tc.loc main_v1_0)) y).trans ?_
  refine (congrFun (after_out0 m (peer k c)) (Fin.cons (α := fun b : Fin 4 => Fin (![2, 4, 512, 768] b)) (place c) y)).trans ?_
  have e := elt_at m main_arg0 (holder_place k c) y
  exact e.trans (rfl)
theorem read_kept0 (c : Dev nD) :
    ((X (F := F)).lc c 0).dst.view.read (Elt F) (after m (((X (F := F)).lc c 0).dst.view.loc (c.tc : Thread nD τ)))
      = ((X (F := F)).lc c 0).src.view.read (Elt F) (m (((X (F := F)).lc c 0).src.view.loc (c.tc : Thread nD τ))) := by
  funext y
  refine (slot_read (M := 2) (d := ![4, 512, 768]) (View.whole main_v1_0) (k0_off1 c) (k0_off1_inb c) squeezes_S1x4x512x768_S4x512x768.numel_eq (place c) rfl (off_tail c)
    (after m (c.tc.loc main_v1_0)) y).trans ?_
  refine (congrFun (after_out0 m c) (Fin.cons (α := fun b : Fin 4 => Fin (![2, 4, 512, 768] b)) (place c) y)).trans ?_
  have e := elt_at m main_arg0 (holder_own c) y
  exact e.trans (rfl)
theorem read_sent1 (c : Dev nD) (k : Fin 1) :
    ((X (F := F)).rc c (1, k)).dst.view.read (Elt F) (after m (((X (F := F)).rc c (1, k)).dst.view.loc (((X (F := F)).peer (1, k) c).tc : Thread nD τ)))
      = ((X (F := F)).rc c (1, k)).src.view.read (Elt F) (m (((X (F := F)).rc c (1, k)).src.view.loc (c.tc : Thread nD τ))) := by
  funext y
  refine (slot_read (M := 2) (d := ![4, 128, 1024]) (View.whole main_v1_1) (k0_off1 c) (k0_off2_inb c) squeezes_S1x4x128x1024_S4x128x1024.numel_eq (place c) rfl (off_tail c)
    (after m ((peer k c).tc.loc main_v1_1)) y).trans ?_
  refine (congrFun (after_out1 m (peer k c)) (Fin.cons (α := fun b : Fin 4 => Fin (![2, 4, 128, 1024] b)) (place c) y)).trans ?_
  have e := elt_at m main_arg1 (holder_place k c) y
  exact e.trans (rfl)
theorem read_kept1 (c : Dev nD) :
    ((X (F := F)).lc c 1).dst.view.read (Elt F) (after m (((X (F := F)).lc c 1).dst.view.loc (c.tc : Thread nD τ)))
      = ((X (F := F)).lc c 1).src.view.read (Elt F) (m (((X (F := F)).lc c 1).src.view.loc (c.tc : Thread nD τ))) := by
  funext y
  refine (slot_read (M := 2) (d := ![4, 128, 1024]) (View.whole main_v1_1) (k0_off1 c) (k0_off2_inb c) squeezes_S1x4x128x1024_S4x128x1024.numel_eq (place c) rfl (off_tail c)
    (after m (c.tc.loc main_v1_1)) y).trans ?_
  refine (congrFun (after_out1 m c) (Fin.cons (α := fun b : Fin 4 => Fin (![2, 4, 128, 1024] b)) (place c) y)).trans ?_
  have e := elt_at m main_arg1 (holder_own c) y
  exact e.trans (rfl)
theorem read_sent2 (c : Dev nD) (k : Fin 1) :
    ((X (F := F)).rc c (2, k)).dst.view.read (Elt F) (after m (((X (F := F)).rc c (2, k)).dst.view.loc (((X (F := F)).peer (2, k) c).tc : Thread nD τ)))
      = ((X (F := F)).rc c (2, k)).src.view.read (Elt F) (m (((X (F := F)).rc c (2, k)).src.view.loc (c.tc : Thread nD τ))) := by
  funext y
  refine (slot_read (M := 2) (d := ![4, 64, 512]) (View.whole main_v1_2) (k0_off1 c) (k0_off3_inb c) squeezes_S1x4x64x512_S4x64x512.numel_eq (place c) rfl (off_tail c)
    (after m ((peer k c).tc.loc main_v1_2)) y).trans ?_
  refine (congrFun (after_out2 m (peer k c)) (Fin.cons (α := fun b : Fin 4 => Fin (![2, 4, 64, 512] b)) (place c) y)).trans ?_
  have e := elt_at m main_arg2 (holder_place k c) y
  exact e.trans (rfl)
theorem read_kept2 (c : Dev nD) :
    ((X (F := F)).lc c 2).dst.view.read (Elt F) (after m (((X (F := F)).lc c 2).dst.view.loc (c.tc : Thread nD τ)))
      = ((X (F := F)).lc c 2).src.view.read (Elt F) (m (((X (F := F)).lc c 2).src.view.loc (c.tc : Thread nD τ))) := by
  funext y
  refine (slot_read (M := 2) (d := ![4, 64, 512]) (View.whole main_v1_2) (k0_off1 c) (k0_off3_inb c) squeezes_S1x4x64x512_S4x64x512.numel_eq (place c) rfl (off_tail c)
    (after m (c.tc.loc main_v1_2)) y).trans ?_
  refine (congrFun (after_out2 m c) (Fin.cons (α := fun b : Fin 4 => Fin (![2, 4, 64, 512] b)) (place c) y)).trans ?_
  have e := elt_at m main_arg2 (holder_own c) y
  exact e.trans (rfl)
theorem read_sent3 (c : Dev nD) (k : Fin 1) :
    ((X (F := F)).rc c (3, k)).dst.view.read (Elt F) (after m (((X (F := F)).rc c (3, k)).dst.view.loc (((X (F := F)).peer (3, k) c).tc : Thread nD τ)))
      = ((X (F := F)).rc c (3, k)).src.view.read (Elt F) (m (((X (F := F)).rc c (3, k)).src.view.loc (c.tc : Thread nD τ))) := by
  funext y
  refine (slot_read (M := 2) (d := ![4, 512, 1028]) (View.whole main_v1_3) (k0_off1 c) (k0_off4_inb c) squeezes_S1x4x512x1028_S4x512x1028.numel_eq (place c) rfl (off_tail c)
    (after m ((peer k c).tc.loc main_v1_3)) y).trans ?_
  refine (congrFun (after_out3 m (peer k c)) (Fin.cons (α := fun b : Fin 4 => Fin (![2, 4, 512, 1028] b)) (place c) y)).trans ?_
  have e := elt_at m main_arg3 (holder_place k c) y
  exact e.trans (rfl)
theorem read_kept3 (c : Dev nD) :
    ((X (F := F)).lc c 3).dst.view.read (Elt F) (after m (((X (F := F)).lc c 3).dst.view.loc (c.tc : Thread nD τ)))
      = ((X (F := F)).lc c 3).src.view.read (Elt F) (m (((X (F := F)).lc c 3).src.view.loc (c.tc : Thread nD τ))) := by
  funext y
  refine (slot_read (M := 2) (d := ![4, 512, 1028]) (View.whole main_v1_3) (k0_off1 c) (k0_off4_inb c) squeezes_S1x4x512x1028_S4x512x1028.numel_eq (place c) rfl (off_tail c)
    (after m (c.tc.loc main_v1_3)) y).trans ?_
  refine (congrFun (after_out3 m c) (Fin.cons (α := fun b : Fin 4 => Fin (![2, 4, 512, 1028] b)) (place c) y)).trans ?_
  have e := elt_at m main_arg3 (holder_own c) y
  exact e.trans (rfl)
theorem read_sent4 (c : Dev nD) (k : Fin 1) :
    ((X (F := F)).rc c (4, k)).dst.view.read (Elt F) (after m (((X (F := F)).rc c (4, k)).dst.view.loc (((X (F := F)).peer (4, k) c).tc : Thread nD τ)))
      = ((X (F := F)).rc c (4, k)).src.view.read (Elt F) (m (((X (F := F)).rc c (4, k)).src.view.loc (c.tc : Thread nD τ))) := by
  funext y
  refine (slot_read (M := 2) (d := ![4, 128, 1024]) (View.whole main_v1_4) (k0_off1 c) (k0_off2_inb c) squeezes_S1x4x128x1024_S4x128x1024.numel_eq (place c) rfl (off_tail c)
    (after m ((peer k c).tc.loc main_v1_4)) y).trans ?_
  refine (congrFun (after_out4 m (peer k c)) (Fin.cons (α := fun b : Fin 4 => Fin (![2, 4, 128, 1024] b)) (place c) y)).trans ?_
  have e := elt_at m main_arg4 (holder_place k c) y
  exact e.trans (rfl)
theorem read_kept4 (c : Dev nD) :
    ((X (F := F)).lc c 4).dst.view.read (Elt F) (after m (((X (F := F)).lc c 4).dst.view.loc (c.tc : Thread nD τ)))
      = ((X (F := F)).lc c 4).src.view.read (Elt F) (m (((X (F := F)).lc c 4).src.view.loc (c.tc : Thread nD τ))) := by
  funext y
  refine (slot_read (M := 2) (d := ![4, 128, 1024]) (View.whole main_v1_4) (k0_off1 c) (k0_off2_inb c) squeezes_S1x4x128x1024_S4x128x1024.numel_eq (place c) rfl (off_tail c)
    (after m (c.tc.loc main_v1_4)) y).trans ?_
  refine (congrFun (after_out4 m c) (Fin.cons (α := fun b : Fin 4 => Fin (![2, 4, 128, 1024] b)) (place c) y)).trans ?_
  have e := elt_at m main_arg4 (holder_own c) y
  exact e.trans (rfl)

/-- The exchange's facts. -/
theorem facts (𝒱₀ : Variants) : X.Facts m (after m) (fun _ => (emp : sProp 𝕄)) (defs₀ (F := F)) 𝒱₀ where
  hsplit := arrays.splits m
  hjoin := arrays.joins m (after m) (fun c a => match a with | 0 => after_in0 m c | 1 => after_in1 m c | 2 => after_in2 m c | 3 => after_in3 m c | 4 => after_in4 m c)
  hR c j := by
    obtain ⟨a, k⟩ := j
    exact match a with | 0 => read_sent0 m c k | 1 => read_sent1 m c k | 2 => read_sent2 m c k | 3 => read_sent3 m c k | 4 => read_sent4 m c k
  hL c i := match i with | 0 => read_kept0 m c | 1 => read_kept1 m c | 2 => read_kept2 m c | 3 => read_kept3 m c | 4 => read_kept4 m c
  hroute := by unfold Exch.Routes; decide
  hw := ⟨fun c j K => match j with | (0, 0) => rfl | (1, 0) => rfl | (2, 0) => rfl | (3, 0) => rfl | (4, 0) => rfl,
    fun c j K => match j with | (0, 0) => rfl | (1, 0) => rfl | (2, 0) => rfl | (3, 0) => rfl | (4, 0) => rfl,
    fun c i K => match i with | 0 => rfl | 1 => rfl | 2 => rfl | 3 => rfl | 4 => rfl⟩

/-- The run: every fair execution ends with every device's buffers as `after m` has them, every counter at zero. -/
theorem run_main : θ_run (defs (F := F)) (onTc main) ⟨m, fun _ => 0, g⟩ (fun r => (∀ c, Exch.Shows (after m) c r.2) ∧ r.2.sem = fun _ => 0) :=
  Exch.run X m (after m) g (fun _ => emp) cfgs defs₀ Variants.none cellOf_inj (facts m _) (fun | 0 => (inferInstance : IsEmpty (Fin 0)))
    (fun | 0 => N_0) winFacts0.to₀ own main (fun c => main_chain c) [0, 1, 2, 3, 4] [(0, 0), (1, 0), (2, 0), (3, 0), (4, 0)] (by decide) (by decide) (by decide) (by decide)
    (fun c t Q => by rw [show defs₀ .tc (cfgs 0).body ((cfgs 0).bodyArgs t ((cfgs 0).slots t)) = _ from body_eq t]) (by decide)

end Exchange.Pairs

end
-- ==== Proof.PairsClaims.lean ====
/-
  The claims about `gather_w_sibling`.
-/
module

public import proofs.«01_k».proof.Defs
public import proofs.«01_k».proof.Proof.PairsRun
public import proofs.«01_k».proof.Proof.Blocks
public import proofs.«01_k».proof.Proof.Gen.Pairs
public import proofs.«01_k».proof.Proof.Gen.PairsRef
public import proofs.«01_k».proof.Proof.Gen.PairsRefIdeal.Run

@[expose] public section

set_option Elab.async false

noncomputable section

namespace Exchange.Pairs

open Idealize.ShloMosaic Idealize.ShloMosaic.TcCoe Idealize.SL.Sem

variable {F : FTy → Type} [FloatOps F]

/-- The core whose part a device takes into slot `i`. -/
theorem holder_at : ∀ (c : Fin 8) (i : Fin 2), Layout.meshLin [2, 2, 2] (holder c i).val [2] = i.val := by decide

/-- The run, argument by argument and result by result. -/
theorem run_read (m : (ℓ : Loc Cert.PairsIdeal.nD Cert.PairsIdeal.τ Cert.PairsIdeal.sig) → Buf (Elt F) ℓ) (g : Dev Cert.PairsIdeal.nD → PrngReg) :
    θ_run (Cert.PairsIdeal.defs (F := F)) (onTc (τ := Cert.PairsIdeal.τ) (Cert.PairsIdeal.main (F := F))) ⟨m, fun _ => 0, g⟩ (fun r => (∀ c : Dev Cert.PairsIdeal.nD,
      r.2.mem ((c.tc : Thread Cert.PairsIdeal.nD Cert.PairsIdeal.τ).loc Cert.PairsIdeal.main_v1_0) = got0 m c ∧
      r.2.mem ((c.tc : Thread Cert.PairsIdeal.nD Cert.PairsIdeal.τ).loc Cert.PairsIdeal.main_v1_1) = got1 m c ∧
      r.2.mem ((c.tc : Thread Cert.PairsIdeal.nD Cert.PairsIdeal.τ).loc Cert.PairsIdeal.main_v1_2) = got2 m c ∧
      r.2.mem ((c.tc : Thread Cert.PairsIdeal.nD Cert.PairsIdeal.τ).loc Cert.PairsIdeal.main_v1_3) = got3 m c ∧
      r.2.mem ((c.tc : Thread Cert.PairsIdeal.nD Cert.PairsIdeal.τ).loc Cert.PairsIdeal.main_v1_4) = got4 m c ∧
      r.2.mem ((c.tc : Thread Cert.PairsIdeal.nD Cert.PairsIdeal.τ).loc Cert.PairsIdeal.main_arg0) = m ((c.tc : Thread Cert.PairsIdeal.nD Cert.PairsIdeal.τ).loc Cert.PairsIdeal.main_arg0) ∧
      r.2.mem ((c.tc : Thread Cert.PairsIdeal.nD Cert.PairsIdeal.τ).loc Cert.PairsIdeal.main_arg1) = m ((c.tc : Thread Cert.PairsIdeal.nD Cert.PairsIdeal.τ).loc Cert.PairsIdeal.main_arg1) ∧
      r.2.mem ((c.tc : Thread Cert.PairsIdeal.nD Cert.PairsIdeal.τ).loc Cert.PairsIdeal.main_arg2) = m ((c.tc : Thread Cert.PairsIdeal.nD Cert.PairsIdeal.τ).loc Cert.PairsIdeal.main_arg2) ∧
      r.2.mem ((c.tc : Thread Cert.PairsIdeal.nD Cert.PairsIdeal.τ).loc Cert.PairsIdeal.main_arg3) = m ((c.tc : Thread Cert.PairsIdeal.nD Cert.PairsIdeal.τ).loc Cert.PairsIdeal.main_arg3) ∧
      r.2.mem ((c.tc : Thread Cert.PairsIdeal.nD Cert.PairsIdeal.τ).loc Cert.PairsIdeal.main_arg4) = m ((c.tc : Thread Cert.PairsIdeal.nD Cert.PairsIdeal.τ).loc Cert.PairsIdeal.main_arg4))
      ∧ r.2.sem = fun _ => 0) :=
  (θ_run Cert.PairsIdeal.defs _ _).mono (fun _ h => ⟨fun c => ⟨(h.1 c Cert.PairsIdeal.main_v1_0 (by decide)).trans (after_out0 m c), (h.1 c Cert.PairsIdeal.main_v1_1 (by decide)).trans (after_out1 m c), (h.1 c Cert.PairsIdeal.main_v1_2 (by decide)).trans (after_out2 m c), (h.1 c Cert.PairsIdeal.main_v1_3 (by decide)).trans (after_out3 m c), (h.1 c Cert.PairsIdeal.main_v1_4 (by decide)).trans (after_out4 m c), (h.1 c Cert.PairsIdeal.main_arg0 (by decide)).trans (after_in0 m c), (h.1 c Cert.PairsIdeal.main_arg1 (by decide)).trans (after_in1 m c), (h.1 c Cert.PairsIdeal.main_arg2 (by decide)).trans (after_in2 m c), (h.1 c Cert.PairsIdeal.main_arg3 (by decide)).trans (after_in3 m c), (h.1 c Cert.PairsIdeal.main_arg4 (by decide)).trans (after_in4 m c)⟩, h.2⟩) (run_main m g)

theorem frame_pairsIdeal : Cert.quiescent_PairsIdeal := fun m g _ =>
  (θ_run Cert.PairsIdeal.defs _ _).mono (fun _ h => ⟨fun c => (h.1 c).2.2.2.2.2, h.2⟩) (run_read (F := Ideal) m g)

theorem frame_pairs : Cert.quiescent_Pairs := fun m g _ =>
  (θ_run Cert.PairsIdeal.defs _ _).mono (fun _ h => ⟨fun c => (h.1 c).2.2.2.2.2, h.2⟩) (run_read (F := Bits) m g)

theorem frame_pairsRefIdeal : Cert.quiescent_PairsRefIdeal := fun m g _ =>
  (θ_run Cert.PairsRefIdeal.defs _ _).mono (fun r h => ⟨fun c => (h c).2.2.2.2.2, sem_eq_zero_of_no_sems (by decide) r.2⟩)
    (Cert.PairsRefIdeal.Value.run (F := Ideal) m g)

theorem frame_pairsRef : Cert.quiescent_PairsRef := fun m g _ =>
  (θ_run Cert.PairsRefIdeal.defs _ _).mono (fun r h => ⟨fun c => (h c).2.2.2.2.2, sem_eq_zero_of_no_sems (by decide) r.2⟩)
    (Cert.PairsRefIdeal.Value.run (F := Bits) m g)

theorem algebraic_pairs : Cert.algebraic_PairsIdeal_PairsRefIdeal := by
  intro m g m' g' _ h
  refine ⟨_, _, _, _, _, ?_, (θ_run Cert.PairsRefIdeal.defs _ _).mono (fun _ hr => hr 0) (Cert.PairsRefIdeal.Value.run (F := Ideal) m' g')⟩
  refine (θ_run Cert.PairsIdeal.defs _ _).mono (fun _ hr c => ?_) (run_read (F := Ideal) m g)
  obtain ⟨r0, r1, r2, r3, r4, ha⟩ := hr.1 c
  refine ⟨?_, ?_, ?_, ?_, ?_, ha⟩
  · refine (r0).trans (funext fun i => ?_)
    exact (congrFun ((h (holder c (i 0))).1) _).trans (halves_slots _ _ rfl _ _ i (holder c (i 0)) (holder_at c (i 0))).symm
  · refine (r1).trans (funext fun i => ?_)
    exact (congrFun ((h (holder c (i 0))).2.1) _).trans (halves_slots _ _ rfl _ _ i (holder c (i 0)) (holder_at c (i 0))).symm
  · refine (r2).trans (funext fun i => ?_)
    exact (congrFun ((h (holder c (i 0))).2.2.1) _).trans (halves_slots _ _ rfl _ _ i (holder c (i 0)) (holder_at c (i 0))).symm
  · refine (r3).trans (funext fun i => ?_)
    exact (congrFun ((h (holder c (i 0))).2.2.2.1) _).trans (halves_slots _ _ rfl _ _ i (holder c (i 0)) (holder_at c (i 0))).symm
  · refine (r4).trans (funext fun i => ?_)
    exact (congrFun ((h (holder c (i 0))).2.2.2.2) _).trans (halves_slots _ _ rfl _ _ i (holder c (i 0)) (holder_at c (i 0))).symm

theorem bitexact_pairs : Cert.bitexact_Pairs_PairsRef := by
  intro m g m' g' _ h
  refine ⟨_, _, _, _, _, ?_, (θ_run Cert.PairsRefIdeal.defs _ _).mono (fun _ hr => hr 0) (Cert.PairsRefIdeal.Value.run (F := Bits) m' g')⟩
  refine (θ_run Cert.PairsIdeal.defs _ _).mono (fun _ hr c => ?_) (run_read (F := Bits) m g)
  obtain ⟨r0, r1, r2, r3, r4, ha⟩ := hr.1 c
  refine ⟨?_, ?_, ?_, ?_, ?_, ha⟩
  · refine (r0).trans (funext fun i => ?_)
    exact (congrFun ((h (holder c (i 0))).1) _).trans (halves_slots _ _ rfl _ _ i (holder c (i 0)) (holder_at c (i 0))).symm
  · refine (r1).trans (funext fun i => ?_)
    exact (congrFun ((h (holder c (i 0))).2.1) _).trans (halves_slots _ _ rfl _ _ i (holder c (i 0)) (holder_at c (i 0))).symm
  · refine (r2).trans (funext fun i => ?_)
    exact (congrFun ((h (holder c (i 0))).2.2.1) _).trans (halves_slots _ _ rfl _ _ i (holder c (i 0)) (holder_at c (i 0))).symm
  · refine (r3).trans (funext fun i => ?_)
    exact (congrFun ((h (holder c (i 0))).2.2.2.1) _).trans (halves_slots _ _ rfl _ _ i (holder c (i 0)) (holder_at c (i 0))).symm
  · refine (r4).trans (funext fun i => ?_)
    exact (congrFun ((h (holder c (i 0))).2.2.2.2) _).trans (halves_slots _ _ rfl _ _ i (holder c (i 0)) (holder_at c (i 0))).symm

end Exchange.Pairs

end
-- ==== Proof.Shards.lean ====
/-
  `gather_w_chips`: the four chips hand each other five arrays, core by core, each device keeping all four in slots.
  The instance of the exchange, and its run.
-/
module

public import proofs.«01_k».proof.Proof.Gen.ShardsIdeal.Launch
public import proofs.«01_k».proof.Proof.Slots
public import proofs.«01_k».proof.Proof.Values

@[expose] public section

set_option Elab.async false

noncomputable section

namespace Exchange.Shards

open Idealize.ShloMosaic Idealize.ShloMosaic.TcCoe
open Idealize.ShloMosaic.Pipeline (scopedRest)
open Idealize.SL
open Idealize.SL.BI (sProp bigSep bigSepL)
open scoped Idealize.SL.BI
open Idealize.SL.BI.BIBase Idealize.SL.BI.Laws Idealize.SL.Sem Idealize.SL.ProofMode
open Idealize.SL.RA
open Cert.ShardsIdeal Cert.ShardsIdeal.Gen

variable {F : FTy → Type} [FloatOps F]

/-! ## Places -/

/-- The other devices a device deals with. -/
def peer : Fin 3 → Dev nD → Dev nD
  | 0, d0 => ⟨k0_dev1 d0, k0_dev1_lt d0⟩
  | 1, d0 => ⟨k0_dev2 d0, k0_dev2_lt d0⟩
  | 2, d0 => ⟨k0_dev3 d0, k0_dev3_lt d0⟩

theorem peer_peer : ∀ k c, peer k (peer k c) = c := by decide

/-- The slot a device's arrays go to. -/
def place (c : Dev nD) : Fin 4 := ⟨k0_off1 c 0, by revert c; decide⟩

/-- The device whose arrays are in slot `i` of device `c`. -/
def holder (c : Dev nD) (i : Fin 4) : Dev nD := ⟨2 * i.val + c.val % 2, by revert c i; decide⟩

theorem holder_place : ∀ k c, holder (peer k c) (place c) = c := by decide
theorem holder_own : ∀ c, holder c (place c) = c := by decide
theorem off_tail : ∀ c, ∀ a : Fin 2, k0_off1 c a.succ = 0 := by decide
theorem off_inj : ∀ c k k', k0_off1 (peer k c) 0 = k0_off1 (peer k' c) 0 → k = k' := by decide
theorem off_ne : ∀ c k, k0_off1 (peer k c) 0 ≠ k0_off1 c 0 := by decide
theorem off_all : ∀ c, ∀ i : Fin 4, (∃ k, k0_off1 (peer k c) 0 = i.val) ∨ k0_off1 c 0 = i.val := by decide

/-! ## Copies and counters -/

/-- Array by array, what a device sends. -/
def sent (c : Dev nD) : Fin 5 × Fin 3 → Copy sig
  | (0, _) => ⟨S512x768, .bf16, (Memref.whole main_arg0 : Memref sig .tc .hbm S512x768 .bf16), (((Memref.whole main_v1_0 : Memref sig .tc .hbm S4x512x768 .bf16).slice (Rect.unit (s := S4x512x768) (k0_off1 c) S1x512x768.size (k0_off1_inb c)) (fun _ => rfl)).squeeze S512x768 squeezes_S1x512x768_S512x768), (Memref.isWhole_whole _).wordExact, (((Memref.isWhole_whole _).wordExact_slice rfl _ (k0_off1_wordsbf16 c)).reshape _ _), rfl⟩
  | (1, _) => ⟨S128x1024, .bf16, (Memref.whole main_arg1 : Memref sig .tc .hbm S128x1024 .bf16), (((Memref.whole main_v1_1 : Memref sig .tc .hbm S4x128x1024 .bf16).slice (Rect.unit (s := S4x128x1024) (k0_off2 c) S1x128x1024.size (k0_off2_inb c)) (fun _ => rfl)).squeeze S128x1024 squeezes_S1x128x1024_S128x1024), (Memref.isWhole_whole _).wordExact, (((Memref.isWhole_whole _).wordExact_slice rfl _ (k0_off2_wordsbf16 c)).reshape _ _), rfl⟩
  | (2, _) => ⟨S64x512, .bf16, (Memref.whole main_arg2 : Memref sig .tc .hbm S64x512 .bf16), (((Memref.whole main_v1_2 : Memref sig .tc .hbm S4x64x512 .bf16).slice (Rect.unit (s := S4x64x512) (k0_off3 c) S1x64x512.size (k0_off3_inb c)) (fun _ => rfl)).squeeze S64x512 squeezes_S1x64x512_S64x512), (Memref.isWhole_whole _).wordExact, (((Memref.isWhole_whole _).wordExact_slice rfl _ (k0_off3_wordsbf16 c)).reshape _ _), rfl⟩
  | (3, _) => ⟨S512x1028, .bf16, (Memref.whole main_arg3 : Memref sig .tc .hbm S512x1028 .bf16), (((Memref.whole main_v1_3 : Memref sig .tc .hbm S4x512x1028 .bf16).slice (Rect.unit (s := S4x512x1028) (k0_off4 c) S1x512x1028.size (k0_off4_inb c)) (fun _ => rfl)).squeeze S512x1028 squeezes_S1x512x1028_S512x1028), (Memref.isWhole_whole _).wordExact, (((Memref.isWhole_whole _).wordExact_slice rfl _ (k0_off4_wordsbf16 c)).reshape _ _), rfl⟩
  | (4, _) => ⟨S128x1024, .bf16, (Memref.whole main_arg4 : Memref sig .tc .hbm S128x1024 .bf16), (((Memref.whole main_v1_4 : Memref sig .tc .hbm S4x128x1024 .bf16).slice (Rect.unit (s := S4x128x1024) (k0_off2 c) S1x128x1024.size (k0_off2_inb c)) (fun _ => rfl)).squeeze S128x1024 squeezes_S1x128x1024_S128x1024), (Memref.isWhole_whole _).wordExact, (((Memref.isWhole_whole _).wordExact_slice rfl _ (k0_off2_wordsbf16 c)).reshape _ _), rfl⟩

/-- Array by array, what a device keeps. -/
def kept (c : Dev nD) : Fin 5 → Copy sig
  | 0 => ⟨S512x768, .bf16, (Memref.whole main_arg0 : Memref sig .tc .hbm S512x768 .bf16), (((Memref.whole main_v1_0 : Memref sig .tc .hbm S4x512x768 .bf16).slice (Rect.unit (s := S4x512x768) (k0_off1 c) S1x512x768.size (k0_off1_inb c)) (fun _ => rfl)).squeeze S512x768 squeezes_S1x512x768_S512x768), (Memref.isWhole_whole _).wordExact, (((Memref.isWhole_whole _).wordExact_slice rfl _ (k0_off1_wordsbf16 c)).reshape _ _), rfl⟩
  | 1 => ⟨S128x1024, .bf16, (Memref.whole main_arg1 : Memref sig .tc .hbm S128x1024 .bf16), (((Memref.whole main_v1_1 : Memref sig .tc .hbm S4x128x1024 .bf16).slice (Rect.unit (s := S4x128x1024) (k0_off2 c) S1x128x1024.size (k0_off2_inb c)) (fun _ => rfl)).squeeze S128x1024 squeezes_S1x128x1024_S128x1024), (Memref.isWhole_whole _).wordExact, (((Memref.isWhole_whole _).wordExact_slice rfl _ (k0_off2_wordsbf16 c)).reshape _ _), rfl⟩
  | 2 => ⟨S64x512, .bf16, (Memref.whole main_arg2 : Memref sig .tc .hbm S64x512 .bf16), (((Memref.whole main_v1_2 : Memref sig .tc .hbm S4x64x512 .bf16).slice (Rect.unit (s := S4x64x512) (k0_off3 c) S1x64x512.size (k0_off3_inb c)) (fun _ => rfl)).squeeze S64x512 squeezes_S1x64x512_S64x512), (Memref.isWhole_whole _).wordExact, (((Memref.isWhole_whole _).wordExact_slice rfl _ (k0_off3_wordsbf16 c)).reshape _ _), rfl⟩
  | 3 => ⟨S512x1028, .bf16, (Memref.whole main_arg3 : Memref sig .tc .hbm S512x1028 .bf16), (((Memref.whole main_v1_3 : Memref sig .tc .hbm S4x512x1028 .bf16).slice (Rect.unit (s := S4x512x1028) (k0_off4 c) S1x512x1028.size (k0_off4_inb c)) (fun _ => rfl)).squeeze S512x1028 squeezes_S1x512x1028_S512x1028), (Memref.isWhole_whole _).wordExact, (((Memref.isWhole_whole _).wordExact_slice rfl _ (k0_off4_wordsbf16 c)).reshape _ _), rfl⟩
  | 4 => ⟨S128x1024, .bf16, (Memref.whole main_arg4 : Memref sig .tc .hbm S128x1024 .bf16), (((Memref.whole main_v1_4 : Memref sig .tc .hbm S4x128x1024 .bf16).slice (Rect.unit (s := S4x128x1024) (k0_off2 c) S1x128x1024.size (k0_off2_inb c)) (fun _ => rfl)).squeeze S128x1024 squeezes_S1x128x1024_S128x1024), (Memref.isWhole_whole _).wordExact, (((Memref.isWhole_whole _).wordExact_slice rfl _ (k0_off2_wordsbf16 c)).reshape _ _), rfl⟩

def sS : Fin 5 × Fin 3 → DmaSem sig
  | (0, 0) => (((cc0_scratch0 : DmaSems sig S15).slice (Rect.unit (s := S15) ![0] S1.size inb_S15_S1_0)).squeeze S_ squeezes_S1_S_).sem
  | (0, 1) => (((cc0_scratch0 : DmaSems sig S15).slice (Rect.unit (s := S15) ![1] S1.size inb_S15_S1_1)).squeeze S_ squeezes_S1_S_).sem
  | (0, 2) => (((cc0_scratch0 : DmaSems sig S15).slice (Rect.unit (s := S15) ![2] S1.size inb_S15_S1_2)).squeeze S_ squeezes_S1_S_).sem
  | (1, 0) => (((cc0_scratch0 : DmaSems sig S15).slice (Rect.unit (s := S15) ![3] S1.size inb_S15_S1_3)).squeeze S_ squeezes_S1_S_).sem
  | (1, 1) => (((cc0_scratch0 : DmaSems sig S15).slice (Rect.unit (s := S15) ![4] S1.size inb_S15_S1_4)).squeeze S_ squeezes_S1_S_).sem
  | (1, 2) => (((cc0_scratch0 : DmaSems sig S15).slice (Rect.unit (s := S15) ![5] S1.size inb_S15_S1_5)).squeeze S_ squeezes_S1_S_).sem
  | (2, 0) => (((cc0_scratch0 : DmaSems sig S15).slice (Rect.unit (s := S15) ![6] S1.size inb_S15_S1_6)).squeeze S_ squeezes_S1_S_).sem
  | (2, 1) => (((cc0_scratch0 : DmaSems sig S15).slice (Rect.unit (s := S15) ![7] S1.size inb_S15_S1_7)).squeeze S_ squeezes_S1_S_).sem
  | (2, 2) => (((cc0_scratch0 : DmaSems sig S15).slice (Rect.unit (s := S15) ![8] S1.size inb_S15_S1_8)).squeeze S_ squeezes_S1_S_).sem
  | (3, 0) => (((cc0_scratch0 : DmaSems sig S15).slice (Rect.unit (s := S15) ![9] S1.size inb_S15_S1_9)).squeeze S_ squeezes_S1_S_).sem
  | (3, 1) => (((cc0_scratch0 : DmaSems sig S15).slice (Rect.unit (s := S15) ![10] S1.size inb_S15_S1_10)).squeeze S_ squeezes_S1_S_).sem
  | (3, 2) => (((cc0_scratch0 : DmaSems sig S15).slice (Rect.unit (s := S15) ![11] S1.size inb_S15_S1_11)).squeeze S_ squeezes_S1_S_).sem
  | (4, 0) => (((cc0_scratch0 : DmaSems sig S15).slice (Rect.unit (s := S15) ![12] S1.size inb_S15_S1_12)).squeeze S_ squeezes_S1_S_).sem
  | (4, 1) => (((cc0_scratch0 : DmaSems sig S15).slice (Rect.unit (s := S15) ![13] S1.size inb_S15_S1_13)).squeeze S_ squeezes_S1_S_).sem
  | (4, 2) => (((cc0_scratch0 : DmaSems sig S15).slice (Rect.unit (s := S15) ![14] S1.size inb_S15_S1_14)).squeeze S_ squeezes_S1_S_).sem
def sR : Fin 5 × Fin 3 → DmaSem sig
  | (0, 0) => (((cc0_scratch1 : DmaSems sig S15).slice (Rect.unit (s := S15) ![0] S1.size inb_S15_S1_0)).squeeze S_ squeezes_S1_S_).sem
  | (0, 1) => (((cc0_scratch1 : DmaSems sig S15).slice (Rect.unit (s := S15) ![1] S1.size inb_S15_S1_1)).squeeze S_ squeezes_S1_S_).sem
  | (0, 2) => (((cc0_scratch1 : DmaSems sig S15).slice (Rect.unit (s := S15) ![2] S1.size inb_S15_S1_2)).squeeze S_ squeezes_S1_S_).sem
  | (1, 0) => (((cc0_scratch1 : DmaSems sig S15).slice (Rect.unit (s := S15) ![3] S1.size inb_S15_S1_3)).squeeze S_ squeezes_S1_S_).sem
  | (1, 1) => (((cc0_scratch1 : DmaSems sig S15).slice (Rect.unit (s := S15) ![4] S1.size inb_S15_S1_4)).squeeze S_ squeezes_S1_S_).sem
  | (1, 2) => (((cc0_scratch1 : DmaSems sig S15).slice (Rect.unit (s := S15) ![5] S1.size inb_S15_S1_5)).squeeze S_ squeezes_S1_S_).sem
  | (2, 0) => (((cc0_scratch1 : DmaSems sig S15).slice (Rect.unit (s := S15) ![6] S1.size inb_S15_S1_6)).squeeze S_ squeezes_S1_S_).sem
  | (2, 1) => (((cc0_scratch1 : DmaSems sig S15).slice (Rect.unit (s := S15) ![7] S1.size inb_S15_S1_7)).squeeze S_ squeezes_S1_S_).sem
  | (2, 2) => (((cc0_scratch1 : DmaSems sig S15).slice (Rect.unit (s := S15) ![8] S1.size inb_S15_S1_8)).squeeze S_ squeezes_S1_S_).sem
  | (3, 0) => (((cc0_scratch1 : DmaSems sig S15).slice (Rect.unit (s := S15) ![9] S1.size inb_S15_S1_9)).squeeze S_ squeezes_S1_S_).sem
  | (3, 1) => (((cc0_scratch1 : DmaSems sig S15).slice (Rect.unit (s := S15) ![10] S1.size inb_S15_S1_10)).squeeze S_ squeezes_S1_S_).sem
  | (3, 2) => (((cc0_scratch1 : DmaSems sig S15).slice (Rect.unit (s := S15) ![11] S1.size inb_S15_S1_11)).squeeze S_ squeezes_S1_S_).sem
  | (4, 0) => (((cc0_scratch1 : DmaSems sig S15).slice (Rect.unit (s := S15) ![12] S1.size inb_S15_S1_12)).squeeze S_ squeezes_S1_S_).sem
  | (4, 1) => (((cc0_scratch1 : DmaSems sig S15).slice (Rect.unit (s := S15) ![13] S1.size inb_S15_S1_13)).squeeze S_ squeezes_S1_S_).sem
  | (4, 2) => (((cc0_scratch1 : DmaSems sig S15).slice (Rect.unit (s := S15) ![14] S1.size inb_S15_S1_14)).squeeze S_ squeezes_S1_S_).sem
def sL : Fin 5 → DmaSem sig
  | 0 => (((cc0_scratch2 : DmaSems sig S5).slice (Rect.unit (s := S5) ![0] S1.size inb_S5_S1_0)).squeeze S_ squeezes_S1_S_).sem
  | 1 => (((cc0_scratch2 : DmaSems sig S5).slice (Rect.unit (s := S5) ![1] S1.size inb_S5_S1_1)).squeeze S_ squeezes_S1_S_).sem
  | 2 => (((cc0_scratch2 : DmaSems sig S5).slice (Rect.unit (s := S5) ![2] S1.size inb_S5_S1_2)).squeeze S_ squeezes_S1_S_).sem
  | 3 => (((cc0_scratch2 : DmaSems sig S5).slice (Rect.unit (s := S5) ![3] S1.size inb_S5_S1_3)).squeeze S_ squeezes_S1_S_).sem
  | 4 => (((cc0_scratch2 : DmaSems sig S5).slice (Rect.unit (s := S5) ![4] S1.size inb_S5_S1_4)).squeeze S_ squeezes_S1_S_).sem

def wS (c : Dev nD) : Fin 5 × Fin 3 → TpuEff nD τ sig (Elt F) Λ₀ .tc PUnit
  | (0, 0) => .waitDma2 (sS (0, 0)) (((Memref.whole main_v1_0 : Memref sig .tc .hbm S4x512x768 .bf16).slice (Rect.unit (s := S4x512x768) (k0_off1 c) S1x512x768.size (k0_off1_inb c)) (fun _ => rfl)).squeeze S512x768 squeezes_S1x512x768_S512x768) (Memref.whole main_arg0 : Memref sig .tc .hbm S512x768 .bf16) (((Memref.isWhole_whole _).wordExact_slice rfl _ (k0_off1_wordsbf16 c)).reshape _ _) (Memref.isWhole_whole _).wordExact
  | (0, 1) => .waitDma2 (sS (0, 1)) (((Memref.whole main_v1_0 : Memref sig .tc .hbm S4x512x768 .bf16).slice (Rect.unit (s := S4x512x768) (k0_off1 c) S1x512x768.size (k0_off1_inb c)) (fun _ => rfl)).squeeze S512x768 squeezes_S1x512x768_S512x768) (Memref.whole main_arg0 : Memref sig .tc .hbm S512x768 .bf16) (((Memref.isWhole_whole _).wordExact_slice rfl _ (k0_off1_wordsbf16 c)).reshape _ _) (Memref.isWhole_whole _).wordExact
  | (0, 2) => .waitDma2 (sS (0, 2)) (((Memref.whole main_v1_0 : Memref sig .tc .hbm S4x512x768 .bf16).slice (Rect.unit (s := S4x512x768) (k0_off1 c) S1x512x768.size (k0_off1_inb c)) (fun _ => rfl)).squeeze S512x768 squeezes_S1x512x768_S512x768) (Memref.whole main_arg0 : Memref sig .tc .hbm S512x768 .bf16) (((Memref.isWhole_whole _).wordExact_slice rfl _ (k0_off1_wordsbf16 c)).reshape _ _) (Memref.isWhole_whole _).wordExact
  | (1, 0) => .waitDma2 (sS (1, 0)) (((Memref.whole main_v1_1 : Memref sig .tc .hbm S4x128x1024 .bf16).slice (Rect.unit (s := S4x128x1024) (k0_off2 c) S1x128x1024.size (k0_off2_inb c)) (fun _ => rfl)).squeeze S128x1024 squeezes_S1x128x1024_S128x1024) (Memref.whole main_arg1 : Memref sig .tc .hbm S128x1024 .bf16) (((Memref.isWhole_whole _).wordExact_slice rfl _ (k0_off2_wordsbf16 c)).reshape _ _) (Memref.isWhole_whole _).wordExact
  | (1, 1) => .waitDma2 (sS (1, 1)) (((Memref.whole main_v1_1 : Memref sig .tc .hbm S4x128x1024 .bf16).slice (Rect.unit (s := S4x128x1024) (k0_off2 c) S1x128x1024.size (k0_off2_inb c)) (fun _ => rfl)).squeeze S128x1024 squeezes_S1x128x1024_S128x1024) (Memref.whole main_arg1 : Memref sig .tc .hbm S128x1024 .bf16) (((Memref.isWhole_whole _).wordExact_slice rfl _ (k0_off2_wordsbf16 c)).reshape _ _) (Memref.isWhole_whole _).wordExact
  | (1, 2) => .waitDma2 (sS (1, 2)) (((Memref.whole main_v1_1 : Memref sig .tc .hbm S4x128x1024 .bf16).slice (Rect.unit (s := S4x128x1024) (k0_off2 c) S1x128x1024.size (k0_off2_inb c)) (fun _ => rfl)).squeeze S128x1024 squeezes_S1x128x1024_S128x1024) (Memref.whole main_arg1 : Memref sig .tc .hbm S128x1024 .bf16) (((Memref.isWhole_whole _).wordExact_slice rfl _ (k0_off2_wordsbf16 c)).reshape _ _) (Memref.isWhole_whole _).wordExact
  | (2, 0) => .waitDma2 (sS (2, 0)) (((Memref.whole main_v1_2 : Memref sig .tc .hbm S4x64x512 .bf16).slice (Rect.unit (s := S4x64x512) (k0_off3 c) S1x64x512.size (k0_off3_inb c)) (fun _ => rfl)).squeeze S64x512 squeezes_S1x64x512_S64x512) (Memref.whole main_arg2 : Memref sig .tc .hbm S64x512 .bf16) (((Memref.isWhole_whole _).wordExact_slice rfl _ (k0_off3_wordsbf16 c)).reshape _ _) (Memref.isWhole_whole _).wordExact
  | (2, 1) => .waitDma2 (sS (2, 1)) (((Memref.whole main_v1_2 : Memref sig .tc .hbm S4x64x512 .bf16).slice (Rect.unit (s := S4x64x512) (k0_off3 c) S1x64x512.size (k0_off3_inb c)) (fun _ => rfl)).squeeze S64x512 squeezes_S1x64x512_S64x512) (Memref.whole main_arg2 : Memref sig .tc .hbm S64x512 .bf16) (((Memref.isWhole_whole _).wordExact_slice rfl _ (k0_off3_wordsbf16 c)).reshape _ _) (Memref.isWhole_whole _).wordExact
  | (2, 2) => .waitDma2 (sS (2, 2)) (((Memref.whole main_v1_2 : Memref sig .tc .hbm S4x64x512 .bf16).slice (Rect.unit (s := S4x64x512) (k0_off3 c) S1x64x512.size (k0_off3_inb c)) (fun _ => rfl)).squeeze S64x512 squeezes_S1x64x512_S64x512) (Memref.whole main_arg2 : Memref sig .tc .hbm S64x512 .bf16) (((Memref.isWhole_whole _).wordExact_slice rfl _ (k0_off3_wordsbf16 c)).reshape _ _) (Memref.isWhole_whole _).wordExact
  | (3, 0) => .waitDma2 (sS (3, 0)) (((Memref.whole main_v1_3 : Memref sig .tc .hbm S4x512x1028 .bf16).slice (Rect.unit (s := S4x512x1028) (k0_off4 c) S1x512x1028.size (k0_off4_inb c)) (fun _ => rfl)).squeeze S512x1028 squeezes_S1x512x1028_S512x1028) (Memref.whole main_arg3 : Memref sig .tc .hbm S512x1028 .bf16) (((Memref.isWhole_whole _).wordExact_slice rfl _ (k0_off4_wordsbf16 c)).reshape _ _) (Memref.isWhole_whole _).wordExact
  | (3, 1) => .waitDma2 (sS (3, 1)) (((Memref.whole main_v1_3 : Memref sig .tc .hbm S4x512x1028 .bf16).slice (Rect.unit (s := S4x512x1028) (k0_off4 c) S1x512x1028.size (k0_off4_inb c)) (fun _ => rfl)).squeeze S512x1028 squeezes_S1x512x1028_S512x1028) (Memref.whole main_arg3 : Memref sig .tc .hbm S512x1028 .bf16) (((Memref.isWhole_whole _).wordExact_slice rfl _ (k0_off4_wordsbf16 c)).reshape _ _) (Memref.isWhole_whole _).wordExact
  | (3, 2) => .waitDma2 (sS (3, 2)) (((Memref.whole main_v1_3 : Memref sig .tc .hbm S4x512x1028 .bf16).slice (Rect.unit (s := S4x512x1028) (k0_off4 c) S1x512x1028.size (k0_off4_inb c)) (fun _ => rfl)).squeeze S512x1028 squeezes_S1x512x1028_S512x1028) (Memref.whole main_arg3 : Memref sig .tc .hbm S512x1028 .bf16) (((Memref.isWhole_whole _).wordExact_slice rfl _ (k0_off4_wordsbf16 c)).reshape _ _) (Memref.isWhole_whole _).wordExact
  | (4, 0) => .waitDma2 (sS (4, 0)) (((Memref.whole main_v1_4 : Memref sig .tc .hbm S4x128x1024 .bf16).slice (Rect.unit (s := S4x128x1024) (k0_off2 c) S1x128x1024.size (k0_off2_inb c)) (fun _ => rfl)).squeeze S128x1024 squeezes_S1x128x1024_S128x1024) (Memref.whole main_arg4 : Memref sig .tc .hbm S128x1024 .bf16) (((Memref.isWhole_whole _).wordExact_slice rfl _ (k0_off2_wordsbf16 c)).reshape _ _) (Memref.isWhole_whole _).wordExact
  | (4, 1) => .waitDma2 (sS (4, 1)) (((Memref.whole main_v1_4 : Memref sig .tc .hbm S4x128x1024 .bf16).slice (Rect.unit (s := S4x128x1024) (k0_off2 c) S1x128x1024.size (k0_off2_inb c)) (fun _ => rfl)).squeeze S128x1024 squeezes_S1x128x1024_S128x1024) (Memref.whole main_arg4 : Memref sig .tc .hbm S128x1024 .bf16) (((Memref.isWhole_whole _).wordExact_slice rfl _ (k0_off2_wordsbf16 c)).reshape _ _) (Memref.isWhole_whole _).wordExact
  | (4, 2) => .waitDma2 (sS (4, 2)) (((Memref.whole main_v1_4 : Memref sig .tc .hbm S4x128x1024 .bf16).slice (Rect.unit (s := S4x128x1024) (k0_off2 c) S1x128x1024.size (k0_off2_inb c)) (fun _ => rfl)).squeeze S128x1024 squeezes_S1x128x1024_S128x1024) (Memref.whole main_arg4 : Memref sig .tc .hbm S128x1024 .bf16) (((Memref.isWhole_whole _).wordExact_slice rfl _ (k0_off2_wordsbf16 c)).reshape _ _) (Memref.isWhole_whole _).wordExact
def wR (c : Dev nD) : Fin 5 × Fin 3 → TpuEff nD τ sig (Elt F) Λ₀ .tc PUnit
  | (0, 0) => .waitDma2 (sR (0, 0)) (Memref.whole main_arg0 : Memref sig .tc .hbm S512x768 .bf16) (((Memref.whole main_v1_0 : Memref sig .tc .hbm S4x512x768 .bf16).slice (Rect.unit (s := S4x512x768) (k0_off5 c) S1x512x768.size (k0_off5_inb c)) (fun _ => rfl)).squeeze S512x768 squeezes_S1x512x768_S512x768) (Memref.isWhole_whole _).wordExact (((Memref.isWhole_whole _).wordExact_slice rfl _ (k0_off5_wordsbf16 c)).reshape _ _)
  | (0, 1) => .waitDma2 (sR (0, 1)) (Memref.whole main_arg0 : Memref sig .tc .hbm S512x768 .bf16) (((Memref.whole main_v1_0 : Memref sig .tc .hbm S4x512x768 .bf16).slice (Rect.unit (s := S4x512x768) (k0_off6 c) S1x512x768.size (k0_off6_inb c)) (fun _ => rfl)).squeeze S512x768 squeezes_S1x512x768_S512x768) (Memref.isWhole_whole _).wordExact (((Memref.isWhole_whole _).wordExact_slice rfl _ (k0_off6_wordsbf16 c)).reshape _ _)
  | (0, 2) => .waitDma2 (sR (0, 2)) (Memref.whole main_arg0 : Memref sig .tc .hbm S512x768 .bf16) (((Memref.whole main_v1_0 : Memref sig .tc .hbm S4x512x768 .bf16).slice (Rect.unit (s := S4x512x768) (k0_off7 c) S1x512x768.size (k0_off7_inb c)) (fun _ => rfl)).squeeze S512x768 squeezes_S1x512x768_S512x768) (Memref.isWhole_whole _).wordExact (((Memref.isWhole_whole _).wordExact_slice rfl _ (k0_off7_wordsbf16 c)).reshape _ _)
  | (1, 0) => .waitDma2 (sR (1, 0)) (Memref.whole main_arg1 : Memref sig .tc .hbm S128x1024 .bf16) (((Memref.whole main_v1_1 : Memref sig .tc .hbm S4x128x1024 .bf16).slice (Rect.unit (s := S4x128x1024) (k0_off8 c) S1x128x1024.size (k0_off8_inb c)) (fun _ => rfl)).squeeze S128x1024 squeezes_S1x128x1024_S128x1024) (Memref.isWhole_whole _).wordExact (((Memref.isWhole_whole _).wordExact_slice rfl _ (k0_off8_wordsbf16 c)).reshape _ _)
  | (1, 1) => .waitDma2 (sR (1, 1)) (Memref.whole main_arg1 : Memref sig .tc .hbm S128x1024 .bf16) (((Memref.whole main_v1_1 : Memref sig .tc .hbm S4x128x1024 .bf16).slice (Rect.unit (s := S4x128x1024) (k0_off9 c) S1x128x1024.size (k0_off9_inb c)) (fun _ => rfl)).squeeze S128x1024 squeezes_S1x128x1024_S128x1024) (Memref.isWhole_whole _).wordExact (((Memref.isWhole_whole _).wordExact_slice rfl _ (k0_off9_wordsbf16 c)).reshape _ _)
  | (1, 2) => .waitDma2 (sR (1, 2)) (Memref.whole main_arg1 : Memref sig .tc .hbm S128x1024 .bf16) (((Memref.whole main_v1_1 : Memref sig .tc .hbm S4x128x1024 .bf16).slice (Rect.unit (s := S4x128x1024) (k0_off10 c) S1x128x1024.size (k0_off10_inb c)) (fun _ => rfl)).squeeze S128x1024 squeezes_S1x128x1024_S128x1024) (Memref.isWhole_whole _).wordExact (((Memref.isWhole_whole _).wordExact_slice rfl _ (k0_off10_wordsbf16 c)).reshape _ _)
  | (2, 0) => .waitDma2 (sR (2, 0)) (Memref.whole main_arg2 : Memref sig .tc .hbm S64x512 .bf16) (((Memref.whole main_v1_2 : Memref sig .tc .hbm S4x64x512 .bf16).slice (Rect.unit (s := S4x64x512) (k0_off11 c) S1x64x512.size (k0_off11_inb c)) (fun _ => rfl)).squeeze S64x512 squeezes_S1x64x512_S64x512) (Memref.isWhole_whole _).wordExact (((Memref.isWhole_whole _).wordExact_slice rfl _ (k0_off11_wordsbf16 c)).reshape _ _)
  | (2, 1) => .waitDma2 (sR (2, 1)) (Memref.whole main_arg2 : Memref sig .tc .hbm S64x512 .bf16) (((Memref.whole main_v1_2 : Memref sig .tc .hbm S4x64x512 .bf16).slice (Rect.unit (s := S4x64x512) (k0_off12 c) S1x64x512.size (k0_off12_inb c)) (fun _ => rfl)).squeeze S64x512 squeezes_S1x64x512_S64x512) (Memref.isWhole_whole _).wordExact (((Memref.isWhole_whole _).wordExact_slice rfl _ (k0_off12_wordsbf16 c)).reshape _ _)
  | (2, 2) => .waitDma2 (sR (2, 2)) (Memref.whole main_arg2 : Memref sig .tc .hbm S64x512 .bf16) (((Memref.whole main_v1_2 : Memref sig .tc .hbm S4x64x512 .bf16).slice (Rect.unit (s := S4x64x512) (k0_off13 c) S1x64x512.size (k0_off13_inb c)) (fun _ => rfl)).squeeze S64x512 squeezes_S1x64x512_S64x512) (Memref.isWhole_whole _).wordExact (((Memref.isWhole_whole _).wordExact_slice rfl _ (k0_off13_wordsbf16 c)).reshape _ _)
  | (3, 0) => .waitDma2 (sR (3, 0)) (Memref.whole main_arg3 : Memref sig .tc .hbm S512x1028 .bf16) (((Memref.whole main_v1_3 : Memref sig .tc .hbm S4x512x1028 .bf16).slice (Rect.unit (s := S4x512x1028) (k0_off14 c) S1x512x1028.size (k0_off14_inb c)) (fun _ => rfl)).squeeze S512x1028 squeezes_S1x512x1028_S512x1028) (Memref.isWhole_whole _).wordExact (((Memref.isWhole_whole _).wordExact_slice rfl _ (k0_off14_wordsbf16 c)).reshape _ _)
  | (3, 1) => .waitDma2 (sR (3, 1)) (Memref.whole main_arg3 : Memref sig .tc .hbm S512x1028 .bf16) (((Memref.whole main_v1_3 : Memref sig .tc .hbm S4x512x1028 .bf16).slice (Rect.unit (s := S4x512x1028) (k0_off15 c) S1x512x1028.size (k0_off15_inb c)) (fun _ => rfl)).squeeze S512x1028 squeezes_S1x512x1028_S512x1028) (Memref.isWhole_whole _).wordExact (((Memref.isWhole_whole _).wordExact_slice rfl _ (k0_off15_wordsbf16 c)).reshape _ _)
  | (3, 2) => .waitDma2 (sR (3, 2)) (Memref.whole main_arg3 : Memref sig .tc .hbm S512x1028 .bf16) (((Memref.whole main_v1_3 : Memref sig .tc .hbm S4x512x1028 .bf16).slice (Rect.unit (s := S4x512x1028) (k0_off16 c) S1x512x1028.size (k0_off16_inb c)) (fun _ => rfl)).squeeze S512x1028 squeezes_S1x512x1028_S512x1028) (Memref.isWhole_whole _).wordExact (((Memref.isWhole_whole _).wordExact_slice rfl _ (k0_off16_wordsbf16 c)).reshape _ _)
  | (4, 0) => .waitDma2 (sR (4, 0)) (Memref.whole main_arg4 : Memref sig .tc .hbm S128x1024 .bf16) (((Memref.whole main_v1_4 : Memref sig .tc .hbm S4x128x1024 .bf16).slice (Rect.unit (s := S4x128x1024) (k0_off8 c) S1x128x1024.size (k0_off8_inb c)) (fun _ => rfl)).squeeze S128x1024 squeezes_S1x128x1024_S128x1024) (Memref.isWhole_whole _).wordExact (((Memref.isWhole_whole _).wordExact_slice rfl _ (k0_off8_wordsbf16 c)).reshape _ _)
  | (4, 1) => .waitDma2 (sR (4, 1)) (Memref.whole main_arg4 : Memref sig .tc .hbm S128x1024 .bf16) (((Memref.whole main_v1_4 : Memref sig .tc .hbm S4x128x1024 .bf16).slice (Rect.unit (s := S4x128x1024) (k0_off9 c) S1x128x1024.size (k0_off9_inb c)) (fun _ => rfl)).squeeze S128x1024 squeezes_S1x128x1024_S128x1024) (Memref.isWhole_whole _).wordExact (((Memref.isWhole_whole _).wordExact_slice rfl _ (k0_off9_wordsbf16 c)).reshape _ _)
  | (4, 2) => .waitDma2 (sR (4, 2)) (Memref.whole main_arg4 : Memref sig .tc .hbm S128x1024 .bf16) (((Memref.whole main_v1_4 : Memref sig .tc .hbm S4x128x1024 .bf16).slice (Rect.unit (s := S4x128x1024) (k0_off10 c) S1x128x1024.size (k0_off10_inb c)) (fun _ => rfl)).squeeze S128x1024 squeezes_S1x128x1024_S128x1024) (Memref.isWhole_whole _).wordExact (((Memref.isWhole_whole _).wordExact_slice rfl _ (k0_off10_wordsbf16 c)).reshape _ _)
def wL (c : Dev nD) : Fin 5 → TpuEff nD τ sig (Elt F) Λ₀ .tc PUnit
  | 0 => .waitDma2 (sL 0) (Memref.whole main_arg0 : Memref sig .tc .hbm S512x768 .bf16) (((Memref.whole main_v1_0 : Memref sig .tc .hbm S4x512x768 .bf16).slice (Rect.unit (s := S4x512x768) (k0_off1 c) S1x512x768.size (k0_off1_inb c)) (fun _ => rfl)).squeeze S512x768 squeezes_S1x512x768_S512x768) (Memref.isWhole_whole _).wordExact (((Memref.isWhole_whole _).wordExact_slice rfl _ (k0_off1_wordsbf16 c)).reshape _ _)
  | 1 => .waitDma2 (sL 1) (Memref.whole main_arg1 : Memref sig .tc .hbm S128x1024 .bf16) (((Memref.whole main_v1_1 : Memref sig .tc .hbm S4x128x1024 .bf16).slice (Rect.unit (s := S4x128x1024) (k0_off2 c) S1x128x1024.size (k0_off2_inb c)) (fun _ => rfl)).squeeze S128x1024 squeezes_S1x128x1024_S128x1024) (Memref.isWhole_whole _).wordExact (((Memref.isWhole_whole _).wordExact_slice rfl _ (k0_off2_wordsbf16 c)).reshape _ _)
  | 2 => .waitDma2 (sL 2) (Memref.whole main_arg2 : Memref sig .tc .hbm S64x512 .bf16) (((Memref.whole main_v1_2 : Memref sig .tc .hbm S4x64x512 .bf16).slice (Rect.unit (s := S4x64x512) (k0_off3 c) S1x64x512.size (k0_off3_inb c)) (fun _ => rfl)).squeeze S64x512 squeezes_S1x64x512_S64x512) (Memref.isWhole_whole _).wordExact (((Memref.isWhole_whole _).wordExact_slice rfl _ (k0_off3_wordsbf16 c)).reshape _ _)
  | 3 => .waitDma2 (sL 3) (Memref.whole main_arg3 : Memref sig .tc .hbm S512x1028 .bf16) (((Memref.whole main_v1_3 : Memref sig .tc .hbm S4x512x1028 .bf16).slice (Rect.unit (s := S4x512x1028) (k0_off4 c) S1x512x1028.size (k0_off4_inb c)) (fun _ => rfl)).squeeze S512x1028 squeezes_S1x512x1028_S512x1028) (Memref.isWhole_whole _).wordExact (((Memref.isWhole_whole _).wordExact_slice rfl _ (k0_off4_wordsbf16 c)).reshape _ _)
  | 4 => .waitDma2 (sL 4) (Memref.whole main_arg4 : Memref sig .tc .hbm S128x1024 .bf16) (((Memref.whole main_v1_4 : Memref sig .tc .hbm S4x128x1024 .bf16).slice (Rect.unit (s := S4x128x1024) (k0_off2 c) S1x128x1024.size (k0_off2_inb c)) (fun _ => rfl)).squeeze S128x1024 squeezes_S1x128x1024_S128x1024) (Memref.isWhole_whole _).wordExact (((Memref.isWhole_whole _).wordExact_slice rfl _ (k0_off2_wordsbf16 c)).reshape _ _)

theorem kept_pos (i : Fin 5) : 0 < (kept 0 i).dst.view.dmaCredit := View.dmaCredit_pos _ (by revert i; decide)

theorem sems_inj : Function.Injective (semOf sS sR sL) := by decide

/-- The exchange. -/
def X : Exch nD τ sig (Elt F) Λ₀ (Fin 5 × Fin 3) (Fin 5) where
  peer j := peer j.2
  peer_peer j c := peer_peer j.2 c
  rc := sent
  lc := kept
  sS := sS
  sR := sR
  sL := sL
  inj := sems_inj
  N j := (kept 0 j.1).dst.view.dmaCredit
  NL i := (kept 0 i).dst.view.dmaCredit
  N_pos j := kept_pos j.1
  NL_pos i := kept_pos i
  hN c j := by obtain ⟨a, k⟩ := j; exact match a with | 0 => rfl | 1 => rfl | 2 => rfl | 3 => rfl | 4 => rfl
  hNL c i := match i with | 0 => rfl | 1 => rfl | 2 => rfl | 3 => rfl | 4 => rfl
  qs j := part 2 3 rfl (.inl j.2)
  ql _ := part 2 3 rfl (.inr 0)
  wS := wS
  wR := wR
  wL := wL

set_option maxRecDepth 65536 in
theorem body_eq (t : Fin cfg0.N) : defs₀ (F := F) .tc cfg0.body (cfg0.bodyArgs t (cfg0.slots t)) = .op .deviceId fun d => X.prog [0, 1, 2, 3, 4] [(0, 0), (0, 1), (0, 2), (1, 0), (1, 1), (1, 2), (2, 0), (2, 1), (2, 2), (3, 0), (3, 1), (3, 2), (4, 0), (4, 1), (4, 2)] d := rfl

theorem own : Pipeline.OwnSemFacts (cfgs 0).spec (semOf sS sR sL) := by decide

end Exchange.Shards

end
-- ==== Proof.ShardsRun.lean ====
/-
  `gather_w_chips`: the four chips hand each other five arrays, core by core, each device keeping all four in slots.
  What every device holds before and after, and the run.
-/
module

public import proofs.«01_k».proof.Proof.Shards

@[expose] public section

set_option Elab.async false

noncomputable section

namespace Exchange.Shards

open Idealize.ShloMosaic Idealize.ShloMosaic.TcCoe
open Idealize.ShloMosaic.Pipeline (scopedRest)
open Idealize.SL
open Idealize.SL.BI (sProp bigSep bigSepL bigSep_congr)
open scoped Idealize.SL.BI
open Idealize.SL.BI.BIBase Idealize.SL.BI.Laws Idealize.SL.Sem Idealize.SL.ProofMode
open Idealize.SL.RA
open Cert.ShardsIdeal Cert.ShardsIdeal.Gen

variable {F : FTy → Type} [FloatOps F]

/-! ## Buffers -/

variable (m : (ℓ : Loc nD τ sig) → Buf (Elt F) ℓ) (g : Dev nD → PrngReg)

/-- What device `c` has of array 0 afterwards. -/
def got0 (c : Dev nD) : Buf (Elt F) ((c.tc : Thread nD τ).loc main_v1_0) := fun x : (⟨3, ![4, 512, 768]⟩ : Shape).Idx => m ((holder c (x 0)).tc.loc main_arg0) (Fin.tail (α := fun b : Fin 3 => Fin (![4, 512, 768] b)) x)
/-- What device `c` has of array 1 afterwards. -/
def got1 (c : Dev nD) : Buf (Elt F) ((c.tc : Thread nD τ).loc main_v1_1) := fun x : (⟨3, ![4, 128, 1024]⟩ : Shape).Idx => m ((holder c (x 0)).tc.loc main_arg1) (Fin.tail (α := fun b : Fin 3 => Fin (![4, 128, 1024] b)) x)
/-- What device `c` has of array 2 afterwards. -/
def got2 (c : Dev nD) : Buf (Elt F) ((c.tc : Thread nD τ).loc main_v1_2) := fun x : (⟨3, ![4, 64, 512]⟩ : Shape).Idx => m ((holder c (x 0)).tc.loc main_arg2) (Fin.tail (α := fun b : Fin 3 => Fin (![4, 64, 512] b)) x)
/-- What device `c` has of array 3 afterwards. -/
def got3 (c : Dev nD) : Buf (Elt F) ((c.tc : Thread nD τ).loc main_v1_3) := fun x : (⟨3, ![4, 512, 1028]⟩ : Shape).Idx => m ((holder c (x 0)).tc.loc main_arg3) (Fin.tail (α := fun b : Fin 3 => Fin (![4, 512, 1028] b)) x)
/-- What device `c` has of array 4 afterwards. -/
def got4 (c : Dev nD) : Buf (Elt F) ((c.tc : Thread nD τ).loc main_v1_4) := fun x : (⟨3, ![4, 128, 1024]⟩ : Shape).Idx => m ((holder c (x 0)).tc.loc main_arg4) (Fin.tail (α := fun b : Fin 3 => Fin (![4, 128, 1024] b)) x)

/-- The memory after the exchange. -/
def after : (ℓ : Loc nD τ sig) → Buf (Elt F) ℓ :=
  put (put (put (put (put m main_v1_0 (got0 m)) main_v1_1 (got1 m)) main_v1_2 (got2 m)) main_v1_3 (got3 m)) main_v1_4 (got4 m)

theorem after_out0 (c : Dev nD) : after m (c.tc.loc main_v1_0) = got0 m c := by
  unfold after; rw [put_ne _ _ _ (by decide), put_ne _ _ _ (by decide), put_ne _ _ _ (by decide), put_ne _ _ _ (by decide), put_self]
theorem after_out1 (c : Dev nD) : after m (c.tc.loc main_v1_1) = got1 m c := by
  unfold after; rw [put_ne _ _ _ (by decide), put_ne _ _ _ (by decide), put_ne _ _ _ (by decide), put_self]
theorem after_out2 (c : Dev nD) : after m (c.tc.loc main_v1_2) = got2 m c := by
  unfold after; rw [put_ne _ _ _ (by decide), put_ne _ _ _ (by decide), put_self]
theorem after_out3 (c : Dev nD) : after m (c.tc.loc main_v1_3) = got3 m c := by
  unfold after; rw [put_ne _ _ _ (by decide), put_self]
theorem after_out4 (c : Dev nD) : after m (c.tc.loc main_v1_4) = got4 m c := by
  unfold after; rw [put_self]
theorem after_in0 (c : Dev nD) : after m (c.tc.loc main_arg0) = m (c.tc.loc main_arg0) := by
  unfold after; rw [put_ne _ _ _ (by decide), put_ne _ _ _ (by decide), put_ne _ _ _ (by decide), put_ne _ _ _ (by decide), put_ne _ _ _ (by decide)]
theorem after_in1 (c : Dev nD) : after m (c.tc.loc main_arg1) = m (c.tc.loc main_arg1) := by
  unfold after; rw [put_ne _ _ _ (by decide), put_ne _ _ _ (by decide), put_ne _ _ _ (by decide), put_ne _ _ _ (by decide), put_ne _ _ _ (by decide)]
theorem after_in2 (c : Dev nD) : after m (c.tc.loc main_arg2) = m (c.tc.loc main_arg2) := by
  unfold after; rw [put_ne _ _ _ (by decide), put_ne _ _ _ (by decide), put_ne _ _ _ (by decide), put_ne _ _ _ (by decide), put_ne _ _ _ (by decide)]
theorem after_in3 (c : Dev nD) : after m (c.tc.loc main_arg3) = m (c.tc.loc main_arg3) := by
  unfold after; rw [put_ne _ _ _ (by decide), put_ne _ _ _ (by decide), put_ne _ _ _ (by decide), put_ne _ _ _ (by decide), put_ne _ _ _ (by decide)]
theorem after_in4 (c : Dev nD) : after m (c.tc.loc main_arg4) = m (c.tc.loc main_arg4) := by
  unfold after; rw [put_ne _ _ _ (by decide), put_ne _ _ _ (by decide), put_ne _ _ _ (by decide), put_ne _ _ _ (by decide), put_ne _ _ _ (by decide)]

def inB : Fin 5 → Ref sig .tc | 0 => main_arg0 | 1 => main_arg1 | 2 => main_arg2 | 3 => main_arg3 | 4 => main_arg4
def outB : Fin 5 → Ref sig .tc | 0 => main_v1_0 | 1 => main_v1_1 | 2 => main_v1_2 | 3 => main_v1_3 | 4 => main_v1_4

local notation "𝕄" => MT nD τ sig Unit (Elt F) ℕ (UR nD τ sig × UR nD τ sig) ℕ

theorem src_eq0 (f : (ℓ : Loc nD τ sig) → Buf (Elt F) ℓ) (c : Dev nD) : (((c.tc : Thread nD τ).loc main_arg0) ↦{fullShare} f ((c.tc : Thread nD τ).loc main_arg0) : sProp 𝕄)
    = iprop((bigSep Finset.univ fun k => X.srcPt f c (0, k)) ∗ X.lsrcPt f c 0) :=
  parts_pointsTo (ℓ := (c.tc : Thread nD τ).loc main_arg0) 2 3 rfl (View.whole main_arg0).set (View.set_whole _) (f ((c.tc : Thread nD τ).loc main_arg0))
theorem dst_eq0 (f : (ℓ : Loc nD τ sig) → Buf (Elt F) ℓ) (c : Dev nD) : (((c.tc : Thread nD τ).loc main_v1_0) ↦{fullShare} f ((c.tc : Thread nD τ).loc main_v1_0) : sProp 𝕄)
    = iprop((bigSep Finset.univ fun k => X.dstPt f (0, k) ((X (F := F)).peer (0, k) c) c) ∗ X.ldstPt f c 0) :=
  slots_pointsTo (M := 4) (d := ![512, 768]) (View.whole main_v1_0) c (View.set_whole _) (fun k => k0_off1 (peer k c)) (k0_off1 c) (fun k => k0_off1_inb (peer k c))
    (k0_off1_inb c) squeezes_S1x512x768_S512x768.numel_eq (fun k => off_tail (peer k c)) (off_tail c) (off_inj c) (off_ne c) (off_all c)
    (f ((c.tc : Thread nD τ).loc main_v1_0))
theorem src_eq1 (f : (ℓ : Loc nD τ sig) → Buf (Elt F) ℓ) (c : Dev nD) : (((c.tc : Thread nD τ).loc main_arg1) ↦{fullShare} f ((c.tc : Thread nD τ).loc main_arg1) : sProp 𝕄)
    = iprop((bigSep Finset.univ fun k => X.srcPt f c (1, k)) ∗ X.lsrcPt f c 1) :=
  parts_pointsTo (ℓ := (c.tc : Thread nD τ).loc main_arg1) 2 3 rfl (View.whole main_arg1).set (View.set_whole _) (f ((c.tc : Thread nD τ).loc main_arg1))
theorem dst_eq1 (f : (ℓ : Loc nD τ sig) → Buf (Elt F) ℓ) (c : Dev nD) : (((c.tc : Thread nD τ).loc main_v1_1) ↦{fullShare} f ((c.tc : Thread nD τ).loc main_v1_1) : sProp 𝕄)
    = iprop((bigSep Finset.univ fun k => X.dstPt f (1, k) ((X (F := F)).peer (1, k) c) c) ∗ X.ldstPt f c 1) :=
  slots_pointsTo (M := 4) (d := ![128, 1024]) (View.whole main_v1_1) c (View.set_whole _) (fun k => k0_off1 (peer k c)) (k0_off1 c) (fun k => k0_off2_inb (peer k c))
    (k0_off2_inb c) squeezes_S1x128x1024_S128x1024.numel_eq (fun k => off_tail (peer k c)) (off_tail c) (off_inj c) (off_ne c) (off_all c)
    (f ((c.tc : Thread nD τ).loc main_v1_1))
theorem src_eq2 (f : (ℓ : Loc nD τ sig) → Buf (Elt F) ℓ) (c : Dev nD) : (((c.tc : Thread nD τ).loc main_arg2) ↦{fullShare} f ((c.tc : Thread nD τ).loc main_arg2) : sProp 𝕄)
    = iprop((bigSep Finset.univ fun k => X.srcPt f c (2, k)) ∗ X.lsrcPt f c 2) :=
  parts_pointsTo (ℓ := (c.tc : Thread nD τ).loc main_arg2) 2 3 rfl (View.whole main_arg2).set (View.set_whole _) (f ((c.tc : Thread nD τ).loc main_arg2))
theorem dst_eq2 (f : (ℓ : Loc nD τ sig) → Buf (Elt F) ℓ) (c : Dev nD) : (((c.tc : Thread nD τ).loc main_v1_2) ↦{fullShare} f ((c.tc : Thread nD τ).loc main_v1_2) : sProp 𝕄)
    = iprop((bigSep Finset.univ fun k => X.dstPt f (2, k) ((X (F := F)).peer (2, k) c) c) ∗ X.ldstPt f c 2) :=
  slots_pointsTo (M := 4) (d := ![64, 512]) (View.whole main_v1_2) c (View.set_whole _) (fun k => k0_off1 (peer k c)) (k0_off1 c) (fun k => k0_off3_inb (peer k c))
    (k0_off3_inb c) squeezes_S1x64x512_S64x512.numel_eq (fun k => off_tail (peer k c)) (off_tail c) (off_inj c) (off_ne c) (off_all c)
    (f ((c.tc : Thread nD τ).loc main_v1_2))
theorem src_eq3 (f : (ℓ : Loc nD τ sig) → Buf (Elt F) ℓ) (c : Dev nD) : (((c.tc : Thread nD τ).loc main_arg3) ↦{fullShare} f ((c.tc : Thread nD τ).loc main_arg3) : sProp 𝕄)
    = iprop((bigSep Finset.univ fun k => X.srcPt f c (3, k)) ∗ X.lsrcPt f c 3) :=
  parts_pointsTo (ℓ := (c.tc : Thread nD τ).loc main_arg3) 2 3 rfl (View.whole main_arg3).set (View.set_whole _) (f ((c.tc : Thread nD τ).loc main_arg3))
theorem dst_eq3 (f : (ℓ : Loc nD τ sig) → Buf (Elt F) ℓ) (c : Dev nD) : (((c.tc : Thread nD τ).loc main_v1_3) ↦{fullShare} f ((c.tc : Thread nD τ).loc main_v1_3) : sProp 𝕄)
    = iprop((bigSep Finset.univ fun k => X.dstPt f (3, k) ((X (F := F)).peer (3, k) c) c) ∗ X.ldstPt f c 3) :=
  slots_pointsTo (M := 4) (d := ![512, 1028]) (View.whole main_v1_3) c (View.set_whole _) (fun k => k0_off1 (peer k c)) (k0_off1 c) (fun k => k0_off4_inb (peer k c))
    (k0_off4_inb c) squeezes_S1x512x1028_S512x1028.numel_eq (fun k => off_tail (peer k c)) (off_tail c) (off_inj c) (off_ne c) (off_all c)
    (f ((c.tc : Thread nD τ).loc main_v1_3))
theorem src_eq4 (f : (ℓ : Loc nD τ sig) → Buf (Elt F) ℓ) (c : Dev nD) : (((c.tc : Thread nD τ).loc main_arg4) ↦{fullShare} f ((c.tc : Thread nD τ).loc main_arg4) : sProp 𝕄)
    = iprop((bigSep Finset.univ fun k => X.srcPt f c (4, k)) ∗ X.lsrcPt f c 4) :=
  parts_pointsTo (ℓ := (c.tc : Thread nD τ).loc main_arg4) 2 3 rfl (View.whole main_arg4).set (View.set_whole _) (f ((c.tc : Thread nD τ).loc main_arg4))
theorem dst_eq4 (f : (ℓ : Loc nD τ sig) → Buf (Elt F) ℓ) (c : Dev nD) : (((c.tc : Thread nD τ).loc main_v1_4) ↦{fullShare} f ((c.tc : Thread nD τ).loc main_v1_4) : sProp 𝕄)
    = iprop((bigSep Finset.univ fun k => X.dstPt f (4, k) ((X (F := F)).peer (4, k) c) c) ∗ X.ldstPt f c 4) :=
  slots_pointsTo (M := 4) (d := ![128, 1024]) (View.whole main_v1_4) c (View.set_whole _) (fun k => k0_off1 (peer k c)) (k0_off1 c) (fun k => k0_off2_inb (peer k c))
    (k0_off2_inb c) squeezes_S1x128x1024_S128x1024.numel_eq (fun k => off_tail (peer k c)) (off_tail c) (off_inj c) (off_ne c) (off_all c)
    (f ((c.tc : Thread nD τ).loc main_v1_4))

theorem bufs_inj : Function.Injective (Sum.elim inB outB) := by decide

theorem arrays : (X (F := F)).Arrays inB outB where
  inj := bufs_inj
  all := by decide
  src f c a := match a with | 0 => src_eq0 f c | 1 => src_eq1 f c | 2 => src_eq2 f c | 3 => src_eq3 f c | 4 => src_eq4 f c
  dst f c a := match a with | 0 => dst_eq0 f c | 1 => dst_eq1 f c | 2 => dst_eq2 f c | 3 => dst_eq3 f c | 4 => dst_eq4 f c

theorem read_sent0 (c : Dev nD) (k : Fin 3) :
    ((X (F := F)).rc c (0, k)).dst.view.read (Elt F) (after m (((X (F := F)).rc c (0, k)).dst.view.loc (((X (F := F)).peer (0, k) c).tc : Thread nD τ)))
      = ((X (F := F)).rc c (0, k)).src.view.read (Elt F) (m (((X (F := F)).rc c (0, k)).src.view.loc (c.tc : Thread nD τ))) := by
  funext y
  refine (slot_read (M := 4) (d := ![512, 768]) (View.whole main_v1_0) (k0_off1 c) (k0_off1_inb c) squeezes_S1x512x768_S512x768.numel_eq (place c) rfl (off_tail c)
    (after m ((peer k c).tc.loc main_v1_0)) y).trans ?_
  refine (congrFun (after_out0 m (peer k c)) (Fin.cons (α := fun b : Fin 3 => Fin (![4, 512, 768] b)) (place c) y)).trans ?_
  have e := elt_at m main_arg0 (holder_place k c) y
  exact e.trans (rfl)
theorem read_kept0 (c : Dev nD) :
    ((X (F := F)).lc c 0).dst.view.read (Elt F) (after m (((X (F := F)).lc c 0).dst.view.loc (c.tc : Thread nD τ)))
      = ((X (F := F)).lc c 0).src.view.read (Elt F) (m (((X (F := F)).lc c 0).src.view.loc (c.tc : Thread nD τ))) := by
  funext y
  refine (slot_read (M := 4) (d := ![512, 768]) (View.whole main_v1_0) (k0_off1 c) (k0_off1_inb c) squeezes_S1x512x768_S512x768.numel_eq (place c) rfl (off_tail c)
    (after m (c.tc.loc main_v1_0)) y).trans ?_
  refine (congrFun (after_out0 m c) (Fin.cons (α := fun b : Fin 3 => Fin (![4, 512, 768] b)) (place c) y)).trans ?_
  have e := elt_at m main_arg0 (holder_own c) y
  exact e.trans (rfl)
theorem read_sent1 (c : Dev nD) (k : Fin 3) :
    ((X (F := F)).rc c (1, k)).dst.view.read (Elt F) (after m (((X (F := F)).rc c (1, k)).dst.view.loc (((X (F := F)).peer (1, k) c).tc : Thread nD τ)))
      = ((X (F := F)).rc c (1, k)).src.view.read (Elt F) (m (((X (F := F)).rc c (1, k)).src.view.loc (c.tc : Thread nD τ))) := by
  funext y
  refine (slot_read (M := 4) (d := ![128, 1024]) (View.whole main_v1_1) (k0_off1 c) (k0_off2_inb c) squeezes_S1x128x1024_S128x1024.numel_eq (place c) rfl (off_tail c)
    (after m ((peer k c).tc.loc main_v1_1)) y).trans ?_
  refine (congrFun (after_out1 m (peer k c)) (Fin.cons (α := fun b : Fin 3 => Fin (![4, 128, 1024] b)) (place c) y)).trans ?_
  have e := elt_at m main_arg1 (holder_place k c) y
  exact e.trans (rfl)
theorem read_kept1 (c : Dev nD) :
    ((X (F := F)).lc c 1).dst.view.read (Elt F) (after m (((X (F := F)).lc c 1).dst.view.loc (c.tc : Thread nD τ)))
      = ((X (F := F)).lc c 1).src.view.read (Elt F) (m (((X (F := F)).lc c 1).src.view.loc (c.tc : Thread nD τ))) := by
  funext y
  refine (slot_read (M := 4) (d := ![128, 1024]) (View.whole main_v1_1) (k0_off1 c) (k0_off2_inb c) squeezes_S1x128x1024_S128x1024.numel_eq (place c) rfl (off_tail c)
    (after m (c.tc.loc main_v1_1)) y).trans ?_
  refine (congrFun (after_out1 m c) (Fin.cons (α := fun b : Fin 3 => Fin (![4, 128, 1024] b)) (place c) y)).trans ?_
  have e := elt_at m main_arg1 (holder_own c) y
  exact e.trans (rfl)
theorem read_sent2 (c : Dev nD) (k : Fin 3) :
    ((X (F := F)).rc c (2, k)).dst.view.read (Elt F) (after m (((X (F := F)).rc c (2, k)).dst.view.loc (((X (F := F)).peer (2, k) c).tc : Thread nD τ)))
      = ((X (F := F)).rc c (2, k)).src.view.read (Elt F) (m (((X (F := F)).rc c (2, k)).src.view.loc (c.tc : Thread nD τ))) := by
  funext y
  refine (slot_read (M := 4) (d := ![64, 512]) (View.whole main_v1_2) (k0_off1 c) (k0_off3_inb c) squeezes_S1x64x512_S64x512.numel_eq (place c) rfl (off_tail c)
    (after m ((peer k c).tc.loc main_v1_2)) y).trans ?_
  refine (congrFun (after_out2 m (peer k c)) (Fin.cons (α := fun b : Fin 3 => Fin (![4, 64, 512] b)) (place c) y)).trans ?_
  have e := elt_at m main_arg2 (holder_place k c) y
  exact e.trans (rfl)
theorem read_kept2 (c : Dev nD) :
    ((X (F := F)).lc c 2).dst.view.read (Elt F) (after m (((X (F := F)).lc c 2).dst.view.loc (c.tc : Thread nD τ)))
      = ((X (F := F)).lc c 2).src.view.read (Elt F) (m (((X (F := F)).lc c 2).src.view.loc (c.tc : Thread nD τ))) := by
  funext y
  refine (slot_read (M := 4) (d := ![64, 512]) (View.whole main_v1_2) (k0_off1 c) (k0_off3_inb c) squeezes_S1x64x512_S64x512.numel_eq (place c) rfl (off_tail c)
    (after m (c.tc.loc main_v1_2)) y).trans ?_
  refine (congrFun (after_out2 m c) (Fin.cons (α := fun b : Fin 3 => Fin (![4, 64, 512] b)) (place c) y)).trans ?_
  have e := elt_at m main_arg2 (holder_own c) y
  exact e.trans (rfl)
theorem read_sent3 (c : Dev nD) (k : Fin 3) :
    ((X (F := F)).rc c (3, k)).dst.view.read (Elt F) (after m (((X (F := F)).rc c (3, k)).dst.view.loc (((X (F := F)).peer (3, k) c).tc : Thread nD τ)))
      = ((X (F := F)).rc c (3, k)).src.view.read (Elt F) (m (((X (F := F)).rc c (3, k)).src.view.loc (c.tc : Thread nD τ))) := by
  funext y
  refine (slot_read (M := 4) (d := ![512, 1028]) (View.whole main_v1_3) (k0_off1 c) (k0_off4_inb c) squeezes_S1x512x1028_S512x1028.numel_eq (place c) rfl (off_tail c)
    (after m ((peer k c).tc.loc main_v1_3)) y).trans ?_
  refine (congrFun (after_out3 m (peer k c)) (Fin.cons (α := fun b : Fin 3 => Fin (![4, 512, 1028] b)) (place c) y)).trans ?_
  have e := elt_at m main_arg3 (holder_place k c) y
  exact e.trans (rfl)
theorem read_kept3 (c : Dev nD) :
    ((X (F := F)).lc c 3).dst.view.read (Elt F) (after m (((X (F := F)).lc c 3).dst.view.loc (c.tc : Thread nD τ)))
      = ((X (F := F)).lc c 3).src.view.read (Elt F) (m (((X (F := F)).lc c 3).src.view.loc (c.tc : Thread nD τ))) := by
  funext y
  refine (slot_read (M := 4) (d := ![512, 1028]) (View.whole main_v1_3) (k0_off1 c) (k0_off4_inb c) squeezes_S1x512x1028_S512x1028.numel_eq (place c) rfl (off_tail c)
    (after m (c.tc.loc main_v1_3)) y).trans ?_
  refine (congrFun (after_out3 m c) (Fin.cons (α := fun b : Fin 3 => Fin (![4, 512, 1028] b)) (place c) y)).trans ?_
  have e := elt_at m main_arg3 (holder_own c) y
  exact e.trans (rfl)
theorem read_sent4 (c : Dev nD) (k : Fin 3) :
    ((X (F := F)).rc c (4, k)).dst.view.read (Elt F) (after m (((X (F := F)).rc c (4, k)).dst.view.loc (((X (F := F)).peer (4, k) c).tc : Thread nD τ)))
      = ((X (F := F)).rc c (4, k)).src.view.read (Elt F) (m (((X (F := F)).rc c (4, k)).src.view.loc (c.tc : Thread nD τ))) := by
  funext y
  refine (slot_read (M := 4) (d := ![128, 1024]) (View.whole main_v1_4) (k0_off1 c) (k0_off2_inb c) squeezes_S1x128x1024_S128x1024.numel_eq (place c) rfl (off_tail c)
    (after m ((peer k c).tc.loc main_v1_4)) y).trans ?_
  refine (congrFun (after_out4 m (peer k c)) (Fin.cons (α := fun b : Fin 3 => Fin (![4, 128, 1024] b)) (place c) y)).trans ?_
  have e := elt_at m main_arg4 (holder_place k c) y
  exact e.trans (rfl)
theorem read_kept4 (c : Dev nD) :
    ((X (F := F)).lc c 4).dst.view.read (Elt F) (after m (((X (F := F)).lc c 4).dst.view.loc (c.tc : Thread nD τ)))
      = ((X (F := F)).lc c 4).src.view.read (Elt F) (m (((X (F := F)).lc c 4).src.view.loc (c.tc : Thread nD τ))) := by
  funext y
  refine (slot_read (M := 4) (d := ![128, 1024]) (View.whole main_v1_4) (k0_off1 c) (k0_off2_inb c) squeezes_S1x128x1024_S128x1024.numel_eq (place c) rfl (off_tail c)
    (after m (c.tc.loc main_v1_4)) y).trans ?_
  refine (congrFun (after_out4 m c) (Fin.cons (α := fun b : Fin 3 => Fin (![4, 128, 1024] b)) (place c) y)).trans ?_
  have e := elt_at m main_arg4 (holder_own c) y
  exact e.trans (rfl)

/-- The exchange's facts. -/
theorem facts (𝒱₀ : Variants) : X.Facts m (after m) (fun _ => (emp : sProp 𝕄)) (defs₀ (F := F)) 𝒱₀ where
  hsplit := arrays.splits m
  hjoin := arrays.joins m (after m) (fun c a => match a with | 0 => after_in0 m c | 1 => after_in1 m c | 2 => after_in2 m c | 3 => after_in3 m c | 4 => after_in4 m c)
  hR c j := by
    obtain ⟨a, k⟩ := j
    exact match a with | 0 => read_sent0 m c k | 1 => read_sent1 m c k | 2 => read_sent2 m c k | 3 => read_sent3 m c k | 4 => read_sent4 m c k
  hL c i := match i with | 0 => read_kept0 m c | 1 => read_kept1 m c | 2 => read_kept2 m c | 3 => read_kept3 m c | 4 => read_kept4 m c
  hroute := by unfold Exch.Routes; decide
  hw := ⟨fun c j K => match j with | (0, 0) => rfl | (0, 1) => rfl | (0, 2) => rfl | (1, 0) => rfl | (1, 1) => rfl | (1, 2) => rfl | (2, 0) => rfl | (2, 1) => rfl | (2, 2) => rfl | (3, 0) => rfl | (3, 1) => rfl | (3, 2) => rfl | (4, 0) => rfl | (4, 1) => rfl | (4, 2) => rfl,
    fun c j K => match j with | (0, 0) => rfl | (0, 1) => rfl | (0, 2) => rfl | (1, 0) => rfl | (1, 1) => rfl | (1, 2) => rfl | (2, 0) => rfl | (2, 1) => rfl | (2, 2) => rfl | (3, 0) => rfl | (3, 1) => rfl | (3, 2) => rfl | (4, 0) => rfl | (4, 1) => rfl | (4, 2) => rfl,
    fun c i K => match i with | 0 => rfl | 1 => rfl | 2 => rfl | 3 => rfl | 4 => rfl⟩

/-- The run: every fair execution ends with every device's buffers as `after m` has them, every counter at zero. -/
theorem run_main : θ_run (defs (F := F)) (onTc main) ⟨m, fun _ => 0, g⟩ (fun r => (∀ c, Exch.Shows (after m) c r.2) ∧ r.2.sem = fun _ => 0) :=
  Exch.run X m (after m) g (fun _ => emp) cfgs defs₀ Variants.none cellOf_inj (facts m _) (fun | 0 => (inferInstance : IsEmpty (Fin 0)))
    (fun | 0 => N_0) winFacts0.to₀ own main (fun c => main_chain c) [0, 1, 2, 3, 4] [(0, 0), (0, 1), (0, 2), (1, 0), (1, 1), (1, 2), (2, 0), (2, 1), (2, 2), (3, 0), (3, 1), (3, 2), (4, 0), (4, 1), (4, 2)] (by decide) (by decide) (by decide) (by decide)
    (fun c t Q => by rw [show defs₀ .tc (cfgs 0).body ((cfgs 0).bodyArgs t ((cfgs 0).slots t)) = _ from body_eq t]) (by decide)

end Exchange.Shards

end
-- ==== Proof.ShardsClaims.lean ====
/-
  The claims about `gather_w_chips`.
-/
module

public import proofs.«01_k».proof.Defs
public import proofs.«01_k».proof.Proof.ShardsRun
public import proofs.«01_k».proof.Proof.Blocks
public import proofs.«01_k».proof.Proof.Gen.Shards
public import proofs.«01_k».proof.Proof.Gen.ShardsRef
public import proofs.«01_k».proof.Proof.Gen.ShardsRefIdeal.Run

@[expose] public section

set_option Elab.async false

noncomputable section

namespace Exchange.Shards

open Idealize.ShloMosaic Idealize.ShloMosaic.TcCoe Idealize.SL.Sem

variable {F : FTy → Type} [FloatOps F]

/-- The device whose part of chip `i`'s array a device takes. -/
theorem holder_at : ∀ (c : Fin 8) (i : Fin 4), (holder c i).val = 2 * i.val + Layout.meshLin [2, 2, 2] c.val [2] := by decide

/-- The run, argument by argument and result by result. -/
theorem run_read (m : (ℓ : Loc Cert.ShardsIdeal.nD Cert.ShardsIdeal.τ Cert.ShardsIdeal.sig) → Buf (Elt F) ℓ) (g : Dev Cert.ShardsIdeal.nD → PrngReg) :
    θ_run (Cert.ShardsIdeal.defs (F := F)) (onTc (τ := Cert.ShardsIdeal.τ) (Cert.ShardsIdeal.main (F := F))) ⟨m, fun _ => 0, g⟩ (fun r => (∀ c : Dev Cert.ShardsIdeal.nD,
      r.2.mem ((c.tc : Thread Cert.ShardsIdeal.nD Cert.ShardsIdeal.τ).loc Cert.ShardsIdeal.main_v1_0) = got0 m c ∧
      r.2.mem ((c.tc : Thread Cert.ShardsIdeal.nD Cert.ShardsIdeal.τ).loc Cert.ShardsIdeal.main_v1_1) = got1 m c ∧
      r.2.mem ((c.tc : Thread Cert.ShardsIdeal.nD Cert.ShardsIdeal.τ).loc Cert.ShardsIdeal.main_v1_2) = got2 m c ∧
      r.2.mem ((c.tc : Thread Cert.ShardsIdeal.nD Cert.ShardsIdeal.τ).loc Cert.ShardsIdeal.main_v1_3) = got3 m c ∧
      r.2.mem ((c.tc : Thread Cert.ShardsIdeal.nD Cert.ShardsIdeal.τ).loc Cert.ShardsIdeal.main_v1_4) = got4 m c ∧
      r.2.mem ((c.tc : Thread Cert.ShardsIdeal.nD Cert.ShardsIdeal.τ).loc Cert.ShardsIdeal.main_arg0) = m ((c.tc : Thread Cert.ShardsIdeal.nD Cert.ShardsIdeal.τ).loc Cert.ShardsIdeal.main_arg0) ∧
      r.2.mem ((c.tc : Thread Cert.ShardsIdeal.nD Cert.ShardsIdeal.τ).loc Cert.ShardsIdeal.main_arg1) = m ((c.tc : Thread Cert.ShardsIdeal.nD Cert.ShardsIdeal.τ).loc Cert.ShardsIdeal.main_arg1) ∧
      r.2.mem ((c.tc : Thread Cert.ShardsIdeal.nD Cert.ShardsIdeal.τ).loc Cert.ShardsIdeal.main_arg2) = m ((c.tc : Thread Cert.ShardsIdeal.nD Cert.ShardsIdeal.τ).loc Cert.ShardsIdeal.main_arg2) ∧
      r.2.mem ((c.tc : Thread Cert.ShardsIdeal.nD Cert.ShardsIdeal.τ).loc Cert.ShardsIdeal.main_arg3) = m ((c.tc : Thread Cert.ShardsIdeal.nD Cert.ShardsIdeal.τ).loc Cert.ShardsIdeal.main_arg3) ∧
      r.2.mem ((c.tc : Thread Cert.ShardsIdeal.nD Cert.ShardsIdeal.τ).loc Cert.ShardsIdeal.main_arg4) = m ((c.tc : Thread Cert.ShardsIdeal.nD Cert.ShardsIdeal.τ).loc Cert.ShardsIdeal.main_arg4))
      ∧ r.2.sem = fun _ => 0) :=
  (θ_run Cert.ShardsIdeal.defs _ _).mono (fun _ h => ⟨fun c => ⟨(h.1 c Cert.ShardsIdeal.main_v1_0 (by decide)).trans (after_out0 m c), (h.1 c Cert.ShardsIdeal.main_v1_1 (by decide)).trans (after_out1 m c), (h.1 c Cert.ShardsIdeal.main_v1_2 (by decide)).trans (after_out2 m c), (h.1 c Cert.ShardsIdeal.main_v1_3 (by decide)).trans (after_out3 m c), (h.1 c Cert.ShardsIdeal.main_v1_4 (by decide)).trans (after_out4 m c), (h.1 c Cert.ShardsIdeal.main_arg0 (by decide)).trans (after_in0 m c), (h.1 c Cert.ShardsIdeal.main_arg1 (by decide)).trans (after_in1 m c), (h.1 c Cert.ShardsIdeal.main_arg2 (by decide)).trans (after_in2 m c), (h.1 c Cert.ShardsIdeal.main_arg3 (by decide)).trans (after_in3 m c), (h.1 c Cert.ShardsIdeal.main_arg4 (by decide)).trans (after_in4 m c)⟩, h.2⟩) (run_main m g)

theorem frame_shardsIdeal : Cert.quiescent_ShardsIdeal := fun m g _ =>
  (θ_run Cert.ShardsIdeal.defs _ _).mono (fun _ h => ⟨fun c => (h.1 c).2.2.2.2.2, h.2⟩) (run_read (F := Ideal) m g)

theorem frame_shards : Cert.quiescent_Shards := fun m g _ =>
  (θ_run Cert.ShardsIdeal.defs _ _).mono (fun _ h => ⟨fun c => (h.1 c).2.2.2.2.2, h.2⟩) (run_read (F := Bits) m g)

theorem frame_shardsRefIdeal : Cert.quiescent_ShardsRefIdeal := fun m g _ =>
  (θ_run Cert.ShardsRefIdeal.defs _ _).mono (fun r h => ⟨fun c => (h c).2.2.2.2.2, sem_eq_zero_of_no_sems (by decide) r.2⟩)
    (Cert.ShardsRefIdeal.Value.run (F := Ideal) m g)

theorem frame_shardsRef : Cert.quiescent_ShardsRef := fun m g _ =>
  (θ_run Cert.ShardsRefIdeal.defs _ _).mono (fun r h => ⟨fun c => (h c).2.2.2.2.2, sem_eq_zero_of_no_sems (by decide) r.2⟩)
    (Cert.ShardsRefIdeal.Value.run (F := Bits) m g)

theorem algebraic_shards : Cert.algebraic_ShardsIdeal_ShardsRefIdeal := by
  intro m g m' g' _ h
  refine ⟨_, _, _, _, _, ?_, (θ_run Cert.ShardsRefIdeal.defs _ _).mono (fun _ hr => hr 0) (Cert.ShardsRefIdeal.Value.run (F := Ideal) m' g')⟩
  refine (θ_run Cert.ShardsIdeal.defs _ _).mono (fun _ hr c => ?_) (run_read (F := Ideal) m g)
  obtain ⟨r0, r1, r2, r3, r4, ha⟩ := hr.1 c
  refine ⟨?_, ?_, ?_, ?_, ?_, ha⟩
  · refine (r0).trans (funext fun i => ?_)
    exact (congrFun ((h (holder c (i 0))).1) _).trans (chips_rows _ _ rfl _ _ i c (holder c (i 0)) (holder_at c (i 0))).symm
  · refine (r1).trans (funext fun i => ?_)
    exact (congrFun ((h (holder c (i 0))).2.1) _).trans (chips_rows _ _ rfl _ _ i c (holder c (i 0)) (holder_at c (i 0))).symm
  · refine (r2).trans (funext fun i => ?_)
    exact (congrFun ((h (holder c (i 0))).2.2.1) _).trans (chips_rows _ _ rfl _ _ i c (holder c (i 0)) (holder_at c (i 0))).symm
  · refine (r3).trans (funext fun i => ?_)
    exact (congrFun ((h (holder c (i 0))).2.2.2.1) _).trans (chips_rows _ _ rfl _ _ i c (holder c (i 0)) (holder_at c (i 0))).symm
  · refine (r4).trans (funext fun i => ?_)
    exact (congrFun ((h (holder c (i 0))).2.2.2.2) _).trans (chips_rows _ _ rfl _ _ i c (holder c (i 0)) (holder_at c (i 0))).symm

theorem bitexact_shards : Cert.bitexact_Shards_ShardsRef := by
  intro m g m' g' _ h
  refine ⟨_, _, _, _, _, ?_, (θ_run Cert.ShardsRefIdeal.defs _ _).mono (fun _ hr => hr 0) (Cert.ShardsRefIdeal.Value.run (F := Bits) m' g')⟩
  refine (θ_run Cert.ShardsIdeal.defs _ _).mono (fun _ hr c => ?_) (run_read (F := Bits) m g)
  obtain ⟨r0, r1, r2, r3, r4, ha⟩ := hr.1 c
  refine ⟨?_, ?_, ?_, ?_, ?_, ha⟩
  · refine (r0).trans (funext fun i => ?_)
    exact (congrFun ((h (holder c (i 0))).1) _).trans (chips_rows _ _ rfl _ _ i c (holder c (i 0)) (holder_at c (i 0))).symm
  · refine (r1).trans (funext fun i => ?_)
    exact (congrFun ((h (holder c (i 0))).2.1) _).trans (chips_rows _ _ rfl _ _ i c (holder c (i 0)) (holder_at c (i 0))).symm
  · refine (r2).trans (funext fun i => ?_)
    exact (congrFun ((h (holder c (i 0))).2.2.1) _).trans (chips_rows _ _ rfl _ _ i c (holder c (i 0)) (holder_at c (i 0))).symm
  · refine (r3).trans (funext fun i => ?_)
    exact (congrFun ((h (holder c (i 0))).2.2.2.1) _).trans (chips_rows _ _ rfl _ _ i c (holder c (i 0)) (holder_at c (i 0))).symm
  · refine (r4).trans (funext fun i => ?_)
    exact (congrFun ((h (holder c (i 0))).2.2.2.2) _).trans (chips_rows _ _ rfl _ _ i c (holder c (i 0)) (holder_at c (i 0))).symm

end Exchange.Shards

end
-- ==== Proof.Share.lean ====
/-
  `reduce_share`: the two cores of a chip hand each other five arrays, each keeping both in slots.
  The instance of the exchange, and its run.
-/
module

public import proofs.«01_k».proof.Proof.Gen.ShareIdeal.Launch
public import proofs.«01_k».proof.Proof.Slots
public import proofs.«01_k».proof.Proof.Values

@[expose] public section

set_option Elab.async false

noncomputable section

namespace Exchange.Share

open Idealize.ShloMosaic Idealize.ShloMosaic.TcCoe
open Idealize.ShloMosaic.Pipeline (scopedRest)
open Idealize.SL
open Idealize.SL.BI (sProp bigSep bigSepL)
open scoped Idealize.SL.BI
open Idealize.SL.BI.BIBase Idealize.SL.BI.Laws Idealize.SL.Sem Idealize.SL.ProofMode
open Idealize.SL.RA
open Cert.ShareIdeal Cert.ShareIdeal.Gen

variable {F : FTy → Type} [FloatOps F]

/-! ## Places -/

/-- The other devices a device deals with. -/
def peer : Fin 1 → Dev nD → Dev nD
  | 0, d0 => ⟨k0_dev1 d0, k0_dev1_lt d0⟩

theorem peer_peer : ∀ k c, peer k (peer k c) = c := by decide

/-- The slot a device's arrays go to. -/
def place (c : Dev nD) : Fin 2 := ⟨k0_off1 c 0, by revert c; decide⟩

/-- The device whose arrays are in slot `i` of device `c`. -/
def holder (c : Dev nD) (i : Fin 2) : Dev nD := ⟨2 * (c.val / 2) + i.val, by revert c i; decide⟩

theorem holder_place : ∀ k c, holder (peer k c) (place c) = c := by decide
theorem holder_own : ∀ c, holder c (place c) = c := by decide
theorem off_tail : ∀ c, ∀ a : Fin 2, k0_off1 c a.succ = 0 := by decide
theorem off_inj : ∀ c k k', k0_off1 (peer k c) 0 = k0_off1 (peer k' c) 0 → k = k' := by decide
theorem off_ne : ∀ c k, k0_off1 (peer k c) 0 ≠ k0_off1 c 0 := by decide
theorem off_all : ∀ c, ∀ i : Fin 2, (∃ k, k0_off1 (peer k c) 0 = i.val) ∨ k0_off1 c 0 = i.val := by decide

/-! ## Copies and counters -/

/-- Array by array, what a device sends. -/
def sent (c : Dev nD) : Fin 5 × Fin 1 → Copy sig
  | (0, _) => ⟨S512x768, .f32, (Memref.whole main_arg0 : Memref sig .tc .hbm S512x768 .f32), (((Memref.whole main_v1_0 : Memref sig .tc .hbm S2x512x768 .f32).slice (Rect.unit (s := S2x512x768) (k0_off1 c) S1x512x768.size (k0_off1_inb c)) (fun _ => rfl)).squeeze S512x768 squeezes_S1x512x768_S512x768), (Memref.isWhole_whole _).wordExact, ((View.wordExact_bits rfl).reshape _ _), rfl⟩
  | (1, _) => ⟨S128x1024, .f32, (Memref.whole main_arg1 : Memref sig .tc .hbm S128x1024 .f32), (((Memref.whole main_v1_1 : Memref sig .tc .hbm S2x128x1024 .f32).slice (Rect.unit (s := S2x128x1024) (k0_off2 c) S1x128x1024.size (k0_off2_inb c)) (fun _ => rfl)).squeeze S128x1024 squeezes_S1x128x1024_S128x1024), (Memref.isWhole_whole _).wordExact, ((View.wordExact_bits rfl).reshape _ _), rfl⟩
  | (2, _) => ⟨S64x512, .f32, (Memref.whole main_arg2 : Memref sig .tc .hbm S64x512 .f32), (((Memref.whole main_v1_2 : Memref sig .tc .hbm S2x64x512 .f32).slice (Rect.unit (s := S2x64x512) (k0_off3 c) S1x64x512.size (k0_off3_inb c)) (fun _ => rfl)).squeeze S64x512 squeezes_S1x64x512_S64x512), (Memref.isWhole_whole _).wordExact, ((View.wordExact_bits rfl).reshape _ _), rfl⟩
  | (3, _) => ⟨S512x1028, .f32, (Memref.whole main_arg3 : Memref sig .tc .hbm S512x1028 .f32), (((Memref.whole main_v1_3 : Memref sig .tc .hbm S2x512x1028 .f32).slice (Rect.unit (s := S2x512x1028) (k0_off4 c) S1x512x1028.size (k0_off4_inb c)) (fun _ => rfl)).squeeze S512x1028 squeezes_S1x512x1028_S512x1028), (Memref.isWhole_whole _).wordExact, ((View.wordExact_bits rfl).reshape _ _), rfl⟩
  | (4, _) => ⟨S128x1024, .f32, (Memref.whole main_arg4 : Memref sig .tc .hbm S128x1024 .f32), (((Memref.whole main_v1_4 : Memref sig .tc .hbm S2x128x1024 .f32).slice (Rect.unit (s := S2x128x1024) (k0_off2 c) S1x128x1024.size (k0_off2_inb c)) (fun _ => rfl)).squeeze S128x1024 squeezes_S1x128x1024_S128x1024), (Memref.isWhole_whole _).wordExact, ((View.wordExact_bits rfl).reshape _ _), rfl⟩

/-- Array by array, what a device keeps. -/
def kept (c : Dev nD) : Fin 5 → Copy sig
  | 0 => ⟨S512x768, .f32, (Memref.whole main_arg0 : Memref sig .tc .hbm S512x768 .f32), (((Memref.whole main_v1_0 : Memref sig .tc .hbm S2x512x768 .f32).slice (Rect.unit (s := S2x512x768) (k0_off1 c) S1x512x768.size (k0_off1_inb c)) (fun _ => rfl)).squeeze S512x768 squeezes_S1x512x768_S512x768), (Memref.isWhole_whole _).wordExact, ((View.wordExact_bits rfl).reshape _ _), rfl⟩
  | 1 => ⟨S128x1024, .f32, (Memref.whole main_arg1 : Memref sig .tc .hbm S128x1024 .f32), (((Memref.whole main_v1_1 : Memref sig .tc .hbm S2x128x1024 .f32).slice (Rect.unit (s := S2x128x1024) (k0_off2 c) S1x128x1024.size (k0_off2_inb c)) (fun _ => rfl)).squeeze S128x1024 squeezes_S1x128x1024_S128x1024), (Memref.isWhole_whole _).wordExact, ((View.wordExact_bits rfl).reshape _ _), rfl⟩
  | 2 => ⟨S64x512, .f32, (Memref.whole main_arg2 : Memref sig .tc .hbm S64x512 .f32), (((Memref.whole main_v1_2 : Memref sig .tc .hbm S2x64x512 .f32).slice (Rect.unit (s := S2x64x512) (k0_off3 c) S1x64x512.size (k0_off3_inb c)) (fun _ => rfl)).squeeze S64x512 squeezes_S1x64x512_S64x512), (Memref.isWhole_whole _).wordExact, ((View.wordExact_bits rfl).reshape _ _), rfl⟩
  | 3 => ⟨S512x1028, .f32, (Memref.whole main_arg3 : Memref sig .tc .hbm S512x1028 .f32), (((Memref.whole main_v1_3 : Memref sig .tc .hbm S2x512x1028 .f32).slice (Rect.unit (s := S2x512x1028) (k0_off4 c) S1x512x1028.size (k0_off4_inb c)) (fun _ => rfl)).squeeze S512x1028 squeezes_S1x512x1028_S512x1028), (Memref.isWhole_whole _).wordExact, ((View.wordExact_bits rfl).reshape _ _), rfl⟩
  | 4 => ⟨S128x1024, .f32, (Memref.whole main_arg4 : Memref sig .tc .hbm S128x1024 .f32), (((Memref.whole main_v1_4 : Memref sig .tc .hbm S2x128x1024 .f32).slice (Rect.unit (s := S2x128x1024) (k0_off2 c) S1x128x1024.size (k0_off2_inb c)) (fun _ => rfl)).squeeze S128x1024 squeezes_S1x128x1024_S128x1024), (Memref.isWhole_whole _).wordExact, ((View.wordExact_bits rfl).reshape _ _), rfl⟩

def sS : Fin 5 × Fin 1 → DmaSem sig
  | (0, 0) => (((cc0_scratch0 : DmaSems sig S5).slice (Rect.unit (s := S5) ![0] S1.size inb_S5_S1_0)).squeeze S_ squeezes_S1_S_).sem
  | (1, 0) => (((cc0_scratch0 : DmaSems sig S5).slice (Rect.unit (s := S5) ![1] S1.size inb_S5_S1_1)).squeeze S_ squeezes_S1_S_).sem
  | (2, 0) => (((cc0_scratch0 : DmaSems sig S5).slice (Rect.unit (s := S5) ![2] S1.size inb_S5_S1_2)).squeeze S_ squeezes_S1_S_).sem
  | (3, 0) => (((cc0_scratch0 : DmaSems sig S5).slice (Rect.unit (s := S5) ![3] S1.size inb_S5_S1_3)).squeeze S_ squeezes_S1_S_).sem
  | (4, 0) => (((cc0_scratch0 : DmaSems sig S5).slice (Rect.unit (s := S5) ![4] S1.size inb_S5_S1_4)).squeeze S_ squeezes_S1_S_).sem
def sR : Fin 5 × Fin 1 → DmaSem sig
  | (0, 0) => (((cc0_scratch1 : DmaSems sig S5).slice (Rect.unit (s := S5) ![0] S1.size inb_S5_S1_0)).squeeze S_ squeezes_S1_S_).sem
  | (1, 0) => (((cc0_scratch1 : DmaSems sig S5).slice (Rect.unit (s := S5) ![1] S1.size inb_S5_S1_1)).squeeze S_ squeezes_S1_S_).sem
  | (2, 0) => (((cc0_scratch1 : DmaSems sig S5).slice (Rect.unit (s := S5) ![2] S1.size inb_S5_S1_2)).squeeze S_ squeezes_S1_S_).sem
  | (3, 0) => (((cc0_scratch1 : DmaSems sig S5).slice (Rect.unit (s := S5) ![3] S1.size inb_S5_S1_3)).squeeze S_ squeezes_S1_S_).sem
  | (4, 0) => (((cc0_scratch1 : DmaSems sig S5).slice (Rect.unit (s := S5) ![4] S1.size inb_S5_S1_4)).squeeze S_ squeezes_S1_S_).sem
def sL : Fin 5 → DmaSem sig
  | 0 => (((cc0_scratch2 : DmaSems sig S5).slice (Rect.unit (s := S5) ![0] S1.size inb_S5_S1_0)).squeeze S_ squeezes_S1_S_).sem
  | 1 => (((cc0_scratch2 : DmaSems sig S5).slice (Rect.unit (s := S5) ![1] S1.size inb_S5_S1_1)).squeeze S_ squeezes_S1_S_).sem
  | 2 => (((cc0_scratch2 : DmaSems sig S5).slice (Rect.unit (s := S5) ![2] S1.size inb_S5_S1_2)).squeeze S_ squeezes_S1_S_).sem
  | 3 => (((cc0_scratch2 : DmaSems sig S5).slice (Rect.unit (s := S5) ![3] S1.size inb_S5_S1_3)).squeeze S_ squeezes_S1_S_).sem
  | 4 => (((cc0_scratch2 : DmaSems sig S5).slice (Rect.unit (s := S5) ![4] S1.size inb_S5_S1_4)).squeeze S_ squeezes_S1_S_).sem

def wS (c : Dev nD) : Fin 5 × Fin 1 → TpuEff nD τ sig (Elt F) Λ₀ .tc PUnit
  | (0, 0) => .waitDma2 (sS (0, 0)) (((Memref.whole main_v1_0 : Memref sig .tc .hbm S2x512x768 .f32).slice (Rect.unit (s := S2x512x768) (k0_off1 c) S1x512x768.size (k0_off1_inb c)) (fun _ => rfl)).squeeze S512x768 squeezes_S1x512x768_S512x768) (Memref.whole main_arg0 : Memref sig .tc .hbm S512x768 .f32) ((View.wordExact_bits rfl).reshape _ _) (Memref.isWhole_whole _).wordExact
  | (1, 0) => .waitDma2 (sS (1, 0)) (((Memref.whole main_v1_1 : Memref sig .tc .hbm S2x128x1024 .f32).slice (Rect.unit (s := S2x128x1024) (k0_off2 c) S1x128x1024.size (k0_off2_inb c)) (fun _ => rfl)).squeeze S128x1024 squeezes_S1x128x1024_S128x1024) (Memref.whole main_arg1 : Memref sig .tc .hbm S128x1024 .f32) ((View.wordExact_bits rfl).reshape _ _) (Memref.isWhole_whole _).wordExact
  | (2, 0) => .waitDma2 (sS (2, 0)) (((Memref.whole main_v1_2 : Memref sig .tc .hbm S2x64x512 .f32).slice (Rect.unit (s := S2x64x512) (k0_off3 c) S1x64x512.size (k0_off3_inb c)) (fun _ => rfl)).squeeze S64x512 squeezes_S1x64x512_S64x512) (Memref.whole main_arg2 : Memref sig .tc .hbm S64x512 .f32) ((View.wordExact_bits rfl).reshape _ _) (Memref.isWhole_whole _).wordExact
  | (3, 0) => .waitDma2 (sS (3, 0)) (((Memref.whole main_v1_3 : Memref sig .tc .hbm S2x512x1028 .f32).slice (Rect.unit (s := S2x512x1028) (k0_off4 c) S1x512x1028.size (k0_off4_inb c)) (fun _ => rfl)).squeeze S512x1028 squeezes_S1x512x1028_S512x1028) (Memref.whole main_arg3 : Memref sig .tc .hbm S512x1028 .f32) ((View.wordExact_bits rfl).reshape _ _) (Memref.isWhole_whole _).wordExact
  | (4, 0) => .waitDma2 (sS (4, 0)) (((Memref.whole main_v1_4 : Memref sig .tc .hbm S2x128x1024 .f32).slice (Rect.unit (s := S2x128x1024) (k0_off2 c) S1x128x1024.size (k0_off2_inb c)) (fun _ => rfl)).squeeze S128x1024 squeezes_S1x128x1024_S128x1024) (Memref.whole main_arg4 : Memref sig .tc .hbm S128x1024 .f32) ((View.wordExact_bits rfl).reshape _ _) (Memref.isWhole_whole _).wordExact
def wR (c : Dev nD) : Fin 5 × Fin 1 → TpuEff nD τ sig (Elt F) Λ₀ .tc PUnit
  | (0, 0) => .waitDma2 (sR (0, 0)) (Memref.whole main_arg0 : Memref sig .tc .hbm S512x768 .f32) (((Memref.whole main_v1_0 : Memref sig .tc .hbm S2x512x768 .f32).slice (Rect.unit (s := S2x512x768) (k0_off5 c) S1x512x768.size (k0_off5_inb c)) (fun _ => rfl)).squeeze S512x768 squeezes_S1x512x768_S512x768) (Memref.isWhole_whole _).wordExact ((View.wordExact_bits rfl).reshape _ _)
  | (1, 0) => .waitDma2 (sR (1, 0)) (Memref.whole main_arg1 : Memref sig .tc .hbm S128x1024 .f32) (((Memref.whole main_v1_1 : Memref sig .tc .hbm S2x128x1024 .f32).slice (Rect.unit (s := S2x128x1024) (k0_off6 c) S1x128x1024.size (k0_off6_inb c)) (fun _ => rfl)).squeeze S128x1024 squeezes_S1x128x1024_S128x1024) (Memref.isWhole_whole _).wordExact ((View.wordExact_bits rfl).reshape _ _)
  | (2, 0) => .waitDma2 (sR (2, 0)) (Memref.whole main_arg2 : Memref sig .tc .hbm S64x512 .f32) (((Memref.whole main_v1_2 : Memref sig .tc .hbm S2x64x512 .f32).slice (Rect.unit (s := S2x64x512) (k0_off7 c) S1x64x512.size (k0_off7_inb c)) (fun _ => rfl)).squeeze S64x512 squeezes_S1x64x512_S64x512) (Memref.isWhole_whole _).wordExact ((View.wordExact_bits rfl).reshape _ _)
  | (3, 0) => .waitDma2 (sR (3, 0)) (Memref.whole main_arg3 : Memref sig .tc .hbm S512x1028 .f32) (((Memref.whole main_v1_3 : Memref sig .tc .hbm S2x512x1028 .f32).slice (Rect.unit (s := S2x512x1028) (k0_off8 c) S1x512x1028.size (k0_off8_inb c)) (fun _ => rfl)).squeeze S512x1028 squeezes_S1x512x1028_S512x1028) (Memref.isWhole_whole _).wordExact ((View.wordExact_bits rfl).reshape _ _)
  | (4, 0) => .waitDma2 (sR (4, 0)) (Memref.whole main_arg4 : Memref sig .tc .hbm S128x1024 .f32) (((Memref.whole main_v1_4 : Memref sig .tc .hbm S2x128x1024 .f32).slice (Rect.unit (s := S2x128x1024) (k0_off6 c) S1x128x1024.size (k0_off6_inb c)) (fun _ => rfl)).squeeze S128x1024 squeezes_S1x128x1024_S128x1024) (Memref.isWhole_whole _).wordExact ((View.wordExact_bits rfl).reshape _ _)
def wL (c : Dev nD) : Fin 5 → TpuEff nD τ sig (Elt F) Λ₀ .tc PUnit
  | 0 => .waitDma2 (sL 0) (Memref.whole main_arg0 : Memref sig .tc .hbm S512x768 .f32) (((Memref.whole main_v1_0 : Memref sig .tc .hbm S2x512x768 .f32).slice (Rect.unit (s := S2x512x768) (k0_off1 c) S1x512x768.size (k0_off1_inb c)) (fun _ => rfl)).squeeze S512x768 squeezes_S1x512x768_S512x768) (Memref.isWhole_whole _).wordExact ((View.wordExact_bits rfl).reshape _ _)
  | 1 => .waitDma2 (sL 1) (Memref.whole main_arg1 : Memref sig .tc .hbm S128x1024 .f32) (((Memref.whole main_v1_1 : Memref sig .tc .hbm S2x128x1024 .f32).slice (Rect.unit (s := S2x128x1024) (k0_off2 c) S1x128x1024.size (k0_off2_inb c)) (fun _ => rfl)).squeeze S128x1024 squeezes_S1x128x1024_S128x1024) (Memref.isWhole_whole _).wordExact ((View.wordExact_bits rfl).reshape _ _)
  | 2 => .waitDma2 (sL 2) (Memref.whole main_arg2 : Memref sig .tc .hbm S64x512 .f32) (((Memref.whole main_v1_2 : Memref sig .tc .hbm S2x64x512 .f32).slice (Rect.unit (s := S2x64x512) (k0_off3 c) S1x64x512.size (k0_off3_inb c)) (fun _ => rfl)).squeeze S64x512 squeezes_S1x64x512_S64x512) (Memref.isWhole_whole _).wordExact ((View.wordExact_bits rfl).reshape _ _)
  | 3 => .waitDma2 (sL 3) (Memref.whole main_arg3 : Memref sig .tc .hbm S512x1028 .f32) (((Memref.whole main_v1_3 : Memref sig .tc .hbm S2x512x1028 .f32).slice (Rect.unit (s := S2x512x1028) (k0_off4 c) S1x512x1028.size (k0_off4_inb c)) (fun _ => rfl)).squeeze S512x1028 squeezes_S1x512x1028_S512x1028) (Memref.isWhole_whole _).wordExact ((View.wordExact_bits rfl).reshape _ _)
  | 4 => .waitDma2 (sL 4) (Memref.whole main_arg4 : Memref sig .tc .hbm S128x1024 .f32) (((Memref.whole main_v1_4 : Memref sig .tc .hbm S2x128x1024 .f32).slice (Rect.unit (s := S2x128x1024) (k0_off2 c) S1x128x1024.size (k0_off2_inb c)) (fun _ => rfl)).squeeze S128x1024 squeezes_S1x128x1024_S128x1024) (Memref.isWhole_whole _).wordExact ((View.wordExact_bits rfl).reshape _ _)

theorem kept_pos (i : Fin 5) : 0 < (kept 0 i).dst.view.dmaCredit := View.dmaCredit_pos _ (by revert i; decide)

theorem sems_inj : Function.Injective (semOf sS sR sL) := by decide

/-- The exchange. -/
def X : Exch nD τ sig (Elt F) Λ₀ (Fin 5 × Fin 1) (Fin 5) where
  peer j := peer j.2
  peer_peer j c := peer_peer j.2 c
  rc := sent
  lc := kept
  sS := sS
  sR := sR
  sL := sL
  inj := sems_inj
  N j := (kept 0 j.1).dst.view.dmaCredit
  NL i := (kept 0 i).dst.view.dmaCredit
  N_pos j := kept_pos j.1
  NL_pos i := kept_pos i
  hN c j := by obtain ⟨a, k⟩ := j; exact match a with | 0 => rfl | 1 => rfl | 2 => rfl | 3 => rfl | 4 => rfl
  hNL c i := match i with | 0 => rfl | 1 => rfl | 2 => rfl | 3 => rfl | 4 => rfl
  qs j := part 1 1 rfl (.inl j.2)
  ql _ := part 1 1 rfl (.inr 0)
  wS := wS
  wR := wR
  wL := wL

set_option maxRecDepth 65536 in
theorem body_eq (t : Fin cfg0.N) : defs₀ (F := F) .tc cfg0.body (cfg0.bodyArgs t (cfg0.slots t)) = .op .deviceId fun d => X.prog [0, 1, 2, 3, 4] [(0, 0), (1, 0), (2, 0), (3, 0), (4, 0)] d := rfl

theorem own : Pipeline.OwnSemFacts (cfgs 0).spec (semOf sS sR sL) := by decide

end Exchange.Share

end
-- ==== Proof.ShareRun.lean ====
/-
  `reduce_share`: the two cores of a chip hand each other five arrays, each keeping both in slots.
  What every device holds before and after, and the run.
-/
module

public import proofs.«01_k».proof.Proof.Share

@[expose] public section

set_option Elab.async false

noncomputable section

namespace Exchange.Share

open Idealize.ShloMosaic Idealize.ShloMosaic.TcCoe
open Idealize.ShloMosaic.Pipeline (scopedRest)
open Idealize.SL
open Idealize.SL.BI (sProp bigSep bigSepL bigSep_congr)
open scoped Idealize.SL.BI
open Idealize.SL.BI.BIBase Idealize.SL.BI.Laws Idealize.SL.Sem Idealize.SL.ProofMode
open Idealize.SL.RA
open Cert.ShareIdeal Cert.ShareIdeal.Gen

variable {F : FTy → Type} [FloatOps F]

/-! ## Buffers -/

variable (m : (ℓ : Loc nD τ sig) → Buf (Elt F) ℓ) (g : Dev nD → PrngReg)

/-- What device `c` has of array 0 afterwards. -/
def got0 (c : Dev nD) : Buf (Elt F) ((c.tc : Thread nD τ).loc main_v1_0) := fun x : (⟨3, ![2, 512, 768]⟩ : Shape).Idx => m ((holder c (x 0)).tc.loc main_arg0) (Fin.tail (α := fun b : Fin 3 => Fin (![2, 512, 768] b)) x)
/-- What device `c` has of array 1 afterwards. -/
def got1 (c : Dev nD) : Buf (Elt F) ((c.tc : Thread nD τ).loc main_v1_1) := fun x : (⟨3, ![2, 128, 1024]⟩ : Shape).Idx => m ((holder c (x 0)).tc.loc main_arg1) (Fin.tail (α := fun b : Fin 3 => Fin (![2, 128, 1024] b)) x)
/-- What device `c` has of array 2 afterwards. -/
def got2 (c : Dev nD) : Buf (Elt F) ((c.tc : Thread nD τ).loc main_v1_2) := fun x : (⟨3, ![2, 64, 512]⟩ : Shape).Idx => m ((holder c (x 0)).tc.loc main_arg2) (Fin.tail (α := fun b : Fin 3 => Fin (![2, 64, 512] b)) x)
/-- What device `c` has of array 3 afterwards. -/
def got3 (c : Dev nD) : Buf (Elt F) ((c.tc : Thread nD τ).loc main_v1_3) := fun x : (⟨3, ![2, 512, 1028]⟩ : Shape).Idx => m ((holder c (x 0)).tc.loc main_arg3) (Fin.tail (α := fun b : Fin 3 => Fin (![2, 512, 1028] b)) x)
/-- What device `c` has of array 4 afterwards. -/
def got4 (c : Dev nD) : Buf (Elt F) ((c.tc : Thread nD τ).loc main_v1_4) := fun x : (⟨3, ![2, 128, 1024]⟩ : Shape).Idx => m ((holder c (x 0)).tc.loc main_arg4) (Fin.tail (α := fun b : Fin 3 => Fin (![2, 128, 1024] b)) x)

/-- The memory after the exchange. -/
def after : (ℓ : Loc nD τ sig) → Buf (Elt F) ℓ :=
  put (put (put (put (put m main_v1_0 (got0 m)) main_v1_1 (got1 m)) main_v1_2 (got2 m)) main_v1_3 (got3 m)) main_v1_4 (got4 m)

theorem after_out0 (c : Dev nD) : after m (c.tc.loc main_v1_0) = got0 m c := by
  unfold after; rw [put_ne _ _ _ (by decide), put_ne _ _ _ (by decide), put_ne _ _ _ (by decide), put_ne _ _ _ (by decide), put_self]
theorem after_out1 (c : Dev nD) : after m (c.tc.loc main_v1_1) = got1 m c := by
  unfold after; rw [put_ne _ _ _ (by decide), put_ne _ _ _ (by decide), put_ne _ _ _ (by decide), put_self]
theorem after_out2 (c : Dev nD) : after m (c.tc.loc main_v1_2) = got2 m c := by
  unfold after; rw [put_ne _ _ _ (by decide), put_ne _ _ _ (by decide), put_self]
theorem after_out3 (c : Dev nD) : after m (c.tc.loc main_v1_3) = got3 m c := by
  unfold after; rw [put_ne _ _ _ (by decide), put_self]
theorem after_out4 (c : Dev nD) : after m (c.tc.loc main_v1_4) = got4 m c := by
  unfold after; rw [put_self]
theorem after_in0 (c : Dev nD) : after m (c.tc.loc main_arg0) = m (c.tc.loc main_arg0) := by
  unfold after; rw [put_ne _ _ _ (by decide), put_ne _ _ _ (by decide), put_ne _ _ _ (by decide), put_ne _ _ _ (by decide), put_ne _ _ _ (by decide)]
theorem after_in1 (c : Dev nD) : after m (c.tc.loc main_arg1) = m (c.tc.loc main_arg1) := by
  unfold after; rw [put_ne _ _ _ (by decide), put_ne _ _ _ (by decide), put_ne _ _ _ (by decide), put_ne _ _ _ (by decide), put_ne _ _ _ (by decide)]
theorem after_in2 (c : Dev nD) : after m (c.tc.loc main_arg2) = m (c.tc.loc main_arg2) := by
  unfold after; rw [put_ne _ _ _ (by decide), put_ne _ _ _ (by decide), put_ne _ _ _ (by decide), put_ne _ _ _ (by decide), put_ne _ _ _ (by decide)]
theorem after_in3 (c : Dev nD) : after m (c.tc.loc main_arg3) = m (c.tc.loc main_arg3) := by
  unfold after; rw [put_ne _ _ _ (by decide), put_ne _ _ _ (by decide), put_ne _ _ _ (by decide), put_ne _ _ _ (by decide), put_ne _ _ _ (by decide)]
theorem after_in4 (c : Dev nD) : after m (c.tc.loc main_arg4) = m (c.tc.loc main_arg4) := by
  unfold after; rw [put_ne _ _ _ (by decide), put_ne _ _ _ (by decide), put_ne _ _ _ (by decide), put_ne _ _ _ (by decide), put_ne _ _ _ (by decide)]

def inB : Fin 5 → Ref sig .tc | 0 => main_arg0 | 1 => main_arg1 | 2 => main_arg2 | 3 => main_arg3 | 4 => main_arg4
def outB : Fin 5 → Ref sig .tc | 0 => main_v1_0 | 1 => main_v1_1 | 2 => main_v1_2 | 3 => main_v1_3 | 4 => main_v1_4

local notation "𝕄" => MT nD τ sig Unit (Elt F) ℕ (UR nD τ sig × UR nD τ sig) ℕ

theorem src_eq0 (f : (ℓ : Loc nD τ sig) → Buf (Elt F) ℓ) (c : Dev nD) : (((c.tc : Thread nD τ).loc main_arg0) ↦{fullShare} f ((c.tc : Thread nD τ).loc main_arg0) : sProp 𝕄)
    = iprop((bigSep Finset.univ fun k => X.srcPt f c (0, k)) ∗ X.lsrcPt f c 0) :=
  parts_pointsTo (ℓ := (c.tc : Thread nD τ).loc main_arg0) 1 1 rfl (View.whole main_arg0).set (View.set_whole _) (f ((c.tc : Thread nD τ).loc main_arg0))
theorem dst_eq0 (f : (ℓ : Loc nD τ sig) → Buf (Elt F) ℓ) (c : Dev nD) : (((c.tc : Thread nD τ).loc main_v1_0) ↦{fullShare} f ((c.tc : Thread nD τ).loc main_v1_0) : sProp 𝕄)
    = iprop((bigSep Finset.univ fun k => X.dstPt f (0, k) ((X (F := F)).peer (0, k) c) c) ∗ X.ldstPt f c 0) :=
  slots_pointsTo (M := 2) (d := ![512, 768]) (View.whole main_v1_0) c (View.set_whole _) (fun k => k0_off1 (peer k c)) (k0_off1 c) (fun k => k0_off1_inb (peer k c))
    (k0_off1_inb c) squeezes_S1x512x768_S512x768.numel_eq (fun k => off_tail (peer k c)) (off_tail c) (off_inj c) (off_ne c) (off_all c)
    (f ((c.tc : Thread nD τ).loc main_v1_0))
theorem src_eq1 (f : (ℓ : Loc nD τ sig) → Buf (Elt F) ℓ) (c : Dev nD) : (((c.tc : Thread nD τ).loc main_arg1) ↦{fullShare} f ((c.tc : Thread nD τ).loc main_arg1) : sProp 𝕄)
    = iprop((bigSep Finset.univ fun k => X.srcPt f c (1, k)) ∗ X.lsrcPt f c 1) :=
  parts_pointsTo (ℓ := (c.tc : Thread nD τ).loc main_arg1) 1 1 rfl (View.whole main_arg1).set (View.set_whole _) (f ((c.tc : Thread nD τ).loc main_arg1))
theorem dst_eq1 (f : (ℓ : Loc nD τ sig) → Buf (Elt F) ℓ) (c : Dev nD) : (((c.tc : Thread nD τ).loc main_v1_1) ↦{fullShare} f ((c.tc : Thread nD τ).loc main_v1_1) : sProp 𝕄)
    = iprop((bigSep Finset.univ fun k => X.dstPt f (1, k) ((X (F := F)).peer (1, k) c) c) ∗ X.ldstPt f c 1) :=
  slots_pointsTo (M := 2) (d := ![128, 1024]) (View.whole main_v1_1) c (View.set_whole _) (fun k => k0_off1 (peer k c)) (k0_off1 c) (fun k => k0_off2_inb (peer k c))
    (k0_off2_inb c) squeezes_S1x128x1024_S128x1024.numel_eq (fun k => off_tail (peer k c)) (off_tail c) (off_inj c) (off_ne c) (off_all c)
    (f ((c.tc : Thread nD τ).loc main_v1_1))
theorem src_eq2 (f : (ℓ : Loc nD τ sig) → Buf (Elt F) ℓ) (c : Dev nD) : (((c.tc : Thread nD τ).loc main_arg2) ↦{fullShare} f ((c.tc : Thread nD τ).loc main_arg2) : sProp 𝕄)
    = iprop((bigSep Finset.univ fun k => X.srcPt f c (2, k)) ∗ X.lsrcPt f c 2) :=
  parts_pointsTo (ℓ := (c.tc : Thread nD τ).loc main_arg2) 1 1 rfl (View.whole main_arg2).set (View.set_whole _) (f ((c.tc : Thread nD τ).loc main_arg2))
theorem dst_eq2 (f : (ℓ : Loc nD τ sig) → Buf (Elt F) ℓ) (c : Dev nD) : (((c.tc : Thread nD τ).loc main_v1_2) ↦{fullShare} f ((c.tc : Thread nD τ).loc main_v1_2) : sProp 𝕄)
    = iprop((bigSep Finset.univ fun k => X.dstPt f (2, k) ((X (F := F)).peer (2, k) c) c) ∗ X.ldstPt f c 2) :=
  slots_pointsTo (M := 2) (d := ![64, 512]) (View.whole main_v1_2) c (View.set_whole _) (fun k => k0_off1 (peer k c)) (k0_off1 c) (fun k => k0_off3_inb (peer k c))
    (k0_off3_inb c) squeezes_S1x64x512_S64x512.numel_eq (fun k => off_tail (peer k c)) (off_tail c) (off_inj c) (off_ne c) (off_all c)
    (f ((c.tc : Thread nD τ).loc main_v1_2))
theorem src_eq3 (f : (ℓ : Loc nD τ sig) → Buf (Elt F) ℓ) (c : Dev nD) : (((c.tc : Thread nD τ).loc main_arg3) ↦{fullShare} f ((c.tc : Thread nD τ).loc main_arg3) : sProp 𝕄)
    = iprop((bigSep Finset.univ fun k => X.srcPt f c (3, k)) ∗ X.lsrcPt f c 3) :=
  parts_pointsTo (ℓ := (c.tc : Thread nD τ).loc main_arg3) 1 1 rfl (View.whole main_arg3).set (View.set_whole _) (f ((c.tc : Thread nD τ).loc main_arg3))
theorem dst_eq3 (f : (ℓ : Loc nD τ sig) → Buf (Elt F) ℓ) (c : Dev nD) : (((c.tc : Thread nD τ).loc main_v1_3) ↦{fullShare} f ((c.tc : Thread nD τ).loc main_v1_3) : sProp 𝕄)
    = iprop((bigSep Finset.univ fun k => X.dstPt f (3, k) ((X (F := F)).peer (3, k) c) c) ∗ X.ldstPt f c 3) :=
  slots_pointsTo (M := 2) (d := ![512, 1028]) (View.whole main_v1_3) c (View.set_whole _) (fun k => k0_off1 (peer k c)) (k0_off1 c) (fun k => k0_off4_inb (peer k c))
    (k0_off4_inb c) squeezes_S1x512x1028_S512x1028.numel_eq (fun k => off_tail (peer k c)) (off_tail c) (off_inj c) (off_ne c) (off_all c)
    (f ((c.tc : Thread nD τ).loc main_v1_3))
theorem src_eq4 (f : (ℓ : Loc nD τ sig) → Buf (Elt F) ℓ) (c : Dev nD) : (((c.tc : Thread nD τ).loc main_arg4) ↦{fullShare} f ((c.tc : Thread nD τ).loc main_arg4) : sProp 𝕄)
    = iprop((bigSep Finset.univ fun k => X.srcPt f c (4, k)) ∗ X.lsrcPt f c 4) :=
  parts_pointsTo (ℓ := (c.tc : Thread nD τ).loc main_arg4) 1 1 rfl (View.whole main_arg4).set (View.set_whole _) (f ((c.tc : Thread nD τ).loc main_arg4))
theorem dst_eq4 (f : (ℓ : Loc nD τ sig) → Buf (Elt F) ℓ) (c : Dev nD) : (((c.tc : Thread nD τ).loc main_v1_4) ↦{fullShare} f ((c.tc : Thread nD τ).loc main_v1_4) : sProp 𝕄)
    = iprop((bigSep Finset.univ fun k => X.dstPt f (4, k) ((X (F := F)).peer (4, k) c) c) ∗ X.ldstPt f c 4) :=
  slots_pointsTo (M := 2) (d := ![128, 1024]) (View.whole main_v1_4) c (View.set_whole _) (fun k => k0_off1 (peer k c)) (k0_off1 c) (fun k => k0_off2_inb (peer k c))
    (k0_off2_inb c) squeezes_S1x128x1024_S128x1024.numel_eq (fun k => off_tail (peer k c)) (off_tail c) (off_inj c) (off_ne c) (off_all c)
    (f ((c.tc : Thread nD τ).loc main_v1_4))

theorem bufs_inj : Function.Injective (Sum.elim inB outB) := by decide

theorem arrays : (X (F := F)).Arrays inB outB where
  inj := bufs_inj
  all := by decide
  src f c a := match a with | 0 => src_eq0 f c | 1 => src_eq1 f c | 2 => src_eq2 f c | 3 => src_eq3 f c | 4 => src_eq4 f c
  dst f c a := match a with | 0 => dst_eq0 f c | 1 => dst_eq1 f c | 2 => dst_eq2 f c | 3 => dst_eq3 f c | 4 => dst_eq4 f c

theorem read_sent0 (c : Dev nD) (k : Fin 1) :
    ((X (F := F)).rc c (0, k)).dst.view.read (Elt F) (after m (((X (F := F)).rc c (0, k)).dst.view.loc (((X (F := F)).peer (0, k) c).tc : Thread nD τ)))
      = ((X (F := F)).rc c (0, k)).src.view.read (Elt F) (m (((X (F := F)).rc c (0, k)).src.view.loc (c.tc : Thread nD τ))) := by
  funext y
  refine (slot_read (M := 2) (d := ![512, 768]) (View.whole main_v1_0) (k0_off1 c) (k0_off1_inb c) squeezes_S1x512x768_S512x768.numel_eq (place c) rfl (off_tail c)
    (after m ((peer k c).tc.loc main_v1_0)) y).trans ?_
  refine (congrFun (after_out0 m (peer k c)) (Fin.cons (α := fun b : Fin 3 => Fin (![2, 512, 768] b)) (place c) y)).trans ?_
  have e := elt_at m main_arg0 (holder_place k c) y
  exact e.trans (rfl)
theorem read_kept0 (c : Dev nD) :
    ((X (F := F)).lc c 0).dst.view.read (Elt F) (after m (((X (F := F)).lc c 0).dst.view.loc (c.tc : Thread nD τ)))
      = ((X (F := F)).lc c 0).src.view.read (Elt F) (m (((X (F := F)).lc c 0).src.view.loc (c.tc : Thread nD τ))) := by
  funext y
  refine (slot_read (M := 2) (d := ![512, 768]) (View.whole main_v1_0) (k0_off1 c) (k0_off1_inb c) squeezes_S1x512x768_S512x768.numel_eq (place c) rfl (off_tail c)
    (after m (c.tc.loc main_v1_0)) y).trans ?_
  refine (congrFun (after_out0 m c) (Fin.cons (α := fun b : Fin 3 => Fin (![2, 512, 768] b)) (place c) y)).trans ?_
  have e := elt_at m main_arg0 (holder_own c) y
  exact e.trans (rfl)
theorem read_sent1 (c : Dev nD) (k : Fin 1) :
    ((X (F := F)).rc c (1, k)).dst.view.read (Elt F) (after m (((X (F := F)).rc c (1, k)).dst.view.loc (((X (F := F)).peer (1, k) c).tc : Thread nD τ)))
      = ((X (F := F)).rc c (1, k)).src.view.read (Elt F) (m (((X (F := F)).rc c (1, k)).src.view.loc (c.tc : Thread nD τ))) := by
  funext y
  refine (slot_read (M := 2) (d := ![128, 1024]) (View.whole main_v1_1) (k0_off1 c) (k0_off2_inb c) squeezes_S1x128x1024_S128x1024.numel_eq (place c) rfl (off_tail c)
    (after m ((peer k c).tc.loc main_v1_1)) y).trans ?_
  refine (congrFun (after_out1 m (peer k c)) (Fin.cons (α := fun b : Fin 3 => Fin (![2, 128, 1024] b)) (place c) y)).trans ?_
  have e := elt_at m main_arg1 (holder_place k c) y
  exact e.trans (rfl)
theorem read_kept1 (c : Dev nD) :
    ((X (F := F)).lc c 1).dst.view.read (Elt F) (after m (((X (F := F)).lc c 1).dst.view.loc (c.tc : Thread nD τ)))
      = ((X (F := F)).lc c 1).src.view.read (Elt F) (m (((X (F := F)).lc c 1).src.view.loc (c.tc : Thread nD τ))) := by
  funext y
  refine (slot_read (M := 2) (d := ![128, 1024]) (View.whole main_v1_1) (k0_off1 c) (k0_off2_inb c) squeezes_S1x128x1024_S128x1024.numel_eq (place c) rfl (off_tail c)
    (after m (c.tc.loc main_v1_1)) y).trans ?_
  refine (congrFun (after_out1 m c) (Fin.cons (α := fun b : Fin 3 => Fin (![2, 128, 1024] b)) (place c) y)).trans ?_
  have e := elt_at m main_arg1 (holder_own c) y
  exact e.trans (rfl)
theorem read_sent2 (c : Dev nD) (k : Fin 1) :
    ((X (F := F)).rc c (2, k)).dst.view.read (Elt F) (after m (((X (F := F)).rc c (2, k)).dst.view.loc (((X (F := F)).peer (2, k) c).tc : Thread nD τ)))
      = ((X (F := F)).rc c (2, k)).src.view.read (Elt F) (m (((X (F := F)).rc c (2, k)).src.view.loc (c.tc : Thread nD τ))) := by
  funext y
  refine (slot_read (M := 2) (d := ![64, 512]) (View.whole main_v1_2) (k0_off1 c) (k0_off3_inb c) squeezes_S1x64x512_S64x512.numel_eq (place c) rfl (off_tail c)
    (after m ((peer k c).tc.loc main_v1_2)) y).trans ?_
  refine (congrFun (after_out2 m (peer k c)) (Fin.cons (α := fun b : Fin 3 => Fin (![2, 64, 512] b)) (place c) y)).trans ?_
  have e := elt_at m main_arg2 (holder_place k c) y
  exact e.trans (rfl)
theorem read_kept2 (c : Dev nD) :
    ((X (F := F)).lc c 2).dst.view.read (Elt F) (after m (((X (F := F)).lc c 2).dst.view.loc (c.tc : Thread nD τ)))
      = ((X (F := F)).lc c 2).src.view.read (Elt F) (m (((X (F := F)).lc c 2).src.view.loc (c.tc : Thread nD τ))) := by
  funext y
  refine (slot_read (M := 2) (d := ![64, 512]) (View.whole main_v1_2) (k0_off1 c) (k0_off3_inb c) squeezes_S1x64x512_S64x512.numel_eq (place c) rfl (off_tail c)
    (after m (c.tc.loc main_v1_2)) y).trans ?_
  refine (congrFun (after_out2 m c) (Fin.cons (α := fun b : Fin 3 => Fin (![2, 64, 512] b)) (place c) y)).trans ?_
  have e := elt_at m main_arg2 (holder_own c) y
  exact e.trans (rfl)
theorem read_sent3 (c : Dev nD) (k : Fin 1) :
    ((X (F := F)).rc c (3, k)).dst.view.read (Elt F) (after m (((X (F := F)).rc c (3, k)).dst.view.loc (((X (F := F)).peer (3, k) c).tc : Thread nD τ)))
      = ((X (F := F)).rc c (3, k)).src.view.read (Elt F) (m (((X (F := F)).rc c (3, k)).src.view.loc (c.tc : Thread nD τ))) := by
  funext y
  refine (slot_read (M := 2) (d := ![512, 1028]) (View.whole main_v1_3) (k0_off1 c) (k0_off4_inb c) squeezes_S1x512x1028_S512x1028.numel_eq (place c) rfl (off_tail c)
    (after m ((peer k c).tc.loc main_v1_3)) y).trans ?_
  refine (congrFun (after_out3 m (peer k c)) (Fin.cons (α := fun b : Fin 3 => Fin (![2, 512, 1028] b)) (place c) y)).trans ?_
  have e := elt_at m main_arg3 (holder_place k c) y
  exact e.trans (rfl)
theorem read_kept3 (c : Dev nD) :
    ((X (F := F)).lc c 3).dst.view.read (Elt F) (after m (((X (F := F)).lc c 3).dst.view.loc (c.tc : Thread nD τ)))
      = ((X (F := F)).lc c 3).src.view.read (Elt F) (m (((X (F := F)).lc c 3).src.view.loc (c.tc : Thread nD τ))) := by
  funext y
  refine (slot_read (M := 2) (d := ![512, 1028]) (View.whole main_v1_3) (k0_off1 c) (k0_off4_inb c) squeezes_S1x512x1028_S512x1028.numel_eq (place c) rfl (off_tail c)
    (after m (c.tc.loc main_v1_3)) y).trans ?_
  refine (congrFun (after_out3 m c) (Fin.cons (α := fun b : Fin 3 => Fin (![2, 512, 1028] b)) (place c) y)).trans ?_
  have e := elt_at m main_arg3 (holder_own c) y
  exact e.trans (rfl)
theorem read_sent4 (c : Dev nD) (k : Fin 1) :
    ((X (F := F)).rc c (4, k)).dst.view.read (Elt F) (after m (((X (F := F)).rc c (4, k)).dst.view.loc (((X (F := F)).peer (4, k) c).tc : Thread nD τ)))
      = ((X (F := F)).rc c (4, k)).src.view.read (Elt F) (m (((X (F := F)).rc c (4, k)).src.view.loc (c.tc : Thread nD τ))) := by
  funext y
  refine (slot_read (M := 2) (d := ![128, 1024]) (View.whole main_v1_4) (k0_off1 c) (k0_off2_inb c) squeezes_S1x128x1024_S128x1024.numel_eq (place c) rfl (off_tail c)
    (after m ((peer k c).tc.loc main_v1_4)) y).trans ?_
  refine (congrFun (after_out4 m (peer k c)) (Fin.cons (α := fun b : Fin 3 => Fin (![2, 128, 1024] b)) (place c) y)).trans ?_
  have e := elt_at m main_arg4 (holder_place k c) y
  exact e.trans (rfl)
theorem read_kept4 (c : Dev nD) :
    ((X (F := F)).lc c 4).dst.view.read (Elt F) (after m (((X (F := F)).lc c 4).dst.view.loc (c.tc : Thread nD τ)))
      = ((X (F := F)).lc c 4).src.view.read (Elt F) (m (((X (F := F)).lc c 4).src.view.loc (c.tc : Thread nD τ))) := by
  funext y
  refine (slot_read (M := 2) (d := ![128, 1024]) (View.whole main_v1_4) (k0_off1 c) (k0_off2_inb c) squeezes_S1x128x1024_S128x1024.numel_eq (place c) rfl (off_tail c)
    (after m (c.tc.loc main_v1_4)) y).trans ?_
  refine (congrFun (after_out4 m c) (Fin.cons (α := fun b : Fin 3 => Fin (![2, 128, 1024] b)) (place c) y)).trans ?_
  have e := elt_at m main_arg4 (holder_own c) y
  exact e.trans (rfl)

/-- The exchange's facts. -/
theorem facts (𝒱₀ : Variants) : X.Facts m (after m) (fun _ => (emp : sProp 𝕄)) (defs₀ (F := F)) 𝒱₀ where
  hsplit := arrays.splits m
  hjoin := arrays.joins m (after m) (fun c a => match a with | 0 => after_in0 m c | 1 => after_in1 m c | 2 => after_in2 m c | 3 => after_in3 m c | 4 => after_in4 m c)
  hR c j := by
    obtain ⟨a, k⟩ := j
    exact match a with | 0 => read_sent0 m c k | 1 => read_sent1 m c k | 2 => read_sent2 m c k | 3 => read_sent3 m c k | 4 => read_sent4 m c k
  hL c i := match i with | 0 => read_kept0 m c | 1 => read_kept1 m c | 2 => read_kept2 m c | 3 => read_kept3 m c | 4 => read_kept4 m c
  hroute := by unfold Exch.Routes; decide
  hw := ⟨fun c j K => match j with | (0, 0) => rfl | (1, 0) => rfl | (2, 0) => rfl | (3, 0) => rfl | (4, 0) => rfl,
    fun c j K => match j with | (0, 0) => rfl | (1, 0) => rfl | (2, 0) => rfl | (3, 0) => rfl | (4, 0) => rfl,
    fun c i K => match i with | 0 => rfl | 1 => rfl | 2 => rfl | 3 => rfl | 4 => rfl⟩

/-- The run: every fair execution ends with every device's buffers as `after m` has them, every counter at zero. -/
theorem run_main : θ_run (defs (F := F)) (onTc main) ⟨m, fun _ => 0, g⟩ (fun r => (∀ c, Exch.Shows (after m) c r.2) ∧ r.2.sem = fun _ => 0) :=
  Exch.run X m (after m) g (fun _ => emp) cfgs defs₀ Variants.none cellOf_inj (facts m _) (fun | 0 => (inferInstance : IsEmpty (Fin 0)))
    (fun | 0 => N_0) winFacts0.to₀ own main (fun c => main_chain c) [0, 1, 2, 3, 4] [(0, 0), (1, 0), (2, 0), (3, 0), (4, 0)] (by decide) (by decide) (by decide) (by decide)
    (fun c t Q => by rw [show defs₀ .tc (cfgs 0).body ((cfgs 0).bodyArgs t ((cfgs 0).slots t)) = _ from body_eq t]) (by decide)

end Exchange.Share

end
-- ==== Proof.ShareClaims.lean ====
/-
  The claims about `reduce_share`.
-/
module

public import proofs.«01_k».proof.Defs
public import proofs.«01_k».proof.Proof.ShareRun
public import proofs.«01_k».proof.Proof.Blocks
public import proofs.«01_k».proof.Proof.Gen.Share
public import proofs.«01_k».proof.Proof.Gen.ShareRef
public import proofs.«01_k».proof.Proof.Gen.ShareRefIdeal.Run

@[expose] public section

set_option Elab.async false

noncomputable section

namespace Exchange.Share

open Idealize.ShloMosaic Idealize.ShloMosaic.TcCoe Idealize.SL.Sem

variable {F : FTy → Type} [FloatOps F]

/-- The device whose part a device takes into slot `i`. -/
theorem holder_at : ∀ (c : Fin 8) (i : Fin 2), (holder c i).val = Layout.meshLin [2, 2, 2] c.val [0, 1] * 2 + i.val := by decide

/-- The run, argument by argument and result by result. -/
theorem run_read (m : (ℓ : Loc Cert.ShareIdeal.nD Cert.ShareIdeal.τ Cert.ShareIdeal.sig) → Buf (Elt F) ℓ) (g : Dev Cert.ShareIdeal.nD → PrngReg) :
    θ_run (Cert.ShareIdeal.defs (F := F)) (onTc (τ := Cert.ShareIdeal.τ) (Cert.ShareIdeal.main (F := F))) ⟨m, fun _ => 0, g⟩ (fun r => (∀ c : Dev Cert.ShareIdeal.nD,
      r.2.mem ((c.tc : Thread Cert.ShareIdeal.nD Cert.ShareIdeal.τ).loc Cert.ShareIdeal.main_v1_0) = got0 m c ∧
      r.2.mem ((c.tc : Thread Cert.ShareIdeal.nD Cert.ShareIdeal.τ).loc Cert.ShareIdeal.main_v1_1) = got1 m c ∧
      r.2.mem ((c.tc : Thread Cert.ShareIdeal.nD Cert.ShareIdeal.τ).loc Cert.ShareIdeal.main_v1_2) = got2 m c ∧
      r.2.mem ((c.tc : Thread Cert.ShareIdeal.nD Cert.ShareIdeal.τ).loc Cert.ShareIdeal.main_v1_3) = got3 m c ∧
      r.2.mem ((c.tc : Thread Cert.ShareIdeal.nD Cert.ShareIdeal.τ).loc Cert.ShareIdeal.main_v1_4) = got4 m c ∧
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0) ∧
      r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1) ∧
      r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2) ∧
      r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3) ∧
      r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4))
      ∧ r.2.sem = fun _ => 0) :=
  (θ_run Cert.ShareIdeal.defs _ _).mono (fun _ h => ⟨fun c => ⟨(h.1 c Cert.ShareIdeal.main_v1_0 (by decide)).trans (after_out0 m c), (h.1 c Cert.ShareIdeal.main_v1_1 (by decide)).trans (after_out1 m c), (h.1 c Cert.ShareIdeal.main_v1_2 (by decide)).trans (after_out2 m c), (h.1 c Cert.ShareIdeal.main_v1_3 (by decide)).trans (after_out3 m c), (h.1 c Cert.ShareIdeal.main_v1_4 (by decide)).trans (after_out4 m c), (h.1 c Cert.ShareIdeal.main_arg0 (by decide)).trans (after_in0 m c), (h.1 c Cert.ShareIdeal.main_arg1 (by decide)).trans (after_in1 m c), (h.1 c Cert.ShareIdeal.main_arg2 (by decide)).trans (after_in2 m c), (h.1 c Cert.ShareIdeal.main_arg3 (by decide)).trans (after_in3 m c), (h.1 c Cert.ShareIdeal.main_arg4 (by decide)).trans (after_in4 m c)⟩, h.2⟩) (run_main m g)

theorem frame_shareIdeal : Cert.quiescent_ShareIdeal := fun m g _ =>
  (θ_run Cert.ShareIdeal.defs _ _).mono (fun _ h => ⟨fun c => (h.1 c).2.2.2.2.2, h.2⟩) (run_read (F := Ideal) m g)

theorem frame_share : Cert.quiescent_Share := fun m g _ =>
  (θ_run Cert.ShareIdeal.defs _ _).mono (fun _ h => ⟨fun c => (h.1 c).2.2.2.2.2, h.2⟩) (run_read (F := Bits) m g)

theorem frame_shareRefIdeal : Cert.quiescent_ShareRefIdeal := fun m g _ =>
  (θ_run Cert.ShareRefIdeal.defs _ _).mono (fun r h => ⟨fun c => (h c).2.2.2.2.2, sem_eq_zero_of_no_sems (by decide) r.2⟩)
    (Cert.ShareRefIdeal.Value.run (F := Ideal) m g)

theorem frame_shareRef : Cert.quiescent_ShareRef := fun m g _ =>
  (θ_run Cert.ShareRefIdeal.defs _ _).mono (fun r h => ⟨fun c => (h c).2.2.2.2.2, sem_eq_zero_of_no_sems (by decide) r.2⟩)
    (Cert.ShareRefIdeal.Value.run (F := Bits) m g)

theorem algebraic_share : Cert.algebraic_ShareIdeal_ShareRefIdeal := by
  intro m g m' g' _ h
  refine ⟨_, _, _, _, _, ?_, (θ_run Cert.ShareRefIdeal.defs _ _).mono (fun _ hr => hr 0) (Cert.ShareRefIdeal.Value.run (F := Ideal) m' g')⟩
  refine (θ_run Cert.ShareIdeal.defs _ _).mono (fun _ hr c => ?_) (run_read (F := Ideal) m g)
  obtain ⟨r0, r1, r2, r3, r4, ha⟩ := hr.1 c
  refine ⟨?_, ?_, ?_, ?_, ?_, ha⟩
  · refine (r0).trans (funext fun i => ?_)
    exact (congrFun ((h (holder c (i 0))).1) _).trans (cores_rows _ _ _ _ i c (holder c (i 0)) (holder_at c (i 0))).symm
  · refine (r1).trans (funext fun i => ?_)
    exact (congrFun ((h (holder c (i 0))).2.1) _).trans (cores_rows _ _ _ _ i c (holder c (i 0)) (holder_at c (i 0))).symm
  · refine (r2).trans (funext fun i => ?_)
    exact (congrFun ((h (holder c (i 0))).2.2.1) _).trans (cores_rows _ _ _ _ i c (holder c (i 0)) (holder_at c (i 0))).symm
  · refine (r3).trans (funext fun i => ?_)
    exact (congrFun ((h (holder c (i 0))).2.2.2.1) _).trans (cores_rows _ _ _ _ i c (holder c (i 0)) (holder_at c (i 0))).symm
  · refine (r4).trans (funext fun i => ?_)
    exact (congrFun ((h (holder c (i 0))).2.2.2.2) _).trans (cores_rows _ _ _ _ i c (holder c (i 0)) (holder_at c (i 0))).symm

theorem bitexact_share : Cert.bitexact_Share_ShareRef := by
  intro m g m' g' _ h
  refine ⟨_, _, _, _, _, ?_, (θ_run Cert.ShareRefIdeal.defs _ _).mono (fun _ hr => hr 0) (Cert.ShareRefIdeal.Value.run (F := Bits) m' g')⟩
  refine (θ_run Cert.ShareIdeal.defs _ _).mono (fun _ hr c => ?_) (run_read (F := Bits) m g)
  obtain ⟨r0, r1, r2, r3, r4, ha⟩ := hr.1 c
  refine ⟨?_, ?_, ?_, ?_, ?_, ha⟩
  · refine (r0).trans (funext fun i => ?_)
    exact (congrFun ((h (holder c (i 0))).1) _).trans (cores_rows _ _ _ _ i c (holder c (i 0)) (holder_at c (i 0))).symm
  · refine (r1).trans (funext fun i => ?_)
    exact (congrFun ((h (holder c (i 0))).2.1) _).trans (cores_rows _ _ _ _ i c (holder c (i 0)) (holder_at c (i 0))).symm
  · refine (r2).trans (funext fun i => ?_)
    exact (congrFun ((h (holder c (i 0))).2.2.1) _).trans (cores_rows _ _ _ _ i c (holder c (i 0)) (holder_at c (i 0))).symm
  · refine (r3).trans (funext fun i => ?_)
    exact (congrFun ((h (holder c (i 0))).2.2.2.1) _).trans (cores_rows _ _ _ _ i c (holder c (i 0)) (holder_at c (i 0))).symm
  · refine (r4).trans (funext fun i => ?_)
    exact (congrFun ((h (holder c (i 0))).2.2.2.2) _).trans (cores_rows _ _ _ _ i c (holder c (i 0)) (holder_at c (i 0))).symm

end Exchange.Share

end
-- ==== Proof.Small.lean ====
/-
  `gather_small_grads`: every device hands every other its array, each keeping all eight in slots.
  The instance of the exchange, and its run.
-/
module

public import proofs.«01_k».proof.Proof.Gen.SmallIdeal.Launch
public import proofs.«01_k».proof.Proof.Slots
public import proofs.«01_k».proof.Proof.Values

@[expose] public section

set_option Elab.async false

noncomputable section

namespace Exchange.Small

open Idealize.ShloMosaic Idealize.ShloMosaic.TcCoe
open Idealize.ShloMosaic.Pipeline (scopedRest)
open Idealize.SL
open Idealize.SL.BI (sProp bigSep bigSepL)
open scoped Idealize.SL.BI
open Idealize.SL.BI.BIBase Idealize.SL.BI.Laws Idealize.SL.Sem Idealize.SL.ProofMode
open Idealize.SL.RA
open Cert.SmallIdeal Cert.SmallIdeal.Gen

variable {F : FTy → Type} [FloatOps F]

/-! ## Places -/

/-- The other devices a device deals with. -/
def peer : Fin 7 → Dev nD → Dev nD
  | 0, d0 => ⟨k0_dev1 d0, k0_dev1_lt d0⟩
  | 1, d0 => ⟨k0_dev2 d0, k0_dev2_lt d0⟩
  | 2, d0 => ⟨k0_dev3 d0, k0_dev3_lt d0⟩
  | 3, d0 => ⟨k0_dev4 d0, k0_dev4_lt d0⟩
  | 4, d0 => ⟨k0_dev5 d0, k0_dev5_lt d0⟩
  | 5, d0 => ⟨k0_dev6 d0, k0_dev6_lt d0⟩
  | 6, d0 => ⟨k0_dev7 d0, k0_dev7_lt d0⟩

theorem peer_peer : ∀ k c, peer k (peer k c) = c := by decide

/-- The slot a device's arrays go to. -/
def place (c : Dev nD) : Fin 8 := ⟨k0_off1 c 0, by revert c; decide⟩

/-- The device whose arrays are in slot `i` of device `c`. -/
def holder (c : Dev nD) (i : Fin 8) : Dev nD := ⟨i.val, by revert c i; decide⟩

theorem holder_place : ∀ k c, holder (peer k c) (place c) = c := by decide
theorem holder_own : ∀ c, holder c (place c) = c := by decide
theorem off_tail : ∀ c, ∀ a : Fin 2, k0_off1 c a.succ = 0 := by decide
theorem off_inj : ∀ c k k', k0_off1 (peer k c) 0 = k0_off1 (peer k' c) 0 → k = k' := by decide
theorem off_ne : ∀ c k, k0_off1 (peer k c) 0 ≠ k0_off1 c 0 := by decide
theorem off_all : ∀ c, ∀ i : Fin 8, (∃ k, k0_off1 (peer k c) 0 = i.val) ∨ k0_off1 c 0 = i.val := by decide

/-! ## Copies and counters -/

/-- Array by array, what a device sends. -/
def sent (c : Dev nD) : Fin 1 × Fin 7 → Copy sig
  | (0, _) => ⟨S1248x128, .f32, (Memref.whole main_arg0 : Memref sig .tc .hbm S1248x128 .f32), (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128), (Memref.isWhole_whole _).wordExact, ((View.wordExact_bits rfl).reshape _ _), rfl⟩

/-- Array by array, what a device keeps. -/
def kept (c : Dev nD) : Fin 1 → Copy sig
  | 0 => ⟨S1248x128, .f32, (Memref.whole main_arg0 : Memref sig .tc .hbm S1248x128 .f32), (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128), (Memref.isWhole_whole _).wordExact, ((View.wordExact_bits rfl).reshape _ _), rfl⟩

def sS : Fin 1 × Fin 7 → DmaSem sig
  | (0, 0) => (((cc0_scratch0 : DmaSems sig S7).slice (Rect.unit (s := S7) ![0] S1.size inb_S7_S1_0)).squeeze S_ squeezes_S1_S_).sem
  | (0, 1) => (((cc0_scratch0 : DmaSems sig S7).slice (Rect.unit (s := S7) ![1] S1.size inb_S7_S1_1)).squeeze S_ squeezes_S1_S_).sem
  | (0, 2) => (((cc0_scratch0 : DmaSems sig S7).slice (Rect.unit (s := S7) ![2] S1.size inb_S7_S1_2)).squeeze S_ squeezes_S1_S_).sem
  | (0, 3) => (((cc0_scratch0 : DmaSems sig S7).slice (Rect.unit (s := S7) ![3] S1.size inb_S7_S1_3)).squeeze S_ squeezes_S1_S_).sem
  | (0, 4) => (((cc0_scratch0 : DmaSems sig S7).slice (Rect.unit (s := S7) ![4] S1.size inb_S7_S1_4)).squeeze S_ squeezes_S1_S_).sem
  | (0, 5) => (((cc0_scratch0 : DmaSems sig S7).slice (Rect.unit (s := S7) ![5] S1.size inb_S7_S1_5)).squeeze S_ squeezes_S1_S_).sem
  | (0, 6) => (((cc0_scratch0 : DmaSems sig S7).slice (Rect.unit (s := S7) ![6] S1.size inb_S7_S1_6)).squeeze S_ squeezes_S1_S_).sem
def sR : Fin 1 × Fin 7 → DmaSem sig
  | (0, 0) => (((cc0_scratch1 : DmaSems sig S7).slice (Rect.unit (s := S7) ![0] S1.size inb_S7_S1_0)).squeeze S_ squeezes_S1_S_).sem
  | (0, 1) => (((cc0_scratch1 : DmaSems sig S7).slice (Rect.unit (s := S7) ![1] S1.size inb_S7_S1_1)).squeeze S_ squeezes_S1_S_).sem
  | (0, 2) => (((cc0_scratch1 : DmaSems sig S7).slice (Rect.unit (s := S7) ![2] S1.size inb_S7_S1_2)).squeeze S_ squeezes_S1_S_).sem
  | (0, 3) => (((cc0_scratch1 : DmaSems sig S7).slice (Rect.unit (s := S7) ![3] S1.size inb_S7_S1_3)).squeeze S_ squeezes_S1_S_).sem
  | (0, 4) => (((cc0_scratch1 : DmaSems sig S7).slice (Rect.unit (s := S7) ![4] S1.size inb_S7_S1_4)).squeeze S_ squeezes_S1_S_).sem
  | (0, 5) => (((cc0_scratch1 : DmaSems sig S7).slice (Rect.unit (s := S7) ![5] S1.size inb_S7_S1_5)).squeeze S_ squeezes_S1_S_).sem
  | (0, 6) => (((cc0_scratch1 : DmaSems sig S7).slice (Rect.unit (s := S7) ![6] S1.size inb_S7_S1_6)).squeeze S_ squeezes_S1_S_).sem
def sL : Fin 1 → DmaSem sig
  | 0 => (((cc0_scratch2 : DmaSems sig S1).slice (Rect.unit (s := S1) ![0] S1.size inb_S1_S1_0)).squeeze S_ squeezes_S1_S_).sem

def wS (c : Dev nD) : Fin 1 × Fin 7 → TpuEff nD τ sig (Elt F) Λ₀ .tc PUnit
  | (0, 0) => .waitDma2 (sS (0, 0)) (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128) (Memref.whole main_arg0 : Memref sig .tc .hbm S1248x128 .f32) ((View.wordExact_bits rfl).reshape _ _) (Memref.isWhole_whole _).wordExact
  | (0, 1) => .waitDma2 (sS (0, 1)) (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128) (Memref.whole main_arg0 : Memref sig .tc .hbm S1248x128 .f32) ((View.wordExact_bits rfl).reshape _ _) (Memref.isWhole_whole _).wordExact
  | (0, 2) => .waitDma2 (sS (0, 2)) (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128) (Memref.whole main_arg0 : Memref sig .tc .hbm S1248x128 .f32) ((View.wordExact_bits rfl).reshape _ _) (Memref.isWhole_whole _).wordExact
  | (0, 3) => .waitDma2 (sS (0, 3)) (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128) (Memref.whole main_arg0 : Memref sig .tc .hbm S1248x128 .f32) ((View.wordExact_bits rfl).reshape _ _) (Memref.isWhole_whole _).wordExact
  | (0, 4) => .waitDma2 (sS (0, 4)) (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128) (Memref.whole main_arg0 : Memref sig .tc .hbm S1248x128 .f32) ((View.wordExact_bits rfl).reshape _ _) (Memref.isWhole_whole _).wordExact
  | (0, 5) => .waitDma2 (sS (0, 5)) (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128) (Memref.whole main_arg0 : Memref sig .tc .hbm S1248x128 .f32) ((View.wordExact_bits rfl).reshape _ _) (Memref.isWhole_whole _).wordExact
  | (0, 6) => .waitDma2 (sS (0, 6)) (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128) (Memref.whole main_arg0 : Memref sig .tc .hbm S1248x128 .f32) ((View.wordExact_bits rfl).reshape _ _) (Memref.isWhole_whole _).wordExact
def wR (c : Dev nD) : Fin 1 × Fin 7 → TpuEff nD τ sig (Elt F) Λ₀ .tc PUnit
  | (0, 0) => .waitDma2 (sR (0, 0)) (Memref.whole main_arg0 : Memref sig .tc .hbm S1248x128 .f32) (((Memref.whole main_v1 : Memref sig .tc .hbm S8x1248x128 .f32).slice (Rect.unit (s := S8x1248x128) (k0_off2 c) S1x1248x128.size (k0_off2_inb c)) (fun _ => rfl)).squeeze S1248x128 squeezes_S1x1248x128_S1248x128) (Memref.isWhole_whole _).wordExact ((View.wordExact_bits rfl).reshape _ _)
  | (0, 1) => .waitDma2 (sR (0, 1)) (Memref.whole main_arg0 : Memref sig .tc .hbm S1248x128 .f32) (((Memref.whole main_v1 : Memref sig .tc .hbm S8x1248x128 .f32).slice (Rect.unit (s := S8x1248x128) (k0_off3 c) S1x1248x128.size (k0_off3_inb c)) (fun _ => rfl)).squeeze S1248x128 squeezes_S1x1248x128_S1248x128) (Memref.isWhole_whole _).wordExact ((View.wordExact_bits rfl).reshape _ _)
  | (0, 2) => .waitDma2 (sR (0, 2)) (Memref.whole main_arg0 : Memref sig .tc .hbm S1248x128 .f32) (((Memref.whole main_v1 : Memref sig .tc .hbm S8x1248x128 .f32).slice (Rect.unit (s := S8x1248x128) (k0_off4 c) S1x1248x128.size (k0_off4_inb c)) (fun _ => rfl)).squeeze S1248x128 squeezes_S1x1248x128_S1248x128) (Memref.isWhole_whole _).wordExact ((View.wordExact_bits rfl).reshape _ _)
  | (0, 3) => .waitDma2 (sR (0, 3)) (Memref.whole main_arg0 : Memref sig .tc .hbm S1248x128 .f32) (((Memref.whole main_v1 : Memref sig .tc .hbm S8x1248x128 .f32).slice (Rect.unit (s := S8x1248x128) (k0_off5 c) S1x1248x128.size (k0_off5_inb c)) (fun _ => rfl)).squeeze S1248x128 squeezes_S1x1248x128_S1248x128) (Memref.isWhole_whole _).wordExact ((View.wordExact_bits rfl).reshape _ _)
  | (0, 4) => .waitDma2 (sR (0, 4)) (Memref.whole main_arg0 : Memref sig .tc .hbm S1248x128 .f32) (((Memref.whole main_v1 : Memref sig .tc .hbm S8x1248x128 .f32).slice (Rect.unit (s := S8x1248x128) (k0_off6 c) S1x1248x128.size (k0_off6_inb c)) (fun _ => rfl)).squeeze S1248x128 squeezes_S1x1248x128_S1248x128) (Memref.isWhole_whole _).wordExact ((View.wordExact_bits rfl).reshape _ _)
  | (0, 5) => .waitDma2 (sR (0, 5)) (Memref.whole main_arg0 : Memref sig .tc .hbm S1248x128 .f32) (((Memref.whole main_v1 : Memref sig .tc .hbm S8x1248x128 .f32).slice (Rect.unit (s := S8x1248x128) (k0_off7 c) S1x1248x128.size (k0_off7_inb c)) (fun _ => rfl)).squeeze S1248x128 squeezes_S1x1248x128_S1248x128) (Memref.isWhole_whole _).wordExact ((View.wordExact_bits rfl).reshape _ _)
  | (0, 6) => .waitDma2 (sR (0, 6)) (Memref.whole main_arg0 : Memref sig .tc .hbm S1248x128 .f32) (((Memref.whole main_v1 : Memref sig .tc .hbm S8x1248x128 .f32).slice (Rect.unit (s := S8x1248x128) (k0_off8 c) S1x1248x128.size (k0_off8_inb c)) (fun _ => rfl)).squeeze S1248x128 squeezes_S1x1248x128_S1248x128) (Memref.isWhole_whole _).wordExact ((View.wordExact_bits rfl).reshape _ _)
def wL (c : Dev nD) : Fin 1 → TpuEff nD τ sig (Elt F) Λ₀ .tc PUnit
  | 0 => .waitDma2 (sL 0) (Memref.whole main_arg0 : Memref sig .tc .hbm S1248x128 .f32) (((Memref.whole main_v1 : Memref sig .tc .hbm S8x1248x128 .f32).slice (Rect.unit (s := S8x1248x128) (k0_off1 c) S1x1248x128.size (k0_off1_inb c)) (fun _ => rfl)).squeeze S1248x128 squeezes_S1x1248x128_S1248x128) (Memref.isWhole_whole _).wordExact ((View.wordExact_bits rfl).reshape _ _)

theorem kept_pos (i : Fin 1) : 0 < (kept 0 i).dst.view.dmaCredit := View.dmaCredit_pos _ (by revert i; decide)

theorem sems_inj : Function.Injective (semOf sS sR sL) := by decide

/-- The exchange. -/
def X : Exch nD τ sig (Elt F) Λ₀ (Fin 1 × Fin 7) (Fin 1) where
  peer j := peer j.2
  peer_peer j c := peer_peer j.2 c
  rc := sent
  lc := kept
  sS := sS
  sR := sR
  sL := sL
  inj := sems_inj
  N j := (kept 0 j.1).dst.view.dmaCredit
  NL i := (kept 0 i).dst.view.dmaCredit
  N_pos j := kept_pos j.1
  NL_pos i := kept_pos i
  hN c j := by obtain ⟨a, k⟩ := j; exact match a with | 0 => rfl
  hNL c i := match i with | 0 => rfl
  qs j := part 3 7 rfl (.inl j.2)
  ql _ := part 3 7 rfl (.inr 0)
  wS := wS
  wR := wR
  wL := wL

set_option maxRecDepth 65536 in
theorem body_eq (t : Fin cfg0.N) : defs₀ (F := F) .tc cfg0.body (cfg0.bodyArgs t (cfg0.slots t)) = .op .deviceId fun d => X.prog [0] [(0, 0), (0, 1), (0, 2), (0, 3), (0, 4), (0, 5), (0, 6)] d := rfl

theorem own : Pipeline.OwnSemFacts (cfgs 0).spec (semOf sS sR sL) := by decide

end Exchange.Small

end
-- ==== Proof.SmallRun.lean ====
/-
  `gather_small_grads`: every device hands every other its array, each keeping all eight in slots.
  What every device holds before and after, and the run.
-/
module

public import proofs.«01_k».proof.Proof.Small

@[expose] public section

set_option Elab.async false

noncomputable section

namespace Exchange.Small

open Idealize.ShloMosaic Idealize.ShloMosaic.TcCoe
open Idealize.ShloMosaic.Pipeline (scopedRest)
open Idealize.SL
open Idealize.SL.BI (sProp bigSep bigSepL bigSep_congr)
open scoped Idealize.SL.BI
open Idealize.SL.BI.BIBase Idealize.SL.BI.Laws Idealize.SL.Sem Idealize.SL.ProofMode
open Idealize.SL.RA
open Cert.SmallIdeal Cert.SmallIdeal.Gen

variable {F : FTy → Type} [FloatOps F]

/-! ## Buffers -/

variable (m : (ℓ : Loc nD τ sig) → Buf (Elt F) ℓ) (g : Dev nD → PrngReg)

/-- What device `c` has of array 0 afterwards. -/
def got0 (c : Dev nD) : Buf (Elt F) ((c.tc : Thread nD τ).loc main_v1) := fun x : (⟨3, ![8, 1248, 128]⟩ : Shape).Idx => m ((holder c (x 0)).tc.loc main_arg0) (Fin.tail (α := fun b : Fin 3 => Fin (![8, 1248, 128] b)) x)

/-- The memory after the exchange. -/
def after : (ℓ : Loc nD τ sig) → Buf (Elt F) ℓ :=
  put m main_v1 (got0 m)

theorem after_out0 (c : Dev nD) : after m (c.tc.loc main_v1) = got0 m c := by
  unfold after; rw [put_self]
theorem after_in0 (c : Dev nD) : after m (c.tc.loc main_arg0) = m (c.tc.loc main_arg0) := by
  unfold after; rw [put_ne _ _ _ (by decide)]

def inB : Fin 1 → Ref sig .tc | 0 => main_arg0
def outB : Fin 1 → Ref sig .tc | 0 => main_v1

local notation "𝕄" => MT nD τ sig Unit (Elt F) ℕ (UR nD τ sig × UR nD τ sig) ℕ

theorem src_eq0 (f : (ℓ : Loc nD τ sig) → Buf (Elt F) ℓ) (c : Dev nD) : (((c.tc : Thread nD τ).loc main_arg0) ↦{fullShare} f ((c.tc : Thread nD τ).loc main_arg0) : sProp 𝕄)
    = iprop((bigSep Finset.univ fun k => X.srcPt f c (0, k)) ∗ X.lsrcPt f c 0) :=
  parts_pointsTo (ℓ := (c.tc : Thread nD τ).loc main_arg0) 3 7 rfl (View.whole main_arg0).set (View.set_whole _) (f ((c.tc : Thread nD τ).loc main_arg0))
theorem dst_eq0 (f : (ℓ : Loc nD τ sig) → Buf (Elt F) ℓ) (c : Dev nD) : (((c.tc : Thread nD τ).loc main_v1) ↦{fullShare} f ((c.tc : Thread nD τ).loc main_v1) : sProp 𝕄)
    = iprop((bigSep Finset.univ fun k => X.dstPt f (0, k) ((X (F := F)).peer (0, k) c) c) ∗ X.ldstPt f c 0) :=
  slots_pointsTo (M := 8) (d := ![1248, 128]) (View.whole main_v1) c (View.set_whole _) (fun k => k0_off1 (peer k c)) (k0_off1 c) (fun k => k0_off1_inb (peer k c))
    (k0_off1_inb c) squeezes_S1x1248x128_S1248x128.numel_eq (fun k => off_tail (peer k c)) (off_tail c) (off_inj c) (off_ne c) (off_all c)
    (f ((c.tc : Thread nD τ).loc main_v1))

theorem bufs_inj : Function.Injective (Sum.elim inB outB) := by decide

theorem arrays : (X (F := F)).Arrays inB outB where
  inj := bufs_inj
  all := by decide
  src f c a := match a with | 0 => src_eq0 f c
  dst f c a := match a with | 0 => dst_eq0 f c

theorem read_sent0 (c : Dev nD) (k : Fin 7) :
    ((X (F := F)).rc c (0, k)).dst.view.read (Elt F) (after m (((X (F := F)).rc c (0, k)).dst.view.loc (((X (F := F)).peer (0, k) c).tc : Thread nD τ)))
      = ((X (F := F)).rc c (0, k)).src.view.read (Elt F) (m (((X (F := F)).rc c (0, k)).src.view.loc (c.tc : Thread nD τ))) := by
  funext y
  refine (slot_read (M := 8) (d := ![1248, 128]) (View.whole main_v1) (k0_off1 c) (k0_off1_inb c) squeezes_S1x1248x128_S1248x128.numel_eq (place c) rfl (off_tail c)
    (after m ((peer k c).tc.loc main_v1)) y).trans ?_
  refine (congrFun (after_out0 m (peer k c)) (Fin.cons (α := fun b : Fin 3 => Fin (![8, 1248, 128] b)) (place c) y)).trans ?_
  have e := elt_at m main_arg0 (holder_place k c) y
  exact e.trans (rfl)
theorem read_kept0 (c : Dev nD) :
    ((X (F := F)).lc c 0).dst.view.read (Elt F) (after m (((X (F := F)).lc c 0).dst.view.loc (c.tc : Thread nD τ)))
      = ((X (F := F)).lc c 0).src.view.read (Elt F) (m (((X (F := F)).lc c 0).src.view.loc (c.tc : Thread nD τ))) := by
  funext y
  refine (slot_read (M := 8) (d := ![1248, 128]) (View.whole main_v1) (k0_off1 c) (k0_off1_inb c) squeezes_S1x1248x128_S1248x128.numel_eq (place c) rfl (off_tail c)
    (after m (c.tc.loc main_v1)) y).trans ?_
  refine (congrFun (after_out0 m c) (Fin.cons (α := fun b : Fin 3 => Fin (![8, 1248, 128] b)) (place c) y)).trans ?_
  have e := elt_at m main_arg0 (holder_own c) y
  exact e.trans (rfl)

/-- The exchange's facts. -/
theorem facts (𝒱₀ : Variants) : X.Facts m (after m) (fun _ => (emp : sProp 𝕄)) (defs₀ (F := F)) 𝒱₀ where
  hsplit := arrays.splits m
  hjoin := arrays.joins m (after m) (fun c a => match a with | 0 => after_in0 m c)
  hR c j := by
    obtain ⟨a, k⟩ := j
    exact match a with | 0 => read_sent0 m c k
  hL c i := match i with | 0 => read_kept0 m c
  hroute := by unfold Exch.Routes; decide
  hw := ⟨fun c j K => match j with | (0, 0) => rfl | (0, 1) => rfl | (0, 2) => rfl | (0, 3) => rfl | (0, 4) => rfl | (0, 5) => rfl | (0, 6) => rfl,
    fun c j K => match j with | (0, 0) => rfl | (0, 1) => rfl | (0, 2) => rfl | (0, 3) => rfl | (0, 4) => rfl | (0, 5) => rfl | (0, 6) => rfl,
    fun c i K => match i with | 0 => rfl⟩

/-- The run: every fair execution ends with every device's buffers as `after m` has them, every counter at zero. -/
theorem run_main : θ_run (defs (F := F)) (onTc main) ⟨m, fun _ => 0, g⟩ (fun r => (∀ c, Exch.Shows (after m) c r.2) ∧ r.2.sem = fun _ => 0) :=
  Exch.run X m (after m) g (fun _ => emp) cfgs defs₀ Variants.none cellOf_inj (facts m _) (fun | 0 => (inferInstance : IsEmpty (Fin 0)))
    (fun | 0 => N_0) winFacts0.to₀ own main (fun c => main_chain c) [0] [(0, 0), (0, 1), (0, 2), (0, 3), (0, 4), (0, 5), (0, 6)] (by decide) (by decide) (by decide) (by decide)
    (fun c t Q => by rw [show defs₀ .tc (cfgs 0).body ((cfgs 0).bodyArgs t ((cfgs 0).slots t)) = _ from body_eq t]) (by decide)

end Exchange.Small

end
-- ==== Proof.SmallClaims.lean ====
/-
  The claims about `gather_small_grads`.
-/
module

public import proofs.«01_k».proof.Defs
public import proofs.«01_k».proof.Proof.SmallRun
public import proofs.«01_k».proof.Proof.Blocks
public import proofs.«01_k».proof.Proof.Gen.Small
public import proofs.«01_k».proof.Proof.Gen.SmallRef
public import proofs.«01_k».proof.Proof.Gen.SmallRefIdeal.Run

@[expose] public section

set_option Elab.async false

noncomputable section

namespace Exchange.Small

open Idealize.ShloMosaic Idealize.ShloMosaic.TcCoe Idealize.SL.Sem

variable {F : FTy → Type} [FloatOps F]

/-- The run, argument by argument and result by result. -/
theorem run_read (m : (ℓ : Loc Cert.SmallIdeal.nD Cert.SmallIdeal.τ Cert.SmallIdeal.sig) → Buf (Elt F) ℓ) (g : Dev Cert.SmallIdeal.nD → PrngReg) :
    θ_run (Cert.SmallIdeal.defs (F := F)) (onTc (τ := Cert.SmallIdeal.τ) (Cert.SmallIdeal.main (F := F))) ⟨m, fun _ => 0, g⟩ (fun r => (∀ c : Dev Cert.SmallIdeal.nD,
      r.2.mem ((c.tc : Thread Cert.SmallIdeal.nD Cert.SmallIdeal.τ).loc Cert.SmallIdeal.main_v1) = got0 m c ∧
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0) :=
  (θ_run Cert.SmallIdeal.defs _ _).mono (fun _ h => ⟨fun c => ⟨(h.1 c Cert.SmallIdeal.main_v1 (by decide)).trans (after_out0 m c), (h.1 c Cert.SmallIdeal.main_arg0 (by decide)).trans (after_in0 m c)⟩, h.2⟩) (run_main m g)

theorem frame_smallIdeal : Cert.quiescent_SmallIdeal := fun m g _ =>
  (θ_run Cert.SmallIdeal.defs _ _).mono (fun _ h => ⟨fun c => (h.1 c).2, h.2⟩) (run_read (F := Ideal) m g)

theorem frame_small : Cert.quiescent_Small := fun m g _ =>
  (θ_run Cert.SmallIdeal.defs _ _).mono (fun _ h => ⟨fun c => (h.1 c).2, h.2⟩) (run_read (F := Bits) m g)

theorem frame_smallRefIdeal : Cert.quiescent_SmallRefIdeal := fun m g _ =>
  (θ_run Cert.SmallRefIdeal.defs _ _).mono (fun r h => ⟨fun c => (h c).2, sem_eq_zero_of_no_sems (by decide) r.2⟩)
    (Cert.SmallRefIdeal.Value.run (F := Ideal) m g)

theorem frame_smallRef : Cert.quiescent_SmallRef := fun m g _ =>
  (θ_run Cert.SmallRefIdeal.defs _ _).mono (fun r h => ⟨fun c => (h c).2, sem_eq_zero_of_no_sems (by decide) r.2⟩)
    (Cert.SmallRefIdeal.Value.run (F := Bits) m g)

theorem algebraic_small : Cert.algebraic_SmallIdeal_SmallRefIdeal := by
  intro m g m' g' _ h
  refine ⟨_, ?_, (θ_run Cert.SmallRefIdeal.defs _ _).mono (fun _ hr => hr 0) (Cert.SmallRefIdeal.Value.run (F := Ideal) m' g')⟩
  refine (θ_run Cert.SmallIdeal.defs _ _).mono (fun _ hr c => ?_) (run_read (F := Ideal) m g)
  obtain ⟨r0, ha⟩ := hr.1 c
  refine ⟨?_, ha⟩
  · refine (r0).trans (funext fun i => ?_)
    exact (congrFun (h (holder c (i 0))) _).trans (slots_rows _ _ _ i (holder c (i 0)) rfl).symm

theorem bitexact_small : Cert.bitexact_Small_SmallRef := by
  intro m g m' g' _ h
  refine ⟨_, ?_, (θ_run Cert.SmallRefIdeal.defs _ _).mono (fun _ hr => hr 0) (Cert.SmallRefIdeal.Value.run (F := Bits) m' g')⟩
  refine (θ_run Cert.SmallIdeal.defs _ _).mono (fun _ hr c => ?_) (run_read (F := Bits) m g)
  obtain ⟨r0, ha⟩ := hr.1 c
  refine ⟨?_, ha⟩
  · refine (r0).trans (funext fun i => ?_)
    exact (congrFun (h (holder c (i 0))) _).trans (slots_rows _ _ _ i (holder c (i 0)) rfl).symm

end Exchange.Small

end
-- ==== Proof.Mod.lean ====
/-
  `gather_mod`: every device hands every other its array, each keeping all eight in slots.
  The instance of the exchange, and its run.
-/
module

public import proofs.«01_k».proof.Proof.Gen.ModIdeal.Launch
public import proofs.«01_k».proof.Proof.Slots
public import proofs.«01_k».proof.Proof.Values

@[expose] public section

set_option Elab.async false

noncomputable section

namespace Exchange.Mod

open Idealize.ShloMosaic Idealize.ShloMosaic.TcCoe
open Idealize.ShloMosaic.Pipeline (scopedRest)
open Idealize.SL
open Idealize.SL.BI (sProp bigSep bigSepL)
open scoped Idealize.SL.BI
open Idealize.SL.BI.BIBase Idealize.SL.BI.Laws Idealize.SL.Sem Idealize.SL.ProofMode
open Idealize.SL.RA
open Cert.ModIdeal Cert.ModIdeal.Gen

variable {F : FTy → Type} [FloatOps F]

/-! ## Places -/

/-- The other devices a device deals with. -/
def peer : Fin 7 → Dev nD → Dev nD
  | 0, d0 => ⟨k0_dev1 d0, k0_dev1_lt d0⟩
  | 1, d0 => ⟨k0_dev2 d0, k0_dev2_lt d0⟩
  | 2, d0 => ⟨k0_dev3 d0, k0_dev3_lt d0⟩
  | 3, d0 => ⟨k0_dev4 d0, k0_dev4_lt d0⟩
  | 4, d0 => ⟨k0_dev5 d0, k0_dev5_lt d0⟩
  | 5, d0 => ⟨k0_dev6 d0, k0_dev6_lt d0⟩
  | 6, d0 => ⟨k0_dev7 d0, k0_dev7_lt d0⟩

theorem peer_peer : ∀ k c, peer k (peer k c) = c := by decide

/-- The slot a device's arrays go to. -/
def place (c : Dev nD) : Fin 8 := ⟨k0_off1 c 0, by revert c; decide⟩

/-- The device whose arrays are in slot `i` of device `c`. -/
def holder (c : Dev nD) (i : Fin 8) : Dev nD := ⟨i.val, by revert c i; decide⟩

theorem holder_place : ∀ k c, holder (peer k c) (place c) = c := by decide
theorem holder_own : ∀ c, holder c (place c) = c := by decide
theorem off_tail : ∀ c, ∀ a : Fin 3, k0_off1 c a.succ = 0 := by decide
theorem off_inj : ∀ c k k', k0_off1 (peer k c) 0 = k0_off1 (peer k' c) 0 → k = k' := by decide
theorem off_ne : ∀ c k, k0_off1 (peer k c) 0 ≠ k0_off1 c 0 := by decide
theorem off_all : ∀ c, ∀ i : Fin 8, (∃ k, k0_off1 (peer k c) 0 = i.val) ∨ k0_off1 c 0 = i.val := by decide

/-! ## Copies and counters -/

/-- Array by array, what a device sends. -/
def sent (c : Dev nD) : Fin 1 × Fin 7 → Copy sig
  | (0, _) => ⟨S2x8x768, .f32, (Memref.whole main_arg0 : Memref sig .tc .hbm S2x8x768 .f32), (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768), (Memref.isWhole_whole _).wordExact, ((View.wordExact_bits rfl).reshape _ _), rfl⟩

/-- Array by array, what a device keeps. -/
def kept (c : Dev nD) : Fin 1 → Copy sig
  | 0 => ⟨S2x8x768, .f32, (Memref.whole main_arg0 : Memref sig .tc .hbm S2x8x768 .f32), (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768), (Memref.isWhole_whole _).wordExact, ((View.wordExact_bits rfl).reshape _ _), rfl⟩

def sS : Fin 1 × Fin 7 → DmaSem sig
  | (0, 0) => (((cc0_scratch0 : DmaSems sig S7).slice (Rect.unit (s := S7) ![0] S1.size inb_S7_S1_0)).squeeze S_ squeezes_S1_S_).sem
  | (0, 1) => (((cc0_scratch0 : DmaSems sig S7).slice (Rect.unit (s := S7) ![1] S1.size inb_S7_S1_1)).squeeze S_ squeezes_S1_S_).sem
  | (0, 2) => (((cc0_scratch0 : DmaSems sig S7).slice (Rect.unit (s := S7) ![2] S1.size inb_S7_S1_2)).squeeze S_ squeezes_S1_S_).sem
  | (0, 3) => (((cc0_scratch0 : DmaSems sig S7).slice (Rect.unit (s := S7) ![3] S1.size inb_S7_S1_3)).squeeze S_ squeezes_S1_S_).sem
  | (0, 4) => (((cc0_scratch0 : DmaSems sig S7).slice (Rect.unit (s := S7) ![4] S1.size inb_S7_S1_4)).squeeze S_ squeezes_S1_S_).sem
  | (0, 5) => (((cc0_scratch0 : DmaSems sig S7).slice (Rect.unit (s := S7) ![5] S1.size inb_S7_S1_5)).squeeze S_ squeezes_S1_S_).sem
  | (0, 6) => (((cc0_scratch0 : DmaSems sig S7).slice (Rect.unit (s := S7) ![6] S1.size inb_S7_S1_6)).squeeze S_ squeezes_S1_S_).sem
def sR : Fin 1 × Fin 7 → DmaSem sig
  | (0, 0) => (((cc0_scratch1 : DmaSems sig S7).slice (Rect.unit (s := S7) ![0] S1.size inb_S7_S1_0)).squeeze S_ squeezes_S1_S_).sem
  | (0, 1) => (((cc0_scratch1 : DmaSems sig S7).slice (Rect.unit (s := S7) ![1] S1.size inb_S7_S1_1)).squeeze S_ squeezes_S1_S_).sem
  | (0, 2) => (((cc0_scratch1 : DmaSems sig S7).slice (Rect.unit (s := S7) ![2] S1.size inb_S7_S1_2)).squeeze S_ squeezes_S1_S_).sem
  | (0, 3) => (((cc0_scratch1 : DmaSems sig S7).slice (Rect.unit (s := S7) ![3] S1.size inb_S7_S1_3)).squeeze S_ squeezes_S1_S_).sem
  | (0, 4) => (((cc0_scratch1 : DmaSems sig S7).slice (Rect.unit (s := S7) ![4] S1.size inb_S7_S1_4)).squeeze S_ squeezes_S1_S_).sem
  | (0, 5) => (((cc0_scratch1 : DmaSems sig S7).slice (Rect.unit (s := S7) ![5] S1.size inb_S7_S1_5)).squeeze S_ squeezes_S1_S_).sem
  | (0, 6) => (((cc0_scratch1 : DmaSems sig S7).slice (Rect.unit (s := S7) ![6] S1.size inb_S7_S1_6)).squeeze S_ squeezes_S1_S_).sem
def sL : Fin 1 → DmaSem sig
  | 0 => (((cc0_scratch2 : DmaSems sig S1).slice (Rect.unit (s := S1) ![0] S1.size inb_S1_S1_0)).squeeze S_ squeezes_S1_S_).sem

def wS (c : Dev nD) : Fin 1 × Fin 7 → TpuEff nD τ sig (Elt F) Λ₀ .tc PUnit
  | (0, 0) => .waitDma2 (sS (0, 0)) (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768) (Memref.whole main_arg0 : Memref sig .tc .hbm S2x8x768 .f32) ((View.wordExact_bits rfl).reshape _ _) (Memref.isWhole_whole _).wordExact
  | (0, 1) => .waitDma2 (sS (0, 1)) (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768) (Memref.whole main_arg0 : Memref sig .tc .hbm S2x8x768 .f32) ((View.wordExact_bits rfl).reshape _ _) (Memref.isWhole_whole _).wordExact
  | (0, 2) => .waitDma2 (sS (0, 2)) (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768) (Memref.whole main_arg0 : Memref sig .tc .hbm S2x8x768 .f32) ((View.wordExact_bits rfl).reshape _ _) (Memref.isWhole_whole _).wordExact
  | (0, 3) => .waitDma2 (sS (0, 3)) (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768) (Memref.whole main_arg0 : Memref sig .tc .hbm S2x8x768 .f32) ((View.wordExact_bits rfl).reshape _ _) (Memref.isWhole_whole _).wordExact
  | (0, 4) => .waitDma2 (sS (0, 4)) (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768) (Memref.whole main_arg0 : Memref sig .tc .hbm S2x8x768 .f32) ((View.wordExact_bits rfl).reshape _ _) (Memref.isWhole_whole _).wordExact
  | (0, 5) => .waitDma2 (sS (0, 5)) (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768) (Memref.whole main_arg0 : Memref sig .tc .hbm S2x8x768 .f32) ((View.wordExact_bits rfl).reshape _ _) (Memref.isWhole_whole _).wordExact
  | (0, 6) => .waitDma2 (sS (0, 6)) (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768) (Memref.whole main_arg0 : Memref sig .tc .hbm S2x8x768 .f32) ((View.wordExact_bits rfl).reshape _ _) (Memref.isWhole_whole _).wordExact
def wR (c : Dev nD) : Fin 1 × Fin 7 → TpuEff nD τ sig (Elt F) Λ₀ .tc PUnit
  | (0, 0) => .waitDma2 (sR (0, 0)) (Memref.whole main_arg0 : Memref sig .tc .hbm S2x8x768 .f32) (((Memref.whole main_v1 : Memref sig .tc .hbm S8x2x8x768 .f32).slice (Rect.unit (s := S8x2x8x768) (k0_off2 c) S1x2x8x768.size (k0_off2_inb c)) (fun _ => rfl)).squeeze S2x8x768 squeezes_S1x2x8x768_S2x8x768) (Memref.isWhole_whole _).wordExact ((View.wordExact_bits rfl).reshape _ _)
  | (0, 1) => .waitDma2 (sR (0, 1)) (Memref.whole main_arg0 : Memref sig .tc .hbm S2x8x768 .f32) (((Memref.whole main_v1 : Memref sig .tc .hbm S8x2x8x768 .f32).slice (Rect.unit (s := S8x2x8x768) (k0_off3 c) S1x2x8x768.size (k0_off3_inb c)) (fun _ => rfl)).squeeze S2x8x768 squeezes_S1x2x8x768_S2x8x768) (Memref.isWhole_whole _).wordExact ((View.wordExact_bits rfl).reshape _ _)
  | (0, 2) => .waitDma2 (sR (0, 2)) (Memref.whole main_arg0 : Memref sig .tc .hbm S2x8x768 .f32) (((Memref.whole main_v1 : Memref sig .tc .hbm S8x2x8x768 .f32).slice (Rect.unit (s := S8x2x8x768) (k0_off4 c) S1x2x8x768.size (k0_off4_inb c)) (fun _ => rfl)).squeeze S2x8x768 squeezes_S1x2x8x768_S2x8x768) (Memref.isWhole_whole _).wordExact ((View.wordExact_bits rfl).reshape _ _)
  | (0, 3) => .waitDma2 (sR (0, 3)) (Memref.whole main_arg0 : Memref sig .tc .hbm S2x8x768 .f32) (((Memref.whole main_v1 : Memref sig .tc .hbm S8x2x8x768 .f32).slice (Rect.unit (s := S8x2x8x768) (k0_off5 c) S1x2x8x768.size (k0_off5_inb c)) (fun _ => rfl)).squeeze S2x8x768 squeezes_S1x2x8x768_S2x8x768) (Memref.isWhole_whole _).wordExact ((View.wordExact_bits rfl).reshape _ _)
  | (0, 4) => .waitDma2 (sR (0, 4)) (Memref.whole main_arg0 : Memref sig .tc .hbm S2x8x768 .f32) (((Memref.whole main_v1 : Memref sig .tc .hbm S8x2x8x768 .f32).slice (Rect.unit (s := S8x2x8x768) (k0_off6 c) S1x2x8x768.size (k0_off6_inb c)) (fun _ => rfl)).squeeze S2x8x768 squeezes_S1x2x8x768_S2x8x768) (Memref.isWhole_whole _).wordExact ((View.wordExact_bits rfl).reshape _ _)
  | (0, 5) => .waitDma2 (sR (0, 5)) (Memref.whole main_arg0 : Memref sig .tc .hbm S2x8x768 .f32) (((Memref.whole main_v1 : Memref sig .tc .hbm S8x2x8x768 .f32).slice (Rect.unit (s := S8x2x8x768) (k0_off7 c) S1x2x8x768.size (k0_off7_inb c)) (fun _ => rfl)).squeeze S2x8x768 squeezes_S1x2x8x768_S2x8x768) (Memref.isWhole_whole _).wordExact ((View.wordExact_bits rfl).reshape _ _)
  | (0, 6) => .waitDma2 (sR (0, 6)) (Memref.whole main_arg0 : Memref sig .tc .hbm S2x8x768 .f32) (((Memref.whole main_v1 : Memref sig .tc .hbm S8x2x8x768 .f32).slice (Rect.unit (s := S8x2x8x768) (k0_off8 c) S1x2x8x768.size (k0_off8_inb c)) (fun _ => rfl)).squeeze S2x8x768 squeezes_S1x2x8x768_S2x8x768) (Memref.isWhole_whole _).wordExact ((View.wordExact_bits rfl).reshape _ _)
def wL (c : Dev nD) : Fin 1 → TpuEff nD τ sig (Elt F) Λ₀ .tc PUnit
  | 0 => .waitDma2 (sL 0) (Memref.whole main_arg0 : Memref sig .tc .hbm S2x8x768 .f32) (((Memref.whole main_v1 : Memref sig .tc .hbm S8x2x8x768 .f32).slice (Rect.unit (s := S8x2x8x768) (k0_off1 c) S1x2x8x768.size (k0_off1_inb c)) (fun _ => rfl)).squeeze S2x8x768 squeezes_S1x2x8x768_S2x8x768) (Memref.isWhole_whole _).wordExact ((View.wordExact_bits rfl).reshape _ _)

theorem kept_pos (i : Fin 1) : 0 < (kept 0 i).dst.view.dmaCredit := View.dmaCredit_pos _ (by revert i; decide)

theorem sems_inj : Function.Injective (semOf sS sR sL) := by decide

/-- The exchange. -/
def X : Exch nD τ sig (Elt F) Λ₀ (Fin 1 × Fin 7) (Fin 1) where
  peer j := peer j.2
  peer_peer j c := peer_peer j.2 c
  rc := sent
  lc := kept
  sS := sS
  sR := sR
  sL := sL
  inj := sems_inj
  N j := (kept 0 j.1).dst.view.dmaCredit
  NL i := (kept 0 i).dst.view.dmaCredit
  N_pos j := kept_pos j.1
  NL_pos i := kept_pos i
  hN c j := by obtain ⟨a, k⟩ := j; exact match a with | 0 => rfl
  hNL c i := match i with | 0 => rfl
  qs j := part 3 7 rfl (.inl j.2)
  ql _ := part 3 7 rfl (.inr 0)
  wS := wS
  wR := wR
  wL := wL

set_option maxRecDepth 65536 in
theorem body_eq (t : Fin cfg0.N) : defs₀ (F := F) .tc cfg0.body (cfg0.bodyArgs t (cfg0.slots t)) = .op .deviceId fun d => X.prog [0] [(0, 0), (0, 1), (0, 2), (0, 3), (0, 4), (0, 5), (0, 6)] d := rfl

theorem own : Pipeline.OwnSemFacts (cfgs 0).spec (semOf sS sR sL) := by decide

end Exchange.Mod

end
-- ==== Proof.ModRun.lean ====
/-
  `gather_mod`: every device hands every other its array, each keeping all eight in slots.
  What every device holds before and after, and the run.
-/
module

public import proofs.«01_k».proof.Proof.Mod

@[expose] public section

set_option Elab.async false

noncomputable section

namespace Exchange.Mod

open Idealize.ShloMosaic Idealize.ShloMosaic.TcCoe
open Idealize.ShloMosaic.Pipeline (scopedRest)
open Idealize.SL
open Idealize.SL.BI (sProp bigSep bigSepL bigSep_congr)
open scoped Idealize.SL.BI
open Idealize.SL.BI.BIBase Idealize.SL.BI.Laws Idealize.SL.Sem Idealize.SL.ProofMode
open Idealize.SL.RA
open Cert.ModIdeal Cert.ModIdeal.Gen

variable {F : FTy → Type} [FloatOps F]

/-! ## Buffers -/

variable (m : (ℓ : Loc nD τ sig) → Buf (Elt F) ℓ) (g : Dev nD → PrngReg)

/-- What device `c` has of array 0 afterwards. -/
def got0 (c : Dev nD) : Buf (Elt F) ((c.tc : Thread nD τ).loc main_v1) := fun x : (⟨4, ![8, 2, 8, 768]⟩ : Shape).Idx => m ((holder c (x 0)).tc.loc main_arg0) (Fin.tail (α := fun b : Fin 4 => Fin (![8, 2, 8, 768] b)) x)

/-- The memory after the exchange. -/
def after : (ℓ : Loc nD τ sig) → Buf (Elt F) ℓ :=
  put m main_v1 (got0 m)

theorem after_out0 (c : Dev nD) : after m (c.tc.loc main_v1) = got0 m c := by
  unfold after; rw [put_self]
theorem after_in0 (c : Dev nD) : after m (c.tc.loc main_arg0) = m (c.tc.loc main_arg0) := by
  unfold after; rw [put_ne _ _ _ (by decide)]

def inB : Fin 1 → Ref sig .tc | 0 => main_arg0
def outB : Fin 1 → Ref sig .tc | 0 => main_v1

local notation "𝕄" => MT nD τ sig Unit (Elt F) ℕ (UR nD τ sig × UR nD τ sig) ℕ

theorem src_eq0 (f : (ℓ : Loc nD τ sig) → Buf (Elt F) ℓ) (c : Dev nD) : (((c.tc : Thread nD τ).loc main_arg0) ↦{fullShare} f ((c.tc : Thread nD τ).loc main_arg0) : sProp 𝕄)
    = iprop((bigSep Finset.univ fun k => X.srcPt f c (0, k)) ∗ X.lsrcPt f c 0) :=
  parts_pointsTo (ℓ := (c.tc : Thread nD τ).loc main_arg0) 3 7 rfl (View.whole main_arg0).set (View.set_whole _) (f ((c.tc : Thread nD τ).loc main_arg0))
theorem dst_eq0 (f : (ℓ : Loc nD τ sig) → Buf (Elt F) ℓ) (c : Dev nD) : (((c.tc : Thread nD τ).loc main_v1) ↦{fullShare} f ((c.tc : Thread nD τ).loc main_v1) : sProp 𝕄)
    = iprop((bigSep Finset.univ fun k => X.dstPt f (0, k) ((X (F := F)).peer (0, k) c) c) ∗ X.ldstPt f c 0) :=
  slots_pointsTo (M := 8) (d := ![2, 8, 768]) (View.whole main_v1) c (View.set_whole _) (fun k => k0_off1 (peer k c)) (k0_off1 c) (fun k => k0_off1_inb (peer k c))
    (k0_off1_inb c) squeezes_S1x2x8x768_S2x8x768.numel_eq (fun k => off_tail (peer k c)) (off_tail c) (off_inj c) (off_ne c) (off_all c)
    (f ((c.tc : Thread nD τ).loc main_v1))

theorem bufs_inj : Function.Injective (Sum.elim inB outB) := by decide

theorem arrays : (X (F := F)).Arrays inB outB where
  inj := bufs_inj
  all := by decide
  src f c a := match a with | 0 => src_eq0 f c
  dst f c a := match a with | 0 => dst_eq0 f c

theorem read_sent0 (c : Dev nD) (k : Fin 7) :
    ((X (F := F)).rc c (0, k)).dst.view.read (Elt F) (after m (((X (F := F)).rc c (0, k)).dst.view.loc (((X (F := F)).peer (0, k) c).tc : Thread nD τ)))
      = ((X (F := F)).rc c (0, k)).src.view.read (Elt F) (m (((X (F := F)).rc c (0, k)).src.view.loc (c.tc : Thread nD τ))) := by
  funext y
  refine (slot_read (M := 8) (d := ![2, 8, 768]) (View.whole main_v1) (k0_off1 c) (k0_off1_inb c) squeezes_S1x2x8x768_S2x8x768.numel_eq (place c) rfl (off_tail c)
    (after m ((peer k c).tc.loc main_v1)) y).trans ?_
  refine (congrFun (after_out0 m (peer k c)) (Fin.cons (α := fun b : Fin 4 => Fin (![8, 2, 8, 768] b)) (place c) y)).trans ?_
  have e := elt_at m main_arg0 (holder_place k c) y
  exact e.trans (rfl)
theorem read_kept0 (c : Dev nD) :
    ((X (F := F)).lc c 0).dst.view.read (Elt F) (after m (((X (F := F)).lc c 0).dst.view.loc (c.tc : Thread nD τ)))
      = ((X (F := F)).lc c 0).src.view.read (Elt F) (m (((X (F := F)).lc c 0).src.view.loc (c.tc : Thread nD τ))) := by
  funext y
  refine (slot_read (M := 8) (d := ![2, 8, 768]) (View.whole main_v1) (k0_off1 c) (k0_off1_inb c) squeezes_S1x2x8x768_S2x8x768.numel_eq (place c) rfl (off_tail c)
    (after m (c.tc.loc main_v1)) y).trans ?_
  refine (congrFun (after_out0 m c) (Fin.cons (α := fun b : Fin 4 => Fin (![8, 2, 8, 768] b)) (place c) y)).trans ?_
  have e := elt_at m main_arg0 (holder_own c) y
  exact e.trans (rfl)

/-- The exchange's facts. -/
theorem facts (𝒱₀ : Variants) : X.Facts m (after m) (fun _ => (emp : sProp 𝕄)) (defs₀ (F := F)) 𝒱₀ where
  hsplit := arrays.splits m
  hjoin := arrays.joins m (after m) (fun c a => match a with | 0 => after_in0 m c)
  hR c j := by
    obtain ⟨a, k⟩ := j
    exact match a with | 0 => read_sent0 m c k
  hL c i := match i with | 0 => read_kept0 m c
  hroute := by unfold Exch.Routes; decide
  hw := ⟨fun c j K => match j with | (0, 0) => rfl | (0, 1) => rfl | (0, 2) => rfl | (0, 3) => rfl | (0, 4) => rfl | (0, 5) => rfl | (0, 6) => rfl,
    fun c j K => match j with | (0, 0) => rfl | (0, 1) => rfl | (0, 2) => rfl | (0, 3) => rfl | (0, 4) => rfl | (0, 5) => rfl | (0, 6) => rfl,
    fun c i K => match i with | 0 => rfl⟩

/-- The run: every fair execution ends with every device's buffers as `after m` has them, every counter at zero. -/
theorem run_main : θ_run (defs (F := F)) (onTc main) ⟨m, fun _ => 0, g⟩ (fun r => (∀ c, Exch.Shows (after m) c r.2) ∧ r.2.sem = fun _ => 0) :=
  Exch.run X m (after m) g (fun _ => emp) cfgs defs₀ Variants.none cellOf_inj (facts m _) (fun | 0 => (inferInstance : IsEmpty (Fin 0)))
    (fun | 0 => N_0) winFacts0.to₀ own main (fun c => main_chain c) [0] [(0, 0), (0, 1), (0, 2), (0, 3), (0, 4), (0, 5), (0, 6)] (by decide) (by decide) (by decide) (by decide)
    (fun c t Q => by rw [show defs₀ .tc (cfgs 0).body ((cfgs 0).bodyArgs t ((cfgs 0).slots t)) = _ from body_eq t]) (by decide)

end Exchange.Mod

end
-- ==== Proof.ModClaims.lean ====
/-
  The claims about `gather_mod`.
-/
module

public import proofs.«01_k».proof.Defs
public import proofs.«01_k».proof.Proof.ModRun
public import proofs.«01_k».proof.Proof.Blocks
public import proofs.«01_k».proof.Proof.Gen.Mod
public import proofs.«01_k».proof.Proof.Gen.ModRef
public import proofs.«01_k».proof.Proof.Gen.ModRefIdeal.Run

@[expose] public section

set_option Elab.async false

noncomputable section

namespace Exchange.Mod

open Idealize.ShloMosaic Idealize.ShloMosaic.TcCoe Idealize.SL.Sem

variable {F : FTy → Type} [FloatOps F]

/-- The run, argument by argument and result by result. -/
theorem run_read (m : (ℓ : Loc Cert.ModIdeal.nD Cert.ModIdeal.τ Cert.ModIdeal.sig) → Buf (Elt F) ℓ) (g : Dev Cert.ModIdeal.nD → PrngReg) :
    θ_run (Cert.ModIdeal.defs (F := F)) (onTc (τ := Cert.ModIdeal.τ) (Cert.ModIdeal.main (F := F))) ⟨m, fun _ => 0, g⟩ (fun r => (∀ c : Dev Cert.ModIdeal.nD,
      r.2.mem ((c.tc : Thread Cert.ModIdeal.nD Cert.ModIdeal.τ).loc Cert.ModIdeal.main_v1) = got0 m c ∧
      r.2.mem ((c.tc : Thread Cert.ModIdeal.nD Cert.ModIdeal.τ).loc Cert.ModIdeal.main_arg0) = m ((c.tc : Thread Cert.ModIdeal.nD Cert.ModIdeal.τ).loc Cert.ModIdeal.main_arg0))
      ∧ r.2.sem = fun _ => 0) :=
  (θ_run Cert.ModIdeal.defs _ _).mono (fun _ h => ⟨fun c => ⟨(h.1 c Cert.ModIdeal.main_v1 (by decide)).trans (after_out0 m c), (h.1 c Cert.ModIdeal.main_arg0 (by decide)).trans (after_in0 m c)⟩, h.2⟩) (run_main m g)

theorem frame_modIdeal : Cert.quiescent_ModIdeal := fun m g _ =>
  (θ_run Cert.ModIdeal.defs _ _).mono (fun _ h => ⟨fun c => (h.1 c).2, h.2⟩) (run_read (F := Ideal) m g)

theorem frame_mod : Cert.quiescent_Mod := fun m g _ =>
  (θ_run Cert.ModIdeal.defs _ _).mono (fun _ h => ⟨fun c => (h.1 c).2, h.2⟩) (run_read (F := Bits) m g)

theorem frame_modRefIdeal : Cert.quiescent_ModRefIdeal := fun m g _ =>
  (θ_run Cert.ModRefIdeal.defs _ _).mono (fun r h => ⟨fun c => (h c).2, sem_eq_zero_of_no_sems (by decide) r.2⟩)
    (Cert.ModRefIdeal.Value.run (F := Ideal) m g)

theorem frame_modRef : Cert.quiescent_ModRef := fun m g _ =>
  (θ_run Cert.ModRefIdeal.defs _ _).mono (fun r h => ⟨fun c => (h c).2, sem_eq_zero_of_no_sems (by decide) r.2⟩)
    (Cert.ModRefIdeal.Value.run (F := Bits) m g)

theorem algebraic_mod : Cert.algebraic_ModIdeal_ModRefIdeal := by
  intro m g m' g' _ h
  refine ⟨_, ?_, (θ_run Cert.ModRefIdeal.defs _ _).mono (fun _ hr => hr 0) (Cert.ModRefIdeal.Value.run (F := Ideal) m' g')⟩
  refine (θ_run Cert.ModIdeal.defs _ _).mono (fun _ hr c => ?_) (run_read (F := Ideal) m g)
  obtain ⟨r0, ha⟩ := hr.1 c
  refine ⟨?_, ha⟩
  · refine (r0).trans (funext fun i => ?_)
    exact (congrFun (h (holder c (i 0))) _).trans (slots_mats _ _ _ i (holder c (i 0)) rfl).symm

theorem bitexact_mod : Cert.bitexact_Mod_ModRef := by
  intro m g m' g' _ h
  refine ⟨_, ?_, (θ_run Cert.ModRefIdeal.defs _ _).mono (fun _ hr => hr 0) (Cert.ModRefIdeal.Value.run (F := Bits) m' g')⟩
  refine (θ_run Cert.ModIdeal.defs _ _).mono (fun _ hr c => ?_) (run_read (F := Bits) m g)
  obtain ⟨r0, ha⟩ := hr.1 c
  refine ⟨?_, ha⟩
  · refine (r0).trans (funext fun i => ?_)
    exact (congrFun (h (holder c (i 0))) _).trans (slots_mats _ _ _ i (holder c (i 0)) rfl).symm

end Exchange.Mod

end
-- ==== Proof.First.lean ====
/-
  `gather_c_conv`: every device hands every other its array, each keeping all eight in slots.
  The instance of the exchange, and its run.
-/
module

public import proofs.«01_k».proof.Proof.Gen.FirstIdeal.Launch
public import proofs.«01_k».proof.Proof.Slots
public import proofs.«01_k».proof.Proof.Values

@[expose] public section

set_option Elab.async false

noncomputable section

namespace Exchange.First

open Idealize.ShloMosaic Idealize.ShloMosaic.TcCoe
open Idealize.ShloMosaic.Pipeline (scopedRest)
open Idealize.SL
open Idealize.SL.BI (sProp bigSep bigSepL)
open scoped Idealize.SL.BI
open Idealize.SL.BI.BIBase Idealize.SL.BI.Laws Idealize.SL.Sem Idealize.SL.ProofMode
open Idealize.SL.RA
open Cert.FirstIdeal Cert.FirstIdeal.Gen

variable {F : FTy → Type} [FloatOps F]

/-! ## Places -/

/-- The other devices a device deals with. -/
def peer : Fin 7 → Dev nD → Dev nD
  | 0, d0 => ⟨k0_dev1 d0, k0_dev1_lt d0⟩
  | 1, d0 => ⟨k0_dev2 d0, k0_dev2_lt d0⟩
  | 2, d0 => ⟨k0_dev3 d0, k0_dev3_lt d0⟩
  | 3, d0 => ⟨k0_dev4 d0, k0_dev4_lt d0⟩
  | 4, d0 => ⟨k0_dev5 d0, k0_dev5_lt d0⟩
  | 5, d0 => ⟨k0_dev6 d0, k0_dev6_lt d0⟩
  | 6, d0 => ⟨k0_dev7 d0, k0_dev7_lt d0⟩

theorem peer_peer : ∀ k c, peer k (peer k c) = c := by decide

/-- The slot a device's arrays go to. -/
def place (c : Dev nD) : Fin 8 := ⟨k0_off1 c 0, by revert c; decide⟩

/-- The device whose arrays are in slot `i` of device `c`. -/
def holder (c : Dev nD) (i : Fin 8) : Dev nD := ⟨i.val, by revert c i; decide⟩

theorem holder_place : ∀ k c, holder (peer k c) (place c) = c := by decide
theorem holder_own : ∀ c, holder c (place c) = c := by decide
theorem off_tail : ∀ c, ∀ a : Fin 2, k0_off1 c a.succ = 0 := by decide
theorem off_inj : ∀ c k k', k0_off1 (peer k c) 0 = k0_off1 (peer k' c) 0 → k = k' := by decide
theorem off_ne : ∀ c k, k0_off1 (peer k c) 0 ≠ k0_off1 c 0 := by decide
theorem off_all : ∀ c, ∀ i : Fin 8, (∃ k, k0_off1 (peer k c) 0 = i.val) ∨ k0_off1 c 0 = i.val := by decide

/-! ## Copies and counters -/

/-- Array by array, what a device sends. -/
def sent (c : Dev nD) : Fin 1 × Fin 7 → Copy sig
  | (0, _) => ⟨S32x128, .f32, (Memref.whole main_arg0 : Memref sig .tc .hbm S32x128 .f32), (((Memref.whole main_v1 : Memref sig .tc .hbm S8x32x128 .f32).slice (Rect.unit (s := S8x32x128) (k0_off1 c) S1x32x128.size (k0_off1_inb c)) (fun _ => rfl)).squeeze S32x128 squeezes_S1x32x128_S32x128), (Memref.isWhole_whole _).wordExact, ((View.wordExact_bits rfl).reshape _ _), rfl⟩

/-- Array by array, what a device keeps. -/
def kept (c : Dev nD) : Fin 1 → Copy sig
  | 0 => ⟨S32x128, .f32, (Memref.whole main_arg0 : Memref sig .tc .hbm S32x128 .f32), (((Memref.whole main_v1 : Memref sig .tc .hbm S8x32x128 .f32).slice (Rect.unit (s := S8x32x128) (k0_off1 c) S1x32x128.size (k0_off1_inb c)) (fun _ => rfl)).squeeze S32x128 squeezes_S1x32x128_S32x128), (Memref.isWhole_whole _).wordExact, ((View.wordExact_bits rfl).reshape _ _), rfl⟩

def sS : Fin 1 × Fin 7 → DmaSem sig
  | (0, 0) => (((cc0_scratch0 : DmaSems sig S7).slice (Rect.unit (s := S7) ![0] S1.size inb_S7_S1_0)).squeeze S_ squeezes_S1_S_).sem
  | (0, 1) => (((cc0_scratch0 : DmaSems sig S7).slice (Rect.unit (s := S7) ![1] S1.size inb_S7_S1_1)).squeeze S_ squeezes_S1_S_).sem
  | (0, 2) => (((cc0_scratch0 : DmaSems sig S7).slice (Rect.unit (s := S7) ![2] S1.size inb_S7_S1_2)).squeeze S_ squeezes_S1_S_).sem
  | (0, 3) => (((cc0_scratch0 : DmaSems sig S7).slice (Rect.unit (s := S7) ![3] S1.size inb_S7_S1_3)).squeeze S_ squeezes_S1_S_).sem
  | (0, 4) => (((cc0_scratch0 : DmaSems sig S7).slice (Rect.unit (s := S7) ![4] S1.size inb_S7_S1_4)).squeeze S_ squeezes_S1_S_).sem
  | (0, 5) => (((cc0_scratch0 : DmaSems sig S7).slice (Rect.unit (s := S7) ![5] S1.size inb_S7_S1_5)).squeeze S_ squeezes_S1_S_).sem
  | (0, 6) => (((cc0_scratch0 : DmaSems sig S7).slice (Rect.unit (s := S7) ![6] S1.size inb_S7_S1_6)).squeeze S_ squeezes_S1_S_).sem
def sR : Fin 1 × Fin 7 → DmaSem sig
  | (0, 0) => (((cc0_scratch1 : DmaSems sig S7).slice (Rect.unit (s := S7) ![0] S1.size inb_S7_S1_0)).squeeze S_ squeezes_S1_S_).sem
  | (0, 1) => (((cc0_scratch1 : DmaSems sig S7).slice (Rect.unit (s := S7) ![1] S1.size inb_S7_S1_1)).squeeze S_ squeezes_S1_S_).sem
  | (0, 2) => (((cc0_scratch1 : DmaSems sig S7).slice (Rect.unit (s := S7) ![2] S1.size inb_S7_S1_2)).squeeze S_ squeezes_S1_S_).sem
  | (0, 3) => (((cc0_scratch1 : DmaSems sig S7).slice (Rect.unit (s := S7) ![3] S1.size inb_S7_S1_3)).squeeze S_ squeezes_S1_S_).sem
  | (0, 4) => (((cc0_scratch1 : DmaSems sig S7).slice (Rect.unit (s := S7) ![4] S1.size inb_S7_S1_4)).squeeze S_ squeezes_S1_S_).sem
  | (0, 5) => (((cc0_scratch1 : DmaSems sig S7).slice (Rect.unit (s := S7) ![5] S1.size inb_S7_S1_5)).squeeze S_ squeezes_S1_S_).sem
  | (0, 6) => (((cc0_scratch1 : DmaSems sig S7).slice (Rect.unit (s := S7) ![6] S1.size inb_S7_S1_6)).squeeze S_ squeezes_S1_S_).sem
def sL : Fin 1 → DmaSem sig
  | 0 => (((cc0_scratch2 : DmaSems sig S1).slice (Rect.unit (s := S1) ![0] S1.size inb_S1_S1_0)).squeeze S_ squeezes_S1_S_).sem

def wS (c : Dev nD) : Fin 1 × Fin 7 → TpuEff nD τ sig (Elt F) Λ₀ .tc PUnit
  | (0, 0) => .waitDma2 (sS (0, 0)) (((Memref.whole main_v1 : Memref sig .tc .hbm S8x32x128 .f32).slice (Rect.unit (s := S8x32x128) (k0_off1 c) S1x32x128.size (k0_off1_inb c)) (fun _ => rfl)).squeeze S32x128 squeezes_S1x32x128_S32x128) (Memref.whole main_arg0 : Memref sig .tc .hbm S32x128 .f32) ((View.wordExact_bits rfl).reshape _ _) (Memref.isWhole_whole _).wordExact
  | (0, 1) => .waitDma2 (sS (0, 1)) (((Memref.whole main_v1 : Memref sig .tc .hbm S8x32x128 .f32).slice (Rect.unit (s := S8x32x128) (k0_off1 c) S1x32x128.size (k0_off1_inb c)) (fun _ => rfl)).squeeze S32x128 squeezes_S1x32x128_S32x128) (Memref.whole main_arg0 : Memref sig .tc .hbm S32x128 .f32) ((View.wordExact_bits rfl).reshape _ _) (Memref.isWhole_whole _).wordExact
  | (0, 2) => .waitDma2 (sS (0, 2)) (((Memref.whole main_v1 : Memref sig .tc .hbm S8x32x128 .f32).slice (Rect.unit (s := S8x32x128) (k0_off1 c) S1x32x128.size (k0_off1_inb c)) (fun _ => rfl)).squeeze S32x128 squeezes_S1x32x128_S32x128) (Memref.whole main_arg0 : Memref sig .tc .hbm S32x128 .f32) ((View.wordExact_bits rfl).reshape _ _) (Memref.isWhole_whole _).wordExact
  | (0, 3) => .waitDma2 (sS (0, 3)) (((Memref.whole main_v1 : Memref sig .tc .hbm S8x32x128 .f32).slice (Rect.unit (s := S8x32x128) (k0_off1 c) S1x32x128.size (k0_off1_inb c)) (fun _ => rfl)).squeeze S32x128 squeezes_S1x32x128_S32x128) (Memref.whole main_arg0 : Memref sig .tc .hbm S32x128 .f32) ((View.wordExact_bits rfl).reshape _ _) (Memref.isWhole_whole _).wordExact
  | (0, 4) => .waitDma2 (sS (0, 4)) (((Memref.whole main_v1 : Memref sig .tc .hbm S8x32x128 .f32).slice (Rect.unit (s := S8x32x128) (k0_off1 c) S1x32x128.size (k0_off1_inb c)) (fun _ => rfl)).squeeze S32x128 squeezes_S1x32x128_S32x128) (Memref.whole main_arg0 : Memref sig .tc .hbm S32x128 .f32) ((View.wordExact_bits rfl).reshape _ _) (Memref.isWhole_whole _).wordExact
  | (0, 5) => .waitDma2 (sS (0, 5)) (((Memref.whole main_v1 : Memref sig .tc .hbm S8x32x128 .f32).slice (Rect.unit (s := S8x32x128) (k0_off1 c) S1x32x128.size (k0_off1_inb c)) (fun _ => rfl)).squeeze S32x128 squeezes_S1x32x128_S32x128) (Memref.whole main_arg0 : Memref sig .tc .hbm S32x128 .f32) ((View.wordExact_bits rfl).reshape _ _) (Memref.isWhole_whole _).wordExact
  | (0, 6) => .waitDma2 (sS (0, 6)) (((Memref.whole main_v1 : Memref sig .tc .hbm S8x32x128 .f32).slice (Rect.unit (s := S8x32x128) (k0_off1 c) S1x32x128.size (k0_off1_inb c)) (fun _ => rfl)).squeeze S32x128 squeezes_S1x32x128_S32x128) (Memref.whole main_arg0 : Memref sig .tc .hbm S32x128 .f32) ((View.wordExact_bits rfl).reshape _ _) (Memref.isWhole_whole _).wordExact
def wR (c : Dev nD) : Fin 1 × Fin 7 → TpuEff nD τ sig (Elt F) Λ₀ .tc PUnit
  | (0, 0) => .waitDma2 (sR (0, 0)) (Memref.whole main_arg0 : Memref sig .tc .hbm S32x128 .f32) (((Memref.whole main_v1 : Memref sig .tc .hbm S8x32x128 .f32).slice (Rect.unit (s := S8x32x128) (k0_off2 c) S1x32x128.size (k0_off2_inb c)) (fun _ => rfl)).squeeze S32x128 squeezes_S1x32x128_S32x128) (Memref.isWhole_whole _).wordExact ((View.wordExact_bits rfl).reshape _ _)
  | (0, 1) => .waitDma2 (sR (0, 1)) (Memref.whole main_arg0 : Memref sig .tc .hbm S32x128 .f32) (((Memref.whole main_v1 : Memref sig .tc .hbm S8x32x128 .f32).slice (Rect.unit (s := S8x32x128) (k0_off3 c) S1x32x128.size (k0_off3_inb c)) (fun _ => rfl)).squeeze S32x128 squeezes_S1x32x128_S32x128) (Memref.isWhole_whole _).wordExact ((View.wordExact_bits rfl).reshape _ _)
  | (0, 2) => .waitDma2 (sR (0, 2)) (Memref.whole main_arg0 : Memref sig .tc .hbm S32x128 .f32) (((Memref.whole main_v1 : Memref sig .tc .hbm S8x32x128 .f32).slice (Rect.unit (s := S8x32x128) (k0_off4 c) S1x32x128.size (k0_off4_inb c)) (fun _ => rfl)).squeeze S32x128 squeezes_S1x32x128_S32x128) (Memref.isWhole_whole _).wordExact ((View.wordExact_bits rfl).reshape _ _)
  | (0, 3) => .waitDma2 (sR (0, 3)) (Memref.whole main_arg0 : Memref sig .tc .hbm S32x128 .f32) (((Memref.whole main_v1 : Memref sig .tc .hbm S8x32x128 .f32).slice (Rect.unit (s := S8x32x128) (k0_off5 c) S1x32x128.size (k0_off5_inb c)) (fun _ => rfl)).squeeze S32x128 squeezes_S1x32x128_S32x128) (Memref.isWhole_whole _).wordExact ((View.wordExact_bits rfl).reshape _ _)
  | (0, 4) => .waitDma2 (sR (0, 4)) (Memref.whole main_arg0 : Memref sig .tc .hbm S32x128 .f32) (((Memref.whole main_v1 : Memref sig .tc .hbm S8x32x128 .f32).slice (Rect.unit (s := S8x32x128) (k0_off6 c) S1x32x128.size (k0_off6_inb c)) (fun _ => rfl)).squeeze S32x128 squeezes_S1x32x128_S32x128) (Memref.isWhole_whole _).wordExact ((View.wordExact_bits rfl).reshape _ _)
  | (0, 5) => .waitDma2 (sR (0, 5)) (Memref.whole main_arg0 : Memref sig .tc .hbm S32x128 .f32) (((Memref.whole main_v1 : Memref sig .tc .hbm S8x32x128 .f32).slice (Rect.unit (s := S8x32x128) (k0_off7 c) S1x32x128.size (k0_off7_inb c)) (fun _ => rfl)).squeeze S32x128 squeezes_S1x32x128_S32x128) (Memref.isWhole_whole _).wordExact ((View.wordExact_bits rfl).reshape _ _)
  | (0, 6) => .waitDma2 (sR (0, 6)) (Memref.whole main_arg0 : Memref sig .tc .hbm S32x128 .f32) (((Memref.whole main_v1 : Memref sig .tc .hbm S8x32x128 .f32).slice (Rect.unit (s := S8x32x128) (k0_off8 c) S1x32x128.size (k0_off8_inb c)) (fun _ => rfl)).squeeze S32x128 squeezes_S1x32x128_S32x128) (Memref.isWhole_whole _).wordExact ((View.wordExact_bits rfl).reshape _ _)
def wL (c : Dev nD) : Fin 1 → TpuEff nD τ sig (Elt F) Λ₀ .tc PUnit
  | 0 => .waitDma2 (sL 0) (Memref.whole main_arg0 : Memref sig .tc .hbm S32x128 .f32) (((Memref.whole main_v1 : Memref sig .tc .hbm S8x32x128 .f32).slice (Rect.unit (s := S8x32x128) (k0_off1 c) S1x32x128.size (k0_off1_inb c)) (fun _ => rfl)).squeeze S32x128 squeezes_S1x32x128_S32x128) (Memref.isWhole_whole _).wordExact ((View.wordExact_bits rfl).reshape _ _)

theorem kept_pos (i : Fin 1) : 0 < (kept 0 i).dst.view.dmaCredit := View.dmaCredit_pos _ (by revert i; decide)

theorem sems_inj : Function.Injective (semOf sS sR sL) := by decide

/-- The exchange. -/
def X : Exch nD τ sig (Elt F) Λ₀ (Fin 1 × Fin 7) (Fin 1) where
  peer j := peer j.2
  peer_peer j c := peer_peer j.2 c
  rc := sent
  lc := kept
  sS := sS
  sR := sR
  sL := sL
  inj := sems_inj
  N j := (kept 0 j.1).dst.view.dmaCredit
  NL i := (kept 0 i).dst.view.dmaCredit
  N_pos j := kept_pos j.1
  NL_pos i := kept_pos i
  hN c j := by obtain ⟨a, k⟩ := j; exact match a with | 0 => rfl
  hNL c i := match i with | 0 => rfl
  qs j := part 3 7 rfl (.inl j.2)
  ql _ := part 3 7 rfl (.inr 0)
  wS := wS
  wR := wR
  wL := wL

set_option maxRecDepth 65536 in
theorem body_eq (t : Fin cfg0.N) : defs₀ (F := F) .tc cfg0.body (cfg0.bodyArgs t (cfg0.slots t)) = .op .deviceId fun d => X.prog [0] [(0, 0), (0, 1), (0, 2), (0, 3), (0, 4), (0, 5), (0, 6)] d := rfl

theorem own : Pipeline.OwnSemFacts (cfgs 0).spec (semOf sS sR sL) := by decide

end Exchange.First

end
-- ==== Proof.FirstRun.lean ====
/-
  `gather_c_conv`: every device hands every other its array, each keeping all eight in slots.
  What every device holds before and after, and the run.
-/
module

public import proofs.«01_k».proof.Proof.First

@[expose] public section

set_option Elab.async false

noncomputable section

namespace Exchange.First

open Idealize.ShloMosaic Idealize.ShloMosaic.TcCoe
open Idealize.ShloMosaic.Pipeline (scopedRest)
open Idealize.SL
open Idealize.SL.BI (sProp bigSep bigSepL bigSep_congr)
open scoped Idealize.SL.BI
open Idealize.SL.BI.BIBase Idealize.SL.BI.Laws Idealize.SL.Sem Idealize.SL.ProofMode
open Idealize.SL.RA
open Cert.FirstIdeal Cert.FirstIdeal.Gen

variable {F : FTy → Type} [FloatOps F]

/-! ## Buffers -/

variable (m : (ℓ : Loc nD τ sig) → Buf (Elt F) ℓ) (g : Dev nD → PrngReg)

/-- What device `c` has of array 0 afterwards. -/
def got0 (c : Dev nD) : Buf (Elt F) ((c.tc : Thread nD τ).loc main_v1) := fun x : (⟨3, ![8, 32, 128]⟩ : Shape).Idx => m ((holder c (x 0)).tc.loc main_arg0) (Fin.tail (α := fun b : Fin 3 => Fin (![8, 32, 128] b)) x)

/-- The memory after the exchange. -/
def after : (ℓ : Loc nD τ sig) → Buf (Elt F) ℓ :=
  put m main_v1 (got0 m)

theorem after_out0 (c : Dev nD) : after m (c.tc.loc main_v1) = got0 m c := by
  unfold after; rw [put_self]
theorem after_in0 (c : Dev nD) : after m (c.tc.loc main_arg0) = m (c.tc.loc main_arg0) := by
  unfold after; rw [put_ne _ _ _ (by decide)]

def inB : Fin 1 → Ref sig .tc | 0 => main_arg0
def outB : Fin 1 → Ref sig .tc | 0 => main_v1

local notation "𝕄" => MT nD τ sig Unit (Elt F) ℕ (UR nD τ sig × UR nD τ sig) ℕ

theorem src_eq0 (f : (ℓ : Loc nD τ sig) → Buf (Elt F) ℓ) (c : Dev nD) : (((c.tc : Thread nD τ).loc main_arg0) ↦{fullShare} f ((c.tc : Thread nD τ).loc main_arg0) : sProp 𝕄)
    = iprop((bigSep Finset.univ fun k => X.srcPt f c (0, k)) ∗ X.lsrcPt f c 0) :=
  parts_pointsTo (ℓ := (c.tc : Thread nD τ).loc main_arg0) 3 7 rfl (View.whole main_arg0).set (View.set_whole _) (f ((c.tc : Thread nD τ).loc main_arg0))
theorem dst_eq0 (f : (ℓ : Loc nD τ sig) → Buf (Elt F) ℓ) (c : Dev nD) : (((c.tc : Thread nD τ).loc main_v1) ↦{fullShare} f ((c.tc : Thread nD τ).loc main_v1) : sProp 𝕄)
    = iprop((bigSep Finset.univ fun k => X.dstPt f (0, k) ((X (F := F)).peer (0, k) c) c) ∗ X.ldstPt f c 0) :=
  slots_pointsTo (M := 8) (d := ![32, 128]) (View.whole main_v1) c (View.set_whole _) (fun k => k0_off1 (peer k c)) (k0_off1 c) (fun k => k0_off1_inb (peer k c))
    (k0_off1_inb c) squeezes_S1x32x128_S32x128.numel_eq (fun k => off_tail (peer k c)) (off_tail c) (off_inj c) (off_ne c) (off_all c)
    (f ((c.tc : Thread nD τ).loc main_v1))

theorem bufs_inj : Function.Injective (Sum.elim inB outB) := by decide

theorem arrays : (X (F := F)).Arrays inB outB where
  inj := bufs_inj
  all := by decide
  src f c a := match a with | 0 => src_eq0 f c
  dst f c a := match a with | 0 => dst_eq0 f c

theorem read_sent0 (c : Dev nD) (k : Fin 7) :
    ((X (F := F)).rc c (0, k)).dst.view.read (Elt F) (after m (((X (F := F)).rc c (0, k)).dst.view.loc (((X (F := F)).peer (0, k) c).tc : Thread nD τ)))
      = ((X (F := F)).rc c (0, k)).src.view.read (Elt F) (m (((X (F := F)).rc c (0, k)).src.view.loc (c.tc : Thread nD τ))) := by
  funext y
  refine (slot_read (M := 8) (d := ![32, 128]) (View.whole main_v1) (k0_off1 c) (k0_off1_inb c) squeezes_S1x32x128_S32x128.numel_eq (place c) rfl (off_tail c)
    (after m ((peer k c).tc.loc main_v1)) y).trans ?_
  refine (congrFun (after_out0 m (peer k c)) (Fin.cons (α := fun b : Fin 3 => Fin (![8, 32, 128] b)) (place c) y)).trans ?_
  have e := elt_at m main_arg0 (holder_place k c) y
  exact e.trans (rfl)
theorem read_kept0 (c : Dev nD) :
    ((X (F := F)).lc c 0).dst.view.read (Elt F) (after m (((X (F := F)).lc c 0).dst.view.loc (c.tc : Thread nD τ)))
      = ((X (F := F)).lc c 0).src.view.read (Elt F) (m (((X (F := F)).lc c 0).src.view.loc (c.tc : Thread nD τ))) := by
  funext y
  refine (slot_read (M := 8) (d := ![32, 128]) (View.whole main_v1) (k0_off1 c) (k0_off1_inb c) squeezes_S1x32x128_S32x128.numel_eq (place c) rfl (off_tail c)
    (after m (c.tc.loc main_v1)) y).trans ?_
  refine (congrFun (after_out0 m c) (Fin.cons (α := fun b : Fin 3 => Fin (![8, 32, 128] b)) (place c) y)).trans ?_
  have e := elt_at m main_arg0 (holder_own c) y
  exact e.trans (rfl)

/-- The exchange's facts. -/
theorem facts (𝒱₀ : Variants) : X.Facts m (after m) (fun _ => (emp : sProp 𝕄)) (defs₀ (F := F)) 𝒱₀ where
  hsplit := arrays.splits m
  hjoin := arrays.joins m (after m) (fun c a => match a with | 0 => after_in0 m c)
  hR c j := by
    obtain ⟨a, k⟩ := j
    exact match a with | 0 => read_sent0 m c k
  hL c i := match i with | 0 => read_kept0 m c
  hroute := by unfold Exch.Routes; decide
  hw := ⟨fun c j K => match j with | (0, 0) => rfl | (0, 1) => rfl | (0, 2) => rfl | (0, 3) => rfl | (0, 4) => rfl | (0, 5) => rfl | (0, 6) => rfl,
    fun c j K => match j with | (0, 0) => rfl | (0, 1) => rfl | (0, 2) => rfl | (0, 3) => rfl | (0, 4) => rfl | (0, 5) => rfl | (0, 6) => rfl,
    fun c i K => match i with | 0 => rfl⟩

/-- The run: every fair execution ends with every device's buffers as `after m` has them, every counter at zero. -/
theorem run_main : θ_run (defs (F := F)) (onTc main) ⟨m, fun _ => 0, g⟩ (fun r => (∀ c, Exch.Shows (after m) c r.2) ∧ r.2.sem = fun _ => 0) :=
  Exch.run X m (after m) g (fun _ => emp) cfgs defs₀ Variants.none cellOf_inj (facts m _) (fun | 0 => (inferInstance : IsEmpty (Fin 0)))
    (fun | 0 => N_0) winFacts0.to₀ own main (fun c => main_chain c) [0] [(0, 0), (0, 1), (0, 2), (0, 3), (0, 4), (0, 5), (0, 6)] (by decide) (by decide) (by decide) (by decide)
    (fun c t Q => by rw [show defs₀ .tc (cfgs 0).body ((cfgs 0).bodyArgs t ((cfgs 0).slots t)) = _ from body_eq t]) (by decide)

end Exchange.First

end
-- ==== Proof.FirstClaims.lean ====
/-
  The claims about `gather_c_conv`.
-/
module

public import proofs.«01_k».proof.Defs
public import proofs.«01_k».proof.Proof.FirstRun
public import proofs.«01_k».proof.Proof.Blocks
public import proofs.«01_k».proof.Proof.Gen.First
public import proofs.«01_k».proof.Proof.Gen.FirstRef
public import proofs.«01_k».proof.Proof.Gen.FirstRefIdeal.Run

@[expose] public section

set_option Elab.async false

noncomputable section

namespace Exchange.First

open Idealize.ShloMosaic Idealize.ShloMosaic.TcCoe Idealize.SL.Sem

variable {F : FTy → Type} [FloatOps F]

/-- The run, argument by argument and result by result. -/
theorem run_read (m : (ℓ : Loc Cert.FirstIdeal.nD Cert.FirstIdeal.τ Cert.FirstIdeal.sig) → Buf (Elt F) ℓ) (g : Dev Cert.FirstIdeal.nD → PrngReg) :
    θ_run (Cert.FirstIdeal.defs (F := F)) (onTc (τ := Cert.FirstIdeal.τ) (Cert.FirstIdeal.main (F := F))) ⟨m, fun _ => 0, g⟩ (fun r => (∀ c : Dev Cert.FirstIdeal.nD,
      r.2.mem ((c.tc : Thread Cert.FirstIdeal.nD Cert.FirstIdeal.τ).loc Cert.FirstIdeal.main_v1) = got0 m c ∧
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0))
      ∧ r.2.sem = fun _ => 0) :=
  (θ_run Cert.FirstIdeal.defs _ _).mono (fun _ h => ⟨fun c => ⟨(h.1 c Cert.FirstIdeal.main_v1 (by decide)).trans (after_out0 m c), (h.1 c Cert.FirstIdeal.main_arg0 (by decide)).trans (after_in0 m c)⟩, h.2⟩) (run_main m g)

theorem frame_firstIdeal : Cert.quiescent_FirstIdeal := fun m g _ =>
  (θ_run Cert.FirstIdeal.defs _ _).mono (fun _ h => ⟨fun c => (h.1 c).2, h.2⟩) (run_read (F := Ideal) m g)

theorem frame_first : Cert.quiescent_First := fun m g _ =>
  (θ_run Cert.FirstIdeal.defs _ _).mono (fun _ h => ⟨fun c => (h.1 c).2, h.2⟩) (run_read (F := Bits) m g)

theorem frame_firstRefIdeal : Cert.quiescent_FirstRefIdeal := fun m g _ =>
  (θ_run Cert.FirstRefIdeal.defs _ _).mono (fun r h => ⟨fun c => (h c).2, sem_eq_zero_of_no_sems (by decide) r.2⟩)
    (Cert.FirstRefIdeal.Value.run (F := Ideal) m g)

theorem frame_firstRef : Cert.quiescent_FirstRef := fun m g _ =>
  (θ_run Cert.FirstRefIdeal.defs _ _).mono (fun r h => ⟨fun c => (h c).2, sem_eq_zero_of_no_sems (by decide) r.2⟩)
    (Cert.FirstRefIdeal.Value.run (F := Bits) m g)

theorem algebraic_first : Cert.algebraic_FirstIdeal_FirstRefIdeal := by
  intro m g m' g' _ h
  refine ⟨_, ?_, (θ_run Cert.FirstRefIdeal.defs _ _).mono (fun _ hr => hr 0) (Cert.FirstRefIdeal.Value.run (F := Ideal) m' g')⟩
  refine (θ_run Cert.FirstIdeal.defs _ _).mono (fun _ hr c => ?_) (run_read (F := Ideal) m g)
  obtain ⟨r0, ha⟩ := hr.1 c
  refine ⟨?_, ha⟩
  · refine (r0).trans (funext fun i => ?_)
    exact (congrFun (h (holder c (i 0))) _).trans (slots_rows _ _ _ i (holder c (i 0)) rfl).symm

theorem bitexact_first : Cert.bitexact_First_FirstRef := by
  intro m g m' g' _ h
  refine ⟨_, ?_, (θ_run Cert.FirstRefIdeal.defs _ _).mono (fun _ hr => hr 0) (Cert.FirstRefIdeal.Value.run (F := Bits) m' g')⟩
  refine (θ_run Cert.FirstIdeal.defs _ _).mono (fun _ hr c => ?_) (run_read (F := Bits) m g)
  obtain ⟨r0, ha⟩ := hr.1 c
  refine ⟨?_, ha⟩
  · refine (r0).trans (funext fun i => ?_)
    exact (congrFun (h (holder c (i 0))) _).trans (slots_rows _ _ _ i (holder c (i 0)) rfl).symm

end Exchange.First

end
-- ==== Proof.Update.lean ====
/-
  The claims about AdamW on the weights that are not packed: on one device's part of a weight, what
  the weight moves by and both moments are reference.py's of the given gradient.
-/
module

public import proofs.«01_k».proof.Defs
public import proofs.«01_k».proof.Proof.Gen.UpAdaW
public import proofs.«01_k».proof.Proof.Gen.UpAdaWIdeal.Value
public import proofs.«01_k».proof.Proof.Gen.UpAdaWRefIdeal.Run
public import proofs.«01_k».proof.Proof.Gen.UpConv
public import proofs.«01_k».proof.Proof.Gen.UpConvIdeal.Value
public import proofs.«01_k».proof.Proof.Gen.UpConvRefIdeal.Run
public import proofs.«01_k».proof.Proof.Gen.UpAbIn
public import proofs.«01_k».proof.Proof.Gen.UpAbInIdeal.Value
public import proofs.«01_k».proof.Proof.Gen.UpAbInRefIdeal.Run
public import proofs.«01_k».proof.Proof.Gen.UpAbOut
public import proofs.«01_k».proof.Proof.Gen.UpAbOutIdeal.Value
public import proofs.«01_k».proof.Proof.Gen.UpAbOutRefIdeal.Run
public import proofs.«01_k».proof.Proof.Gen.UpGlu
public import proofs.«01_k».proof.Proof.Gen.UpGluIdeal.Value
public import proofs.«01_k».proof.Proof.Gen.UpGluRefIdeal.Run
public import proofs.«01_k».proof.Proof.Gen.UpGdnIn
public import proofs.«01_k».proof.Proof.Gen.UpGdnInIdeal.Value
public import proofs.«01_k».proof.Proof.Gen.UpGdnInRefIdeal.Run
public import proofs.«01_k».proof.Proof.Gen.UpGdnOut
public import proofs.«01_k».proof.Proof.Gen.UpGdnOutIdeal.Value
public import proofs.«01_k».proof.Proof.Gen.UpGdnOutRefIdeal.Run
public import proofs.«01_k».proof.Proof.Gen.UpSmall
public import proofs.«01_k».proof.Proof.Gen.UpSmallIdeal.Value
public import proofs.«01_k».proof.Proof.Gen.UpSmallRefIdeal.Run

@[expose] public section

set_option Elab.async false
-- a program and its idealization are unified unfolding by unfolding
set_option smartUnfolding false

noncomputable section

namespace Exchange.Update

open Idealize.ShloMosaic Idealize.ShloMosaic.TcCoe Idealize.SL.Sem

theorem frame_upAdaW : Cert.quiescent_UpAdaW := fun m g _ => Cert.UpAdaWIdeal.Gen.frame (F := Bits) m g

theorem frame_upAdaWIdeal : Cert.quiescent_UpAdaWIdeal := fun m g _ => Cert.UpAdaWIdeal.Gen.frame (F := Ideal) m g

theorem frame_upAdaWRefIdeal : Cert.quiescent_UpAdaWRefIdeal := fun m g _ =>
  (θ_run Cert.UpAdaWRefIdeal.defs _ _).mono (fun r h => ⟨fun c => (h c).2.2.2, sem_eq_zero_of_no_sems (by decide) r.2⟩)
    (Cert.UpAdaWRefIdeal.Value.run (F := Ideal) m g)

theorem algebraic_upAdaW : Cert.algebraic_UpAdaWIdeal_UpAdaWRefIdeal := by
  intro m g m' g' _ h
  obtain ⟨h0, h1, h2, h3⟩ := h 0
  refine ⟨fun _ => _, fun _ => _, fun _ => _, ?_, (θ_run Cert.UpAdaWRefIdeal.defs _ _).mono (fun _ hr => Fin.forall_fin_one.2 (hr 0)) (Cert.UpAdaWRefIdeal.Value.run (F := Ideal) m' g')⟩
  refine (θ_run Cert.UpAdaWIdeal.defs _ _).mono (fun _ hr => Fin.forall_fin_one.2 ?_) (Cert.UpAdaWIdeal.Value.run (F := Ideal) m g)
  obtain ⟨r0, r1, r2, ha⟩ := hr 0
  rw [h0, h1, h2, h3]
  exact ⟨r0, r1, r2, ha⟩

theorem frame_upConv : Cert.quiescent_UpConv := fun m g _ => Cert.UpConvIdeal.Gen.frame (F := Bits) m g

theorem frame_upConvIdeal : Cert.quiescent_UpConvIdeal := fun m g _ => Cert.UpConvIdeal.Gen.frame (F := Ideal) m g

theorem frame_upConvRefIdeal : Cert.quiescent_UpConvRefIdeal := fun m g _ =>
  (θ_run Cert.UpConvRefIdeal.defs _ _).mono (fun r h => ⟨fun c => (h c).2.2.2, sem_eq_zero_of_no_sems (by decide) r.2⟩)
    (Cert.UpConvRefIdeal.Value.run (F := Ideal) m g)

theorem algebraic_upConv : Cert.algebraic_UpConvIdeal_UpConvRefIdeal := by
  intro m g m' g' _ h
  obtain ⟨h0, h1, h2, h3⟩ := h 0
  refine ⟨fun _ => _, fun _ => _, fun _ => _, ?_, (θ_run Cert.UpConvRefIdeal.defs _ _).mono (fun _ hr => Fin.forall_fin_one.2 (hr 0)) (Cert.UpConvRefIdeal.Value.run (F := Ideal) m' g')⟩
  refine (θ_run Cert.UpConvIdeal.defs _ _).mono (fun _ hr => Fin.forall_fin_one.2 ?_) (Cert.UpConvIdeal.Value.run (F := Ideal) m g)
  obtain ⟨r0, r1, r2, ha⟩ := hr 0
  rw [h0, h1, h2, h3]
  exact ⟨r0, r1, r2, ha⟩

theorem frame_upAbIn : Cert.quiescent_UpAbIn := fun m g _ => Cert.UpAbInIdeal.Gen.frame (F := Bits) m g

theorem frame_upAbInIdeal : Cert.quiescent_UpAbInIdeal := fun m g _ => Cert.UpAbInIdeal.Gen.frame (F := Ideal) m g

theorem frame_upAbInRefIdeal : Cert.quiescent_UpAbInRefIdeal := fun m g _ =>
  (θ_run Cert.UpAbInRefIdeal.defs _ _).mono (fun r h => ⟨fun c => (h c).2.2.2, sem_eq_zero_of_no_sems (by decide) r.2⟩)
    (Cert.UpAbInRefIdeal.Value.run (F := Ideal) m g)

theorem algebraic_upAbIn : Cert.algebraic_UpAbInIdeal_UpAbInRefIdeal := by
  intro m g m' g' _ h
  obtain ⟨h0, h1, h2, h3⟩ := h 0
  refine ⟨fun _ => _, fun _ => _, fun _ => _, ?_, (θ_run Cert.UpAbInRefIdeal.defs _ _).mono (fun _ hr => Fin.forall_fin_one.2 (hr 0)) (Cert.UpAbInRefIdeal.Value.run (F := Ideal) m' g')⟩
  refine (θ_run Cert.UpAbInIdeal.defs _ _).mono (fun _ hr => Fin.forall_fin_one.2 ?_) (Cert.UpAbInIdeal.Value.run (F := Ideal) m g)
  obtain ⟨r0, r1, r2, ha⟩ := hr 0
  rw [h0, h1, h2, h3]
  exact ⟨r0, r1, r2, ha⟩

theorem frame_upAbOut : Cert.quiescent_UpAbOut := fun m g _ => Cert.UpAbOutIdeal.Gen.frame (F := Bits) m g

theorem frame_upAbOutIdeal : Cert.quiescent_UpAbOutIdeal := fun m g _ => Cert.UpAbOutIdeal.Gen.frame (F := Ideal) m g

theorem frame_upAbOutRefIdeal : Cert.quiescent_UpAbOutRefIdeal := fun m g _ =>
  (θ_run Cert.UpAbOutRefIdeal.defs _ _).mono (fun r h => ⟨fun c => (h c).2.2.2, sem_eq_zero_of_no_sems (by decide) r.2⟩)
    (Cert.UpAbOutRefIdeal.Value.run (F := Ideal) m g)

theorem algebraic_upAbOut : Cert.algebraic_UpAbOutIdeal_UpAbOutRefIdeal := by
  intro m g m' g' _ h
  obtain ⟨h0, h1, h2, h3⟩ := h 0
  refine ⟨fun _ => _, fun _ => _, fun _ => _, ?_, (θ_run Cert.UpAbOutRefIdeal.defs _ _).mono (fun _ hr => Fin.forall_fin_one.2 (hr 0)) (Cert.UpAbOutRefIdeal.Value.run (F := Ideal) m' g')⟩
  refine (θ_run Cert.UpAbOutIdeal.defs _ _).mono (fun _ hr => Fin.forall_fin_one.2 ?_) (Cert.UpAbOutIdeal.Value.run (F := Ideal) m g)
  obtain ⟨r0, r1, r2, ha⟩ := hr 0
  rw [h0, h1, h2, h3]
  exact ⟨r0, r1, r2, ha⟩

theorem frame_upGlu : Cert.quiescent_UpGlu := fun m g _ => Cert.UpGluIdeal.Gen.frame (F := Bits) m g

theorem frame_upGluIdeal : Cert.quiescent_UpGluIdeal := fun m g _ => Cert.UpGluIdeal.Gen.frame (F := Ideal) m g

theorem frame_upGluRefIdeal : Cert.quiescent_UpGluRefIdeal := fun m g _ =>
  (θ_run Cert.UpGluRefIdeal.defs _ _).mono (fun r h => ⟨fun c => (h c).2.2.2, sem_eq_zero_of_no_sems (by decide) r.2⟩)
    (Cert.UpGluRefIdeal.Value.run (F := Ideal) m g)

theorem algebraic_upGlu : Cert.algebraic_UpGluIdeal_UpGluRefIdeal := by
  intro m g m' g' _ h
  obtain ⟨h0, h1, h2, h3⟩ := h 0
  refine ⟨fun _ => _, fun _ => _, fun _ => _, ?_, (θ_run Cert.UpGluRefIdeal.defs _ _).mono (fun _ hr => Fin.forall_fin_one.2 (hr 0)) (Cert.UpGluRefIdeal.Value.run (F := Ideal) m' g')⟩
  refine (θ_run Cert.UpGluIdeal.defs _ _).mono (fun _ hr => Fin.forall_fin_one.2 ?_) (Cert.UpGluIdeal.Value.run (F := Ideal) m g)
  obtain ⟨r0, r1, r2, ha⟩ := hr 0
  rw [h0, h1, h2, h3]
  exact ⟨r0, r1, r2, ha⟩

theorem frame_upGdnIn : Cert.quiescent_UpGdnIn := fun m g _ => Cert.UpGdnInIdeal.Gen.frame (F := Bits) m g

theorem frame_upGdnInIdeal : Cert.quiescent_UpGdnInIdeal := fun m g _ => Cert.UpGdnInIdeal.Gen.frame (F := Ideal) m g

theorem frame_upGdnInRefIdeal : Cert.quiescent_UpGdnInRefIdeal := fun m g _ =>
  (θ_run Cert.UpGdnInRefIdeal.defs _ _).mono (fun r h => ⟨fun c => (h c).2.2.2, sem_eq_zero_of_no_sems (by decide) r.2⟩)
    (Cert.UpGdnInRefIdeal.Value.run (F := Ideal) m g)

theorem algebraic_upGdnIn : Cert.algebraic_UpGdnInIdeal_UpGdnInRefIdeal := by
  intro m g m' g' _ h
  obtain ⟨h0, h1, h2, h3⟩ := h 0
  refine ⟨fun _ => _, fun _ => _, fun _ => _, ?_, (θ_run Cert.UpGdnInRefIdeal.defs _ _).mono (fun _ hr => Fin.forall_fin_one.2 (hr 0)) (Cert.UpGdnInRefIdeal.Value.run (F := Ideal) m' g')⟩
  refine (θ_run Cert.UpGdnInIdeal.defs _ _).mono (fun _ hr => Fin.forall_fin_one.2 ?_) (Cert.UpGdnInIdeal.Value.run (F := Ideal) m g)
  obtain ⟨r0, r1, r2, ha⟩ := hr 0
  rw [h0, h1, h2, h3]
  exact ⟨r0, r1, r2, ha⟩

theorem frame_upGdnOut : Cert.quiescent_UpGdnOut := fun m g _ => Cert.UpGdnOutIdeal.Gen.frame (F := Bits) m g

theorem frame_upGdnOutIdeal : Cert.quiescent_UpGdnOutIdeal := fun m g _ => Cert.UpGdnOutIdeal.Gen.frame (F := Ideal) m g

theorem frame_upGdnOutRefIdeal : Cert.quiescent_UpGdnOutRefIdeal := fun m g _ =>
  (θ_run Cert.UpGdnOutRefIdeal.defs _ _).mono (fun r h => ⟨fun c => (h c).2.2.2, sem_eq_zero_of_no_sems (by decide) r.2⟩)
    (Cert.UpGdnOutRefIdeal.Value.run (F := Ideal) m g)

theorem algebraic_upGdnOut : Cert.algebraic_UpGdnOutIdeal_UpGdnOutRefIdeal := by
  intro m g m' g' _ h
  obtain ⟨h0, h1, h2, h3⟩ := h 0
  refine ⟨fun _ => _, fun _ => _, fun _ => _, ?_, (θ_run Cert.UpGdnOutRefIdeal.defs _ _).mono (fun _ hr => Fin.forall_fin_one.2 (hr 0)) (Cert.UpGdnOutRefIdeal.Value.run (F := Ideal) m' g')⟩
  refine (θ_run Cert.UpGdnOutIdeal.defs _ _).mono (fun _ hr => Fin.forall_fin_one.2 ?_) (Cert.UpGdnOutIdeal.Value.run (F := Ideal) m g)
  obtain ⟨r0, r1, r2, ha⟩ := hr 0
  rw [h0, h1, h2, h3]
  exact ⟨r0, r1, r2, ha⟩

theorem frame_upSmall : Cert.quiescent_UpSmall := fun m g _ => Cert.UpSmallIdeal.Gen.frame (F := Bits) m g

theorem frame_upSmallIdeal : Cert.quiescent_UpSmallIdeal := fun m g _ => Cert.UpSmallIdeal.Gen.frame (F := Ideal) m g

theorem frame_upSmallRefIdeal : Cert.quiescent_UpSmallRefIdeal := fun m g _ =>
  (θ_run Cert.UpSmallRefIdeal.defs _ _).mono (fun r h => ⟨fun c => (h c).2.2.2, sem_eq_zero_of_no_sems (by decide) r.2⟩)
    (Cert.UpSmallRefIdeal.Value.run (F := Ideal) m g)

theorem algebraic_upSmall : Cert.algebraic_UpSmallIdeal_UpSmallRefIdeal := by
  intro m g m' g' _ h
  obtain ⟨h0, h1, h2, h3⟩ := h 0
  refine ⟨fun _ => _, fun _ => _, fun _ => _, ?_, (θ_run Cert.UpSmallRefIdeal.defs _ _).mono (fun _ hr => Fin.forall_fin_one.2 (hr 0)) (Cert.UpSmallRefIdeal.Value.run (F := Ideal) m' g')⟩
  refine (θ_run Cert.UpSmallIdeal.defs _ _).mono (fun _ hr => Fin.forall_fin_one.2 ?_) (Cert.UpSmallIdeal.Value.run (F := Ideal) m g)
  obtain ⟨r0, r1, r2, ha⟩ := hr 0
  rw [h0, h1, h2, h3]
  exact ⟨r0, r1, r2, ha⟩

end Exchange.Update

end
-- ==== Proof.Sums.lean ====
/-
  The claims about the sums of gradients: two cores' of one chip, the four chips' and the eight devices'.
-/
module

public import proofs.«01_k».proof.Defs
public import proofs.«01_k».proof.Proof.Gen.SumSmall
public import proofs.«01_k».proof.Proof.Gen.SumSmallIdeal.Value
public import proofs.«01_k».proof.Proof.Gen.SumSmallRefIdeal.Run
public import proofs.«01_k».proof.Proof.Gen.SumAbIn
public import proofs.«01_k».proof.Proof.Gen.SumAbInIdeal.Value
public import proofs.«01_k».proof.Proof.Gen.SumAbInRefIdeal.Run
public import proofs.«01_k».proof.Proof.Gen.SumAbOut
public import proofs.«01_k».proof.Proof.Gen.SumAbOutIdeal.Value
public import proofs.«01_k».proof.Proof.Gen.SumAbOutRefIdeal.Run
public import proofs.«01_k».proof.Proof.Gen.SumGlu
public import proofs.«01_k».proof.Proof.Gen.SumGluIdeal.Value
public import proofs.«01_k».proof.Proof.Gen.SumGluRefIdeal.Run
public import proofs.«01_k».proof.Proof.Gen.SumGdnIn
public import proofs.«01_k».proof.Proof.Gen.SumGdnInIdeal.Value
public import proofs.«01_k».proof.Proof.Gen.SumGdnInRefIdeal.Run
public import proofs.«01_k».proof.Proof.Gen.SumGdnOut
public import proofs.«01_k».proof.Proof.Gen.SumGdnOutIdeal.Value
public import proofs.«01_k».proof.Proof.Gen.SumGdnOutRefIdeal.Run
public import proofs.«01_k».proof.Proof.Gen.SibAbIn
public import proofs.«01_k».proof.Proof.Gen.SibAbInIdeal.Value
public import proofs.«01_k».proof.Proof.Gen.SibAbInRefIdeal.Run
public import proofs.«01_k».proof.Proof.Gen.SibAbInRef
public import proofs.«01_k».proof.Proof.Gen.SibAbOut
public import proofs.«01_k».proof.Proof.Gen.SibAbOutIdeal.Value
public import proofs.«01_k».proof.Proof.Gen.SibAbOutRefIdeal.Run
public import proofs.«01_k».proof.Proof.Gen.SibAbOutRef
public import proofs.«01_k».proof.Proof.Gen.SibGlu
public import proofs.«01_k».proof.Proof.Gen.SibGluIdeal.Value
public import proofs.«01_k».proof.Proof.Gen.SibGluRefIdeal.Run
public import proofs.«01_k».proof.Proof.Gen.SibGluRef
public import proofs.«01_k».proof.Proof.Gen.SibGdnIn
public import proofs.«01_k».proof.Proof.Gen.SibGdnInIdeal.Value
public import proofs.«01_k».proof.Proof.Gen.SibGdnInRefIdeal.Run
public import proofs.«01_k».proof.Proof.Gen.SibGdnInRef
public import proofs.«01_k».proof.Proof.Gen.SibGdnOut
public import proofs.«01_k».proof.Proof.Gen.SibGdnOutIdeal.Value
public import proofs.«01_k».proof.Proof.Gen.SibGdnOutRefIdeal.Run
public import proofs.«01_k».proof.Proof.Gen.SibGdnOutRef
public import Idealize.ShloMosaic.Lib.Pointwise.Reduce
public import Idealize.ShloMosaic.Lib.Pointwise
public import Idealize.ShloMosaic.Lib.Pipeline.ValueKit

@[expose] public section

set_option Elab.async false
-- a program and its idealization are unified unfolding by unfolding
set_option smartUnfolding false

noncomputable section

namespace Exchange.Sums

open Idealize.ShloMosaic Idealize.ShloMosaic.TcCoe Idealize.SL.Sem

namespace SumSmall

open Cert.SumSmallIdeal Cert.SumSmallIdeal.Gen

/-- The places of the windows: input window k reads slot k, at point t the t-th block of rows. -/
theorem places : ∀ t : Fin cfg0.N, (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 2 ∧ win0_2.index t (1 : Fin 3) = t.val ∧ win0_2.index t (2 : Fin 3) = 0)
    ∧ (win0_3.index t (0 : Fin 3) = 3 ∧ win0_3.index t (1 : Fin 3) = t.val ∧ win0_3.index t (2 : Fin 3) = 0)
    ∧ (win0_4.index t (0 : Fin 3) = 4 ∧ win0_4.index t (1 : Fin 3) = t.val ∧ win0_4.index t (2 : Fin 3) = 0)
    ∧ (win0_5.index t (0 : Fin 3) = 5 ∧ win0_5.index t (1 : Fin 3) = t.val ∧ win0_5.index t (2 : Fin 3) = 0)
    ∧ (win0_6.index t (0 : Fin 3) = 6 ∧ win0_6.index t (1 : Fin 3) = t.val ∧ win0_6.index t (2 : Fin 3) = 0)
    ∧ (win0_7.index t (0 : Fin 3) = 7 ∧ win0_7.index t (1 : Fin 3) = t.val ∧ win0_7.index t (2 : Fin 3) = 0)
    ∧ (win0_8.index t (0 : Fin 2) = t.val ∧ win0_8.index t (1 : Fin 2) = 0) :=
  (by decide +kernel : ∀ t : Fin grid0.N, _)

/-- What the kernel leaves is the sum over the slots. -/
theorem out (m : (ℓ : Loc nD τ sig) → Buf (Elt Ideal) ℓ) (c : Dev nD) : (dats m 0 c).arrAt 8 cfg0.N
    = (Host.reduceAdd (F := Ideal) (φ := .f32) (m ((c : Thread nD τ).loc main_arg0)) (constant ⟨0, ![]⟩ .f32 0x00000000#32) Cert.SumSmallRefIdeal.Gen.reducesTo_S8x1248x128_S1248x128_d0 Cert.SumSmallRefIdeal.Gen.h_S_ : FVec Ideal S1248x128 .f32) := by
  refine (dats m 0 c).arrAt_eq_of_covers 8 _ (by decide +kernel) fun t _ y => ?_
  blk_simp
  rw [after0_8]
  frame_out
  obtain ⟨i, j, rfl⟩ : ∃ i j, y = ix2 i j := ⟨y 0, y 1, (ix2_eta y).symm⟩
  pointwise [k0_pay1, Fin.sum_univ_eight]
  blk_point [iblk, V, places t]

end SumSmall

theorem frame_sumSmall : Cert.quiescent_SumSmall := fun m g _ => Cert.SumSmallIdeal.Gen.frame (F := Bits) m g

theorem frame_sumSmallIdeal : Cert.quiescent_SumSmallIdeal := fun m g _ => Cert.SumSmallIdeal.Gen.frame (F := Ideal) m g

theorem frame_sumSmallRefIdeal : Cert.quiescent_SumSmallRefIdeal := fun m g _ =>
  (θ_run Cert.SumSmallRefIdeal.defs _ _).mono (fun r h => ⟨fun c => (h c).2, sem_eq_zero_of_no_sems (by decide) r.2⟩)
    (Cert.SumSmallRefIdeal.Value.run (F := Ideal) m g)

theorem algebraic_sumSmall : Cert.algebraic_SumSmallIdeal_SumSmallRefIdeal := by
  intro m g m' g' _ h
  refine ⟨fun _ => _, ?_, (θ_run Cert.SumSmallRefIdeal.defs _ _).mono (fun _ hr => Fin.forall_fin_one.2 (hr 0)) (Cert.SumSmallRefIdeal.Value.run (F := Ideal) m' g')⟩
  refine (θ_run Cert.SumSmallIdeal.defs _ _).mono (fun _ hr => Fin.forall_fin_one.2 ?_) (Cert.SumSmallIdeal.Value.run_blocks (F := Ideal) m g)
  obtain ⟨r0, ha⟩ := hr 0
  rw [h 0]
  exact ⟨r0.trans (SumSmall.out m 0), ha⟩

namespace SumAbIn

open Cert.SumAbInIdeal Cert.SumAbInIdeal.Gen

/-- The places of the windows: input window k reads slot k, at point t the t-th block of rows. -/
theorem places : ∀ t : Fin cfg0.N, (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 2 ∧ win0_2.index t (1 : Fin 3) = t.val ∧ win0_2.index t (2 : Fin 3) = 0)
    ∧ (win0_3.index t (0 : Fin 3) = 3 ∧ win0_3.index t (1 : Fin 3) = t.val ∧ win0_3.index t (2 : Fin 3) = 0)
    ∧ (win0_4.index t (0 : Fin 2) = t.val ∧ win0_4.index t (1 : Fin 2) = 0) :=
  (by decide +kernel : ∀ t : Fin grid0.N, _)

/-- What the kernel leaves is the sum over the slots. -/
theorem out (m : (ℓ : Loc nD τ sig) → Buf (Elt Ideal) ℓ) (c : Dev nD) : (dats m 0 c).arrAt 4 cfg0.N
    = (Host.reduceAdd (F := Ideal) (φ := .f32) (m ((c : Thread nD τ).loc main_arg0)) (constant ⟨0, ![]⟩ .f32 0x00000000#32) Cert.SumAbInRefIdeal.Gen.reducesTo_S4x512x768_S512x768_d0 Cert.SumAbInRefIdeal.Gen.h_S_ : FVec Ideal S512x768 .f32) := by
  refine (dats m 0 c).arrAt_eq_of_covers 4 _ (by decide +kernel) fun t _ y => ?_
  blk_simp
  rw [after0_4]
  frame_out
  obtain ⟨i, j, rfl⟩ : ∃ i j, y = ix2 i j := ⟨y 0, y 1, (ix2_eta y).symm⟩
  pointwise [k0_pay1, Fin.sum_univ_four]
  blk_point [iblk, V, places t]

end SumAbIn

theorem frame_sumAbIn : Cert.quiescent_SumAbIn := fun m g _ => Cert.SumAbInIdeal.Gen.frame (F := Bits) m g

theorem frame_sumAbInIdeal : Cert.quiescent_SumAbInIdeal := fun m g _ => Cert.SumAbInIdeal.Gen.frame (F := Ideal) m g

theorem frame_sumAbInRefIdeal : Cert.quiescent_SumAbInRefIdeal := fun m g _ =>
  (θ_run Cert.SumAbInRefIdeal.defs _ _).mono (fun r h => ⟨fun c => (h c).2, sem_eq_zero_of_no_sems (by decide) r.2⟩)
    (Cert.SumAbInRefIdeal.Value.run (F := Ideal) m g)

theorem algebraic_sumAbIn : Cert.algebraic_SumAbInIdeal_SumAbInRefIdeal := by
  intro m g m' g' _ h
  refine ⟨fun _ => _, ?_, (θ_run Cert.SumAbInRefIdeal.defs _ _).mono (fun _ hr => Fin.forall_fin_one.2 (hr 0)) (Cert.SumAbInRefIdeal.Value.run (F := Ideal) m' g')⟩
  refine (θ_run Cert.SumAbInIdeal.defs _ _).mono (fun _ hr => Fin.forall_fin_one.2 ?_) (Cert.SumAbInIdeal.Value.run_blocks (F := Ideal) m g)
  obtain ⟨r0, ha⟩ := hr 0
  rw [h 0]
  exact ⟨r0.trans (SumAbIn.out m 0), ha⟩

namespace SumAbOut

open Cert.SumAbOutIdeal Cert.SumAbOutIdeal.Gen

/-- The places of the windows: input window k reads slot k, at point t the t-th block of rows. -/
theorem places : ∀ t : Fin cfg0.N, (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 2 ∧ win0_2.index t (1 : Fin 3) = t.val ∧ win0_2.index t (2 : Fin 3) = 0)
    ∧ (win0_3.index t (0 : Fin 3) = 3 ∧ win0_3.index t (1 : Fin 3) = t.val ∧ win0_3.index t (2 : Fin 3) = 0)
    ∧ (win0_4.index t (0 : Fin 2) = t.val ∧ win0_4.index t (1 : Fin 2) = 0) :=
  (by decide +kernel : ∀ t : Fin grid0.N, _)

/-- What the kernel leaves is the sum over the slots. -/
theorem out (m : (ℓ : Loc nD τ sig) → Buf (Elt Ideal) ℓ) (c : Dev nD) : (dats m 0 c).arrAt 4 cfg0.N
    = (Host.reduceAdd (F := Ideal) (φ := .f32) (m ((c : Thread nD τ).loc main_arg0)) (constant ⟨0, ![]⟩ .f32 0x00000000#32) Cert.SumAbOutRefIdeal.Gen.reducesTo_S4x128x1024_S128x1024_d0 Cert.SumAbOutRefIdeal.Gen.h_S_ : FVec Ideal S128x1024 .f32) := by
  refine (dats m 0 c).arrAt_eq_of_covers 4 _ (by decide +kernel) fun t _ y => ?_
  blk_simp
  rw [after0_4]
  frame_out
  obtain ⟨i, j, rfl⟩ : ∃ i j, y = ix2 i j := ⟨y 0, y 1, (ix2_eta y).symm⟩
  pointwise [k0_pay1, Fin.sum_univ_four]
  blk_point [iblk, V, places t]

end SumAbOut

theorem frame_sumAbOut : Cert.quiescent_SumAbOut := fun m g _ => Cert.SumAbOutIdeal.Gen.frame (F := Bits) m g

theorem frame_sumAbOutIdeal : Cert.quiescent_SumAbOutIdeal := fun m g _ => Cert.SumAbOutIdeal.Gen.frame (F := Ideal) m g

theorem frame_sumAbOutRefIdeal : Cert.quiescent_SumAbOutRefIdeal := fun m g _ =>
  (θ_run Cert.SumAbOutRefIdeal.defs _ _).mono (fun r h => ⟨fun c => (h c).2, sem_eq_zero_of_no_sems (by decide) r.2⟩)
    (Cert.SumAbOutRefIdeal.Value.run (F := Ideal) m g)

theorem algebraic_sumAbOut : Cert.algebraic_SumAbOutIdeal_SumAbOutRefIdeal := by
  intro m g m' g' _ h
  refine ⟨fun _ => _, ?_, (θ_run Cert.SumAbOutRefIdeal.defs _ _).mono (fun _ hr => Fin.forall_fin_one.2 (hr 0)) (Cert.SumAbOutRefIdeal.Value.run (F := Ideal) m' g')⟩
  refine (θ_run Cert.SumAbOutIdeal.defs _ _).mono (fun _ hr => Fin.forall_fin_one.2 ?_) (Cert.SumAbOutIdeal.Value.run_blocks (F := Ideal) m g)
  obtain ⟨r0, ha⟩ := hr 0
  rw [h 0]
  exact ⟨r0.trans (SumAbOut.out m 0), ha⟩

namespace SumGlu

open Cert.SumGluIdeal Cert.SumGluIdeal.Gen

/-- The places of the windows: input window k reads slot k, at point t the t-th block of rows. -/
theorem places : ∀ t : Fin cfg0.N, (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 2 ∧ win0_2.index t (1 : Fin 3) = t.val ∧ win0_2.index t (2 : Fin 3) = 0)
    ∧ (win0_3.index t (0 : Fin 3) = 3 ∧ win0_3.index t (1 : Fin 3) = t.val ∧ win0_3.index t (2 : Fin 3) = 0)
    ∧ (win0_4.index t (0 : Fin 2) = t.val ∧ win0_4.index t (1 : Fin 2) = 0) :=
  (by decide +kernel : ∀ t : Fin grid0.N, _)

/-- What the kernel leaves is the sum over the slots. -/
theorem out (m : (ℓ : Loc nD τ sig) → Buf (Elt Ideal) ℓ) (c : Dev nD) : (dats m 0 c).arrAt 4 cfg0.N
    = (Host.reduceAdd (F := Ideal) (φ := .f32) (m ((c : Thread nD τ).loc main_arg0)) (constant ⟨0, ![]⟩ .f32 0x00000000#32) Cert.SumGluRefIdeal.Gen.reducesTo_S4x64x512_S64x512_d0 Cert.SumGluRefIdeal.Gen.h_S_ : FVec Ideal S64x512 .f32) := by
  refine (dats m 0 c).arrAt_eq_of_covers 4 _ (by decide +kernel) fun t _ y => ?_
  blk_simp
  rw [after0_4]
  frame_out
  obtain ⟨i, j, rfl⟩ : ∃ i j, y = ix2 i j := ⟨y 0, y 1, (ix2_eta y).symm⟩
  pointwise [k0_pay1, Fin.sum_univ_four]
  blk_point [iblk, V, places t]

end SumGlu

theorem frame_sumGlu : Cert.quiescent_SumGlu := fun m g _ => Cert.SumGluIdeal.Gen.frame (F := Bits) m g

theorem frame_sumGluIdeal : Cert.quiescent_SumGluIdeal := fun m g _ => Cert.SumGluIdeal.Gen.frame (F := Ideal) m g

theorem frame_sumGluRefIdeal : Cert.quiescent_SumGluRefIdeal := fun m g _ =>
  (θ_run Cert.SumGluRefIdeal.defs _ _).mono (fun r h => ⟨fun c => (h c).2, sem_eq_zero_of_no_sems (by decide) r.2⟩)
    (Cert.SumGluRefIdeal.Value.run (F := Ideal) m g)

theorem algebraic_sumGlu : Cert.algebraic_SumGluIdeal_SumGluRefIdeal := by
  intro m g m' g' _ h
  refine ⟨fun _ => _, ?_, (θ_run Cert.SumGluRefIdeal.defs _ _).mono (fun _ hr => Fin.forall_fin_one.2 (hr 0)) (Cert.SumGluRefIdeal.Value.run (F := Ideal) m' g')⟩
  refine (θ_run Cert.SumGluIdeal.defs _ _).mono (fun _ hr => Fin.forall_fin_one.2 ?_) (Cert.SumGluIdeal.Value.run_blocks (F := Ideal) m g)
  obtain ⟨r0, ha⟩ := hr 0
  rw [h 0]
  exact ⟨r0.trans (SumGlu.out m 0), ha⟩

namespace SumGdnIn

open Cert.SumGdnInIdeal Cert.SumGdnInIdeal.Gen

/-- The places of the windows: input window k reads slot k, at point t the t-th block of rows. -/
theorem places : ∀ t : Fin cfg0.N, (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 2 ∧ win0_2.index t (1 : Fin 3) = t.val ∧ win0_2.index t (2 : Fin 3) = 0)
    ∧ (win0_3.index t (0 : Fin 3) = 3 ∧ win0_3.index t (1 : Fin 3) = t.val ∧ win0_3.index t (2 : Fin 3) = 0)
    ∧ (win0_4.index t (0 : Fin 2) = t.val ∧ win0_4.index t (1 : Fin 2) = 0) :=
  (by decide +kernel : ∀ t : Fin grid0.N, _)

/-- What the kernel leaves is the sum over the slots. -/
theorem out (m : (ℓ : Loc nD τ sig) → Buf (Elt Ideal) ℓ) (c : Dev nD) : (dats m 0 c).arrAt 4 cfg0.N
    = (Host.reduceAdd (F := Ideal) (φ := .f32) (m ((c : Thread nD τ).loc main_arg0)) (constant ⟨0, ![]⟩ .f32 0x00000000#32) Cert.SumGdnInRefIdeal.Gen.reducesTo_S4x512x1028_S512x1028_d0 Cert.SumGdnInRefIdeal.Gen.h_S_ : FVec Ideal S512x1028 .f32) := by
  refine (dats m 0 c).arrAt_eq_of_covers 4 _ (by decide +kernel) fun t _ y => ?_
  blk_simp
  rw [after0_4]
  frame_out
  obtain ⟨i, j, rfl⟩ : ∃ i j, y = ix2 i j := ⟨y 0, y 1, (ix2_eta y).symm⟩
  pointwise [k0_pay1, Fin.sum_univ_four]
  blk_point [iblk, V, places t]

end SumGdnIn

theorem frame_sumGdnIn : Cert.quiescent_SumGdnIn := fun m g _ => Cert.SumGdnInIdeal.Gen.frame (F := Bits) m g

theorem frame_sumGdnInIdeal : Cert.quiescent_SumGdnInIdeal := fun m g _ => Cert.SumGdnInIdeal.Gen.frame (F := Ideal) m g

theorem frame_sumGdnInRefIdeal : Cert.quiescent_SumGdnInRefIdeal := fun m g _ =>
  (θ_run Cert.SumGdnInRefIdeal.defs _ _).mono (fun r h => ⟨fun c => (h c).2, sem_eq_zero_of_no_sems (by decide) r.2⟩)
    (Cert.SumGdnInRefIdeal.Value.run (F := Ideal) m g)

theorem algebraic_sumGdnIn : Cert.algebraic_SumGdnInIdeal_SumGdnInRefIdeal := by
  intro m g m' g' _ h
  refine ⟨fun _ => _, ?_, (θ_run Cert.SumGdnInRefIdeal.defs _ _).mono (fun _ hr => Fin.forall_fin_one.2 (hr 0)) (Cert.SumGdnInRefIdeal.Value.run (F := Ideal) m' g')⟩
  refine (θ_run Cert.SumGdnInIdeal.defs _ _).mono (fun _ hr => Fin.forall_fin_one.2 ?_) (Cert.SumGdnInIdeal.Value.run_blocks (F := Ideal) m g)
  obtain ⟨r0, ha⟩ := hr 0
  rw [h 0]
  exact ⟨r0.trans (SumGdnIn.out m 0), ha⟩

namespace SumGdnOut

open Cert.SumGdnOutIdeal Cert.SumGdnOutIdeal.Gen

/-- The places of the windows: input window k reads slot k, at point t the t-th block of rows. -/
theorem places : ∀ t : Fin cfg0.N, (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 2 ∧ win0_2.index t (1 : Fin 3) = t.val ∧ win0_2.index t (2 : Fin 3) = 0)
    ∧ (win0_3.index t (0 : Fin 3) = 3 ∧ win0_3.index t (1 : Fin 3) = t.val ∧ win0_3.index t (2 : Fin 3) = 0)
    ∧ (win0_4.index t (0 : Fin 2) = t.val ∧ win0_4.index t (1 : Fin 2) = 0) :=
  (by decide +kernel : ∀ t : Fin grid0.N, _)

/-- What the kernel leaves is the sum over the slots. -/
theorem out (m : (ℓ : Loc nD τ sig) → Buf (Elt Ideal) ℓ) (c : Dev nD) : (dats m 0 c).arrAt 4 cfg0.N
    = (Host.reduceAdd (F := Ideal) (φ := .f32) (m ((c : Thread nD τ).loc main_arg0)) (constant ⟨0, ![]⟩ .f32 0x00000000#32) Cert.SumGdnOutRefIdeal.Gen.reducesTo_S4x128x1024_S128x1024_d0 Cert.SumGdnOutRefIdeal.Gen.h_S_ : FVec Ideal S128x1024 .f32) := by
  refine (dats m 0 c).arrAt_eq_of_covers 4 _ (by decide +kernel) fun t _ y => ?_
  blk_simp
  rw [after0_4]
  frame_out
  obtain ⟨i, j, rfl⟩ : ∃ i j, y = ix2 i j := ⟨y 0, y 1, (ix2_eta y).symm⟩
  pointwise [k0_pay1, Fin.sum_univ_four]
  blk_point [iblk, V, places t]

end SumGdnOut

theorem frame_sumGdnOut : Cert.quiescent_SumGdnOut := fun m g _ => Cert.SumGdnOutIdeal.Gen.frame (F := Bits) m g

theorem frame_sumGdnOutIdeal : Cert.quiescent_SumGdnOutIdeal := fun m g _ => Cert.SumGdnOutIdeal.Gen.frame (F := Ideal) m g

theorem frame_sumGdnOutRefIdeal : Cert.quiescent_SumGdnOutRefIdeal := fun m g _ =>
  (θ_run Cert.SumGdnOutRefIdeal.defs _ _).mono (fun r h => ⟨fun c => (h c).2, sem_eq_zero_of_no_sems (by decide) r.2⟩)
    (Cert.SumGdnOutRefIdeal.Value.run (F := Ideal) m g)

theorem algebraic_sumGdnOut : Cert.algebraic_SumGdnOutIdeal_SumGdnOutRefIdeal := by
  intro m g m' g' _ h
  refine ⟨fun _ => _, ?_, (θ_run Cert.SumGdnOutRefIdeal.defs _ _).mono (fun _ hr => Fin.forall_fin_one.2 (hr 0)) (Cert.SumGdnOutRefIdeal.Value.run (F := Ideal) m' g')⟩
  refine (θ_run Cert.SumGdnOutIdeal.defs _ _).mono (fun _ hr => Fin.forall_fin_one.2 ?_) (Cert.SumGdnOutIdeal.Value.run_blocks (F := Ideal) m g)
  obtain ⟨r0, ha⟩ := hr 0
  rw [h 0]
  exact ⟨r0.trans (SumGdnOut.out m 0), ha⟩

theorem frame_sibAbIn : Cert.quiescent_SibAbIn := fun m g _ => Cert.SibAbInIdeal.Gen.frame (F := Bits) m g

theorem frame_sibAbInIdeal : Cert.quiescent_SibAbInIdeal := fun m g _ => Cert.SibAbInIdeal.Gen.frame (F := Ideal) m g

theorem frame_sibAbInRefIdeal : Cert.quiescent_SibAbInRefIdeal := fun m g _ =>
  (θ_run Cert.SibAbInRefIdeal.defs _ _).mono (fun r h => ⟨fun c => (h c).2, sem_eq_zero_of_no_sems (by decide) r.2⟩)
    (Cert.SibAbInRefIdeal.Value.run (F := Ideal) m g)

theorem algebraic_sibAbIn : Cert.algebraic_SibAbInIdeal_SibAbInRefIdeal := by
  intro m g m' g' _ h
  obtain ⟨h0, h1⟩ := h 0
  refine ⟨fun _ => _, ?_, (θ_run Cert.SibAbInRefIdeal.defs _ _).mono (fun _ hr => Fin.forall_fin_one.2 (hr 0)) (Cert.SibAbInRefIdeal.Value.run (F := Ideal) m' g')⟩
  refine (θ_run Cert.SibAbInIdeal.defs _ _).mono (fun _ hr => Fin.forall_fin_one.2 ?_) (Cert.SibAbInIdeal.Value.run (F := Ideal) m g)
  obtain ⟨r0, ha⟩ := hr 0
  rw [h0, h1]
  exact ⟨r0, ha⟩

theorem frame_sibAbInRef : Cert.quiescent_SibAbInRef := fun m g _ =>
  (θ_run Cert.SibAbInRefIdeal.defs _ _).mono (fun r h => ⟨fun c => (h c).2, sem_eq_zero_of_no_sems (by decide) r.2⟩)
    (Cert.SibAbInRefIdeal.Value.run (F := Bits) m g)

theorem bitexact_sibAbIn : Cert.bitexact_SibAbIn_SibAbInRef := by
  intro m g m' g' _ h
  obtain ⟨h0, h1⟩ := h 0
  refine ⟨fun _ => _, ?_, (θ_run Cert.SibAbInRefIdeal.defs _ _).mono (fun _ hr => Fin.forall_fin_one.2 (hr 0)) (Cert.SibAbInRefIdeal.Value.run (F := Bits) m' g')⟩
  refine (θ_run Cert.SibAbInIdeal.defs _ _).mono (fun _ hr => Fin.forall_fin_one.2 ?_) (Cert.SibAbInIdeal.Value.run (F := Bits) m g)
  obtain ⟨r0, ha⟩ := hr 0
  rw [h0, h1]
  exact ⟨r0, ha⟩

theorem frame_sibAbOut : Cert.quiescent_SibAbOut := fun m g _ => Cert.SibAbOutIdeal.Gen.frame (F := Bits) m g

theorem frame_sibAbOutIdeal : Cert.quiescent_SibAbOutIdeal := fun m g _ => Cert.SibAbOutIdeal.Gen.frame (F := Ideal) m g

theorem frame_sibAbOutRefIdeal : Cert.quiescent_SibAbOutRefIdeal := fun m g _ =>
  (θ_run Cert.SibAbOutRefIdeal.defs _ _).mono (fun r h => ⟨fun c => (h c).2, sem_eq_zero_of_no_sems (by decide) r.2⟩)
    (Cert.SibAbOutRefIdeal.Value.run (F := Ideal) m g)

theorem algebraic_sibAbOut : Cert.algebraic_SibAbOutIdeal_SibAbOutRefIdeal := by
  intro m g m' g' _ h
  obtain ⟨h0, h1⟩ := h 0
  refine ⟨fun _ => _, ?_, (θ_run Cert.SibAbOutRefIdeal.defs _ _).mono (fun _ hr => Fin.forall_fin_one.2 (hr 0)) (Cert.SibAbOutRefIdeal.Value.run (F := Ideal) m' g')⟩
  refine (θ_run Cert.SibAbOutIdeal.defs _ _).mono (fun _ hr => Fin.forall_fin_one.2 ?_) (Cert.SibAbOutIdeal.Value.run (F := Ideal) m g)
  obtain ⟨r0, ha⟩ := hr 0
  rw [h0, h1]
  exact ⟨r0, ha⟩

theorem frame_sibAbOutRef : Cert.quiescent_SibAbOutRef := fun m g _ =>
  (θ_run Cert.SibAbOutRefIdeal.defs _ _).mono (fun r h => ⟨fun c => (h c).2, sem_eq_zero_of_no_sems (by decide) r.2⟩)
    (Cert.SibAbOutRefIdeal.Value.run (F := Bits) m g)

theorem bitexact_sibAbOut : Cert.bitexact_SibAbOut_SibAbOutRef := by
  intro m g m' g' _ h
  obtain ⟨h0, h1⟩ := h 0
  refine ⟨fun _ => _, ?_, (θ_run Cert.SibAbOutRefIdeal.defs _ _).mono (fun _ hr => Fin.forall_fin_one.2 (hr 0)) (Cert.SibAbOutRefIdeal.Value.run (F := Bits) m' g')⟩
  refine (θ_run Cert.SibAbOutIdeal.defs _ _).mono (fun _ hr => Fin.forall_fin_one.2 ?_) (Cert.SibAbOutIdeal.Value.run (F := Bits) m g)
  obtain ⟨r0, ha⟩ := hr 0
  rw [h0, h1]
  exact ⟨r0, ha⟩

theorem frame_sibGlu : Cert.quiescent_SibGlu := fun m g _ => Cert.SibGluIdeal.Gen.frame (F := Bits) m g

theorem frame_sibGluIdeal : Cert.quiescent_SibGluIdeal := fun m g _ => Cert.SibGluIdeal.Gen.frame (F := Ideal) m g

theorem frame_sibGluRefIdeal : Cert.quiescent_SibGluRefIdeal := fun m g _ =>
  (θ_run Cert.SibGluRefIdeal.defs _ _).mono (fun r h => ⟨fun c => (h c).2, sem_eq_zero_of_no_sems (by decide) r.2⟩)
    (Cert.SibGluRefIdeal.Value.run (F := Ideal) m g)

theorem algebraic_sibGlu : Cert.algebraic_SibGluIdeal_SibGluRefIdeal := by
  intro m g m' g' _ h
  obtain ⟨h0, h1⟩ := h 0
  refine ⟨fun _ => _, ?_, (θ_run Cert.SibGluRefIdeal.defs _ _).mono (fun _ hr => Fin.forall_fin_one.2 (hr 0)) (Cert.SibGluRefIdeal.Value.run (F := Ideal) m' g')⟩
  refine (θ_run Cert.SibGluIdeal.defs _ _).mono (fun _ hr => Fin.forall_fin_one.2 ?_) (Cert.SibGluIdeal.Value.run (F := Ideal) m g)
  obtain ⟨r0, ha⟩ := hr 0
  rw [h0, h1]
  exact ⟨r0, ha⟩

theorem frame_sibGluRef : Cert.quiescent_SibGluRef := fun m g _ =>
  (θ_run Cert.SibGluRefIdeal.defs _ _).mono (fun r h => ⟨fun c => (h c).2, sem_eq_zero_of_no_sems (by decide) r.2⟩)
    (Cert.SibGluRefIdeal.Value.run (F := Bits) m g)

theorem bitexact_sibGlu : Cert.bitexact_SibGlu_SibGluRef := by
  intro m g m' g' _ h
  obtain ⟨h0, h1⟩ := h 0
  refine ⟨fun _ => _, ?_, (θ_run Cert.SibGluRefIdeal.defs _ _).mono (fun _ hr => Fin.forall_fin_one.2 (hr 0)) (Cert.SibGluRefIdeal.Value.run (F := Bits) m' g')⟩
  refine (θ_run Cert.SibGluIdeal.defs _ _).mono (fun _ hr => Fin.forall_fin_one.2 ?_) (Cert.SibGluIdeal.Value.run (F := Bits) m g)
  obtain ⟨r0, ha⟩ := hr 0
  rw [h0, h1]
  exact ⟨r0, ha⟩

theorem frame_sibGdnIn : Cert.quiescent_SibGdnIn := fun m g _ => Cert.SibGdnInIdeal.Gen.frame (F := Bits) m g

theorem frame_sibGdnInIdeal : Cert.quiescent_SibGdnInIdeal := fun m g _ => Cert.SibGdnInIdeal.Gen.frame (F := Ideal) m g

theorem frame_sibGdnInRefIdeal : Cert.quiescent_SibGdnInRefIdeal := fun m g _ =>
  (θ_run Cert.SibGdnInRefIdeal.defs _ _).mono (fun r h => ⟨fun c => (h c).2, sem_eq_zero_of_no_sems (by decide) r.2⟩)
    (Cert.SibGdnInRefIdeal.Value.run (F := Ideal) m g)

theorem algebraic_sibGdnIn : Cert.algebraic_SibGdnInIdeal_SibGdnInRefIdeal := by
  intro m g m' g' _ h
  obtain ⟨h0, h1⟩ := h 0
  refine ⟨fun _ => _, ?_, (θ_run Cert.SibGdnInRefIdeal.defs _ _).mono (fun _ hr => Fin.forall_fin_one.2 (hr 0)) (Cert.SibGdnInRefIdeal.Value.run (F := Ideal) m' g')⟩
  refine (θ_run Cert.SibGdnInIdeal.defs _ _).mono (fun _ hr => Fin.forall_fin_one.2 ?_) (Cert.SibGdnInIdeal.Value.run (F := Ideal) m g)
  obtain ⟨r0, ha⟩ := hr 0
  rw [h0, h1]
  exact ⟨r0, ha⟩

theorem frame_sibGdnInRef : Cert.quiescent_SibGdnInRef := fun m g _ =>
  (θ_run Cert.SibGdnInRefIdeal.defs _ _).mono (fun r h => ⟨fun c => (h c).2, sem_eq_zero_of_no_sems (by decide) r.2⟩)
    (Cert.SibGdnInRefIdeal.Value.run (F := Bits) m g)

theorem bitexact_sibGdnIn : Cert.bitexact_SibGdnIn_SibGdnInRef := by
  intro m g m' g' _ h
  obtain ⟨h0, h1⟩ := h 0
  refine ⟨fun _ => _, ?_, (θ_run Cert.SibGdnInRefIdeal.defs _ _).mono (fun _ hr => Fin.forall_fin_one.2 (hr 0)) (Cert.SibGdnInRefIdeal.Value.run (F := Bits) m' g')⟩
  refine (θ_run Cert.SibGdnInIdeal.defs _ _).mono (fun _ hr => Fin.forall_fin_one.2 ?_) (Cert.SibGdnInIdeal.Value.run (F := Bits) m g)
  obtain ⟨r0, ha⟩ := hr 0
  rw [h0, h1]
  exact ⟨r0, ha⟩

theorem frame_sibGdnOut : Cert.quiescent_SibGdnOut := fun m g _ => Cert.SibGdnOutIdeal.Gen.frame (F := Bits) m g

theorem frame_sibGdnOutIdeal : Cert.quiescent_SibGdnOutIdeal := fun m g _ => Cert.SibGdnOutIdeal.Gen.frame (F := Ideal) m g

theorem frame_sibGdnOutRefIdeal : Cert.quiescent_SibGdnOutRefIdeal := fun m g _ =>
  (θ_run Cert.SibGdnOutRefIdeal.defs _ _).mono (fun r h => ⟨fun c => (h c).2, sem_eq_zero_of_no_sems (by decide) r.2⟩)
    (Cert.SibGdnOutRefIdeal.Value.run (F := Ideal) m g)

theorem algebraic_sibGdnOut : Cert.algebraic_SibGdnOutIdeal_SibGdnOutRefIdeal := by
  intro m g m' g' _ h
  obtain ⟨h0, h1⟩ := h 0
  refine ⟨fun _ => _, ?_, (θ_run Cert.SibGdnOutRefIdeal.defs _ _).mono (fun _ hr => Fin.forall_fin_one.2 (hr 0)) (Cert.SibGdnOutRefIdeal.Value.run (F := Ideal) m' g')⟩
  refine (θ_run Cert.SibGdnOutIdeal.defs _ _).mono (fun _ hr => Fin.forall_fin_one.2 ?_) (Cert.SibGdnOutIdeal.Value.run (F := Ideal) m g)
  obtain ⟨r0, ha⟩ := hr 0
  rw [h0, h1]
  exact ⟨r0, ha⟩

theorem frame_sibGdnOutRef : Cert.quiescent_SibGdnOutRef := fun m g _ =>
  (θ_run Cert.SibGdnOutRefIdeal.defs _ _).mono (fun r h => ⟨fun c => (h c).2, sem_eq_zero_of_no_sems (by decide) r.2⟩)
    (Cert.SibGdnOutRefIdeal.Value.run (F := Bits) m g)

theorem bitexact_sibGdnOut : Cert.bitexact_SibGdnOut_SibGdnOutRef := by
  intro m g m' g' _ h
  obtain ⟨h0, h1⟩ := h 0
  refine ⟨fun _ => _, ?_, (θ_run Cert.SibGdnOutRefIdeal.defs _ _).mono (fun _ hr => Fin.forall_fin_one.2 (hr 0)) (Cert.SibGdnOutRefIdeal.Value.run (F := Bits) m' g')⟩
  refine (θ_run Cert.SibGdnOutIdeal.defs _ _).mono (fun _ hr => Fin.forall_fin_one.2 ?_) (Cert.SibGdnOutIdeal.Value.run (F := Bits) m g)
  obtain ⟨r0, ha⟩ := hr 0
  rw [h0, h1]
  exact ⟨r0, ha⟩

end Exchange.Sums

end
-- ==== Proof.Modulation.lean ====
/-
  The claims about the modulation's two products: the modulation of all examples from their conditions, and the
  gradient of the modulation's weight from all devices' parts.
-/
module

public import proofs.«01_k».proof.Defs
public import proofs.«01_k».proof.Proof.Gen.ModLocal
public import proofs.«01_k».proof.Proof.Gen.ModLocalIdeal.Value
public import proofs.«01_k».proof.Proof.Gen.ModLocalRefIdeal.Run
public import proofs.«01_k».proof.Proof.Gen.AdaGrad
public import proofs.«01_k».proof.Proof.Gen.AdaGradIdeal.Value
public import proofs.«01_k».proof.Proof.Gen.AdaGradRefIdeal.Run
public import Idealize.ShloMosaic.Lib.KernelVsHost
public import Idealize.ShloMosaic.Lib.Pipeline.ValueKit.Tiles
public import Idealize.ShloMosaic.Lib.IdealHost
public import Idealize.ShloMosaic.Lib.Pointwise.Contract

@[expose] public section

set_option Elab.async false

noncomputable section

namespace Exchange.Modulation

open Idealize.ShloMosaic Idealize.ShloMosaic.TcCoe Idealize.SL.Sem

/-- A host product over one axis, read at an index: the sum over that axis, the operands' indices named. -/
theorem dot_apply {sl sr so : Shape} (d : DotDims sl sr so) {a : Fin sl.rank} (hc : d.lhsContracting = [a]) {K : ℕ} (hK : sl.size a = K)
    (prec : Option ContractPrecision) (lhs : FVec Ideal sl .f32) (rhs : FVec Ideal sr .f32) (j : so.Idx)
    (L : Fin K → sl.Idx) (R : Fin K → sr.Idx) (hL : ∀ k, d.lhsIdx j (d.contrIdx₁ hc hK k) = L k) (hR : ∀ k, d.rhsIdx j (d.contrIdx₁ hc hK k) = R k) :
    Host.dotGeneral d prec lhs rhs j = (∑ k : Fin K, lhs (L k) * rhs (R k) : EReal) := by
  show FloatOps.dotGeneral d prec _ lhs rhs j = _
  rw [Ideal.dotGeneral_apply, d.sum_contr₁ hc hK]
  simp only [hL, hR]

/-- The kernel's `x · sigmoid x` is the host's. -/
theorem silu_eq (x : FVec Ideal ⟨2, ![8, 1024]⟩ .f32) (h : (⟨0, ![]⟩ : Shape).BroadcastsInDim ⟨2, ![8, 1024]⟩ ![]) :
    mulf x (logistic x) = mulf x (Host.divf (broadcastInDim ⟨2, ![8, 1024]⟩ ![] h (constant ⟨0, ![]⟩ .f32 0x3F800000#32))
      (addf (broadcastInDim ⟨2, ![8, 1024]⟩ ![] h (constant ⟨0, ![]⟩ .f32 0x3F800000#32)) (Host.exp (Host.negf x)))) := by
  funext j
  refine congrArg (FloatOps.mulf (F := Ideal) (x j)) ?_
  show Ideal.logistic (x j) = Ideal.div (Ideal.ofBits .f32 0x3F800000#32) (Ideal.ofBits .f32 0x3F800000#32 + Ideal.exp (-(x j)))
  rw [Ideal.ofBits_one_f32]
  rfl

section ModLocal
open Cert.ModLocalIdeal Cert.ModLocalIdeal.Gen Cert.ModLocalIdeal.Value

/-- The modulation at part l, example e and channel c: the sum over the conditions. -/
abbrev modAt (s : FVec Ideal S8x1024 .f32) (w : FVec Ideal S2x1024x768 .f32) : FVec Ideal S2x8x768 .f32 :=
  fun i => (∑ k : Fin 1024, s (ix2 (i 1) k) * w (ix3 (i 0) k (i 2)) : EReal)

/-- One part's product, laid in its slot, is that part. -/
theorem mod_piece (s : FVec Ideal S8x1024 .f32) (w : FVec Ideal S2x1024x768 .f32) (l : Fin 2) (v : FVec Ideal S1x1024x768 .f32)
    (hv : ∀ k c, v (ix3 0 k c) = w (ix3 l k c)) (x : S1x8x768.Idx) (i : S2x8x768.Idx) (h0 : i 0 = l) (h1 : i 1 = x 1) (h2 : i 2 = x 2) :
    shapeCast S1x8x768 (matmul dot_S8x1024_S1024x768_S8x768_1_0_0_1_n_n (some .fp32) s
      (shapeCast S1024x768 v shapeCasts_S1x1024x768_S1024x768) (constant S8x768 .f32 0x00000000#32)) shapeCasts_S8x768_S1x8x768 x = modAt s w i := by
  have hx : (x 0).val < 1 := (x 0).isLt
  refine (shapeCast_apply (s := S8x768) (t := S1x8x768) _ _ x (ix2 (x 1) (x 2)) (by
    rw [Shape.rowMajor_val_two, Shape.rowMajor_val_three]
    show (x 1).val * 768 + (x 2).val = ((x 0).val * 8 + (x 1).val) * 768 + (x 2).val
    omega)).trans ?_
  rw [matmul_zero_eq_dotGeneral]
  refine (dot_apply dot_S8x1024_S1024x768_S8x768_1_0_0_1_n_n (a := 1) rfl (K := 1024) rfl _ _ _ _ (fun k => ix2 (x 1) k) (fun k => ix2 k (x 2))
    (fun k => funext fun a => Fin.ext (by fin_cases a <;> rfl)) (fun k => funext fun a => Fin.ext (by fin_cases a <;> rfl))).trans ?_
  refine Finset.sum_congr rfl fun k _ => ?_
  rw [h0, h1, h2]
  refine congrArg (s _ * ·) ((shapeCast_apply (s := S1x1024x768) (t := S1024x768) v _ (ix2 k (x 2)) (ix3 0 k (x 2)) (by
    rw [Shape.rowMajor_val_two, Shape.rowMajor_val_three]
    show (0 * 1024 + k.val) * 768 + (x 2).val = k.val * 768 + (x 2).val
    omega)).trans (hv k (x 2)))

/-- The first part's slot. -/
theorem mod_first (a0 : FVec Ideal S8x1024 .f32) (a1 : FVec Ideal S2x1024x768 .f32) (x : S1x8x768.Idx) :
    k0_pay2 a0 (View.ld (Val := Elt Ideal) (e' := .f32) a1 r0_1) x = modAt (k0_pay1 a0) a1 (r0_2.idx x) :=
  mod_piece _ a1 0 _ (fun k c => congrArg a1 (funext fun a => Fin.ext ((Rect.idx_unit_val (s := S2x1024x768) ![0, 0, 0] S1x1024x768.size inb_S2x1024x768_S1x1024x768_0_0_0 (ix3 0 k c) a).trans
      (by fin_cases a <;> simp)))) x _
    (Fin.ext ((Rect.idx_unit_val (s := S2x8x768) ![0, 0, 0] S1x8x768.size inb_S2x8x768_S1x8x768_0_0_0 x 0).trans (by have : (x 0).val < 1 := (x 0).isLt; show 0 + (x 0).val = 0; omega)))
    (Fin.ext ((Rect.idx_unit_val (s := S2x8x768) ![0, 0, 0] S1x8x768.size inb_S2x8x768_S1x8x768_0_0_0 x 1).trans (Nat.zero_add _)))
    (Fin.ext ((Rect.idx_unit_val (s := S2x8x768) ![0, 0, 0] S1x8x768.size inb_S2x8x768_S1x8x768_0_0_0 x 2).trans (Nat.zero_add _)))

/-- The second part's slot. -/
theorem mod_second (a0 : FVec Ideal S8x1024 .f32) (a1 : FVec Ideal S2x1024x768 .f32) (x : S1x8x768.Idx) :
    k0_pay3 a0 (View.ld (Val := Elt Ideal) (e' := .f32) a1 r0_3) x = modAt (k0_pay1 a0) a1 (r0_4.idx x) :=
  mod_piece _ a1 1 _ (fun k c => congrArg a1 (funext fun a => Fin.ext ((Rect.idx_unit_val (s := S2x1024x768) ![1, 0, 0] S1x1024x768.size inb_S2x1024x768_S1x1024x768_1_0_0 (ix3 0 k c) a).trans
      (by fin_cases a <;> simp)))) x _
    (Fin.ext ((Rect.idx_unit_val (s := S2x8x768) ![1, 0, 0] S1x8x768.size inb_S2x8x768_S1x8x768_1_0_0 x 0).trans (by have : (x 0).val < 1 := (x 0).isLt; show 1 + (x 0).val = 1; omega)))
    (Fin.ext ((Rect.idx_unit_val (s := S2x8x768) ![1, 0, 0] S1x8x768.size inb_S2x8x768_S1x8x768_1_0_0 x 1).trans (Nat.zero_add _)))
    (Fin.ext ((Rect.idx_unit_val (s := S2x8x768) ![1, 0, 0] S1x8x768.size inb_S2x8x768_S1x8x768_1_0_0 x 2).trans (Nat.zero_add _)))

/-- What the kernel leaves is the modulation of every example. -/
theorem mod_eq (a0 : FVec Ideal S8x1024 .f32) (a1 : FVec Ideal S2x1024x768 .f32) :
    G2 (F := Ideal) a0 a1 = modAt (k0_pay1 a0) a1 := by
  funext y
  refine View.canon_apply_of_pieces (Val := Elt Ideal) (e := .f32) (modAt (k0_pay1 a0) a1) _ ?_ y (cover0_2 _ _ y)
  intro p hp
  rcases List.mem_cons.1 hp with rfl | hp
  · exact mod_second a0 a1
  · obtain rfl := List.mem_singleton.1 hp
    exact mod_first a0 a1

end ModLocal

section ModLocalReference
open Cert.ModLocalRefIdeal Cert.ModLocalRefIdeal.Facts₀

/-- The modulation is the host product of the conditions through `silu` with the weight. -/
theorem mod_reference (a0 : FVec Ideal S8x1024 .f32) (a1 : FVec Ideal S2x1024x768 .f32) :
    modAt (Cert.ModLocalIdeal.Gen.k0_pay1 a0) a1 = (transpose S2x8x768 [1, 0, 2] (Host.dotGeneral dot_S8x1024_S2x1024x768_S8x2x768_1_1_0_02_n_n none (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) a1) transposes_S8x2x768_S2x8x768_1_0_2 : FVec Ideal S2x8x768 .f32) := by
  show modAt (mulf a0 (logistic a0)) a1 = _
  rw [silu_eq a0 bcast_S_S8x1024]
  funext i
  refine Eq.trans ?_ (transpose_apply _ _ _ i (ix3 (i 1) (i 0) (i 2)) (fun a => by fin_cases a <;> rfl)).symm
  refine Eq.trans ?_ (dot_apply _ (a := 1) rfl (K := 1024) rfl _ _ _ _ (fun k => ix2 (i 1) k) (fun k => ix3 (i 0) k (i 2))
      (fun k => funext fun a => Fin.ext (by fin_cases a <;> rfl)) (fun k => funext fun a => Fin.ext (by fin_cases a <;> rfl))).symm
  rfl

end ModLocalReference

set_option smartUnfolding false in
-- a program and its idealization are unified unfolding by unfolding
theorem frame_modLocal : Cert.quiescent_ModLocal := fun m g _ => Cert.ModLocalIdeal.Gen.frame (F := Bits) m g

theorem frame_modLocalIdeal : Cert.quiescent_ModLocalIdeal := fun m g _ => Cert.ModLocalIdeal.Gen.frame (F := Ideal) m g

theorem frame_modLocalRefIdeal : Cert.quiescent_ModLocalRefIdeal := fun m g _ =>
  (θ_run Cert.ModLocalRefIdeal.defs _ _).mono (fun r h => ⟨fun c => (h c).2, sem_eq_zero_of_no_sems (by decide) r.2⟩)
    (Cert.ModLocalRefIdeal.Value.run (F := Ideal) m g)

/-- Ideally the kernel's modulation of the eight examples is the reference's. -/
theorem algebraic_modLocal : Cert.algebraic_ModLocalIdeal_ModLocalRefIdeal := by
  intro m g m' g' _ h
  obtain ⟨h0, h1⟩ := h 0
  refine ⟨fun _ => _, ?_, (θ_run Cert.ModLocalRefIdeal.defs _ _).mono (fun _ hr => Fin.forall_fin_one.2 (hr 0)) (Cert.ModLocalRefIdeal.Value.run (F := Ideal) m' g')⟩
  refine (θ_run Cert.ModLocalIdeal.defs _ _).mono (fun _ hr => Fin.forall_fin_one.2 ?_) (Cert.ModLocalIdeal.Value.run (F := Ideal) m g)
  obtain ⟨r0, ha⟩ := hr 0
  rw [h0, h1]
  exact ⟨r0.trans ((mod_eq _ _).trans (mod_reference _ _)), ha⟩

section AdaGrad
open Cert.AdaGradIdeal Cert.AdaGradIdeal.Gen Cert.AdaGradIdeal.Value

/-- The weight's gradient at part l, condition d and channel c: the sum over the examples. -/
abbrev gradAt (s : FVec Ideal S8x1024 .f32) (w : FVec Ideal S2x8x768 .f32) : FVec Ideal S2x1024x768 .f32 :=
  fun i => (∑ k : Fin 8, s (ix2 k (i 1)) * w (ix3 (i 0) k (i 2)) : EReal)

/-- One part's product, laid in its slot, is that part. -/
theorem grad_piece (s : FVec Ideal S8x1024 .f32) (w : FVec Ideal S2x8x768 .f32) (l : Fin 2) (v : FVec Ideal S1x8x768 .f32)
    (hv : ∀ k c, v (ix3 0 k c) = w (ix3 l k c)) (x : S1x1024x768.Idx) (i : S2x1024x768.Idx) (h0 : i 0 = l) (h1 : i 1 = x 1) (h2 : i 2 = x 2) :
    shapeCast S1x1024x768 (matmul dot_S8x1024_S8x768_S1024x768_0_0_1_1_n_n (some .fp32) s
      (shapeCast S8x768 v shapeCasts_S1x8x768_S8x768) (constant S1024x768 .f32 0x00000000#32)) shapeCasts_S1024x768_S1x1024x768 x = gradAt s w i := by
  have hx : (x 0).val < 1 := (x 0).isLt
  refine (shapeCast_apply (s := S1024x768) (t := S1x1024x768) _ _ x (ix2 (x 1) (x 2)) (by
    rw [Shape.rowMajor_val_two, Shape.rowMajor_val_three]
    show (x 1).val * 768 + (x 2).val = ((x 0).val * 1024 + (x 1).val) * 768 + (x 2).val
    omega)).trans ?_
  rw [matmul_zero_eq_dotGeneral]
  refine (dot_apply dot_S8x1024_S8x768_S1024x768_0_0_1_1_n_n (a := 0) rfl (K := 8) rfl _ _ _ _ (fun k => ix2 k (x 1)) (fun k => ix2 k (x 2))
    (fun k => funext fun a => Fin.ext (by fin_cases a <;> rfl)) (fun k => funext fun a => Fin.ext (by fin_cases a <;> rfl))).trans ?_
  refine Finset.sum_congr rfl fun k _ => ?_
  rw [h0, h1, h2]
  refine congrArg (s _ * ·) ((shapeCast_apply (s := S1x8x768) (t := S8x768) v _ (ix2 k (x 2)) (ix3 0 k (x 2)) (by
    rw [Shape.rowMajor_val_two, Shape.rowMajor_val_three]
    show (0 * 8 + k.val) * 768 + (x 2).val = k.val * 768 + (x 2).val
    omega)).trans (hv k (x 2)))

/-- The first part's slot. -/
theorem grad_first (a0 : FVec Ideal S8x1024 .f32) (a1 : FVec Ideal S2x8x768 .f32) (x : S1x1024x768.Idx) :
    k0_pay2 a0 (View.ld (Val := Elt Ideal) (e' := .f32) a1 r0_1) x = gradAt (k0_pay1 a0) a1 (r0_2.idx x) :=
  grad_piece _ a1 0 _ (fun k c => congrArg a1 (funext fun a => Fin.ext ((Rect.idx_unit_val (s := S2x8x768) ![0, 0, 0] S1x8x768.size inb_S2x8x768_S1x8x768_0_0_0 (ix3 0 k c) a).trans
      (by fin_cases a <;> simp)))) x _
    (Fin.ext ((Rect.idx_unit_val (s := S2x1024x768) ![0, 0, 0] S1x1024x768.size inb_S2x1024x768_S1x1024x768_0_0_0 x 0).trans (by have : (x 0).val < 1 := (x 0).isLt; show 0 + (x 0).val = 0; omega)))
    (Fin.ext ((Rect.idx_unit_val (s := S2x1024x768) ![0, 0, 0] S1x1024x768.size inb_S2x1024x768_S1x1024x768_0_0_0 x 1).trans (Nat.zero_add _)))
    (Fin.ext ((Rect.idx_unit_val (s := S2x1024x768) ![0, 0, 0] S1x1024x768.size inb_S2x1024x768_S1x1024x768_0_0_0 x 2).trans (Nat.zero_add _)))

/-- The second part's slot. -/
theorem grad_second (a0 : FVec Ideal S8x1024 .f32) (a1 : FVec Ideal S2x8x768 .f32) (x : S1x1024x768.Idx) :
    k0_pay3 a0 (View.ld (Val := Elt Ideal) (e' := .f32) a1 r0_3) x = gradAt (k0_pay1 a0) a1 (r0_4.idx x) :=
  grad_piece _ a1 1 _ (fun k c => congrArg a1 (funext fun a => Fin.ext ((Rect.idx_unit_val (s := S2x8x768) ![1, 0, 0] S1x8x768.size inb_S2x8x768_S1x8x768_1_0_0 (ix3 0 k c) a).trans
      (by fin_cases a <;> simp)))) x _
    (Fin.ext ((Rect.idx_unit_val (s := S2x1024x768) ![1, 0, 0] S1x1024x768.size inb_S2x1024x768_S1x1024x768_1_0_0 x 0).trans (by have : (x 0).val < 1 := (x 0).isLt; show 1 + (x 0).val = 1; omega)))
    (Fin.ext ((Rect.idx_unit_val (s := S2x1024x768) ![1, 0, 0] S1x1024x768.size inb_S2x1024x768_S1x1024x768_1_0_0 x 1).trans (Nat.zero_add _)))
    (Fin.ext ((Rect.idx_unit_val (s := S2x1024x768) ![1, 0, 0] S1x1024x768.size inb_S2x1024x768_S1x1024x768_1_0_0 x 2).trans (Nat.zero_add _)))

/-- What the kernel leaves is the gradient of the modulation's weight. -/
theorem grad_eq (a0 : FVec Ideal S8x1024 .f32) (a1 : FVec Ideal S2x8x768 .f32) :
    G2 (F := Ideal) a0 a1 = gradAt (k0_pay1 a0) a1 := by
  funext y
  refine View.canon_apply_of_pieces (Val := Elt Ideal) (e := .f32) (gradAt (k0_pay1 a0) a1) _ ?_ y (cover0_2 _ _ y)
  intro p hp
  rcases List.mem_cons.1 hp with rfl | hp
  · exact grad_second a0 a1
  · obtain rfl := List.mem_singleton.1 hp
    exact grad_first a0 a1

end AdaGrad

section AdaGradReference
open Cert.AdaGradRefIdeal Cert.AdaGradRefIdeal.Facts₀

/-- That gradient is the host product of the transposed conditions through `silu` with the modulation's gradient. -/
theorem grad_reference (a0 : FVec Ideal S8x1024 .f32) (a1 : FVec Ideal S2x8x768 .f32) :
    gradAt (Cert.AdaGradIdeal.Gen.k0_pay1 a0) a1 = (transpose S2x1024x768 [1, 0, 2] (Host.dotGeneral dot_S1024x8_S2x8x768_S1024x2x768_1_1_0_02_n_n none (transpose S1024x8 [1, 0] (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) transposes_S8x1024_S1024x8_1_0) a1) transposes_S1024x2x768_S2x1024x768_1_0_2 : FVec Ideal S2x1024x768 .f32) := by
  show gradAt (mulf a0 (logistic a0)) a1 = _
  rw [silu_eq a0 bcast_S_S8x1024]
  funext i
  refine Eq.trans ?_ (transpose_apply _ _ _ i (ix3 (i 1) (i 0) (i 2)) (fun a => by fin_cases a <;> rfl)).symm
  refine Eq.trans ?_ (dot_apply _ (a := 1) rfl (K := 8) rfl _ _ _ _ (fun k => ix2 (i 1) k) (fun k => ix3 (i 0) k (i 2))
      (fun k => funext fun a => Fin.ext (by fin_cases a <;> rfl)) (fun k => funext fun a => Fin.ext (by fin_cases a <;> rfl))).symm
  exact Finset.sum_congr rfl fun k _ => congrArg (· * _) (transpose_apply _ _ _ (ix2 (i 1) k) (ix2 k (i 1)) (fun a => by fin_cases a <;> rfl)).symm

end AdaGradReference

set_option smartUnfolding false in
-- a program and its idealization are unified unfolding by unfolding
theorem frame_adaGrad : Cert.quiescent_AdaGrad := fun m g _ => Cert.AdaGradIdeal.Gen.frame (F := Bits) m g

theorem frame_adaGradIdeal : Cert.quiescent_AdaGradIdeal := fun m g _ => Cert.AdaGradIdeal.Gen.frame (F := Ideal) m g

theorem frame_adaGradRefIdeal : Cert.quiescent_AdaGradRefIdeal := fun m g _ =>
  (θ_run Cert.AdaGradRefIdeal.defs _ _).mono (fun r h => ⟨fun c => (h c).2, sem_eq_zero_of_no_sems (by decide) r.2⟩)
    (Cert.AdaGradRefIdeal.Value.run (F := Ideal) m g)

/-- Ideally the kernel's gradient of the modulation's weight is the reference's. -/
theorem algebraic_adaGrad : Cert.algebraic_AdaGradIdeal_AdaGradRefIdeal := by
  intro m g m' g' _ h
  obtain ⟨h0, h1⟩ := h 0
  refine ⟨fun _ => _, ?_, (θ_run Cert.AdaGradRefIdeal.defs _ _).mono (fun _ hr => Fin.forall_fin_one.2 (hr 0)) (Cert.AdaGradRefIdeal.Value.run (F := Ideal) m' g')⟩
  refine (θ_run Cert.AdaGradIdeal.defs _ _).mono (fun _ hr => Fin.forall_fin_one.2 ?_) (Cert.AdaGradIdeal.Value.run (F := Ideal) m g)
  obtain ⟨r0, ha⟩ := hr 0
  rw [h0, h1]
  exact ⟨r0.trans ((grad_eq _ _).trans (grad_reference _ _)), ha⟩

end Exchange.Modulation

end
-- ==== Proof.Products.lean ====
/-
  The claims about the gradients of the two blocks' input projections: the kernel walks the rows of the sequence 512 at a
  time and adds each part's product onto what the result's block holds, and that is the one product over all rows.
-/
module

public import proofs.«01_k».proof.Defs
public import proofs.«01_k».proof.Proof.Gen.DwAb
public import proofs.«01_k».proof.Proof.Gen.DwAbIdeal.Value
public import proofs.«01_k».proof.Proof.Gen.DwAbRefIdeal.Run
public import proofs.«01_k».proof.Proof.Gen.DwGdn
public import proofs.«01_k».proof.Proof.Gen.DwGdnIdeal.Value
public import proofs.«01_k».proof.Proof.Gen.DwGdnRefIdeal.Run
public import Idealize.ShloMosaic.Lib.KernelVsHost
public import Idealize.ShloMosaic.Lib.Pipeline.ValueKit.Acc
public import Idealize.ShloMosaic.Lib.IdealHost
public import Idealize.ShloMosaic.Lib.Pointwise.Contract

@[expose] public section

set_option Elab.async false

noncomputable section

namespace Exchange.Products

open Idealize.ShloMosaic Idealize.ShloMosaic.TcCoe Idealize.SL.Sem

/-- A host product over one axis, of operands of any float formats, as the sum over that axis. -/
theorem host_dot {sl sr so : Shape} {e₁ e₂ e₃ : FTy} (d : DotDims sl sr so) {a : Fin sl.rank} (hc : d.lhsContracting = [a]) {K : ℕ} (hK : sl.size a = K)
    (prec : Option ContractPrecision) (lhs : FVec Ideal sl e₁) (rhs : FVec Ideal sr e₂) (j : so.Idx)
    (L : Fin K → sl.Idx) (R : Fin K → sr.Idx) (hL : ∀ k, d.lhsIdx j (d.contrIdx₁ hc hK k) = L k) (hR : ∀ k, d.rhsIdx j (d.contrIdx₁ hc hK k) = R k) :
    (Host.dotGeneral d prec lhs rhs : FVec Ideal so e₃) j = (∑ k : Fin K, lhs (L k) * rhs (R k) : EReal) := by
  show FloatOps.dotGeneral d prec _ lhs rhs j = _
  rw [Ideal.dotGeneral_apply, d.sum_contr₁ hc hK]
  simp only [hL, hR]

section DwAb
open Cert.DwAbIdeal Cert.DwAbIdeal.Gen Cert.DwAbIdeal.Value

variable (m : (ℓ : Loc nD τ sig) → Buf (Elt Ideal) ℓ) (c : Dev nD)

/-- One part's product at a place of the block. -/
abbrev dwAb_part (x : Vec Ideal S512x1024 .bf16) (y : Vec Ideal S512x768 .bf16) (j : S1024x768.Idx) : EReal :=
  ∑ k : Fin 512, x (ix2 k (j 0)) * y (ix2 k (j 1))

/-- A step adds one part's product onto what the block holds. -/
theorem dwAb_step (acc : Vec Ideal S1024x768 .f32) (x : Vec Ideal S512x1024 .bf16) (y : Vec Ideal S512x768 .bf16) (j : S1024x768.Idx) :
    k0_pay2 (F := Ideal) acc x y j = (acc j + dwAb_part x y j : EReal) := by
  unfold k0_pay2
  rw [matmul_zero_eq_dotGeneral, shapeCast_self]
  refine congrArg (fun z : EReal => (acc j + z : EReal)) (host_dot (e₁ := .bf16) (e₂ := .bf16) (e₃ := .f32) dot_S512x1024_S512x768_S1024x768_0_0_1_1_n_n (a := 0) rfl (K := 512) rfl _ _ _ _
    (fun k => ix2 k (j 0)) (fun k => ix2 k (j 1))
    (fun k => funext fun a => Fin.ext (by fin_cases a <;> rfl)) (fun k => funext fun a => Fin.ext (by fin_cases a <;> rfl)))

/-- The places of the parts: at point t the rows are those from 512 (t mod 8), the columns those from 768 (t / 8). -/
theorem dwAb_places : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

/-- A part of the left operand, at a place. -/
theorem dwAb_left (t : Fin cfg0.N) (k : Fin 512) (r : Fin 1024) (h : t.val % 8 * 512 + k.val < 4096) :
    (iblk m c 0 t : Vec Ideal S512x1024 .bf16) (ix2 k r) = (m ((c : Thread nD τ).loc main_arg0) : Vec Ideal S4096x1024 .bf16) (ix2 ⟨t.val % 8 * 512 + k.val, h⟩ r) := by
  obtain ⟨h0, h1, -, -⟩ := dwAb_places t
  unfold iblk
  rw [View.read_apply]
  refine congrArg (m ((c : Thread nD τ).loc main_arg0)) (funext fun a => Fin.ext ?_)
  match a with
  | ⟨0, _⟩ => show win0_0.index t 0 * 512 + 1 * k.val = t.val % 8 * 512 + k.val; rw [h0, Nat.one_mul]
  | ⟨1, _⟩ => show win0_0.index t 1 * 1024 + 1 * r.val = r.val; rw [h1]; omega

/-- A part of the right operand, at a place. -/
theorem dwAb_right (t : Fin cfg0.N) (k : Fin 512) (r : Fin 768) (h : t.val % 8 * 512 + k.val < 4096) (h' : t.val / 8 * 768 + r.val < 3072) :
    (iblk m c 1 t : Vec Ideal S512x768 .bf16) (ix2 k r) = (m ((c : Thread nD τ).loc main_arg1) : Vec Ideal S4096x3072 .bf16) (ix2 ⟨t.val % 8 * 512 + k.val, h⟩ ⟨t.val / 8 * 768 + r.val, h'⟩) := by
  obtain ⟨-, -, h0, h1⟩ := dwAb_places t
  unfold iblk
  rw [View.read_apply]
  refine congrArg (m ((c : Thread nD τ).loc main_arg1)) (funext fun a => Fin.ext ?_)
  match a with
  | ⟨0, _⟩ => show win0_1.index t 0 * 512 + 1 * k.val = t.val % 8 * 512 + k.val; rw [h0, Nat.one_mul]
  | ⟨1, _⟩ => show win0_1.index t 1 * 768 + 1 * r.val = t.val / 8 * 768 + r.val; rw [h1, Nat.one_mul]

/-- The product over all rows. -/
abbrev dwAb_all (x : Vec Ideal S4096x1024 .bf16) (y : Vec Ideal S4096x3072 .bf16) : Vec Ideal S1024x3072 .f32 :=
  fun i => (∑ k : Fin 4096, x (ix2 k (i 0)) * y (ix2 k (i 1)) : EReal)

/-- What the kernel leaves is the product over all rows. -/
theorem dwAb_eq : G2 (F := Ideal) m c = dwAb_all (m ((c : Thread nD τ).loc main_arg0)) (m ((c : Thread nD τ).loc main_arg1)) := by
  funext i
  have hi0 : (i 0).val < 1024 := (i 0).isLt
  have hi1 : (i 1).val < 3072 := (i 1).isLt
  have hN : cfg0.N = 32 := N_0
  have hq : run2Of i = (i 1).val / 768 := by show 4 * ((i 0).val / 1024 - 0) + 1 * ((i 1).val / 768 - 0) = _; omega
  unfold G2
  rw [dif_pos (by rw [hq, hN]; omega)]
  refine (Pipeline.accAt_add_apply (ι := S1024x768.Idx) (β := EReal) (reset2 m c) (step2 m c) (fun _ => (0 : EReal))
    (fun n j => if h : n < cfg0.N then dwAb_part (iblk m c 0 ⟨n, h⟩) (iblk m c 1 ⟨n, h⟩) j else 0) (8 * run2Of i) 7
    (fun h j => by rw [dif_pos h]; exact (dwAb_step _ _ _ j).trans (congrArg (· + _) (Ideal.ofBits_zero_f32)))
    (fun n h acc j _ _ => by rw [dif_pos h]; exact dwAb_step _ _ _ j) 7 le_rfl _ _).trans ?_
  rw [zero_add, Finset.sum_range]
  have hb : ∀ s : Fin 8, 8 * run2Of i + s.val < cfg0.N := fun s => by rw [hq, hN]; omega
  refine (Finset.sum_congr rfl fun s _ => dif_pos (hb s)).trans (Fin.sum_mul_add_congr (L := 4096) fun s k hl => ?_)
  refine congrArg₂ (fun a b : EReal => a * b)
    ((dwAb_left m c ⟨8 * run2Of i + s.val, hb s⟩ k _ (by dsimp only; omega)).trans
      (congrArg _ (congrArg₂ ix2 (Fin.ext (by dsimp only; omega)) (Fin.ext (by show (i 0).val % 1024 = (i 0).val; omega)))))
    ((dwAb_right m c ⟨8 * run2Of i + s.val, hb s⟩ k _ (by dsimp only; omega) (by show (8 * run2Of i + s.val) / 8 * 768 + (i 1).val % 768 < 3072; omega)).trans
      (congrArg _ (congrArg₂ ix2 (Fin.ext (by dsimp only; omega)) (Fin.ext (by show (8 * run2Of i + s.val) / 8 * 768 + (i 1).val % 768 = (i 1).val; omega)))))

end DwAb

section DwAbReference
open Cert.DwAbRefIdeal Cert.DwAbRefIdeal.Facts₀

/-- The product over all rows is the host product of the transposed rows. -/
theorem dwAb_reference (x : FVec Ideal S4096x1024 .bf16) (y : FVec Ideal S4096x3072 .bf16) :
    dwAb_all x y = (Host.dotGeneral dot_S1024x4096_S4096x3072_S1024x3072_1_0_0_1_n_n none (transpose S1024x4096 [1, 0] x transposes_S4096x1024_S1024x4096_1_0) y : FVec Ideal S1024x3072 .f32) := by
  funext i
  refine Eq.trans ?_ (host_dot (e₁ := .bf16) (e₂ := .bf16) (e₃ := .f32) dot_S1024x4096_S4096x3072_S1024x3072_1_0_0_1_n_n (a := 1) rfl (K := 4096) rfl _ _ _ _ (fun k => ix2 (i 0) k) (fun k => ix2 k (i 1))
      (fun k => funext fun a => Fin.ext (by fin_cases a <;> rfl)) (fun k => funext fun a => Fin.ext (by fin_cases a <;> rfl))).symm
  exact Finset.sum_congr rfl fun k _ => congrArg (· * _) (transpose_apply _ _ _ (ix2 (i 0) k) (ix2 k (i 0)) (fun a => by fin_cases a <;> rfl)).symm

end DwAbReference

set_option smartUnfolding false in
-- a program and its idealization are unified unfolding by unfolding
theorem frame_dwAb : Cert.quiescent_DwAb := fun m g _ => Cert.DwAbIdeal.Gen.frame (F := Bits) m g

theorem frame_dwAbIdeal : Cert.quiescent_DwAbIdeal := fun m g _ => Cert.DwAbIdeal.Gen.frame (F := Ideal) m g

theorem frame_dwAbRefIdeal : Cert.quiescent_DwAbRefIdeal := fun m g _ =>
  (θ_run Cert.DwAbRefIdeal.defs _ _).mono (fun r h => ⟨fun c => (h c).2, sem_eq_zero_of_no_sems (by decide) r.2⟩)
    (Cert.DwAbRefIdeal.Value.run (F := Ideal) m g)

/-- Ideally the kernel's gradient of this projection is the reference's. -/
theorem algebraic_dwAb : Cert.algebraic_DwAbIdeal_DwAbRefIdeal := by
  intro m g m' g' _ h
  obtain ⟨h0, h1⟩ := h 0
  refine ⟨fun _ => _, ?_, (θ_run Cert.DwAbRefIdeal.defs _ _).mono (fun _ hr => Fin.forall_fin_one.2 (hr 0)) (Cert.DwAbRefIdeal.Value.run (F := Ideal) m' g')⟩
  refine (θ_run Cert.DwAbIdeal.defs _ _).mono (fun _ hr => Fin.forall_fin_one.2 ?_) (Cert.DwAbIdeal.Value.run (F := Ideal) m g)
  obtain ⟨r0, ha⟩ := hr 0
  rw [h0, h1]
  exact ⟨r0.trans ((dwAb_eq m 0).trans (dwAb_reference _ _)), ha⟩

section DwGdn
open Cert.DwGdnIdeal Cert.DwGdnIdeal.Gen Cert.DwGdnIdeal.Value

variable (m : (ℓ : Loc nD τ sig) → Buf (Elt Ideal) ℓ) (c : Dev nD)

/-- One part's product at a place of the block. -/
abbrev dwGdn_part (x : Vec Ideal S512x1024 .bf16) (y : Vec Ideal S512x1408 .bf16) (j : S1024x1408.Idx) : EReal :=
  ∑ k : Fin 512, x (ix2 k (j 0)) * y (ix2 k (j 1))

/-- A step adds one part's product onto what the block holds. -/
theorem dwGdn_step (acc : Vec Ideal S1024x1408 .f32) (x : Vec Ideal S512x1024 .bf16) (y : Vec Ideal S512x1408 .bf16) (j : S1024x1408.Idx) :
    k0_pay2 (F := Ideal) acc x y j = (acc j + dwGdn_part x y j : EReal) := by
  unfold k0_pay2
  rw [matmul_zero_eq_dotGeneral, shapeCast_self]
  refine congrArg (fun z : EReal => (acc j + z : EReal)) (host_dot (e₁ := .bf16) (e₂ := .bf16) (e₃ := .f32) dot_S512x1024_S512x1408_S1024x1408_0_0_1_1_n_n (a := 0) rfl (K := 512) rfl _ _ _ _
    (fun k => ix2 k (j 0)) (fun k => ix2 k (j 1))
    (fun k => funext fun a => Fin.ext (by fin_cases a <;> rfl)) (fun k => funext fun a => Fin.ext (by fin_cases a <;> rfl)))

/-- The places of the parts: at point t the rows are those from 512 (t mod 8), the columns those from 1408 (t / 8). -/
theorem dwGdn_places : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

/-- A part of the left operand, at a place. -/
theorem dwGdn_left (t : Fin cfg0.N) (k : Fin 512) (r : Fin 1024) (h : t.val % 8 * 512 + k.val < 4096) :
    (iblk m c 0 t : Vec Ideal S512x1024 .bf16) (ix2 k r) = (m ((c : Thread nD τ).loc main_arg0) : Vec Ideal S4096x1024 .bf16) (ix2 ⟨t.val % 8 * 512 + k.val, h⟩ r) := by
  obtain ⟨h0, h1, -, -⟩ := dwGdn_places t
  unfold iblk
  rw [View.read_apply]
  refine congrArg (m ((c : Thread nD τ).loc main_arg0)) (funext fun a => Fin.ext ?_)
  match a with
  | ⟨0, _⟩ => show win0_0.index t 0 * 512 + 1 * k.val = t.val % 8 * 512 + k.val; rw [h0, Nat.one_mul]
  | ⟨1, _⟩ => show win0_0.index t 1 * 1024 + 1 * r.val = r.val; rw [h1]; omega

/-- A part of the right operand, at a place. -/
theorem dwGdn_right (t : Fin cfg0.N) (k : Fin 512) (r : Fin 1408) (h : t.val % 8 * 512 + k.val < 4096) (h' : t.val / 8 * 1408 + r.val < 4224) :
    (iblk m c 1 t : Vec Ideal S512x1408 .bf16) (ix2 k r) = (m ((c : Thread nD τ).loc main_arg1) : Vec Ideal S4096x4224 .bf16) (ix2 ⟨t.val % 8 * 512 + k.val, h⟩ ⟨t.val / 8 * 1408 + r.val, h'⟩) := by
  obtain ⟨-, -, h0, h1⟩ := dwGdn_places t
  unfold iblk
  rw [View.read_apply]
  refine congrArg (m ((c : Thread nD τ).loc main_arg1)) (funext fun a => Fin.ext ?_)
  match a with
  | ⟨0, _⟩ => show win0_1.index t 0 * 512 + 1 * k.val = t.val % 8 * 512 + k.val; rw [h0, Nat.one_mul]
  | ⟨1, _⟩ => show win0_1.index t 1 * 1408 + 1 * r.val = t.val / 8 * 1408 + r.val; rw [h1, Nat.one_mul]

/-- The product over all rows. -/
abbrev dwGdn_all (x : Vec Ideal S4096x1024 .bf16) (y : Vec Ideal S4096x4224 .bf16) : Vec Ideal S1024x4224 .f32 :=
  fun i => (∑ k : Fin 4096, x (ix2 k (i 0)) * y (ix2 k (i 1)) : EReal)

/-- What the kernel leaves is the product over all rows. -/
theorem dwGdn_eq : G2 (F := Ideal) m c = dwGdn_all (m ((c : Thread nD τ).loc main_arg0)) (m ((c : Thread nD τ).loc main_arg1)) := by
  funext i
  have hi0 : (i 0).val < 1024 := (i 0).isLt
  have hi1 : (i 1).val < 4224 := (i 1).isLt
  have hN : cfg0.N = 24 := N_0
  have hq : run2Of i = (i 1).val / 1408 := by show 3 * ((i 0).val / 1024 - 0) + 1 * ((i 1).val / 1408 - 0) = _; omega
  unfold G2
  rw [dif_pos (by rw [hq, hN]; omega)]
  refine (Pipeline.accAt_add_apply (ι := S1024x1408.Idx) (β := EReal) (reset2 m c) (step2 m c) (fun _ => (0 : EReal))
    (fun n j => if h : n < cfg0.N then dwGdn_part (iblk m c 0 ⟨n, h⟩) (iblk m c 1 ⟨n, h⟩) j else 0) (8 * run2Of i) 7
    (fun h j => by rw [dif_pos h]; exact (dwGdn_step _ _ _ j).trans (congrArg (· + _) (Ideal.ofBits_zero_f32)))
    (fun n h acc j _ _ => by rw [dif_pos h]; exact dwGdn_step _ _ _ j) 7 le_rfl _ _).trans ?_
  rw [zero_add, Finset.sum_range]
  have hb : ∀ s : Fin 8, 8 * run2Of i + s.val < cfg0.N := fun s => by rw [hq, hN]; omega
  refine (Finset.sum_congr rfl fun s _ => dif_pos (hb s)).trans (Fin.sum_mul_add_congr (L := 4096) fun s k hl => ?_)
  refine congrArg₂ (fun a b : EReal => a * b)
    ((dwGdn_left m c ⟨8 * run2Of i + s.val, hb s⟩ k _ (by dsimp only; omega)).trans
      (congrArg _ (congrArg₂ ix2 (Fin.ext (by dsimp only; omega)) (Fin.ext (by show (i 0).val % 1024 = (i 0).val; omega)))))
    ((dwGdn_right m c ⟨8 * run2Of i + s.val, hb s⟩ k _ (by dsimp only; omega) (by show (8 * run2Of i + s.val) / 8 * 1408 + (i 1).val % 1408 < 4224; omega)).trans
      (congrArg _ (congrArg₂ ix2 (Fin.ext (by dsimp only; omega)) (Fin.ext (by show (8 * run2Of i + s.val) / 8 * 1408 + (i 1).val % 1408 = (i 1).val; omega)))))

end DwGdn

section DwGdnReference
open Cert.DwGdnRefIdeal Cert.DwGdnRefIdeal.Facts₀

/-- The product over all rows is the host product of the transposed rows. -/
theorem dwGdn_reference (x : FVec Ideal S4096x1024 .bf16) (y : FVec Ideal S4096x4224 .bf16) :
    dwGdn_all x y = (Host.dotGeneral dot_S1024x4096_S4096x4224_S1024x4224_1_0_0_1_n_n none (transpose S1024x4096 [1, 0] x transposes_S4096x1024_S1024x4096_1_0) y : FVec Ideal S1024x4224 .f32) := by
  funext i
  refine Eq.trans ?_ (host_dot (e₁ := .bf16) (e₂ := .bf16) (e₃ := .f32) dot_S1024x4096_S4096x4224_S1024x4224_1_0_0_1_n_n (a := 1) rfl (K := 4096) rfl _ _ _ _ (fun k => ix2 (i 0) k) (fun k => ix2 k (i 1))
      (fun k => funext fun a => Fin.ext (by fin_cases a <;> rfl)) (fun k => funext fun a => Fin.ext (by fin_cases a <;> rfl))).symm
  exact Finset.sum_congr rfl fun k _ => congrArg (· * _) (transpose_apply _ _ _ (ix2 (i 0) k) (ix2 k (i 0)) (fun a => by fin_cases a <;> rfl)).symm

end DwGdnReference

set_option smartUnfolding false in
-- a program and its idealization are unified unfolding by unfolding
theorem frame_dwGdn : Cert.quiescent_DwGdn := fun m g _ => Cert.DwGdnIdeal.Gen.frame (F := Bits) m g

theorem frame_dwGdnIdeal : Cert.quiescent_DwGdnIdeal := fun m g _ => Cert.DwGdnIdeal.Gen.frame (F := Ideal) m g

theorem frame_dwGdnRefIdeal : Cert.quiescent_DwGdnRefIdeal := fun m g _ =>
  (θ_run Cert.DwGdnRefIdeal.defs _ _).mono (fun r h => ⟨fun c => (h c).2, sem_eq_zero_of_no_sems (by decide) r.2⟩)
    (Cert.DwGdnRefIdeal.Value.run (F := Ideal) m g)

/-- Ideally the kernel's gradient of this projection is the reference's. -/
theorem algebraic_dwGdn : Cert.algebraic_DwGdnIdeal_DwGdnRefIdeal := by
  intro m g m' g' _ h
  obtain ⟨h0, h1⟩ := h 0
  refine ⟨fun _ => _, ?_, (θ_run Cert.DwGdnRefIdeal.defs _ _).mono (fun _ hr => Fin.forall_fin_one.2 (hr 0)) (Cert.DwGdnRefIdeal.Value.run (F := Ideal) m' g')⟩
  refine (θ_run Cert.DwGdnIdeal.defs _ _).mono (fun _ hr => Fin.forall_fin_one.2 ?_) (Cert.DwGdnIdeal.Value.run (F := Ideal) m g)
  obtain ⟨r0, ha⟩ := hr 0
  rw [h0, h1]
  exact ⟨r0.trans ((dwGdn_eq m 0).trans (dwGdn_reference _ _)), ha⟩

end Exchange.Products

end
-- ==== Proof.Fronts.lean ====
/-
  The claims about the two blocks' first calls: the normed and modulated rows and their product with the input projection,
  cut into the parts the block goes on with. The kernel does 256 rows at a grid point; the reference does all rows at once.
-/
module

public import proofs.«01_k».proof.Defs
public import proofs.«01_k».proof.Proof.Gen.FrontAb
public import proofs.«01_k».proof.Proof.Gen.FrontAbIdeal.Value
public import proofs.«01_k».proof.Proof.Gen.FrontAbRefIdeal.Run
public import proofs.«01_k».proof.Proof.Gen.FrontGdn
public import proofs.«01_k».proof.Proof.Gen.FrontGdnIdeal.Value
public import proofs.«01_k».proof.Proof.Gen.FrontGdnRefIdeal.Run
public import Idealize.ShloMosaic.Lib.Pointwise
public import Idealize.ShloMosaic.Lib.Pipeline.ValueKit

@[expose] public section

set_option Elab.async false

noncomputable section

namespace Exchange.Fronts

open Idealize.ShloMosaic Idealize.ShloMosaic.TcCoe Idealize.SL.Sem

/-- A row divided by the root of its mean square, scaled and modulated, at a column. -/
def modRow (x g s b : Fin 1024 → EReal) (j : Fin 1024) : EReal :=
  x j * Ideal.rsqrt (Ideal.div (∑ k, x k * x k) (Ideal.ofBits FTy.f32 0x44800000#32) + Ideal.ofBits FTy.f32 0x358637BD#32) * g j * (1 + s j) + b j

section FrontGdn
open Cert.FrontGdnIdeal Cert.FrontGdnIdeal.Gen Cert.FrontGdnIdeal.Value
set_option maxRecDepth 16384

/-- The normed and modulated rows of a block, at a place. -/
theorem frontGdn_rows (x : Vec Ideal S256x1024 .f32) (g s b : Vec Ideal S1x1024 .f32) (i : Fin 256) (j : Fin 1024) :
    k0_pay1 (F := Ideal) x g s b (ix2 i j) = modRow (fun k => x (ix2 i k)) (fun k => g (ix2 0 k)) (fun k => s (ix2 0 k)) (fun k => b (ix2 0 k)) j := by
  pointwise [k0_pay1]
  rfl

/-- Their product with the projection, at a place. -/
theorem frontGdn_product (x : Vec Ideal S256x1024 .f32) (g s b : Vec Ideal S1x1024 .f32) (w : Vec Ideal S1024x4224 .bf16) (i : Fin 256) (j : Fin 4224) :
    k0_pay2 (F := Ideal) x g s b w (ix2 i j) = (∑ k, modRow (fun k => x (ix2 i k)) (fun k => g (ix2 0 k)) (fun k => s (ix2 0 k)) (fun k => b (ix2 0 k)) k * w (ix2 k j) : EReal) := by
  have h := frontGdn_rows x g s b i
  pointwise [k0_pay2]
  exact Finset.sum_congr rfl fun k _ => congrArg (fun z : EReal => z * w (ix2 k j)) (h k)

variable (m : (ℓ : Loc nD τ sig) → Buf (Elt Ideal) ℓ) (c : Dev nD)

/-- The normed and modulated rows of the arguments. -/
def frontGdn_h (x : Vec Ideal S4096x1024 .f32) (g s b : Vec Ideal S1x1024 .f32) : Vec Ideal S4096x1024 .bf16 :=
  fun y => modRow (fun k => x (ix2 (y 0) k)) (fun k => g (ix2 0 k)) (fun k => s (ix2 0 k)) (fun k => b (ix2 0 k)) (y 1)

/-- Their product with the projection, at a row and a column. -/
def frontGdn_z (x : Vec Ideal S4096x1024 .f32) (g s b : Vec Ideal S1x1024 .f32) (w : Vec Ideal S1024x4224 .bf16) (r : Fin 4096) (q : Fin 4224) : EReal :=
  ∑ k, frontGdn_h x g s b (ix2 r k) * w (ix2 k q)

/-- The places of the windows: at point t the rows are those from 256 t; the other arguments are read whole. -/
theorem frontGdn_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- A block of the rows, at a place. -/
theorem frontGdn_x (t : Fin cfg0.N) (i : Fin 256) (k : Fin 1024) (h : t.val * 256 + i.val < 4096) :
    (iblk m c 0 t : Vec Ideal S256x1024 .f32) (ix2 i k) = (m ((c : Thread nD τ).loc main_arg0) : Vec Ideal S4096x1024 .f32) (ix2 ⟨t.val * 256 + i.val, h⟩ k) := by
  obtain ⟨h0, h1, -⟩ := frontGdn_places t
  unfold iblk
  rw [View.read_apply]
  refine congrArg (m ((c : Thread nD τ).loc main_arg0)) (funext fun a => Fin.ext ?_)
  match a with
  | ⟨0, _⟩ => show win0_0.index t 0 * 256 + 1 * i.val = t.val * 256 + i.val; rw [h0, Nat.one_mul]
  | ⟨1, _⟩ => show win0_0.index t 1 * 1024 + 1 * k.val = k.val; rw [h1]; omega

theorem frontGdn_g (t : Fin cfg0.N) (k : Fin 1024) :
    (iblk m c 1 t : Vec Ideal S1x1024 .f32) (ix2 0 k) = (m ((c : Thread nD τ).loc main_arg1) : Vec Ideal S1x1024 .f32) (ix2 0 k) := by
  obtain ⟨-, -, h0, h1, -⟩ := frontGdn_places t
  unfold iblk
  rw [View.read_apply]
  refine congrArg (m ((c : Thread nD τ).loc main_arg1)) (funext fun a => Fin.ext ?_)
  match a with
  | ⟨0, _⟩ => show win0_1.index t 0 * 1 + 1 * 0 = 0; rw [h0]
  | ⟨1, _⟩ => show win0_1.index t 1 * 1024 + 1 * k.val = k.val; rw [h1]; omega

theorem frontGdn_s (t : Fin cfg0.N) (k : Fin 1024) :
    (iblk m c 2 t : Vec Ideal S1x1024 .f32) (ix2 0 k) = (m ((c : Thread nD τ).loc main_arg2) : Vec Ideal S1x1024 .f32) (ix2 0 k) := by
  obtain ⟨-, -, -, -, h0, h1, -⟩ := frontGdn_places t
  unfold iblk
  rw [View.read_apply]
  refine congrArg (m ((c : Thread nD τ).loc main_arg2)) (funext fun a => Fin.ext ?_)
  match a with
  | ⟨0, _⟩ => show win0_2.index t 0 * 1 + 1 * 0 = 0; rw [h0]
  | ⟨1, _⟩ => show win0_2.index t 1 * 1024 + 1 * k.val = k.val; rw [h1]; omega

theorem frontGdn_b (t : Fin cfg0.N) (k : Fin 1024) :
    (iblk m c 3 t : Vec Ideal S1x1024 .f32) (ix2 0 k) = (m ((c : Thread nD τ).loc main_arg3) : Vec Ideal S1x1024 .f32) (ix2 0 k) := by
  obtain ⟨-, -, -, -, -, -, h0, h1, -⟩ := frontGdn_places t
  unfold iblk
  rw [View.read_apply]
  refine congrArg (m ((c : Thread nD τ).loc main_arg3)) (funext fun a => Fin.ext ?_)
  match a with
  | ⟨0, _⟩ => show win0_3.index t 0 * 1 + 1 * 0 = 0; rw [h0]
  | ⟨1, _⟩ => show win0_3.index t 1 * 1024 + 1 * k.val = k.val; rw [h1]; omega

theorem frontGdn_w (t : Fin cfg0.N) (k : Fin 1024) (q : Fin 4224) :
    (iblk m c 4 t : Vec Ideal S1024x4224 .bf16) (ix2 k q) = (m ((c : Thread nD τ).loc main_arg4) : Vec Ideal S1024x4224 .bf16) (ix2 k q) := by
  obtain ⟨-, -, -, -, -, -, -, -, h0, h1, -⟩ := frontGdn_places t
  unfold iblk
  rw [View.read_apply]
  refine congrArg (m ((c : Thread nD τ).loc main_arg4)) (funext fun a => Fin.ext ?_)
  match a with
  | ⟨0, _⟩ => show win0_4.index t 0 * 1024 + 1 * k.val = k.val; rw [h0]; omega
  | ⟨1, _⟩ => show win0_4.index t 1 * 4224 + 1 * q.val = q.val; rw [h1]; omega

/-- The rows of a grid point's block are the arguments' rows from 256 t. -/
theorem frontGdn_block_rows (t : Fin cfg0.N) (i : Fin 256) (j : Fin 1024) (h : t.val * 256 + i.val < 4096) :
    modRow (fun k => (iblk m c 0 t : Vec Ideal S256x1024 .f32) (ix2 i k)) (fun k => (iblk m c 1 t : Vec Ideal S1x1024 .f32) (ix2 0 k)) (fun k => (iblk m c 2 t : Vec Ideal S1x1024 .f32) (ix2 0 k)) (fun k => (iblk m c 3 t : Vec Ideal S1x1024 .f32) (ix2 0 k)) j
      = frontGdn_h (m ((c : Thread nD τ).loc main_arg0)) (m ((c : Thread nD τ).loc main_arg1)) (m ((c : Thread nD τ).loc main_arg2)) (m ((c : Thread nD τ).loc main_arg3)) (ix2 ⟨t.val * 256 + i.val, h⟩ j) := by
  rw [show (fun k => (iblk m c 0 t : Vec Ideal S256x1024 .f32) (ix2 i k)) = _ from funext fun k => frontGdn_x m c t i k h, show (fun k => (iblk m c 1 t : Vec Ideal S1x1024 .f32) (ix2 0 k)) = _ from funext (frontGdn_g m c t),
    show (fun k => (iblk m c 2 t : Vec Ideal S1x1024 .f32) (ix2 0 k)) = _ from funext (frontGdn_s m c t), show (fun k => (iblk m c 3 t : Vec Ideal S1x1024 .f32) (ix2 0 k)) = _ from funext (frontGdn_b m c t)]
  rfl

/-- The product of a grid point's block is the arguments' product at the rows from 256 t. -/
theorem frontGdn_block_product (t : Fin cfg0.N) (i : Fin 256) (q : Fin 4224) (h : t.val * 256 + i.val < 4096) :
    k0_pay2 (F := Ideal) (iblk m c 0 t) (iblk m c 1 t) (iblk m c 2 t) (iblk m c 3 t) (iblk m c 4 t) (ix2 i q)
      = frontGdn_z (m ((c : Thread nD τ).loc main_arg0)) (m ((c : Thread nD τ).loc main_arg1)) (m ((c : Thread nD τ).loc main_arg2)) (m ((c : Thread nD τ).loc main_arg3)) (m ((c : Thread nD τ).loc main_arg4)) ⟨t.val * 256 + i.val, h⟩ q :=
  (frontGdn_product _ _ _ _ _ i q).trans (Finset.sum_congr rfl fun k _ => congrArg₂ (fun a b : EReal => a * b) (frontGdn_block_rows m c t i k h) (frontGdn_w m c t k q))

/-- The part of the product that window 5 takes, at a place. -/
theorem frontGdn_cut5 (x : Vec Ideal S256x1024 .f32) (g s b : Vec Ideal S1x1024 .f32) (w : Vec Ideal S1024x4224 .bf16) (i : Fin 256) (j : Fin 3072) :
    k0_pay3 (F := Ideal) x g s b w (ix2 i j) = k0_pay2 (F := Ideal) x g s b w (ix2 i ⟨j.val, by omega⟩) := by
  pointwise [k0_pay3]

/-- What window 5 leaves: the columns from 0 of the product. -/
theorem frontGdn_out5 : (dats (F := Ideal) m 0 c).arrAt 5 cfg0.N
    = (fun y : S4096x3072.Idx => frontGdn_z (m ((c : Thread nD τ).loc main_arg0)) (m ((c : Thread nD τ).loc main_arg1)) (m ((c : Thread nD τ).loc main_arg2)) (m ((c : Thread nD τ).loc main_arg3)) (m ((c : Thread nD τ).loc main_arg4))
        (y 0) ⟨(y 1).val, by have : (y 1).val < 3072 := (y 1).isLt; omega⟩ : Vec Ideal S4096x3072 .f32) := by
  refine (dats m 0 c).arrAt_eq_of_covers 5 _ (by decide +kernel) fun t _ y => ?_
  blk_simp
  rw [after0_5]
  frame_out
  have ht : t.val < 16 := lt_of_lt_of_eq t.isLt N_0
  have hi : (y (0 : Fin 2)).val < 256 := (y (0 : Fin 2)).isLt
  have hj : (y (1 : Fin 2)).val < 3072 := (y (1 : Fin 2)).isLt
  obtain ⟨-, -, -, -, -, -, -, -, -, -, h0, h1, -⟩ := frontGdn_places t
  refine ((congrArg _ (funext fun a => by fin_cases a <;> rfl)).trans (frontGdn_cut5 _ _ _ _ _ ⟨(y (0 : Fin 2)).val, hi⟩ ⟨(y (1 : Fin 2)).val, hj⟩)).trans ((frontGdn_block_product m c t _ _ (by dsimp only; omega)).trans (congrArg₂ (frontGdn_z _ _ _ _ _) (Fin.ext ?_) (Fin.ext ?_)))
  · show t.val * 256 + (y (0 : Fin 2)).val = win0_5.index t 0 * 256 + 1 * (y (0 : Fin 2)).val
    rw [h0]; omega
  · show (y (1 : Fin 2)).val = (win0_5.index t 1 * 3072 + (y (1 : Fin 2)).val)
    rw [h1]; omega

/-- The part of the product that window 6 takes, at a place. -/
theorem frontGdn_cut6 (x : Vec Ideal S256x1024 .f32) (g s b : Vec Ideal S1x1024 .f32) (w : Vec Ideal S1024x4224 .bf16) (i : Fin 256) (j : Fin 1024) :
    k0_pay4 (F := Ideal) x g s b w (ix2 i j) = k0_pay2 (F := Ideal) x g s b w (ix2 i ⟨3072 + j.val, by omega⟩) := by
  pointwise [k0_pay4]

/-- What window 6 leaves: the columns from 3072 of the product. -/
theorem frontGdn_out6 : (dats (F := Ideal) m 0 c).arrAt 6 cfg0.N
    = (fun y : S4096x1024.Idx => frontGdn_z (m ((c : Thread nD τ).loc main_arg0)) (m ((c : Thread nD τ).loc main_arg1)) (m ((c : Thread nD τ).loc main_arg2)) (m ((c : Thread nD τ).loc main_arg3)) (m ((c : Thread nD τ).loc main_arg4))
        (y 0) ⟨3072 + (y 1).val, by have : (y 1).val < 1024 := (y 1).isLt; omega⟩ : Vec Ideal S4096x1024 .f32) := by
  refine (dats m 0 c).arrAt_eq_of_covers 6 _ (by decide +kernel) fun t _ y => ?_
  blk_simp
  rw [after0_6]
  frame_out
  have ht : t.val < 16 := lt_of_lt_of_eq t.isLt N_0
  have hi : (y (0 : Fin 2)).val < 256 := (y (0 : Fin 2)).isLt
  have hj : (y (1 : Fin 2)).val < 1024 := (y (1 : Fin 2)).isLt
  obtain ⟨-, -, -, -, -, -, -, -, -, -, -, -, h0, h1, -⟩ := frontGdn_places t
  refine ((congrArg _ (funext fun a => by fin_cases a <;> rfl)).trans (frontGdn_cut6 _ _ _ _ _ ⟨(y (0 : Fin 2)).val, hi⟩ ⟨(y (1 : Fin 2)).val, hj⟩)).trans ((frontGdn_block_product m c t _ _ (by dsimp only; omega)).trans (congrArg₂ (frontGdn_z _ _ _ _ _) (Fin.ext ?_) (Fin.ext ?_)))
  · show t.val * 256 + (y (0 : Fin 2)).val = win0_6.index t 0 * 256 + 1 * (y (0 : Fin 2)).val
    rw [h0]; omega
  · show 3072 + (y (1 : Fin 2)).val = 3072 + (win0_6.index t 1 * 1024 + (y (1 : Fin 2)).val)
    rw [h1]; omega

/-- The part of the product that window 7 takes, at a place. -/
theorem frontGdn_cut7 (x : Vec Ideal S256x1024 .f32) (g s b : Vec Ideal S1x1024 .f32) (w : Vec Ideal S1024x4224 .bf16) (i : Fin 256) (j : Fin 128) :
    k0_pay5 (F := Ideal) x g s b w (ix2 i j) = k0_pay2 (F := Ideal) x g s b w (ix2 i ⟨4096 + j.val, by omega⟩) := by
  pointwise [k0_pay5]

/-- What window 7 leaves: the columns from 4096 of the product. -/
theorem frontGdn_out7 : (dats (F := Ideal) m 0 c).arrAt 7 cfg0.N
    = (fun y : S4096x128.Idx => frontGdn_z (m ((c : Thread nD τ).loc main_arg0)) (m ((c : Thread nD τ).loc main_arg1)) (m ((c : Thread nD τ).loc main_arg2)) (m ((c : Thread nD τ).loc main_arg3)) (m ((c : Thread nD τ).loc main_arg4))
        (y 0) ⟨4096 + (y 1).val, by have : (y 1).val < 128 := (y 1).isLt; omega⟩ : Vec Ideal S4096x128 .f32) := by
  refine (dats m 0 c).arrAt_eq_of_covers 7 _ (by decide +kernel) fun t _ y => ?_
  blk_simp
  rw [after0_7]
  frame_out
  have ht : t.val < 16 := lt_of_lt_of_eq t.isLt N_0
  have hi : (y (0 : Fin 2)).val < 256 := (y (0 : Fin 2)).isLt
  have hj : (y (1 : Fin 2)).val < 128 := (y (1 : Fin 2)).isLt
  obtain ⟨-, -, -, -, -, -, -, -, -, -, -, -, -, -, h0, h1, -⟩ := frontGdn_places t
  refine ((congrArg _ (funext fun a => by fin_cases a <;> rfl)).trans (frontGdn_cut7 _ _ _ _ _ ⟨(y (0 : Fin 2)).val, hi⟩ ⟨(y (1 : Fin 2)).val, hj⟩)).trans ((frontGdn_block_product m c t _ _ (by dsimp only; omega)).trans (congrArg₂ (frontGdn_z _ _ _ _ _) (Fin.ext ?_) (Fin.ext ?_)))
  · show t.val * 256 + (y (0 : Fin 2)).val = win0_7.index t 0 * 256 + 1 * (y (0 : Fin 2)).val
    rw [h0]; omega
  · show 4096 + (y (1 : Fin 2)).val = 4096 + (win0_7.index t 1 * 128 + (y (1 : Fin 2)).val)
    rw [h1]; omega

/-- What window 8 leaves: the rows themselves. -/
theorem frontGdn_out8 : (dats (F := Ideal) m 0 c).arrAt 8 cfg0.N
    = frontGdn_h (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  frame_out
  have ht : t.val < 16 := lt_of_lt_of_eq t.isLt N_0
  have hi : (y (0 : Fin 2)).val < 256 := (y (0 : Fin 2)).isLt
  have hj : (y (1 : Fin 2)).val < 1024 := (y (1 : Fin 2)).isLt
  obtain ⟨-, -, -, -, -, -, -, -, -, -, -, -, -, -, -, -, h0, h1⟩ := frontGdn_places t
  refine ((congrArg _ (funext fun a => by fin_cases a <;> rfl)).trans (frontGdn_rows _ _ _ _ ⟨(y (0 : Fin 2)).val, hi⟩ ⟨(y (1 : Fin 2)).val, hj⟩)).trans ((frontGdn_block_rows m c t _ _ (by dsimp only; omega)).trans (congrArg (frontGdn_h _ _ _ _) (funext fun a => Fin.ext ?_)))
  match a with
  | ⟨0, _⟩ => show t.val * 256 + (y (0 : Fin 2)).val = win0_8.index t 0 * 256 + 1 * (y (0 : Fin 2)).val; rw [h0]; omega
  | ⟨1, _⟩ => show (y (1 : Fin 2)).val = win0_8.index t 1 * 1024 + 1 * (y (1 : Fin 2)).val; rw [h1]; omega

end FrontGdn

section FrontGdnReference
open Cert.FrontGdnRefIdeal Cert.FrontGdnRefIdeal.Facts₀
set_option maxRecDepth 16384

/-- The rows are the reference's. -/
theorem frontGdn_reference8 (a0 : FVec Ideal S4096x1024 .f32) (a1 a2 a3 : FVec Ideal S1x1024 .f32) :
    frontGdn_h a0 a1 a2 a3 = (truncf .bf16 (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) bitsLt_bf16_f32 : FVec Ideal S4096x1024 .bf16) := by
  funext y
  obtain ⟨i, j, rfl⟩ : ∃ i j, y = ix2 i j := ⟨y 0, y 1, (ix2_eta y).symm⟩
  symm
  pointwise
  rfl

/-- The columns from 0 of the product are the reference's. -/
theorem frontGdn_reference5 (a0 : FVec Ideal S4096x1024 .f32) (a1 a2 a3 : FVec Ideal S1x1024 .f32) (a4 : FVec Ideal S1024x4224 .bf16) :
    (fun y : S4096x3072.Idx => frontGdn_z a0 a1 a2 a3 a4 (y 0) ⟨(y 1).val, by have : (y 1).val < 3072 := (y 1).isLt; omega⟩ : FVec Ideal S4096x3072 .f32)
      = extractStridedSlice S4096x3072 ![0, 0] (Host.dotGeneral dot_S4096x1024_S1024x4224_S4096x4224_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) (extf .f32 a4 bitsLt_bf16_f32)) slices_S4096x4224_S4096x3072_0_0 := by
  funext y
  obtain ⟨i, j, rfl⟩ : ∃ i j, y = ix2 i j := ⟨y 0, y 1, (ix2_eta y).symm⟩
  symm
  pointwise
  rfl

/-- The columns from 3072 of the product are the reference's. -/
theorem frontGdn_reference6 (a0 : FVec Ideal S4096x1024 .f32) (a1 a2 a3 : FVec Ideal S1x1024 .f32) (a4 : FVec Ideal S1024x4224 .bf16) :
    (fun y : S4096x1024.Idx => frontGdn_z a0 a1 a2 a3 a4 (y 0) ⟨3072 + (y 1).val, by have : (y 1).val < 1024 := (y 1).isLt; omega⟩ : FVec Ideal S4096x1024 .f32)
      = extractStridedSlice S4096x1024 ![0, 3072] (Host.dotGeneral dot_S4096x1024_S1024x4224_S4096x4224_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) (extf .f32 a4 bitsLt_bf16_f32)) slices_S4096x4224_S4096x1024_0_3072 := by
  funext y
  obtain ⟨i, j, rfl⟩ : ∃ i j, y = ix2 i j := ⟨y 0, y 1, (ix2_eta y).symm⟩
  symm
  pointwise
  rfl

/-- The columns from 4096 of the product are the reference's. -/
theorem frontGdn_reference7 (a0 : FVec Ideal S4096x1024 .f32) (a1 a2 a3 : FVec Ideal S1x1024 .f32) (a4 : FVec Ideal S1024x4224 .bf16) :
    (fun y : S4096x128.Idx => frontGdn_z a0 a1 a2 a3 a4 (y 0) ⟨4096 + (y 1).val, by have : (y 1).val < 128 := (y 1).isLt; omega⟩ : FVec Ideal S4096x128 .f32)
      = extractStridedSlice S4096x128 ![0, 4096] (Host.dotGeneral dot_S4096x1024_S1024x4224_S4096x4224_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) (extf .f32 a4 bitsLt_bf16_f32)) slices_S4096x4224_S4096x128_0_4096 := by
  funext y
  obtain ⟨i, j, rfl⟩ : ∃ i j, y = ix2 i j := ⟨y 0, y 1, (ix2_eta y).symm⟩
  symm
  pointwise
  rfl

end FrontGdnReference

set_option smartUnfolding false in
-- a program and its idealization are unified unfolding by unfolding
theorem frame_frontGdn : Cert.quiescent_FrontGdn := fun m g _ => Cert.FrontGdnIdeal.Gen.frame (F := Bits) m g

theorem frame_frontGdnIdeal : Cert.quiescent_FrontGdnIdeal := fun m g _ => Cert.FrontGdnIdeal.Gen.frame (F := Ideal) m g

theorem frame_frontGdnRefIdeal : Cert.quiescent_FrontGdnRefIdeal := fun m g _ =>
  (θ_run Cert.FrontGdnRefIdeal.defs _ _).mono (fun r h => ⟨fun c => (h c).2.2.2.2, sem_eq_zero_of_no_sems (by decide) r.2⟩)
    (Cert.FrontGdnRefIdeal.Value.run (F := Ideal) m g)

/-- Ideally the kernel's rows and the parts of their product are the reference's. -/
theorem algebraic_frontGdn : Cert.algebraic_FrontGdnIdeal_FrontGdnRefIdeal := by
  intro m g m' g' _ h
  obtain ⟨h0, h1, h2, h3, h4⟩ := h 0
  refine ⟨fun _ => _, fun _ => _, fun _ => _, fun _ => _, ?_, (θ_run Cert.FrontGdnRefIdeal.defs _ _).mono (fun _ hr => Fin.forall_fin_one.2 (hr 0)) (Cert.FrontGdnRefIdeal.Value.run (F := Ideal) m' g')⟩
  refine (θ_run Cert.FrontGdnIdeal.defs _ _).mono (fun _ hr => Fin.forall_fin_one.2 ?_) (Cert.FrontGdnIdeal.Value.run_blocks (F := Ideal) m g)
  obtain ⟨r5, r6, r7, r8, ha⟩ := hr 0
  rw [h0, h1, h2, h3, h4]
  exact ⟨r5.trans ((frontGdn_out5 m 0).trans (frontGdn_reference5 _ _ _ _ _)), r6.trans ((frontGdn_out6 m 0).trans (frontGdn_reference6 _ _ _ _ _)), r7.trans ((frontGdn_out7 m 0).trans (frontGdn_reference7 _ _ _ _ _)), r8.trans ((frontGdn_out8 m 0).trans (frontGdn_reference8 _ _ _ _)), ha⟩

section FrontAb
open Cert.FrontAbIdeal Cert.FrontAbIdeal.Gen Cert.FrontAbIdeal.Value
set_option maxRecDepth 16384

/-- The normed and modulated rows of a block, at a place. -/
theorem frontAb_rows (x : Vec Ideal S256x1024 .f32) (g s b : Vec Ideal S1x1024 .f32) (i : Fin 256) (j : Fin 1024) :
    k0_pay4 (F := Ideal) x g s b (ix2 i j) = modRow (fun k => x (ix2 i k)) (fun k => g (ix2 0 k)) (fun k => s (ix2 0 k)) (fun k => b (ix2 0 k)) j := by
  pointwise [k0_pay4]
  rfl

/-- Their product with the projection, at a place. -/
theorem frontAb_product (x : Vec Ideal S256x1024 .f32) (g s b : Vec Ideal S1x1024 .f32) (w : Vec Ideal S1024x3072 .bf16) (i : Fin 256) (j : Fin 3072) :
    k0_pay5 (F := Ideal) x g s b w (ix2 i j) = (∑ k, modRow (fun k => x (ix2 i k)) (fun k => g (ix2 0 k)) (fun k => s (ix2 0 k)) (fun k => b (ix2 0 k)) k * w (ix2 k j) : EReal) := by
  have h := frontAb_rows x g s b i
  pointwise [k0_pay5]
  exact Finset.sum_congr rfl fun k _ => congrArg (fun z : EReal => z * w (ix2 k j)) (h k)

variable (m : (ℓ : Loc nD τ sig) → Buf (Elt Ideal) ℓ) (c : Dev nD)

/-- The normed and modulated rows of the arguments. -/
def frontAb_h (x : Vec Ideal S4096x1024 .f32) (g s b : Vec Ideal S1x1024 .f32) : Vec Ideal S4096x1024 .bf16 :=
  fun y => modRow (fun k => x (ix2 (y 0) k)) (fun k => g (ix2 0 k)) (fun k => s (ix2 0 k)) (fun k => b (ix2 0 k)) (y 1)

/-- Their product with the projection, at a row and a column. -/
def frontAb_z (x : Vec Ideal S4096x1024 .f32) (g s b : Vec Ideal S1x1024 .f32) (w : Vec Ideal S1024x3072 .bf16) (r : Fin 4096) (q : Fin 3072) : EReal :=
  ∑ k, frontAb_h x g s b (ix2 r k) * w (ix2 k q)

/-- The places of the windows: at point t the rows are those from 256 t; the other arguments are read whole. -/
theorem frontAb_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- A block of the rows, at a place. -/
theorem frontAb_x (t : Fin cfg0.N) (i : Fin 256) (k : Fin 1024) (h : t.val * 256 + i.val < 4096) :
    (iblk m c 0 t : Vec Ideal S256x1024 .f32) (ix2 i k) = (m ((c : Thread nD τ).loc main_arg0) : Vec Ideal S4096x1024 .f32) (ix2 ⟨t.val * 256 + i.val, h⟩ k) := by
  obtain ⟨h0, h1, -⟩ := frontAb_places t
  unfold iblk
  rw [View.read_apply]
  refine congrArg (m ((c : Thread nD τ).loc main_arg0)) (funext fun a => Fin.ext ?_)
  match a with
  | ⟨0, _⟩ => show win0_0.index t 0 * 256 + 1 * i.val = t.val * 256 + i.val; rw [h0, Nat.one_mul]
  | ⟨1, _⟩ => show win0_0.index t 1 * 1024 + 1 * k.val = k.val; rw [h1]; omega

theorem frontAb_g (t : Fin cfg0.N) (k : Fin 1024) :
    (iblk m c 1 t : Vec Ideal S1x1024 .f32) (ix2 0 k) = (m ((c : Thread nD τ).loc main_arg1) : Vec Ideal S1x1024 .f32) (ix2 0 k) := by
  obtain ⟨-, -, h0, h1, -⟩ := frontAb_places t
  unfold iblk
  rw [View.read_apply]
  refine congrArg (m ((c : Thread nD τ).loc main_arg1)) (funext fun a => Fin.ext ?_)
  match a with
  | ⟨0, _⟩ => show win0_1.index t 0 * 1 + 1 * 0 = 0; rw [h0]
  | ⟨1, _⟩ => show win0_1.index t 1 * 1024 + 1 * k.val = k.val; rw [h1]; omega

theorem frontAb_s (t : Fin cfg0.N) (k : Fin 1024) :
    (iblk m c 2 t : Vec Ideal S1x1024 .f32) (ix2 0 k) = (m ((c : Thread nD τ).loc main_arg2) : Vec Ideal S1x1024 .f32) (ix2 0 k) := by
  obtain ⟨-, -, -, -, h0, h1, -⟩ := frontAb_places t
  unfold iblk
  rw [View.read_apply]
  refine congrArg (m ((c : Thread nD τ).loc main_arg2)) (funext fun a => Fin.ext ?_)
  match a with
  | ⟨0, _⟩ => show win0_2.index t 0 * 1 + 1 * 0 = 0; rw [h0]
  | ⟨1, _⟩ => show win0_2.index t 1 * 1024 + 1 * k.val = k.val; rw [h1]; omega

theorem frontAb_b (t : Fin cfg0.N) (k : Fin 1024) :
    (iblk m c 3 t : Vec Ideal S1x1024 .f32) (ix2 0 k) = (m ((c : Thread nD τ).loc main_arg3) : Vec Ideal S1x1024 .f32) (ix2 0 k) := by
  obtain ⟨-, -, -, -, -, -, h0, h1, -⟩ := frontAb_places t
  unfold iblk
  rw [View.read_apply]
  refine congrArg (m ((c : Thread nD τ).loc main_arg3)) (funext fun a => Fin.ext ?_)
  match a with
  | ⟨0, _⟩ => show win0_3.index t 0 * 1 + 1 * 0 = 0; rw [h0]
  | ⟨1, _⟩ => show win0_3.index t 1 * 1024 + 1 * k.val = k.val; rw [h1]; omega

theorem frontAb_w (t : Fin cfg0.N) (k : Fin 1024) (q : Fin 3072) :
    (iblk m c 4 t : Vec Ideal S1024x3072 .bf16) (ix2 k q) = (m ((c : Thread nD τ).loc main_arg4) : Vec Ideal S1024x3072 .bf16) (ix2 k q) := by
  obtain ⟨-, -, -, -, -, -, -, -, h0, h1, -⟩ := frontAb_places t
  unfold iblk
  rw [View.read_apply]
  refine congrArg (m ((c : Thread nD τ).loc main_arg4)) (funext fun a => Fin.ext ?_)
  match a with
  | ⟨0, _⟩ => show win0_4.index t 0 * 1024 + 1 * k.val = k.val; rw [h0]; omega
  | ⟨1, _⟩ => show win0_4.index t 1 * 3072 + 1 * q.val = q.val; rw [h1]; omega

/-- The rows of a grid point's block are the arguments' rows from 256 t. -/
theorem frontAb_block_rows (t : Fin cfg0.N) (i : Fin 256) (j : Fin 1024) (h : t.val * 256 + i.val < 4096) :
    modRow (fun k => (iblk m c 0 t : Vec Ideal S256x1024 .f32) (ix2 i k)) (fun k => (iblk m c 1 t : Vec Ideal S1x1024 .f32) (ix2 0 k)) (fun k => (iblk m c 2 t : Vec Ideal S1x1024 .f32) (ix2 0 k)) (fun k => (iblk m c 3 t : Vec Ideal S1x1024 .f32) (ix2 0 k)) j
      = frontAb_h (m ((c : Thread nD τ).loc main_arg0)) (m ((c : Thread nD τ).loc main_arg1)) (m ((c : Thread nD τ).loc main_arg2)) (m ((c : Thread nD τ).loc main_arg3)) (ix2 ⟨t.val * 256 + i.val, h⟩ j) := by
  rw [show (fun k => (iblk m c 0 t : Vec Ideal S256x1024 .f32) (ix2 i k)) = _ from funext fun k => frontAb_x m c t i k h, show (fun k => (iblk m c 1 t : Vec Ideal S1x1024 .f32) (ix2 0 k)) = _ from funext (frontAb_g m c t),
    show (fun k => (iblk m c 2 t : Vec Ideal S1x1024 .f32) (ix2 0 k)) = _ from funext (frontAb_s m c t), show (fun k => (iblk m c 3 t : Vec Ideal S1x1024 .f32) (ix2 0 k)) = _ from funext (frontAb_b m c t)]
  rfl

/-- The product of a grid point's block is the arguments' product at the rows from 256 t. -/
theorem frontAb_block_product (t : Fin cfg0.N) (i : Fin 256) (q : Fin 3072) (h : t.val * 256 + i.val < 4096) :
    k0_pay5 (F := Ideal) (iblk m c 0 t) (iblk m c 1 t) (iblk m c 2 t) (iblk m c 3 t) (iblk m c 4 t) (ix2 i q)
      = frontAb_z (m ((c : Thread nD τ).loc main_arg0)) (m ((c : Thread nD τ).loc main_arg1)) (m ((c : Thread nD τ).loc main_arg2)) (m ((c : Thread nD τ).loc main_arg3)) (m ((c : Thread nD τ).loc main_arg4)) ⟨t.val * 256 + i.val, h⟩ q :=
  (frontAb_product _ _ _ _ _ i q).trans (Finset.sum_congr rfl fun k _ => congrArg₂ (fun a b : EReal => a * b) (frontAb_block_rows m c t i k h) (frontAb_w m c t k q))

/-- The part of the product that window 5 takes, at a place. -/
theorem frontAb_cut5 (x : Vec Ideal S256x1024 .f32) (g s b : Vec Ideal S1x1024 .f32) (w : Vec Ideal S1024x3072 .bf16) (i : Fin 256) (j : Fin 512) :
    k0_pay6 (F := Ideal) x g s b w (ix2 i j) = k0_pay5 (F := Ideal) x g s b w (ix2 i ⟨j.val, by omega⟩) := by
  pointwise [k0_pay6]

/-- What window 5 leaves: the columns from 0 of the product. -/
theorem frontAb_out5 : (dats (F := Ideal) m 0 c).arrAt 5 cfg0.N
    = (fun y : S4096x512.Idx => frontAb_z (m ((c : Thread nD τ).loc main_arg0)) (m ((c : Thread nD τ).loc main_arg1)) (m ((c : Thread nD τ).loc main_arg2)) (m ((c : Thread nD τ).loc main_arg3)) (m ((c : Thread nD τ).loc main_arg4))
        (y 0) ⟨(y 1).val, by have : (y 1).val < 512 := (y 1).isLt; omega⟩ : Vec Ideal S4096x512 .f32) := by
  refine (dats m 0 c).arrAt_eq_of_covers 5 _ (by decide +kernel) fun t _ y => ?_
  blk_simp
  rw [after0_5]
  frame_out
  have ht : t.val < 16 := lt_of_lt_of_eq t.isLt N_0
  have hi : (y (0 : Fin 2)).val < 256 := (y (0 : Fin 2)).isLt
  have hj : (y (1 : Fin 2)).val < 512 := (y (1 : Fin 2)).isLt
  obtain ⟨-, -, -, -, -, -, -, -, -, -, h0, h1, -⟩ := frontAb_places t
  refine ((congrArg _ (funext fun a => by fin_cases a <;> rfl)).trans (frontAb_cut5 _ _ _ _ _ ⟨(y (0 : Fin 2)).val, hi⟩ ⟨(y (1 : Fin 2)).val, hj⟩)).trans ((frontAb_block_product m c t _ _ (by dsimp only; omega)).trans (congrArg₂ (frontAb_z _ _ _ _ _) (Fin.ext ?_) (Fin.ext ?_)))
  · show t.val * 256 + (y (0 : Fin 2)).val = win0_5.index t 0 * 256 + 1 * (y (0 : Fin 2)).val
    rw [h0]; omega
  · show (y (1 : Fin 2)).val = (win0_5.index t 1 * 512 + (y (1 : Fin 2)).val)
    rw [h1]; omega

/-- The part of the product that window 6 takes, at a place. -/
theorem frontAb_cut6 (x : Vec Ideal S256x1024 .f32) (g s b : Vec Ideal S1x1024 .f32) (w : Vec Ideal S1024x3072 .bf16) (i : Fin 256) (j : Fin 512) :
    k0_pay7 (F := Ideal) x g s b w (ix2 i j) = k0_pay5 (F := Ideal) x g s b w (ix2 i ⟨512 + j.val, by omega⟩) := by
  pointwise [k0_pay7]

/-- What window 6 leaves: the columns from 512 of the product. -/
theorem frontAb_out6 : (dats (F := Ideal) m 0 c).arrAt 6 cfg0.N
    = (fun y : S4096x512.Idx => frontAb_z (m ((c : Thread nD τ).loc main_arg0)) (m ((c : Thread nD τ).loc main_arg1)) (m ((c : Thread nD τ).loc main_arg2)) (m ((c : Thread nD τ).loc main_arg3)) (m ((c : Thread nD τ).loc main_arg4))
        (y 0) ⟨512 + (y 1).val, by have : (y 1).val < 512 := (y 1).isLt; omega⟩ : Vec Ideal S4096x512 .f32) := by
  refine (dats m 0 c).arrAt_eq_of_covers 6 _ (by decide +kernel) fun t _ y => ?_
  blk_simp
  rw [after0_6]
  frame_out
  have ht : t.val < 16 := lt_of_lt_of_eq t.isLt N_0
  have hi : (y (0 : Fin 2)).val < 256 := (y (0 : Fin 2)).isLt
  have hj : (y (1 : Fin 2)).val < 512 := (y (1 : Fin 2)).isLt
  obtain ⟨-, -, -, -, -, -, -, -, -, -, -, -, h0, h1, -⟩ := frontAb_places t
  refine ((congrArg _ (funext fun a => by fin_cases a <;> rfl)).trans (frontAb_cut6 _ _ _ _ _ ⟨(y (0 : Fin 2)).val, hi⟩ ⟨(y (1 : Fin 2)).val, hj⟩)).trans ((frontAb_block_product m c t _ _ (by dsimp only; omega)).trans (congrArg₂ (frontAb_z _ _ _ _ _) (Fin.ext ?_) (Fin.ext ?_)))
  · show t.val * 256 + (y (0 : Fin 2)).val = win0_6.index t 0 * 256 + 1 * (y (0 : Fin 2)).val
    rw [h0]; omega
  · show 512 + (y (1 : Fin 2)).val = 512 + (win0_6.index t 1 * 512 + (y (1 : Fin 2)).val)
    rw [h1]; omega

/-- The part of the product that window 7 takes, at a place. -/
theorem frontAb_cut7 (x : Vec Ideal S256x1024 .f32) (g s b : Vec Ideal S1x1024 .f32) (w : Vec Ideal S1024x3072 .bf16) (i : Fin 256) (j : Fin 512) :
    k0_pay8 (F := Ideal) x g s b w (ix2 i j) = k0_pay5 (F := Ideal) x g s b w (ix2 i ⟨1024 + j.val, by omega⟩) := by
  pointwise [k0_pay8]

/-- What window 7 leaves: the columns from 1024 of the product. -/
theorem frontAb_out7 : (dats (F := Ideal) m 0 c).arrAt 7 cfg0.N
    = (fun y : S4096x512.Idx => frontAb_z (m ((c : Thread nD τ).loc main_arg0)) (m ((c : Thread nD τ).loc main_arg1)) (m ((c : Thread nD τ).loc main_arg2)) (m ((c : Thread nD τ).loc main_arg3)) (m ((c : Thread nD τ).loc main_arg4))
        (y 0) ⟨1024 + (y 1).val, by have : (y 1).val < 512 := (y 1).isLt; omega⟩ : Vec Ideal S4096x512 .f32) := by
  refine (dats m 0 c).arrAt_eq_of_covers 7 _ (by decide +kernel) fun t _ y => ?_
  blk_simp
  rw [after0_7]
  frame_out
  have ht : t.val < 16 := lt_of_lt_of_eq t.isLt N_0
  have hi : (y (0 : Fin 2)).val < 256 := (y (0 : Fin 2)).isLt
  have hj : (y (1 : Fin 2)).val < 512 := (y (1 : Fin 2)).isLt
  obtain ⟨-, -, -, -, -, -, -, -, -, -, -, -, -, -, h0, h1, -⟩ := frontAb_places t
  refine ((congrArg _ (funext fun a => by fin_cases a <;> rfl)).trans (frontAb_cut7 _ _ _ _ _ ⟨(y (0 : Fin 2)).val, hi⟩ ⟨(y (1 : Fin 2)).val, hj⟩)).trans ((frontAb_block_product m c t _ _ (by dsimp only; omega)).trans (congrArg₂ (frontAb_z _ _ _ _ _) (Fin.ext ?_) (Fin.ext ?_)))
  · show t.val * 256 + (y (0 : Fin 2)).val = win0_7.index t 0 * 256 + 1 * (y (0 : Fin 2)).val
    rw [h0]; omega
  · show 1024 + (y (1 : Fin 2)).val = 1024 + (win0_7.index t 1 * 512 + (y (1 : Fin 2)).val)
    rw [h1]; omega

theorem frontAb_whole (x : Vec Ideal S256x1024 .f32) (g s b : Vec Ideal S1x1024 .f32) (w : Vec Ideal S1024x3072 .bf16) : k0_pay9 (F := Ideal) x g s b w = k0_pay5 x g s b w := by
  unfold k0_pay9
  frame_out

/-- The part of the product that window 8 takes, at a place. -/
theorem frontAb_cut8 (x : Vec Ideal S256x1024 .f32) (g s b : Vec Ideal S1x1024 .f32) (w : Vec Ideal S1024x3072 .bf16) (i : Fin 256) (j : Fin 512) :
    k0_pay1 (F := Ideal) (k0_pay9 x g s b w) (ix2 i j) = k0_pay5 (F := Ideal) x g s b w (ix2 i ⟨1536 + j.val, by omega⟩) := by
  rw [frontAb_whole]
  pointwise [k0_pay1]

/-- What window 8 leaves: the columns from 1536 of the product. -/
theorem frontAb_out8 : (dats (F := Ideal) m 0 c).arrAt 8 cfg0.N
    = (fun y : S4096x512.Idx => frontAb_z (m ((c : Thread nD τ).loc main_arg0)) (m ((c : Thread nD τ).loc main_arg1)) (m ((c : Thread nD τ).loc main_arg2)) (m ((c : Thread nD τ).loc main_arg3)) (m ((c : Thread nD τ).loc main_arg4))
        (y 0) ⟨1536 + (y 1).val, by have : (y 1).val < 512 := (y 1).isLt; omega⟩ : Vec Ideal S4096x512 .f32) := by
  refine (dats m 0 c).arrAt_eq_of_covers 8 _ (by decide +kernel) fun t _ y => ?_
  blk_simp
  rw [after0_8]
  frame_out
  have ht : t.val < 16 := lt_of_lt_of_eq t.isLt N_0
  have hi : (y (0 : Fin 2)).val < 256 := (y (0 : Fin 2)).isLt
  have hj : (y (1 : Fin 2)).val < 512 := (y (1 : Fin 2)).isLt
  obtain ⟨-, -, -, -, -, -, -, -, -, -, -, -, -, -, -, -, h0, h1, -⟩ := frontAb_places t
  refine ((congrArg _ (funext fun a => by fin_cases a <;> rfl)).trans (frontAb_cut8 _ _ _ _ _ ⟨(y (0 : Fin 2)).val, hi⟩ ⟨(y (1 : Fin 2)).val, hj⟩)).trans ((frontAb_block_product m c t _ _ (by dsimp only; omega)).trans (congrArg₂ (frontAb_z _ _ _ _ _) (Fin.ext ?_) (Fin.ext ?_)))
  · show t.val * 256 + (y (0 : Fin 2)).val = win0_8.index t 0 * 256 + 1 * (y (0 : Fin 2)).val
    rw [h0]; omega
  · show 1536 + (y (1 : Fin 2)).val = 1536 + (win0_8.index t 1 * 512 + (y (1 : Fin 2)).val)
    rw [h1]; omega

/-- The part of the product that window 9 takes, at a place. -/
theorem frontAb_cut9 (x : Vec Ideal S256x1024 .f32) (g s b : Vec Ideal S1x1024 .f32) (w : Vec Ideal S1024x3072 .bf16) (i : Fin 256) (j : Fin 512) :
    k0_pay2 (F := Ideal) (k0_pay9 x g s b w) (ix2 i j) = k0_pay5 (F := Ideal) x g s b w (ix2 i ⟨2048 + j.val, by omega⟩) := by
  rw [frontAb_whole]
  pointwise [k0_pay2]

/-- What window 9 leaves: the columns from 2048 of the product. -/
theorem frontAb_out9 : (dats (F := Ideal) m 0 c).arrAt 9 cfg0.N
    = (fun y : S4096x512.Idx => frontAb_z (m ((c : Thread nD τ).loc main_arg0)) (m ((c : Thread nD τ).loc main_arg1)) (m ((c : Thread nD τ).loc main_arg2)) (m ((c : Thread nD τ).loc main_arg3)) (m ((c : Thread nD τ).loc main_arg4))
        (y 0) ⟨2048 + (y 1).val, by have : (y 1).val < 512 := (y 1).isLt; omega⟩ : Vec Ideal S4096x512 .f32) := by
  refine (dats m 0 c).arrAt_eq_of_covers 9 _ (by decide +kernel) fun t _ y => ?_
  blk_simp
  rw [after0_9]
  frame_out
  have ht : t.val < 16 := lt_of_lt_of_eq t.isLt N_0
  have hi : (y (0 : Fin 2)).val < 256 := (y (0 : Fin 2)).isLt
  have hj : (y (1 : Fin 2)).val < 512 := (y (1 : Fin 2)).isLt
  obtain ⟨-, -, -, -, -, -, -, -, -, -, -, -, -, -, -, -, -, -, h0, h1, -⟩ := frontAb_places t
  refine ((congrArg _ (funext fun a => by fin_cases a <;> rfl)).trans (frontAb_cut9 _ _ _ _ _ ⟨(y (0 : Fin 2)).val, hi⟩ ⟨(y (1 : Fin 2)).val, hj⟩)).trans ((frontAb_block_product m c t _ _ (by dsimp only; omega)).trans (congrArg₂ (frontAb_z _ _ _ _ _) (Fin.ext ?_) (Fin.ext ?_)))
  · show t.val * 256 + (y (0 : Fin 2)).val = win0_9.index t 0 * 256 + 1 * (y (0 : Fin 2)).val
    rw [h0]; omega
  · show 2048 + (y (1 : Fin 2)).val = 2048 + (win0_9.index t 1 * 512 + (y (1 : Fin 2)).val)
    rw [h1]; omega

/-- The part of the product that window 10 takes, at a place. -/
theorem frontAb_cut10 (x : Vec Ideal S256x1024 .f32) (g s b : Vec Ideal S1x1024 .f32) (w : Vec Ideal S1024x3072 .bf16) (i : Fin 256) (j : Fin 512) :
    k0_pay3 (F := Ideal) (k0_pay9 x g s b w) (ix2 i j) = k0_pay5 (F := Ideal) x g s b w (ix2 i ⟨2560 + j.val, by omega⟩) := by
  rw [frontAb_whole]
  pointwise [k0_pay3]

/-- What window 10 leaves: the columns from 2560 of the product. -/
theorem frontAb_out10 : (dats (F := Ideal) m 0 c).arrAt 10 cfg0.N
    = (fun y : S4096x512.Idx => frontAb_z (m ((c : Thread nD τ).loc main_arg0)) (m ((c : Thread nD τ).loc main_arg1)) (m ((c : Thread nD τ).loc main_arg2)) (m ((c : Thread nD τ).loc main_arg3)) (m ((c : Thread nD τ).loc main_arg4))
        (y 0) ⟨2560 + (y 1).val, by have : (y 1).val < 512 := (y 1).isLt; omega⟩ : Vec Ideal S4096x512 .f32) := by
  refine (dats m 0 c).arrAt_eq_of_covers 10 _ (by decide +kernel) fun t _ y => ?_
  blk_simp
  rw [after0_10]
  frame_out
  have ht : t.val < 16 := lt_of_lt_of_eq t.isLt N_0
  have hi : (y (0 : Fin 2)).val < 256 := (y (0 : Fin 2)).isLt
  have hj : (y (1 : Fin 2)).val < 512 := (y (1 : Fin 2)).isLt
  obtain ⟨-, -, -, -, -, -, -, -, -, -, -, -, -, -, -, -, -, -, -, -, h0, h1, -⟩ := frontAb_places t
  refine ((congrArg _ (funext fun a => by fin_cases a <;> rfl)).trans (frontAb_cut10 _ _ _ _ _ ⟨(y (0 : Fin 2)).val, hi⟩ ⟨(y (1 : Fin 2)).val, hj⟩)).trans ((frontAb_block_product m c t _ _ (by dsimp only; omega)).trans (congrArg₂ (frontAb_z _ _ _ _ _) (Fin.ext ?_) (Fin.ext ?_)))
  · show t.val * 256 + (y (0 : Fin 2)).val = win0_10.index t 0 * 256 + 1 * (y (0 : Fin 2)).val
    rw [h0]; omega
  · show 2560 + (y (1 : Fin 2)).val = 2560 + (win0_10.index t 1 * 512 + (y (1 : Fin 2)).val)
    rw [h1]; omega

/-- What window 11 leaves: the rows themselves. -/
theorem frontAb_out11 : (dats (F := Ideal) m 0 c).arrAt 11 cfg0.N
    = frontAb_h (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]
  frame_out
  have ht : t.val < 16 := lt_of_lt_of_eq t.isLt N_0
  have hi : (y (0 : Fin 2)).val < 256 := (y (0 : Fin 2)).isLt
  have hj : (y (1 : Fin 2)).val < 1024 := (y (1 : Fin 2)).isLt
  obtain ⟨-, -, -, -, -, -, -, -, -, -, -, -, -, -, -, -, -, -, -, -, -, -, h0, h1⟩ := frontAb_places t
  refine ((congrArg _ (funext fun a => by fin_cases a <;> rfl)).trans (frontAb_rows _ _ _ _ ⟨(y (0 : Fin 2)).val, hi⟩ ⟨(y (1 : Fin 2)).val, hj⟩)).trans ((frontAb_block_rows m c t _ _ (by dsimp only; omega)).trans (congrArg (frontAb_h _ _ _ _) (funext fun a => Fin.ext ?_)))
  match a with
  | ⟨0, _⟩ => show t.val * 256 + (y (0 : Fin 2)).val = win0_11.index t 0 * 256 + 1 * (y (0 : Fin 2)).val; rw [h0]; omega
  | ⟨1, _⟩ => show (y (1 : Fin 2)).val = win0_11.index t 1 * 1024 + 1 * (y (1 : Fin 2)).val; rw [h1]; omega

end FrontAb

section FrontAbReference
open Cert.FrontAbRefIdeal Cert.FrontAbRefIdeal.Facts₀
set_option maxRecDepth 16384

/-- The rows are the reference's. -/
theorem frontAb_reference11 (a0 : FVec Ideal S4096x1024 .f32) (a1 a2 a3 : FVec Ideal S1x1024 .f32) :
    frontAb_h a0 a1 a2 a3 = (truncf .bf16 (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) bitsLt_bf16_f32 : FVec Ideal S4096x1024 .bf16) := by
  funext y
  obtain ⟨i, j, rfl⟩ : ∃ i j, y = ix2 i j := ⟨y 0, y 1, (ix2_eta y).symm⟩
  symm
  pointwise
  rfl

/-- The columns from 0 of the product are the reference's. -/
theorem frontAb_reference5 (a0 : FVec Ideal S4096x1024 .f32) (a1 a2 a3 : FVec Ideal S1x1024 .f32) (a4 : FVec Ideal S1024x3072 .bf16) :
    (fun y : S4096x512.Idx => frontAb_z a0 a1 a2 a3 a4 (y 0) ⟨(y 1).val, by have : (y 1).val < 512 := (y 1).isLt; omega⟩ : FVec Ideal S4096x512 .f32)
      = extractStridedSlice S4096x512 ![0, 0] (Host.dotGeneral dot_S4096x1024_S1024x3072_S4096x3072_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) (extf .f32 a4 bitsLt_bf16_f32)) slices_S4096x3072_S4096x512_0_0 := by
  funext y
  obtain ⟨i, j, rfl⟩ : ∃ i j, y = ix2 i j := ⟨y 0, y 1, (ix2_eta y).symm⟩
  symm
  pointwise
  rfl

/-- The columns from 512 of the product are the reference's. -/
theorem frontAb_reference6 (a0 : FVec Ideal S4096x1024 .f32) (a1 a2 a3 : FVec Ideal S1x1024 .f32) (a4 : FVec Ideal S1024x3072 .bf16) :
    (fun y : S4096x512.Idx => frontAb_z a0 a1 a2 a3 a4 (y 0) ⟨512 + (y 1).val, by have : (y 1).val < 512 := (y 1).isLt; omega⟩ : FVec Ideal S4096x512 .f32)
      = extractStridedSlice S4096x512 ![0, 512] (Host.dotGeneral dot_S4096x1024_S1024x3072_S4096x3072_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) (extf .f32 a4 bitsLt_bf16_f32)) slices_S4096x3072_S4096x512_0_512 := by
  funext y
  obtain ⟨i, j, rfl⟩ : ∃ i j, y = ix2 i j := ⟨y 0, y 1, (ix2_eta y).symm⟩
  symm
  pointwise
  rfl

/-- The columns from 1024 of the product are the reference's. -/
theorem frontAb_reference7 (a0 : FVec Ideal S4096x1024 .f32) (a1 a2 a3 : FVec Ideal S1x1024 .f32) (a4 : FVec Ideal S1024x3072 .bf16) :
    (fun y : S4096x512.Idx => frontAb_z a0 a1 a2 a3 a4 (y 0) ⟨1024 + (y 1).val, by have : (y 1).val < 512 := (y 1).isLt; omega⟩ : FVec Ideal S4096x512 .f32)
      = extractStridedSlice S4096x512 ![0, 1024] (Host.dotGeneral dot_S4096x1024_S1024x3072_S4096x3072_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) (extf .f32 a4 bitsLt_bf16_f32)) slices_S4096x3072_S4096x512_0_1024 := by
  funext y
  obtain ⟨i, j, rfl⟩ : ∃ i j, y = ix2 i j := ⟨y 0, y 1, (ix2_eta y).symm⟩
  symm
  pointwise
  rfl

/-- The columns from 1536 of the product are the reference's. -/
theorem frontAb_reference8 (a0 : FVec Ideal S4096x1024 .f32) (a1 a2 a3 : FVec Ideal S1x1024 .f32) (a4 : FVec Ideal S1024x3072 .bf16) :
    (fun y : S4096x512.Idx => frontAb_z a0 a1 a2 a3 a4 (y 0) ⟨1536 + (y 1).val, by have : (y 1).val < 512 := (y 1).isLt; omega⟩ : FVec Ideal S4096x512 .f32)
      = extractStridedSlice S4096x512 ![0, 1536] (Host.dotGeneral dot_S4096x1024_S1024x3072_S4096x3072_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) (extf .f32 a4 bitsLt_bf16_f32)) slices_S4096x3072_S4096x512_0_1536 := by
  funext y
  obtain ⟨i, j, rfl⟩ : ∃ i j, y = ix2 i j := ⟨y 0, y 1, (ix2_eta y).symm⟩
  symm
  pointwise
  rfl

/-- The columns from 2048 of the product are the reference's. -/
theorem frontAb_reference9 (a0 : FVec Ideal S4096x1024 .f32) (a1 a2 a3 : FVec Ideal S1x1024 .f32) (a4 : FVec Ideal S1024x3072 .bf16) :
    (fun y : S4096x512.Idx => frontAb_z a0 a1 a2 a3 a4 (y 0) ⟨2048 + (y 1).val, by have : (y 1).val < 512 := (y 1).isLt; omega⟩ : FVec Ideal S4096x512 .f32)
      = extractStridedSlice S4096x512 ![0, 2048] (Host.dotGeneral dot_S4096x1024_S1024x3072_S4096x3072_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) (extf .f32 a4 bitsLt_bf16_f32)) slices_S4096x3072_S4096x512_0_2048 := by
  funext y
  obtain ⟨i, j, rfl⟩ : ∃ i j, y = ix2 i j := ⟨y 0, y 1, (ix2_eta y).symm⟩
  symm
  pointwise
  rfl

/-- The columns from 2560 of the product are the reference's. -/
theorem frontAb_reference10 (a0 : FVec Ideal S4096x1024 .f32) (a1 a2 a3 : FVec Ideal S1x1024 .f32) (a4 : FVec Ideal S1024x3072 .bf16) :
    (fun y : S4096x512.Idx => frontAb_z a0 a1 a2 a3 a4 (y 0) ⟨2560 + (y 1).val, by have : (y 1).val < 512 := (y 1).isLt; omega⟩ : FVec Ideal S4096x512 .f32)
      = extractStridedSlice S4096x512 ![0, 2560] (Host.dotGeneral dot_S4096x1024_S1024x3072_S4096x3072_1_0_0_1_n_n none (addf (mulf (mulf (mulf a0 (broadcastInDim S4096x1024 ![0, 1] bcast_S4096x1_S4096x1024_0_1 (Host.rsqrt (addf (Host.divf (broadcastInDim S4096x1 ![0] bcast_S4096_S4096x1_0 (Host.reduceAdd (mulf a0 a0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 a1)) (broadcastInDim S4096x1024 ![0, 1] bcast_S1x1024_S4096x1024_0_1 (addf (broadcastInDim S1x1024 ![] bcast_S_S1x1024 (constant S_ .f32 0x3F800000#32)) a2))) (broadcastInDim S4096x1024 ![0, 1] bcast_S1x1024_S4096x1024_0_1 a3)) (extf .f32 a4 bitsLt_bf16_f32)) slices_S4096x3072_S4096x512_0_2560 := by
  funext y
  obtain ⟨i, j, rfl⟩ : ∃ i j, y = ix2 i j := ⟨y 0, y 1, (ix2_eta y).symm⟩
  symm
  pointwise
  rfl

end FrontAbReference

set_option smartUnfolding false in
-- a program and its idealization are unified unfolding by unfolding
theorem frame_frontAb : Cert.quiescent_FrontAb := fun m g _ => Cert.FrontAbIdeal.Gen.frame (F := Bits) m g

theorem frame_frontAbIdeal : Cert.quiescent_FrontAbIdeal := fun m g _ => Cert.FrontAbIdeal.Gen.frame (F := Ideal) m g

theorem frame_frontAbRefIdeal : Cert.quiescent_FrontAbRefIdeal := fun m g _ =>
  (θ_run Cert.FrontAbRefIdeal.defs _ _).mono (fun r h => ⟨fun c => (h c).2.2.2.2.2.2.2, sem_eq_zero_of_no_sems (by decide) r.2⟩)
    (Cert.FrontAbRefIdeal.Value.run (F := Ideal) m g)

/-- Ideally the kernel's rows and the parts of their product are the reference's. -/
theorem algebraic_frontAb : Cert.algebraic_FrontAbIdeal_FrontAbRefIdeal := by
  intro m g m' g' _ h
  obtain ⟨h0, h1, h2, h3, h4⟩ := h 0
  refine ⟨fun _ => _, fun _ => _, fun _ => _, fun _ => _, fun _ => _, fun _ => _, fun _ => _, ?_, (θ_run Cert.FrontAbRefIdeal.defs _ _).mono (fun _ hr => Fin.forall_fin_one.2 (hr 0)) (Cert.FrontAbRefIdeal.Value.run (F := Ideal) m' g')⟩
  refine (θ_run Cert.FrontAbIdeal.defs _ _).mono (fun _ hr => Fin.forall_fin_one.2 ?_) (Cert.FrontAbIdeal.Value.run_blocks (F := Ideal) m g)
  obtain ⟨r5, r6, r7, r8, r9, r10, r11, ha⟩ := hr 0
  rw [h0, h1, h2, h3, h4]
  exact ⟨r5.trans ((frontAb_out5 m 0).trans (frontAb_reference5 _ _ _ _ _)), r6.trans ((frontAb_out6 m 0).trans (frontAb_reference6 _ _ _ _ _)), r7.trans ((frontAb_out7 m 0).trans (frontAb_reference7 _ _ _ _ _)), r8.trans ((frontAb_out8 m 0).trans (frontAb_reference8 _ _ _ _ _)), r9.trans ((frontAb_out9 m 0).trans (frontAb_reference9 _ _ _ _ _)), r10.trans ((frontAb_out10 m 0).trans (frontAb_reference10 _ _ _ _ _)), r11.trans ((frontAb_out11 m 0).trans (frontAb_reference11 _ _ _ _)), ha⟩

end Exchange.Fronts

end
-- ==== Proof.Discretised.lean ====
/-
  The claims about the discretised parameters of the state space: the kernel takes each group's factor to the group's rows
  by a product with a matrix of zeros and ones, the reference by cutting the rows into groups.
-/
module

public import proofs.«01_k».proof.Defs
public import proofs.«01_k».proof.Proof.Gen.Zoh
public import proofs.«01_k».proof.Proof.Gen.ZohIdeal.Value
public import proofs.«01_k».proof.Proof.Gen.ZohRefIdeal.Run
public import Idealize.ShloMosaic.Lib.Pointwise
public import Idealize.ShloMosaic.Lib.Pipeline.ValueKit

@[expose] public section

set_option Elab.async false

noncomputable section

namespace Exchange.Discretised

open Idealize.ShloMosaic Idealize.ShloMosaic.TcCoe Idealize.SL.Sem

section Zoh
open Cert.ZohIdeal Cert.ZohIdeal.Gen Cert.ZohIdeal.Value
set_option maxRecDepth 16384

/-- The group of a row, as the kernel computes it. -/
theorem group_of : ∀ i : Fin 512,
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 i.val) 16#32) 0#32))
      (IntOp.subi (IntOp.divsi ArithUnit.vector (BitVec.ofNat 32 i.val) 16#32) 1#32)
      (IntOp.divsi ArithUnit.vector (BitVec.ofNat 32 i.val) 16#32) = BitVec.ofNat 32 (i.val / 16) := by
  decide +kernel

/-- Two groups compared. -/
theorem same_group : ∀ g x : Fin 32,
    BitVec.setWidth 32 (IntOp.cmpi CmpIPredicate.eq (BitVec.ofNat 32 g.val) (BitVec.ofNat 32 x.val)) = if g.val = x.val then 1#32 else 0#32 := by
  decide +kernel

theorem sitofp_one : (FloatOps.sitofp FTy.f32 (1#32 : BitVec 32) : Ideal .f32) = (1 : EReal) := by
  show (((1#32 : BitVec 32).toInt : ℝ) : EReal) = 1
  simp

theorem sitofp_zero : (FloatOps.sitofp FTy.f32 (0#32 : BitVec 32) : Ideal .f32) = (0 : EReal) := by
  show (((0#32 : BitVec 32).toInt : ℝ) : EReal) = 0
  simp

/-- The matrix of zeros and ones has its ones where the row is of the column's group. -/
theorem groups_at (i : Fin 512) (x : Fin 32) :
    k0_pay1 (F := Ideal) (iota .tc S512x32 32 [0] iota_S512x32_d0_w32) (iota .tc S512x32 32 [1] iota_S512x32_d1_w32) 16#32 k0_pay13 k0_pay14 (Scalar.cmpi .sgt 16#32 0#32) (ix2 i x) = (if i.val / 16 = x.val then 1 else 0 : EReal) := by
  pointwise [k0_pay1, k0_pay13, k0_pay14]
  refine (congrArg (fun v => FloatOps.sitofp FTy.f32 (BitVec.setWidth 32 (IntOp.cmpi CmpIPredicate.eq v (BitVec.ofNat 32 x.val)))) (group_of i)).trans ?_
  refine (congrArg (FloatOps.sitofp FTy.f32) (same_group ⟨i.val / 16, by omega⟩ x)).trans ?_
  by_cases h : i.val / 16 = x.val
  · rw [if_pos h, if_pos h]; exact sitofp_one
  · rw [if_neg h, if_neg h]; exact sitofp_zero

/-- The product with that matrix reads each row's group. -/
theorem spread (v : FVec Ideal S32x64 .f32) (i : Fin 512) (j : Fin 64) :
    k0_pay2 (F := Ideal) v (iota .tc S512x32 32 [0] iota_S512x32_d0_w32) (iota .tc S512x32 32 [1] iota_S512x32_d1_w32) 16#32 k0_pay13 k0_pay14 (Scalar.cmpi .sgt 16#32 0#32) (ix2 i j) = v (ix2 ⟨i.val / 16, by omega⟩ j) := by
  have h := groups_at i
  pointwise [k0_pay2]
  refine (Finset.sum_congr rfl fun x _ => congrArg (fun z : EReal => z * v (ix2 x j)) (h x)).trans ?_
  rw [Finset.sum_eq_single ⟨i.val / 16, by omega⟩ (fun x _ hx => by rw [if_neg (fun e => hx (Fin.ext e.symm)), zero_mul]) (fun hn => absurd (Finset.mem_univ _) hn), if_pos rfl, one_mul]

/-- The second product is by the same matrix. -/
theorem spread' (v : FVec Ideal S32x64 .f32) (i : Fin 512) (j : Fin 64) :
    k0_pay3 (F := Ideal) v (iota .tc S512x32 32 [0] iota_S512x32_d0_w32) (iota .tc S512x32 32 [1] iota_S512x32_d1_w32) 16#32 k0_pay13 k0_pay14 (Scalar.cmpi .sgt 16#32 0#32) (ix2 i j) = v (ix2 ⟨i.val / 16, by omega⟩ j) := spread v i j

theorem factor_re (a0 a1 : Vec Ideal S32x64 .f32) (a2 : Vec Ideal S32x1 .f32) (a3 a4 : Vec Ideal S512x64 .f32) : k0_pay17 (F := Ideal) a0 a1 a2 a3 a4 = k0_pay11 a0 a1 a2 := by
  unfold k0_pay17
  frame_out

theorem factor_im (a0 a1 : Vec Ideal S32x64 .f32) (a2 : Vec Ideal S32x1 .f32) (a3 a4 : Vec Ideal S512x64 .f32) : k0_pay18 (F := Ideal) a0 a1 a2 a3 a4 = k0_pay12 a0 a1 a2 := by
  unfold k0_pay18
  frame_out

/-- The real parts the kernel leaves, from each row's group's factors. -/
theorem left_re (a0 a1 : Vec Ideal S32x64 .f32) (a2 : Vec Ideal S32x1 .f32) (a3 a4 : Vec Ideal S512x64 .f32) (i : Fin 512) (j : Fin 64) :
    G7 (F := Ideal) a0 a1 a2 a3 a4 (ix2 i j) = (k0_pay11 a0 a1 a2 (ix2 ⟨i.val / 16, by omega⟩ j) * a3 (ix2 i j) - k0_pay12 a0 a1 a2 (ix2 ⟨i.val / 16, by omega⟩ j) * a4 (ix2 i j) : EReal) := by
  unfold G7
  rw [factor_re, factor_im]
  exact congrArg₂ (fun p q : EReal => p * a3 (ix2 i j) - q * a4 (ix2 i j)) (spread _ i j) (spread' _ i j)

/-- The imaginary parts the kernel leaves, from each row's group's factors. -/
theorem left_im (a0 a1 : Vec Ideal S32x64 .f32) (a2 : Vec Ideal S32x1 .f32) (a3 a4 : Vec Ideal S512x64 .f32) (i : Fin 512) (j : Fin 64) :
    G8 (F := Ideal) a0 a1 a2 a3 a4 (ix2 i j) = (k0_pay11 a0 a1 a2 (ix2 ⟨i.val / 16, by omega⟩ j) * a4 (ix2 i j) + k0_pay12 a0 a1 a2 (ix2 ⟨i.val / 16, by omega⟩ j) * a3 (ix2 i j) : EReal) := by
  unfold G8
  rw [factor_re, factor_im]
  exact congrArg₂ (fun p q : EReal => p * a4 (ix2 i j) + q * a3 (ix2 i j)) (spread _ i j) (spread' _ i j)

/-- The decay's factors at a place. -/
abbrev decay (f : EReal → EReal) (a0 a1 : Vec Ideal S32x64 .f32) (a2 : Vec Ideal S32x1 .f32) (i : Fin 32) (j : Fin 64) : EReal :=
  Ideal.exp (Ideal.exp (a2 (ix2 i 0)) * a0 (ix2 i j)) * f (Ideal.exp (a2 (ix2 i 0)) * a1 (ix2 i j))

theorem decay_re (a0 a1 : Vec Ideal S32x64 .f32) (a2 : Vec Ideal S32x1 .f32) (i : Fin 32) (j : Fin 64) :
    k0_pay8 (F := Ideal) a0 a1 a2 (ix2 i j) = decay Ideal.cos a0 a1 a2 i j := by
  pointwise [k0_pay8, k0_pay7, k0_pay6]

theorem decay_im (a0 a1 : Vec Ideal S32x64 .f32) (a2 : Vec Ideal S32x1 .f32) (i : Fin 32) (j : Fin 64) :
    k0_pay9 (F := Ideal) a0 a1 a2 (ix2 i j) = decay Ideal.sin a0 a1 a2 i j := by
  pointwise [k0_pay9, k0_pay7, k0_pay6]

end Zoh

section ZohReference
open Cert.ZohRefIdeal Cert.ZohRefIdeal.Facts₀
set_option maxRecDepth 16384

theorem reference_decay_re (a0 a1 : FVec Ideal S32x64 .f32) (a2 : FVec Ideal S32x1 .f32) :
    Cert.ZohIdeal.Gen.k0_pay8 a0 a1 a2 = (mulf (Host.exp (mulf (broadcastInDim S32x64 ![0, 1] bcast_S32x1_S32x64_0_1 (Host.exp a2)) a0)) (Host.cos (mulf (broadcastInDim S32x64 ![0, 1] bcast_S32x1_S32x64_0_1 (Host.exp a2)) a1)) : FVec Ideal S32x64 .f32) := by
  funext y
  obtain ⟨i, j, rfl⟩ : ∃ i j, y = ix2 i j := ⟨y 0, y 1, (ix2_eta y).symm⟩
  refine (decay_re a0 a1 a2 i j).trans ?_
  symm
  pointwise

theorem reference_decay_im (a0 a1 : FVec Ideal S32x64 .f32) (a2 : FVec Ideal S32x1 .f32) :
    Cert.ZohIdeal.Gen.k0_pay9 a0 a1 a2 = (mulf (Host.exp (mulf (broadcastInDim S32x64 ![0, 1] bcast_S32x1_S32x64_0_1 (Host.exp a2)) a0)) (Host.sin (mulf (broadcastInDim S32x64 ![0, 1] bcast_S32x1_S32x64_0_1 (Host.exp a2)) a1)) : FVec Ideal S32x64 .f32) := by
  funext y
  obtain ⟨i, j, rfl⟩ : ∃ i j, y = ix2 i j := ⟨y 0, y 1, (ix2_eta y).symm⟩
  refine (decay_im a0 a1 a2 i j).trans ?_
  symm
  pointwise

theorem reference_re (a0 a1 : FVec Ideal S32x64 .f32) (a2 : FVec Ideal S32x1 .f32) (a3 a4 : FVec Ideal S512x64 .f32) :
    Cert.ZohIdeal.Value.G7 (F := Ideal) a0 a1 a2 a3 a4 = (shapeCast _ (subf (mulf (broadcastInDim S32x16x64 ![0, 1, 2] bcast_S32x1x64_S32x16x64_0_1_2 (broadcastInDim S32x1x64 ![0, 2] bcast_S32x64_S32x1x64_0_2 (Host.divf (addf (mulf (subf (mulf (Host.exp (mulf (broadcastInDim S32x64 ![0, 1] bcast_S32x1_S32x64_0_1 (Host.exp a2)) a0)) (Host.cos (mulf (broadcastInDim S32x64 ![0, 1] bcast_S32x1_S32x64_0_1 (Host.exp a2)) a1))) (broadcastInDim S32x64 ![] bcast_S_S32x64 (constant S_ .f32 0x3F800000#32))) a0) (mulf (mulf (Host.exp (mulf (broadcastInDim S32x64 ![0, 1] bcast_S32x1_S32x64_0_1 (Host.exp a2)) a0)) (Host.sin (mulf (broadcastInDim S32x64 ![0, 1] bcast_S32x1_S32x64_0_1 (Host.exp a2)) a1))) a1)) (addf (mulf a0 a0) (mulf a1 a1))))) (shapeCast _ a3 shapeCasts_S512x64_S32x16x64)) (mulf (broadcastInDim S32x16x64 ![0, 1, 2] bcast_S32x1x64_S32x16x64_0_1_2 (broadcastInDim S32x1x64 ![0, 2] bcast_S32x64_S32x1x64_0_2 (Host.divf (subf (mulf (mulf (Host.exp (mulf (broadcastInDim S32x64 ![0, 1] bcast_S32x1_S32x64_0_1 (Host.exp a2)) a0)) (Host.sin (mulf (broadcastInDim S32x64 ![0, 1] bcast_S32x1_S32x64_0_1 (Host.exp a2)) a1))) a0) (mulf (subf (mulf (Host.exp (mulf (broadcastInDim S32x64 ![0, 1] bcast_S32x1_S32x64_0_1 (Host.exp a2)) a0)) (Host.cos (mulf (broadcastInDim S32x64 ![0, 1] bcast_S32x1_S32x64_0_1 (Host.exp a2)) a1))) (broadcastInDim S32x64 ![] bcast_S_S32x64 (constant S_ .f32 0x3F800000#32))) a1)) (addf (mulf a0 a0) (mulf a1 a1))))) (shapeCast _ a4 shapeCasts_S512x64_S32x16x64))) shapeCasts_S32x16x64_S512x64 : FVec Ideal S512x64 .f32) := by
  funext y
  obtain ⟨i, j, rfl⟩ : ∃ i j, y = ix2 i j := ⟨y 0, y 1, (ix2_eta y).symm⟩
  refine (left_re a0 a1 a2 a3 a4 i j).trans ?_
  symm
  pointwise
  symm
  pointwise [Cert.ZohIdeal.Gen.k0_pay11, Cert.ZohIdeal.Gen.k0_pay12, Cert.ZohIdeal.Gen.k0_pay10, Cert.ZohIdeal.Gen.k0_pay9, Cert.ZohIdeal.Gen.k0_pay8, Cert.ZohIdeal.Gen.k0_pay7, Cert.ZohIdeal.Gen.k0_pay6]

theorem reference_im (a0 a1 : FVec Ideal S32x64 .f32) (a2 : FVec Ideal S32x1 .f32) (a3 a4 : FVec Ideal S512x64 .f32) :
    Cert.ZohIdeal.Value.G8 (F := Ideal) a0 a1 a2 a3 a4 = (shapeCast _ (addf (mulf (broadcastInDim S32x16x64 ![0, 1, 2] bcast_S32x1x64_S32x16x64_0_1_2 (broadcastInDim S32x1x64 ![0, 2] bcast_S32x64_S32x1x64_0_2 (Host.divf (addf (mulf (subf (mulf (Host.exp (mulf (broadcastInDim S32x64 ![0, 1] bcast_S32x1_S32x64_0_1 (Host.exp a2)) a0)) (Host.cos (mulf (broadcastInDim S32x64 ![0, 1] bcast_S32x1_S32x64_0_1 (Host.exp a2)) a1))) (broadcastInDim S32x64 ![] bcast_S_S32x64 (constant S_ .f32 0x3F800000#32))) a0) (mulf (mulf (Host.exp (mulf (broadcastInDim S32x64 ![0, 1] bcast_S32x1_S32x64_0_1 (Host.exp a2)) a0)) (Host.sin (mulf (broadcastInDim S32x64 ![0, 1] bcast_S32x1_S32x64_0_1 (Host.exp a2)) a1))) a1)) (addf (mulf a0 a0) (mulf a1 a1))))) (shapeCast _ a4 shapeCasts_S512x64_S32x16x64)) (mulf (broadcastInDim S32x16x64 ![0, 1, 2] bcast_S32x1x64_S32x16x64_0_1_2 (broadcastInDim S32x1x64 ![0, 2] bcast_S32x64_S32x1x64_0_2 (Host.divf (subf (mulf (mulf (Host.exp (mulf (broadcastInDim S32x64 ![0, 1] bcast_S32x1_S32x64_0_1 (Host.exp a2)) a0)) (Host.sin (mulf (broadcastInDim S32x64 ![0, 1] bcast_S32x1_S32x64_0_1 (Host.exp a2)) a1))) a0) (mulf (subf (mulf (Host.exp (mulf (broadcastInDim S32x64 ![0, 1] bcast_S32x1_S32x64_0_1 (Host.exp a2)) a0)) (Host.cos (mulf (broadcastInDim S32x64 ![0, 1] bcast_S32x1_S32x64_0_1 (Host.exp a2)) a1))) (broadcastInDim S32x64 ![] bcast_S_S32x64 (constant S_ .f32 0x3F800000#32))) a1)) (addf (mulf a0 a0) (mulf a1 a1))))) (shapeCast _ a3 shapeCasts_S512x64_S32x16x64))) shapeCasts_S32x16x64_S512x64 : FVec Ideal S512x64 .f32) := by
  funext y
  obtain ⟨i, j, rfl⟩ : ∃ i j, y = ix2 i j := ⟨y 0, y 1, (ix2_eta y).symm⟩
  refine (left_im a0 a1 a2 a3 a4 i j).trans ?_
  symm
  pointwise
  symm
  pointwise [Cert.ZohIdeal.Gen.k0_pay11, Cert.ZohIdeal.Gen.k0_pay12, Cert.ZohIdeal.Gen.k0_pay10, Cert.ZohIdeal.Gen.k0_pay9, Cert.ZohIdeal.Gen.k0_pay8, Cert.ZohIdeal.Gen.k0_pay7, Cert.ZohIdeal.Gen.k0_pay6]

end ZohReference

set_option smartUnfolding false in
-- a program and its idealization are unified unfolding by unfolding
theorem frame_zoh : Cert.quiescent_Zoh := fun m g _ => Cert.ZohIdeal.Gen.frame (F := Bits) m g

theorem frame_zohIdeal : Cert.quiescent_ZohIdeal := fun m g _ => Cert.ZohIdeal.Gen.frame (F := Ideal) m g

theorem frame_zohRefIdeal : Cert.quiescent_ZohRefIdeal := fun m g _ =>
  (θ_run Cert.ZohRefIdeal.defs _ _).mono (fun r h => ⟨fun c => (h c).2.2.2.2, sem_eq_zero_of_no_sems (by decide) r.2⟩)
    (Cert.ZohRefIdeal.Value.run (F := Ideal) m g)

/-- Ideally the kernel's discretised parameters are the reference's. -/
theorem algebraic_zoh : Cert.algebraic_ZohIdeal_ZohRefIdeal := by
  intro m g m' g' _ h
  obtain ⟨h0, h1, h2, h3, h4⟩ := h 0
  refine ⟨fun _ => _, fun _ => _, fun _ => _, fun _ => _, ?_, (θ_run Cert.ZohRefIdeal.defs _ _).mono (fun _ hr => Fin.forall_fin_one.2 (hr 0)) (Cert.ZohRefIdeal.Value.run (F := Ideal) m' g')⟩
  refine (θ_run Cert.ZohIdeal.defs _ _).mono (fun _ hr => Fin.forall_fin_one.2 ?_) (Cert.ZohIdeal.Value.run (F := Ideal) m g)
  obtain ⟨r0, r1, r2, r3, ha⟩ := hr 0
  rw [h0, h1, h2, h3, h4]
  exact ⟨r0.trans (reference_decay_re _ _ _), r1.trans (reference_decay_im _ _ _), r2.trans (reference_re _ _ _ _ _), r3.trans (reference_im _ _ _ _ _), ha⟩

end Exchange.Discretised

end
-- ==== Proof.Buckets.lean ====
/-
  The claims about the gradient of the relative position bias: the kernel sums each table's gradient against a matrix of
  zeros and ones, the reference sums what lies at the bucket's places.
-/
module

public import proofs.«01_k».proof.Defs
public import proofs.«01_k».proof.Proof.Gen.RelBias
public import proofs.«01_k».proof.Proof.Gen.RelBiasIdeal.Value
public import proofs.«01_k».proof.Proof.Gen.RelBiasRefIdeal.Run
public import Idealize.ShloMosaic.Lib.Pointwise
public import Idealize.ShloMosaic.Lib.Pipeline.ValueKit

@[expose] public section

set_option Elab.async false

noncomputable section

namespace Exchange.Buckets

open Idealize.ShloMosaic Idealize.ShloMosaic.TcCoe Idealize.SL.Sem

section RelBias
open Cert.RelBiasIdeal Cert.RelBiasIdeal.Gen Cert.RelBiasIdeal.Value
set_option maxRecDepth 16384

/-- A product with a zero or a one takes the factor or leaves it. -/
theorem taken (v : EReal) (p : Prop) [Decidable p] :
    v * (FloatOps.sitofp FTy.f32 (BitVec.setWidth 32 (BitVec.ofBool (decide p))) : Ideal .f32) = if p then v else 0 := by
  by_cases h : p
  · rw [if_pos h, decide_eq_true h]
    show v * (((BitVec.setWidth 32 (1#1)).toInt : ℝ) : EReal) = v
    simp
  · rw [if_neg h, decide_eq_false h]
    show v * (((BitVec.setWidth 32 (0#1)).toInt : ℝ) : EReal) = 0
    simp

/-- The gradient of each head's bias of a bucket: the sum over the places of that bucket in the three tables. -/
def perBucket (d : Vec Ideal S3x8x128x256 .f32) (b : Vec Ideal S3x32768 .f32) : Vec Ideal S8x32 .f32 := fun y =>
  ∑ c : Fin 3, ∑ n : Fin 32768, if b (ix2 c n) = (FloatOps.sitofp FTy.f32 (BitVec.ofNat 32 (y 1).val) : Ideal .f32) then
    d (ix4 c (y 0) ⟨n.val / 256, by omega⟩ ⟨n.val % 256, by omega⟩) else (0 : EReal)

/-- What the kernel leaves of the reshaped gradient. -/
theorem left (d : Vec Ideal S3x8x128x256 .f32) (b : Vec Ideal S3x32768 .f32) (h : S3x8x128x256.ShapeCasts S3x8x32768) :
    out0_2 (F := Ideal) (shapeCast S3x8x32768 d h) b = perBucket d b := by
  unfold out0_2
  frame_out
  funext y
  obtain ⟨i, j, rfl⟩ : ∃ i j, y = ix2 i j := ⟨y 0, y 1, (ix2_eta y).symm⟩
  pointwise [k0_pay1]
  simp only [taken]
  refine Eq.trans ?_ (Fin.sum_univ_three (fun c : Fin 3 => ∑ n : Fin 32768, if b (ix2 c n) = (FloatOps.sitofp FTy.f32 (BitVec.ofNat 32 j.val) : Ideal .f32) then
    d (ix4 c i ⟨n.val / 256, by omega⟩ ⟨n.val % 256, by omega⟩) else (0 : EReal))).symm
  rfl

variable (m : (ℓ : Loc nD τ sig) → Buf (Elt Ideal) ℓ) (c : Dev nD)

/-- The kernel reads the gradient with its last two axes as one. -/
theorem reshaped : (V m c main_v0 : Vec Ideal S3x8x32768 .f32) = shapeCast _ (m ((c : Thread nD τ).loc main_arg0)) shapeCasts_S3x8x128x256_S3x8x32768 := by
  simp only [V, hostOps0]
  after_results <;> rfl

theorem block0 (t : Fin cfg0.N) : (iblk m c 0 t : Vec Ideal S3x8x32768 .f32) = shapeCast _ (m ((c : Thread nD τ).loc main_arg0)) shapeCasts_S3x8x128x256_S3x8x32768 := by
  rw [← reshaped]
  unfold iblk
  funext y
  rw [View.read_apply]
  refine congrArg (V m c main_v0) (funext fun a => Fin.ext ?_)
  match a with
  | ⟨0, _⟩ => show 0 * 3 + 1 * (y 0).val = (y 0).val; omega
  | ⟨1, _⟩ => show 0 * 8 + 1 * (y 1).val = (y 1).val; omega
  | ⟨2, _⟩ => show 0 * 32768 + 1 * (y 2).val = (y 2).val; omega

theorem block1 (t : Fin cfg0.N) : (iblk m c 1 t : Vec Ideal S3x32768 .f32) = m ((c : Thread nD τ).loc main_arg1) := by
  rw [← V_main_arg1 m c]
  unfold iblk
  funext y
  rw [View.read_apply]
  refine congrArg (V m c main_arg1) (funext fun a => Fin.ext ?_)
  match a with
  | ⟨0, _⟩ => show 0 * 3 + 1 * (y 0).val = (y 0).val; omega
  | ⟨1, _⟩ => show 0 * 32768 + 1 * (y 1).val = (y 1).val; omega

/-- What the kernel leaves. -/
theorem out : (dats (F := Ideal) m 0 c).arrAt 2 cfg0.N = perBucket (m ((c : Thread nD τ).loc main_arg0)) (m ((c : Thread nD τ).loc main_arg1)) := by
  refine (dats m 0 c).arrAt_eq_of_covers 2 _ (by decide +kernel) fun t _ y => ?_
  blk_simp
  rw [after0_2, block0, block1]
  refine (congrFun (left _ _ _) y).trans (congrArg (perBucket _ _) (funext fun a => Fin.ext ?_))
  match a with
  | ⟨0, _⟩ => show (y 0).val = 0 * 8 + 1 * (y 0).val; omega
  | ⟨1, _⟩ => show (y 1).val = 0 * 32 + 1 * (y 1).val; omega

end RelBias

set_option smartUnfolding false in
-- a program and its idealization are unified unfolding by unfolding
theorem frame_relBias : Cert.quiescent_RelBias := fun m g _ => Cert.RelBiasIdeal.Gen.frame (F := Bits) m g

theorem frame_relBiasIdeal : Cert.quiescent_RelBiasIdeal := fun m g _ => Cert.RelBiasIdeal.Gen.frame (F := Ideal) m g

theorem frame_relBiasRefIdeal : Cert.quiescent_RelBiasRefIdeal := fun m g _ =>
  (θ_run Cert.RelBiasRefIdeal.defs _ _).mono (fun r h => ⟨fun c => (h c).2, sem_eq_zero_of_no_sems (by decide) r.2⟩)
    (Cert.RelBiasRefIdeal.Value.run (F := Ideal) m g)

/-- Ideally the kernel's gradient of the bias is the reference's. -/
theorem algebraic_relBias : Cert.algebraic_RelBiasIdeal_RelBiasRefIdeal := by
  intro m g m' g' _ h
  obtain ⟨h0, h1⟩ := h 0
  refine ⟨fun c => perBucket (m ((c : Thread Cert.RelBiasIdeal.nD Cert.RelBiasIdeal.τ).loc Cert.RelBiasIdeal.main_arg0)) (m ((c : Thread Cert.RelBiasIdeal.nD Cert.RelBiasIdeal.τ).loc Cert.RelBiasIdeal.main_arg1)),
    (θ_run Cert.RelBiasIdeal.defs _ _).mono (fun _ hr c => ⟨(hr c).1.trans (out m c), (hr c).2⟩) (Cert.RelBiasIdeal.Value.run_blocks (F := Ideal) m g),
    (θ_run Cert.RelBiasRefIdeal.defs _ _).mono (fun _ hr => Fin.forall_fin_one.2 ?_) (Cert.RelBiasRefIdeal.Value.run (F := Ideal) m' g')⟩
  obtain ⟨r0, ha⟩ := hr 0
  refine ⟨r0.trans ?_, ha⟩
  clear r0 ha hr
  rw [h0, h1]
  funext y
  obtain ⟨i, j, rfl⟩ : ∃ i j, y = ix2 i j := ⟨y 0, y 1, (ix2_eta y).symm⟩
  pointwise
  refine Finset.sum_congr rfl fun c _ => Finset.sum_congr rfl fun n _ => ?_
  exact if_congr Iff.rfl rfl (Ideal.ofBits_zero_f32)

end Exchange.Buckets

end
-- ==== Proof.Outputs.lean ====
/-
  The claims about the end of layer 0: the three spans of attention merged by their weights, the gated unit after the scan, the
  gates, the product with the output projection, the norm and the residual sum. A block of rows at a time, against the whole rows.
-/
module

public import proofs.«01_k».proof.Defs
public import proofs.«01_k».proof.Proof.Gen.OutAb
public import proofs.«01_k».proof.Proof.Gen.OutAbIdeal.Value
public import proofs.«01_k».proof.Proof.Gen.OutAbRefIdeal.Run
public import Idealize.ShloMosaic.Lib.Pointwise
public import Idealize.ShloMosaic.Lib.Pipeline.ValueKit

@[expose] public section

set_option Elab.async false

noncomputable section

namespace Exchange.Outputs

open Idealize.ShloMosaic Idealize.ShloMosaic.TcCoe Idealize.SL.Sem

/-- The largest of three. -/
theorem largest_fin (f : Fin 3 → EReal) : Finset.fold max (Ideal.ofBits .f32 0xFF800000#32) f Finset.univ = max (max (f 0) (f 1)) (f 2) := by
  rw [show Ideal.ofBits .f32 0xFF800000#32 = ⊥ by simp [Ideal.ofBits, Ideal.ieee]]
  refine (show Finset.fold max ⊥ f Finset.univ = Finset.univ.sup f from rfl).trans ?_
  simp [Fin.univ_succ, max_assoc]

/-- The largest of three arrays, place by place. -/
theorem largest {r n : ℕ} (x : FVec Ideal ⟨3, ![3, r, n]⟩ .f32) (h : (⟨3, ![3, r, n]⟩ : Shape).ReducesTo [0] ⟨2, ![r, n]⟩) (hu : 0 < (⟨0, ![]⟩ : Shape).numel) :
    Host.reduce FloatOps.maximumf x (constant ⟨0, ![]⟩ .f32 0xFF800000#32) h hu
      = fun y => max (max (x (ix3 0 (y 0) (y 1))) (x (ix3 1 (y 0) (y 1)))) (x (ix3 2 (y 0) (y 1))) := by
  funext y
  pointwise []
  exact largest_fin fun c => x (ix3 c (y 0) (y 1))

theorem logistic_eq (x : EReal) : Ideal.div 1 (1 + Ideal.exp (-x)) = Ideal.logistic x := rfl

theorem cube (x : EReal) : x * x * x = x * (x * x) := mul_assoc x x x

section OutAb
open Cert.OutAbIdeal Cert.OutAbIdeal.Gen Cert.OutAbIdeal.Value
set_option maxRecDepth 16384

/-- The places of the windows: at point t the rows are those from 256 t; the weights and their rows are read whole. -/
theorem places : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0)
    ∧ (win0_12.index t (0 : Fin 2) = 0 ∧ win0_12.index t (1 : Fin 2) = 0) ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

variable (m : (ℓ : Loc nD τ sig) → Buf (Elt Ideal) ℓ) (c : Dev nD)
variable (m' : (ℓ : Loc Cert.OutAbRefIdeal.nD Cert.OutAbRefIdeal.τ Cert.OutAbRefIdeal.sig) → Buf (Elt Ideal) ℓ)

/-- The reference's arguments are the kernel's. -/
def Same : Prop := ∀ c : Dev nD, m' ((c.tc : Thread Cert.OutAbRefIdeal.nD Cert.OutAbRefIdeal.τ).loc Cert.OutAbRefIdeal.main_arg0) = m ((c.tc : Thread nD τ).loc main_arg0)
      ∧ m' ((c.tc : Thread Cert.OutAbRefIdeal.nD Cert.OutAbRefIdeal.τ).loc Cert.OutAbRefIdeal.main_arg1) = m ((c.tc : Thread nD τ).loc main_arg1)
      ∧ m' ((c.tc : Thread Cert.OutAbRefIdeal.nD Cert.OutAbRefIdeal.τ).loc Cert.OutAbRefIdeal.main_arg2) = m ((c.tc : Thread nD τ).loc main_arg2)
      ∧ m' ((c.tc : Thread Cert.OutAbRefIdeal.nD Cert.OutAbRefIdeal.τ).loc Cert.OutAbRefIdeal.main_arg3) = m ((c.tc : Thread nD τ).loc main_arg3)
      ∧ m' ((c.tc : Thread Cert.OutAbRefIdeal.nD Cert.OutAbRefIdeal.τ).loc Cert.OutAbRefIdeal.main_arg4) = m ((c.tc : Thread nD τ).loc main_arg4)
      ∧ m' ((c.tc : Thread Cert.OutAbRefIdeal.nD Cert.OutAbRefIdeal.τ).loc Cert.OutAbRefIdeal.main_arg5) = m ((c.tc : Thread nD τ).loc main_arg5)
      ∧ m' ((c.tc : Thread Cert.OutAbRefIdeal.nD Cert.OutAbRefIdeal.τ).loc Cert.OutAbRefIdeal.main_arg6) = m ((c.tc : Thread nD τ).loc main_arg6)
      ∧ m' ((c.tc : Thread Cert.OutAbRefIdeal.nD Cert.OutAbRefIdeal.τ).loc Cert.OutAbRefIdeal.main_arg7) = m ((c.tc : Thread nD τ).loc main_arg7)
      ∧ m' ((c.tc : Thread Cert.OutAbRefIdeal.nD Cert.OutAbRefIdeal.τ).loc Cert.OutAbRefIdeal.main_arg8) = m ((c.tc : Thread nD τ).loc main_arg8)
      ∧ m' ((c.tc : Thread Cert.OutAbRefIdeal.nD Cert.OutAbRefIdeal.τ).loc Cert.OutAbRefIdeal.main_arg9) = m ((c.tc : Thread nD τ).loc main_arg9)
      ∧ m' ((c.tc : Thread Cert.OutAbRefIdeal.nD Cert.OutAbRefIdeal.τ).loc Cert.OutAbRefIdeal.main_arg10) = m ((c.tc : Thread nD τ).loc main_arg10)
      ∧ m' ((c.tc : Thread Cert.OutAbRefIdeal.nD Cert.OutAbRefIdeal.τ).loc Cert.OutAbRefIdeal.main_arg11) = m ((c.tc : Thread nD τ).loc main_arg11)
      ∧ m' ((c.tc : Thread Cert.OutAbRefIdeal.nD Cert.OutAbRefIdeal.τ).loc Cert.OutAbRefIdeal.main_arg12) = m ((c.tc : Thread nD τ).loc main_arg12)

/-- The product of a grid point's block, at a place, is the reference's product at the rows from 256 t. -/
theorem product (h : Same m m') (t : Fin cfg0.N) (i : Fin 256) (j : Fin 1024) (hr : t.val * 256 + i.val < 4096) :
    k0_pay4 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j)
      = (Cert.OutAbRefIdeal.Value.res_main_v45 m' c : Vec Ideal S4096x1024 .f32) (ix2 ⟨t.val * 256 + i.val, hr⟩ j) := by
  obtain ⟨h0, h1, h2, h3, h4, h5, h6, h7, h8, h9, h10, -⟩ := h c
  unfold Cert.OutAbRefIdeal.Value.res_main_v45
  rw [h0, h1, h2, h3, h4, h5, h7, h8, h9, h10, largest]
  pointwise [k0_pay4, k0_pay3, k0_pay2]
  simp only [Fin.sum_univ_three, logistic_eq, cube]
  blk_point [iblk, V, places t]

theorem out14 (h : Same m m') : (dats (F := Ideal) m 0 c).arrAt 14 cfg0.N = (Cert.OutAbRefIdeal.Value.res_main_v45 m' c : Vec Ideal S4096x1024 .f32) := by
  have e := product m c m' h
  generalize (Cert.OutAbRefIdeal.Value.res_main_v45 m' c : Vec Ideal S4096x1024 .f32) = Y at e ⊢
  refine (dats m 0 c).arrAt_eq_of_covers 14 _ (by decide +kernel) fun t _ y => ?_
  blk_simp
  rw [after0_14]
  frame_out
  obtain ⟨i, j, rfl⟩ : ∃ i j, y = ix2 i j := ⟨y 0, y 1, (ix2_eta y).symm⟩
  have ht : t.val < 16 := lt_of_lt_of_eq t.isLt N_0
  refine (e t i j (by omega)).trans ?_
  blk_ext [places t]

theorem out13 (h : Same m m') : (dats (F := Ideal) m 0 c).arrAt 13 cfg0.N = (Cert.OutAbRefIdeal.Value.res_main_v60 m' c : Vec Ideal S4096x1024 .f32) := by
  have e := product m c m' h
  obtain ⟨-, -, -, -, -, -, h6, -, -, -, -, h11, h12⟩ := h c
  unfold Cert.OutAbRefIdeal.Value.res_main_v60
  rw [← Cert.OutAbRefIdeal.Value.res_main_v45.eq_1 m' c, h6, h11, h12]
  generalize (Cert.OutAbRefIdeal.Value.res_main_v45 m' c : Vec Ideal S4096x1024 .f32) = Y at e ⊢
  refine (dats m 0 c).arrAt_eq_of_covers 13 _ (by decide +kernel) fun t _ y => ?_
  blk_simp
  rw [after0_13]
  frame_out
  obtain ⟨i, j, rfl⟩ : ∃ i j, y = ix2 i j := ⟨y 0, y 1, (ix2_eta y).symm⟩
  have ht : t.val < 16 := lt_of_lt_of_eq t.isLt N_0
  pointwise [k0_pay1]
  simp only [fun k => e t i k (by omega)]
  blk_point [iblk, V, places t]

end OutAb

set_option smartUnfolding false in
-- a program and its idealization are unified unfolding by unfolding
theorem frame_outAb : Cert.quiescent_OutAb := fun m g _ => Cert.OutAbIdeal.Gen.frame (F := Bits) m g

theorem frame_outAbIdeal : Cert.quiescent_OutAbIdeal := fun m g _ => Cert.OutAbIdeal.Gen.frame (F := Ideal) m g

theorem frame_outAbRefIdeal : Cert.quiescent_OutAbRefIdeal := fun m g _ =>
  (θ_run Cert.OutAbRefIdeal.defs _ _).mono (fun r h => ⟨fun c => (h c).2.2, sem_eq_zero_of_no_sems (by decide) r.2⟩)
    (Cert.OutAbRefIdeal.Value.run (F := Ideal) m g)

/-- Ideally the kernel's residual stream and projected sum are the reference's. -/
theorem algebraic_outAb : Cert.algebraic_OutAbIdeal_OutAbRefIdeal := by
  intro m g m' g' _ h
  exact ⟨fun c => Cert.OutAbRefIdeal.Value.res_out0 m' c, fun c => Cert.OutAbRefIdeal.Value.res_out1 m' c,
    (θ_run Cert.OutAbIdeal.defs _ _).mono (fun _ hr c => ⟨(hr c).1.trans (out13 m c m' h), (hr c).2.1.trans (out14 m c m' h), (hr c).2.2⟩)
      (Cert.OutAbIdeal.Value.run_blocks (F := Ideal) m g),
    Cert.OutAbRefIdeal.Value.run (F := Ideal) m' g'⟩

end Exchange.Outputs
-- ==== Proof.FrontGrads.lean ====
/-
  The claims about the backward front of layer 1: the gradient of the projected parts carried back through the input
  projection and through the modulated norm. A block of rows at a time, the gradients of the row vectors added up over the blocks.
-/
module

public import proofs.«01_k».proof.Defs
public import proofs.«01_k».proof.Proof.Gen.GradGdn
public import proofs.«01_k».proof.Proof.Gen.GradGdnIdeal.Value
public import proofs.«01_k».proof.Proof.Gen.GradGdnRefIdeal.Run
public import Idealize.ShloMosaic.Lib.Pointwise
public import Idealize.ShloMosaic.Lib.Pipeline.ValueKit

@[expose] public section

set_option Elab.async false

noncomputable section

namespace Exchange.FrontGrads

open Idealize.ShloMosaic Idealize.ShloMosaic.TcCoe Idealize.SL.Sem

/-- A sum over the columns of the three parts, part by part. -/
theorem split_sum (f : Fin 4224 → EReal) : ∑ x, f x = ∑ x : Fin 3072, f ⟨x.val, by omega⟩ + ∑ x : Fin 1024, f ⟨3072 + x.val, by omega⟩ + ∑ x : Fin 128, f ⟨4096 + x.val, by omega⟩ :=
  (Fin.sum_univ_add (a := 3072 + 1024) (b := 128) f).trans (congrArg (· + _) (Fin.sum_univ_add (a := 3072) (b := 1024) fun x => f (Fin.castAdd 128 x)))

section Ref
open Cert.GradGdnRefIdeal Cert.GradGdnRefIdeal.Facts₀

/-- The gradient of the projection's result: the parts side by side. -/
abbrev parts (x6 : Vec Ideal S4096x3072 .f32) (x7 : Vec Ideal S4096x1024 .f32) (x8 : Vec Ideal S4096x128 .f32) : Vec Ideal S4096x4224 .f32 :=
  concatenate S4096x4224 1 [⟨S4096x3072, (x6 : (⟨S4096x3072, .f32⟩ : BufTy).Contents (Elt Ideal))⟩, ⟨S4096x1024, (x7 : (⟨S4096x1024, .f32⟩ : BufTy).Contents (Elt Ideal))⟩, ⟨S4096x128, (x8 : (⟨S4096x128, .f32⟩ : BufTy).Contents (Elt Ideal))⟩] concatenates_S4096x3072_S4096x1024_S4096x128_S4096x4224_d1

/-- … as the rows of weights' gradient reads it. -/
abbrev partsB (x6 : Vec Ideal S4096x3072 .f32) (x7 : Vec Ideal S4096x1024 .f32) (x8 : Vec Ideal S4096x128 .f32) : Vec Ideal S4096x4224 .bf16 :=
  (truncf .bf16 (parts x6 x7 x8 : FVec Ideal S4096x4224 .f32) bitsLt_bf16_f32 : FVec Ideal S4096x4224 .bf16)
end Ref

section Ref
open Cert.GradGdnRefIdeal Cert.GradGdnRefIdeal.Facts₀
variable (c : Dev nD) (m' : (ℓ : Loc nD τ sig) → Buf (Elt Ideal) ℓ)
set_option maxRecDepth 16384

/-- The reference's gradient of the norm's row of weights. -/
def ref11 : Vec Ideal S1x1024 .f32 := (shapeCast S1x1024 (Host.reduceAdd (mulf (mulf (m' ((c.tc : Thread nD τ).loc main_arg0)) (broadcastInDim S4096x1024 ![0, 1] bcast_S4096x1_S4096x1024_0_1 (Host.rsqrt (addf (Host.divf (broadcastInDim S4096x1 ![0] bcast_S4096_S4096x1_0 (Host.reduceAdd (mulf (m' ((c.tc : Thread nD τ).loc main_arg0)) (m' ((c.tc : Thread nD τ).loc main_arg0))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (Host.dotGeneral dot_S4096x4224_S4224x1024_S4096x1024_1_0_0_1_n_n (φ₁ := .f32) (φ₂ := .f32) none ((concatenate S4096x4224 1 [⟨S4096x3072, ((m' ((c.tc : Thread nD τ).loc main_arg6)) : (⟨S4096x3072, .f32⟩ : BufTy).Contents (Elt Ideal))⟩, ⟨S4096x1024, ((m' ((c.tc : Thread nD τ).loc main_arg7)) : (⟨S4096x1024, .f32⟩ : BufTy).Contents (Elt Ideal))⟩, ⟨S4096x128, ((m' ((c.tc : Thread nD τ).loc main_arg8)) : (⟨S4096x128, .f32⟩ : BufTy).Contents (Elt Ideal))⟩] concatenates_S4096x3072_S4096x1024_S4096x128_S4096x4224_d1 : (⟨S4096x4224, .f32⟩ : BufTy).Contents (Elt Ideal))) (transpose S4224x1024 [1, 0] (extf .f32 (m' ((c.tc : Thread nD τ).loc main_arg4)) bitsLt_bf16_f32) transposes_S1024x4224_S4224x1024_1_0)) (broadcastInDim S4096x1024 ![0, 1] bcast_S1x1024_S4096x1024_0_1 (addf (broadcastInDim S1x1024 ![] bcast_S_S1x1024 (constant S_ .f32 0x3F800000#32)) (m' ((c.tc : Thread nD τ).loc main_arg2)))))) (constant S_ .f32 0x00000000#32) reducesTo_S4096x1024_S1024_d0 h_S_) shapeCasts_S1024_S1x1024 : FVec Ideal S1x1024 .f32)

/-- The reference's gradient of the scales. -/
def ref12 : Vec Ideal S1x1024 .f32 := (shapeCast S1x1024 (Host.reduceAdd (mulf (mulf (mulf (m' ((c.tc : Thread nD τ).loc main_arg0)) (broadcastInDim S4096x1024 ![0, 1] bcast_S4096x1_S4096x1024_0_1 (Host.rsqrt (addf (Host.divf (broadcastInDim S4096x1 ![0] bcast_S4096_S4096x1_0 (Host.reduceAdd (mulf (m' ((c.tc : Thread nD τ).loc main_arg0)) (m' ((c.tc : Thread nD τ).loc main_arg0))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m' ((c.tc : Thread nD τ).loc main_arg1)))) (Host.dotGeneral dot_S4096x4224_S4224x1024_S4096x1024_1_0_0_1_n_n (φ₁ := .f32) (φ₂ := .f32) none ((concatenate S4096x4224 1 [⟨S4096x3072, ((m' ((c.tc : Thread nD τ).loc main_arg6)) : (⟨S4096x3072, .f32⟩ : BufTy).Contents (Elt Ideal))⟩, ⟨S4096x1024, ((m' ((c.tc : Thread nD τ).loc main_arg7)) : (⟨S4096x1024, .f32⟩ : BufTy).Contents (Elt Ideal))⟩, ⟨S4096x128, ((m' ((c.tc : Thread nD τ).loc main_arg8)) : (⟨S4096x128, .f32⟩ : BufTy).Contents (Elt Ideal))⟩] concatenates_S4096x3072_S4096x1024_S4096x128_S4096x4224_d1 : (⟨S4096x4224, .f32⟩ : BufTy).Contents (Elt Ideal))) (transpose S4224x1024 [1, 0] (extf .f32 (m' ((c.tc : Thread nD τ).loc main_arg4)) bitsLt_bf16_f32) transposes_S1024x4224_S4224x1024_1_0))) (constant S_ .f32 0x00000000#32) reducesTo_S4096x1024_S1024_d0 h_S_) shapeCasts_S1024_S1x1024 : FVec Ideal S1x1024 .f32)

/-- The reference's gradient of the shifts. -/
def ref13 : Vec Ideal S1x1024 .f32 := (shapeCast S1x1024 (Host.reduceAdd (Host.dotGeneral dot_S4096x4224_S4224x1024_S4096x1024_1_0_0_1_n_n (φ₁ := .f32) (φ₂ := .f32) none ((concatenate S4096x4224 1 [⟨S4096x3072, ((m' ((c.tc : Thread nD τ).loc main_arg6)) : (⟨S4096x3072, .f32⟩ : BufTy).Contents (Elt Ideal))⟩, ⟨S4096x1024, ((m' ((c.tc : Thread nD τ).loc main_arg7)) : (⟨S4096x1024, .f32⟩ : BufTy).Contents (Elt Ideal))⟩, ⟨S4096x128, ((m' ((c.tc : Thread nD τ).loc main_arg8)) : (⟨S4096x128, .f32⟩ : BufTy).Contents (Elt Ideal))⟩] concatenates_S4096x3072_S4096x1024_S4096x128_S4096x4224_d1 : (⟨S4096x4224, .f32⟩ : BufTy).Contents (Elt Ideal))) (transpose S4224x1024 [1, 0] (extf .f32 (m' ((c.tc : Thread nD τ).loc main_arg4)) bitsLt_bf16_f32) transposes_S1024x4224_S4224x1024_1_0)) (constant S_ .f32 0x00000000#32) reducesTo_S4096x1024_S1024_d0 h_S_) shapeCasts_S1024_S1x1024 : FVec Ideal S1x1024 .f32)

end Ref

section GradGdn
open Cert.GradGdnIdeal Cert.GradGdnIdeal.Gen Cert.GradGdnIdeal.Value
set_option maxRecDepth 16384

/-- Where a step's blocks lie: row block t of the row arrays, the whole of the others. -/
theorem places : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_4.index t (0 : Fin 2) = 0 ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) ∧ (win0_9.index t (0 : Fin 2) = t.val ∧ win0_9.index t (1 : Fin 2) = 0)
    ∧ (win0_10.index t (0 : Fin 2) = t.val ∧ win0_10.index t (1 : Fin 2) = 0) ∧ (win0_11.index t (0 : Fin 2) = 0 ∧ win0_11.index t (1 : Fin 2) = 0)
    ∧ (win0_12.index t (0 : Fin 2) = 0 ∧ win0_12.index t (1 : Fin 2) = 0) ∧ (win0_13.index t (0 : Fin 2) = 0 ∧ win0_13.index t (1 : Fin 2) = 0) :=
  (by decide +kernel : ∀ t : Fin grid0.N, _)

variable (m : (ℓ : Loc nD τ sig) → Buf (Elt Ideal) ℓ) (c : Dev nD)

/-- A block's gradient of the modulated rows is the whole rows' at the rows from 256 t. -/
theorem back_block (t : Fin cfg0.N) (i : Fin 256) (j : Fin 1024) (hr : t.val * 256 + i.val < 4096) :
    k0_pay17 (F := Ideal) (k0_pay14 (iblk m c 6 t) (View.ld (iblk m c 4 t) (Rect.unit ![0, 0] ![1024, 3072] inb_S1024x4224_S1024x3072_0_0)))
        (k0_pay15 (iblk m c 7 t)) (View.ld (iblk m c 4 t) (Rect.unit ![0, 3072] ![1024, 1024] inb_S1024x4224_S1024x1024_0_3072)) (iblk m c 8 t)
        (View.ld (iblk m c 4 t) (Rect.unit ![0, 4096] ![1024, 128] inb_S1024x4224_S1024x128_0_4096)) (ix2 i j)
      = (∑ x : Fin 4224, (if h : x.val < 3072 then (m ((c : Thread nD τ).loc main_arg6) : Vec Ideal S4096x3072 .f32) (ix2 ⟨t.val * 256 + i.val, hr⟩ ⟨x.val, h⟩)
          else if h : x.val - 3072 < 1024 then (m ((c : Thread nD τ).loc main_arg7) : Vec Ideal S4096x1024 .f32) (ix2 ⟨t.val * 256 + i.val, hr⟩ ⟨x.val - 3072, h⟩)
          else (m ((c : Thread nD τ).loc main_arg8) : Vec Ideal S4096x128 .f32) (ix2 ⟨t.val * 256 + i.val, hr⟩ ⟨x.val - 3072 - 1024, by omega⟩) : EReal)
            * ((m ((c : Thread nD τ).loc main_arg4) : Vec Ideal S1024x4224 .bf16) (ix2 j x) : EReal)) := by
  pointwise [k0_pay17, k0_pay16, k0_pay15, k0_pay14, k0_pay13]
  rw [split_sum]
  refine congrArg₂ (· + ·) (congrArg₂ (· + ·) ?_ ?_) ?_ <;> refine Finset.sum_congr rfl fun x _ => ?_
  · rw [dif_pos x.isLt]
    blk_point [iblk, V, places t]
  · rw [dif_neg (by dsimp only; omega), dif_pos (by dsimp only; omega)]
    blk_point [iblk, V, places t]
  · rw [dif_neg (by dsimp only; omega), dif_neg (by dsimp only; omega)]
    blk_point [iblk, V, places t]

/-- A block of the parts side by side, stored part by part. -/
theorem out9_block (t : Fin cfg0.N) (i : Fin 256) (j : Fin 4224) (hr : t.val * 256 + i.val < 4096) :
    View.canon (Val := Elt Ideal) (s := S256x4224) (e := .bf16) [⟨Rect.unit ![0, 4096] ![256, 128] inb_S256x4224_S256x128_0_4096, k0_pay16 (F := Ideal) (iblk m c 8 t)⟩,
        ⟨Rect.unit ![0, 3072] ![256, 1024] inb_S256x4224_S256x1024_0_3072, k0_pay15 (F := Ideal) (iblk m c 7 t)⟩,
        ⟨Rect.unit ![0, 0] ![256, 3072] inb_S256x4224_S256x3072_0_0, k0_pay13 (F := Ideal) (iblk m c 6 t)⟩] (ix2 i j)
      = partsB (m ((c : Thread nD τ).loc main_arg6)) (m ((c : Thread nD τ).loc main_arg7)) (m ((c : Thread nD τ).loc main_arg8)) (ix2 ⟨t.val * 256 + i.val, hr⟩ j) := by
  unfold partsB parts
  canon_tiles x h using View.cover_of_tiledBy _ ![256, 128] (by sl_kernel_rfl) _
  all_goals
    obtain ⟨p, q, rfl⟩ : ∃ p q, x = ix2 p q := ⟨x 0, x 1, (ix2_eta x).symm⟩
    change (i : ℕ) = (p : ℕ) at h0
    have hq := q.isLt
    obtain rfl : i = p := Fin.ext h0
  · replace h1 : (j : ℕ) = 4096 + (q : ℕ) := h1
    pointwise [k0_pay16]
    rw [dif_neg (by omega), dif_neg (by omega)]
    blk_point [iblk, V, places t]
  · replace h1 : (j : ℕ) = 3072 + (q : ℕ) := h1
    pointwise [k0_pay15]
    rw [dif_neg (by omega), dif_pos (by omega)]
    blk_point [iblk, V, places t]
  · replace h1 : (j : ℕ) = (q : ℕ) := h1
    pointwise [k0_pay13]
    rw [dif_pos (by omega)]
    blk_point [iblk, V, places t]

/-- The first result is the parts side by side. -/
theorem out9 : (dats (F := Ideal) m 0 c).arrAt 9 cfg0.N = partsB (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  obtain ⟨i, j, rfl⟩ : ∃ i j, y = ix2 i j := ⟨y 0, y 1, (ix2_eta y).symm⟩
  have ht : t.val < 16 := lt_of_lt_of_eq t.isLt N_0
  have e := out9_block m c t i j (by omega)
  generalize partsB (m ((c : Thread nD τ).loc main_arg6)) (m ((c : Thread nD τ).loc main_arg7)) (m ((c : Thread nD τ).loc main_arg8)) = Y at e ⊢
  by_cases h0 : t.val % 16 = 0
  · rw [outsAt0_A m c t h0]
    dsimp only
    frame_out
    exact e.trans (by blk_ext [places t])
  · rw [outsAt0_B m c t h0]
    dsimp only
    frame_out
    exact e.trans (by blk_ext [places t])

variable (m' : (ℓ : Loc Cert.GradGdnRefIdeal.nD Cert.GradGdnRefIdeal.τ Cert.GradGdnRefIdeal.sig) → Buf (Elt Ideal) ℓ)

/-- The reference's arguments are the kernel's. -/
def Same : Prop := ∀ c : Dev nD, m' ((c.tc : Thread Cert.GradGdnRefIdeal.nD Cert.GradGdnRefIdeal.τ).loc Cert.GradGdnRefIdeal.main_arg0) = m ((c.tc : Thread nD τ).loc main_arg0)
      ∧ m' ((c.tc : Thread Cert.GradGdnRefIdeal.nD Cert.GradGdnRefIdeal.τ).loc Cert.GradGdnRefIdeal.main_arg1) = m ((c.tc : Thread nD τ).loc main_arg1)
      ∧ m' ((c.tc : Thread Cert.GradGdnRefIdeal.nD Cert.GradGdnRefIdeal.τ).loc Cert.GradGdnRefIdeal.main_arg2) = m ((c.tc : Thread nD τ).loc main_arg2)
      ∧ m' ((c.tc : Thread Cert.GradGdnRefIdeal.nD Cert.GradGdnRefIdeal.τ).loc Cert.GradGdnRefIdeal.main_arg3) = m ((c.tc : Thread nD τ).loc main_arg3)
      ∧ m' ((c.tc : Thread Cert.GradGdnRefIdeal.nD Cert.GradGdnRefIdeal.τ).loc Cert.GradGdnRefIdeal.main_arg4) = m ((c.tc : Thread nD τ).loc main_arg4)
      ∧ m' ((c.tc : Thread Cert.GradGdnRefIdeal.nD Cert.GradGdnRefIdeal.τ).loc Cert.GradGdnRefIdeal.main_arg5) = m ((c.tc : Thread nD τ).loc main_arg5)
      ∧ m' ((c.tc : Thread Cert.GradGdnRefIdeal.nD Cert.GradGdnRefIdeal.τ).loc Cert.GradGdnRefIdeal.main_arg6) = m ((c.tc : Thread nD τ).loc main_arg6)
      ∧ m' ((c.tc : Thread Cert.GradGdnRefIdeal.nD Cert.GradGdnRefIdeal.τ).loc Cert.GradGdnRefIdeal.main_arg7) = m ((c.tc : Thread nD τ).loc main_arg7)
      ∧ m' ((c.tc : Thread Cert.GradGdnRefIdeal.nD Cert.GradGdnRefIdeal.τ).loc Cert.GradGdnRefIdeal.main_arg8) = m ((c.tc : Thread nD τ).loc main_arg8)

theorem out10_block (h : Same m m') (t : Fin cfg0.N) (i : Fin 256) (j : Fin 1024) (hr : t.val * 256 + i.val < 4096) :
    k0_pay22 (F := Ideal) (iblk m c 0 t) (iblk m c 1 t) (k0_pay8 (iblk m c 0 t)) (k0_pay9 (iblk m c 0 t)) (k0_pay12 (iblk m c 2 t))
      (k0_pay14 (iblk m c 6 t) (View.ld (iblk m c 4 t) (Rect.unit ![0, 0] ![1024, 3072] inb_S1024x4224_S1024x3072_0_0)))
      (k0_pay15 (iblk m c 7 t)) (View.ld (iblk m c 4 t) (Rect.unit ![0, 3072] ![1024, 1024] inb_S1024x4224_S1024x1024_0_3072)) (iblk m c 8 t)
      (View.ld (iblk m c 4 t) (Rect.unit ![0, 4096] ![1024, 128] inb_S1024x4224_S1024x128_0_4096)) (iblk m c 5 t) (ix2 i j)
      = (Cert.GradGdnRefIdeal.Value.res_main_v52 m' c : Vec Ideal S4096x1024 .f32) (ix2 ⟨t.val * 256 + i.val, hr⟩ j) := by
  have b := back_block m c t
  obtain ⟨h0, h1, h2, h3, h4, h5, h6, h7, h8⟩ := h c
  unfold Cert.GradGdnRefIdeal.Value.res_main_v52
  rw [h0, h1, h2, h4, h5, h6, h7, h8]
  pointwise [k0_pay22, k0_pay20, k0_pay12, k0_pay9, k0_pay8, k0_pay7]
  simp only [fun i k => b i k (by omega)]
  blk_point [iblk, V, places t]

/-- The second result is the reference's gradient of the rows. -/
theorem out10 (h : Same m m') : (dats (F := Ideal) m 0 c).arrAt 10 cfg0.N = (Cert.GradGdnRefIdeal.Value.res_main_v52 m' c : Vec Ideal S4096x1024 .f32) := by
  have e := out10_block m c m' h
  generalize (Cert.GradGdnRefIdeal.Value.res_main_v52 m' c : Vec Ideal S4096x1024 .f32) = Y at e ⊢
  refine (dats m 0 c).arrAt_eq_of_covers 10 _ (by decide +kernel) fun t _ y => ?_
  blk_simp
  rw [after0_10]
  obtain ⟨i, j, rfl⟩ : ∃ i j, y = ix2 i j := ⟨y 0, y 1, (ix2_eta y).symm⟩
  have ht : t.val < 16 := lt_of_lt_of_eq t.isLt N_0
  by_cases h0 : t.val % 16 = 0
  · rw [outsAt0_A m c t h0]
    dsimp only
    frame_out
    exact (e t i j (by omega)).trans (by blk_ext [places t])
  · rw [outsAt0_B m c t h0]
    dsimp only
    frame_out
    exact (e t i j (by omega)).trans (by blk_ext [places t])

/-- A step adds its block's sum to the norm weights' gradient. -/
theorem pay1_eq (a b : Vec Ideal S1x1024 .f32) (y : S1x1024.Idx) : k0_pay1 (F := Ideal) a b y = (b y + a y : EReal) := by
  unfold k0_pay1
  rw [shapeCast_self]
  rfl

/-- The third result is the reference's gradient of the norm's weights. -/
theorem out11 (h : Same m m') : (dats (F := Ideal) m 0 c).arrAt 11 cfg0.N = ref11 c m' := by
  obtain ⟨h0, h1, h2, h3, h4, h5, h6, h7, h8⟩ := h c
  have b := back_block m c
  unfold ref11
  rw [h0, h2, h4, h6, h7, h8]
  refine (dats m 0 c).arrAt_eq_of_covers 11 _ (by decide +kernel) fun t hf y => ?_
  blk_simp
  obtain ⟨u, j, rfl⟩ : ∃ u j, y = ix2 u j := ⟨y 0, y 1, (ix2_eta y).symm⟩
  have ht : t.val = 15 := by have := (flush0_11 t).mp hf; have := lt_of_lt_of_eq t.isLt N_0; omega
  have e : (win0_11.blk t).view.emb (ix2 u j) = (ix2 u j : S1x1024.Idx) := by blk_ext [places t]
  rw [after0_11, e, Pipeline.eq_sum_fin_of_reset_step_apply_of_flush (fun n h => (outsAt0 m c n h).2.2.1) 16 (fun _ => (0 : EReal))
    (fun t => k0_pay21 (F := Ideal) (k0_pay10 (iblk m c 0 t)) (k0_pay12 (iblk m c 2 t))
        (k0_pay14 (iblk m c 6 t) (View.ld (iblk m c 4 t) (Rect.unit ![0, 0] ![1024, 3072] inb_S1024x4224_S1024x3072_0_0)))
        (k0_pay15 (iblk m c 7 t)) (View.ld (iblk m c 4 t) (Rect.unit ![0, 3072] ![1024, 1024] inb_S1024x4224_S1024x1024_0_3072)) (iblk m c 8 t)
        (View.ld (iblk m c 4 t) (Rect.unit ![0, 4096] ![1024, 128] inb_S1024x4224_S1024x128_0_4096)))
    (fun t h j => by rw [outsAt0_A m c t h]; dsimp only; frame_out; rw [pay1_eq]; exact congrArg (· + _) Ideal.ofBits_zero_f32)
    (fun t h j => by rw [outsAt0_B m c t h]; dsimp only; frame_out; rw [pay1_eq]; rfl) t (by omega) (ix2 u j)]
  pointwise [k0_pay21, k0_pay20, k0_pay12, k0_pay10, k0_pay8, k0_pay7]
  simp only [fun t i k => b t i k (by have := lt_of_lt_of_eq t.isLt N_0; omega)]
  refine Fin.sum_mul_add_congr (L := 4096) fun s k hl => ?_
  blk_point [iblk, V, places ⟨_, Pipeline.run_point_lt_of_flush t (by omega : t.val % 16 = 16 - 1) s⟩]

/-- A step adds its block's sum to the scale's gradient. -/
theorem pay2_eq (a b : Vec Ideal S1x1024 .f32) (y : S1x1024.Idx) : k0_pay2 (F := Ideal) a b y = (b y + a y : EReal) := by
  unfold k0_pay2
  rw [shapeCast_self]
  rfl

/-- The fourth result is the reference's gradient of the scale. -/
theorem out12 (h : Same m m') : (dats (F := Ideal) m 0 c).arrAt 12 cfg0.N = ref12 c m' := by
  obtain ⟨h0, h1, h2, h3, h4, h5, h6, h7, h8⟩ := h c
  have b := back_block m c
  unfold ref12
  rw [h0, h1, h4, h6, h7, h8]
  refine (dats m 0 c).arrAt_eq_of_covers 12 _ (by decide +kernel) fun t hf y => ?_
  blk_simp
  obtain ⟨u, j, rfl⟩ : ∃ u j, y = ix2 u j := ⟨y 0, y 1, (ix2_eta y).symm⟩
  have ht : t.val = 15 := by have := (flush0_12 t).mp hf; have := lt_of_lt_of_eq t.isLt N_0; omega
  have e : (win0_12.blk t).view.emb (ix2 u j) = (ix2 u j : S1x1024.Idx) := by blk_ext [places t]
  rw [after0_12, e, Pipeline.eq_sum_fin_of_reset_step_apply_of_flush (fun n h => (outsAt0 m c n h).2.2.2.1) 16 (fun _ => (0 : EReal))
    (fun t => k0_pay19 (F := Ideal) (k0_pay11 (iblk m c 0 t) (iblk m c 1 t))
        (k0_pay14 (iblk m c 6 t) (View.ld (iblk m c 4 t) (Rect.unit ![0, 0] ![1024, 3072] inb_S1024x4224_S1024x3072_0_0)))
        (k0_pay15 (iblk m c 7 t)) (View.ld (iblk m c 4 t) (Rect.unit ![0, 3072] ![1024, 1024] inb_S1024x4224_S1024x1024_0_3072)) (iblk m c 8 t)
        (View.ld (iblk m c 4 t) (Rect.unit ![0, 4096] ![1024, 128] inb_S1024x4224_S1024x128_0_4096)))
    (fun t h j => by rw [outsAt0_A m c t h]; dsimp only; frame_out; rw [pay2_eq]; exact congrArg (· + _) Ideal.ofBits_zero_f32)
    (fun t h j => by rw [outsAt0_B m c t h]; dsimp only; frame_out; rw [pay2_eq]; rfl) t (by omega) (ix2 u j)]
  pointwise [k0_pay19, k0_pay11, k0_pay10, k0_pay8, k0_pay7]
  simp only [fun t i k => b t i k (by have := lt_of_lt_of_eq t.isLt N_0; omega)]
  refine Fin.sum_mul_add_congr (L := 4096) fun s k hl => ?_
  blk_point [iblk, V, places ⟨_, Pipeline.run_point_lt_of_flush t (by omega : t.val % 16 = 16 - 1) s⟩]

/-- A step adds its block's sum to the shift's gradient. -/
theorem pay3_eq (a b : Vec Ideal S1x1024 .f32) (y : S1x1024.Idx) : k0_pay3 (F := Ideal) a b y = (b y + a y : EReal) := by
  unfold k0_pay3
  rw [shapeCast_self]
  rfl

/-- The fifth result is the reference's gradient of the shift. -/
theorem out13 (h : Same m m') : (dats (F := Ideal) m 0 c).arrAt 13 cfg0.N = ref13 c m' := by
  obtain ⟨h0, h1, h2, h3, h4, h5, h6, h7, h8⟩ := h c
  have b := back_block m c
  unfold ref13
  rw [h4, h6, h7, h8]
  refine (dats m 0 c).arrAt_eq_of_covers 13 _ (by decide +kernel) fun t hf y => ?_
  blk_simp
  obtain ⟨u, j, rfl⟩ : ∃ u j, y = ix2 u j := ⟨y 0, y 1, (ix2_eta y).symm⟩
  have ht : t.val = 15 := by have := (flush0_13 t).mp hf; have := lt_of_lt_of_eq t.isLt N_0; omega
  have e : (win0_13.blk t).view.emb (ix2 u j) = (ix2 u j : S1x1024.Idx) := by blk_ext [places t]
  rw [after0_13, e, Pipeline.eq_sum_fin_of_reset_step_apply_of_flush (fun n h => (outsAt0 m c n h).2.2.2.2) 16 (fun _ => (0 : EReal))
    (fun t => k0_pay18 (F := Ideal)
        (k0_pay14 (iblk m c 6 t) (View.ld (iblk m c 4 t) (Rect.unit ![0, 0] ![1024, 3072] inb_S1024x4224_S1024x3072_0_0)))
        (k0_pay15 (iblk m c 7 t)) (View.ld (iblk m c 4 t) (Rect.unit ![0, 3072] ![1024, 1024] inb_S1024x4224_S1024x1024_0_3072)) (iblk m c 8 t)
        (View.ld (iblk m c 4 t) (Rect.unit ![0, 4096] ![1024, 128] inb_S1024x4224_S1024x128_0_4096)))
    (fun t h j => by rw [outsAt0_A m c t h]; dsimp only; frame_out; rw [pay3_eq]; exact congrArg (· + _) Ideal.ofBits_zero_f32)
    (fun t h j => by rw [outsAt0_B m c t h]; dsimp only; frame_out; rw [pay3_eq]; rfl) t (by omega) (ix2 u j)]
  pointwise [k0_pay18]
  simp only [fun t i k => b t i k (by have := lt_of_lt_of_eq t.isLt N_0; omega)]
  refine Fin.sum_mul_add_congr (L := 4096) fun s k hl => ?_
  blk_point [iblk, V, places ⟨_, Pipeline.run_point_lt_of_flush t (by omega : t.val % 16 = 16 - 1) s⟩]

end GradGdn

set_option smartUnfolding false in
-- a program and its idealization are unified unfolding by unfolding
theorem frame_gradGdn : Cert.quiescent_GradGdn := fun m g _ => Cert.GradGdnIdeal.Gen.frame (F := Bits) m g

theorem frame_gradGdnIdeal : Cert.quiescent_GradGdnIdeal := fun m g _ => Cert.GradGdnIdeal.Gen.frame (F := Ideal) m g

theorem frame_gradGdnRefIdeal : Cert.quiescent_GradGdnRefIdeal := fun m g _ =>
  (θ_run Cert.GradGdnRefIdeal.defs _ _).mono (fun r h => ⟨fun c => (h c).2.2.2.2.2, sem_eq_zero_of_no_sems (by decide) r.2⟩)
    (Cert.GradGdnRefIdeal.Value.run (F := Ideal) m g)

/-- Ideally the kernel's gradients of layer 1's front are the reference's. -/
theorem algebraic_gradGdn : Cert.algebraic_GradGdnIdeal_GradGdnRefIdeal := by
  intro m g m' g' _ h
  refine ⟨fun c => partsB (m ((c.tc : Thread Cert.GradGdnIdeal.nD Cert.GradGdnIdeal.τ).loc Cert.GradGdnIdeal.main_arg6)) (m ((c.tc : Thread Cert.GradGdnIdeal.nD Cert.GradGdnIdeal.τ).loc Cert.GradGdnIdeal.main_arg7)) (m ((c.tc : Thread Cert.GradGdnIdeal.nD Cert.GradGdnIdeal.τ).loc Cert.GradGdnIdeal.main_arg8)),
    fun c => Cert.GradGdnRefIdeal.Value.res_main_v52 m' c, fun c => ref11 c m', fun c => ref12 c m', fun c => ref13 c m',
    (θ_run Cert.GradGdnIdeal.defs _ _).mono (fun _ hr c => ⟨(hr c).1.trans (out9 m c), (hr c).2.1.trans (out10 m c m' h), (hr c).2.2.1.trans (out11 m c m' h),
      (hr c).2.2.2.1.trans (out12 m c m' h), (hr c).2.2.2.2.1.trans (out13 m c m' h), (hr c).2.2.2.2.2⟩) (Cert.GradGdnIdeal.Value.run_blocks (F := Ideal) m g),
    (θ_run Cert.GradGdnRefIdeal.defs _ _).mono (fun _ hr c => ⟨(hr c).1.trans ?_, (hr c).2⟩) (Cert.GradGdnRefIdeal.Value.run (F := Ideal) m' g')⟩
  obtain ⟨-, -, -, -, -, -, h6, h7, h8⟩ := h c
  rw [h6, h7, h8]

end Exchange.FrontGrads
-- ==== Proof.DiscretisedGrad.lean ====
/-
  The claims about the gradients of the discretised parameters: the kernel adds up a group's rows by a product with a matrix of
  zeros and ones, the reference by cutting the rows into groups; the rest is the chain rule, place by place.
-/
module

public import proofs.«01_k».proof.Defs
public import proofs.«01_k».proof.Proof.Discretised
public import proofs.«01_k».proof.Proof.Gen.ZohGrad
public import proofs.«01_k».proof.Proof.Gen.ZohGradIdeal.Value
public import proofs.«01_k».proof.Proof.Gen.ZohGradRefIdeal.Run
public import Idealize.ShloMosaic.Lib.Pointwise
public import Idealize.ShloMosaic.Lib.Pipeline.ValueKit

@[expose] public section

set_option Elab.async false

noncomputable section

namespace Exchange.DiscretisedGrad

open Idealize.ShloMosaic Idealize.ShloMosaic.TcCoe Idealize.SL.Sem

/-- The rows of a group picked out and added up. -/
theorem group_sum (f : Fin 512 → EReal) (g : Fin 32) :
    ∑ x : Fin 512, f x * (if x.val / 16 = g.val then 1 else 0 : EReal) = ∑ s : Fin 16, f ⟨g.val * 16 + s.val, by omega⟩ := by
  rw [← Equiv.sum_comp (finProdFinEquiv : Fin 32 × Fin 16 ≃ Fin 512), Fintype.sum_prod_type, Finset.sum_eq_single g]
  · refine Finset.sum_congr rfl fun s _ => ?_
    have e : (finProdFinEquiv (g, s) : Fin (32 * 16)).val = s.val + 16 * g.val := rfl
    rw [if_pos (by rw [e]; omega), mul_one]
    exact congrArg f (Fin.ext (by rw [e]; dsimp only; omega))
  · intro k _ hk
    refine Finset.sum_eq_zero fun s _ => ?_
    have e : (finProdFinEquiv (k, s) : Fin (32 * 16)).val = s.val + 16 * k.val := rfl
    rw [if_neg (by rw [e]; have := s.isLt; intro h; exact hk (Fin.ext (by omega))), mul_zero]
  · exact fun h => absurd (Finset.mem_univ _) h

section ZohGrad
open Cert.ZohGradIdeal Cert.ZohGradIdeal.Gen Cert.ZohGradIdeal.Value
set_option maxRecDepth 16384

/-- The matrix of zeros and ones. -/
abbrev groups : FVec Ideal S512x32 .f32 :=
  k0_pay26 (iota .tc S512x32 32 [0] iota_S512x32_d0_w32) (iota .tc S512x32 32 [1] iota_S512x32_d1_w32) 16#32 k0_pay25 0#32

theorem groups_at (i : Fin 512) (x : Fin 32) : groups (ix2 i x) = (if i.val / 16 = x.val then 1 else 0 : EReal) := by
  unfold groups
  pointwise [k0_pay25, k0_pay26]
  refine (congrArg (fun v => FloatOps.sitofp FTy.f32 (BitVec.setWidth 32 (IntOp.cmpi CmpIPredicate.eq v (BitVec.ofNat 32 x.val)))) (Discretised.group_of i)).trans ?_
  refine (congrArg (FloatOps.sitofp FTy.f32) (Discretised.same_group ⟨i.val / 16, by omega⟩ x)).trans ?_
  by_cases h : i.val / 16 = x.val
  · rw [if_pos h, if_pos h]; exact Discretised.sitofp_one
  · rw [if_neg h, if_neg h]; exact Discretised.sitofp_zero

/-- The product with that matrix reads each row's group. -/
theorem spread (v : FVec Ideal S32x64 .f32) (i : Fin 512) (j : Fin 64) :
    k0_pay27 (F := Ideal) v (iota .tc S512x32 32 [0] iota_S512x32_d0_w32) (iota .tc S512x32 32 [1] iota_S512x32_d1_w32) 16#32 k0_pay25 0#32 (ix2 i j) = v (ix2 ⟨i.val / 16, by omega⟩ j) := by
  have h := groups_at i
  unfold groups at h
  pointwise [k0_pay27]
  refine (Finset.sum_congr rfl fun x _ => congrArg (fun z : EReal => z * v (ix2 x j)) (h x)).trans ?_
  rw [Finset.sum_eq_single ⟨i.val / 16, by omega⟩ (fun x _ hx => by rw [if_neg (fun e => hx (Fin.ext e.symm)), zero_mul]) (fun hn => absurd (Finset.mem_univ _) hn), if_pos rfl, one_mul]

/-- The second product is by the same matrix. -/
theorem spread' (v : FVec Ideal S32x64 .f32) (i : Fin 512) (j : Fin 64) :
    k0_pay28 (F := Ideal) v (iota .tc S512x32 32 [0] iota_S512x32_d0_w32) (iota .tc S512x32 32 [1] iota_S512x32_d1_w32) 16#32 k0_pay25 0#32 (ix2 i j) = v (ix2 ⟨i.val / 16, by omega⟩ j) := spread v i j

/-- The product with its transpose adds up each group's rows. -/
theorem gather (v : FVec Ideal S512x64 .f32) (g : Fin 32) (j : Fin 64) :
    k0_pay38 (F := Ideal) groups v (ix2 g j) = (∑ s : Fin 16, v (ix2 ⟨g.val * 16 + s.val, by omega⟩ j) : EReal) := by
  have h := fun i => groups_at i g
  generalize groups = E at h ⊢
  pointwise [k0_pay38]
  exact (Finset.sum_congr rfl fun x _ => congrArg (fun z : EReal => v (ix2 x j) * z) (h x)).trans (group_sum (fun x => v (ix2 x j)) g)

/-- The gradient of the imaginary factor. -/
theorem back_im (a3 a4 a7 a8 : Vec Ideal S512x64 .f32) (g : Fin 32) (j : Fin 64) :
    k0_pay38 (F := Ideal) groups (k0_pay36 a3 a4 a7 a8) (ix2 g j)
      = ((∑ s : Fin 16, (a8 (ix2 ⟨g.val * 16 + s.val, by omega⟩ j) * a3 (ix2 ⟨g.val * 16 + s.val, by omega⟩ j) : EReal))
        + ∑ s : Fin 16, (-a7 (ix2 ⟨g.val * 16 + s.val, by omega⟩ j) * a4 (ix2 ⟨g.val * 16 + s.val, by omega⟩ j) : EReal) : EReal) := by
  rw [gather, ← Finset.sum_add_distrib]
  refine Finset.sum_congr rfl fun s _ => ?_
  pointwise [k0_pay36, k0_pay30, k0_pay34]
  simp only [Ideal.ofBits_zero_f32, zero_sub]

/-- The gradient of the real factor. -/
theorem back_re (a3 a4 a7 a8 : Vec Ideal S512x64 .f32) (g : Fin 32) (j : Fin 64) :
    k0_pay39 (F := Ideal) a3 groups (k0_pay32 a4 a8) (k0_pay33 a7) (ix2 g j)
      = ((∑ s : Fin 16, (a8 (ix2 ⟨g.val * 16 + s.val, by omega⟩ j) * a4 (ix2 ⟨g.val * 16 + s.val, by omega⟩ j) : EReal))
        + ∑ s : Fin 16, (a7 (ix2 ⟨g.val * 16 + s.val, by omega⟩ j) * a3 (ix2 ⟨g.val * 16 + s.val, by omega⟩ j) : EReal) : EReal) := by
  refine (gather _ g j).trans ?_
  rw [← Finset.sum_add_distrib]
  refine Finset.sum_congr rfl fun s _ => ?_
  pointwise [k0_pay32, k0_pay29, k0_pay33]

theorem ld0 (a : Vec Ideal S32x64 .f32) : View.ld a r0_0 = a := View.ld_unit_zero (S := S32x64) hz0 _ a
theorem ld1 (a : Vec Ideal S32x1 .f32) : View.ld a r0_1 = a := View.ld_unit_zero (S := S32x1) hz2 _ a
theorem ld2 (a : Vec Ideal S512x64 .f32) : View.ld a r0_2 = a := View.ld_unit_zero (S := S512x64) hz3 _ a

variable (a0 a1 : Vec Ideal S32x64 .f32) (a2 : Vec Ideal S32x1 .f32) (a3 a4 : Vec Ideal S512x64 .f32) (a5 a6 : Vec Ideal S32x64 .f32) (a7 a8 : Vec Ideal S512x64 .f32)

/-- The gradients the kernel leaves of the rows' real and imaginary parts. -/
theorem left (i : Fin 512) (j : Fin 64) :
    G12 a0 a1 a2 a3 a4 a5 a6 a7 a8 (ix2 i j)
      = (k0_pay23 a0 a1 a2 (ix2 ⟨i.val / 16, by omega⟩ j) * a8 (ix2 i j) + k0_pay19 a0 a1 a2 (ix2 ⟨i.val / 16, by omega⟩ j) * a7 (ix2 i j) : EReal) ∧
    G13 a0 a1 a2 a3 a4 a5 a6 a7 a8 (ix2 i j)
      = (k0_pay19 a0 a1 a2 (ix2 ⟨i.val / 16, by omega⟩ j) * a8 (ix2 i j) + k0_pay23 a0 a1 a2 (ix2 ⟨i.val / 16, by omega⟩ j) * -a7 (ix2 i j) : EReal) := by
  constructor <;> simp only [G12, G13, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, ld0, ld1, ld2]
  · pointwise [k0_pay37, k0_pay31, k0_pay30, k0_pay33]
    exact congrArg₂ (fun p q : EReal => p * a8 (ix2 i j) + q * a7 (ix2 i j)) (spread' _ i j) (spread _ i j)
  · pointwise [k0_pay35, k0_pay29, k0_pay34]
    simp only [Ideal.ofBits_zero_f32, zero_sub]
    exact congrArg₂ (fun p q : EReal => p * a8 (ix2 i j) + q * -a7 (ix2 i j)) (spread _ i j) (spread' _ i j)

end ZohGrad

set_option maxRecDepth 16384 in
open Cert.ZohGradIdeal.Gen Cert.ZohGradIdeal.Value in
/-- Ideally the kernel's gradients are the reference's. -/
theorem algebraic_zohGrad : Cert.algebraic_ZohGradIdeal_ZohGradRefIdeal := by
  intro m g m' g' _ h
  obtain ⟨h0, h1, h2, h3, h4, h5, h6, h7, h8⟩ := h 0
  refine ⟨fun _ => _, fun _ => _, fun _ => _, fun _ => _, fun _ => _, ?_, (θ_run Cert.ZohGradRefIdeal.defs _ _).mono (fun _ hr => Fin.forall_fin_one.2 (hr 0)) (Cert.ZohGradRefIdeal.Value.run (F := Ideal) m' g')⟩
  refine (θ_run Cert.ZohGradIdeal.defs _ _).mono (fun _ hr => Fin.forall_fin_one.2 ?_) (Cert.ZohGradIdeal.Value.run (F := Ideal) m g)
  obtain ⟨r0, r1, r2, r3, r4, ha⟩ := hr 0
  unfold Cert.ZohGradRefIdeal.Value.res_main_v142 Cert.ZohGradRefIdeal.Value.res_main_v134 Cert.ZohGradRefIdeal.Value.res_main_v147
  beta_reduce
  rw [h0, h1, h2, h3, h4, h5, h6, h7, h8]
  refine ⟨r0.trans ?_, r1.trans ?_, r2.trans ?_, r3.trans ?_, r4.trans ?_, ha⟩ <;> clear r0 r1 r2 r3 r4 ha h0 h1 h2 h3 h4 h5 h6 h7 h8 <;>
    generalize m _ = a0 <;> generalize m _ = a1 <;> generalize m _ = a2 <;> generalize m _ = a3 <;> generalize m _ = a4 <;> generalize m _ = a5 <;>
    generalize m _ = a6 <;> generalize m _ = a7 <;> generalize m _ = a8 <;> funext y <;> obtain ⟨i, j, rfl⟩ : ∃ i j, y = ix2 i j := ⟨y 0, y 1, (ix2_eta y).symm⟩
  iterate 3
    simp only [G9, G10, G11, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, ld0, ld1, ld2]
    generalize hp : k0_pay38 (F := Ideal) _ _ = p
    generalize hr : k0_pay39 (F := Ideal) _ _ _ _ = r
    generalize hq : addf (F := Ideal) (Host.reduceAdd (F := Ideal) (shapeCast _ (Host.reduceAdd (F := Ideal) (mulf (F := Ideal) (shapeCast _ a8 _) (shapeCast _ a3 _)) _ _ _) _) _ _ _) (Host.reduceAdd (F := Ideal) _ _ _ _) = q
    generalize hs : addf (F := Ideal) (Host.reduceAdd (F := Ideal) (shapeCast _ (Host.reduceAdd (F := Ideal) (mulf (F := Ideal) (shapeCast _ a8 _) (shapeCast _ a4 _)) _ _ _) _) _ _ _) (Host.reduceAdd (F := Ideal) _ _ _ _) = s
    obtain rfl : p = q := by
      subst hp hq; funext z; obtain ⟨k, l, rfl⟩ : ∃ k l, z = ix2 k l := ⟨z 0, z 1, (ix2_eta z).symm⟩
      refine (back_im a3 a4 a7 a8 k l).trans ?_
      pointwise []
      simp only [Finset.univ_unique, Finset.sum_singleton]
    obtain rfl : r = s := by
      subst hr hs; funext z; obtain ⟨k, l, rfl⟩ : ∃ k l, z = ix2 k l := ⟨z 0, z 1, (ix2_eta z).symm⟩
      refine (back_re a3 a4 a7 a8 k l).trans ?_
      pointwise []
      simp only [Finset.univ_unique, Finset.sum_singleton]
    clear hp hq hr hs
    rotate_left
  on_goal 1 => refine (left a0 a1 a2 a3 a4 a5 a6 a7 a8 i j).1.trans ?_
  on_goal 2 => refine (left a0 a1 a2 a3 a4 a5 a6 a7 a8 i j).2.trans ?_
  all_goals pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  all_goals simp only [zero_sub]

set_option smartUnfolding false in
-- a program and its idealization are unified unfolding by unfolding
/-- The kernel gives its buffers and semaphores back. -/
theorem frame_zohGrad : Cert.quiescent_ZohGrad := fun m g _ => Cert.ZohGradIdeal.Gen.frame (F := Bits) m g

/-- So does its idealization. -/
theorem frame_zohGradIdeal : Cert.quiescent_ZohGradIdeal := fun m g _ => Cert.ZohGradIdeal.Gen.frame (F := Ideal) m g

/-- So does the reference. -/
theorem frame_zohGradRefIdeal : Cert.quiescent_ZohGradRefIdeal := fun m g _ =>
  (θ_run Cert.ZohGradRefIdeal.defs _ _).mono (fun r h => ⟨fun c => (h c).2.2.2.2.2, sem_eq_zero_of_no_sems (by decide) r.2⟩)
    (Cert.ZohGradRefIdeal.Value.run (F := Ideal) m g)

end Exchange.DiscretisedGrad
-- ==== Proof.lean ====
module

public import proofs.«01_k».proof.Defs
public import proofs.«01_k».proof.Proof.Gen.Swap
public import proofs.«01_k».proof.Proof.Gen.Swap.Skeleton
public import proofs.«01_k».proof.Proof.Gen.Swap.Launch
public import proofs.«01_k».proof.Proof.Gen.Swap.Points
public import proofs.«01_k».proof.Proof.Gen.Swap.Frame
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.SwapIdeal.Frame
public import proofs.«01_k».proof.Proof.Gen.SwapRefIdeal
public import proofs.«01_k».proof.Proof.Gen.SwapRef
public import proofs.«01_k».proof.Proof.Gen.SwapRefIdeal.Run
public import proofs.«01_k».proof.Proof.SwapClaims
public import proofs.«01_k».proof.Proof.ScatterClaims
public import proofs.«01_k».proof.Proof.PairsClaims
public import proofs.«01_k».proof.Proof.ShardsClaims
public import proofs.«01_k».proof.Proof.ShareClaims
public import proofs.«01_k».proof.Proof.SmallClaims
public import proofs.«01_k».proof.Proof.ModClaims
public import proofs.«01_k».proof.Proof.FirstClaims
public import proofs.«01_k».proof.Proof.Update
public import proofs.«01_k».proof.Proof.Sums
public import proofs.«01_k».proof.Proof.Modulation
public import proofs.«01_k».proof.Proof.Products
public import proofs.«01_k».proof.Proof.Fronts
public import proofs.«01_k».proof.Proof.Discretised
public import proofs.«01_k».proof.Proof.Buckets
public import proofs.«01_k».proof.Proof.Outputs
public import proofs.«01_k».proof.Proof.FrontGrads
public import proofs.«01_k».proof.Proof.DiscretisedGrad
public import Idealize.ShloMosaic.Adequacy
public import Idealize.ShloMosaic.Init
public import proofs.«01_k».proof.Proof.Gen.Scatter
public import proofs.«01_k».proof.Proof.Gen.ScatterIdeal
public import proofs.«01_k».proof.Proof.Gen.ScatterIdeal.Launch
public import proofs.«01_k».proof.Proof.Gen.ScatterRef
public import proofs.«01_k».proof.Proof.Gen.ScatterRefIdeal
public import proofs.«01_k».proof.Proof.Gen.ScatterRefIdeal.Run
public import proofs.«01_k».proof.Proof.Gen.Pairs
public import proofs.«01_k».proof.Proof.Gen.PairsIdeal
public import proofs.«01_k».proof.Proof.Gen.PairsIdeal.Launch
public import proofs.«01_k».proof.Proof.Gen.PairsRef
public import proofs.«01_k».proof.Proof.Gen.PairsRefIdeal
public import proofs.«01_k».proof.Proof.Gen.PairsRefIdeal.Run
public import proofs.«01_k».proof.Proof.Gen.Shards
public import proofs.«01_k».proof.Proof.Gen.ShardsIdeal
public import proofs.«01_k».proof.Proof.Gen.ShardsIdeal.Launch
public import proofs.«01_k».proof.Proof.Gen.ShardsRef
public import proofs.«01_k».proof.Proof.Gen.ShardsRefIdeal
public import proofs.«01_k».proof.Proof.Gen.ShardsRefIdeal.Run
public import proofs.«01_k».proof.Proof.Gen.Share
public import proofs.«01_k».proof.Proof.Gen.ShareIdeal
public import proofs.«01_k».proof.Proof.Gen.ShareIdeal.Launch
public import proofs.«01_k».proof.Proof.Gen.ShareRef
public import proofs.«01_k».proof.Proof.Gen.ShareRefIdeal
public import proofs.«01_k».proof.Proof.Gen.ShareRefIdeal.Run
public import proofs.«01_k».proof.Proof.Gen.Small
public import proofs.«01_k».proof.Proof.Gen.SmallIdeal
public import proofs.«01_k».proof.Proof.Gen.SmallIdeal.Launch
public import proofs.«01_k».proof.Proof.Gen.SmallRef
public import proofs.«01_k».proof.Proof.Gen.SmallRefIdeal
public import proofs.«01_k».proof.Proof.Gen.SmallRefIdeal.Run
public import proofs.«01_k».proof.Proof.Gen.Mod
public import proofs.«01_k».proof.Proof.Gen.ModIdeal
public import proofs.«01_k».proof.Proof.Gen.ModIdeal.Launch
public import proofs.«01_k».proof.Proof.Gen.ModRef
public import proofs.«01_k».proof.Proof.Gen.ModRefIdeal
public import proofs.«01_k».proof.Proof.Gen.ModRefIdeal.Run
public import proofs.«01_k».proof.Proof.Gen.First
public import proofs.«01_k».proof.Proof.Gen.FirstIdeal
public import proofs.«01_k».proof.Proof.Gen.FirstIdeal.Launch
public import proofs.«01_k».proof.Proof.Gen.FirstRef
public import proofs.«01_k».proof.Proof.Gen.FirstRefIdeal
public import proofs.«01_k».proof.Proof.Gen.FirstRefIdeal.Run
public import proofs.«01_k».proof.Proof.Gen.UpAdaW
public import proofs.«01_k».proof.Proof.Gen.UpAdaWIdeal.Value
public import proofs.«01_k».proof.Proof.Gen.UpAdaWRefIdeal.Run
public import proofs.«01_k».proof.Proof.Gen.UpConv
public import proofs.«01_k».proof.Proof.Gen.UpConvIdeal.Value
public import proofs.«01_k».proof.Proof.Gen.UpConvRefIdeal.Run
public import proofs.«01_k».proof.Proof.Gen.UpAbIn
public import proofs.«01_k».proof.Proof.Gen.UpAbInIdeal.Value
public import proofs.«01_k».proof.Proof.Gen.UpAbInRefIdeal.Run
public import proofs.«01_k».proof.Proof.Gen.UpAbOut
public import proofs.«01_k».proof.Proof.Gen.UpAbOutIdeal.Value
public import proofs.«01_k».proof.Proof.Gen.UpAbOutRefIdeal.Run
public import proofs.«01_k».proof.Proof.Gen.UpGlu
public import proofs.«01_k».proof.Proof.Gen.UpGluIdeal.Value
public import proofs.«01_k».proof.Proof.Gen.UpGluRefIdeal.Run
public import proofs.«01_k».proof.Proof.Gen.UpGdnIn
public import proofs.«01_k».proof.Proof.Gen.UpGdnInIdeal.Value
public import proofs.«01_k».proof.Proof.Gen.UpGdnInRefIdeal.Run
public import proofs.«01_k».proof.Proof.Gen.UpGdnOut
public import proofs.«01_k».proof.Proof.Gen.UpGdnOutIdeal.Value
public import proofs.«01_k».proof.Proof.Gen.UpGdnOutRefIdeal.Run
public import proofs.«01_k».proof.Proof.Gen.UpSmall
public import proofs.«01_k».proof.Proof.Gen.UpSmallIdeal.Value
public import proofs.«01_k».proof.Proof.Gen.UpSmallRefIdeal.Run
public import proofs.«01_k».proof.Proof.Gen.SumSmall
public import proofs.«01_k».proof.Proof.Gen.SumSmallIdeal.Value
public import proofs.«01_k».proof.Proof.Gen.SumSmallRefIdeal.Run
public import proofs.«01_k».proof.Proof.Gen.SibAbIn
public import proofs.«01_k».proof.Proof.Gen.SibAbInIdeal.Value
public import proofs.«01_k».proof.Proof.Gen.SibAbInRefIdeal.Run
public import proofs.«01_k».proof.Proof.Gen.SumAbIn
public import proofs.«01_k».proof.Proof.Gen.SumAbInIdeal.Value
public import proofs.«01_k».proof.Proof.Gen.SumAbInRefIdeal.Run
public import proofs.«01_k».proof.Proof.Gen.SibAbOut
public import proofs.«01_k».proof.Proof.Gen.SibAbOutIdeal.Value
public import proofs.«01_k».proof.Proof.Gen.SibAbOutRefIdeal.Run
public import proofs.«01_k».proof.Proof.Gen.SumAbOut
public import proofs.«01_k».proof.Proof.Gen.SumAbOutIdeal.Value
public import proofs.«01_k».proof.Proof.Gen.SumAbOutRefIdeal.Run
public import proofs.«01_k».proof.Proof.Gen.SibGlu
public import proofs.«01_k».proof.Proof.Gen.SibGluIdeal.Value
public import proofs.«01_k».proof.Proof.Gen.SibGluRefIdeal.Run
public import proofs.«01_k».proof.Proof.Gen.SumGlu
public import proofs.«01_k».proof.Proof.Gen.SumGluIdeal.Value
public import proofs.«01_k».proof.Proof.Gen.SumGluRefIdeal.Run
public import proofs.«01_k».proof.Proof.Gen.SibGdnIn
public import proofs.«01_k».proof.Proof.Gen.SibGdnInIdeal.Value
public import proofs.«01_k».proof.Proof.Gen.SibGdnInRefIdeal.Run
public import proofs.«01_k».proof.Proof.Gen.SumGdnIn
public import proofs.«01_k».proof.Proof.Gen.SumGdnInIdeal.Value
public import proofs.«01_k».proof.Proof.Gen.SumGdnInRefIdeal.Run
public import proofs.«01_k».proof.Proof.Gen.SibGdnOut
public import proofs.«01_k».proof.Proof.Gen.SibGdnOutIdeal.Value
public import proofs.«01_k».proof.Proof.Gen.SibGdnOutRefIdeal.Run
public import proofs.«01_k».proof.Proof.Gen.SumGdnOut
public import proofs.«01_k».proof.Proof.Gen.SumGdnOutIdeal.Value
public import proofs.«01_k».proof.Proof.Gen.SumGdnOutRefIdeal.Run
public import proofs.«01_k».proof.Proof.Gen.ModLocal
public import proofs.«01_k».proof.Proof.Gen.ModLocalIdeal.Value
public import proofs.«01_k».proof.Proof.Gen.ModLocalRefIdeal.Run
public import proofs.«01_k».proof.Proof.Gen.AdaGrad
public import proofs.«01_k».proof.Proof.Gen.AdaGradIdeal.Value
public import proofs.«01_k».proof.Proof.Gen.AdaGradRefIdeal.Run
public import proofs.«01_k».proof.Proof.Gen.DwAb
public import proofs.«01_k».proof.Proof.Gen.DwAbIdeal.Value
public import proofs.«01_k».proof.Proof.Gen.DwAbRefIdeal.Run
public import proofs.«01_k».proof.Proof.Gen.DwGdn
public import proofs.«01_k».proof.Proof.Gen.DwGdnIdeal.Value
public import proofs.«01_k».proof.Proof.Gen.DwGdnRefIdeal.Run
public import proofs.«01_k».proof.Proof.Gen.FrontAb
public import proofs.«01_k».proof.Proof.Gen.FrontAbIdeal.Value
public import proofs.«01_k».proof.Proof.Gen.FrontAbRefIdeal.Run
public import proofs.«01_k».proof.Proof.Gen.FrontGdn
public import proofs.«01_k».proof.Proof.Gen.FrontGdnIdeal.Value
public import proofs.«01_k».proof.Proof.Gen.FrontGdnRefIdeal.Run
public import proofs.«01_k».proof.Proof.Gen.Zoh
public import proofs.«01_k».proof.Proof.Gen.ZohIdeal.Value
public import proofs.«01_k».proof.Proof.Gen.ZohRefIdeal.Run
public import proofs.«01_k».proof.Proof.Gen.RelBias
public import proofs.«01_k».proof.Proof.Gen.RelBiasIdeal.Value
public import proofs.«01_k».proof.Proof.Gen.RelBiasRefIdeal.Run
public import proofs.«01_k».proof.Proof.Gen.OutAb
public import proofs.«01_k».proof.Proof.Gen.OutAbIdeal.Value
public import proofs.«01_k».proof.Proof.Gen.OutAbRefIdeal.Run
public import proofs.«01_k».proof.Proof.Gen.GradGdn
public import proofs.«01_k».proof.Proof.Gen.GradGdnIdeal.Value
public import proofs.«01_k».proof.Proof.Gen.GradGdnRefIdeal.Run
public import proofs.«01_k».proof.Proof.Gen.ZohGrad
public import proofs.«01_k».proof.Proof.Gen.ZohGradIdeal.Value
public import proofs.«01_k».proof.Proof.Gen.ZohGradRefIdeal.Run
public import proofs.«01_k».proof.Proof.Gen.SibAbInRef
public import proofs.«01_k».proof.Proof.Gen.SibAbOutRef
public import proofs.«01_k».proof.Proof.Gen.SibGluRef
public import proofs.«01_k».proof.Proof.Gen.SibGdnInRef
public import proofs.«01_k».proof.Proof.Gen.SibGdnOutRef

@[expose] public section

noncomputable section

namespace Cert.Proof

open Exchange

theorem claim : Cert.Claim :=
  ⟨Cert.Swap.Gen.facts, Cert.SwapIdeal.Gen.facts, Cert.SwapRefIdeal.Gen.facts, Cert.SwapRef.Gen.facts,
    Cert.Scatter.Gen.facts, Cert.ScatterIdeal.Gen.facts, Cert.ScatterRefIdeal.Gen.facts, Cert.ScatterRef.Gen.facts,
    Cert.Pairs.Gen.facts, Cert.PairsIdeal.Gen.facts, Cert.PairsRefIdeal.Gen.facts, Cert.PairsRef.Gen.facts,
    Cert.Shards.Gen.facts, Cert.ShardsIdeal.Gen.facts, Cert.ShardsRefIdeal.Gen.facts, Cert.ShardsRef.Gen.facts,
    Cert.Share.Gen.facts, Cert.ShareIdeal.Gen.facts, Cert.ShareRefIdeal.Gen.facts, Cert.ShareRef.Gen.facts,
    Cert.Small.Gen.facts, Cert.SmallIdeal.Gen.facts, Cert.SmallRefIdeal.Gen.facts, Cert.SmallRef.Gen.facts,
    Cert.Mod.Gen.facts, Cert.ModIdeal.Gen.facts, Cert.ModRefIdeal.Gen.facts, Cert.ModRef.Gen.facts,
    Cert.First.Gen.facts, Cert.FirstIdeal.Gen.facts, Cert.FirstRefIdeal.Gen.facts, Cert.FirstRef.Gen.facts,
    Cert.UpAdaW.Gen.facts, Cert.UpAdaWIdeal.Gen.facts, Cert.UpAdaWRefIdeal.Gen.facts,
    Cert.UpConv.Gen.facts, Cert.UpConvIdeal.Gen.facts, Cert.UpConvRefIdeal.Gen.facts,
    Cert.UpAbIn.Gen.facts, Cert.UpAbInIdeal.Gen.facts, Cert.UpAbInRefIdeal.Gen.facts,
    Cert.UpAbOut.Gen.facts, Cert.UpAbOutIdeal.Gen.facts, Cert.UpAbOutRefIdeal.Gen.facts,
    Cert.UpGlu.Gen.facts, Cert.UpGluIdeal.Gen.facts, Cert.UpGluRefIdeal.Gen.facts,
    Cert.UpGdnIn.Gen.facts, Cert.UpGdnInIdeal.Gen.facts, Cert.UpGdnInRefIdeal.Gen.facts,
    Cert.UpGdnOut.Gen.facts, Cert.UpGdnOutIdeal.Gen.facts, Cert.UpGdnOutRefIdeal.Gen.facts,
    Cert.UpSmall.Gen.facts, Cert.UpSmallIdeal.Gen.facts, Cert.UpSmallRefIdeal.Gen.facts,
    Cert.SumSmall.Gen.facts, Cert.SumSmallIdeal.Gen.facts, Cert.SumSmallRefIdeal.Gen.facts,
    Cert.SibAbIn.Gen.facts, Cert.SibAbInIdeal.Gen.facts, Cert.SibAbInRefIdeal.Gen.facts, Cert.SibAbInRef.Gen.facts,
    Cert.SumAbIn.Gen.facts, Cert.SumAbInIdeal.Gen.facts, Cert.SumAbInRefIdeal.Gen.facts,
    Cert.SibAbOut.Gen.facts, Cert.SibAbOutIdeal.Gen.facts, Cert.SibAbOutRefIdeal.Gen.facts, Cert.SibAbOutRef.Gen.facts,
    Cert.SumAbOut.Gen.facts, Cert.SumAbOutIdeal.Gen.facts, Cert.SumAbOutRefIdeal.Gen.facts,
    Cert.SibGlu.Gen.facts, Cert.SibGluIdeal.Gen.facts, Cert.SibGluRefIdeal.Gen.facts, Cert.SibGluRef.Gen.facts,
    Cert.SumGlu.Gen.facts, Cert.SumGluIdeal.Gen.facts, Cert.SumGluRefIdeal.Gen.facts,
    Cert.SibGdnIn.Gen.facts, Cert.SibGdnInIdeal.Gen.facts, Cert.SibGdnInRefIdeal.Gen.facts, Cert.SibGdnInRef.Gen.facts,
    Cert.SumGdnIn.Gen.facts, Cert.SumGdnInIdeal.Gen.facts, Cert.SumGdnInRefIdeal.Gen.facts,
    Cert.SibGdnOut.Gen.facts, Cert.SibGdnOutIdeal.Gen.facts, Cert.SibGdnOutRefIdeal.Gen.facts, Cert.SibGdnOutRef.Gen.facts,
    Cert.SumGdnOut.Gen.facts, Cert.SumGdnOutIdeal.Gen.facts, Cert.SumGdnOutRefIdeal.Gen.facts,
    Cert.ModLocal.Gen.facts, Cert.ModLocalIdeal.Gen.facts, Cert.ModLocalRefIdeal.Gen.facts,
    Cert.AdaGrad.Gen.facts, Cert.AdaGradIdeal.Gen.facts, Cert.AdaGradRefIdeal.Gen.facts,
    Cert.DwAb.Gen.facts, Cert.DwAbIdeal.Gen.facts, Cert.DwAbRefIdeal.Gen.facts,
    Cert.DwGdn.Gen.facts, Cert.DwGdnIdeal.Gen.facts, Cert.DwGdnRefIdeal.Gen.facts,
    Cert.FrontAb.Gen.facts, Cert.FrontAbIdeal.Gen.facts, Cert.FrontAbRefIdeal.Gen.facts,
    Cert.FrontGdn.Gen.facts, Cert.FrontGdnIdeal.Gen.facts, Cert.FrontGdnRefIdeal.Gen.facts,
    Cert.Zoh.Gen.facts, Cert.ZohIdeal.Gen.facts, Cert.ZohRefIdeal.Gen.facts,
    Cert.RelBias.Gen.facts, Cert.RelBiasIdeal.Gen.facts, Cert.RelBiasRefIdeal.Gen.facts,
    Cert.OutAb.Gen.facts, Cert.OutAbIdeal.Gen.facts, Cert.OutAbRefIdeal.Gen.facts,
    Cert.GradGdn.Gen.facts, Cert.GradGdnIdeal.Gen.facts, Cert.GradGdnRefIdeal.Gen.facts,
    Cert.ZohGrad.Gen.facts, Cert.ZohGradIdeal.Gen.facts, Cert.ZohGradRefIdeal.Gen.facts,
    Swap.frame_swap, Swap.frame_swapIdeal, Swap.frame_swapRefIdeal, Swap.frame_swapRef,
    Scatter.frame_scatter, Scatter.frame_scatterIdeal, Scatter.frame_scatterRefIdeal, Scatter.frame_scatterRef,
    Pairs.frame_pairs, Pairs.frame_pairsIdeal, Pairs.frame_pairsRefIdeal, Pairs.frame_pairsRef,
    Shards.frame_shards, Shards.frame_shardsIdeal, Shards.frame_shardsRefIdeal, Shards.frame_shardsRef,
    Share.frame_share, Share.frame_shareIdeal, Share.frame_shareRefIdeal, Share.frame_shareRef,
    Small.frame_small, Small.frame_smallIdeal, Small.frame_smallRefIdeal, Small.frame_smallRef,
    Mod.frame_mod, Mod.frame_modIdeal, Mod.frame_modRefIdeal, Mod.frame_modRef,
    First.frame_first, First.frame_firstIdeal, First.frame_firstRefIdeal, First.frame_firstRef,
    Update.frame_upAdaW, Update.frame_upAdaWIdeal, Update.frame_upAdaWRefIdeal,
    Update.frame_upConv, Update.frame_upConvIdeal, Update.frame_upConvRefIdeal,
    Update.frame_upAbIn, Update.frame_upAbInIdeal, Update.frame_upAbInRefIdeal,
    Update.frame_upAbOut, Update.frame_upAbOutIdeal, Update.frame_upAbOutRefIdeal,
    Update.frame_upGlu, Update.frame_upGluIdeal, Update.frame_upGluRefIdeal,
    Update.frame_upGdnIn, Update.frame_upGdnInIdeal, Update.frame_upGdnInRefIdeal,
    Update.frame_upGdnOut, Update.frame_upGdnOutIdeal, Update.frame_upGdnOutRefIdeal,
    Update.frame_upSmall, Update.frame_upSmallIdeal, Update.frame_upSmallRefIdeal,
    Sums.frame_sumSmall, Sums.frame_sumSmallIdeal, Sums.frame_sumSmallRefIdeal,
    Sums.frame_sibAbIn, Sums.frame_sibAbInIdeal, Sums.frame_sibAbInRefIdeal, Sums.frame_sibAbInRef,
    Sums.frame_sumAbIn, Sums.frame_sumAbInIdeal, Sums.frame_sumAbInRefIdeal,
    Sums.frame_sibAbOut, Sums.frame_sibAbOutIdeal, Sums.frame_sibAbOutRefIdeal, Sums.frame_sibAbOutRef,
    Sums.frame_sumAbOut, Sums.frame_sumAbOutIdeal, Sums.frame_sumAbOutRefIdeal,
    Sums.frame_sibGlu, Sums.frame_sibGluIdeal, Sums.frame_sibGluRefIdeal, Sums.frame_sibGluRef,
    Sums.frame_sumGlu, Sums.frame_sumGluIdeal, Sums.frame_sumGluRefIdeal,
    Sums.frame_sibGdnIn, Sums.frame_sibGdnInIdeal, Sums.frame_sibGdnInRefIdeal, Sums.frame_sibGdnInRef,
    Sums.frame_sumGdnIn, Sums.frame_sumGdnInIdeal, Sums.frame_sumGdnInRefIdeal,
    Sums.frame_sibGdnOut, Sums.frame_sibGdnOutIdeal, Sums.frame_sibGdnOutRefIdeal, Sums.frame_sibGdnOutRef,
    Sums.frame_sumGdnOut, Sums.frame_sumGdnOutIdeal, Sums.frame_sumGdnOutRefIdeal,
    Modulation.frame_modLocal, Modulation.frame_modLocalIdeal, Modulation.frame_modLocalRefIdeal,
    Modulation.frame_adaGrad, Modulation.frame_adaGradIdeal, Modulation.frame_adaGradRefIdeal,
    Products.frame_dwAb, Products.frame_dwAbIdeal, Products.frame_dwAbRefIdeal,
    Products.frame_dwGdn, Products.frame_dwGdnIdeal, Products.frame_dwGdnRefIdeal,
    Fronts.frame_frontAb, Fronts.frame_frontAbIdeal, Fronts.frame_frontAbRefIdeal,
    Fronts.frame_frontGdn, Fronts.frame_frontGdnIdeal, Fronts.frame_frontGdnRefIdeal,
    Discretised.frame_zoh, Discretised.frame_zohIdeal, Discretised.frame_zohRefIdeal,
    Buckets.frame_relBias, Buckets.frame_relBiasIdeal, Buckets.frame_relBiasRefIdeal,
    Outputs.frame_outAb, Outputs.frame_outAbIdeal, Outputs.frame_outAbRefIdeal,
    FrontGrads.frame_gradGdn, FrontGrads.frame_gradGdnIdeal, FrontGrads.frame_gradGdnRefIdeal,
    DiscretisedGrad.frame_zohGrad, DiscretisedGrad.frame_zohGradIdeal, DiscretisedGrad.frame_zohGradRefIdeal,
    trivial, Swap.algebraic_swap, Swap.bitexact_swap, trivial,
    Scatter.algebraic_scatter, Scatter.bitexact_scatter, trivial, Pairs.algebraic_pairs,
    Pairs.bitexact_pairs, trivial, Shards.algebraic_shards, Shards.bitexact_shards,
    trivial, Share.algebraic_share, Share.bitexact_share, trivial,
    Small.algebraic_small, Small.bitexact_small, trivial, Mod.algebraic_mod,
    Mod.bitexact_mod, trivial, First.algebraic_first, First.bitexact_first,
    trivial, Update.algebraic_upAdaW,
    trivial, Update.algebraic_upConv,
    trivial, Update.algebraic_upAbIn,
    trivial, Update.algebraic_upAbOut,
    trivial, Update.algebraic_upGlu,
    trivial, Update.algebraic_upGdnIn,
    trivial, Update.algebraic_upGdnOut,
    trivial, Update.algebraic_upSmall,
    trivial, Sums.algebraic_sumSmall,
    trivial, Sums.algebraic_sibAbIn, Sums.bitexact_sibAbIn,
    trivial, Sums.algebraic_sumAbIn,
    trivial, Sums.algebraic_sibAbOut, Sums.bitexact_sibAbOut,
    trivial, Sums.algebraic_sumAbOut,
    trivial, Sums.algebraic_sibGlu, Sums.bitexact_sibGlu,
    trivial, Sums.algebraic_sumGlu,
    trivial, Sums.algebraic_sibGdnIn, Sums.bitexact_sibGdnIn,
    trivial, Sums.algebraic_sumGdnIn,
    trivial, Sums.algebraic_sibGdnOut, Sums.bitexact_sibGdnOut,
    trivial, Sums.algebraic_sumGdnOut,
    trivial, Modulation.algebraic_modLocal,
    trivial, Modulation.algebraic_adaGrad,
    trivial, Products.algebraic_dwAb,
    trivial, Products.algebraic_dwGdn,
    trivial, Fronts.algebraic_frontAb,
    trivial, Fronts.algebraic_frontGdn,
    trivial, Discretised.algebraic_zoh,
    trivial, Buckets.algebraic_relBias,
    trivial, Outputs.algebraic_outAb,
    trivial, FrontGrads.algebraic_gradGdn,
    trivial, DiscretisedGrad.algebraic_zohGrad⟩

end Cert.Proof

end
